-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactReferenceIdeal (m : (ℓ : Loc Cert.DactReferenceIdeal.nD Cert.DactReferenceIdeal.τ Cert.DactReferenceIdeal.sig) → Buf (Elt Ideal) ℓ) : Prop :=
  True

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdReferenceIdeal (m : (ℓ : Loc Cert.DwdReferenceIdeal.nD Cert.DwdReferenceIdeal.τ Cert.DwdReferenceIdeal.sig) → Buf (Elt Ideal) ℓ) : Prop :=
  True

def Pre_Dwg (m : (ℓ : Loc Cert.Dwg.nD Cert.Dwg.τ Cert.Dwg.sig) → Buf (Elt Bits) ℓ) : Prop :=
  True

def Pre_DwgIdeal (m : (ℓ : Loc Cert.DwgIdeal.nD Cert.DwgIdeal.τ Cert.DwgIdeal.sig) → Buf (Elt Ideal) ℓ) : Prop :=
  True

def Pre_DwgReferenceIdeal (m : (ℓ : Loc Cert.DwgReferenceIdeal.nD Cert.DwgReferenceIdeal.τ Cert.DwgReferenceIdeal.sig) → Buf (Elt Ideal) ℓ) : Prop :=
  True

def Pre_Dhg (m : (ℓ : Loc Cert.Dhg.nD Cert.Dhg.τ Cert.Dhg.sig) → Buf (Elt Bits) ℓ) : Prop :=
  True

def Pre_DhgIdeal (m : (ℓ : Loc Cert.DhgIdeal.nD Cert.DhgIdeal.τ Cert.DhgIdeal.sig) → Buf (Elt Ideal) ℓ) : Prop :=
  True

def Pre_DhgReferenceIdeal (m : (ℓ : Loc Cert.DhgReferenceIdeal.nD Cert.DhgReferenceIdeal.τ Cert.DhgReferenceIdeal.sig) → Buf (Elt Ideal) ℓ) : Prop :=
  True

def Pre_Dhu (m : (ℓ : Loc Cert.Dhu.nD Cert.Dhu.τ Cert.Dhu.sig) → Buf (Elt Bits) ℓ) : Prop :=
  True

def Pre_DhuIdeal (m : (ℓ : Loc Cert.DhuIdeal.nD Cert.DhuIdeal.τ Cert.DhuIdeal.sig) → Buf (Elt Ideal) ℓ) : Prop :=
  True

def Pre_DhuReferenceIdeal (m : (ℓ : Loc Cert.DhuReferenceIdeal.nD Cert.DhuReferenceIdeal.τ Cert.DhuReferenceIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuReferenceIdeal (m : (ℓ : Loc Cert.GuReferenceIdeal.nD Cert.GuReferenceIdeal.τ Cert.GuReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Swb (m : (ℓ : Loc Cert.Swb.nD Cert.Swb.τ Cert.Swb.sig) → Buf (Elt Bits) ℓ) : Prop :=
  True

def Pre_SwbIdeal (m : (ℓ : Loc Cert.SwbIdeal.nD Cert.SwbIdeal.τ Cert.SwbIdeal.sig) → Buf (Elt Ideal) ℓ) : Prop :=
  True

def Pre_SwbIdeal_finite_swb [hPre_finite_swb : Cert.Pre_finite_swb.Facts] (m : (ℓ : Loc Cert.SwbIdeal.nD Cert.SwbIdeal.τ Cert.SwbIdeal.sig) → Buf (Elt Ideal) ℓ) : Prop :=
  ∀ c : Dev Cert.SwbIdeal.nD,
    (Cert.Pre_finite_swb.fn (F := Ideal) (m ((c.tc : Thread Cert.SwbIdeal.nD Cert.SwbIdeal.τ).loc Cert.SwbIdeal.main_arg0)) (m ((c.tc : Thread Cert.SwbIdeal.nD Cert.SwbIdeal.τ).loc Cert.SwbIdeal.main_arg1))).1 = (fun _ => 1#1)
    ∧ (Cert.Pre_finite_swb.fn (F := Ideal) (m ((c.tc : Thread Cert.SwbIdeal.nD Cert.SwbIdeal.τ).loc Cert.SwbIdeal.main_arg0)) (m ((c.tc : Thread Cert.SwbIdeal.nD Cert.SwbIdeal.τ).loc Cert.SwbIdeal.main_arg1))).2 = (fun _ => 1#1)

def Pre_SwbReferenceIdeal (m : (ℓ : Loc Cert.SwbReferenceIdeal.nD Cert.SwbReferenceIdeal.τ Cert.SwbReferenceIdeal.sig) → Buf (Elt Ideal) ℓ) : Prop :=
  True

def Pre_SwbReferenceIdeal_finite_swb [hPre_finite_swb : Cert.Pre_finite_swb.Facts] (m : (ℓ : Loc Cert.SwbReferenceIdeal.nD Cert.SwbReferenceIdeal.τ Cert.SwbReferenceIdeal.sig) → Buf (Elt Ideal) ℓ) : Prop :=
  ∀ c : Dev Cert.SwbReferenceIdeal.nD,
    (Cert.Pre_finite_swb.fn (F := Ideal) (m ((c.tc : Thread Cert.SwbReferenceIdeal.nD Cert.SwbReferenceIdeal.τ).loc Cert.SwbReferenceIdeal.main_arg0)) (m ((c.tc : Thread Cert.SwbReferenceIdeal.nD Cert.SwbReferenceIdeal.τ).loc Cert.SwbReferenceIdeal.main_arg1))).1 = (fun _ => 1#1)
    ∧ (Cert.Pre_finite_swb.fn (F := Ideal) (m ((c.tc : Thread Cert.SwbReferenceIdeal.nD Cert.SwbReferenceIdeal.τ).loc Cert.SwbReferenceIdeal.main_arg0)) (m ((c.tc : Thread Cert.SwbReferenceIdeal.nD Cert.SwbReferenceIdeal.τ).loc Cert.SwbReferenceIdeal.main_arg1))).2 = (fun _ => 1#1)

def Pre_Mgb (m : (ℓ : Loc Cert.Mgb.nD Cert.Mgb.τ Cert.Mgb.sig) → Buf (Elt Bits) ℓ) : Prop :=
  True

def Pre_MgbIdeal (m : (ℓ : Loc Cert.MgbIdeal.nD Cert.MgbIdeal.τ Cert.MgbIdeal.sig) → Buf (Elt Ideal) ℓ) : Prop :=
  True

def Pre_MgbReferenceIdeal (m : (ℓ : Loc Cert.MgbReferenceIdeal.nD Cert.MgbReferenceIdeal.τ Cert.MgbReferenceIdeal.sig) → Buf (Elt Ideal) ℓ) : Prop :=
  True

def Pre_Drms (m : (ℓ : Loc Cert.Drms.nD Cert.Drms.τ Cert.Drms.sig) → Buf (Elt Bits) ℓ) : Prop :=
  True

def Pre_DrmsIdeal (m : (ℓ : Loc Cert.DrmsIdeal.nD Cert.DrmsIdeal.τ Cert.DrmsIdeal.sig) → Buf (Elt Ideal) ℓ) : Prop :=
  True

def Pre_DrmsReferenceIdeal (m : (ℓ : Loc Cert.DrmsReferenceIdeal.nD Cert.DrmsReferenceIdeal.τ Cert.DrmsReferenceIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2.1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2.2 = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_finite_fwd [hPre_finite_fwd : Cert.Pre_finite_fwd.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2))).1 = (fun _ => 1#1)
    ∧ (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2))).2.1 = (fun _ => 1#1)
    ∧ (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2))).2.2 = (fun _ => 1#1)

def Pre_Inb (m : (ℓ : Loc Cert.Inb.nD Cert.Inb.τ Cert.Inb.sig) → Buf (Elt Bits) ℓ) : Prop :=
  True

def Pre_InbIdeal (m : (ℓ : Loc Cert.InbIdeal.nD Cert.InbIdeal.τ Cert.InbIdeal.sig) → Buf (Elt Ideal) ℓ) : Prop :=
  True

def Pre_InbReferenceIdeal (m : (ℓ : Loc Cert.InbReferenceIdeal.nD Cert.InbReferenceIdeal.τ Cert.InbReferenceIdeal.sig) → Buf (Elt Ideal) ℓ) : Prop :=
  True

def Pre_Bra (m : (ℓ : Loc Cert.Bra.nD Cert.Bra.τ Cert.Bra.sig) → Buf (Elt Bits) ℓ) : Prop :=
  True

def Pre_BraIdeal (m : (ℓ : Loc Cert.BraIdeal.nD Cert.BraIdeal.τ Cert.BraIdeal.sig) → Buf (Elt Ideal) ℓ) : Prop :=
  True

def Pre_BraReferenceIdeal (m : (ℓ : Loc Cert.BraReferenceIdeal.nD Cert.BraReferenceIdeal.τ Cert.BraReferenceIdeal.sig) → Buf (Elt Ideal) ℓ) : Prop :=
  True

def Pre_Brb (m : (ℓ : Loc Cert.Brb.nD Cert.Brb.τ Cert.Brb.sig) → Buf (Elt Bits) ℓ) : Prop :=
  True

def Pre_BrbIdeal (m : (ℓ : Loc Cert.BrbIdeal.nD Cert.BrbIdeal.τ Cert.BrbIdeal.sig) → Buf (Elt Ideal) ℓ) : Prop :=
  True

def Pre_BrbReferenceIdeal (m : (ℓ : Loc Cert.BrbReferenceIdeal.nD Cert.BrbReferenceIdeal.τ Cert.BrbReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Dmg (m : (ℓ : Loc Cert.Dmg.nD Cert.Dmg.τ Cert.Dmg.sig) → Buf (Elt Bits) ℓ) : Prop :=
  True

def Pre_DmgIdeal (m : (ℓ : Loc Cert.DmgIdeal.nD Cert.DmgIdeal.τ Cert.DmgIdeal.sig) → Buf (Elt Ideal) ℓ) : Prop :=
  True

def Pre_DmgReferenceIdeal (m : (ℓ : Loc Cert.DmgReferenceIdeal.nD Cert.DmgReferenceIdeal.τ Cert.DmgReferenceIdeal.sig) → Buf (Elt Ideal) ℓ) : Prop :=
  True

def Pre_Dab (m : (ℓ : Loc Cert.Dab.nD Cert.Dab.τ Cert.Dab.sig) → Buf (Elt Bits) ℓ) : Prop :=
  True

def Pre_DabIdeal (m : (ℓ : Loc Cert.DabIdeal.nD Cert.DabIdeal.τ Cert.DabIdeal.sig) → Buf (Elt Ideal) ℓ) : Prop :=
  True

def Pre_DabReferenceIdeal (m : (ℓ : Loc Cert.DabReferenceIdeal.nD Cert.DabReferenceIdeal.τ Cert.DabReferenceIdeal.sig) → Buf (Elt Ideal) ℓ) : Prop :=
  True

def Pre_Dmb (m : (ℓ : Loc Cert.Dmb.nD Cert.Dmb.τ Cert.Dmb.sig) → Buf (Elt Bits) ℓ) : Prop :=
  True

def Pre_DmbIdeal (m : (ℓ : Loc Cert.DmbIdeal.nD Cert.DmbIdeal.τ Cert.DmbIdeal.sig) → Buf (Elt Ideal) ℓ) : Prop :=
  True

def Pre_DmbReferenceIdeal (m : (ℓ : Loc Cert.DmbReferenceIdeal.nD Cert.DmbReferenceIdeal.τ Cert.DmbReferenceIdeal.sig) → Buf (Elt Ideal) ℓ) : Prop :=
  True

def Pre_Dhz (m : (ℓ : Loc Cert.Dhz.nD Cert.Dhz.τ Cert.Dhz.sig) → Buf (Elt Bits) ℓ) : Prop :=
  True

def Pre_DhzIdeal (m : (ℓ : Loc Cert.DhzIdeal.nD Cert.DhzIdeal.τ Cert.DhzIdeal.sig) → Buf (Elt Ideal) ℓ) : Prop :=
  True

def Pre_DhzReferenceIdeal (m : (ℓ : Loc Cert.DhzReferenceIdeal.nD Cert.DhzReferenceIdeal.τ Cert.DhzReferenceIdeal.sig) → Buf (Elt Ideal) ℓ) : Prop :=
  True

def Pre_Dhx (m : (ℓ : Loc Cert.Dhx.nD Cert.Dhx.τ Cert.Dhx.sig) → Buf (Elt Bits) ℓ) : Prop :=
  True

def Pre_DhxIdeal (m : (ℓ : Loc Cert.DhxIdeal.nD Cert.DhxIdeal.τ Cert.DhxIdeal.sig) → Buf (Elt Ideal) ℓ) : Prop :=
  True

def Pre_DhxReferenceIdeal (m : (ℓ : Loc Cert.DhxReferenceIdeal.nD Cert.DhxReferenceIdeal.τ Cert.DhxReferenceIdeal.sig) → Buf (Elt Ideal) ℓ) : Prop :=
  True

def Pre_Dha (m : (ℓ : Loc Cert.Dha.nD Cert.Dha.τ Cert.Dha.sig) → Buf (Elt Bits) ℓ) : Prop :=
  True

def Pre_DhaIdeal (m : (ℓ : Loc Cert.DhaIdeal.nD Cert.DhaIdeal.τ Cert.DhaIdeal.sig) → Buf (Elt Ideal) ℓ) : Prop :=
  True

def Pre_DhaReferenceIdeal (m : (ℓ : Loc Cert.DhaReferenceIdeal.nD Cert.DhaReferenceIdeal.τ Cert.DhaReferenceIdeal.sig) → Buf (Elt Ideal) ℓ) : Prop :=
  True

def Pre_Dwo (m : (ℓ : Loc Cert.Dwo.nD Cert.Dwo.τ Cert.Dwo.sig) → Buf (Elt Bits) ℓ) : Prop :=
  True

def Pre_DwoIdeal (m : (ℓ : Loc Cert.DwoIdeal.nD Cert.DwoIdeal.τ Cert.DwoIdeal.sig) → Buf (Elt Ideal) ℓ) : Prop :=
  True

def Pre_DwoReferenceIdeal (m : (ℓ : Loc Cert.DwoReferenceIdeal.nD Cert.DwoReferenceIdeal.τ Cert.DwoReferenceIdeal.sig) → Buf (Elt Ideal) ℓ) : Prop :=
  True

def Pre_Dwa (m : (ℓ : Loc Cert.Dwa.nD Cert.Dwa.τ Cert.Dwa.sig) → Buf (Elt Bits) ℓ) : Prop :=
  True

def Pre_DwaIdeal (m : (ℓ : Loc Cert.DwaIdeal.nD Cert.DwaIdeal.τ Cert.DwaIdeal.sig) → Buf (Elt Ideal) ℓ) : Prop :=
  True

def Pre_DwaReferenceIdeal (m : (ℓ : Loc Cert.DwaReferenceIdeal.nD Cert.DwaReferenceIdeal.τ Cert.DwaReferenceIdeal.sig) → Buf (Elt Ideal) ℓ) : Prop :=
  True

def Pre_Dwb (m : (ℓ : Loc Cert.Dwb.nD Cert.Dwb.τ Cert.Dwb.sig) → Buf (Elt Bits) ℓ) : Prop :=
  True

def Pre_DwbIdeal (m : (ℓ : Loc Cert.DwbIdeal.nD Cert.DwbIdeal.τ Cert.DwbIdeal.sig) → Buf (Elt Ideal) ℓ) : Prop :=
  True

def Pre_DwbReferenceIdeal (m : (ℓ : Loc Cert.DwbReferenceIdeal.nD Cert.DwbReferenceIdeal.τ Cert.DwbReferenceIdeal.sig) → Buf (Elt Ideal) ℓ) : Prop :=
  True

def Pre_Dwz (m : (ℓ : Loc Cert.Dwz.nD Cert.Dwz.τ Cert.Dwz.sig) → Buf (Elt Bits) ℓ) : Prop :=
  True

def Pre_DwzIdeal (m : (ℓ : Loc Cert.DwzIdeal.nD Cert.DwzIdeal.τ Cert.DwzIdeal.sig) → Buf (Elt Ideal) ℓ) : Prop :=
  True

def Pre_DwzReferenceIdeal (m : (ℓ : Loc Cert.DwzReferenceIdeal.nD Cert.DwzReferenceIdeal.τ Cert.DwzReferenceIdeal.sig) → Buf (Elt Ideal) ℓ) : Prop :=
  True

def Pre_Dwx (m : (ℓ : Loc Cert.Dwx.nD Cert.Dwx.τ Cert.Dwx.sig) → Buf (Elt Bits) ℓ) : Prop :=
  True

def Pre_DwxIdeal (m : (ℓ : Loc Cert.DwxIdeal.nD Cert.DwxIdeal.τ Cert.DwxIdeal.sig) → Buf (Elt Ideal) ℓ) : Prop :=
  True

def Pre_DwxReferenceIdeal (m : (ℓ : Loc Cert.DwxReferenceIdeal.nD Cert.DwxReferenceIdeal.τ Cert.DwxReferenceIdeal.sig) → Buf (Elt Ideal) ℓ) : Prop :=
  True

def Pre_Dwi (m : (ℓ : Loc Cert.Dwi.nD Cert.Dwi.τ Cert.Dwi.sig) → Buf (Elt Bits) ℓ) : Prop :=
  True

def Pre_DwiIdeal (m : (ℓ : Loc Cert.DwiIdeal.nD Cert.DwiIdeal.τ Cert.DwiIdeal.sig) → Buf (Elt Ideal) ℓ) : Prop :=
  True

def Pre_DwiReferenceIdeal (m : (ℓ : Loc Cert.DwiReferenceIdeal.nD Cert.DwiReferenceIdeal.τ Cert.DwiReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ r.2.sem = fun _ => 0)

def quiescent_DwdReferenceIdeal [hDwdReferenceIdeal : Cert.DwdReferenceIdeal.Facts] : Prop :=
  ∀ (m : (ℓ : Loc Cert.DwdReferenceIdeal.nD Cert.DwdReferenceIdeal.τ Cert.DwdReferenceIdeal.sig) → Buf (Elt Ideal) ℓ) (g : Dev Cert.DwdReferenceIdeal.nD → PrngReg), Pre_DwdReferenceIdeal m →
    θ_run (Cert.DwdReferenceIdeal.defs (F := Ideal)) (onTc (τ := Cert.DwdReferenceIdeal.τ) (Cert.DwdReferenceIdeal.main (F := Ideal))) ⟨m, fun _ => 0, g⟩ (fun r => (∀ c : Dev Cert.DwdReferenceIdeal.nD,
      r.2.mem ((c.tc : Thread Cert.DwdReferenceIdeal.nD Cert.DwdReferenceIdeal.τ).loc Cert.DwdReferenceIdeal.main_arg0) = m ((c.tc : Thread Cert.DwdReferenceIdeal.nD Cert.DwdReferenceIdeal.τ).loc Cert.DwdReferenceIdeal.main_arg0)
      ∧ r.2.mem ((c.tc : Thread Cert.DwdReferenceIdeal.nD Cert.DwdReferenceIdeal.τ).loc Cert.DwdReferenceIdeal.main_arg1) = m ((c.tc : Thread Cert.DwdReferenceIdeal.nD Cert.DwdReferenceIdeal.τ).loc Cert.DwdReferenceIdeal.main_arg1))
      ∧ r.2.sem = fun _ => 0)

def quiescent_Dwg [hDwg : Cert.Dwg.Facts] : Prop :=
  ∀ (m : (ℓ : Loc Cert.Dwg.nD Cert.Dwg.τ Cert.Dwg.sig) → Buf (Elt Bits) ℓ) (g : Dev Cert.Dwg.nD → PrngReg), Pre_Dwg m →
    θ_run (Cert.Dwg.defs (F := Bits)) (onTc (τ := Cert.Dwg.τ) (Cert.Dwg.main (F := Bits))) ⟨m, fun _ => 0, g⟩ (fun r => (∀ c : Dev Cert.Dwg.nD,
      r.2.mem ((c.tc : Thread Cert.Dwg.nD Cert.Dwg.τ).loc Cert.Dwg.main_arg0) = m ((c.tc : Thread Cert.Dwg.nD Cert.Dwg.τ).loc Cert.Dwg.main_arg0)
      ∧ r.2.mem ((c.tc : Thread Cert.Dwg.nD Cert.Dwg.τ).loc Cert.Dwg.main_arg1) = m ((c.tc : Thread Cert.Dwg.nD Cert.Dwg.τ).loc Cert.Dwg.main_arg1))
      ∧ r.2.sem = fun _ => 0)

def quiescent_DwgIdeal [hDwgIdeal : Cert.DwgIdeal.Facts] : Prop :=
  ∀ (m : (ℓ : Loc Cert.DwgIdeal.nD Cert.DwgIdeal.τ Cert.DwgIdeal.sig) → Buf (Elt Ideal) ℓ) (g : Dev Cert.DwgIdeal.nD → PrngReg), Pre_DwgIdeal m →
    θ_run (Cert.DwgIdeal.defs (F := Ideal)) (onTc (τ := Cert.DwgIdeal.τ) (Cert.DwgIdeal.main (F := Ideal))) ⟨m, fun _ => 0, g⟩ (fun r => (∀ c : Dev Cert.DwgIdeal.nD,
      r.2.mem ((c.tc : Thread Cert.DwgIdeal.nD Cert.DwgIdeal.τ).loc Cert.DwgIdeal.main_arg0) = m ((c.tc : Thread Cert.DwgIdeal.nD Cert.DwgIdeal.τ).loc Cert.DwgIdeal.main_arg0)
      ∧ r.2.mem ((c.tc : Thread Cert.DwgIdeal.nD Cert.DwgIdeal.τ).loc Cert.DwgIdeal.main_arg1) = m ((c.tc : Thread Cert.DwgIdeal.nD Cert.DwgIdeal.τ).loc Cert.DwgIdeal.main_arg1))
      ∧ r.2.sem = fun _ => 0)

def quiescent_DwgReferenceIdeal [hDwgReferenceIdeal : Cert.DwgReferenceIdeal.Facts] : Prop :=
  ∀ (m : (ℓ : Loc Cert.DwgReferenceIdeal.nD Cert.DwgReferenceIdeal.τ Cert.DwgReferenceIdeal.sig) → Buf (Elt Ideal) ℓ) (g : Dev Cert.DwgReferenceIdeal.nD → PrngReg), Pre_DwgReferenceIdeal m →
    θ_run (Cert.DwgReferenceIdeal.defs (F := Ideal)) (onTc (τ := Cert.DwgReferenceIdeal.τ) (Cert.DwgReferenceIdeal.main (F := Ideal))) ⟨m, fun _ => 0, g⟩ (fun r => (∀ c : Dev Cert.DwgReferenceIdeal.nD,
      r.2.mem ((c.tc : Thread Cert.DwgReferenceIdeal.nD Cert.DwgReferenceIdeal.τ).loc Cert.DwgReferenceIdeal.main_arg0) = m ((c.tc : Thread Cert.DwgReferenceIdeal.nD Cert.DwgReferenceIdeal.τ).loc Cert.DwgReferenceIdeal.main_arg0)
      ∧ r.2.mem ((c.tc : Thread Cert.DwgReferenceIdeal.nD Cert.DwgReferenceIdeal.τ).loc Cert.DwgReferenceIdeal.main_arg1) = m ((c.tc : Thread Cert.DwgReferenceIdeal.nD Cert.DwgReferenceIdeal.τ).loc Cert.DwgReferenceIdeal.main_arg1))
      ∧ r.2.sem = fun _ => 0)

def quiescent_Dhg [hDhg : Cert.Dhg.Facts] : Prop :=
  ∀ (m : (ℓ : Loc Cert.Dhg.nD Cert.Dhg.τ Cert.Dhg.sig) → Buf (Elt Bits) ℓ) (g : Dev Cert.Dhg.nD → PrngReg), Pre_Dhg m →
    θ_run (Cert.Dhg.defs (F := Bits)) (onTc (τ := Cert.Dhg.τ) (Cert.Dhg.main (F := Bits))) ⟨m, fun _ => 0, g⟩ (fun r => (∀ c : Dev Cert.Dhg.nD,
      r.2.mem ((c.tc : Thread Cert.Dhg.nD Cert.Dhg.τ).loc Cert.Dhg.main_arg0) = m ((c.tc : Thread Cert.Dhg.nD Cert.Dhg.τ).loc Cert.Dhg.main_arg0)
      ∧ r.2.mem ((c.tc : Thread Cert.Dhg.nD Cert.Dhg.τ).loc Cert.Dhg.main_arg1) = m ((c.tc : Thread Cert.Dhg.nD Cert.Dhg.τ).loc Cert.Dhg.main_arg1))
      ∧ r.2.sem = fun _ => 0)

def quiescent_DhgIdeal [hDhgIdeal : Cert.DhgIdeal.Facts] : Prop :=
  ∀ (m : (ℓ : Loc Cert.DhgIdeal.nD Cert.DhgIdeal.τ Cert.DhgIdeal.sig) → Buf (Elt Ideal) ℓ) (g : Dev Cert.DhgIdeal.nD → PrngReg), Pre_DhgIdeal m →
    θ_run (Cert.DhgIdeal.defs (F := Ideal)) (onTc (τ := Cert.DhgIdeal.τ) (Cert.DhgIdeal.main (F := Ideal))) ⟨m, fun _ => 0, g⟩ (fun r => (∀ c : Dev Cert.DhgIdeal.nD,
      r.2.mem ((c.tc : Thread Cert.DhgIdeal.nD Cert.DhgIdeal.τ).loc Cert.DhgIdeal.main_arg0) = m ((c.tc : Thread Cert.DhgIdeal.nD Cert.DhgIdeal.τ).loc Cert.DhgIdeal.main_arg0)
      ∧ r.2.mem ((c.tc : Thread Cert.DhgIdeal.nD Cert.DhgIdeal.τ).loc Cert.DhgIdeal.main_arg1) = m ((c.tc : Thread Cert.DhgIdeal.nD Cert.DhgIdeal.τ).loc Cert.DhgIdeal.main_arg1))
      ∧ r.2.sem = fun _ => 0)

def quiescent_DhgReferenceIdeal [hDhgReferenceIdeal : Cert.DhgReferenceIdeal.Facts] : Prop :=
  ∀ (m : (ℓ : Loc Cert.DhgReferenceIdeal.nD Cert.DhgReferenceIdeal.τ Cert.DhgReferenceIdeal.sig) → Buf (Elt Ideal) ℓ) (g : Dev Cert.DhgReferenceIdeal.nD → PrngReg), Pre_DhgReferenceIdeal m →
    θ_run (Cert.DhgReferenceIdeal.defs (F := Ideal)) (onTc (τ := Cert.DhgReferenceIdeal.τ) (Cert.DhgReferenceIdeal.main (F := Ideal))) ⟨m, fun _ => 0, g⟩ (fun r => (∀ c : Dev Cert.DhgReferenceIdeal.nD,
      r.2.mem ((c.tc : Thread Cert.DhgReferenceIdeal.nD Cert.DhgReferenceIdeal.τ).loc Cert.DhgReferenceIdeal.main_arg0) = m ((c.tc : Thread Cert.DhgReferenceIdeal.nD Cert.DhgReferenceIdeal.τ).loc Cert.DhgReferenceIdeal.main_arg0)
      ∧ r.2.mem ((c.tc : Thread Cert.DhgReferenceIdeal.nD Cert.DhgReferenceIdeal.τ).loc Cert.DhgReferenceIdeal.main_arg1) = m ((c.tc : Thread Cert.DhgReferenceIdeal.nD Cert.DhgReferenceIdeal.τ).loc Cert.DhgReferenceIdeal.main_arg1))
      ∧ r.2.sem = fun _ => 0)

def quiescent_Dhu [hDhu : Cert.Dhu.Facts] : Prop :=
  ∀ (m : (ℓ : Loc Cert.Dhu.nD Cert.Dhu.τ Cert.Dhu.sig) → Buf (Elt Bits) ℓ) (g : Dev Cert.Dhu.nD → PrngReg), Pre_Dhu m →
    θ_run (Cert.Dhu.defs (F := Bits)) (onTc (τ := Cert.Dhu.τ) (Cert.Dhu.main (F := Bits))) ⟨m, fun _ => 0, g⟩ (fun r => (∀ c : Dev Cert.Dhu.nD,
      r.2.mem ((c.tc : Thread Cert.Dhu.nD Cert.Dhu.τ).loc Cert.Dhu.main_arg0) = m ((c.tc : Thread Cert.Dhu.nD Cert.Dhu.τ).loc Cert.Dhu.main_arg0)
      ∧ r.2.mem ((c.tc : Thread Cert.Dhu.nD Cert.Dhu.τ).loc Cert.Dhu.main_arg1) = m ((c.tc : Thread Cert.Dhu.nD Cert.Dhu.τ).loc Cert.Dhu.main_arg1)
      ∧ r.2.mem ((c.tc : Thread Cert.Dhu.nD Cert.Dhu.τ).loc Cert.Dhu.main_arg2) = m ((c.tc : Thread Cert.Dhu.nD Cert.Dhu.τ).loc Cert.Dhu.main_arg2))
      ∧ r.2.sem = fun _ => 0)

def quiescent_DhuIdeal [hDhuIdeal : Cert.DhuIdeal.Facts] : Prop :=
  ∀ (m : (ℓ : Loc Cert.DhuIdeal.nD Cert.DhuIdeal.τ Cert.DhuIdeal.sig) → Buf (Elt Ideal) ℓ) (g : Dev Cert.DhuIdeal.nD → PrngReg), Pre_DhuIdeal m →
    θ_run (Cert.DhuIdeal.defs (F := Ideal)) (onTc (τ := Cert.DhuIdeal.τ) (Cert.DhuIdeal.main (F := Ideal))) ⟨m, fun _ => 0, g⟩ (fun r => (∀ c : Dev Cert.DhuIdeal.nD,
      r.2.mem ((c.tc : Thread Cert.DhuIdeal.nD Cert.DhuIdeal.τ).loc Cert.DhuIdeal.main_arg0) = m ((c.tc : Thread Cert.DhuIdeal.nD Cert.DhuIdeal.τ).loc Cert.DhuIdeal.main_arg0)
      ∧ r.2.mem ((c.tc : Thread Cert.DhuIdeal.nD Cert.DhuIdeal.τ).loc Cert.DhuIdeal.main_arg1) = m ((c.tc : Thread Cert.DhuIdeal.nD Cert.DhuIdeal.τ).loc Cert.DhuIdeal.main_arg1)
      ∧ r.2.mem ((c.tc : Thread Cert.DhuIdeal.nD Cert.DhuIdeal.τ).loc Cert.DhuIdeal.main_arg2) = m ((c.tc : Thread Cert.DhuIdeal.nD Cert.DhuIdeal.τ).loc Cert.DhuIdeal.main_arg2))
      ∧ r.2.sem = fun _ => 0)

def quiescent_DhuReferenceIdeal [hDhuReferenceIdeal : Cert.DhuReferenceIdeal.Facts] : Prop :=
  ∀ (m : (ℓ : Loc Cert.DhuReferenceIdeal.nD Cert.DhuReferenceIdeal.τ Cert.DhuReferenceIdeal.sig) → Buf (Elt Ideal) ℓ) (g : Dev Cert.DhuReferenceIdeal.nD → PrngReg), Pre_DhuReferenceIdeal m →
    θ_run (Cert.DhuReferenceIdeal.defs (F := Ideal)) (onTc (τ := Cert.DhuReferenceIdeal.τ) (Cert.DhuReferenceIdeal.main (F := Ideal))) ⟨m, fun _ => 0, g⟩ (fun r => (∀ c : Dev Cert.DhuReferenceIdeal.nD,
      r.2.mem ((c.tc : Thread Cert.DhuReferenceIdeal.nD Cert.DhuReferenceIdeal.τ).loc Cert.DhuReferenceIdeal.main_arg0) = m ((c.tc : Thread Cert.DhuReferenceIdeal.nD Cert.DhuReferenceIdeal.τ).loc Cert.DhuReferenceIdeal.main_arg0)
      ∧ r.2.mem ((c.tc : Thread Cert.DhuReferenceIdeal.nD Cert.DhuReferenceIdeal.τ).loc Cert.DhuReferenceIdeal.main_arg1) = m ((c.tc : Thread Cert.DhuReferenceIdeal.nD Cert.DhuReferenceIdeal.τ).loc Cert.DhuReferenceIdeal.main_arg1)
      ∧ r.2.mem ((c.tc : Thread Cert.DhuReferenceIdeal.nD Cert.DhuReferenceIdeal.τ).loc Cert.DhuReferenceIdeal.main_arg2) = m ((c.tc : Thread Cert.DhuReferenceIdeal.nD Cert.DhuReferenceIdeal.τ).loc Cert.DhuReferenceIdeal.main_arg2))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1)
      ∧ r.2.mem ((c.tc : Thread Cert.Gu.nD Cert.Gu.τ).loc Cert.Gu.main_arg2) = m ((c.tc : Thread Cert.Gu.nD Cert.Gu.τ).loc Cert.Gu.main_arg2))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
      ∧ r.2.mem ((c.tc : Thread Cert.GuIdeal.nD Cert.GuIdeal.τ).loc Cert.GuIdeal.main_arg2) = m ((c.tc : Thread Cert.GuIdeal.nD Cert.GuIdeal.τ).loc Cert.GuIdeal.main_arg2))
      ∧ r.2.sem = fun _ => 0)

def quiescent_GuReferenceIdeal [hGuReferenceIdeal : Cert.GuReferenceIdeal.Facts] : Prop :=
  ∀ (m : (ℓ : Loc Cert.GuReferenceIdeal.nD Cert.GuReferenceIdeal.τ Cert.GuReferenceIdeal.sig) → Buf (Elt Ideal) ℓ) (g : Dev Cert.GuReferenceIdeal.nD → PrngReg), Pre_GuReferenceIdeal m →
    θ_run (Cert.GuReferenceIdeal.defs (F := Ideal)) (onTc (τ := Cert.GuReferenceIdeal.τ) (Cert.GuReferenceIdeal.main (F := Ideal))) ⟨m, fun _ => 0, g⟩ (fun r => (∀ c : Dev Cert.GuReferenceIdeal.nD,
      r.2.mem ((c.tc : Thread Cert.GuReferenceIdeal.nD Cert.GuReferenceIdeal.τ).loc Cert.GuReferenceIdeal.main_arg0) = m ((c.tc : Thread Cert.GuReferenceIdeal.nD Cert.GuReferenceIdeal.τ).loc Cert.GuReferenceIdeal.main_arg0)
      ∧ r.2.mem ((c.tc : Thread Cert.GuReferenceIdeal.nD Cert.GuReferenceIdeal.τ).loc Cert.GuReferenceIdeal.main_arg1) = m ((c.tc : Thread Cert.GuReferenceIdeal.nD Cert.GuReferenceIdeal.τ).loc Cert.GuReferenceIdeal.main_arg1)
      ∧ r.2.mem ((c.tc : Thread Cert.GuReferenceIdeal.nD Cert.GuReferenceIdeal.τ).loc Cert.GuReferenceIdeal.main_arg2) = m ((c.tc : Thread Cert.GuReferenceIdeal.nD Cert.GuReferenceIdeal.τ).loc Cert.GuReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Swb [hSwb : Cert.Swb.Facts] : Prop :=
  ∀ (m : (ℓ : Loc Cert.Swb.nD Cert.Swb.τ Cert.Swb.sig) → Buf (Elt Bits) ℓ) (g : Dev Cert.Swb.nD → PrngReg), Pre_Swb m →
    θ_run (Cert.Swb.defs (F := Bits)) (onTc (τ := Cert.Swb.τ) (Cert.Swb.main (F := Bits))) ⟨m, fun _ => 0, g⟩ (fun r => (∀ c : Dev Cert.Swb.nD,
      r.2.mem ((c.tc : Thread Cert.Swb.nD Cert.Swb.τ).loc Cert.Swb.main_arg0) = m ((c.tc : Thread Cert.Swb.nD Cert.Swb.τ).loc Cert.Swb.main_arg0)
      ∧ r.2.mem ((c.tc : Thread Cert.Swb.nD Cert.Swb.τ).loc Cert.Swb.main_arg1) = m ((c.tc : Thread Cert.Swb.nD Cert.Swb.τ).loc Cert.Swb.main_arg1))
      ∧ r.2.sem = fun _ => 0)

def quiescent_SwbIdeal [hSwbIdeal : Cert.SwbIdeal.Facts] : Prop :=
  ∀ (m : (ℓ : Loc Cert.SwbIdeal.nD Cert.SwbIdeal.τ Cert.SwbIdeal.sig) → Buf (Elt Ideal) ℓ) (g : Dev Cert.SwbIdeal.nD → PrngReg), Pre_SwbIdeal m →
    θ_run (Cert.SwbIdeal.defs (F := Ideal)) (onTc (τ := Cert.SwbIdeal.τ) (Cert.SwbIdeal.main (F := Ideal))) ⟨m, fun _ => 0, g⟩ (fun r => (∀ c : Dev Cert.SwbIdeal.nD,
      r.2.mem ((c.tc : Thread Cert.SwbIdeal.nD Cert.SwbIdeal.τ).loc Cert.SwbIdeal.main_arg0) = m ((c.tc : Thread Cert.SwbIdeal.nD Cert.SwbIdeal.τ).loc Cert.SwbIdeal.main_arg0)
      ∧ r.2.mem ((c.tc : Thread Cert.SwbIdeal.nD Cert.SwbIdeal.τ).loc Cert.SwbIdeal.main_arg1) = m ((c.tc : Thread Cert.SwbIdeal.nD Cert.SwbIdeal.τ).loc Cert.SwbIdeal.main_arg1))
      ∧ r.2.sem = fun _ => 0)

def quiescent_SwbIdeal_pre_finite_swb [hSwbIdeal : Cert.SwbIdeal.Facts] [hPre_finite_swb : Cert.Pre_finite_swb.Facts] : Prop :=
  ∀ (m : (ℓ : Loc Cert.SwbIdeal.nD Cert.SwbIdeal.τ Cert.SwbIdeal.sig) → Buf (Elt Ideal) ℓ) (g : Dev Cert.SwbIdeal.nD → PrngReg), Pre_SwbIdeal_finite_swb m →
    θ_run (Cert.SwbIdeal.defs (F := Ideal)) (onTc (τ := Cert.SwbIdeal.τ) (Cert.SwbIdeal.main (F := Ideal))) ⟨m, fun _ => 0, g⟩ (fun r => (∀ c : Dev Cert.SwbIdeal.nD,
      r.2.mem ((c.tc : Thread Cert.SwbIdeal.nD Cert.SwbIdeal.τ).loc Cert.SwbIdeal.main_arg0) = m ((c.tc : Thread Cert.SwbIdeal.nD Cert.SwbIdeal.τ).loc Cert.SwbIdeal.main_arg0)
      ∧ r.2.mem ((c.tc : Thread Cert.SwbIdeal.nD Cert.SwbIdeal.τ).loc Cert.SwbIdeal.main_arg1) = m ((c.tc : Thread Cert.SwbIdeal.nD Cert.SwbIdeal.τ).loc Cert.SwbIdeal.main_arg1))
      ∧ r.2.sem = fun _ => 0)

def quiescent_SwbReferenceIdeal [hSwbReferenceIdeal : Cert.SwbReferenceIdeal.Facts] : Prop :=
  ∀ (m : (ℓ : Loc Cert.SwbReferenceIdeal.nD Cert.SwbReferenceIdeal.τ Cert.SwbReferenceIdeal.sig) → Buf (Elt Ideal) ℓ) (g : Dev Cert.SwbReferenceIdeal.nD → PrngReg), Pre_SwbReferenceIdeal m →
    θ_run (Cert.SwbReferenceIdeal.defs (F := Ideal)) (onTc (τ := Cert.SwbReferenceIdeal.τ) (Cert.SwbReferenceIdeal.main (F := Ideal))) ⟨m, fun _ => 0, g⟩ (fun r => (∀ c : Dev Cert.SwbReferenceIdeal.nD,
      r.2.mem ((c.tc : Thread Cert.SwbReferenceIdeal.nD Cert.SwbReferenceIdeal.τ).loc Cert.SwbReferenceIdeal.main_arg0) = m ((c.tc : Thread Cert.SwbReferenceIdeal.nD Cert.SwbReferenceIdeal.τ).loc Cert.SwbReferenceIdeal.main_arg0)
      ∧ r.2.mem ((c.tc : Thread Cert.SwbReferenceIdeal.nD Cert.SwbReferenceIdeal.τ).loc Cert.SwbReferenceIdeal.main_arg1) = m ((c.tc : Thread Cert.SwbReferenceIdeal.nD Cert.SwbReferenceIdeal.τ).loc Cert.SwbReferenceIdeal.main_arg1))
      ∧ r.2.sem = fun _ => 0)

def quiescent_SwbReferenceIdeal_pre_finite_swb [hSwbReferenceIdeal : Cert.SwbReferenceIdeal.Facts] [hPre_finite_swb : Cert.Pre_finite_swb.Facts] : Prop :=
  ∀ (m : (ℓ : Loc Cert.SwbReferenceIdeal.nD Cert.SwbReferenceIdeal.τ Cert.SwbReferenceIdeal.sig) → Buf (Elt Ideal) ℓ) (g : Dev Cert.SwbReferenceIdeal.nD → PrngReg), Pre_SwbReferenceIdeal_finite_swb m →
    θ_run (Cert.SwbReferenceIdeal.defs (F := Ideal)) (onTc (τ := Cert.SwbReferenceIdeal.τ) (Cert.SwbReferenceIdeal.main (F := Ideal))) ⟨m, fun _ => 0, g⟩ (fun r => (∀ c : Dev Cert.SwbReferenceIdeal.nD,
      r.2.mem ((c.tc : Thread Cert.SwbReferenceIdeal.nD Cert.SwbReferenceIdeal.τ).loc Cert.SwbReferenceIdeal.main_arg0) = m ((c.tc : Thread Cert.SwbReferenceIdeal.nD Cert.SwbReferenceIdeal.τ).loc Cert.SwbReferenceIdeal.main_arg0)
      ∧ r.2.mem ((c.tc : Thread Cert.SwbReferenceIdeal.nD Cert.SwbReferenceIdeal.τ).loc Cert.SwbReferenceIdeal.main_arg1) = m ((c.tc : Thread Cert.SwbReferenceIdeal.nD Cert.SwbReferenceIdeal.τ).loc Cert.SwbReferenceIdeal.main_arg1))
      ∧ r.2.sem = fun _ => 0)

def quiescent_Mgb [hMgb : Cert.Mgb.Facts] : Prop :=
  ∀ (m : (ℓ : Loc Cert.Mgb.nD Cert.Mgb.τ Cert.Mgb.sig) → Buf (Elt Bits) ℓ) (g : Dev Cert.Mgb.nD → PrngReg), Pre_Mgb m →
    θ_run (Cert.Mgb.defs (F := Bits)) (onTc (τ := Cert.Mgb.τ) (Cert.Mgb.main (F := Bits))) ⟨m, fun _ => 0, g⟩ (fun r => (∀ c : Dev Cert.Mgb.nD,
      r.2.mem ((c.tc : Thread Cert.Mgb.nD Cert.Mgb.τ).loc Cert.Mgb.main_arg0) = m ((c.tc : Thread Cert.Mgb.nD Cert.Mgb.τ).loc Cert.Mgb.main_arg0)
      ∧ r.2.mem ((c.tc : Thread Cert.Mgb.nD Cert.Mgb.τ).loc Cert.Mgb.main_arg1) = m ((c.tc : Thread Cert.Mgb.nD Cert.Mgb.τ).loc Cert.Mgb.main_arg1)
      ∧ r.2.mem ((c.tc : Thread Cert.Mgb.nD Cert.Mgb.τ).loc Cert.Mgb.main_arg2) = m ((c.tc : Thread Cert.Mgb.nD Cert.Mgb.τ).loc Cert.Mgb.main_arg2)
      ∧ r.2.mem ((c.tc : Thread Cert.Mgb.nD Cert.Mgb.τ).loc Cert.Mgb.main_arg3) = m ((c.tc : Thread Cert.Mgb.nD Cert.Mgb.τ).loc Cert.Mgb.main_arg3))
      ∧ r.2.sem = fun _ => 0)

def quiescent_MgbIdeal [hMgbIdeal : Cert.MgbIdeal.Facts] : Prop :=
  ∀ (m : (ℓ : Loc Cert.MgbIdeal.nD Cert.MgbIdeal.τ Cert.MgbIdeal.sig) → Buf (Elt Ideal) ℓ) (g : Dev Cert.MgbIdeal.nD → PrngReg), Pre_MgbIdeal m →
    θ_run (Cert.MgbIdeal.defs (F := Ideal)) (onTc (τ := Cert.MgbIdeal.τ) (Cert.MgbIdeal.main (F := Ideal))) ⟨m, fun _ => 0, g⟩ (fun r => (∀ c : Dev Cert.MgbIdeal.nD,
      r.2.mem ((c.tc : Thread Cert.MgbIdeal.nD Cert.MgbIdeal.τ).loc Cert.MgbIdeal.main_arg0) = m ((c.tc : Thread Cert.MgbIdeal.nD Cert.MgbIdeal.τ).loc Cert.MgbIdeal.main_arg0)
      ∧ r.2.mem ((c.tc : Thread Cert.MgbIdeal.nD Cert.MgbIdeal.τ).loc Cert.MgbIdeal.main_arg1) = m ((c.tc : Thread Cert.MgbIdeal.nD Cert.MgbIdeal.τ).loc Cert.MgbIdeal.main_arg1)
      ∧ r.2.mem ((c.tc : Thread Cert.MgbIdeal.nD Cert.MgbIdeal.τ).loc Cert.MgbIdeal.main_arg2) = m ((c.tc : Thread Cert.MgbIdeal.nD Cert.MgbIdeal.τ).loc Cert.MgbIdeal.main_arg2)
      ∧ r.2.mem ((c.tc : Thread Cert.MgbIdeal.nD Cert.MgbIdeal.τ).loc Cert.MgbIdeal.main_arg3) = m ((c.tc : Thread Cert.MgbIdeal.nD Cert.MgbIdeal.τ).loc Cert.MgbIdeal.main_arg3))
      ∧ r.2.sem = fun _ => 0)

def quiescent_MgbReferenceIdeal [hMgbReferenceIdeal : Cert.MgbReferenceIdeal.Facts] : Prop :=
  ∀ (m : (ℓ : Loc Cert.MgbReferenceIdeal.nD Cert.MgbReferenceIdeal.τ Cert.MgbReferenceIdeal.sig) → Buf (Elt Ideal) ℓ) (g : Dev Cert.MgbReferenceIdeal.nD → PrngReg), Pre_MgbReferenceIdeal m →
    θ_run (Cert.MgbReferenceIdeal.defs (F := Ideal)) (onTc (τ := Cert.MgbReferenceIdeal.τ) (Cert.MgbReferenceIdeal.main (F := Ideal))) ⟨m, fun _ => 0, g⟩ (fun r => (∀ c : Dev Cert.MgbReferenceIdeal.nD,
      r.2.mem ((c.tc : Thread Cert.MgbReferenceIdeal.nD Cert.MgbReferenceIdeal.τ).loc Cert.MgbReferenceIdeal.main_arg0) = m ((c.tc : Thread Cert.MgbReferenceIdeal.nD Cert.MgbReferenceIdeal.τ).loc Cert.MgbReferenceIdeal.main_arg0)
      ∧ r.2.mem ((c.tc : Thread Cert.MgbReferenceIdeal.nD Cert.MgbReferenceIdeal.τ).loc Cert.MgbReferenceIdeal.main_arg1) = m ((c.tc : Thread Cert.MgbReferenceIdeal.nD Cert.MgbReferenceIdeal.τ).loc Cert.MgbReferenceIdeal.main_arg1)
      ∧ r.2.mem ((c.tc : Thread Cert.MgbReferenceIdeal.nD Cert.MgbReferenceIdeal.τ).loc Cert.MgbReferenceIdeal.main_arg2) = m ((c.tc : Thread Cert.MgbReferenceIdeal.nD Cert.MgbReferenceIdeal.τ).loc Cert.MgbReferenceIdeal.main_arg2)
      ∧ r.2.mem ((c.tc : Thread Cert.MgbReferenceIdeal.nD Cert.MgbReferenceIdeal.τ).loc Cert.MgbReferenceIdeal.main_arg3) = m ((c.tc : Thread Cert.MgbReferenceIdeal.nD Cert.MgbReferenceIdeal.τ).loc Cert.MgbReferenceIdeal.main_arg3))
      ∧ r.2.sem = fun _ => 0)

def quiescent_Drms [hDrms : Cert.Drms.Facts] : Prop :=
  ∀ (m : (ℓ : Loc Cert.Drms.nD Cert.Drms.τ Cert.Drms.sig) → Buf (Elt Bits) ℓ) (g : Dev Cert.Drms.nD → PrngReg), Pre_Drms m →
    θ_run (Cert.Drms.defs (F := Bits)) (onTc (τ := Cert.Drms.τ) (Cert.Drms.main (F := Bits))) ⟨m, fun _ => 0, g⟩ (fun r => (∀ c : Dev Cert.Drms.nD,
      r.2.mem ((c.tc : Thread Cert.Drms.nD Cert.Drms.τ).loc Cert.Drms.main_arg0) = m ((c.tc : Thread Cert.Drms.nD Cert.Drms.τ).loc Cert.Drms.main_arg0)
      ∧ r.2.mem ((c.tc : Thread Cert.Drms.nD Cert.Drms.τ).loc Cert.Drms.main_arg1) = m ((c.tc : Thread Cert.Drms.nD Cert.Drms.τ).loc Cert.Drms.main_arg1)
      ∧ r.2.mem ((c.tc : Thread Cert.Drms.nD Cert.Drms.τ).loc Cert.Drms.main_arg2) = m ((c.tc : Thread Cert.Drms.nD Cert.Drms.τ).loc Cert.Drms.main_arg2)
      ∧ r.2.mem ((c.tc : Thread Cert.Drms.nD Cert.Drms.τ).loc Cert.Drms.main_arg3) = m ((c.tc : Thread Cert.Drms.nD Cert.Drms.τ).loc Cert.Drms.main_arg3))
      ∧ r.2.sem = fun _ => 0)

def quiescent_DrmsIdeal [hDrmsIdeal : Cert.DrmsIdeal.Facts] : Prop :=
  ∀ (m : (ℓ : Loc Cert.DrmsIdeal.nD Cert.DrmsIdeal.τ Cert.DrmsIdeal.sig) → Buf (Elt Ideal) ℓ) (g : Dev Cert.DrmsIdeal.nD → PrngReg), Pre_DrmsIdeal m →
    θ_run (Cert.DrmsIdeal.defs (F := Ideal)) (onTc (τ := Cert.DrmsIdeal.τ) (Cert.DrmsIdeal.main (F := Ideal))) ⟨m, fun _ => 0, g⟩ (fun r => (∀ c : Dev Cert.DrmsIdeal.nD,
      r.2.mem ((c.tc : Thread Cert.DrmsIdeal.nD Cert.DrmsIdeal.τ).loc Cert.DrmsIdeal.main_arg0) = m ((c.tc : Thread Cert.DrmsIdeal.nD Cert.DrmsIdeal.τ).loc Cert.DrmsIdeal.main_arg0)
      ∧ r.2.mem ((c.tc : Thread Cert.DrmsIdeal.nD Cert.DrmsIdeal.τ).loc Cert.DrmsIdeal.main_arg1) = m ((c.tc : Thread Cert.DrmsIdeal.nD Cert.DrmsIdeal.τ).loc Cert.DrmsIdeal.main_arg1)
      ∧ r.2.mem ((c.tc : Thread Cert.DrmsIdeal.nD Cert.DrmsIdeal.τ).loc Cert.DrmsIdeal.main_arg2) = m ((c.tc : Thread Cert.DrmsIdeal.nD Cert.DrmsIdeal.τ).loc Cert.DrmsIdeal.main_arg2)
      ∧ r.2.mem ((c.tc : Thread Cert.DrmsIdeal.nD Cert.DrmsIdeal.τ).loc Cert.DrmsIdeal.main_arg3) = m ((c.tc : Thread Cert.DrmsIdeal.nD Cert.DrmsIdeal.τ).loc Cert.DrmsIdeal.main_arg3))
      ∧ r.2.sem = fun _ => 0)

def quiescent_DrmsReferenceIdeal [hDrmsReferenceIdeal : Cert.DrmsReferenceIdeal.Facts] : Prop :=
  ∀ (m : (ℓ : Loc Cert.DrmsReferenceIdeal.nD Cert.DrmsReferenceIdeal.τ Cert.DrmsReferenceIdeal.sig) → Buf (Elt Ideal) ℓ) (g : Dev Cert.DrmsReferenceIdeal.nD → PrngReg), Pre_DrmsReferenceIdeal m →
    θ_run (Cert.DrmsReferenceIdeal.defs (F := Ideal)) (onTc (τ := Cert.DrmsReferenceIdeal.τ) (Cert.DrmsReferenceIdeal.main (F := Ideal))) ⟨m, fun _ => 0, g⟩ (fun r => (∀ c : Dev Cert.DrmsReferenceIdeal.nD,
      r.2.mem ((c.tc : Thread Cert.DrmsReferenceIdeal.nD Cert.DrmsReferenceIdeal.τ).loc Cert.DrmsReferenceIdeal.main_arg0) = m ((c.tc : Thread Cert.DrmsReferenceIdeal.nD Cert.DrmsReferenceIdeal.τ).loc Cert.DrmsReferenceIdeal.main_arg0)
      ∧ r.2.mem ((c.tc : Thread Cert.DrmsReferenceIdeal.nD Cert.DrmsReferenceIdeal.τ).loc Cert.DrmsReferenceIdeal.main_arg1) = m ((c.tc : Thread Cert.DrmsReferenceIdeal.nD Cert.DrmsReferenceIdeal.τ).loc Cert.DrmsReferenceIdeal.main_arg1)
      ∧ r.2.mem ((c.tc : Thread Cert.DrmsReferenceIdeal.nD Cert.DrmsReferenceIdeal.τ).loc Cert.DrmsReferenceIdeal.main_arg2) = m ((c.tc : Thread Cert.DrmsReferenceIdeal.nD Cert.DrmsReferenceIdeal.τ).loc Cert.DrmsReferenceIdeal.main_arg2)
      ∧ r.2.mem ((c.tc : Thread Cert.DrmsReferenceIdeal.nD Cert.DrmsReferenceIdeal.τ).loc Cert.DrmsReferenceIdeal.main_arg3) = m ((c.tc : Thread Cert.DrmsReferenceIdeal.nD Cert.DrmsReferenceIdeal.τ).loc Cert.DrmsReferenceIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_FwdReferenceIdeal_pre_finite_fwd [hFwdReferenceIdeal : Cert.FwdReferenceIdeal.Facts] [hPre_finite_fwd : Cert.Pre_finite_fwd.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_finite_fwd m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_Inb [hInb : Cert.Inb.Facts] : Prop :=
  ∀ (m : (ℓ : Loc Cert.Inb.nD Cert.Inb.τ Cert.Inb.sig) → Buf (Elt Bits) ℓ) (g : Dev Cert.Inb.nD → PrngReg), Pre_Inb m →
    θ_run (Cert.Inb.defs (F := Bits)) (onTc (τ := Cert.Inb.τ) (Cert.Inb.main (F := Bits))) ⟨m, fun _ => 0, g⟩ (fun r => (∀ c : Dev Cert.Inb.nD,
      r.2.mem ((c.tc : Thread Cert.Inb.nD Cert.Inb.τ).loc Cert.Inb.main_arg0) = m ((c.tc : Thread Cert.Inb.nD Cert.Inb.τ).loc Cert.Inb.main_arg0)
      ∧ r.2.mem ((c.tc : Thread Cert.Inb.nD Cert.Inb.τ).loc Cert.Inb.main_arg1) = m ((c.tc : Thread Cert.Inb.nD Cert.Inb.τ).loc Cert.Inb.main_arg1))
      ∧ r.2.sem = fun _ => 0)

def quiescent_InbIdeal [hInbIdeal : Cert.InbIdeal.Facts] : Prop :=
  ∀ (m : (ℓ : Loc Cert.InbIdeal.nD Cert.InbIdeal.τ Cert.InbIdeal.sig) → Buf (Elt Ideal) ℓ) (g : Dev Cert.InbIdeal.nD → PrngReg), Pre_InbIdeal m →
    θ_run (Cert.InbIdeal.defs (F := Ideal)) (onTc (τ := Cert.InbIdeal.τ) (Cert.InbIdeal.main (F := Ideal))) ⟨m, fun _ => 0, g⟩ (fun r => (∀ c : Dev Cert.InbIdeal.nD,
      r.2.mem ((c.tc : Thread Cert.InbIdeal.nD Cert.InbIdeal.τ).loc Cert.InbIdeal.main_arg0) = m ((c.tc : Thread Cert.InbIdeal.nD Cert.InbIdeal.τ).loc Cert.InbIdeal.main_arg0)
      ∧ r.2.mem ((c.tc : Thread Cert.InbIdeal.nD Cert.InbIdeal.τ).loc Cert.InbIdeal.main_arg1) = m ((c.tc : Thread Cert.InbIdeal.nD Cert.InbIdeal.τ).loc Cert.InbIdeal.main_arg1))
      ∧ r.2.sem = fun _ => 0)

def quiescent_InbReferenceIdeal [hInbReferenceIdeal : Cert.InbReferenceIdeal.Facts] : Prop :=
  ∀ (m : (ℓ : Loc Cert.InbReferenceIdeal.nD Cert.InbReferenceIdeal.τ Cert.InbReferenceIdeal.sig) → Buf (Elt Ideal) ℓ) (g : Dev Cert.InbReferenceIdeal.nD → PrngReg), Pre_InbReferenceIdeal m →
    θ_run (Cert.InbReferenceIdeal.defs (F := Ideal)) (onTc (τ := Cert.InbReferenceIdeal.τ) (Cert.InbReferenceIdeal.main (F := Ideal))) ⟨m, fun _ => 0, g⟩ (fun r => (∀ c : Dev Cert.InbReferenceIdeal.nD,
      r.2.mem ((c.tc : Thread Cert.InbReferenceIdeal.nD Cert.InbReferenceIdeal.τ).loc Cert.InbReferenceIdeal.main_arg0) = m ((c.tc : Thread Cert.InbReferenceIdeal.nD Cert.InbReferenceIdeal.τ).loc Cert.InbReferenceIdeal.main_arg0)
      ∧ r.2.mem ((c.tc : Thread Cert.InbReferenceIdeal.nD Cert.InbReferenceIdeal.τ).loc Cert.InbReferenceIdeal.main_arg1) = m ((c.tc : Thread Cert.InbReferenceIdeal.nD Cert.InbReferenceIdeal.τ).loc Cert.InbReferenceIdeal.main_arg1))
      ∧ r.2.sem = fun _ => 0)

def quiescent_Bra [hBra : Cert.Bra.Facts] : Prop :=
  ∀ (m : (ℓ : Loc Cert.Bra.nD Cert.Bra.τ Cert.Bra.sig) → Buf (Elt Bits) ℓ) (g : Dev Cert.Bra.nD → PrngReg), Pre_Bra m →
    θ_run (Cert.Bra.defs (F := Bits)) (onTc (τ := Cert.Bra.τ) (Cert.Bra.main (F := Bits))) ⟨m, fun _ => 0, g⟩ (fun r => (∀ c : Dev Cert.Bra.nD,
      r.2.mem ((c.tc : Thread Cert.Bra.nD Cert.Bra.τ).loc Cert.Bra.main_arg0) = m ((c.tc : Thread Cert.Bra.nD Cert.Bra.τ).loc Cert.Bra.main_arg0)
      ∧ r.2.mem ((c.tc : Thread Cert.Bra.nD Cert.Bra.τ).loc Cert.Bra.main_arg1) = m ((c.tc : Thread Cert.Bra.nD Cert.Bra.τ).loc Cert.Bra.main_arg1))
      ∧ r.2.sem = fun _ => 0)

def quiescent_BraIdeal [hBraIdeal : Cert.BraIdeal.Facts] : Prop :=
  ∀ (m : (ℓ : Loc Cert.BraIdeal.nD Cert.BraIdeal.τ Cert.BraIdeal.sig) → Buf (Elt Ideal) ℓ) (g : Dev Cert.BraIdeal.nD → PrngReg), Pre_BraIdeal m →
    θ_run (Cert.BraIdeal.defs (F := Ideal)) (onTc (τ := Cert.BraIdeal.τ) (Cert.BraIdeal.main (F := Ideal))) ⟨m, fun _ => 0, g⟩ (fun r => (∀ c : Dev Cert.BraIdeal.nD,
      r.2.mem ((c.tc : Thread Cert.BraIdeal.nD Cert.BraIdeal.τ).loc Cert.BraIdeal.main_arg0) = m ((c.tc : Thread Cert.BraIdeal.nD Cert.BraIdeal.τ).loc Cert.BraIdeal.main_arg0)
      ∧ r.2.mem ((c.tc : Thread Cert.BraIdeal.nD Cert.BraIdeal.τ).loc Cert.BraIdeal.main_arg1) = m ((c.tc : Thread Cert.BraIdeal.nD Cert.BraIdeal.τ).loc Cert.BraIdeal.main_arg1))
      ∧ r.2.sem = fun _ => 0)

def quiescent_BraReferenceIdeal [hBraReferenceIdeal : Cert.BraReferenceIdeal.Facts] : Prop :=
  ∀ (m : (ℓ : Loc Cert.BraReferenceIdeal.nD Cert.BraReferenceIdeal.τ Cert.BraReferenceIdeal.sig) → Buf (Elt Ideal) ℓ) (g : Dev Cert.BraReferenceIdeal.nD → PrngReg), Pre_BraReferenceIdeal m →
    θ_run (Cert.BraReferenceIdeal.defs (F := Ideal)) (onTc (τ := Cert.BraReferenceIdeal.τ) (Cert.BraReferenceIdeal.main (F := Ideal))) ⟨m, fun _ => 0, g⟩ (fun r => (∀ c : Dev Cert.BraReferenceIdeal.nD,
      r.2.mem ((c.tc : Thread Cert.BraReferenceIdeal.nD Cert.BraReferenceIdeal.τ).loc Cert.BraReferenceIdeal.main_arg0) = m ((c.tc : Thread Cert.BraReferenceIdeal.nD Cert.BraReferenceIdeal.τ).loc Cert.BraReferenceIdeal.main_arg0)
      ∧ r.2.mem ((c.tc : Thread Cert.BraReferenceIdeal.nD Cert.BraReferenceIdeal.τ).loc Cert.BraReferenceIdeal.main_arg1) = m ((c.tc : Thread Cert.BraReferenceIdeal.nD Cert.BraReferenceIdeal.τ).loc Cert.BraReferenceIdeal.main_arg1))
      ∧ r.2.sem = fun _ => 0)

def quiescent_Brb [hBrb : Cert.Brb.Facts] : Prop :=
  ∀ (m : (ℓ : Loc Cert.Brb.nD Cert.Brb.τ Cert.Brb.sig) → Buf (Elt Bits) ℓ) (g : Dev Cert.Brb.nD → PrngReg), Pre_Brb m →
    θ_run (Cert.Brb.defs (F := Bits)) (onTc (τ := Cert.Brb.τ) (Cert.Brb.main (F := Bits))) ⟨m, fun _ => 0, g⟩ (fun r => (∀ c : Dev Cert.Brb.nD,
      r.2.mem ((c.tc : Thread Cert.Brb.nD Cert.Brb.τ).loc Cert.Brb.main_arg0) = m ((c.tc : Thread Cert.Brb.nD Cert.Brb.τ).loc Cert.Brb.main_arg0)
      ∧ r.2.mem ((c.tc : Thread Cert.Brb.nD Cert.Brb.τ).loc Cert.Brb.main_arg1) = m ((c.tc : Thread Cert.Brb.nD Cert.Brb.τ).loc Cert.Brb.main_arg1))
      ∧ r.2.sem = fun _ => 0)

def quiescent_BrbIdeal [hBrbIdeal : Cert.BrbIdeal.Facts] : Prop :=
  ∀ (m : (ℓ : Loc Cert.BrbIdeal.nD Cert.BrbIdeal.τ Cert.BrbIdeal.sig) → Buf (Elt Ideal) ℓ) (g : Dev Cert.BrbIdeal.nD → PrngReg), Pre_BrbIdeal m →
    θ_run (Cert.BrbIdeal.defs (F := Ideal)) (onTc (τ := Cert.BrbIdeal.τ) (Cert.BrbIdeal.main (F := Ideal))) ⟨m, fun _ => 0, g⟩ (fun r => (∀ c : Dev Cert.BrbIdeal.nD,
      r.2.mem ((c.tc : Thread Cert.BrbIdeal.nD Cert.BrbIdeal.τ).loc Cert.BrbIdeal.main_arg0) = m ((c.tc : Thread Cert.BrbIdeal.nD Cert.BrbIdeal.τ).loc Cert.BrbIdeal.main_arg0)
      ∧ r.2.mem ((c.tc : Thread Cert.BrbIdeal.nD Cert.BrbIdeal.τ).loc Cert.BrbIdeal.main_arg1) = m ((c.tc : Thread Cert.BrbIdeal.nD Cert.BrbIdeal.τ).loc Cert.BrbIdeal.main_arg1))
      ∧ r.2.sem = fun _ => 0)

def quiescent_BrbReferenceIdeal [hBrbReferenceIdeal : Cert.BrbReferenceIdeal.Facts] : Prop :=
  ∀ (m : (ℓ : Loc Cert.BrbReferenceIdeal.nD Cert.BrbReferenceIdeal.τ Cert.BrbReferenceIdeal.sig) → Buf (Elt Ideal) ℓ) (g : Dev Cert.BrbReferenceIdeal.nD → PrngReg), Pre_BrbReferenceIdeal m →
    θ_run (Cert.BrbReferenceIdeal.defs (F := Ideal)) (onTc (τ := Cert.BrbReferenceIdeal.τ) (Cert.BrbReferenceIdeal.main (F := Ideal))) ⟨m, fun _ => 0, g⟩ (fun r => (∀ c : Dev Cert.BrbReferenceIdeal.nD,
      r.2.mem ((c.tc : Thread Cert.BrbReferenceIdeal.nD Cert.BrbReferenceIdeal.τ).loc Cert.BrbReferenceIdeal.main_arg0) = m ((c.tc : Thread Cert.BrbReferenceIdeal.nD Cert.BrbReferenceIdeal.τ).loc Cert.BrbReferenceIdeal.main_arg0)
      ∧ r.2.mem ((c.tc : Thread Cert.BrbReferenceIdeal.nD Cert.BrbReferenceIdeal.τ).loc Cert.BrbReferenceIdeal.main_arg1) = m ((c.tc : Thread Cert.BrbReferenceIdeal.nD Cert.BrbReferenceIdeal.τ).loc Cert.BrbReferenceIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2))
      ∧ r.2.sem = fun _ => 0)

def quiescent_Dmg [hDmg : Cert.Dmg.Facts] : Prop :=
  ∀ (m : (ℓ : Loc Cert.Dmg.nD Cert.Dmg.τ Cert.Dmg.sig) → Buf (Elt Bits) ℓ) (g : Dev Cert.Dmg.nD → PrngReg), Pre_Dmg m →
    θ_run (Cert.Dmg.defs (F := Bits)) (onTc (τ := Cert.Dmg.τ) (Cert.Dmg.main (F := Bits))) ⟨m, fun _ => 0, g⟩ (fun r => (∀ c : Dev Cert.Dmg.nD,
      r.2.mem ((c.tc : Thread Cert.Dmg.nD Cert.Dmg.τ).loc Cert.Dmg.main_arg0) = m ((c.tc : Thread Cert.Dmg.nD Cert.Dmg.τ).loc Cert.Dmg.main_arg0)
      ∧ r.2.mem ((c.tc : Thread Cert.Dmg.nD Cert.Dmg.τ).loc Cert.Dmg.main_arg1) = m ((c.tc : Thread Cert.Dmg.nD Cert.Dmg.τ).loc Cert.Dmg.main_arg1))
      ∧ r.2.sem = fun _ => 0)

def quiescent_DmgIdeal [hDmgIdeal : Cert.DmgIdeal.Facts] : Prop :=
  ∀ (m : (ℓ : Loc Cert.DmgIdeal.nD Cert.DmgIdeal.τ Cert.DmgIdeal.sig) → Buf (Elt Ideal) ℓ) (g : Dev Cert.DmgIdeal.nD → PrngReg), Pre_DmgIdeal m →
    θ_run (Cert.DmgIdeal.defs (F := Ideal)) (onTc (τ := Cert.DmgIdeal.τ) (Cert.DmgIdeal.main (F := Ideal))) ⟨m, fun _ => 0, g⟩ (fun r => (∀ c : Dev Cert.DmgIdeal.nD,
      r.2.mem ((c.tc : Thread Cert.DmgIdeal.nD Cert.DmgIdeal.τ).loc Cert.DmgIdeal.main_arg0) = m ((c.tc : Thread Cert.DmgIdeal.nD Cert.DmgIdeal.τ).loc Cert.DmgIdeal.main_arg0)
      ∧ r.2.mem ((c.tc : Thread Cert.DmgIdeal.nD Cert.DmgIdeal.τ).loc Cert.DmgIdeal.main_arg1) = m ((c.tc : Thread Cert.DmgIdeal.nD Cert.DmgIdeal.τ).loc Cert.DmgIdeal.main_arg1))
      ∧ r.2.sem = fun _ => 0)

def quiescent_DmgReferenceIdeal [hDmgReferenceIdeal : Cert.DmgReferenceIdeal.Facts] : Prop :=
  ∀ (m : (ℓ : Loc Cert.DmgReferenceIdeal.nD Cert.DmgReferenceIdeal.τ Cert.DmgReferenceIdeal.sig) → Buf (Elt Ideal) ℓ) (g : Dev Cert.DmgReferenceIdeal.nD → PrngReg), Pre_DmgReferenceIdeal m →
    θ_run (Cert.DmgReferenceIdeal.defs (F := Ideal)) (onTc (τ := Cert.DmgReferenceIdeal.τ) (Cert.DmgReferenceIdeal.main (F := Ideal))) ⟨m, fun _ => 0, g⟩ (fun r => (∀ c : Dev Cert.DmgReferenceIdeal.nD,
      r.2.mem ((c.tc : Thread Cert.DmgReferenceIdeal.nD Cert.DmgReferenceIdeal.τ).loc Cert.DmgReferenceIdeal.main_arg0) = m ((c.tc : Thread Cert.DmgReferenceIdeal.nD Cert.DmgReferenceIdeal.τ).loc Cert.DmgReferenceIdeal.main_arg0)
      ∧ r.2.mem ((c.tc : Thread Cert.DmgReferenceIdeal.nD Cert.DmgReferenceIdeal.τ).loc Cert.DmgReferenceIdeal.main_arg1) = m ((c.tc : Thread Cert.DmgReferenceIdeal.nD Cert.DmgReferenceIdeal.τ).loc Cert.DmgReferenceIdeal.main_arg1))
      ∧ r.2.sem = fun _ => 0)

def quiescent_Dab [hDab : Cert.Dab.Facts] : Prop :=
  ∀ (m : (ℓ : Loc Cert.Dab.nD Cert.Dab.τ Cert.Dab.sig) → Buf (Elt Bits) ℓ) (g : Dev Cert.Dab.nD → PrngReg), Pre_Dab m →
    θ_run (Cert.Dab.defs (F := Bits)) (onTc (τ := Cert.Dab.τ) (Cert.Dab.main (F := Bits))) ⟨m, fun _ => 0, g⟩ (fun r => (∀ c : Dev Cert.Dab.nD,
      r.2.mem ((c.tc : Thread Cert.Dab.nD Cert.Dab.τ).loc Cert.Dab.main_arg0) = m ((c.tc : Thread Cert.Dab.nD Cert.Dab.τ).loc Cert.Dab.main_arg0)
      ∧ r.2.mem ((c.tc : Thread Cert.Dab.nD Cert.Dab.τ).loc Cert.Dab.main_arg1) = m ((c.tc : Thread Cert.Dab.nD Cert.Dab.τ).loc Cert.Dab.main_arg1))
      ∧ r.2.sem = fun _ => 0)

def quiescent_DabIdeal [hDabIdeal : Cert.DabIdeal.Facts] : Prop :=
  ∀ (m : (ℓ : Loc Cert.DabIdeal.nD Cert.DabIdeal.τ Cert.DabIdeal.sig) → Buf (Elt Ideal) ℓ) (g : Dev Cert.DabIdeal.nD → PrngReg), Pre_DabIdeal m →
    θ_run (Cert.DabIdeal.defs (F := Ideal)) (onTc (τ := Cert.DabIdeal.τ) (Cert.DabIdeal.main (F := Ideal))) ⟨m, fun _ => 0, g⟩ (fun r => (∀ c : Dev Cert.DabIdeal.nD,
      r.2.mem ((c.tc : Thread Cert.DabIdeal.nD Cert.DabIdeal.τ).loc Cert.DabIdeal.main_arg0) = m ((c.tc : Thread Cert.DabIdeal.nD Cert.DabIdeal.τ).loc Cert.DabIdeal.main_arg0)
      ∧ r.2.mem ((c.tc : Thread Cert.DabIdeal.nD Cert.DabIdeal.τ).loc Cert.DabIdeal.main_arg1) = m ((c.tc : Thread Cert.DabIdeal.nD Cert.DabIdeal.τ).loc Cert.DabIdeal.main_arg1))
      ∧ r.2.sem = fun _ => 0)

def quiescent_DabReferenceIdeal [hDabReferenceIdeal : Cert.DabReferenceIdeal.Facts] : Prop :=
  ∀ (m : (ℓ : Loc Cert.DabReferenceIdeal.nD Cert.DabReferenceIdeal.τ Cert.DabReferenceIdeal.sig) → Buf (Elt Ideal) ℓ) (g : Dev Cert.DabReferenceIdeal.nD → PrngReg), Pre_DabReferenceIdeal m →
    θ_run (Cert.DabReferenceIdeal.defs (F := Ideal)) (onTc (τ := Cert.DabReferenceIdeal.τ) (Cert.DabReferenceIdeal.main (F := Ideal))) ⟨m, fun _ => 0, g⟩ (fun r => (∀ c : Dev Cert.DabReferenceIdeal.nD,
      r.2.mem ((c.tc : Thread Cert.DabReferenceIdeal.nD Cert.DabReferenceIdeal.τ).loc Cert.DabReferenceIdeal.main_arg0) = m ((c.tc : Thread Cert.DabReferenceIdeal.nD Cert.DabReferenceIdeal.τ).loc Cert.DabReferenceIdeal.main_arg0)
      ∧ r.2.mem ((c.tc : Thread Cert.DabReferenceIdeal.nD Cert.DabReferenceIdeal.τ).loc Cert.DabReferenceIdeal.main_arg1) = m ((c.tc : Thread Cert.DabReferenceIdeal.nD Cert.DabReferenceIdeal.τ).loc Cert.DabReferenceIdeal.main_arg1))
      ∧ r.2.sem = fun _ => 0)

def quiescent_Dmb [hDmb : Cert.Dmb.Facts] : Prop :=
  ∀ (m : (ℓ : Loc Cert.Dmb.nD Cert.Dmb.τ Cert.Dmb.sig) → Buf (Elt Bits) ℓ) (g : Dev Cert.Dmb.nD → PrngReg), Pre_Dmb m →
    θ_run (Cert.Dmb.defs (F := Bits)) (onTc (τ := Cert.Dmb.τ) (Cert.Dmb.main (F := Bits))) ⟨m, fun _ => 0, g⟩ (fun r => (∀ c : Dev Cert.Dmb.nD,
      r.2.mem ((c.tc : Thread Cert.Dmb.nD Cert.Dmb.τ).loc Cert.Dmb.main_arg0) = m ((c.tc : Thread Cert.Dmb.nD Cert.Dmb.τ).loc Cert.Dmb.main_arg0)
      ∧ r.2.mem ((c.tc : Thread Cert.Dmb.nD Cert.Dmb.τ).loc Cert.Dmb.main_arg1) = m ((c.tc : Thread Cert.Dmb.nD Cert.Dmb.τ).loc Cert.Dmb.main_arg1))
      ∧ r.2.sem = fun _ => 0)

def quiescent_DmbIdeal [hDmbIdeal : Cert.DmbIdeal.Facts] : Prop :=
  ∀ (m : (ℓ : Loc Cert.DmbIdeal.nD Cert.DmbIdeal.τ Cert.DmbIdeal.sig) → Buf (Elt Ideal) ℓ) (g : Dev Cert.DmbIdeal.nD → PrngReg), Pre_DmbIdeal m →
    θ_run (Cert.DmbIdeal.defs (F := Ideal)) (onTc (τ := Cert.DmbIdeal.τ) (Cert.DmbIdeal.main (F := Ideal))) ⟨m, fun _ => 0, g⟩ (fun r => (∀ c : Dev Cert.DmbIdeal.nD,
      r.2.mem ((c.tc : Thread Cert.DmbIdeal.nD Cert.DmbIdeal.τ).loc Cert.DmbIdeal.main_arg0) = m ((c.tc : Thread Cert.DmbIdeal.nD Cert.DmbIdeal.τ).loc Cert.DmbIdeal.main_arg0)
      ∧ r.2.mem ((c.tc : Thread Cert.DmbIdeal.nD Cert.DmbIdeal.τ).loc Cert.DmbIdeal.main_arg1) = m ((c.tc : Thread Cert.DmbIdeal.nD Cert.DmbIdeal.τ).loc Cert.DmbIdeal.main_arg1))
      ∧ r.2.sem = fun _ => 0)

def quiescent_DmbReferenceIdeal [hDmbReferenceIdeal : Cert.DmbReferenceIdeal.Facts] : Prop :=
  ∀ (m : (ℓ : Loc Cert.DmbReferenceIdeal.nD Cert.DmbReferenceIdeal.τ Cert.DmbReferenceIdeal.sig) → Buf (Elt Ideal) ℓ) (g : Dev Cert.DmbReferenceIdeal.nD → PrngReg), Pre_DmbReferenceIdeal m →
    θ_run (Cert.DmbReferenceIdeal.defs (F := Ideal)) (onTc (τ := Cert.DmbReferenceIdeal.τ) (Cert.DmbReferenceIdeal.main (F := Ideal))) ⟨m, fun _ => 0, g⟩ (fun r => (∀ c : Dev Cert.DmbReferenceIdeal.nD,
      r.2.mem ((c.tc : Thread Cert.DmbReferenceIdeal.nD Cert.DmbReferenceIdeal.τ).loc Cert.DmbReferenceIdeal.main_arg0) = m ((c.tc : Thread Cert.DmbReferenceIdeal.nD Cert.DmbReferenceIdeal.τ).loc Cert.DmbReferenceIdeal.main_arg0)
      ∧ r.2.mem ((c.tc : Thread Cert.DmbReferenceIdeal.nD Cert.DmbReferenceIdeal.τ).loc Cert.DmbReferenceIdeal.main_arg1) = m ((c.tc : Thread Cert.DmbReferenceIdeal.nD Cert.DmbReferenceIdeal.τ).loc Cert.DmbReferenceIdeal.main_arg1))
      ∧ r.2.sem = fun _ => 0)

def quiescent_Dhz [hDhz : Cert.Dhz.Facts] : Prop :=
  ∀ (m : (ℓ : Loc Cert.Dhz.nD Cert.Dhz.τ Cert.Dhz.sig) → Buf (Elt Bits) ℓ) (g : Dev Cert.Dhz.nD → PrngReg), Pre_Dhz m →
    θ_run (Cert.Dhz.defs (F := Bits)) (onTc (τ := Cert.Dhz.τ) (Cert.Dhz.main (F := Bits))) ⟨m, fun _ => 0, g⟩ (fun r => (∀ c : Dev Cert.Dhz.nD,
      r.2.mem ((c.tc : Thread Cert.Dhz.nD Cert.Dhz.τ).loc Cert.Dhz.main_arg0) = m ((c.tc : Thread Cert.Dhz.nD Cert.Dhz.τ).loc Cert.Dhz.main_arg0)
      ∧ r.2.mem ((c.tc : Thread Cert.Dhz.nD Cert.Dhz.τ).loc Cert.Dhz.main_arg1) = m ((c.tc : Thread Cert.Dhz.nD Cert.Dhz.τ).loc Cert.Dhz.main_arg1)
      ∧ r.2.mem ((c.tc : Thread Cert.Dhz.nD Cert.Dhz.τ).loc Cert.Dhz.main_arg2) = m ((c.tc : Thread Cert.Dhz.nD Cert.Dhz.τ).loc Cert.Dhz.main_arg2))
      ∧ r.2.sem = fun _ => 0)

def quiescent_DhzIdeal [hDhzIdeal : Cert.DhzIdeal.Facts] : Prop :=
  ∀ (m : (ℓ : Loc Cert.DhzIdeal.nD Cert.DhzIdeal.τ Cert.DhzIdeal.sig) → Buf (Elt Ideal) ℓ) (g : Dev Cert.DhzIdeal.nD → PrngReg), Pre_DhzIdeal m →
    θ_run (Cert.DhzIdeal.defs (F := Ideal)) (onTc (τ := Cert.DhzIdeal.τ) (Cert.DhzIdeal.main (F := Ideal))) ⟨m, fun _ => 0, g⟩ (fun r => (∀ c : Dev Cert.DhzIdeal.nD,
      r.2.mem ((c.tc : Thread Cert.DhzIdeal.nD Cert.DhzIdeal.τ).loc Cert.DhzIdeal.main_arg0) = m ((c.tc : Thread Cert.DhzIdeal.nD Cert.DhzIdeal.τ).loc Cert.DhzIdeal.main_arg0)
      ∧ r.2.mem ((c.tc : Thread Cert.DhzIdeal.nD Cert.DhzIdeal.τ).loc Cert.DhzIdeal.main_arg1) = m ((c.tc : Thread Cert.DhzIdeal.nD Cert.DhzIdeal.τ).loc Cert.DhzIdeal.main_arg1)
      ∧ r.2.mem ((c.tc : Thread Cert.DhzIdeal.nD Cert.DhzIdeal.τ).loc Cert.DhzIdeal.main_arg2) = m ((c.tc : Thread Cert.DhzIdeal.nD Cert.DhzIdeal.τ).loc Cert.DhzIdeal.main_arg2))
      ∧ r.2.sem = fun _ => 0)

def quiescent_DhzReferenceIdeal [hDhzReferenceIdeal : Cert.DhzReferenceIdeal.Facts] : Prop :=
  ∀ (m : (ℓ : Loc Cert.DhzReferenceIdeal.nD Cert.DhzReferenceIdeal.τ Cert.DhzReferenceIdeal.sig) → Buf (Elt Ideal) ℓ) (g : Dev Cert.DhzReferenceIdeal.nD → PrngReg), Pre_DhzReferenceIdeal m →
    θ_run (Cert.DhzReferenceIdeal.defs (F := Ideal)) (onTc (τ := Cert.DhzReferenceIdeal.τ) (Cert.DhzReferenceIdeal.main (F := Ideal))) ⟨m, fun _ => 0, g⟩ (fun r => (∀ c : Dev Cert.DhzReferenceIdeal.nD,
      r.2.mem ((c.tc : Thread Cert.DhzReferenceIdeal.nD Cert.DhzReferenceIdeal.τ).loc Cert.DhzReferenceIdeal.main_arg0) = m ((c.tc : Thread Cert.DhzReferenceIdeal.nD Cert.DhzReferenceIdeal.τ).loc Cert.DhzReferenceIdeal.main_arg0)
      ∧ r.2.mem ((c.tc : Thread Cert.DhzReferenceIdeal.nD Cert.DhzReferenceIdeal.τ).loc Cert.DhzReferenceIdeal.main_arg1) = m ((c.tc : Thread Cert.DhzReferenceIdeal.nD Cert.DhzReferenceIdeal.τ).loc Cert.DhzReferenceIdeal.main_arg1)
      ∧ r.2.mem ((c.tc : Thread Cert.DhzReferenceIdeal.nD Cert.DhzReferenceIdeal.τ).loc Cert.DhzReferenceIdeal.main_arg2) = m ((c.tc : Thread Cert.DhzReferenceIdeal.nD Cert.DhzReferenceIdeal.τ).loc Cert.DhzReferenceIdeal.main_arg2))
      ∧ r.2.sem = fun _ => 0)

def quiescent_Dhx [hDhx : Cert.Dhx.Facts] : Prop :=
  ∀ (m : (ℓ : Loc Cert.Dhx.nD Cert.Dhx.τ Cert.Dhx.sig) → Buf (Elt Bits) ℓ) (g : Dev Cert.Dhx.nD → PrngReg), Pre_Dhx m →
    θ_run (Cert.Dhx.defs (F := Bits)) (onTc (τ := Cert.Dhx.τ) (Cert.Dhx.main (F := Bits))) ⟨m, fun _ => 0, g⟩ (fun r => (∀ c : Dev Cert.Dhx.nD,
      r.2.mem ((c.tc : Thread Cert.Dhx.nD Cert.Dhx.τ).loc Cert.Dhx.main_arg0) = m ((c.tc : Thread Cert.Dhx.nD Cert.Dhx.τ).loc Cert.Dhx.main_arg0)
      ∧ r.2.mem ((c.tc : Thread Cert.Dhx.nD Cert.Dhx.τ).loc Cert.Dhx.main_arg1) = m ((c.tc : Thread Cert.Dhx.nD Cert.Dhx.τ).loc Cert.Dhx.main_arg1)
      ∧ r.2.mem ((c.tc : Thread Cert.Dhx.nD Cert.Dhx.τ).loc Cert.Dhx.main_arg2) = m ((c.tc : Thread Cert.Dhx.nD Cert.Dhx.τ).loc Cert.Dhx.main_arg2))
      ∧ r.2.sem = fun _ => 0)

def quiescent_DhxIdeal [hDhxIdeal : Cert.DhxIdeal.Facts] : Prop :=
  ∀ (m : (ℓ : Loc Cert.DhxIdeal.nD Cert.DhxIdeal.τ Cert.DhxIdeal.sig) → Buf (Elt Ideal) ℓ) (g : Dev Cert.DhxIdeal.nD → PrngReg), Pre_DhxIdeal m →
    θ_run (Cert.DhxIdeal.defs (F := Ideal)) (onTc (τ := Cert.DhxIdeal.τ) (Cert.DhxIdeal.main (F := Ideal))) ⟨m, fun _ => 0, g⟩ (fun r => (∀ c : Dev Cert.DhxIdeal.nD,
      r.2.mem ((c.tc : Thread Cert.DhxIdeal.nD Cert.DhxIdeal.τ).loc Cert.DhxIdeal.main_arg0) = m ((c.tc : Thread Cert.DhxIdeal.nD Cert.DhxIdeal.τ).loc Cert.DhxIdeal.main_arg0)
      ∧ r.2.mem ((c.tc : Thread Cert.DhxIdeal.nD Cert.DhxIdeal.τ).loc Cert.DhxIdeal.main_arg1) = m ((c.tc : Thread Cert.DhxIdeal.nD Cert.DhxIdeal.τ).loc Cert.DhxIdeal.main_arg1)
      ∧ r.2.mem ((c.tc : Thread Cert.DhxIdeal.nD Cert.DhxIdeal.τ).loc Cert.DhxIdeal.main_arg2) = m ((c.tc : Thread Cert.DhxIdeal.nD Cert.DhxIdeal.τ).loc Cert.DhxIdeal.main_arg2))
      ∧ r.2.sem = fun _ => 0)

def quiescent_DhxReferenceIdeal [hDhxReferenceIdeal : Cert.DhxReferenceIdeal.Facts] : Prop :=
  ∀ (m : (ℓ : Loc Cert.DhxReferenceIdeal.nD Cert.DhxReferenceIdeal.τ Cert.DhxReferenceIdeal.sig) → Buf (Elt Ideal) ℓ) (g : Dev Cert.DhxReferenceIdeal.nD → PrngReg), Pre_DhxReferenceIdeal m →
    θ_run (Cert.DhxReferenceIdeal.defs (F := Ideal)) (onTc (τ := Cert.DhxReferenceIdeal.τ) (Cert.DhxReferenceIdeal.main (F := Ideal))) ⟨m, fun _ => 0, g⟩ (fun r => (∀ c : Dev Cert.DhxReferenceIdeal.nD,
      r.2.mem ((c.tc : Thread Cert.DhxReferenceIdeal.nD Cert.DhxReferenceIdeal.τ).loc Cert.DhxReferenceIdeal.main_arg0) = m ((c.tc : Thread Cert.DhxReferenceIdeal.nD Cert.DhxReferenceIdeal.τ).loc Cert.DhxReferenceIdeal.main_arg0)
      ∧ r.2.mem ((c.tc : Thread Cert.DhxReferenceIdeal.nD Cert.DhxReferenceIdeal.τ).loc Cert.DhxReferenceIdeal.main_arg1) = m ((c.tc : Thread Cert.DhxReferenceIdeal.nD Cert.DhxReferenceIdeal.τ).loc Cert.DhxReferenceIdeal.main_arg1)
      ∧ r.2.mem ((c.tc : Thread Cert.DhxReferenceIdeal.nD Cert.DhxReferenceIdeal.τ).loc Cert.DhxReferenceIdeal.main_arg2) = m ((c.tc : Thread Cert.DhxReferenceIdeal.nD Cert.DhxReferenceIdeal.τ).loc Cert.DhxReferenceIdeal.main_arg2))
      ∧ r.2.sem = fun _ => 0)

def quiescent_Dha [hDha : Cert.Dha.Facts] : Prop :=
  ∀ (m : (ℓ : Loc Cert.Dha.nD Cert.Dha.τ Cert.Dha.sig) → Buf (Elt Bits) ℓ) (g : Dev Cert.Dha.nD → PrngReg), Pre_Dha m →
    θ_run (Cert.Dha.defs (F := Bits)) (onTc (τ := Cert.Dha.τ) (Cert.Dha.main (F := Bits))) ⟨m, fun _ => 0, g⟩ (fun r => (∀ c : Dev Cert.Dha.nD,
      r.2.mem ((c.tc : Thread Cert.Dha.nD Cert.Dha.τ).loc Cert.Dha.main_arg0) = m ((c.tc : Thread Cert.Dha.nD Cert.Dha.τ).loc Cert.Dha.main_arg0)
      ∧ r.2.mem ((c.tc : Thread Cert.Dha.nD Cert.Dha.τ).loc Cert.Dha.main_arg1) = m ((c.tc : Thread Cert.Dha.nD Cert.Dha.τ).loc Cert.Dha.main_arg1)
      ∧ r.2.mem ((c.tc : Thread Cert.Dha.nD Cert.Dha.τ).loc Cert.Dha.main_arg2) = m ((c.tc : Thread Cert.Dha.nD Cert.Dha.τ).loc Cert.Dha.main_arg2))
      ∧ r.2.sem = fun _ => 0)

def quiescent_DhaIdeal [hDhaIdeal : Cert.DhaIdeal.Facts] : Prop :=
  ∀ (m : (ℓ : Loc Cert.DhaIdeal.nD Cert.DhaIdeal.τ Cert.DhaIdeal.sig) → Buf (Elt Ideal) ℓ) (g : Dev Cert.DhaIdeal.nD → PrngReg), Pre_DhaIdeal m →
    θ_run (Cert.DhaIdeal.defs (F := Ideal)) (onTc (τ := Cert.DhaIdeal.τ) (Cert.DhaIdeal.main (F := Ideal))) ⟨m, fun _ => 0, g⟩ (fun r => (∀ c : Dev Cert.DhaIdeal.nD,
      r.2.mem ((c.tc : Thread Cert.DhaIdeal.nD Cert.DhaIdeal.τ).loc Cert.DhaIdeal.main_arg0) = m ((c.tc : Thread Cert.DhaIdeal.nD Cert.DhaIdeal.τ).loc Cert.DhaIdeal.main_arg0)
      ∧ r.2.mem ((c.tc : Thread Cert.DhaIdeal.nD Cert.DhaIdeal.τ).loc Cert.DhaIdeal.main_arg1) = m ((c.tc : Thread Cert.DhaIdeal.nD Cert.DhaIdeal.τ).loc Cert.DhaIdeal.main_arg1)
      ∧ r.2.mem ((c.tc : Thread Cert.DhaIdeal.nD Cert.DhaIdeal.τ).loc Cert.DhaIdeal.main_arg2) = m ((c.tc : Thread Cert.DhaIdeal.nD Cert.DhaIdeal.τ).loc Cert.DhaIdeal.main_arg2))
      ∧ r.2.sem = fun _ => 0)

def quiescent_DhaReferenceIdeal [hDhaReferenceIdeal : Cert.DhaReferenceIdeal.Facts] : Prop :=
  ∀ (m : (ℓ : Loc Cert.DhaReferenceIdeal.nD Cert.DhaReferenceIdeal.τ Cert.DhaReferenceIdeal.sig) → Buf (Elt Ideal) ℓ) (g : Dev Cert.DhaReferenceIdeal.nD → PrngReg), Pre_DhaReferenceIdeal m →
    θ_run (Cert.DhaReferenceIdeal.defs (F := Ideal)) (onTc (τ := Cert.DhaReferenceIdeal.τ) (Cert.DhaReferenceIdeal.main (F := Ideal))) ⟨m, fun _ => 0, g⟩ (fun r => (∀ c : Dev Cert.DhaReferenceIdeal.nD,
      r.2.mem ((c.tc : Thread Cert.DhaReferenceIdeal.nD Cert.DhaReferenceIdeal.τ).loc Cert.DhaReferenceIdeal.main_arg0) = m ((c.tc : Thread Cert.DhaReferenceIdeal.nD Cert.DhaReferenceIdeal.τ).loc Cert.DhaReferenceIdeal.main_arg0)
      ∧ r.2.mem ((c.tc : Thread Cert.DhaReferenceIdeal.nD Cert.DhaReferenceIdeal.τ).loc Cert.DhaReferenceIdeal.main_arg1) = m ((c.tc : Thread Cert.DhaReferenceIdeal.nD Cert.DhaReferenceIdeal.τ).loc Cert.DhaReferenceIdeal.main_arg1)
      ∧ r.2.mem ((c.tc : Thread Cert.DhaReferenceIdeal.nD Cert.DhaReferenceIdeal.τ).loc Cert.DhaReferenceIdeal.main_arg2) = m ((c.tc : Thread Cert.DhaReferenceIdeal.nD Cert.DhaReferenceIdeal.τ).loc Cert.DhaReferenceIdeal.main_arg2))
      ∧ r.2.sem = fun _ => 0)

def quiescent_Dwo [hDwo : Cert.Dwo.Facts] : Prop :=
  ∀ (m : (ℓ : Loc Cert.Dwo.nD Cert.Dwo.τ Cert.Dwo.sig) → Buf (Elt Bits) ℓ) (g : Dev Cert.Dwo.nD → PrngReg), Pre_Dwo m →
    θ_run (Cert.Dwo.defs (F := Bits)) (onTc (τ := Cert.Dwo.τ) (Cert.Dwo.main (F := Bits))) ⟨m, fun _ => 0, g⟩ (fun r => (∀ c : Dev Cert.Dwo.nD,
      r.2.mem ((c.tc : Thread Cert.Dwo.nD Cert.Dwo.τ).loc Cert.Dwo.main_arg0) = m ((c.tc : Thread Cert.Dwo.nD Cert.Dwo.τ).loc Cert.Dwo.main_arg0)
      ∧ r.2.mem ((c.tc : Thread Cert.Dwo.nD Cert.Dwo.τ).loc Cert.Dwo.main_arg1) = m ((c.tc : Thread Cert.Dwo.nD Cert.Dwo.τ).loc Cert.Dwo.main_arg1))
      ∧ r.2.sem = fun _ => 0)

def quiescent_DwoIdeal [hDwoIdeal : Cert.DwoIdeal.Facts] : Prop :=
  ∀ (m : (ℓ : Loc Cert.DwoIdeal.nD Cert.DwoIdeal.τ Cert.DwoIdeal.sig) → Buf (Elt Ideal) ℓ) (g : Dev Cert.DwoIdeal.nD → PrngReg), Pre_DwoIdeal m →
    θ_run (Cert.DwoIdeal.defs (F := Ideal)) (onTc (τ := Cert.DwoIdeal.τ) (Cert.DwoIdeal.main (F := Ideal))) ⟨m, fun _ => 0, g⟩ (fun r => (∀ c : Dev Cert.DwoIdeal.nD,
      r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
      ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ r.2.sem = fun _ => 0)

def quiescent_DwoReferenceIdeal [hDwoReferenceIdeal : Cert.DwoReferenceIdeal.Facts] : Prop :=
  ∀ (m : (ℓ : Loc Cert.DwoReferenceIdeal.nD Cert.DwoReferenceIdeal.τ Cert.DwoReferenceIdeal.sig) → Buf (Elt Ideal) ℓ) (g : Dev Cert.DwoReferenceIdeal.nD → PrngReg), Pre_DwoReferenceIdeal m →
    θ_run (Cert.DwoReferenceIdeal.defs (F := Ideal)) (onTc (τ := Cert.DwoReferenceIdeal.τ) (Cert.DwoReferenceIdeal.main (F := Ideal))) ⟨m, fun _ => 0, g⟩ (fun r => (∀ c : Dev Cert.DwoReferenceIdeal.nD,
      r.2.mem ((c.tc : Thread Cert.DwoReferenceIdeal.nD Cert.DwoReferenceIdeal.τ).loc Cert.DwoReferenceIdeal.main_arg0) = m ((c.tc : Thread Cert.DwoReferenceIdeal.nD Cert.DwoReferenceIdeal.τ).loc Cert.DwoReferenceIdeal.main_arg0)
      ∧ r.2.mem ((c.tc : Thread Cert.DwoReferenceIdeal.nD Cert.DwoReferenceIdeal.τ).loc Cert.DwoReferenceIdeal.main_arg1) = m ((c.tc : Thread Cert.DwoReferenceIdeal.nD Cert.DwoReferenceIdeal.τ).loc Cert.DwoReferenceIdeal.main_arg1))
      ∧ r.2.sem = fun _ => 0)

def quiescent_Dwa [hDwa : Cert.Dwa.Facts] : Prop :=
  ∀ (m : (ℓ : Loc Cert.Dwa.nD Cert.Dwa.τ Cert.Dwa.sig) → Buf (Elt Bits) ℓ) (g : Dev Cert.Dwa.nD → PrngReg), Pre_Dwa m →
    θ_run (Cert.Dwa.defs (F := Bits)) (onTc (τ := Cert.Dwa.τ) (Cert.Dwa.main (F := Bits))) ⟨m, fun _ => 0, g⟩ (fun r => (∀ c : Dev Cert.Dwa.nD,
      r.2.mem ((c.tc : Thread Cert.Dwa.nD Cert.Dwa.τ).loc Cert.Dwa.main_arg0) = m ((c.tc : Thread Cert.Dwa.nD Cert.Dwa.τ).loc Cert.Dwa.main_arg0)
      ∧ r.2.mem ((c.tc : Thread Cert.Dwa.nD Cert.Dwa.τ).loc Cert.Dwa.main_arg1) = m ((c.tc : Thread Cert.Dwa.nD Cert.Dwa.τ).loc Cert.Dwa.main_arg1))
      ∧ r.2.sem = fun _ => 0)

def quiescent_DwaIdeal [hDwaIdeal : Cert.DwaIdeal.Facts] : Prop :=
  ∀ (m : (ℓ : Loc Cert.DwaIdeal.nD Cert.DwaIdeal.τ Cert.DwaIdeal.sig) → Buf (Elt Ideal) ℓ) (g : Dev Cert.DwaIdeal.nD → PrngReg), Pre_DwaIdeal m →
    θ_run (Cert.DwaIdeal.defs (F := Ideal)) (onTc (τ := Cert.DwaIdeal.τ) (Cert.DwaIdeal.main (F := Ideal))) ⟨m, fun _ => 0, g⟩ (fun r => (∀ c : Dev Cert.DwaIdeal.nD,
      r.2.mem ((c.tc : Thread Cert.DwaIdeal.nD Cert.DwaIdeal.τ).loc Cert.DwaIdeal.main_arg0) = m ((c.tc : Thread Cert.DwaIdeal.nD Cert.DwaIdeal.τ).loc Cert.DwaIdeal.main_arg0)
      ∧ r.2.mem ((c.tc : Thread Cert.DwaIdeal.nD Cert.DwaIdeal.τ).loc Cert.DwaIdeal.main_arg1) = m ((c.tc : Thread Cert.DwaIdeal.nD Cert.DwaIdeal.τ).loc Cert.DwaIdeal.main_arg1))
      ∧ r.2.sem = fun _ => 0)

def quiescent_DwaReferenceIdeal [hDwaReferenceIdeal : Cert.DwaReferenceIdeal.Facts] : Prop :=
  ∀ (m : (ℓ : Loc Cert.DwaReferenceIdeal.nD Cert.DwaReferenceIdeal.τ Cert.DwaReferenceIdeal.sig) → Buf (Elt Ideal) ℓ) (g : Dev Cert.DwaReferenceIdeal.nD → PrngReg), Pre_DwaReferenceIdeal m →
    θ_run (Cert.DwaReferenceIdeal.defs (F := Ideal)) (onTc (τ := Cert.DwaReferenceIdeal.τ) (Cert.DwaReferenceIdeal.main (F := Ideal))) ⟨m, fun _ => 0, g⟩ (fun r => (∀ c : Dev Cert.DwaReferenceIdeal.nD,
      r.2.mem ((c.tc : Thread Cert.DwaReferenceIdeal.nD Cert.DwaReferenceIdeal.τ).loc Cert.DwaReferenceIdeal.main_arg0) = m ((c.tc : Thread Cert.DwaReferenceIdeal.nD Cert.DwaReferenceIdeal.τ).loc Cert.DwaReferenceIdeal.main_arg0)
      ∧ r.2.mem ((c.tc : Thread Cert.DwaReferenceIdeal.nD Cert.DwaReferenceIdeal.τ).loc Cert.DwaReferenceIdeal.main_arg1) = m ((c.tc : Thread Cert.DwaReferenceIdeal.nD Cert.DwaReferenceIdeal.τ).loc Cert.DwaReferenceIdeal.main_arg1))
      ∧ r.2.sem = fun _ => 0)

def quiescent_Dwb [hDwb : Cert.Dwb.Facts] : Prop :=
  ∀ (m : (ℓ : Loc Cert.Dwb.nD Cert.Dwb.τ Cert.Dwb.sig) → Buf (Elt Bits) ℓ) (g : Dev Cert.Dwb.nD → PrngReg), Pre_Dwb m →
    θ_run (Cert.Dwb.defs (F := Bits)) (onTc (τ := Cert.Dwb.τ) (Cert.Dwb.main (F := Bits))) ⟨m, fun _ => 0, g⟩ (fun r => (∀ c : Dev Cert.Dwb.nD,
      r.2.mem ((c.tc : Thread Cert.Dwb.nD Cert.Dwb.τ).loc Cert.Dwb.main_arg0) = m ((c.tc : Thread Cert.Dwb.nD Cert.Dwb.τ).loc Cert.Dwb.main_arg0)
      ∧ r.2.mem ((c.tc : Thread Cert.Dwb.nD Cert.Dwb.τ).loc Cert.Dwb.main_arg1) = m ((c.tc : Thread Cert.Dwb.nD Cert.Dwb.τ).loc Cert.Dwb.main_arg1))
      ∧ r.2.sem = fun _ => 0)

def quiescent_DwbIdeal [hDwbIdeal : Cert.DwbIdeal.Facts] : Prop :=
  ∀ (m : (ℓ : Loc Cert.DwbIdeal.nD Cert.DwbIdeal.τ Cert.DwbIdeal.sig) → Buf (Elt Ideal) ℓ) (g : Dev Cert.DwbIdeal.nD → PrngReg), Pre_DwbIdeal m →
    θ_run (Cert.DwbIdeal.defs (F := Ideal)) (onTc (τ := Cert.DwbIdeal.τ) (Cert.DwbIdeal.main (F := Ideal))) ⟨m, fun _ => 0, g⟩ (fun r => (∀ c : Dev Cert.DwbIdeal.nD,
      r.2.mem ((c.tc : Thread Cert.DwbIdeal.nD Cert.DwbIdeal.τ).loc Cert.DwbIdeal.main_arg0) = m ((c.tc : Thread Cert.DwbIdeal.nD Cert.DwbIdeal.τ).loc Cert.DwbIdeal.main_arg0)
      ∧ r.2.mem ((c.tc : Thread Cert.DwbIdeal.nD Cert.DwbIdeal.τ).loc Cert.DwbIdeal.main_arg1) = m ((c.tc : Thread Cert.DwbIdeal.nD Cert.DwbIdeal.τ).loc Cert.DwbIdeal.main_arg1))
      ∧ r.2.sem = fun _ => 0)

def quiescent_DwbReferenceIdeal [hDwbReferenceIdeal : Cert.DwbReferenceIdeal.Facts] : Prop :=
  ∀ (m : (ℓ : Loc Cert.DwbReferenceIdeal.nD Cert.DwbReferenceIdeal.τ Cert.DwbReferenceIdeal.sig) → Buf (Elt Ideal) ℓ) (g : Dev Cert.DwbReferenceIdeal.nD → PrngReg), Pre_DwbReferenceIdeal m →
    θ_run (Cert.DwbReferenceIdeal.defs (F := Ideal)) (onTc (τ := Cert.DwbReferenceIdeal.τ) (Cert.DwbReferenceIdeal.main (F := Ideal))) ⟨m, fun _ => 0, g⟩ (fun r => (∀ c : Dev Cert.DwbReferenceIdeal.nD,
      r.2.mem ((c.tc : Thread Cert.DwbReferenceIdeal.nD Cert.DwbReferenceIdeal.τ).loc Cert.DwbReferenceIdeal.main_arg0) = m ((c.tc : Thread Cert.DwbReferenceIdeal.nD Cert.DwbReferenceIdeal.τ).loc Cert.DwbReferenceIdeal.main_arg0)
      ∧ r.2.mem ((c.tc : Thread Cert.DwbReferenceIdeal.nD Cert.DwbReferenceIdeal.τ).loc Cert.DwbReferenceIdeal.main_arg1) = m ((c.tc : Thread Cert.DwbReferenceIdeal.nD Cert.DwbReferenceIdeal.τ).loc Cert.DwbReferenceIdeal.main_arg1))
      ∧ r.2.sem = fun _ => 0)

def quiescent_Dwz [hDwz : Cert.Dwz.Facts] : Prop :=
  ∀ (m : (ℓ : Loc Cert.Dwz.nD Cert.Dwz.τ Cert.Dwz.sig) → Buf (Elt Bits) ℓ) (g : Dev Cert.Dwz.nD → PrngReg), Pre_Dwz m →
    θ_run (Cert.Dwz.defs (F := Bits)) (onTc (τ := Cert.Dwz.τ) (Cert.Dwz.main (F := Bits))) ⟨m, fun _ => 0, g⟩ (fun r => (∀ c : Dev Cert.Dwz.nD,
      r.2.mem ((c.tc : Thread Cert.Dwz.nD Cert.Dwz.τ).loc Cert.Dwz.main_arg0) = m ((c.tc : Thread Cert.Dwz.nD Cert.Dwz.τ).loc Cert.Dwz.main_arg0)
      ∧ r.2.mem ((c.tc : Thread Cert.Dwz.nD Cert.Dwz.τ).loc Cert.Dwz.main_arg1) = m ((c.tc : Thread Cert.Dwz.nD Cert.Dwz.τ).loc Cert.Dwz.main_arg1))
      ∧ r.2.sem = fun _ => 0)

def quiescent_DwzIdeal [hDwzIdeal : Cert.DwzIdeal.Facts] : Prop :=
  ∀ (m : (ℓ : Loc Cert.DwzIdeal.nD Cert.DwzIdeal.τ Cert.DwzIdeal.sig) → Buf (Elt Ideal) ℓ) (g : Dev Cert.DwzIdeal.nD → PrngReg), Pre_DwzIdeal m →
    θ_run (Cert.DwzIdeal.defs (F := Ideal)) (onTc (τ := Cert.DwzIdeal.τ) (Cert.DwzIdeal.main (F := Ideal))) ⟨m, fun _ => 0, g⟩ (fun r => (∀ c : Dev Cert.DwzIdeal.nD,
      r.2.mem ((c.tc : Thread Cert.DwzIdeal.nD Cert.DwzIdeal.τ).loc Cert.DwzIdeal.main_arg0) = m ((c.tc : Thread Cert.DwzIdeal.nD Cert.DwzIdeal.τ).loc Cert.DwzIdeal.main_arg0)
      ∧ r.2.mem ((c.tc : Thread Cert.DwzIdeal.nD Cert.DwzIdeal.τ).loc Cert.DwzIdeal.main_arg1) = m ((c.tc : Thread Cert.DwzIdeal.nD Cert.DwzIdeal.τ).loc Cert.DwzIdeal.main_arg1))
      ∧ r.2.sem = fun _ => 0)

def quiescent_DwzReferenceIdeal [hDwzReferenceIdeal : Cert.DwzReferenceIdeal.Facts] : Prop :=
  ∀ (m : (ℓ : Loc Cert.DwzReferenceIdeal.nD Cert.DwzReferenceIdeal.τ Cert.DwzReferenceIdeal.sig) → Buf (Elt Ideal) ℓ) (g : Dev Cert.DwzReferenceIdeal.nD → PrngReg), Pre_DwzReferenceIdeal m →
    θ_run (Cert.DwzReferenceIdeal.defs (F := Ideal)) (onTc (τ := Cert.DwzReferenceIdeal.τ) (Cert.DwzReferenceIdeal.main (F := Ideal))) ⟨m, fun _ => 0, g⟩ (fun r => (∀ c : Dev Cert.DwzReferenceIdeal.nD,
      r.2.mem ((c.tc : Thread Cert.DwzReferenceIdeal.nD Cert.DwzReferenceIdeal.τ).loc Cert.DwzReferenceIdeal.main_arg0) = m ((c.tc : Thread Cert.DwzReferenceIdeal.nD Cert.DwzReferenceIdeal.τ).loc Cert.DwzReferenceIdeal.main_arg0)
      ∧ r.2.mem ((c.tc : Thread Cert.DwzReferenceIdeal.nD Cert.DwzReferenceIdeal.τ).loc Cert.DwzReferenceIdeal.main_arg1) = m ((c.tc : Thread Cert.DwzReferenceIdeal.nD Cert.DwzReferenceIdeal.τ).loc Cert.DwzReferenceIdeal.main_arg1))
      ∧ r.2.sem = fun _ => 0)

def quiescent_Dwx [hDwx : Cert.Dwx.Facts] : Prop :=
  ∀ (m : (ℓ : Loc Cert.Dwx.nD Cert.Dwx.τ Cert.Dwx.sig) → Buf (Elt Bits) ℓ) (g : Dev Cert.Dwx.nD → PrngReg), Pre_Dwx m →
    θ_run (Cert.Dwx.defs (F := Bits)) (onTc (τ := Cert.Dwx.τ) (Cert.Dwx.main (F := Bits))) ⟨m, fun _ => 0, g⟩ (fun r => (∀ c : Dev Cert.Dwx.nD,
      r.2.mem ((c.tc : Thread Cert.Dwx.nD Cert.Dwx.τ).loc Cert.Dwx.main_arg0) = m ((c.tc : Thread Cert.Dwx.nD Cert.Dwx.τ).loc Cert.Dwx.main_arg0)
      ∧ r.2.mem ((c.tc : Thread Cert.Dwx.nD Cert.Dwx.τ).loc Cert.Dwx.main_arg1) = m ((c.tc : Thread Cert.Dwx.nD Cert.Dwx.τ).loc Cert.Dwx.main_arg1))
      ∧ r.2.sem = fun _ => 0)

def quiescent_DwxIdeal [hDwxIdeal : Cert.DwxIdeal.Facts] : Prop :=
  ∀ (m : (ℓ : Loc Cert.DwxIdeal.nD Cert.DwxIdeal.τ Cert.DwxIdeal.sig) → Buf (Elt Ideal) ℓ) (g : Dev Cert.DwxIdeal.nD → PrngReg), Pre_DwxIdeal m →
    θ_run (Cert.DwxIdeal.defs (F := Ideal)) (onTc (τ := Cert.DwxIdeal.τ) (Cert.DwxIdeal.main (F := Ideal))) ⟨m, fun _ => 0, g⟩ (fun r => (∀ c : Dev Cert.DwxIdeal.nD,
      r.2.mem ((c.tc : Thread Cert.DwxIdeal.nD Cert.DwxIdeal.τ).loc Cert.DwxIdeal.main_arg0) = m ((c.tc : Thread Cert.DwxIdeal.nD Cert.DwxIdeal.τ).loc Cert.DwxIdeal.main_arg0)
      ∧ r.2.mem ((c.tc : Thread Cert.DwxIdeal.nD Cert.DwxIdeal.τ).loc Cert.DwxIdeal.main_arg1) = m ((c.tc : Thread Cert.DwxIdeal.nD Cert.DwxIdeal.τ).loc Cert.DwxIdeal.main_arg1))
      ∧ r.2.sem = fun _ => 0)

def quiescent_DwxReferenceIdeal [hDwxReferenceIdeal : Cert.DwxReferenceIdeal.Facts] : Prop :=
  ∀ (m : (ℓ : Loc Cert.DwxReferenceIdeal.nD Cert.DwxReferenceIdeal.τ Cert.DwxReferenceIdeal.sig) → Buf (Elt Ideal) ℓ) (g : Dev Cert.DwxReferenceIdeal.nD → PrngReg), Pre_DwxReferenceIdeal m →
    θ_run (Cert.DwxReferenceIdeal.defs (F := Ideal)) (onTc (τ := Cert.DwxReferenceIdeal.τ) (Cert.DwxReferenceIdeal.main (F := Ideal))) ⟨m, fun _ => 0, g⟩ (fun r => (∀ c : Dev Cert.DwxReferenceIdeal.nD,
      r.2.mem ((c.tc : Thread Cert.DwxReferenceIdeal.nD Cert.DwxReferenceIdeal.τ).loc Cert.DwxReferenceIdeal.main_arg0) = m ((c.tc : Thread Cert.DwxReferenceIdeal.nD Cert.DwxReferenceIdeal.τ).loc Cert.DwxReferenceIdeal.main_arg0)
      ∧ r.2.mem ((c.tc : Thread Cert.DwxReferenceIdeal.nD Cert.DwxReferenceIdeal.τ).loc Cert.DwxReferenceIdeal.main_arg1) = m ((c.tc : Thread Cert.DwxReferenceIdeal.nD Cert.DwxReferenceIdeal.τ).loc Cert.DwxReferenceIdeal.main_arg1))
      ∧ r.2.sem = fun _ => 0)

def quiescent_Dwi [hDwi : Cert.Dwi.Facts] : Prop :=
  ∀ (m : (ℓ : Loc Cert.Dwi.nD Cert.Dwi.τ Cert.Dwi.sig) → Buf (Elt Bits) ℓ) (g : Dev Cert.Dwi.nD → PrngReg), Pre_Dwi m →
    θ_run (Cert.Dwi.defs (F := Bits)) (onTc (τ := Cert.Dwi.τ) (Cert.Dwi.main (F := Bits))) ⟨m, fun _ => 0, g⟩ (fun r => (∀ c : Dev Cert.Dwi.nD,
      r.2.mem ((c.tc : Thread Cert.Dwi.nD Cert.Dwi.τ).loc Cert.Dwi.main_arg0) = m ((c.tc : Thread Cert.Dwi.nD Cert.Dwi.τ).loc Cert.Dwi.main_arg0)
      ∧ r.2.mem ((c.tc : Thread Cert.Dwi.nD Cert.Dwi.τ).loc Cert.Dwi.main_arg1) = m ((c.tc : Thread Cert.Dwi.nD Cert.Dwi.τ).loc Cert.Dwi.main_arg1))
      ∧ r.2.sem = fun _ => 0)

def quiescent_DwiIdeal [hDwiIdeal : Cert.DwiIdeal.Facts] : Prop :=
  ∀ (m : (ℓ : Loc Cert.DwiIdeal.nD Cert.DwiIdeal.τ Cert.DwiIdeal.sig) → Buf (Elt Ideal) ℓ) (g : Dev Cert.DwiIdeal.nD → PrngReg), Pre_DwiIdeal m →
    θ_run (Cert.DwiIdeal.defs (F := Ideal)) (onTc (τ := Cert.DwiIdeal.τ) (Cert.DwiIdeal.main (F := Ideal))) ⟨m, fun _ => 0, g⟩ (fun r => (∀ c : Dev Cert.DwiIdeal.nD,
      r.2.mem ((c.tc : Thread Cert.DwiIdeal.nD Cert.DwiIdeal.τ).loc Cert.DwiIdeal.main_arg0) = m ((c.tc : Thread Cert.DwiIdeal.nD Cert.DwiIdeal.τ).loc Cert.DwiIdeal.main_arg0)
      ∧ r.2.mem ((c.tc : Thread Cert.DwiIdeal.nD Cert.DwiIdeal.τ).loc Cert.DwiIdeal.main_arg1) = m ((c.tc : Thread Cert.DwiIdeal.nD Cert.DwiIdeal.τ).loc Cert.DwiIdeal.main_arg1))
      ∧ r.2.sem = fun _ => 0)

def quiescent_DwiReferenceIdeal [hDwiReferenceIdeal : Cert.DwiReferenceIdeal.Facts] : Prop :=
  ∀ (m : (ℓ : Loc Cert.DwiReferenceIdeal.nD Cert.DwiReferenceIdeal.τ Cert.DwiReferenceIdeal.sig) → Buf (Elt Ideal) ℓ) (g : Dev Cert.DwiReferenceIdeal.nD → PrngReg), Pre_DwiReferenceIdeal m →
    θ_run (Cert.DwiReferenceIdeal.defs (F := Ideal)) (onTc (τ := Cert.DwiReferenceIdeal.τ) (Cert.DwiReferenceIdeal.main (F := Ideal))) ⟨m, fun _ => 0, g⟩ (fun r => (∀ c : Dev Cert.DwiReferenceIdeal.nD,
      r.2.mem ((c.tc : Thread Cert.DwiReferenceIdeal.nD Cert.DwiReferenceIdeal.τ).loc Cert.DwiReferenceIdeal.main_arg0) = m ((c.tc : Thread Cert.DwiReferenceIdeal.nD Cert.DwiReferenceIdeal.τ).loc Cert.DwiReferenceIdeal.main_arg0)
      ∧ r.2.mem ((c.tc : Thread Cert.DwiReferenceIdeal.nD Cert.DwiReferenceIdeal.τ).loc Cert.DwiReferenceIdeal.main_arg1) = m ((c.tc : Thread Cert.DwiReferenceIdeal.nD Cert.DwiReferenceIdeal.τ).loc Cert.DwiReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dact_DactIdeal : Prop :=
  True

def algebraic_DactIdeal_DactReferenceIdeal [hDactIdeal : Cert.DactIdeal.Facts] [hDactReferenceIdeal : Cert.DactReferenceIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactIdeal m →
    (∀ c : Dev Cert.DactIdeal.nD,
      m' ((c.tc : Thread Cert.DactReferenceIdeal.nD Cert.DactReferenceIdeal.τ).loc Cert.DactReferenceIdeal.main_arg0) = m ((c.tc : Thread Cert.DactIdeal.nD Cert.DactIdeal.τ).loc Cert.DactIdeal.main_arg0)
      ∧ m' ((c.tc : Thread Cert.DactReferenceIdeal.nD Cert.DactReferenceIdeal.τ).loc Cert.DactReferenceIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v1) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v6) = v0 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1))

def preserves_Dwd_DwdIdeal : Prop :=
  True

def algebraic_DwdIdeal_DwdReferenceIdeal [hDwdIdeal : Cert.DwdIdeal.Facts] [hDwdReferenceIdeal : Cert.DwdReferenceIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdReferenceIdeal.nD Cert.DwdReferenceIdeal.τ Cert.DwdReferenceIdeal.sig) → Buf (Elt Ideal) ℓ) (g' : Dev Cert.DwdReferenceIdeal.nD → PrngReg), Pre_DwdIdeal m →
    (∀ c : Dev Cert.DwdIdeal.nD,
      m' ((c.tc : Thread Cert.DwdReferenceIdeal.nD Cert.DwdReferenceIdeal.τ).loc Cert.DwdReferenceIdeal.main_arg0) = m ((c.tc : Thread Cert.DwdIdeal.nD Cert.DwdIdeal.τ).loc Cert.DwdIdeal.main_arg0)
      ∧ m' ((c.tc : Thread Cert.DwdReferenceIdeal.nD Cert.DwdReferenceIdeal.τ).loc Cert.DwdReferenceIdeal.main_arg1) = m ((c.tc : Thread Cert.DwdIdeal.nD Cert.DwdIdeal.τ).loc Cert.DwdIdeal.main_arg1)) →
    ∃ (v0 : (c : Dev Cert.DwdIdeal.nD) → Buf (Elt Ideal) ((c.tc : Thread Cert.DwdIdeal.nD Cert.DwdIdeal.τ).loc Cert.DwdIdeal.main_v1)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v1) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ θ_run (Cert.DwdReferenceIdeal.defs (F := Ideal)) (onTc (τ := Cert.DwdReferenceIdeal.τ) (Cert.DwdReferenceIdeal.main (F := Ideal))) ⟨m', fun _ => 0, g'⟩ (fun r => ∀ c : Dev Cert.DwdReferenceIdeal.nD,
          r.2.mem ((c.tc : Thread Cert.DwdReferenceIdeal.nD Cert.DwdReferenceIdeal.τ).loc Cert.DwdReferenceIdeal.main_v7) = v0 c
          ∧ r.2.mem ((c.tc : Thread Cert.DwdReferenceIdeal.nD Cert.DwdReferenceIdeal.τ).loc Cert.DwdReferenceIdeal.main_arg0) = m' ((c.tc : Thread Cert.DwdReferenceIdeal.nD Cert.DwdReferenceIdeal.τ).loc Cert.DwdReferenceIdeal.main_arg0)
          ∧ r.2.mem ((c.tc : Thread Cert.DwdReferenceIdeal.nD Cert.DwdReferenceIdeal.τ).loc Cert.DwdReferenceIdeal.main_arg1) = m' ((c.tc : Thread Cert.DwdReferenceIdeal.nD Cert.DwdReferenceIdeal.τ).loc Cert.DwdReferenceIdeal.main_arg1))

def preserves_Dwg_DwgIdeal : Prop :=
  True

def algebraic_DwgIdeal_DwgReferenceIdeal [hDwgIdeal : Cert.DwgIdeal.Facts] [hDwgReferenceIdeal : Cert.DwgReferenceIdeal.Facts] : Prop :=
  ∀ (m : (ℓ : Loc Cert.DwgIdeal.nD Cert.DwgIdeal.τ Cert.DwgIdeal.sig) → Buf (Elt Ideal) ℓ) (g : Dev Cert.DwgIdeal.nD → PrngReg)
    (m' : (ℓ : Loc Cert.DwgReferenceIdeal.nD Cert.DwgReferenceIdeal.τ Cert.DwgReferenceIdeal.sig) → Buf (Elt Ideal) ℓ) (g' : Dev Cert.DwgReferenceIdeal.nD → PrngReg), Pre_DwgIdeal m →
    (∀ c : Dev Cert.DwgIdeal.nD,
      m' ((c.tc : Thread Cert.DwgReferenceIdeal.nD Cert.DwgReferenceIdeal.τ).loc Cert.DwgReferenceIdeal.main_arg0) = m ((c.tc : Thread Cert.DwgIdeal.nD Cert.DwgIdeal.τ).loc Cert.DwgIdeal.main_arg0)
      ∧ m' ((c.tc : Thread Cert.DwgReferenceIdeal.nD Cert.DwgReferenceIdeal.τ).loc Cert.DwgReferenceIdeal.main_arg1) = m ((c.tc : Thread Cert.DwgIdeal.nD Cert.DwgIdeal.τ).loc Cert.DwgIdeal.main_arg1)) →
    ∃ (v0 : (c : Dev Cert.DwgIdeal.nD) → Buf (Elt Ideal) ((c.tc : Thread Cert.DwgIdeal.nD Cert.DwgIdeal.τ).loc Cert.DwgIdeal.main_v2)),
      θ_run (Cert.DwgIdeal.defs (F := Ideal)) (onTc (τ := Cert.DwgIdeal.τ) (Cert.DwgIdeal.main (F := Ideal))) ⟨m, fun _ => 0, g⟩ (fun r => ∀ c : Dev Cert.DwgIdeal.nD,
          r.2.mem ((c.tc : Thread Cert.DwgIdeal.nD Cert.DwgIdeal.τ).loc Cert.DwgIdeal.main_v2) = v0 c
          ∧ r.2.mem ((c.tc : Thread Cert.DwgIdeal.nD Cert.DwgIdeal.τ).loc Cert.DwgIdeal.main_arg0) = m ((c.tc : Thread Cert.DwgIdeal.nD Cert.DwgIdeal.τ).loc Cert.DwgIdeal.main_arg0)
          ∧ r.2.mem ((c.tc : Thread Cert.DwgIdeal.nD Cert.DwgIdeal.τ).loc Cert.DwgIdeal.main_arg1) = m ((c.tc : Thread Cert.DwgIdeal.nD Cert.DwgIdeal.τ).loc Cert.DwgIdeal.main_arg1))
      ∧ θ_run (Cert.DwgReferenceIdeal.defs (F := Ideal)) (onTc (τ := Cert.DwgReferenceIdeal.τ) (Cert.DwgReferenceIdeal.main (F := Ideal))) ⟨m', fun _ => 0, g'⟩ (fun r => ∀ c : Dev Cert.DwgReferenceIdeal.nD,
          r.2.mem ((c.tc : Thread Cert.DwgReferenceIdeal.nD Cert.DwgReferenceIdeal.τ).loc Cert.DwgReferenceIdeal.main_v3) = v0 c
          ∧ r.2.mem ((c.tc : Thread Cert.DwgReferenceIdeal.nD Cert.DwgReferenceIdeal.τ).loc Cert.DwgReferenceIdeal.main_arg0) = m' ((c.tc : Thread Cert.DwgReferenceIdeal.nD Cert.DwgReferenceIdeal.τ).loc Cert.DwgReferenceIdeal.main_arg0)
          ∧ r.2.mem ((c.tc : Thread Cert.DwgReferenceIdeal.nD Cert.DwgReferenceIdeal.τ).loc Cert.DwgReferenceIdeal.main_arg1) = m' ((c.tc : Thread Cert.DwgReferenceIdeal.nD Cert.DwgReferenceIdeal.τ).loc Cert.DwgReferenceIdeal.main_arg1))

def preserves_Dhg_DhgIdeal : Prop :=
  True

def algebraic_DhgIdeal_DhgReferenceIdeal [hDhgIdeal : Cert.DhgIdeal.Facts] [hDhgReferenceIdeal : Cert.DhgReferenceIdeal.Facts] : Prop :=
  ∀ (m : (ℓ : Loc Cert.DhgIdeal.nD Cert.DhgIdeal.τ Cert.DhgIdeal.sig) → Buf (Elt Ideal) ℓ) (g : Dev Cert.DhgIdeal.nD → PrngReg)
    (m' : (ℓ : Loc Cert.DhgReferenceIdeal.nD Cert.DhgReferenceIdeal.τ Cert.DhgReferenceIdeal.sig) → Buf (Elt Ideal) ℓ) (g' : Dev Cert.DhgReferenceIdeal.nD → PrngReg), Pre_DhgIdeal m →
    (∀ c : Dev Cert.DhgIdeal.nD,
      m' ((c.tc : Thread Cert.DhgReferenceIdeal.nD Cert.DhgReferenceIdeal.τ).loc Cert.DhgReferenceIdeal.main_arg0) = m ((c.tc : Thread Cert.DhgIdeal.nD Cert.DhgIdeal.τ).loc Cert.DhgIdeal.main_arg0)
      ∧ m' ((c.tc : Thread Cert.DhgReferenceIdeal.nD Cert.DhgReferenceIdeal.τ).loc Cert.DhgReferenceIdeal.main_arg1) = m ((c.tc : Thread Cert.DhgIdeal.nD Cert.DhgIdeal.τ).loc Cert.DhgIdeal.main_arg1)) →
    ∃ (v0 : (c : Dev Cert.DhgIdeal.nD) → Buf (Elt Ideal) ((c.tc : Thread Cert.DhgIdeal.nD Cert.DhgIdeal.τ).loc Cert.DhgIdeal.main_v2)),
      θ_run (Cert.DhgIdeal.defs (F := Ideal)) (onTc (τ := Cert.DhgIdeal.τ) (Cert.DhgIdeal.main (F := Ideal))) ⟨m, fun _ => 0, g⟩ (fun r => ∀ c : Dev Cert.DhgIdeal.nD,
          r.2.mem ((c.tc : Thread Cert.DhgIdeal.nD Cert.DhgIdeal.τ).loc Cert.DhgIdeal.main_v2) = v0 c
          ∧ r.2.mem ((c.tc : Thread Cert.DhgIdeal.nD Cert.DhgIdeal.τ).loc Cert.DhgIdeal.main_arg0) = m ((c.tc : Thread Cert.DhgIdeal.nD Cert.DhgIdeal.τ).loc Cert.DhgIdeal.main_arg0)
          ∧ r.2.mem ((c.tc : Thread Cert.DhgIdeal.nD Cert.DhgIdeal.τ).loc Cert.DhgIdeal.main_arg1) = m ((c.tc : Thread Cert.DhgIdeal.nD Cert.DhgIdeal.τ).loc Cert.DhgIdeal.main_arg1))
      ∧ θ_run (Cert.DhgReferenceIdeal.defs (F := Ideal)) (onTc (τ := Cert.DhgReferenceIdeal.τ) (Cert.DhgReferenceIdeal.main (F := Ideal))) ⟨m', fun _ => 0, g'⟩ (fun r => ∀ c : Dev Cert.DhgReferenceIdeal.nD,
          r.2.mem ((c.tc : Thread Cert.DhgReferenceIdeal.nD Cert.DhgReferenceIdeal.τ).loc Cert.DhgReferenceIdeal.main_v2) = v0 c
          ∧ r.2.mem ((c.tc : Thread Cert.DhgReferenceIdeal.nD Cert.DhgReferenceIdeal.τ).loc Cert.DhgReferenceIdeal.main_arg0) = m' ((c.tc : Thread Cert.DhgReferenceIdeal.nD Cert.DhgReferenceIdeal.τ).loc Cert.DhgReferenceIdeal.main_arg0)
          ∧ r.2.mem ((c.tc : Thread Cert.DhgReferenceIdeal.nD Cert.DhgReferenceIdeal.τ).loc Cert.DhgReferenceIdeal.main_arg1) = m' ((c.tc : Thread Cert.DhgReferenceIdeal.nD Cert.DhgReferenceIdeal.τ).loc Cert.DhgReferenceIdeal.main_arg1))

def preserves_Dhu_DhuIdeal : Prop :=
  True

def algebraic_DhuIdeal_DhuReferenceIdeal [hDhuIdeal : Cert.DhuIdeal.Facts] [hDhuReferenceIdeal : Cert.DhuReferenceIdeal.Facts] : Prop :=
  ∀ (m : (ℓ : Loc Cert.DhuIdeal.nD Cert.DhuIdeal.τ Cert.DhuIdeal.sig) → Buf (Elt Ideal) ℓ) (g : Dev Cert.DhuIdeal.nD → PrngReg)
    (m' : (ℓ : Loc Cert.DhuReferenceIdeal.nD Cert.DhuReferenceIdeal.τ Cert.DhuReferenceIdeal.sig) → Buf (Elt Ideal) ℓ) (g' : Dev Cert.DhuReferenceIdeal.nD → PrngReg), Pre_DhuIdeal m →
    (∀ c : Dev Cert.DhuIdeal.nD,
      m' ((c.tc : Thread Cert.DhuReferenceIdeal.nD Cert.DhuReferenceIdeal.τ).loc Cert.DhuReferenceIdeal.main_arg0) = m ((c.tc : Thread Cert.DhuIdeal.nD Cert.DhuIdeal.τ).loc Cert.DhuIdeal.main_arg0)
      ∧ m' ((c.tc : Thread Cert.DhuReferenceIdeal.nD Cert.DhuReferenceIdeal.τ).loc Cert.DhuReferenceIdeal.main_arg1) = m ((c.tc : Thread Cert.DhuIdeal.nD Cert.DhuIdeal.τ).loc Cert.DhuIdeal.main_arg1)
      ∧ m' ((c.tc : Thread Cert.DhuReferenceIdeal.nD Cert.DhuReferenceIdeal.τ).loc Cert.DhuReferenceIdeal.main_arg2) = m ((c.tc : Thread Cert.DhuIdeal.nD Cert.DhuIdeal.τ).loc Cert.DhuIdeal.main_arg2)) →
    ∃ (v0 : (c : Dev Cert.DhuIdeal.nD) → Buf (Elt Ideal) ((c.tc : Thread Cert.DhuIdeal.nD Cert.DhuIdeal.τ).loc Cert.DhuIdeal.main_v2)),
      θ_run (Cert.DhuIdeal.defs (F := Ideal)) (onTc (τ := Cert.DhuIdeal.τ) (Cert.DhuIdeal.main (F := Ideal))) ⟨m, fun _ => 0, g⟩ (fun r => ∀ c : Dev Cert.DhuIdeal.nD,
          r.2.mem ((c.tc : Thread Cert.DhuIdeal.nD Cert.DhuIdeal.τ).loc Cert.DhuIdeal.main_v2) = v0 c
          ∧ r.2.mem ((c.tc : Thread Cert.DhuIdeal.nD Cert.DhuIdeal.τ).loc Cert.DhuIdeal.main_arg0) = m ((c.tc : Thread Cert.DhuIdeal.nD Cert.DhuIdeal.τ).loc Cert.DhuIdeal.main_arg0)
          ∧ r.2.mem ((c.tc : Thread Cert.DhuIdeal.nD Cert.DhuIdeal.τ).loc Cert.DhuIdeal.main_arg1) = m ((c.tc : Thread Cert.DhuIdeal.nD Cert.DhuIdeal.τ).loc Cert.DhuIdeal.main_arg1)
          ∧ r.2.mem ((c.tc : Thread Cert.DhuIdeal.nD Cert.DhuIdeal.τ).loc Cert.DhuIdeal.main_arg2) = m ((c.tc : Thread Cert.DhuIdeal.nD Cert.DhuIdeal.τ).loc Cert.DhuIdeal.main_arg2))
      ∧ θ_run (Cert.DhuReferenceIdeal.defs (F := Ideal)) (onTc (τ := Cert.DhuReferenceIdeal.τ) (Cert.DhuReferenceIdeal.main (F := Ideal))) ⟨m', fun _ => 0, g'⟩ (fun r => ∀ c : Dev Cert.DhuReferenceIdeal.nD,
          r.2.mem ((c.tc : Thread Cert.DhuReferenceIdeal.nD Cert.DhuReferenceIdeal.τ).loc Cert.DhuReferenceIdeal.main_v3) = v0 c
          ∧ r.2.mem ((c.tc : Thread Cert.DhuReferenceIdeal.nD Cert.DhuReferenceIdeal.τ).loc Cert.DhuReferenceIdeal.main_arg0) = m' ((c.tc : Thread Cert.DhuReferenceIdeal.nD Cert.DhuReferenceIdeal.τ).loc Cert.DhuReferenceIdeal.main_arg0)
          ∧ r.2.mem ((c.tc : Thread Cert.DhuReferenceIdeal.nD Cert.DhuReferenceIdeal.τ).loc Cert.DhuReferenceIdeal.main_arg1) = m' ((c.tc : Thread Cert.DhuReferenceIdeal.nD Cert.DhuReferenceIdeal.τ).loc Cert.DhuReferenceIdeal.main_arg1)
          ∧ r.2.mem ((c.tc : Thread Cert.DhuReferenceIdeal.nD Cert.DhuReferenceIdeal.τ).loc Cert.DhuReferenceIdeal.main_arg2) = m' ((c.tc : Thread Cert.DhuReferenceIdeal.nD Cert.DhuReferenceIdeal.τ).loc Cert.DhuReferenceIdeal.main_arg2))

def preserves_Gu_GuIdeal : Prop :=
  True

def algebraic_GuIdeal_GuReferenceIdeal [hGuIdeal : Cert.GuIdeal.Facts] [hGuReferenceIdeal : Cert.GuReferenceIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuReferenceIdeal.nD Cert.GuReferenceIdeal.τ Cert.GuReferenceIdeal.sig) → Buf (Elt Ideal) ℓ) (g' : Dev Cert.GuReferenceIdeal.nD → PrngReg), Pre_GuIdeal m →
    (∀ c : Dev Cert.GuIdeal.nD,
      m' ((c.tc : Thread Cert.GuReferenceIdeal.nD Cert.GuReferenceIdeal.τ).loc Cert.GuReferenceIdeal.main_arg0) = m ((c.tc : Thread Cert.GuIdeal.nD Cert.GuIdeal.τ).loc Cert.GuIdeal.main_arg0)
      ∧ m' ((c.tc : Thread Cert.GuReferenceIdeal.nD Cert.GuReferenceIdeal.τ).loc Cert.GuReferenceIdeal.main_arg1) = m ((c.tc : Thread Cert.GuIdeal.nD Cert.GuIdeal.τ).loc Cert.GuIdeal.main_arg1)
      ∧ m' ((c.tc : Thread Cert.GuReferenceIdeal.nD Cert.GuReferenceIdeal.τ).loc Cert.GuReferenceIdeal.main_arg2) = m ((c.tc : Thread Cert.GuIdeal.nD Cert.GuIdeal.τ).loc Cert.GuIdeal.main_arg2)) →
    ∃ (v0 : (c : Dev Cert.GuIdeal.nD) → Buf (Elt Ideal) ((c.tc : Thread Cert.GuIdeal.nD Cert.GuIdeal.τ).loc Cert.GuIdeal.main_v3)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v3) = v0 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
          ∧ r.2.mem ((c.tc : Thread Cert.GuIdeal.nD Cert.GuIdeal.τ).loc Cert.GuIdeal.main_arg2) = m ((c.tc : Thread Cert.GuIdeal.nD Cert.GuIdeal.τ).loc Cert.GuIdeal.main_arg2))
      ∧ θ_run (Cert.GuReferenceIdeal.defs (F := Ideal)) (onTc (τ := Cert.GuReferenceIdeal.τ) (Cert.GuReferenceIdeal.main (F := Ideal))) ⟨m', fun _ => 0, g'⟩ (fun r => ∀ c : Dev Cert.GuReferenceIdeal.nD,
          r.2.mem ((c.tc : Thread Cert.GuReferenceIdeal.nD Cert.GuReferenceIdeal.τ).loc Cert.GuReferenceIdeal.main_v2) = v0 c
          ∧ r.2.mem ((c.tc : Thread Cert.GuReferenceIdeal.nD Cert.GuReferenceIdeal.τ).loc Cert.GuReferenceIdeal.main_arg0) = m' ((c.tc : Thread Cert.GuReferenceIdeal.nD Cert.GuReferenceIdeal.τ).loc Cert.GuReferenceIdeal.main_arg0)
          ∧ r.2.mem ((c.tc : Thread Cert.GuReferenceIdeal.nD Cert.GuReferenceIdeal.τ).loc Cert.GuReferenceIdeal.main_arg1) = m' ((c.tc : Thread Cert.GuReferenceIdeal.nD Cert.GuReferenceIdeal.τ).loc Cert.GuReferenceIdeal.main_arg1)
          ∧ r.2.mem ((c.tc : Thread Cert.GuReferenceIdeal.nD Cert.GuReferenceIdeal.τ).loc Cert.GuReferenceIdeal.main_arg2) = m' ((c.tc : Thread Cert.GuReferenceIdeal.nD Cert.GuReferenceIdeal.τ).loc Cert.GuReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Swb_SwbIdeal : Prop :=
  True

def algebraic_SwbIdeal_SwbReferenceIdeal_pre_finite_swb [hSwbIdeal : Cert.SwbIdeal.Facts] [hSwbReferenceIdeal : Cert.SwbReferenceIdeal.Facts] [hPre_finite_swb : Cert.Pre_finite_swb.Facts] : Prop :=
  ∀ (m : (ℓ : Loc Cert.SwbIdeal.nD Cert.SwbIdeal.τ Cert.SwbIdeal.sig) → Buf (Elt Ideal) ℓ) (g : Dev Cert.SwbIdeal.nD → PrngReg)
    (m' : (ℓ : Loc Cert.SwbReferenceIdeal.nD Cert.SwbReferenceIdeal.τ Cert.SwbReferenceIdeal.sig) → Buf (Elt Ideal) ℓ) (g' : Dev Cert.SwbReferenceIdeal.nD → PrngReg), Pre_SwbIdeal_finite_swb m →
    (∀ c : Dev Cert.SwbIdeal.nD,
      m' ((c.tc : Thread Cert.SwbReferenceIdeal.nD Cert.SwbReferenceIdeal.τ).loc Cert.SwbReferenceIdeal.main_arg0) = m ((c.tc : Thread Cert.SwbIdeal.nD Cert.SwbIdeal.τ).loc Cert.SwbIdeal.main_arg0)
      ∧ m' ((c.tc : Thread Cert.SwbReferenceIdeal.nD Cert.SwbReferenceIdeal.τ).loc Cert.SwbReferenceIdeal.main_arg1) = m ((c.tc : Thread Cert.SwbIdeal.nD Cert.SwbIdeal.τ).loc Cert.SwbIdeal.main_arg1)) →
    ∃ (v0 : (c : Dev Cert.SwbIdeal.nD) → Buf (Elt Ideal) ((c.tc : Thread Cert.SwbIdeal.nD Cert.SwbIdeal.τ).loc Cert.SwbIdeal.main_v0_0)) (v1 : (c : Dev Cert.SwbIdeal.nD) → Buf (Elt Ideal) ((c.tc : Thread Cert.SwbIdeal.nD Cert.SwbIdeal.τ).loc Cert.SwbIdeal.main_v0_1)),
      θ_run (Cert.SwbIdeal.defs (F := Ideal)) (onTc (τ := Cert.SwbIdeal.τ) (Cert.SwbIdeal.main (F := Ideal))) ⟨m, fun _ => 0, g⟩ (fun r => ∀ c : Dev Cert.SwbIdeal.nD,
          r.2.mem ((c.tc : Thread Cert.SwbIdeal.nD Cert.SwbIdeal.τ).loc Cert.SwbIdeal.main_v0_0) = v0 c
          ∧ r.2.mem ((c.tc : Thread Cert.SwbIdeal.nD Cert.SwbIdeal.τ).loc Cert.SwbIdeal.main_v0_1) = v1 c
          ∧ r.2.mem ((c.tc : Thread Cert.SwbIdeal.nD Cert.SwbIdeal.τ).loc Cert.SwbIdeal.main_arg0) = m ((c.tc : Thread Cert.SwbIdeal.nD Cert.SwbIdeal.τ).loc Cert.SwbIdeal.main_arg0)
          ∧ r.2.mem ((c.tc : Thread Cert.SwbIdeal.nD Cert.SwbIdeal.τ).loc Cert.SwbIdeal.main_arg1) = m ((c.tc : Thread Cert.SwbIdeal.nD Cert.SwbIdeal.τ).loc Cert.SwbIdeal.main_arg1))
      ∧ θ_run (Cert.SwbReferenceIdeal.defs (F := Ideal)) (onTc (τ := Cert.SwbReferenceIdeal.τ) (Cert.SwbReferenceIdeal.main (F := Ideal))) ⟨m', fun _ => 0, g'⟩ (fun r => ∀ c : Dev Cert.SwbReferenceIdeal.nD,
          r.2.mem ((c.tc : Thread Cert.SwbReferenceIdeal.nD Cert.SwbReferenceIdeal.τ).loc Cert.SwbReferenceIdeal.main_v7) = v0 c
          ∧ r.2.mem ((c.tc : Thread Cert.SwbReferenceIdeal.nD Cert.SwbReferenceIdeal.τ).loc Cert.SwbReferenceIdeal.main_v8) = v1 c
          ∧ r.2.mem ((c.tc : Thread Cert.SwbReferenceIdeal.nD Cert.SwbReferenceIdeal.τ).loc Cert.SwbReferenceIdeal.main_arg0) = m' ((c.tc : Thread Cert.SwbReferenceIdeal.nD Cert.SwbReferenceIdeal.τ).loc Cert.SwbReferenceIdeal.main_arg0)
          ∧ r.2.mem ((c.tc : Thread Cert.SwbReferenceIdeal.nD Cert.SwbReferenceIdeal.τ).loc Cert.SwbReferenceIdeal.main_arg1) = m' ((c.tc : Thread Cert.SwbReferenceIdeal.nD Cert.SwbReferenceIdeal.τ).loc Cert.SwbReferenceIdeal.main_arg1))

def preserves_Mgb_MgbIdeal : Prop :=
  True

def algebraic_MgbIdeal_MgbReferenceIdeal [hMgbIdeal : Cert.MgbIdeal.Facts] [hMgbReferenceIdeal : Cert.MgbReferenceIdeal.Facts] : Prop :=
  ∀ (m : (ℓ : Loc Cert.MgbIdeal.nD Cert.MgbIdeal.τ Cert.MgbIdeal.sig) → Buf (Elt Ideal) ℓ) (g : Dev Cert.MgbIdeal.nD → PrngReg)
    (m' : (ℓ : Loc Cert.MgbReferenceIdeal.nD Cert.MgbReferenceIdeal.τ Cert.MgbReferenceIdeal.sig) → Buf (Elt Ideal) ℓ) (g' : Dev Cert.MgbReferenceIdeal.nD → PrngReg), Pre_MgbIdeal m →
    (∀ c : Dev Cert.MgbIdeal.nD,
      m' ((c.tc : Thread Cert.MgbReferenceIdeal.nD Cert.MgbReferenceIdeal.τ).loc Cert.MgbReferenceIdeal.main_arg0) = m ((c.tc : Thread Cert.MgbIdeal.nD Cert.MgbIdeal.τ).loc Cert.MgbIdeal.main_arg0)
      ∧ m' ((c.tc : Thread Cert.MgbReferenceIdeal.nD Cert.MgbReferenceIdeal.τ).loc Cert.MgbReferenceIdeal.main_arg1) = m ((c.tc : Thread Cert.MgbIdeal.nD Cert.MgbIdeal.τ).loc Cert.MgbIdeal.main_arg1)
      ∧ m' ((c.tc : Thread Cert.MgbReferenceIdeal.nD Cert.MgbReferenceIdeal.τ).loc Cert.MgbReferenceIdeal.main_arg2) = m ((c.tc : Thread Cert.MgbIdeal.nD Cert.MgbIdeal.τ).loc Cert.MgbIdeal.main_arg2)
      ∧ m' ((c.tc : Thread Cert.MgbReferenceIdeal.nD Cert.MgbReferenceIdeal.τ).loc Cert.MgbReferenceIdeal.main_arg3) = m ((c.tc : Thread Cert.MgbIdeal.nD Cert.MgbIdeal.τ).loc Cert.MgbIdeal.main_arg3)) →
    ∃ (v0 : (c : Dev Cert.MgbIdeal.nD) → Buf (Elt Ideal) ((c.tc : Thread Cert.MgbIdeal.nD Cert.MgbIdeal.τ).loc Cert.MgbIdeal.main_v0_0)) (v1 : (c : Dev Cert.MgbIdeal.nD) → Buf (Elt Ideal) ((c.tc : Thread Cert.MgbIdeal.nD Cert.MgbIdeal.τ).loc Cert.MgbIdeal.main_v0_1)) (v2 : (c : Dev Cert.MgbIdeal.nD) → Buf (Elt Ideal) ((c.tc : Thread Cert.MgbIdeal.nD Cert.MgbIdeal.τ).loc Cert.MgbIdeal.main_v0_2)) (v3 : (c : Dev Cert.MgbIdeal.nD) → Buf (Elt Ideal) ((c.tc : Thread Cert.MgbIdeal.nD Cert.MgbIdeal.τ).loc Cert.MgbIdeal.main_v0_3)),
      θ_run (Cert.MgbIdeal.defs (F := Ideal)) (onTc (τ := Cert.MgbIdeal.τ) (Cert.MgbIdeal.main (F := Ideal))) ⟨m, fun _ => 0, g⟩ (fun r => ∀ c : Dev Cert.MgbIdeal.nD,
          r.2.mem ((c.tc : Thread Cert.MgbIdeal.nD Cert.MgbIdeal.τ).loc Cert.MgbIdeal.main_v0_0) = v0 c
          ∧ r.2.mem ((c.tc : Thread Cert.MgbIdeal.nD Cert.MgbIdeal.τ).loc Cert.MgbIdeal.main_v0_1) = v1 c
          ∧ r.2.mem ((c.tc : Thread Cert.MgbIdeal.nD Cert.MgbIdeal.τ).loc Cert.MgbIdeal.main_v0_2) = v2 c
          ∧ r.2.mem ((c.tc : Thread Cert.MgbIdeal.nD Cert.MgbIdeal.τ).loc Cert.MgbIdeal.main_v0_3) = v3 c
          ∧ r.2.mem ((c.tc : Thread Cert.MgbIdeal.nD Cert.MgbIdeal.τ).loc Cert.MgbIdeal.main_arg0) = m ((c.tc : Thread Cert.MgbIdeal.nD Cert.MgbIdeal.τ).loc Cert.MgbIdeal.main_arg0)
          ∧ r.2.mem ((c.tc : Thread Cert.MgbIdeal.nD Cert.MgbIdeal.τ).loc Cert.MgbIdeal.main_arg1) = m ((c.tc : Thread Cert.MgbIdeal.nD Cert.MgbIdeal.τ).loc Cert.MgbIdeal.main_arg1)
          ∧ r.2.mem ((c.tc : Thread Cert.MgbIdeal.nD Cert.MgbIdeal.τ).loc Cert.MgbIdeal.main_arg2) = m ((c.tc : Thread Cert.MgbIdeal.nD Cert.MgbIdeal.τ).loc Cert.MgbIdeal.main_arg2)
          ∧ r.2.mem ((c.tc : Thread Cert.MgbIdeal.nD Cert.MgbIdeal.τ).loc Cert.MgbIdeal.main_arg3) = m ((c.tc : Thread Cert.MgbIdeal.nD Cert.MgbIdeal.τ).loc Cert.MgbIdeal.main_arg3))
      ∧ θ_run (Cert.MgbReferenceIdeal.defs (F := Ideal)) (onTc (τ := Cert.MgbReferenceIdeal.τ) (Cert.MgbReferenceIdeal.main (F := Ideal))) ⟨m', fun _ => 0, g'⟩ (fun r => ∀ c : Dev Cert.MgbReferenceIdeal.nD,
          r.2.mem ((c.tc : Thread Cert.MgbReferenceIdeal.nD Cert.MgbReferenceIdeal.τ).loc Cert.MgbReferenceIdeal.main_v31) = v0 c
          ∧ r.2.mem ((c.tc : Thread Cert.MgbReferenceIdeal.nD Cert.MgbReferenceIdeal.τ).loc Cert.MgbReferenceIdeal.main_v32) = v1 c
          ∧ r.2.mem ((c.tc : Thread Cert.MgbReferenceIdeal.nD Cert.MgbReferenceIdeal.τ).loc Cert.MgbReferenceIdeal.main_v33) = v2 c
          ∧ r.2.mem ((c.tc : Thread Cert.MgbReferenceIdeal.nD Cert.MgbReferenceIdeal.τ).loc Cert.MgbReferenceIdeal.main_v34) = v3 c
          ∧ r.2.mem ((c.tc : Thread Cert.MgbReferenceIdeal.nD Cert.MgbReferenceIdeal.τ).loc Cert.MgbReferenceIdeal.main_arg0) = m' ((c.tc : Thread Cert.MgbReferenceIdeal.nD Cert.MgbReferenceIdeal.τ).loc Cert.MgbReferenceIdeal.main_arg0)
          ∧ r.2.mem ((c.tc : Thread Cert.MgbReferenceIdeal.nD Cert.MgbReferenceIdeal.τ).loc Cert.MgbReferenceIdeal.main_arg1) = m' ((c.tc : Thread Cert.MgbReferenceIdeal.nD Cert.MgbReferenceIdeal.τ).loc Cert.MgbReferenceIdeal.main_arg1)
          ∧ r.2.mem ((c.tc : Thread Cert.MgbReferenceIdeal.nD Cert.MgbReferenceIdeal.τ).loc Cert.MgbReferenceIdeal.main_arg2) = m' ((c.tc : Thread Cert.MgbReferenceIdeal.nD Cert.MgbReferenceIdeal.τ).loc Cert.MgbReferenceIdeal.main_arg2)
          ∧ r.2.mem ((c.tc : Thread Cert.MgbReferenceIdeal.nD Cert.MgbReferenceIdeal.τ).loc Cert.MgbReferenceIdeal.main_arg3) = m' ((c.tc : Thread Cert.MgbReferenceIdeal.nD Cert.MgbReferenceIdeal.τ).loc Cert.MgbReferenceIdeal.main_arg3))

def preserves_Drms_DrmsIdeal : Prop :=
  True

def algebraic_DrmsIdeal_DrmsReferenceIdeal [hDrmsIdeal : Cert.DrmsIdeal.Facts] [hDrmsReferenceIdeal : Cert.DrmsReferenceIdeal.Facts] : Prop :=
  ∀ (m : (ℓ : Loc Cert.DrmsIdeal.nD Cert.DrmsIdeal.τ Cert.DrmsIdeal.sig) → Buf (Elt Ideal) ℓ) (g : Dev Cert.DrmsIdeal.nD → PrngReg)
    (m' : (ℓ : Loc Cert.DrmsReferenceIdeal.nD Cert.DrmsReferenceIdeal.τ Cert.DrmsReferenceIdeal.sig) → Buf (Elt Ideal) ℓ) (g' : Dev Cert.DrmsReferenceIdeal.nD → PrngReg), Pre_DrmsIdeal m →
    (∀ c : Dev Cert.DrmsIdeal.nD,
      m' ((c.tc : Thread Cert.DrmsReferenceIdeal.nD Cert.DrmsReferenceIdeal.τ).loc Cert.DrmsReferenceIdeal.main_arg0) = m ((c.tc : Thread Cert.DrmsIdeal.nD Cert.DrmsIdeal.τ).loc Cert.DrmsIdeal.main_arg0)
      ∧ m' ((c.tc : Thread Cert.DrmsReferenceIdeal.nD Cert.DrmsReferenceIdeal.τ).loc Cert.DrmsReferenceIdeal.main_arg1) = m ((c.tc : Thread Cert.DrmsIdeal.nD Cert.DrmsIdeal.τ).loc Cert.DrmsIdeal.main_arg1)
      ∧ m' ((c.tc : Thread Cert.DrmsReferenceIdeal.nD Cert.DrmsReferenceIdeal.τ).loc Cert.DrmsReferenceIdeal.main_arg2) = m ((c.tc : Thread Cert.DrmsIdeal.nD Cert.DrmsIdeal.τ).loc Cert.DrmsIdeal.main_arg2)
      ∧ m' ((c.tc : Thread Cert.DrmsReferenceIdeal.nD Cert.DrmsReferenceIdeal.τ).loc Cert.DrmsReferenceIdeal.main_arg3) = m ((c.tc : Thread Cert.DrmsIdeal.nD Cert.DrmsIdeal.τ).loc Cert.DrmsIdeal.main_arg3)) →
    ∃ (v0 : (c : Dev Cert.DrmsIdeal.nD) → Buf (Elt Ideal) ((c.tc : Thread Cert.DrmsIdeal.nD Cert.DrmsIdeal.τ).loc Cert.DrmsIdeal.main_v0_0)) (v1 : (c : Dev Cert.DrmsIdeal.nD) → Buf (Elt Ideal) ((c.tc : Thread Cert.DrmsIdeal.nD Cert.DrmsIdeal.τ).loc Cert.DrmsIdeal.main_v0_1)),
      θ_run (Cert.DrmsIdeal.defs (F := Ideal)) (onTc (τ := Cert.DrmsIdeal.τ) (Cert.DrmsIdeal.main (F := Ideal))) ⟨m, fun _ => 0, g⟩ (fun r => ∀ c : Dev Cert.DrmsIdeal.nD,
          r.2.mem ((c.tc : Thread Cert.DrmsIdeal.nD Cert.DrmsIdeal.τ).loc Cert.DrmsIdeal.main_v0_0) = v0 c
          ∧ r.2.mem ((c.tc : Thread Cert.DrmsIdeal.nD Cert.DrmsIdeal.τ).loc Cert.DrmsIdeal.main_v0_1) = v1 c
          ∧ r.2.mem ((c.tc : Thread Cert.DrmsIdeal.nD Cert.DrmsIdeal.τ).loc Cert.DrmsIdeal.main_arg0) = m ((c.tc : Thread Cert.DrmsIdeal.nD Cert.DrmsIdeal.τ).loc Cert.DrmsIdeal.main_arg0)
          ∧ r.2.mem ((c.tc : Thread Cert.DrmsIdeal.nD Cert.DrmsIdeal.τ).loc Cert.DrmsIdeal.main_arg1) = m ((c.tc : Thread Cert.DrmsIdeal.nD Cert.DrmsIdeal.τ).loc Cert.DrmsIdeal.main_arg1)
          ∧ r.2.mem ((c.tc : Thread Cert.DrmsIdeal.nD Cert.DrmsIdeal.τ).loc Cert.DrmsIdeal.main_arg2) = m ((c.tc : Thread Cert.DrmsIdeal.nD Cert.DrmsIdeal.τ).loc Cert.DrmsIdeal.main_arg2)
          ∧ r.2.mem ((c.tc : Thread Cert.DrmsIdeal.nD Cert.DrmsIdeal.τ).loc Cert.DrmsIdeal.main_arg3) = m ((c.tc : Thread Cert.DrmsIdeal.nD Cert.DrmsIdeal.τ).loc Cert.DrmsIdeal.main_arg3))
      ∧ θ_run (Cert.DrmsReferenceIdeal.defs (F := Ideal)) (onTc (τ := Cert.DrmsReferenceIdeal.τ) (Cert.DrmsReferenceIdeal.main (F := Ideal))) ⟨m', fun _ => 0, g'⟩ (fun r => ∀ c : Dev Cert.DrmsReferenceIdeal.nD,
          r.2.mem ((c.tc : Thread Cert.DrmsReferenceIdeal.nD Cert.DrmsReferenceIdeal.τ).loc Cert.DrmsReferenceIdeal.main_v34) = v0 c
          ∧ r.2.mem ((c.tc : Thread Cert.DrmsReferenceIdeal.nD Cert.DrmsReferenceIdeal.τ).loc Cert.DrmsReferenceIdeal.main_v17) = v1 c
          ∧ r.2.mem ((c.tc : Thread Cert.DrmsReferenceIdeal.nD Cert.DrmsReferenceIdeal.τ).loc Cert.DrmsReferenceIdeal.main_arg0) = m' ((c.tc : Thread Cert.DrmsReferenceIdeal.nD Cert.DrmsReferenceIdeal.τ).loc Cert.DrmsReferenceIdeal.main_arg0)
          ∧ r.2.mem ((c.tc : Thread Cert.DrmsReferenceIdeal.nD Cert.DrmsReferenceIdeal.τ).loc Cert.DrmsReferenceIdeal.main_arg1) = m' ((c.tc : Thread Cert.DrmsReferenceIdeal.nD Cert.DrmsReferenceIdeal.τ).loc Cert.DrmsReferenceIdeal.main_arg1)
          ∧ r.2.mem ((c.tc : Thread Cert.DrmsReferenceIdeal.nD Cert.DrmsReferenceIdeal.τ).loc Cert.DrmsReferenceIdeal.main_arg2) = m' ((c.tc : Thread Cert.DrmsReferenceIdeal.nD Cert.DrmsReferenceIdeal.τ).loc Cert.DrmsReferenceIdeal.main_arg2)
          ∧ r.2.mem ((c.tc : Thread Cert.DrmsReferenceIdeal.nD Cert.DrmsReferenceIdeal.τ).loc Cert.DrmsReferenceIdeal.main_arg3) = m' ((c.tc : Thread Cert.DrmsReferenceIdeal.nD Cert.DrmsReferenceIdeal.τ).loc Cert.DrmsReferenceIdeal.main_arg3))

def preserves_Fwd_FwdIdeal : Prop :=
  True

def algebraic_FwdIdeal_FwdReferenceIdeal_pre_finite_fwd [hFwdIdeal : Cert.FwdIdeal.Facts] [hFwdReferenceIdeal : Cert.FwdReferenceIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdIdeal_finite_fwd m →
    (∀ c : Dev Cert.FwdIdeal.nD,
      m' ((c.tc : Thread Cert.FwdReferenceIdeal.nD Cert.FwdReferenceIdeal.τ).loc Cert.FwdReferenceIdeal.main_arg0) = m ((c.tc : Thread Cert.FwdIdeal.nD Cert.FwdIdeal.τ).loc Cert.FwdIdeal.main_arg0)
      ∧ m' ((c.tc : Thread Cert.FwdReferenceIdeal.nD Cert.FwdReferenceIdeal.τ).loc Cert.FwdReferenceIdeal.main_arg1) = m ((c.tc : Thread Cert.FwdIdeal.nD Cert.FwdIdeal.τ).loc Cert.FwdIdeal.main_arg1)
      ∧ m' ((c.tc : Thread Cert.FwdReferenceIdeal.nD Cert.FwdReferenceIdeal.τ).loc Cert.FwdReferenceIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v15_0)) (v1 : (c : Dev Cert.FwdIdeal.nD) → Buf (Elt Ideal) ((c.tc : Thread Cert.FwdIdeal.nD Cert.FwdIdeal.τ).loc Cert.FwdIdeal.main_v15_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v15_0) = v0 c
          ∧ r.2.mem ((c.tc : Thread Cert.FwdIdeal.nD Cert.FwdIdeal.τ).loc Cert.FwdIdeal.main_v15_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v19) = v0 c
          ∧ r.2.mem ((c.tc : Thread Cert.FwdReferenceIdeal.nD Cert.FwdReferenceIdeal.τ).loc Cert.FwdReferenceIdeal.main_v23) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2))

def preserves_Inb_InbIdeal : Prop :=
  True

def algebraic_InbIdeal_InbReferenceIdeal [hInbIdeal : Cert.InbIdeal.Facts] [hInbReferenceIdeal : Cert.InbReferenceIdeal.Facts] : Prop :=
  ∀ (m : (ℓ : Loc Cert.InbIdeal.nD Cert.InbIdeal.τ Cert.InbIdeal.sig) → Buf (Elt Ideal) ℓ) (g : Dev Cert.InbIdeal.nD → PrngReg)
    (m' : (ℓ : Loc Cert.InbReferenceIdeal.nD Cert.InbReferenceIdeal.τ Cert.InbReferenceIdeal.sig) → Buf (Elt Ideal) ℓ) (g' : Dev Cert.InbReferenceIdeal.nD → PrngReg), Pre_InbIdeal m →
    (∀ c : Dev Cert.InbIdeal.nD,
      m' ((c.tc : Thread Cert.InbReferenceIdeal.nD Cert.InbReferenceIdeal.τ).loc Cert.InbReferenceIdeal.main_arg0) = m ((c.tc : Thread Cert.InbIdeal.nD Cert.InbIdeal.τ).loc Cert.InbIdeal.main_arg0)
      ∧ m' ((c.tc : Thread Cert.InbReferenceIdeal.nD Cert.InbReferenceIdeal.τ).loc Cert.InbReferenceIdeal.main_arg1) = m ((c.tc : Thread Cert.InbIdeal.nD Cert.InbIdeal.τ).loc Cert.InbIdeal.main_arg1)) →
    ∃ (v0 : (c : Dev Cert.InbIdeal.nD) → Buf (Elt Ideal) ((c.tc : Thread Cert.InbIdeal.nD Cert.InbIdeal.τ).loc Cert.InbIdeal.main_v2)),
      θ_run (Cert.InbIdeal.defs (F := Ideal)) (onTc (τ := Cert.InbIdeal.τ) (Cert.InbIdeal.main (F := Ideal))) ⟨m, fun _ => 0, g⟩ (fun r => ∀ c : Dev Cert.InbIdeal.nD,
          r.2.mem ((c.tc : Thread Cert.InbIdeal.nD Cert.InbIdeal.τ).loc Cert.InbIdeal.main_v2) = v0 c
          ∧ r.2.mem ((c.tc : Thread Cert.InbIdeal.nD Cert.InbIdeal.τ).loc Cert.InbIdeal.main_arg0) = m ((c.tc : Thread Cert.InbIdeal.nD Cert.InbIdeal.τ).loc Cert.InbIdeal.main_arg0)
          ∧ r.2.mem ((c.tc : Thread Cert.InbIdeal.nD Cert.InbIdeal.τ).loc Cert.InbIdeal.main_arg1) = m ((c.tc : Thread Cert.InbIdeal.nD Cert.InbIdeal.τ).loc Cert.InbIdeal.main_arg1))
      ∧ θ_run (Cert.InbReferenceIdeal.defs (F := Ideal)) (onTc (τ := Cert.InbReferenceIdeal.τ) (Cert.InbReferenceIdeal.main (F := Ideal))) ⟨m', fun _ => 0, g'⟩ (fun r => ∀ c : Dev Cert.InbReferenceIdeal.nD,
          r.2.mem ((c.tc : Thread Cert.InbReferenceIdeal.nD Cert.InbReferenceIdeal.τ).loc Cert.InbReferenceIdeal.main_v0) = v0 c
          ∧ r.2.mem ((c.tc : Thread Cert.InbReferenceIdeal.nD Cert.InbReferenceIdeal.τ).loc Cert.InbReferenceIdeal.main_arg0) = m' ((c.tc : Thread Cert.InbReferenceIdeal.nD Cert.InbReferenceIdeal.τ).loc Cert.InbReferenceIdeal.main_arg0)
          ∧ r.2.mem ((c.tc : Thread Cert.InbReferenceIdeal.nD Cert.InbReferenceIdeal.τ).loc Cert.InbReferenceIdeal.main_arg1) = m' ((c.tc : Thread Cert.InbReferenceIdeal.nD Cert.InbReferenceIdeal.τ).loc Cert.InbReferenceIdeal.main_arg1))

def preserves_Bra_BraIdeal : Prop :=
  True

def algebraic_BraIdeal_BraReferenceIdeal [hBraIdeal : Cert.BraIdeal.Facts] [hBraReferenceIdeal : Cert.BraReferenceIdeal.Facts] : Prop :=
  ∀ (m : (ℓ : Loc Cert.BraIdeal.nD Cert.BraIdeal.τ Cert.BraIdeal.sig) → Buf (Elt Ideal) ℓ) (g : Dev Cert.BraIdeal.nD → PrngReg)
    (m' : (ℓ : Loc Cert.BraReferenceIdeal.nD Cert.BraReferenceIdeal.τ Cert.BraReferenceIdeal.sig) → Buf (Elt Ideal) ℓ) (g' : Dev Cert.BraReferenceIdeal.nD → PrngReg), Pre_BraIdeal m →
    (∀ c : Dev Cert.BraIdeal.nD,
      m' ((c.tc : Thread Cert.BraReferenceIdeal.nD Cert.BraReferenceIdeal.τ).loc Cert.BraReferenceIdeal.main_arg0) = m ((c.tc : Thread Cert.BraIdeal.nD Cert.BraIdeal.τ).loc Cert.BraIdeal.main_arg0)
      ∧ m' ((c.tc : Thread Cert.BraReferenceIdeal.nD Cert.BraReferenceIdeal.τ).loc Cert.BraReferenceIdeal.main_arg1) = m ((c.tc : Thread Cert.BraIdeal.nD Cert.BraIdeal.τ).loc Cert.BraIdeal.main_arg1)) →
    ∃ (v0 : (c : Dev Cert.BraIdeal.nD) → Buf (Elt Ideal) ((c.tc : Thread Cert.BraIdeal.nD Cert.BraIdeal.τ).loc Cert.BraIdeal.main_v1)),
      θ_run (Cert.BraIdeal.defs (F := Ideal)) (onTc (τ := Cert.BraIdeal.τ) (Cert.BraIdeal.main (F := Ideal))) ⟨m, fun _ => 0, g⟩ (fun r => ∀ c : Dev Cert.BraIdeal.nD,
          r.2.mem ((c.tc : Thread Cert.BraIdeal.nD Cert.BraIdeal.τ).loc Cert.BraIdeal.main_v1) = v0 c
          ∧ r.2.mem ((c.tc : Thread Cert.BraIdeal.nD Cert.BraIdeal.τ).loc Cert.BraIdeal.main_arg0) = m ((c.tc : Thread Cert.BraIdeal.nD Cert.BraIdeal.τ).loc Cert.BraIdeal.main_arg0)
          ∧ r.2.mem ((c.tc : Thread Cert.BraIdeal.nD Cert.BraIdeal.τ).loc Cert.BraIdeal.main_arg1) = m ((c.tc : Thread Cert.BraIdeal.nD Cert.BraIdeal.τ).loc Cert.BraIdeal.main_arg1))
      ∧ θ_run (Cert.BraReferenceIdeal.defs (F := Ideal)) (onTc (τ := Cert.BraReferenceIdeal.τ) (Cert.BraReferenceIdeal.main (F := Ideal))) ⟨m', fun _ => 0, g'⟩ (fun r => ∀ c : Dev Cert.BraReferenceIdeal.nD,
          r.2.mem ((c.tc : Thread Cert.BraReferenceIdeal.nD Cert.BraReferenceIdeal.τ).loc Cert.BraReferenceIdeal.main_v0) = v0 c
          ∧ r.2.mem ((c.tc : Thread Cert.BraReferenceIdeal.nD Cert.BraReferenceIdeal.τ).loc Cert.BraReferenceIdeal.main_arg0) = m' ((c.tc : Thread Cert.BraReferenceIdeal.nD Cert.BraReferenceIdeal.τ).loc Cert.BraReferenceIdeal.main_arg0)
          ∧ r.2.mem ((c.tc : Thread Cert.BraReferenceIdeal.nD Cert.BraReferenceIdeal.τ).loc Cert.BraReferenceIdeal.main_arg1) = m' ((c.tc : Thread Cert.BraReferenceIdeal.nD Cert.BraReferenceIdeal.τ).loc Cert.BraReferenceIdeal.main_arg1))

def preserves_Brb_BrbIdeal : Prop :=
  True

def algebraic_BrbIdeal_BrbReferenceIdeal [hBrbIdeal : Cert.BrbIdeal.Facts] [hBrbReferenceIdeal : Cert.BrbReferenceIdeal.Facts] : Prop :=
  ∀ (m : (ℓ : Loc Cert.BrbIdeal.nD Cert.BrbIdeal.τ Cert.BrbIdeal.sig) → Buf (Elt Ideal) ℓ) (g : Dev Cert.BrbIdeal.nD → PrngReg)
    (m' : (ℓ : Loc Cert.BrbReferenceIdeal.nD Cert.BrbReferenceIdeal.τ Cert.BrbReferenceIdeal.sig) → Buf (Elt Ideal) ℓ) (g' : Dev Cert.BrbReferenceIdeal.nD → PrngReg), Pre_BrbIdeal m →
    (∀ c : Dev Cert.BrbIdeal.nD,
      m' ((c.tc : Thread Cert.BrbReferenceIdeal.nD Cert.BrbReferenceIdeal.τ).loc Cert.BrbReferenceIdeal.main_arg0) = m ((c.tc : Thread Cert.BrbIdeal.nD Cert.BrbIdeal.τ).loc Cert.BrbIdeal.main_arg0)
      ∧ m' ((c.tc : Thread Cert.BrbReferenceIdeal.nD Cert.BrbReferenceIdeal.τ).loc Cert.BrbReferenceIdeal.main_arg1) = m ((c.tc : Thread Cert.BrbIdeal.nD Cert.BrbIdeal.τ).loc Cert.BrbIdeal.main_arg1)) →
    ∃ (v0 : (c : Dev Cert.BrbIdeal.nD) → Buf (Elt Ideal) ((c.tc : Thread Cert.BrbIdeal.nD Cert.BrbIdeal.τ).loc Cert.BrbIdeal.main_v2)),
      θ_run (Cert.BrbIdeal.defs (F := Ideal)) (onTc (τ := Cert.BrbIdeal.τ) (Cert.BrbIdeal.main (F := Ideal))) ⟨m, fun _ => 0, g⟩ (fun r => ∀ c : Dev Cert.BrbIdeal.nD,
          r.2.mem ((c.tc : Thread Cert.BrbIdeal.nD Cert.BrbIdeal.τ).loc Cert.BrbIdeal.main_v2) = v0 c
          ∧ r.2.mem ((c.tc : Thread Cert.BrbIdeal.nD Cert.BrbIdeal.τ).loc Cert.BrbIdeal.main_arg0) = m ((c.tc : Thread Cert.BrbIdeal.nD Cert.BrbIdeal.τ).loc Cert.BrbIdeal.main_arg0)
          ∧ r.2.mem ((c.tc : Thread Cert.BrbIdeal.nD Cert.BrbIdeal.τ).loc Cert.BrbIdeal.main_arg1) = m ((c.tc : Thread Cert.BrbIdeal.nD Cert.BrbIdeal.τ).loc Cert.BrbIdeal.main_arg1))
      ∧ θ_run (Cert.BrbReferenceIdeal.defs (F := Ideal)) (onTc (τ := Cert.BrbReferenceIdeal.τ) (Cert.BrbReferenceIdeal.main (F := Ideal))) ⟨m', fun _ => 0, g'⟩ (fun r => ∀ c : Dev Cert.BrbReferenceIdeal.nD,
          r.2.mem ((c.tc : Thread Cert.BrbReferenceIdeal.nD Cert.BrbReferenceIdeal.τ).loc Cert.BrbReferenceIdeal.main_v0) = v0 c
          ∧ r.2.mem ((c.tc : Thread Cert.BrbReferenceIdeal.nD Cert.BrbReferenceIdeal.τ).loc Cert.BrbReferenceIdeal.main_arg0) = m' ((c.tc : Thread Cert.BrbReferenceIdeal.nD Cert.BrbReferenceIdeal.τ).loc Cert.BrbReferenceIdeal.main_arg0)
          ∧ r.2.mem ((c.tc : Thread Cert.BrbReferenceIdeal.nD Cert.BrbReferenceIdeal.τ).loc Cert.BrbReferenceIdeal.main_arg1) = m' ((c.tc : Thread Cert.BrbReferenceIdeal.nD Cert.BrbReferenceIdeal.τ).loc Cert.BrbReferenceIdeal.main_arg1))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v1) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2))

def preserves_Dmg_DmgIdeal : Prop :=
  True

def algebraic_DmgIdeal_DmgReferenceIdeal [hDmgIdeal : Cert.DmgIdeal.Facts] [hDmgReferenceIdeal : Cert.DmgReferenceIdeal.Facts] : Prop :=
  ∀ (m : (ℓ : Loc Cert.DmgIdeal.nD Cert.DmgIdeal.τ Cert.DmgIdeal.sig) → Buf (Elt Ideal) ℓ) (g : Dev Cert.DmgIdeal.nD → PrngReg)
    (m' : (ℓ : Loc Cert.DmgReferenceIdeal.nD Cert.DmgReferenceIdeal.τ Cert.DmgReferenceIdeal.sig) → Buf (Elt Ideal) ℓ) (g' : Dev Cert.DmgReferenceIdeal.nD → PrngReg), Pre_DmgIdeal m →
    (∀ c : Dev Cert.DmgIdeal.nD,
      m' ((c.tc : Thread Cert.DmgReferenceIdeal.nD Cert.DmgReferenceIdeal.τ).loc Cert.DmgReferenceIdeal.main_arg0) = m ((c.tc : Thread Cert.DmgIdeal.nD Cert.DmgIdeal.τ).loc Cert.DmgIdeal.main_arg0)
      ∧ m' ((c.tc : Thread Cert.DmgReferenceIdeal.nD Cert.DmgReferenceIdeal.τ).loc Cert.DmgReferenceIdeal.main_arg1) = m ((c.tc : Thread Cert.DmgIdeal.nD Cert.DmgIdeal.τ).loc Cert.DmgIdeal.main_arg1)) →
    ∃ (v0 : (c : Dev Cert.DmgIdeal.nD) → Buf (Elt Ideal) ((c.tc : Thread Cert.DmgIdeal.nD Cert.DmgIdeal.τ).loc Cert.DmgIdeal.main_v1)),
      θ_run (Cert.DmgIdeal.defs (F := Ideal)) (onTc (τ := Cert.DmgIdeal.τ) (Cert.DmgIdeal.main (F := Ideal))) ⟨m, fun _ => 0, g⟩ (fun r => ∀ c : Dev Cert.DmgIdeal.nD,
          r.2.mem ((c.tc : Thread Cert.DmgIdeal.nD Cert.DmgIdeal.τ).loc Cert.DmgIdeal.main_v1) = v0 c
          ∧ r.2.mem ((c.tc : Thread Cert.DmgIdeal.nD Cert.DmgIdeal.τ).loc Cert.DmgIdeal.main_arg0) = m ((c.tc : Thread Cert.DmgIdeal.nD Cert.DmgIdeal.τ).loc Cert.DmgIdeal.main_arg0)
          ∧ r.2.mem ((c.tc : Thread Cert.DmgIdeal.nD Cert.DmgIdeal.τ).loc Cert.DmgIdeal.main_arg1) = m ((c.tc : Thread Cert.DmgIdeal.nD Cert.DmgIdeal.τ).loc Cert.DmgIdeal.main_arg1))
      ∧ θ_run (Cert.DmgReferenceIdeal.defs (F := Ideal)) (onTc (τ := Cert.DmgReferenceIdeal.τ) (Cert.DmgReferenceIdeal.main (F := Ideal))) ⟨m', fun _ => 0, g'⟩ (fun r => ∀ c : Dev Cert.DmgReferenceIdeal.nD,
          r.2.mem ((c.tc : Thread Cert.DmgReferenceIdeal.nD Cert.DmgReferenceIdeal.τ).loc Cert.DmgReferenceIdeal.main_v2) = v0 c
          ∧ r.2.mem ((c.tc : Thread Cert.DmgReferenceIdeal.nD Cert.DmgReferenceIdeal.τ).loc Cert.DmgReferenceIdeal.main_arg0) = m' ((c.tc : Thread Cert.DmgReferenceIdeal.nD Cert.DmgReferenceIdeal.τ).loc Cert.DmgReferenceIdeal.main_arg0)
          ∧ r.2.mem ((c.tc : Thread Cert.DmgReferenceIdeal.nD Cert.DmgReferenceIdeal.τ).loc Cert.DmgReferenceIdeal.main_arg1) = m' ((c.tc : Thread Cert.DmgReferenceIdeal.nD Cert.DmgReferenceIdeal.τ).loc Cert.DmgReferenceIdeal.main_arg1))

def preserves_Dab_DabIdeal : Prop :=
  True

def algebraic_DabIdeal_DabReferenceIdeal [hDabIdeal : Cert.DabIdeal.Facts] [hDabReferenceIdeal : Cert.DabReferenceIdeal.Facts] : Prop :=
  ∀ (m : (ℓ : Loc Cert.DabIdeal.nD Cert.DabIdeal.τ Cert.DabIdeal.sig) → Buf (Elt Ideal) ℓ) (g : Dev Cert.DabIdeal.nD → PrngReg)
    (m' : (ℓ : Loc Cert.DabReferenceIdeal.nD Cert.DabReferenceIdeal.τ Cert.DabReferenceIdeal.sig) → Buf (Elt Ideal) ℓ) (g' : Dev Cert.DabReferenceIdeal.nD → PrngReg), Pre_DabIdeal m →
    (∀ c : Dev Cert.DabIdeal.nD,
      m' ((c.tc : Thread Cert.DabReferenceIdeal.nD Cert.DabReferenceIdeal.τ).loc Cert.DabReferenceIdeal.main_arg0) = m ((c.tc : Thread Cert.DabIdeal.nD Cert.DabIdeal.τ).loc Cert.DabIdeal.main_arg0)
      ∧ m' ((c.tc : Thread Cert.DabReferenceIdeal.nD Cert.DabReferenceIdeal.τ).loc Cert.DabReferenceIdeal.main_arg1) = m ((c.tc : Thread Cert.DabIdeal.nD Cert.DabIdeal.τ).loc Cert.DabIdeal.main_arg1)) →
    ∃ (v0 : (c : Dev Cert.DabIdeal.nD) → Buf (Elt Ideal) ((c.tc : Thread Cert.DabIdeal.nD Cert.DabIdeal.τ).loc Cert.DabIdeal.main_v2)),
      θ_run (Cert.DabIdeal.defs (F := Ideal)) (onTc (τ := Cert.DabIdeal.τ) (Cert.DabIdeal.main (F := Ideal))) ⟨m, fun _ => 0, g⟩ (fun r => ∀ c : Dev Cert.DabIdeal.nD,
          r.2.mem ((c.tc : Thread Cert.DabIdeal.nD Cert.DabIdeal.τ).loc Cert.DabIdeal.main_v2) = v0 c
          ∧ r.2.mem ((c.tc : Thread Cert.DabIdeal.nD Cert.DabIdeal.τ).loc Cert.DabIdeal.main_arg0) = m ((c.tc : Thread Cert.DabIdeal.nD Cert.DabIdeal.τ).loc Cert.DabIdeal.main_arg0)
          ∧ r.2.mem ((c.tc : Thread Cert.DabIdeal.nD Cert.DabIdeal.τ).loc Cert.DabIdeal.main_arg1) = m ((c.tc : Thread Cert.DabIdeal.nD Cert.DabIdeal.τ).loc Cert.DabIdeal.main_arg1))
      ∧ θ_run (Cert.DabReferenceIdeal.defs (F := Ideal)) (onTc (τ := Cert.DabReferenceIdeal.τ) (Cert.DabReferenceIdeal.main (F := Ideal))) ⟨m', fun _ => 0, g'⟩ (fun r => ∀ c : Dev Cert.DabReferenceIdeal.nD,
          r.2.mem ((c.tc : Thread Cert.DabReferenceIdeal.nD Cert.DabReferenceIdeal.τ).loc Cert.DabReferenceIdeal.main_v2) = v0 c
          ∧ r.2.mem ((c.tc : Thread Cert.DabReferenceIdeal.nD Cert.DabReferenceIdeal.τ).loc Cert.DabReferenceIdeal.main_arg0) = m' ((c.tc : Thread Cert.DabReferenceIdeal.nD Cert.DabReferenceIdeal.τ).loc Cert.DabReferenceIdeal.main_arg0)
          ∧ r.2.mem ((c.tc : Thread Cert.DabReferenceIdeal.nD Cert.DabReferenceIdeal.τ).loc Cert.DabReferenceIdeal.main_arg1) = m' ((c.tc : Thread Cert.DabReferenceIdeal.nD Cert.DabReferenceIdeal.τ).loc Cert.DabReferenceIdeal.main_arg1))

def preserves_Dmb_DmbIdeal : Prop :=
  True

def algebraic_DmbIdeal_DmbReferenceIdeal [hDmbIdeal : Cert.DmbIdeal.Facts] [hDmbReferenceIdeal : Cert.DmbReferenceIdeal.Facts] : Prop :=
  ∀ (m : (ℓ : Loc Cert.DmbIdeal.nD Cert.DmbIdeal.τ Cert.DmbIdeal.sig) → Buf (Elt Ideal) ℓ) (g : Dev Cert.DmbIdeal.nD → PrngReg)
    (m' : (ℓ : Loc Cert.DmbReferenceIdeal.nD Cert.DmbReferenceIdeal.τ Cert.DmbReferenceIdeal.sig) → Buf (Elt Ideal) ℓ) (g' : Dev Cert.DmbReferenceIdeal.nD → PrngReg), Pre_DmbIdeal m →
    (∀ c : Dev Cert.DmbIdeal.nD,
      m' ((c.tc : Thread Cert.DmbReferenceIdeal.nD Cert.DmbReferenceIdeal.τ).loc Cert.DmbReferenceIdeal.main_arg0) = m ((c.tc : Thread Cert.DmbIdeal.nD Cert.DmbIdeal.τ).loc Cert.DmbIdeal.main_arg0)
      ∧ m' ((c.tc : Thread Cert.DmbReferenceIdeal.nD Cert.DmbReferenceIdeal.τ).loc Cert.DmbReferenceIdeal.main_arg1) = m ((c.tc : Thread Cert.DmbIdeal.nD Cert.DmbIdeal.τ).loc Cert.DmbIdeal.main_arg1)) →
    ∃ (v0 : (c : Dev Cert.DmbIdeal.nD) → Buf (Elt Ideal) ((c.tc : Thread Cert.DmbIdeal.nD Cert.DmbIdeal.τ).loc Cert.DmbIdeal.main_v2)),
      θ_run (Cert.DmbIdeal.defs (F := Ideal)) (onTc (τ := Cert.DmbIdeal.τ) (Cert.DmbIdeal.main (F := Ideal))) ⟨m, fun _ => 0, g⟩ (fun r => ∀ c : Dev Cert.DmbIdeal.nD,
          r.2.mem ((c.tc : Thread Cert.DmbIdeal.nD Cert.DmbIdeal.τ).loc Cert.DmbIdeal.main_v2) = v0 c
          ∧ r.2.mem ((c.tc : Thread Cert.DmbIdeal.nD Cert.DmbIdeal.τ).loc Cert.DmbIdeal.main_arg0) = m ((c.tc : Thread Cert.DmbIdeal.nD Cert.DmbIdeal.τ).loc Cert.DmbIdeal.main_arg0)
          ∧ r.2.mem ((c.tc : Thread Cert.DmbIdeal.nD Cert.DmbIdeal.τ).loc Cert.DmbIdeal.main_arg1) = m ((c.tc : Thread Cert.DmbIdeal.nD Cert.DmbIdeal.τ).loc Cert.DmbIdeal.main_arg1))
      ∧ θ_run (Cert.DmbReferenceIdeal.defs (F := Ideal)) (onTc (τ := Cert.DmbReferenceIdeal.τ) (Cert.DmbReferenceIdeal.main (F := Ideal))) ⟨m', fun _ => 0, g'⟩ (fun r => ∀ c : Dev Cert.DmbReferenceIdeal.nD,
          r.2.mem ((c.tc : Thread Cert.DmbReferenceIdeal.nD Cert.DmbReferenceIdeal.τ).loc Cert.DmbReferenceIdeal.main_v2) = v0 c
          ∧ r.2.mem ((c.tc : Thread Cert.DmbReferenceIdeal.nD Cert.DmbReferenceIdeal.τ).loc Cert.DmbReferenceIdeal.main_arg0) = m' ((c.tc : Thread Cert.DmbReferenceIdeal.nD Cert.DmbReferenceIdeal.τ).loc Cert.DmbReferenceIdeal.main_arg0)
          ∧ r.2.mem ((c.tc : Thread Cert.DmbReferenceIdeal.nD Cert.DmbReferenceIdeal.τ).loc Cert.DmbReferenceIdeal.main_arg1) = m' ((c.tc : Thread Cert.DmbReferenceIdeal.nD Cert.DmbReferenceIdeal.τ).loc Cert.DmbReferenceIdeal.main_arg1))

def preserves_Dhz_DhzIdeal : Prop :=
  True

def algebraic_DhzIdeal_DhzReferenceIdeal [hDhzIdeal : Cert.DhzIdeal.Facts] [hDhzReferenceIdeal : Cert.DhzReferenceIdeal.Facts] : Prop :=
  ∀ (m : (ℓ : Loc Cert.DhzIdeal.nD Cert.DhzIdeal.τ Cert.DhzIdeal.sig) → Buf (Elt Ideal) ℓ) (g : Dev Cert.DhzIdeal.nD → PrngReg)
    (m' : (ℓ : Loc Cert.DhzReferenceIdeal.nD Cert.DhzReferenceIdeal.τ Cert.DhzReferenceIdeal.sig) → Buf (Elt Ideal) ℓ) (g' : Dev Cert.DhzReferenceIdeal.nD → PrngReg), Pre_DhzIdeal m →
    (∀ c : Dev Cert.DhzIdeal.nD,
      m' ((c.tc : Thread Cert.DhzReferenceIdeal.nD Cert.DhzReferenceIdeal.τ).loc Cert.DhzReferenceIdeal.main_arg0) = m ((c.tc : Thread Cert.DhzIdeal.nD Cert.DhzIdeal.τ).loc Cert.DhzIdeal.main_arg0)
      ∧ m' ((c.tc : Thread Cert.DhzReferenceIdeal.nD Cert.DhzReferenceIdeal.τ).loc Cert.DhzReferenceIdeal.main_arg1) = m ((c.tc : Thread Cert.DhzIdeal.nD Cert.DhzIdeal.τ).loc Cert.DhzIdeal.main_arg1)
      ∧ m' ((c.tc : Thread Cert.DhzReferenceIdeal.nD Cert.DhzReferenceIdeal.τ).loc Cert.DhzReferenceIdeal.main_arg2) = m ((c.tc : Thread Cert.DhzIdeal.nD Cert.DhzIdeal.τ).loc Cert.DhzIdeal.main_arg2)) →
    ∃ (v0 : (c : Dev Cert.DhzIdeal.nD) → Buf (Elt Ideal) ((c.tc : Thread Cert.DhzIdeal.nD Cert.DhzIdeal.τ).loc Cert.DhzIdeal.main_v2)),
      θ_run (Cert.DhzIdeal.defs (F := Ideal)) (onTc (τ := Cert.DhzIdeal.τ) (Cert.DhzIdeal.main (F := Ideal))) ⟨m, fun _ => 0, g⟩ (fun r => ∀ c : Dev Cert.DhzIdeal.nD,
          r.2.mem ((c.tc : Thread Cert.DhzIdeal.nD Cert.DhzIdeal.τ).loc Cert.DhzIdeal.main_v2) = v0 c
          ∧ r.2.mem ((c.tc : Thread Cert.DhzIdeal.nD Cert.DhzIdeal.τ).loc Cert.DhzIdeal.main_arg0) = m ((c.tc : Thread Cert.DhzIdeal.nD Cert.DhzIdeal.τ).loc Cert.DhzIdeal.main_arg0)
          ∧ r.2.mem ((c.tc : Thread Cert.DhzIdeal.nD Cert.DhzIdeal.τ).loc Cert.DhzIdeal.main_arg1) = m ((c.tc : Thread Cert.DhzIdeal.nD Cert.DhzIdeal.τ).loc Cert.DhzIdeal.main_arg1)
          ∧ r.2.mem ((c.tc : Thread Cert.DhzIdeal.nD Cert.DhzIdeal.τ).loc Cert.DhzIdeal.main_arg2) = m ((c.tc : Thread Cert.DhzIdeal.nD Cert.DhzIdeal.τ).loc Cert.DhzIdeal.main_arg2))
      ∧ θ_run (Cert.DhzReferenceIdeal.defs (F := Ideal)) (onTc (τ := Cert.DhzReferenceIdeal.τ) (Cert.DhzReferenceIdeal.main (F := Ideal))) ⟨m', fun _ => 0, g'⟩ (fun r => ∀ c : Dev Cert.DhzReferenceIdeal.nD,
          r.2.mem ((c.tc : Thread Cert.DhzReferenceIdeal.nD Cert.DhzReferenceIdeal.τ).loc Cert.DhzReferenceIdeal.main_v3) = v0 c
          ∧ r.2.mem ((c.tc : Thread Cert.DhzReferenceIdeal.nD Cert.DhzReferenceIdeal.τ).loc Cert.DhzReferenceIdeal.main_arg0) = m' ((c.tc : Thread Cert.DhzReferenceIdeal.nD Cert.DhzReferenceIdeal.τ).loc Cert.DhzReferenceIdeal.main_arg0)
          ∧ r.2.mem ((c.tc : Thread Cert.DhzReferenceIdeal.nD Cert.DhzReferenceIdeal.τ).loc Cert.DhzReferenceIdeal.main_arg1) = m' ((c.tc : Thread Cert.DhzReferenceIdeal.nD Cert.DhzReferenceIdeal.τ).loc Cert.DhzReferenceIdeal.main_arg1)
          ∧ r.2.mem ((c.tc : Thread Cert.DhzReferenceIdeal.nD Cert.DhzReferenceIdeal.τ).loc Cert.DhzReferenceIdeal.main_arg2) = m' ((c.tc : Thread Cert.DhzReferenceIdeal.nD Cert.DhzReferenceIdeal.τ).loc Cert.DhzReferenceIdeal.main_arg2))

def preserves_Dhx_DhxIdeal : Prop :=
  True

def algebraic_DhxIdeal_DhxReferenceIdeal [hDhxIdeal : Cert.DhxIdeal.Facts] [hDhxReferenceIdeal : Cert.DhxReferenceIdeal.Facts] : Prop :=
  ∀ (m : (ℓ : Loc Cert.DhxIdeal.nD Cert.DhxIdeal.τ Cert.DhxIdeal.sig) → Buf (Elt Ideal) ℓ) (g : Dev Cert.DhxIdeal.nD → PrngReg)
    (m' : (ℓ : Loc Cert.DhxReferenceIdeal.nD Cert.DhxReferenceIdeal.τ Cert.DhxReferenceIdeal.sig) → Buf (Elt Ideal) ℓ) (g' : Dev Cert.DhxReferenceIdeal.nD → PrngReg), Pre_DhxIdeal m →
    (∀ c : Dev Cert.DhxIdeal.nD,
      m' ((c.tc : Thread Cert.DhxReferenceIdeal.nD Cert.DhxReferenceIdeal.τ).loc Cert.DhxReferenceIdeal.main_arg0) = m ((c.tc : Thread Cert.DhxIdeal.nD Cert.DhxIdeal.τ).loc Cert.DhxIdeal.main_arg0)
      ∧ m' ((c.tc : Thread Cert.DhxReferenceIdeal.nD Cert.DhxReferenceIdeal.τ).loc Cert.DhxReferenceIdeal.main_arg1) = m ((c.tc : Thread Cert.DhxIdeal.nD Cert.DhxIdeal.τ).loc Cert.DhxIdeal.main_arg1)
      ∧ m' ((c.tc : Thread Cert.DhxReferenceIdeal.nD Cert.DhxReferenceIdeal.τ).loc Cert.DhxReferenceIdeal.main_arg2) = m ((c.tc : Thread Cert.DhxIdeal.nD Cert.DhxIdeal.τ).loc Cert.DhxIdeal.main_arg2)) →
    ∃ (v0 : (c : Dev Cert.DhxIdeal.nD) → Buf (Elt Ideal) ((c.tc : Thread Cert.DhxIdeal.nD Cert.DhxIdeal.τ).loc Cert.DhxIdeal.main_v2)),
      θ_run (Cert.DhxIdeal.defs (F := Ideal)) (onTc (τ := Cert.DhxIdeal.τ) (Cert.DhxIdeal.main (F := Ideal))) ⟨m, fun _ => 0, g⟩ (fun r => ∀ c : Dev Cert.DhxIdeal.nD,
          r.2.mem ((c.tc : Thread Cert.DhxIdeal.nD Cert.DhxIdeal.τ).loc Cert.DhxIdeal.main_v2) = v0 c
          ∧ r.2.mem ((c.tc : Thread Cert.DhxIdeal.nD Cert.DhxIdeal.τ).loc Cert.DhxIdeal.main_arg0) = m ((c.tc : Thread Cert.DhxIdeal.nD Cert.DhxIdeal.τ).loc Cert.DhxIdeal.main_arg0)
          ∧ r.2.mem ((c.tc : Thread Cert.DhxIdeal.nD Cert.DhxIdeal.τ).loc Cert.DhxIdeal.main_arg1) = m ((c.tc : Thread Cert.DhxIdeal.nD Cert.DhxIdeal.τ).loc Cert.DhxIdeal.main_arg1)
          ∧ r.2.mem ((c.tc : Thread Cert.DhxIdeal.nD Cert.DhxIdeal.τ).loc Cert.DhxIdeal.main_arg2) = m ((c.tc : Thread Cert.DhxIdeal.nD Cert.DhxIdeal.τ).loc Cert.DhxIdeal.main_arg2))
      ∧ θ_run (Cert.DhxReferenceIdeal.defs (F := Ideal)) (onTc (τ := Cert.DhxReferenceIdeal.τ) (Cert.DhxReferenceIdeal.main (F := Ideal))) ⟨m', fun _ => 0, g'⟩ (fun r => ∀ c : Dev Cert.DhxReferenceIdeal.nD,
          r.2.mem ((c.tc : Thread Cert.DhxReferenceIdeal.nD Cert.DhxReferenceIdeal.τ).loc Cert.DhxReferenceIdeal.main_v3) = v0 c
          ∧ r.2.mem ((c.tc : Thread Cert.DhxReferenceIdeal.nD Cert.DhxReferenceIdeal.τ).loc Cert.DhxReferenceIdeal.main_arg0) = m' ((c.tc : Thread Cert.DhxReferenceIdeal.nD Cert.DhxReferenceIdeal.τ).loc Cert.DhxReferenceIdeal.main_arg0)
          ∧ r.2.mem ((c.tc : Thread Cert.DhxReferenceIdeal.nD Cert.DhxReferenceIdeal.τ).loc Cert.DhxReferenceIdeal.main_arg1) = m' ((c.tc : Thread Cert.DhxReferenceIdeal.nD Cert.DhxReferenceIdeal.τ).loc Cert.DhxReferenceIdeal.main_arg1)
          ∧ r.2.mem ((c.tc : Thread Cert.DhxReferenceIdeal.nD Cert.DhxReferenceIdeal.τ).loc Cert.DhxReferenceIdeal.main_arg2) = m' ((c.tc : Thread Cert.DhxReferenceIdeal.nD Cert.DhxReferenceIdeal.τ).loc Cert.DhxReferenceIdeal.main_arg2))

def preserves_Dha_DhaIdeal : Prop :=
  True

def algebraic_DhaIdeal_DhaReferenceIdeal [hDhaIdeal : Cert.DhaIdeal.Facts] [hDhaReferenceIdeal : Cert.DhaReferenceIdeal.Facts] : Prop :=
  ∀ (m : (ℓ : Loc Cert.DhaIdeal.nD Cert.DhaIdeal.τ Cert.DhaIdeal.sig) → Buf (Elt Ideal) ℓ) (g : Dev Cert.DhaIdeal.nD → PrngReg)
    (m' : (ℓ : Loc Cert.DhaReferenceIdeal.nD Cert.DhaReferenceIdeal.τ Cert.DhaReferenceIdeal.sig) → Buf (Elt Ideal) ℓ) (g' : Dev Cert.DhaReferenceIdeal.nD → PrngReg), Pre_DhaIdeal m →
    (∀ c : Dev Cert.DhaIdeal.nD,
      m' ((c.tc : Thread Cert.DhaReferenceIdeal.nD Cert.DhaReferenceIdeal.τ).loc Cert.DhaReferenceIdeal.main_arg0) = m ((c.tc : Thread Cert.DhaIdeal.nD Cert.DhaIdeal.τ).loc Cert.DhaIdeal.main_arg0)
      ∧ m' ((c.tc : Thread Cert.DhaReferenceIdeal.nD Cert.DhaReferenceIdeal.τ).loc Cert.DhaReferenceIdeal.main_arg1) = m ((c.tc : Thread Cert.DhaIdeal.nD Cert.DhaIdeal.τ).loc Cert.DhaIdeal.main_arg1)
      ∧ m' ((c.tc : Thread Cert.DhaReferenceIdeal.nD Cert.DhaReferenceIdeal.τ).loc Cert.DhaReferenceIdeal.main_arg2) = m ((c.tc : Thread Cert.DhaIdeal.nD Cert.DhaIdeal.τ).loc Cert.DhaIdeal.main_arg2)) →
    ∃ (v0 : (c : Dev Cert.DhaIdeal.nD) → Buf (Elt Ideal) ((c.tc : Thread Cert.DhaIdeal.nD Cert.DhaIdeal.τ).loc Cert.DhaIdeal.main_v2)),
      θ_run (Cert.DhaIdeal.defs (F := Ideal)) (onTc (τ := Cert.DhaIdeal.τ) (Cert.DhaIdeal.main (F := Ideal))) ⟨m, fun _ => 0, g⟩ (fun r => ∀ c : Dev Cert.DhaIdeal.nD,
          r.2.mem ((c.tc : Thread Cert.DhaIdeal.nD Cert.DhaIdeal.τ).loc Cert.DhaIdeal.main_v2) = v0 c
          ∧ r.2.mem ((c.tc : Thread Cert.DhaIdeal.nD Cert.DhaIdeal.τ).loc Cert.DhaIdeal.main_arg0) = m ((c.tc : Thread Cert.DhaIdeal.nD Cert.DhaIdeal.τ).loc Cert.DhaIdeal.main_arg0)
          ∧ r.2.mem ((c.tc : Thread Cert.DhaIdeal.nD Cert.DhaIdeal.τ).loc Cert.DhaIdeal.main_arg1) = m ((c.tc : Thread Cert.DhaIdeal.nD Cert.DhaIdeal.τ).loc Cert.DhaIdeal.main_arg1)
          ∧ r.2.mem ((c.tc : Thread Cert.DhaIdeal.nD Cert.DhaIdeal.τ).loc Cert.DhaIdeal.main_arg2) = m ((c.tc : Thread Cert.DhaIdeal.nD Cert.DhaIdeal.τ).loc Cert.DhaIdeal.main_arg2))
      ∧ θ_run (Cert.DhaReferenceIdeal.defs (F := Ideal)) (onTc (τ := Cert.DhaReferenceIdeal.τ) (Cert.DhaReferenceIdeal.main (F := Ideal))) ⟨m', fun _ => 0, g'⟩ (fun r => ∀ c : Dev Cert.DhaReferenceIdeal.nD,
          r.2.mem ((c.tc : Thread Cert.DhaReferenceIdeal.nD Cert.DhaReferenceIdeal.τ).loc Cert.DhaReferenceIdeal.main_v3) = v0 c
          ∧ r.2.mem ((c.tc : Thread Cert.DhaReferenceIdeal.nD Cert.DhaReferenceIdeal.τ).loc Cert.DhaReferenceIdeal.main_arg0) = m' ((c.tc : Thread Cert.DhaReferenceIdeal.nD Cert.DhaReferenceIdeal.τ).loc Cert.DhaReferenceIdeal.main_arg0)
          ∧ r.2.mem ((c.tc : Thread Cert.DhaReferenceIdeal.nD Cert.DhaReferenceIdeal.τ).loc Cert.DhaReferenceIdeal.main_arg1) = m' ((c.tc : Thread Cert.DhaReferenceIdeal.nD Cert.DhaReferenceIdeal.τ).loc Cert.DhaReferenceIdeal.main_arg1)
          ∧ r.2.mem ((c.tc : Thread Cert.DhaReferenceIdeal.nD Cert.DhaReferenceIdeal.τ).loc Cert.DhaReferenceIdeal.main_arg2) = m' ((c.tc : Thread Cert.DhaReferenceIdeal.nD Cert.DhaReferenceIdeal.τ).loc Cert.DhaReferenceIdeal.main_arg2))

def preserves_Dwo_DwoIdeal : Prop :=
  True

def algebraic_DwoIdeal_DwoReferenceIdeal [hDwoIdeal : Cert.DwoIdeal.Facts] [hDwoReferenceIdeal : Cert.DwoReferenceIdeal.Facts] : Prop :=
  ∀ (m : (ℓ : Loc Cert.DwoIdeal.nD Cert.DwoIdeal.τ Cert.DwoIdeal.sig) → Buf (Elt Ideal) ℓ) (g : Dev Cert.DwoIdeal.nD → PrngReg)
    (m' : (ℓ : Loc Cert.DwoReferenceIdeal.nD Cert.DwoReferenceIdeal.τ Cert.DwoReferenceIdeal.sig) → Buf (Elt Ideal) ℓ) (g' : Dev Cert.DwoReferenceIdeal.nD → PrngReg), Pre_DwoIdeal m →
    (∀ c : Dev Cert.DwoIdeal.nD,
      m' ((c.tc : Thread Cert.DwoReferenceIdeal.nD Cert.DwoReferenceIdeal.τ).loc Cert.DwoReferenceIdeal.main_arg0) = m ((c.tc : Thread Cert.DwoIdeal.nD Cert.DwoIdeal.τ).loc Cert.DwoIdeal.main_arg0)
      ∧ m' ((c.tc : Thread Cert.DwoReferenceIdeal.nD Cert.DwoReferenceIdeal.τ).loc Cert.DwoReferenceIdeal.main_arg1) = m ((c.tc : Thread Cert.DwoIdeal.nD Cert.DwoIdeal.τ).loc Cert.DwoIdeal.main_arg1)) →
    ∃ (v0 : (c : Dev Cert.DwoIdeal.nD) → Buf (Elt Ideal) ((c.tc : Thread Cert.DwoIdeal.nD Cert.DwoIdeal.τ).loc Cert.DwoIdeal.main_v1)),
      θ_run (Cert.DwoIdeal.defs (F := Ideal)) (onTc (τ := Cert.DwoIdeal.τ) (Cert.DwoIdeal.main (F := Ideal))) ⟨m, fun _ => 0, g⟩ (fun r => ∀ c : Dev Cert.DwoIdeal.nD,
          r.2.mem ((c.tc : Thread Cert.DwoIdeal.nD Cert.DwoIdeal.τ).loc Cert.DwoIdeal.main_v1) = v0 c
          ∧ r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
          ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ θ_run (Cert.DwoReferenceIdeal.defs (F := Ideal)) (onTc (τ := Cert.DwoReferenceIdeal.τ) (Cert.DwoReferenceIdeal.main (F := Ideal))) ⟨m', fun _ => 0, g'⟩ (fun r => ∀ c : Dev Cert.DwoReferenceIdeal.nD,
          r.2.mem ((c.tc : Thread Cert.DwoReferenceIdeal.nD Cert.DwoReferenceIdeal.τ).loc Cert.DwoReferenceIdeal.main_v3) = v0 c
          ∧ r.2.mem ((c.tc : Thread Cert.DwoReferenceIdeal.nD Cert.DwoReferenceIdeal.τ).loc Cert.DwoReferenceIdeal.main_arg0) = m' ((c.tc : Thread Cert.DwoReferenceIdeal.nD Cert.DwoReferenceIdeal.τ).loc Cert.DwoReferenceIdeal.main_arg0)
          ∧ r.2.mem ((c.tc : Thread Cert.DwoReferenceIdeal.nD Cert.DwoReferenceIdeal.τ).loc Cert.DwoReferenceIdeal.main_arg1) = m' ((c.tc : Thread Cert.DwoReferenceIdeal.nD Cert.DwoReferenceIdeal.τ).loc Cert.DwoReferenceIdeal.main_arg1))

def preserves_Dwa_DwaIdeal : Prop :=
  True

def algebraic_DwaIdeal_DwaReferenceIdeal [hDwaIdeal : Cert.DwaIdeal.Facts] [hDwaReferenceIdeal : Cert.DwaReferenceIdeal.Facts] : Prop :=
  ∀ (m : (ℓ : Loc Cert.DwaIdeal.nD Cert.DwaIdeal.τ Cert.DwaIdeal.sig) → Buf (Elt Ideal) ℓ) (g : Dev Cert.DwaIdeal.nD → PrngReg)
    (m' : (ℓ : Loc Cert.DwaReferenceIdeal.nD Cert.DwaReferenceIdeal.τ Cert.DwaReferenceIdeal.sig) → Buf (Elt Ideal) ℓ) (g' : Dev Cert.DwaReferenceIdeal.nD → PrngReg), Pre_DwaIdeal m →
    (∀ c : Dev Cert.DwaIdeal.nD,
      m' ((c.tc : Thread Cert.DwaReferenceIdeal.nD Cert.DwaReferenceIdeal.τ).loc Cert.DwaReferenceIdeal.main_arg0) = m ((c.tc : Thread Cert.DwaIdeal.nD Cert.DwaIdeal.τ).loc Cert.DwaIdeal.main_arg0)
      ∧ m' ((c.tc : Thread Cert.DwaReferenceIdeal.nD Cert.DwaReferenceIdeal.τ).loc Cert.DwaReferenceIdeal.main_arg1) = m ((c.tc : Thread Cert.DwaIdeal.nD Cert.DwaIdeal.τ).loc Cert.DwaIdeal.main_arg1)) →
    ∃ (v0 : (c : Dev Cert.DwaIdeal.nD) → Buf (Elt Ideal) ((c.tc : Thread Cert.DwaIdeal.nD Cert.DwaIdeal.τ).loc Cert.DwaIdeal.main_v1)),
      θ_run (Cert.DwaIdeal.defs (F := Ideal)) (onTc (τ := Cert.DwaIdeal.τ) (Cert.DwaIdeal.main (F := Ideal))) ⟨m, fun _ => 0, g⟩ (fun r => ∀ c : Dev Cert.DwaIdeal.nD,
          r.2.mem ((c.tc : Thread Cert.DwaIdeal.nD Cert.DwaIdeal.τ).loc Cert.DwaIdeal.main_v1) = v0 c
          ∧ r.2.mem ((c.tc : Thread Cert.DwaIdeal.nD Cert.DwaIdeal.τ).loc Cert.DwaIdeal.main_arg0) = m ((c.tc : Thread Cert.DwaIdeal.nD Cert.DwaIdeal.τ).loc Cert.DwaIdeal.main_arg0)
          ∧ r.2.mem ((c.tc : Thread Cert.DwaIdeal.nD Cert.DwaIdeal.τ).loc Cert.DwaIdeal.main_arg1) = m ((c.tc : Thread Cert.DwaIdeal.nD Cert.DwaIdeal.τ).loc Cert.DwaIdeal.main_arg1))
      ∧ θ_run (Cert.DwaReferenceIdeal.defs (F := Ideal)) (onTc (τ := Cert.DwaReferenceIdeal.τ) (Cert.DwaReferenceIdeal.main (F := Ideal))) ⟨m', fun _ => 0, g'⟩ (fun r => ∀ c : Dev Cert.DwaReferenceIdeal.nD,
          r.2.mem ((c.tc : Thread Cert.DwaReferenceIdeal.nD Cert.DwaReferenceIdeal.τ).loc Cert.DwaReferenceIdeal.main_v3) = v0 c
          ∧ r.2.mem ((c.tc : Thread Cert.DwaReferenceIdeal.nD Cert.DwaReferenceIdeal.τ).loc Cert.DwaReferenceIdeal.main_arg0) = m' ((c.tc : Thread Cert.DwaReferenceIdeal.nD Cert.DwaReferenceIdeal.τ).loc Cert.DwaReferenceIdeal.main_arg0)
          ∧ r.2.mem ((c.tc : Thread Cert.DwaReferenceIdeal.nD Cert.DwaReferenceIdeal.τ).loc Cert.DwaReferenceIdeal.main_arg1) = m' ((c.tc : Thread Cert.DwaReferenceIdeal.nD Cert.DwaReferenceIdeal.τ).loc Cert.DwaReferenceIdeal.main_arg1))

def preserves_Dwb_DwbIdeal : Prop :=
  True

def algebraic_DwbIdeal_DwbReferenceIdeal [hDwbIdeal : Cert.DwbIdeal.Facts] [hDwbReferenceIdeal : Cert.DwbReferenceIdeal.Facts] : Prop :=
  ∀ (m : (ℓ : Loc Cert.DwbIdeal.nD Cert.DwbIdeal.τ Cert.DwbIdeal.sig) → Buf (Elt Ideal) ℓ) (g : Dev Cert.DwbIdeal.nD → PrngReg)
    (m' : (ℓ : Loc Cert.DwbReferenceIdeal.nD Cert.DwbReferenceIdeal.τ Cert.DwbReferenceIdeal.sig) → Buf (Elt Ideal) ℓ) (g' : Dev Cert.DwbReferenceIdeal.nD → PrngReg), Pre_DwbIdeal m →
    (∀ c : Dev Cert.DwbIdeal.nD,
      m' ((c.tc : Thread Cert.DwbReferenceIdeal.nD Cert.DwbReferenceIdeal.τ).loc Cert.DwbReferenceIdeal.main_arg0) = m ((c.tc : Thread Cert.DwbIdeal.nD Cert.DwbIdeal.τ).loc Cert.DwbIdeal.main_arg0)
      ∧ m' ((c.tc : Thread Cert.DwbReferenceIdeal.nD Cert.DwbReferenceIdeal.τ).loc Cert.DwbReferenceIdeal.main_arg1) = m ((c.tc : Thread Cert.DwbIdeal.nD Cert.DwbIdeal.τ).loc Cert.DwbIdeal.main_arg1)) →
    ∃ (v0 : (c : Dev Cert.DwbIdeal.nD) → Buf (Elt Ideal) ((c.tc : Thread Cert.DwbIdeal.nD Cert.DwbIdeal.τ).loc Cert.DwbIdeal.main_v2)),
      θ_run (Cert.DwbIdeal.defs (F := Ideal)) (onTc (τ := Cert.DwbIdeal.τ) (Cert.DwbIdeal.main (F := Ideal))) ⟨m, fun _ => 0, g⟩ (fun r => ∀ c : Dev Cert.DwbIdeal.nD,
          r.2.mem ((c.tc : Thread Cert.DwbIdeal.nD Cert.DwbIdeal.τ).loc Cert.DwbIdeal.main_v2) = v0 c
          ∧ r.2.mem ((c.tc : Thread Cert.DwbIdeal.nD Cert.DwbIdeal.τ).loc Cert.DwbIdeal.main_arg0) = m ((c.tc : Thread Cert.DwbIdeal.nD Cert.DwbIdeal.τ).loc Cert.DwbIdeal.main_arg0)
          ∧ r.2.mem ((c.tc : Thread Cert.DwbIdeal.nD Cert.DwbIdeal.τ).loc Cert.DwbIdeal.main_arg1) = m ((c.tc : Thread Cert.DwbIdeal.nD Cert.DwbIdeal.τ).loc Cert.DwbIdeal.main_arg1))
      ∧ θ_run (Cert.DwbReferenceIdeal.defs (F := Ideal)) (onTc (τ := Cert.DwbReferenceIdeal.τ) (Cert.DwbReferenceIdeal.main (F := Ideal))) ⟨m', fun _ => 0, g'⟩ (fun r => ∀ c : Dev Cert.DwbReferenceIdeal.nD,
          r.2.mem ((c.tc : Thread Cert.DwbReferenceIdeal.nD Cert.DwbReferenceIdeal.τ).loc Cert.DwbReferenceIdeal.main_v3) = v0 c
          ∧ r.2.mem ((c.tc : Thread Cert.DwbReferenceIdeal.nD Cert.DwbReferenceIdeal.τ).loc Cert.DwbReferenceIdeal.main_arg0) = m' ((c.tc : Thread Cert.DwbReferenceIdeal.nD Cert.DwbReferenceIdeal.τ).loc Cert.DwbReferenceIdeal.main_arg0)
          ∧ r.2.mem ((c.tc : Thread Cert.DwbReferenceIdeal.nD Cert.DwbReferenceIdeal.τ).loc Cert.DwbReferenceIdeal.main_arg1) = m' ((c.tc : Thread Cert.DwbReferenceIdeal.nD Cert.DwbReferenceIdeal.τ).loc Cert.DwbReferenceIdeal.main_arg1))

def preserves_Dwz_DwzIdeal : Prop :=
  True

def algebraic_DwzIdeal_DwzReferenceIdeal [hDwzIdeal : Cert.DwzIdeal.Facts] [hDwzReferenceIdeal : Cert.DwzReferenceIdeal.Facts] : Prop :=
  ∀ (m : (ℓ : Loc Cert.DwzIdeal.nD Cert.DwzIdeal.τ Cert.DwzIdeal.sig) → Buf (Elt Ideal) ℓ) (g : Dev Cert.DwzIdeal.nD → PrngReg)
    (m' : (ℓ : Loc Cert.DwzReferenceIdeal.nD Cert.DwzReferenceIdeal.τ Cert.DwzReferenceIdeal.sig) → Buf (Elt Ideal) ℓ) (g' : Dev Cert.DwzReferenceIdeal.nD → PrngReg), Pre_DwzIdeal m →
    (∀ c : Dev Cert.DwzIdeal.nD,
      m' ((c.tc : Thread Cert.DwzReferenceIdeal.nD Cert.DwzReferenceIdeal.τ).loc Cert.DwzReferenceIdeal.main_arg0) = m ((c.tc : Thread Cert.DwzIdeal.nD Cert.DwzIdeal.τ).loc Cert.DwzIdeal.main_arg0)
      ∧ m' ((c.tc : Thread Cert.DwzReferenceIdeal.nD Cert.DwzReferenceIdeal.τ).loc Cert.DwzReferenceIdeal.main_arg1) = m ((c.tc : Thread Cert.DwzIdeal.nD Cert.DwzIdeal.τ).loc Cert.DwzIdeal.main_arg1)) →
    ∃ (v0 : (c : Dev Cert.DwzIdeal.nD) → Buf (Elt Ideal) ((c.tc : Thread Cert.DwzIdeal.nD Cert.DwzIdeal.τ).loc Cert.DwzIdeal.main_v2)),
      θ_run (Cert.DwzIdeal.defs (F := Ideal)) (onTc (τ := Cert.DwzIdeal.τ) (Cert.DwzIdeal.main (F := Ideal))) ⟨m, fun _ => 0, g⟩ (fun r => ∀ c : Dev Cert.DwzIdeal.nD,
          r.2.mem ((c.tc : Thread Cert.DwzIdeal.nD Cert.DwzIdeal.τ).loc Cert.DwzIdeal.main_v2) = v0 c
          ∧ r.2.mem ((c.tc : Thread Cert.DwzIdeal.nD Cert.DwzIdeal.τ).loc Cert.DwzIdeal.main_arg0) = m ((c.tc : Thread Cert.DwzIdeal.nD Cert.DwzIdeal.τ).loc Cert.DwzIdeal.main_arg0)
          ∧ r.2.mem ((c.tc : Thread Cert.DwzIdeal.nD Cert.DwzIdeal.τ).loc Cert.DwzIdeal.main_arg1) = m ((c.tc : Thread Cert.DwzIdeal.nD Cert.DwzIdeal.τ).loc Cert.DwzIdeal.main_arg1))
      ∧ θ_run (Cert.DwzReferenceIdeal.defs (F := Ideal)) (onTc (τ := Cert.DwzReferenceIdeal.τ) (Cert.DwzReferenceIdeal.main (F := Ideal))) ⟨m', fun _ => 0, g'⟩ (fun r => ∀ c : Dev Cert.DwzReferenceIdeal.nD,
          r.2.mem ((c.tc : Thread Cert.DwzReferenceIdeal.nD Cert.DwzReferenceIdeal.τ).loc Cert.DwzReferenceIdeal.main_v3) = v0 c
          ∧ r.2.mem ((c.tc : Thread Cert.DwzReferenceIdeal.nD Cert.DwzReferenceIdeal.τ).loc Cert.DwzReferenceIdeal.main_arg0) = m' ((c.tc : Thread Cert.DwzReferenceIdeal.nD Cert.DwzReferenceIdeal.τ).loc Cert.DwzReferenceIdeal.main_arg0)
          ∧ r.2.mem ((c.tc : Thread Cert.DwzReferenceIdeal.nD Cert.DwzReferenceIdeal.τ).loc Cert.DwzReferenceIdeal.main_arg1) = m' ((c.tc : Thread Cert.DwzReferenceIdeal.nD Cert.DwzReferenceIdeal.τ).loc Cert.DwzReferenceIdeal.main_arg1))

def preserves_Dwx_DwxIdeal : Prop :=
  True

def algebraic_DwxIdeal_DwxReferenceIdeal [hDwxIdeal : Cert.DwxIdeal.Facts] [hDwxReferenceIdeal : Cert.DwxReferenceIdeal.Facts] : Prop :=
  ∀ (m : (ℓ : Loc Cert.DwxIdeal.nD Cert.DwxIdeal.τ Cert.DwxIdeal.sig) → Buf (Elt Ideal) ℓ) (g : Dev Cert.DwxIdeal.nD → PrngReg)
    (m' : (ℓ : Loc Cert.DwxReferenceIdeal.nD Cert.DwxReferenceIdeal.τ Cert.DwxReferenceIdeal.sig) → Buf (Elt Ideal) ℓ) (g' : Dev Cert.DwxReferenceIdeal.nD → PrngReg), Pre_DwxIdeal m →
    (∀ c : Dev Cert.DwxIdeal.nD,
      m' ((c.tc : Thread Cert.DwxReferenceIdeal.nD Cert.DwxReferenceIdeal.τ).loc Cert.DwxReferenceIdeal.main_arg0) = m ((c.tc : Thread Cert.DwxIdeal.nD Cert.DwxIdeal.τ).loc Cert.DwxIdeal.main_arg0)
      ∧ m' ((c.tc : Thread Cert.DwxReferenceIdeal.nD Cert.DwxReferenceIdeal.τ).loc Cert.DwxReferenceIdeal.main_arg1) = m ((c.tc : Thread Cert.DwxIdeal.nD Cert.DwxIdeal.τ).loc Cert.DwxIdeal.main_arg1)) →
    ∃ (v0 : (c : Dev Cert.DwxIdeal.nD) → Buf (Elt Ideal) ((c.tc : Thread Cert.DwxIdeal.nD Cert.DwxIdeal.τ).loc Cert.DwxIdeal.main_v2)),
      θ_run (Cert.DwxIdeal.defs (F := Ideal)) (onTc (τ := Cert.DwxIdeal.τ) (Cert.DwxIdeal.main (F := Ideal))) ⟨m, fun _ => 0, g⟩ (fun r => ∀ c : Dev Cert.DwxIdeal.nD,
          r.2.mem ((c.tc : Thread Cert.DwxIdeal.nD Cert.DwxIdeal.τ).loc Cert.DwxIdeal.main_v2) = v0 c
          ∧ r.2.mem ((c.tc : Thread Cert.DwxIdeal.nD Cert.DwxIdeal.τ).loc Cert.DwxIdeal.main_arg0) = m ((c.tc : Thread Cert.DwxIdeal.nD Cert.DwxIdeal.τ).loc Cert.DwxIdeal.main_arg0)
          ∧ r.2.mem ((c.tc : Thread Cert.DwxIdeal.nD Cert.DwxIdeal.τ).loc Cert.DwxIdeal.main_arg1) = m ((c.tc : Thread Cert.DwxIdeal.nD Cert.DwxIdeal.τ).loc Cert.DwxIdeal.main_arg1))
      ∧ θ_run (Cert.DwxReferenceIdeal.defs (F := Ideal)) (onTc (τ := Cert.DwxReferenceIdeal.τ) (Cert.DwxReferenceIdeal.main (F := Ideal))) ⟨m', fun _ => 0, g'⟩ (fun r => ∀ c : Dev Cert.DwxReferenceIdeal.nD,
          r.2.mem ((c.tc : Thread Cert.DwxReferenceIdeal.nD Cert.DwxReferenceIdeal.τ).loc Cert.DwxReferenceIdeal.main_v3) = v0 c
          ∧ r.2.mem ((c.tc : Thread Cert.DwxReferenceIdeal.nD Cert.DwxReferenceIdeal.τ).loc Cert.DwxReferenceIdeal.main_arg0) = m' ((c.tc : Thread Cert.DwxReferenceIdeal.nD Cert.DwxReferenceIdeal.τ).loc Cert.DwxReferenceIdeal.main_arg0)
          ∧ r.2.mem ((c.tc : Thread Cert.DwxReferenceIdeal.nD Cert.DwxReferenceIdeal.τ).loc Cert.DwxReferenceIdeal.main_arg1) = m' ((c.tc : Thread Cert.DwxReferenceIdeal.nD Cert.DwxReferenceIdeal.τ).loc Cert.DwxReferenceIdeal.main_arg1))

def preserves_Dwi_DwiIdeal : Prop :=
  True

def algebraic_DwiIdeal_DwiReferenceIdeal [hDwiIdeal : Cert.DwiIdeal.Facts] [hDwiReferenceIdeal : Cert.DwiReferenceIdeal.Facts] : Prop :=
  ∀ (m : (ℓ : Loc Cert.DwiIdeal.nD Cert.DwiIdeal.τ Cert.DwiIdeal.sig) → Buf (Elt Ideal) ℓ) (g : Dev Cert.DwiIdeal.nD → PrngReg)
    (m' : (ℓ : Loc Cert.DwiReferenceIdeal.nD Cert.DwiReferenceIdeal.τ Cert.DwiReferenceIdeal.sig) → Buf (Elt Ideal) ℓ) (g' : Dev Cert.DwiReferenceIdeal.nD → PrngReg), Pre_DwiIdeal m →
    (∀ c : Dev Cert.DwiIdeal.nD,
      m' ((c.tc : Thread Cert.DwiReferenceIdeal.nD Cert.DwiReferenceIdeal.τ).loc Cert.DwiReferenceIdeal.main_arg0) = m ((c.tc : Thread Cert.DwiIdeal.nD Cert.DwiIdeal.τ).loc Cert.DwiIdeal.main_arg0)
      ∧ m' ((c.tc : Thread Cert.DwiReferenceIdeal.nD Cert.DwiReferenceIdeal.τ).loc Cert.DwiReferenceIdeal.main_arg1) = m ((c.tc : Thread Cert.DwiIdeal.nD Cert.DwiIdeal.τ).loc Cert.DwiIdeal.main_arg1)) →
    ∃ (v0 : (c : Dev Cert.DwiIdeal.nD) → Buf (Elt Ideal) ((c.tc : Thread Cert.DwiIdeal.nD Cert.DwiIdeal.τ).loc Cert.DwiIdeal.main_v2)),
      θ_run (Cert.DwiIdeal.defs (F := Ideal)) (onTc (τ := Cert.DwiIdeal.τ) (Cert.DwiIdeal.main (F := Ideal))) ⟨m, fun _ => 0, g⟩ (fun r => ∀ c : Dev Cert.DwiIdeal.nD,
          r.2.mem ((c.tc : Thread Cert.DwiIdeal.nD Cert.DwiIdeal.τ).loc Cert.DwiIdeal.main_v2) = v0 c
          ∧ r.2.mem ((c.tc : Thread Cert.DwiIdeal.nD Cert.DwiIdeal.τ).loc Cert.DwiIdeal.main_arg0) = m ((c.tc : Thread Cert.DwiIdeal.nD Cert.DwiIdeal.τ).loc Cert.DwiIdeal.main_arg0)
          ∧ r.2.mem ((c.tc : Thread Cert.DwiIdeal.nD Cert.DwiIdeal.τ).loc Cert.DwiIdeal.main_arg1) = m ((c.tc : Thread Cert.DwiIdeal.nD Cert.DwiIdeal.τ).loc Cert.DwiIdeal.main_arg1))
      ∧ θ_run (Cert.DwiReferenceIdeal.defs (F := Ideal)) (onTc (τ := Cert.DwiReferenceIdeal.τ) (Cert.DwiReferenceIdeal.main (F := Ideal))) ⟨m', fun _ => 0, g'⟩ (fun r => ∀ c : Dev Cert.DwiReferenceIdeal.nD,
          r.2.mem ((c.tc : Thread Cert.DwiReferenceIdeal.nD Cert.DwiReferenceIdeal.τ).loc Cert.DwiReferenceIdeal.main_v3) = v0 c
          ∧ r.2.mem ((c.tc : Thread Cert.DwiReferenceIdeal.nD Cert.DwiReferenceIdeal.τ).loc Cert.DwiReferenceIdeal.main_arg0) = m' ((c.tc : Thread Cert.DwiReferenceIdeal.nD Cert.DwiReferenceIdeal.τ).loc Cert.DwiReferenceIdeal.main_arg0)
          ∧ r.2.mem ((c.tc : Thread Cert.DwiReferenceIdeal.nD Cert.DwiReferenceIdeal.τ).loc Cert.DwiReferenceIdeal.main_arg1) = m' ((c.tc : Thread Cert.DwiReferenceIdeal.nD Cert.DwiReferenceIdeal.τ).loc Cert.DwiReferenceIdeal.main_arg1))

def Claim : Prop :=
  ∃ (hKernel : Cert.Kernel.Facts) (hKernelIdeal : Cert.KernelIdeal.Facts) (hReferenceIdeal : Cert.ReferenceIdeal.Facts) (hDact : Cert.Dact.Facts) (hDactIdeal : Cert.DactIdeal.Facts) (hDactReferenceIdeal : Cert.DactReferenceIdeal.Facts) (hDwd : Cert.Dwd.Facts) (hDwdIdeal : Cert.DwdIdeal.Facts) (hDwdReferenceIdeal : Cert.DwdReferenceIdeal.Facts) (hDwg : Cert.Dwg.Facts) (hDwgIdeal : Cert.DwgIdeal.Facts) (hDwgReferenceIdeal : Cert.DwgReferenceIdeal.Facts) (hDhg : Cert.Dhg.Facts) (hDhgIdeal : Cert.DhgIdeal.Facts) (hDhgReferenceIdeal : Cert.DhgReferenceIdeal.Facts) (hDhu : Cert.Dhu.Facts) (hDhuIdeal : Cert.DhuIdeal.Facts) (hDhuReferenceIdeal : Cert.DhuReferenceIdeal.Facts) (hGu : Cert.Gu.Facts) (hGuIdeal : Cert.GuIdeal.Facts) (hGuReferenceIdeal : Cert.GuReferenceIdeal.Facts) (hDown : Cert.Down.Facts) (hDownIdeal : Cert.DownIdeal.Facts) (hDownReferenceIdeal : Cert.DownReferenceIdeal.Facts) (hSwb : Cert.Swb.Facts) (hSwbIdeal : Cert.SwbIdeal.Facts) (hSwbReferenceIdeal : Cert.SwbReferenceIdeal.Facts) (hMgb : Cert.Mgb.Facts) (hMgbIdeal : Cert.MgbIdeal.Facts) (hMgbReferenceIdeal : Cert.MgbReferenceIdeal.Facts) (hDrms : Cert.Drms.Facts) (hDrmsIdeal : Cert.DrmsIdeal.Facts) (hDrmsReferenceIdeal : Cert.DrmsReferenceIdeal.Facts) (hFwd : Cert.Fwd.Facts) (hFwdIdeal : Cert.FwdIdeal.Facts) (hFwdReferenceIdeal : Cert.FwdReferenceIdeal.Facts) (hInb : Cert.Inb.Facts) (hInbIdeal : Cert.InbIdeal.Facts) (hInbReferenceIdeal : Cert.InbReferenceIdeal.Facts) (hBra : Cert.Bra.Facts) (hBraIdeal : Cert.BraIdeal.Facts) (hBraReferenceIdeal : Cert.BraReferenceIdeal.Facts) (hBrb : Cert.Brb.Facts) (hBrbIdeal : Cert.BrbIdeal.Facts) (hBrbReferenceIdeal : Cert.BrbReferenceIdeal.Facts) (hMix : Cert.Mix.Facts) (hMixIdeal : Cert.MixIdeal.Facts) (hMixReferenceIdeal : Cert.MixReferenceIdeal.Facts) (hDmg : Cert.Dmg.Facts) (hDmgIdeal : Cert.DmgIdeal.Facts) (hDmgReferenceIdeal : Cert.DmgReferenceIdeal.Facts) (hDab : Cert.Dab.Facts) (hDabIdeal : Cert.DabIdeal.Facts) (hDabReferenceIdeal : Cert.DabReferenceIdeal.Facts) (hDmb : Cert.Dmb.Facts) (hDmbIdeal : Cert.DmbIdeal.Facts) (hDmbReferenceIdeal : Cert.DmbReferenceIdeal.Facts) (hDhz : Cert.Dhz.Facts) (hDhzIdeal : Cert.DhzIdeal.Facts) (hDhzReferenceIdeal : Cert.DhzReferenceIdeal.Facts) (hDhx : Cert.Dhx.Facts) (hDhxIdeal : Cert.DhxIdeal.Facts) (hDhxReferenceIdeal : Cert.DhxReferenceIdeal.Facts) (hDha : Cert.Dha.Facts) (hDhaIdeal : Cert.DhaIdeal.Facts) (hDhaReferenceIdeal : Cert.DhaReferenceIdeal.Facts) (hDwo : Cert.Dwo.Facts) (hDwoIdeal : Cert.DwoIdeal.Facts) (hDwoReferenceIdeal : Cert.DwoReferenceIdeal.Facts) (hDwa : Cert.Dwa.Facts) (hDwaIdeal : Cert.DwaIdeal.Facts) (hDwaReferenceIdeal : Cert.DwaReferenceIdeal.Facts) (hDwb : Cert.Dwb.Facts) (hDwbIdeal : Cert.DwbIdeal.Facts) (hDwbReferenceIdeal : Cert.DwbReferenceIdeal.Facts) (hDwz : Cert.Dwz.Facts) (hDwzIdeal : Cert.DwzIdeal.Facts) (hDwzReferenceIdeal : Cert.DwzReferenceIdeal.Facts) (hDwx : Cert.Dwx.Facts) (hDwxIdeal : Cert.DwxIdeal.Facts) (hDwxReferenceIdeal : Cert.DwxReferenceIdeal.Facts) (hDwi : Cert.Dwi.Facts) (hDwiIdeal : Cert.DwiIdeal.Facts) (hDwiReferenceIdeal : Cert.DwiReferenceIdeal.Facts) (hPre_finite : Cert.Pre_finite.Facts) (hPre_finite_swb : Cert.Pre_finite_swb.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dact (hDact := hDact)
    ∧ quiescent_DactIdeal (hDactIdeal := hDactIdeal)
    ∧ quiescent_DactReferenceIdeal (hDactReferenceIdeal := hDactReferenceIdeal)
    ∧ quiescent_Dwd (hDwd := hDwd)
    ∧ quiescent_DwdIdeal (hDwdIdeal := hDwdIdeal)
    ∧ quiescent_DwdReferenceIdeal (hDwdReferenceIdeal := hDwdReferenceIdeal)
    ∧ quiescent_Dwg (hDwg := hDwg)
    ∧ quiescent_DwgIdeal (hDwgIdeal := hDwgIdeal)
    ∧ quiescent_DwgReferenceIdeal (hDwgReferenceIdeal := hDwgReferenceIdeal)
    ∧ quiescent_Dhg (hDhg := hDhg)
    ∧ quiescent_DhgIdeal (hDhgIdeal := hDhgIdeal)
    ∧ quiescent_DhgReferenceIdeal (hDhgReferenceIdeal := hDhgReferenceIdeal)
    ∧ quiescent_Dhu (hDhu := hDhu)
    ∧ quiescent_DhuIdeal (hDhuIdeal := hDhuIdeal)
    ∧ quiescent_DhuReferenceIdeal (hDhuReferenceIdeal := hDhuReferenceIdeal)
    ∧ quiescent_Gu (hGu := hGu)
    ∧ quiescent_GuIdeal (hGuIdeal := hGuIdeal)
    ∧ quiescent_GuReferenceIdeal (hGuReferenceIdeal := hGuReferenceIdeal)
    ∧ quiescent_Down (hDown := hDown)
    ∧ quiescent_DownIdeal (hDownIdeal := hDownIdeal)
    ∧ quiescent_DownReferenceIdeal (hDownReferenceIdeal := hDownReferenceIdeal)
    ∧ quiescent_Swb (hSwb := hSwb)
    ∧ quiescent_SwbIdeal (hSwbIdeal := hSwbIdeal)
    ∧ quiescent_SwbIdeal_pre_finite_swb (hSwbIdeal := hSwbIdeal) (hPre_finite_swb := hPre_finite_swb)
    ∧ quiescent_SwbReferenceIdeal (hSwbReferenceIdeal := hSwbReferenceIdeal)
    ∧ quiescent_SwbReferenceIdeal_pre_finite_swb (hSwbReferenceIdeal := hSwbReferenceIdeal) (hPre_finite_swb := hPre_finite_swb)
    ∧ quiescent_Mgb (hMgb := hMgb)
    ∧ quiescent_MgbIdeal (hMgbIdeal := hMgbIdeal)
    ∧ quiescent_MgbReferenceIdeal (hMgbReferenceIdeal := hMgbReferenceIdeal)
    ∧ quiescent_Drms (hDrms := hDrms)
    ∧ quiescent_DrmsIdeal (hDrmsIdeal := hDrmsIdeal)
    ∧ quiescent_DrmsReferenceIdeal (hDrmsReferenceIdeal := hDrmsReferenceIdeal)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdReferenceIdeal (hFwdReferenceIdeal := hFwdReferenceIdeal)
    ∧ quiescent_FwdReferenceIdeal_pre_finite_fwd (hFwdReferenceIdeal := hFwdReferenceIdeal) (hPre_finite_fwd := hPre_finite_fwd)
    ∧ quiescent_Inb (hInb := hInb)
    ∧ quiescent_InbIdeal (hInbIdeal := hInbIdeal)
    ∧ quiescent_InbReferenceIdeal (hInbReferenceIdeal := hInbReferenceIdeal)
    ∧ quiescent_Bra (hBra := hBra)
    ∧ quiescent_BraIdeal (hBraIdeal := hBraIdeal)
    ∧ quiescent_BraReferenceIdeal (hBraReferenceIdeal := hBraReferenceIdeal)
    ∧ quiescent_Brb (hBrb := hBrb)
    ∧ quiescent_BrbIdeal (hBrbIdeal := hBrbIdeal)
    ∧ quiescent_BrbReferenceIdeal (hBrbReferenceIdeal := hBrbReferenceIdeal)
    ∧ quiescent_Mix (hMix := hMix)
    ∧ quiescent_MixIdeal (hMixIdeal := hMixIdeal)
    ∧ quiescent_MixReferenceIdeal (hMixReferenceIdeal := hMixReferenceIdeal)
    ∧ quiescent_Dmg (hDmg := hDmg)
    ∧ quiescent_DmgIdeal (hDmgIdeal := hDmgIdeal)
    ∧ quiescent_DmgReferenceIdeal (hDmgReferenceIdeal := hDmgReferenceIdeal)
    ∧ quiescent_Dab (hDab := hDab)
    ∧ quiescent_DabIdeal (hDabIdeal := hDabIdeal)
    ∧ quiescent_DabReferenceIdeal (hDabReferenceIdeal := hDabReferenceIdeal)
    ∧ quiescent_Dmb (hDmb := hDmb)
    ∧ quiescent_DmbIdeal (hDmbIdeal := hDmbIdeal)
    ∧ quiescent_DmbReferenceIdeal (hDmbReferenceIdeal := hDmbReferenceIdeal)
    ∧ quiescent_Dhz (hDhz := hDhz)
    ∧ quiescent_DhzIdeal (hDhzIdeal := hDhzIdeal)
    ∧ quiescent_DhzReferenceIdeal (hDhzReferenceIdeal := hDhzReferenceIdeal)
    ∧ quiescent_Dhx (hDhx := hDhx)
    ∧ quiescent_DhxIdeal (hDhxIdeal := hDhxIdeal)
    ∧ quiescent_DhxReferenceIdeal (hDhxReferenceIdeal := hDhxReferenceIdeal)
    ∧ quiescent_Dha (hDha := hDha)
    ∧ quiescent_DhaIdeal (hDhaIdeal := hDhaIdeal)
    ∧ quiescent_DhaReferenceIdeal (hDhaReferenceIdeal := hDhaReferenceIdeal)
    ∧ quiescent_Dwo (hDwo := hDwo)
    ∧ quiescent_DwoIdeal (hDwoIdeal := hDwoIdeal)
    ∧ quiescent_DwoReferenceIdeal (hDwoReferenceIdeal := hDwoReferenceIdeal)
    ∧ quiescent_Dwa (hDwa := hDwa)
    ∧ quiescent_DwaIdeal (hDwaIdeal := hDwaIdeal)
    ∧ quiescent_DwaReferenceIdeal (hDwaReferenceIdeal := hDwaReferenceIdeal)
    ∧ quiescent_Dwb (hDwb := hDwb)
    ∧ quiescent_DwbIdeal (hDwbIdeal := hDwbIdeal)
    ∧ quiescent_DwbReferenceIdeal (hDwbReferenceIdeal := hDwbReferenceIdeal)
    ∧ quiescent_Dwz (hDwz := hDwz)
    ∧ quiescent_DwzIdeal (hDwzIdeal := hDwzIdeal)
    ∧ quiescent_DwzReferenceIdeal (hDwzReferenceIdeal := hDwzReferenceIdeal)
    ∧ quiescent_Dwx (hDwx := hDwx)
    ∧ quiescent_DwxIdeal (hDwxIdeal := hDwxIdeal)
    ∧ quiescent_DwxReferenceIdeal (hDwxReferenceIdeal := hDwxReferenceIdeal)
    ∧ quiescent_Dwi (hDwi := hDwi)
    ∧ quiescent_DwiIdeal (hDwiIdeal := hDwiIdeal)
    ∧ quiescent_DwiReferenceIdeal (hDwiReferenceIdeal := hDwiReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dact_DactIdeal
    ∧ algebraic_DactIdeal_DactReferenceIdeal (hDactIdeal := hDactIdeal) (hDactReferenceIdeal := hDactReferenceIdeal)
    ∧ preserves_Dwd_DwdIdeal
    ∧ algebraic_DwdIdeal_DwdReferenceIdeal (hDwdIdeal := hDwdIdeal) (hDwdReferenceIdeal := hDwdReferenceIdeal)
    ∧ preserves_Dwg_DwgIdeal
    ∧ algebraic_DwgIdeal_DwgReferenceIdeal (hDwgIdeal := hDwgIdeal) (hDwgReferenceIdeal := hDwgReferenceIdeal)
    ∧ preserves_Dhg_DhgIdeal
    ∧ algebraic_DhgIdeal_DhgReferenceIdeal (hDhgIdeal := hDhgIdeal) (hDhgReferenceIdeal := hDhgReferenceIdeal)
    ∧ preserves_Dhu_DhuIdeal
    ∧ algebraic_DhuIdeal_DhuReferenceIdeal (hDhuIdeal := hDhuIdeal) (hDhuReferenceIdeal := hDhuReferenceIdeal)
    ∧ preserves_Gu_GuIdeal
    ∧ algebraic_GuIdeal_GuReferenceIdeal (hGuIdeal := hGuIdeal) (hGuReferenceIdeal := hGuReferenceIdeal)
    ∧ preserves_Down_DownIdeal
    ∧ algebraic_DownIdeal_DownReferenceIdeal (hDownIdeal := hDownIdeal) (hDownReferenceIdeal := hDownReferenceIdeal)
    ∧ preserves_Swb_SwbIdeal
    ∧ algebraic_SwbIdeal_SwbReferenceIdeal_pre_finite_swb (hSwbIdeal := hSwbIdeal) (hSwbReferenceIdeal := hSwbReferenceIdeal) (hPre_finite_swb := hPre_finite_swb)
    ∧ preserves_Mgb_MgbIdeal
    ∧ algebraic_MgbIdeal_MgbReferenceIdeal (hMgbIdeal := hMgbIdeal) (hMgbReferenceIdeal := hMgbReferenceIdeal)
    ∧ preserves_Drms_DrmsIdeal
    ∧ algebraic_DrmsIdeal_DrmsReferenceIdeal (hDrmsIdeal := hDrmsIdeal) (hDrmsReferenceIdeal := hDrmsReferenceIdeal)
    ∧ preserves_Fwd_FwdIdeal
    ∧ algebraic_FwdIdeal_FwdReferenceIdeal_pre_finite_fwd (hFwdIdeal := hFwdIdeal) (hFwdReferenceIdeal := hFwdReferenceIdeal) (hPre_finite_fwd := hPre_finite_fwd)
    ∧ preserves_Inb_InbIdeal
    ∧ algebraic_InbIdeal_InbReferenceIdeal (hInbIdeal := hInbIdeal) (hInbReferenceIdeal := hInbReferenceIdeal)
    ∧ preserves_Bra_BraIdeal
    ∧ algebraic_BraIdeal_BraReferenceIdeal (hBraIdeal := hBraIdeal) (hBraReferenceIdeal := hBraReferenceIdeal)
    ∧ preserves_Brb_BrbIdeal
    ∧ algebraic_BrbIdeal_BrbReferenceIdeal (hBrbIdeal := hBrbIdeal) (hBrbReferenceIdeal := hBrbReferenceIdeal)
    ∧ preserves_Mix_MixIdeal
    ∧ algebraic_MixIdeal_MixReferenceIdeal (hMixIdeal := hMixIdeal) (hMixReferenceIdeal := hMixReferenceIdeal)
    ∧ preserves_Dmg_DmgIdeal
    ∧ algebraic_DmgIdeal_DmgReferenceIdeal (hDmgIdeal := hDmgIdeal) (hDmgReferenceIdeal := hDmgReferenceIdeal)
    ∧ preserves_Dab_DabIdeal
    ∧ algebraic_DabIdeal_DabReferenceIdeal (hDabIdeal := hDabIdeal) (hDabReferenceIdeal := hDabReferenceIdeal)
    ∧ preserves_Dmb_DmbIdeal
    ∧ algebraic_DmbIdeal_DmbReferenceIdeal (hDmbIdeal := hDmbIdeal) (hDmbReferenceIdeal := hDmbReferenceIdeal)
    ∧ preserves_Dhz_DhzIdeal
    ∧ algebraic_DhzIdeal_DhzReferenceIdeal (hDhzIdeal := hDhzIdeal) (hDhzReferenceIdeal := hDhzReferenceIdeal)
    ∧ preserves_Dhx_DhxIdeal
    ∧ algebraic_DhxIdeal_DhxReferenceIdeal (hDhxIdeal := hDhxIdeal) (hDhxReferenceIdeal := hDhxReferenceIdeal)
    ∧ preserves_Dha_DhaIdeal
    ∧ algebraic_DhaIdeal_DhaReferenceIdeal (hDhaIdeal := hDhaIdeal) (hDhaReferenceIdeal := hDhaReferenceIdeal)
    ∧ preserves_Dwo_DwoIdeal
    ∧ algebraic_DwoIdeal_DwoReferenceIdeal (hDwoIdeal := hDwoIdeal) (hDwoReferenceIdeal := hDwoReferenceIdeal)
    ∧ preserves_Dwa_DwaIdeal
    ∧ algebraic_DwaIdeal_DwaReferenceIdeal (hDwaIdeal := hDwaIdeal) (hDwaReferenceIdeal := hDwaReferenceIdeal)
    ∧ preserves_Dwb_DwbIdeal
    ∧ algebraic_DwbIdeal_DwbReferenceIdeal (hDwbIdeal := hDwbIdeal) (hDwbReferenceIdeal := hDwbReferenceIdeal)
    ∧ preserves_Dwz_DwzIdeal
    ∧ algebraic_DwzIdeal_DwzReferenceIdeal (hDwzIdeal := hDwzIdeal) (hDwzReferenceIdeal := hDwzReferenceIdeal)
    ∧ preserves_Dwx_DwxIdeal
    ∧ algebraic_DwxIdeal_DwxReferenceIdeal (hDwxIdeal := hDwxIdeal) (hDwxReferenceIdeal := hDwxReferenceIdeal)
    ∧ preserves_Dwi_DwiIdeal
    ∧ algebraic_DwiIdeal_DwiReferenceIdeal (hDwiIdeal := hDwiIdeal) (hDwiReferenceIdeal := hDwiReferenceIdeal)
-- ==== Pre_finite.lean ====
abbrev S4096x16x96 : Shape := ⟨3, ![4096, 16, 96]⟩
abbrev S4096x16x64 : Shape := ⟨3, ![4096, 16, 64]⟩
abbrev S4096x1024 : Shape := ⟨2, ![4096, 1024]⟩
abbrev S_ : Shape := ⟨0, ![]⟩

class Facts : Prop where
  bcast_S_S4096x16x96 : S_.BroadcastsInDim S4096x16x96 (![] : Fin 0 → Fin S4096x16x96.rank)
  bcast_S_S4096x16x64 : S_.BroadcastsInDim S4096x16x64 (![] : Fin 0 → Fin S4096x16x64.rank)
  bcast_S_S4096x1024 : S_.BroadcastsInDim S4096x1024 (![] : Fin 0 → Fin S4096x1024.rank)

variable [Facts]

def fn {F : FTy → Type} [FloatOps F] (main_arg0 : FVec F S4096x16x96 .f32) (main_arg1 : FVec F S4096x16x96 .f32) (main_arg2 : FVec F S4096x16x64 .f32) (main_arg3 : FVec F S4096x1024 .f32) : IVec S4096x16x96 1 × IVec S4096x16x96 1 × IVec S4096x16x64 1 × IVec S4096x1024 1 :=
  let main_v0 : FVec F S4096x16x96 .f32 := Host.absf main_arg0
  let main_cst : FVec F S_ .f32 := constant S_ .f32 0x7F800000#32
  let main_v1 : FVec F S4096x16x96 .f32 := broadcastInDim S4096x16x96 ![] bcast_S_S4096x16x96 main_cst
  let main_v2 : IVec S4096x16x96 1 := cmpf .olt main_v0 main_v1
  let main_v3 : FVec F S4096x16x96 .f32 := Host.absf main_arg1
  let main_cst_0 : FVec F S_ .f32 := constant S_ .f32 0x7F800000#32
  let main_v4 : FVec F S4096x16x96 .f32 := broadcastInDim S4096x16x96 ![] bcast_S_S4096x16x96 main_cst_0
  let main_v5 : IVec S4096x16x96 1 := cmpf .olt main_v3 main_v4
  let main_v6 : FVec F S4096x16x64 .f32 := Host.absf main_arg2
  let main_cst_1 : FVec F S_ .f32 := constant S_ .f32 0x7F800000#32
  let main_v7 : FVec F S4096x16x64 .f32 := broadcastInDim S4096x16x64 ![] bcast_S_S4096x16x64 main_cst_1
  let main_v8 : IVec S4096x16x64 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_fwd.lean ====
abbrev S4096x16x96 : Shape := ⟨3, ![4096, 16, 96]⟩
abbrev S4096x16x64 : Shape := ⟨3, ![4096, 16, 64]⟩
abbrev S_ : Shape := ⟨0, ![]⟩

class Facts : Prop where
  bcast_S_S4096x16x96 : S_.BroadcastsInDim S4096x16x96 (![] : Fin 0 → Fin S4096x16x96.rank)
  bcast_S_S4096x16x64 : S_.BroadcastsInDim S4096x16x64 (![] : Fin 0 → Fin S4096x16x64.rank)

variable [Facts]

def fn {F : FTy → Type} [FloatOps F] (main_arg0 : FVec F S4096x16x96 .f32) (main_arg1 : FVec F S4096x16x96 .f32) (main_arg2 : FVec F S4096x16x64 .f32) : IVec S4096x16x96 1 × IVec S4096x16x96 1 × IVec S4096x16x64 1 :=
  let main_v0 : FVec F S4096x16x96 .f32 := Host.absf main_arg0
  let main_cst : FVec F S_ .f32 := constant S_ .f32 0x7F800000#32
  let main_v1 : FVec F S4096x16x96 .f32 := broadcastInDim S4096x16x96 ![] bcast_S_S4096x16x96 main_cst
  let main_v2 : IVec S4096x16x96 1 := cmpf .olt main_v0 main_v1
  let main_v3 : FVec F S4096x16x96 .f32 := Host.absf main_arg1
  let main_cst_0 : FVec F S_ .f32 := constant S_ .f32 0x7F800000#32
  let main_v4 : FVec F S4096x16x96 .f32 := broadcastInDim S4096x16x96 ![] bcast_S_S4096x16x96 main_cst_0
  let main_v5 : IVec S4096x16x96 1 := cmpf .olt main_v3 main_v4
  let main_v6 : FVec F S4096x16x64 .f32 := Host.absf main_arg2
  let main_cst_1 : FVec F S_ .f32 := constant S_ .f32 0x7F800000#32
  let main_v7 : FVec F S4096x16x64 .f32 := broadcastInDim S4096x16x64 ![] bcast_S_S4096x16x64 main_cst_1
  let main_v8 : IVec S4096x16x64 1 := cmpf .olt main_v6 main_v7
  (main_v2, main_v5, main_v8)
-- ==== Pre_finite_swb.lean ====
abbrev S4096x2816 : Shape := ⟨2, ![4096, 2816]⟩
abbrev S4096x5632 : Shape := ⟨2, ![4096, 5632]⟩
abbrev S_ : Shape := ⟨0, ![]⟩

class Facts : Prop where
  bcast_S_S4096x2816 : S_.BroadcastsInDim S4096x2816 (![] : Fin 0 → Fin S4096x2816.rank)
  bcast_S_S4096x5632 : S_.BroadcastsInDim S4096x5632 (![] : Fin 0 → Fin S4096x5632.rank)

variable [Facts]

def fn {F : FTy → Type} [FloatOps F] (main_arg0 : FVec F S4096x2816 .f32) (main_arg1 : FVec F S4096x5632 .f32) : IVec S4096x2816 1 × IVec S4096x5632 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S4096x5632 .f32 := Host.absf main_arg1
  let main_cst_0 : FVec F S_ .f32 := constant S_ .f32 0x7F800000#32
  let main_v4 : FVec F S4096x5632 .f32 := broadcastInDim S4096x5632 ![] bcast_S_S4096x5632 main_cst_0
  let main_v5 : IVec S4096x5632 1 := cmpf .olt main_v3 main_v4
  (main_v2, main_v5)
-- ==== Kernel.lean ====
abbrev S4096x16x96 : Shape := ⟨3, ![4096, 16, 96]⟩
abbrev S4096x16x64 : Shape := ⟨3, ![4096, 16, 64]⟩
abbrev S4096x1024 : Shape := ⟨2, ![4096, 1024]⟩
abbrev S_ : Shape := ⟨0, ![]⟩
abbrev S16x4096x4096 : Shape := ⟨3, ![16, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S4096x16x128 : Shape := ⟨3, ![4096, 16, 128]⟩
abbrev S4096x2048 : Shape := ⟨2, ![4096, 2048]⟩
abbrev S4096x8x2x64 : Shape := ⟨4, ![4096, 8, 2, 64]⟩
abbrev S4096x8x1x64 : Shape := ⟨4, ![4096, 8, 1, 64]⟩
abbrev S4096x8x4x64 : Shape := ⟨4, ![4096, 8, 4, 64]⟩
abbrev S4096x256 : Shape := ⟨2, ![4096, 256]⟩
abbrev S256x256 : Shape := ⟨2, ![256, 256]⟩
abbrev S4096x128 : Shape := ⟨2, ![4096, 128]⟩
abbrev S2x4096x1 : Shape := ⟨3, ![2, 4096, 1]⟩
abbrev S1x128 : Shape := ⟨2, ![1, 128]⟩
abbrev S4096 : Shape := ⟨1, ![4096]⟩
abbrev S4096x1 : Shape := ⟨2, ![4096, 1]⟩
abbrev S1x4096x1 : Shape := ⟨3, ![1, 4096, 1]⟩
abbrev S256x128 : Shape := ⟨2, ![256, 128]⟩

abbrev nBuf : Space → Nat
  | .hbm => 45
  | .vmem => 19
  | .smem => 0
  | _ => 0

abbrev bufTy : (tb : Table) → Fin (tcTables nBuf tb) → BufTy
  | .hbm, ⟨0, _⟩ => ⟨S4096x16x96, .f32⟩
  | .hbm, ⟨1, _⟩ => ⟨S4096x16x96, .f32⟩
  | .hbm, ⟨2, _⟩ => ⟨S4096x16x64, .f32⟩
  | .hbm, ⟨3, _⟩ => ⟨S4096x1024, .f32⟩
  | .hbm, ⟨4, _⟩ => ⟨S_, .f32⟩
  | .hbm, ⟨5, _⟩ => ⟨S4096x16x96, .f32⟩
  | .hbm, ⟨6, _⟩ => ⟨S4096x16x96, .f32⟩
  | .hbm, ⟨7, _⟩ => ⟨S16x4096x4096, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096, .f32⟩
  | .hbm, ⟨16, _⟩ => ⟨S16x4096x1, .f32⟩
  | .hbm, ⟨17, _⟩ => ⟨S16x4096x4096, .f32⟩
  | .hbm, ⟨18, _⟩ => ⟨S16x4096x4096, .f32⟩
  | .hbm, ⟨19, _⟩ => ⟨S16x64x4096, .f32⟩
  | .hbm, ⟨20, _⟩ => ⟨S4096x16x64, .f32⟩
  | .hbm, ⟨21, _⟩ => ⟨S4096x1024, .f32⟩
  | .hbm, ⟨22, _⟩ => ⟨S16x4096x1, .f32⟩
  | .hbm, ⟨23, _⟩ => ⟨S16x4096x1, .f32⟩
  | .hbm, ⟨24, _⟩ => ⟨S_, .i32⟩
  | .hbm, ⟨25, _⟩ => ⟨S_, .f32⟩
  | .hbm, ⟨26, _⟩ => ⟨S4096x16x128, .f32⟩
  | .hbm, ⟨27, _⟩ => ⟨S4096x2048, .f32⟩
  | .hbm, ⟨28, _⟩ => ⟨S4096x2048, .bf16⟩
  | .hbm, ⟨29, _⟩ => ⟨S_, .i32⟩
  | .hbm, ⟨30, _⟩ => ⟨S_, .f32⟩
  | .hbm, ⟨31, _⟩ => ⟨S4096x16x128, .f32⟩
  | .hbm, ⟨32, _⟩ => ⟨S4096x2048, .f32⟩
  | .hbm, ⟨33, _⟩ => ⟨S4096x2048, .bf16⟩
  | .hbm, ⟨34, _⟩ => ⟨S4096x8x2x64, .f32⟩
  | .hbm, ⟨35, _⟩ => ⟨S4096x8x1x64, .f32⟩
  | .hbm, ⟨36, _⟩ => ⟨S4096x8x1x64, .f32⟩
  | .hbm, ⟨37, _⟩ => ⟨S_, .f32⟩
  | .hbm, ⟨38, _⟩ => ⟨S4096x8x1x64, .f32⟩
  | .hbm, ⟨39, _⟩ => ⟨S4096x8x4x64, .f32⟩
  | .hbm, ⟨40, _⟩ => ⟨S4096x2048, .f32⟩
  | .hbm, ⟨41, _⟩ => ⟨S4096x2048, .bf16⟩
  | .hbm, ⟨42, _⟩ => ⟨S4096x2048, .f32⟩
  | .hbm, ⟨43, _⟩ => ⟨S4096x2048, .f32⟩
  | .hbm, ⟨44, _⟩ => ⟨S4096x2048, .f32⟩
  | .local _ .vmem, ⟨0, _⟩ => ⟨S4096x256, .bf16⟩
  | .local _ .vmem, ⟨1, _⟩ => ⟨S4096x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S4096x128, .f32⟩
  | .local _ .vmem, ⟨7, _⟩ => ⟨S4096x128, .f32⟩
  | .local _ .vmem, ⟨8, _⟩ => ⟨S2x4096x1, .f32⟩
  | .local _ .vmem, ⟨9, _⟩ => ⟨S2x4096x1, .f32⟩
  | .local _ .vmem, ⟨10, _⟩ => ⟨S4096x128, .f32⟩
  | .local _ .vmem, ⟨11, _⟩ => ⟨S4096x128, .f32⟩
  | .local _ .vmem, ⟨12, _⟩ => ⟨S4096x256, .f32⟩
  | .local _ .vmem, ⟨13, _⟩ => ⟨S4096x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S2x4096x1, .f32⟩
  | _, _ => ⟨S4096x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_call1_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c0_i32_23 : BitVec 32 := 0#32
  let v37 : BitVec 1 := Scalar.cmpi .eq arg1 c0_i32_23
  let v38 : BitVec 32 := Scalar.extui v37
  let c0_i32_24 : BitVec 32 := 0#32
  let v39 : BitVec 1 := Scalar.cmpi .ne v38 c0_i32_24
  v39

def k0_cond3 (i : grid0.Coords) : BitVec 1 :=
  let arg1 : BitVec 32 := BitVec.ofNat 32 (i 1).val
  let c0_i32_25 : BitVec 32 := 0#32
  let v40 : BitVec 1 := Scalar.cmpi .sgt arg1 c0_i32_25
  let v41 : BitVec 32 := Scalar.extui v40
  let c0_i32_26 : BitVec 32 := 0#32
  let v42 : BitVec 1 := Scalar.cmpi .ne v41 c0_i32_26
  v42

def k0_cond4 (i : grid0.Coords) : BitVec 1 :=
  let arg1 : BitVec 32 := BitVec.ofNat 32 (i 1).val
  let c0_i32_48 : BitVec 32 := 0#32
  let v74 : BitVec 1 := Scalar.cmpi .eq arg1 c0_i32_48
  let v75 : BitVec 32 := Scalar.extui v74
  let c0_i32_49 : BitVec 32 := 0#32
  let v76 : BitVec 1 := Scalar.cmpi .ne v75 c0_i32_49
  v76

def k0_cond5 (i : grid0.Coords) : BitVec 1 :=
  let arg1 : BitVec 32 := BitVec.ofNat 32 (i 1).val
  let c0_i32_50 : BitVec 32 := 0#32
  let v77 : BitVec 1 := Scalar.cmpi .sgt arg1 c0_i32_50
  let v78 : BitVec 32 := Scalar.extui v77
  let c0_i32_51 : BitVec 32 := 0#32
  let v79 : BitVec 1 := Scalar.cmpi .ne v78 c0_i32_51
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4096x16x96 : Shape := ⟨3, ![4096, 16, 96]⟩
abbrev S4096x16x64 : Shape := ⟨3, ![4096, 16, 64]⟩
abbrev S4096x1024 : Shape := ⟨2, ![4096, 1024]⟩
abbrev S_ : Shape := ⟨0, ![]⟩
abbrev S16x4096x4096 : Shape := ⟨3, ![16, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S16x4096x96 : Shape := ⟨3, ![16, 4096, 96]⟩
abbrev S4096x8x2x64 : Shape := ⟨4, ![4096, 8, 2, 64]⟩
abbrev S4096x8x1x64 : Shape := ⟨4, ![4096, 8, 1, 64]⟩
abbrev S4096x16x128 : Shape := ⟨3, ![4096, 16, 128]⟩
abbrev S4096x2048 : Shape := ⟨2, ![4096, 2048]⟩
abbrev S4096x8x4x64 : Shape := ⟨4, ![4096, 8, 4, 64]⟩

abbrev nBuf : Space → Nat
  | .hbm => 87
  | .vmem => 0
  | .smem => 0
  | _ => 0

abbrev bufTy : (tb : Table) → Fin (tcTables nBuf tb) → BufTy
  | .hbm, ⟨0, _⟩ => ⟨S4096x16x96, .f32⟩
  | .hbm, ⟨1, _⟩ => ⟨S4096x16x96, .f32⟩
  | .hbm, ⟨2, _⟩ => ⟨S4096x16x64, .f32⟩
  | .hbm, ⟨3, _⟩ => ⟨S4096x1024, .f32⟩
  | .hbm, ⟨4, _⟩ => ⟨S_, .f32⟩
  | .hbm, ⟨5, _⟩ => ⟨S4096x16x96, .f32⟩
  | .hbm, ⟨6, _⟩ => ⟨S4096x16x96, .f32⟩
  | .hbm, ⟨7, _⟩ => ⟨S16x4096x4096, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S16x4096x4096, .f32⟩
  | .hbm, ⟨12, _⟩ => ⟨S16x4096x4096, .i1⟩
  | .hbm, ⟨13, _⟩ => ⟨S16x4096x4096, .f32⟩
  | .hbm, ⟨14, _⟩ => ⟨S_, .f32⟩
  | .hbm, ⟨15, _⟩ => ⟨S16x4096, .f32⟩
  | .hbm, ⟨16, _⟩ => ⟨S_, .f32⟩
  | .hbm, ⟨17, _⟩ => ⟨S16x4096, .f32⟩
  | .hbm, ⟨18, _⟩ => ⟨S16x4096, .f32⟩
  | .hbm, ⟨19, _⟩ => ⟨S_, .f32⟩
  | .hbm, ⟨20, _⟩ => ⟨S16x4096, .f32⟩
  | .hbm, ⟨21, _⟩ => ⟨S16x4096, .i1⟩
  | .hbm, ⟨22, _⟩ => ⟨S_, .f32⟩
  | .hbm, ⟨23, _⟩ => ⟨S16x4096, .f32⟩
  | .hbm, ⟨24, _⟩ => ⟨S16x4096, .i1⟩
  | .hbm, ⟨25, _⟩ => ⟨S_, .f32⟩
  | .hbm, ⟨26, _⟩ => ⟨S16x4096, .f32⟩
  | .hbm, ⟨27, _⟩ => ⟨S_, .f32⟩
  | .hbm, ⟨28, _⟩ => ⟨S16x4096, .f32⟩
  | .hbm, ⟨29, _⟩ => ⟨S_, .f32⟩
  | .hbm, ⟨30, _⟩ => ⟨S16x4096, .f32⟩
  | .hbm, ⟨31, _⟩ => ⟨S16x4096, .f32⟩
  | .hbm, ⟨32, _⟩ => ⟨S16x4096, .f32⟩
  | .hbm, ⟨33, _⟩ => ⟨S16x4096x1, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S16x4096, .f32⟩
  | .hbm, ⟨39, _⟩ => ⟨S16x4096x1, .f32⟩
  | .hbm, ⟨40, _⟩ => ⟨S16x4096x4096, .f32⟩
  | .hbm, ⟨41, _⟩ => ⟨S16x4096x4096, .f32⟩
  | .hbm, ⟨42, _⟩ => ⟨S16x4096x1, .f32⟩
  | .hbm, ⟨43, _⟩ => ⟨S_, .f32⟩
  | .hbm, ⟨44, _⟩ => ⟨S16x4096x1, .f32⟩
  | .hbm, ⟨45, _⟩ => ⟨S16x4096x1, .f32⟩
  | .hbm, ⟨46, _⟩ => ⟨S16x64x4096, .f32⟩
  | .hbm, ⟨47, _⟩ => ⟨S4096x16x64, .f32⟩
  | .hbm, ⟨48, _⟩ => ⟨S4096x1024, .f32⟩
  | .hbm, ⟨49, _⟩ => ⟨S4096x16x64, .f32⟩
  | .hbm, ⟨50, _⟩ => ⟨S16x64x4096, .f32⟩
  | .hbm, ⟨51, _⟩ => ⟨S16x4096x4096, .f32⟩
  | .hbm, ⟨52, _⟩ => ⟨S16x64x4096, .f32⟩
  | .hbm, ⟨53, _⟩ => ⟨S4096x16x64, .f32⟩
  | .hbm, ⟨54, _⟩ => ⟨S16x4096x4096, .f32⟩
  | .hbm, ⟨55, _⟩ => ⟨S16x4096x4096, .f32⟩
  | .hbm, ⟨56, _⟩ => ⟨S16x4096x4096, .f32⟩
  | .hbm, ⟨57, _⟩ => ⟨S_, .f32⟩
  | .hbm, ⟨58, _⟩ => ⟨S16x4096, .f32⟩
  | .hbm, ⟨59, _⟩ => ⟨S16x4096x1, .f32⟩
  | .hbm, ⟨60, _⟩ => ⟨S16x4096x1, .f32⟩
  | .hbm, ⟨61, _⟩ => ⟨S16x4096x4096, .f32⟩
  | .hbm, ⟨62, _⟩ => ⟨S16x4096x4096, .f32⟩
  | .hbm, ⟨63, _⟩ => ⟨S_, .f32⟩
  | .hbm, ⟨64, _⟩ => ⟨S16x4096, .f32⟩
  | .hbm, ⟨65, _⟩ => ⟨S16x4096x4096, .f32⟩
  | .hbm, ⟨66, _⟩ => ⟨S16x4096x4096, .f32⟩
  | .hbm, ⟨67, _⟩ => ⟨S16x4096x4096, .f32⟩
  | .hbm, ⟨68, _⟩ => ⟨S16x4096x96, .f32⟩
  | .hbm, ⟨69, _⟩ => ⟨S4096x16x96, .f32⟩
  | .hbm, ⟨70, _⟩ => ⟨S16x4096x96, .f32⟩
  | .hbm, ⟨71, _⟩ => ⟨S4096x16x96, .f32⟩
  | .hbm, ⟨72, _⟩ => ⟨S4096x8x2x64, .f32⟩
  | .hbm, ⟨73, _⟩ => ⟨S4096x8x1x64, .f32⟩
  | .hbm, ⟨74, _⟩ => ⟨S4096x8x1x64, .f32⟩
  | .hbm, ⟨75, _⟩ => ⟨S_, .f32⟩
  | .hbm, ⟨76, _⟩ => ⟨S4096x8x1x64, .f32⟩
  | .hbm, ⟨77, _⟩ => ⟨S_, .i32⟩
  | .hbm, ⟨78, _⟩ => ⟨S_, .f32⟩
  | .hbm, ⟨79, _⟩ => ⟨S4096x16x128, .f32⟩
  | .hbm, ⟨80, _⟩ => ⟨S4096x2048, .f32⟩
  | .hbm, ⟨81, _⟩ => ⟨S_, .i32⟩
  | .hbm, ⟨82, _⟩ => ⟨S_, .f32⟩
  | .hbm, ⟨83, _⟩ => ⟨S4096x16x128, .f32⟩
  | .hbm, ⟨84, _⟩ => ⟨S4096x2048, .f32⟩
  | .hbm, ⟨85, _⟩ => ⟨S4096x8x4x64, .f32⟩
  | .hbm, ⟨86, _⟩ => ⟨S4096x2048, .f32⟩
  | _, _ => ⟨S4096x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_c : Ref sig .tc := ⟨.hbm, 77, rfl⟩
abbrev main_call0_v0 : Ref sig .tc := ⟨.hbm, 78, rfl⟩
abbrev main_v59 : Ref sig .tc := ⟨.hbm, 79, rfl⟩
abbrev main_v60 : Ref sig .tc := ⟨.hbm, 80, rfl⟩
abbrev main_c_13 : Ref sig .tc := ⟨.hbm, 81, rfl⟩
abbrev main_call1_v0 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Dact.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S2816x1024, .bf16⟩
  | .hbm, ⟨3, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactReferenceIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Dwd.lean ====
abbrev S4096x2816 : Shape := ⟨2, ![4096, 2816]⟩
abbrev S4096x1024 : Shape := ⟨2, ![4096, 1024]⟩
abbrev S2816x1024 : Shape := ⟨2, ![2816, 1024]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S2816x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S1024x2816, .f32⟩
  | .hbm, ⟨12, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Dwg.lean ====
abbrev S4096x1024 : Shape := ⟨2, ![4096, 1024]⟩
abbrev S4096x2816 : Shape := ⟨2, ![4096, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x1024, .bf16⟩
  | .hbm, ⟨3, _⟩ => ⟨S4096x2816, .bf16⟩
  | .hbm, ⟨4, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwgReferenceIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dhg.lean ====
abbrev S4096x2816 : Shape := ⟨2, ![4096, 2816]⟩
abbrev S1024x2816 : Shape := ⟨2, ![1024, 2816]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S1024x2816, .f32⟩
  | .hbm, ⟨2, _⟩ => ⟨S4096x2816, .bf16⟩
  | .hbm, ⟨3, _⟩ => ⟨S1024x2816, .bf16⟩
  | .hbm, ⟨4, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 11], ![false, false, false]⟩

def k0_cond3 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhgReferenceIdeal.lean ====
abbrev S4096x2816 : Shape := ⟨2, ![4096, 2816]⟩
abbrev S1024x2816 : Shape := ⟨2, ![1024, 2816]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S1024x2816, .f32⟩
  | .hbm, ⟨2, _⟩ => ⟨S_, .f32⟩
  | .hbm, ⟨3, _⟩ => ⟨S4096x1024, .f32⟩
  | .hbm, ⟨4, _⟩ => ⟨S4096x2816, .f32⟩
  | .hbm, ⟨5, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dhu.lean ====
abbrev S4096x2816 : Shape := ⟨2, ![4096, 2816]⟩
abbrev S1024x2816 : Shape := ⟨2, ![1024, 2816]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2816, .f32⟩
  | .hbm, ⟨1, _⟩ => ⟨S1024x2816, .f32⟩
  | .hbm, ⟨2, _⟩ => ⟨S4096x1024, .f32⟩
  | .hbm, ⟨3, _⟩ => ⟨S4096x2816, .bf16⟩
  | .hbm, ⟨4, _⟩ => ⟨S1024x2816, .bf16⟩
  | .hbm, ⟨5, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 11], ![false, false, false]⟩

def k0_cond3 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhuReferenceIdeal.lean ====
abbrev S4096x2816 : Shape := ⟨2, ![4096, 2816]⟩
abbrev S1024x2816 : Shape := ⟨2, ![1024, 2816]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S1024x2816, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x2816, .f32⟩
  | .hbm, ⟨6, _⟩ => ⟨S4096x1024, .f32⟩
  | .hbm, ⟨7, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Gu.lean ====
abbrev S4096x1024 : Shape := ⟨2, ![4096, 1024]⟩
abbrev S1024x2816 : Shape := ⟨2, ![1024, 2816]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S1024x5632, .f32⟩
  | .hbm, ⟨4, _⟩ => ⟨S1024x5632, .bf16⟩
  | .hbm, ⟨5, _⟩ => ⟨S4096x1024, .bf16⟩
  | .hbm, ⟨6, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuReferenceIdeal.lean ====
abbrev S4096x1024 : Shape := ⟨2, ![4096, 1024]⟩
abbrev S1024x2816 : Shape := ⟨2, ![1024, 2816]⟩
abbrev S4096x2816 : Shape := ⟨2, ![4096, 2816]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 11], ![false, false, false]⟩

def k0_cond3 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Swb.lean ====
abbrev S4096x2816 : Shape := ⟨2, ![4096, 2816]⟩
abbrev S4096x5632 : Shape := ⟨2, ![4096, 5632]⟩
abbrev S512x1408 : Shape := ⟨2, ![512, 1408]⟩

abbrev nBuf : Space → Nat
  | .hbm => 4
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S4096x5632, .f32⟩
  | .hbm, ⟨2, _⟩ => ⟨S4096x2816, .bf16⟩
  | .hbm, ⟨3, _⟩ => ⟨S4096x2816, .bf16⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwbReferenceIdeal.lean ====
abbrev S4096x2816 : Shape := ⟨2, ![4096, 2816]⟩
abbrev S4096x5632 : Shape := ⟨2, ![4096, 5632]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x5632, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .bf16⟩
  | .hbm, ⟨25, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== Mgb.lean ====
abbrev S4096x1024 : Shape := ⟨2, ![4096, 1024]⟩
abbrev S4096x7168 : Shape := ⟨2, ![4096, 7168]⟩
abbrev S512x1024 : Shape := ⟨2, ![512, 1024]⟩

abbrev nBuf : Space → Nat
  | .hbm => 8
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x7168, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg1.toNat, c5_i32.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg1.toNat, c6_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]
-- ==== MgbReferenceIdeal.lean ====
abbrev S4096x1024 : Shape := ⟨2, ![4096, 1024]⟩
abbrev S4096x7168 : Shape := ⟨2, ![4096, 7168]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x7168, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | .hbm, ⟨42, _⟩ => ⟨S4096x1024, .bf16⟩
  | .hbm, ⟨43, _⟩ => ⟨S4096x1024, .bf16⟩
  | .hbm, ⟨44, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Drms.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v31 : BitVec 1 := Scalar.cmpi .eq arg1 c0_i32
  let arg0 : BitVec 32 := BitVec.ofNat 32 (i 0).val
  let c0_i32_14 : BitVec 32 := 0#32
  let v32 : BitVec 1 := Scalar.cmpi .eq arg0 c0_i32_14
  let v33 : BitVec 1 := Scalar.andi v31 v32
  let v34 : BitVec 32 := Scalar.extui v33
  let c0_i32_15 : BitVec 32 := 0#32
  let v35 : BitVec 1 := Scalar.cmpi .ne v34 c0_i32_15
  v35

def k0_cond2 (i : grid0.Coords) : BitVec 1 :=
  let arg1 : BitVec 32 := BitVec.ofNat 32 (i 1).val
  let c0_i32 : BitVec 32 := 0#32
  let v31 : BitVec 1 := Scalar.cmpi .eq arg1 c0_i32
  let arg0 : BitVec 32 := BitVec.ofNat 32 (i 0).val
  let c0_i32_14 : BitVec 32 := 0#32
  let v32 : BitVec 1 := Scalar.cmpi .eq arg0 c0_i32_14
  let v33 : BitVec 1 := Scalar.andi v31 v32
  let v_true : BitVec 1 := 1#1
  let v36 : BitVec 1 := Scalar.xori v33 v_true
  let v37 : BitVec 32 := Scalar.extui v36
  let c0_i32_16 : BitVec 32 := 0#32
  let v38 : BitVec 1 := Scalar.cmpi .ne v37 c0_i32_16
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== DrmsReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Fwd.lean ====
abbrev S4096x16x96 : Shape := ⟨3, ![4096, 16, 96]⟩
abbrev S4096x16x64 : Shape := ⟨3, ![4096, 16, 64]⟩
abbrev S_ : Shape := ⟨0, ![]⟩
abbrev S4096x16x128 : Shape := ⟨3, ![4096, 16, 128]⟩
abbrev S4096x2048 : Shape := ⟨2, ![4096, 2048]⟩
abbrev S4096x8x2x64 : Shape := ⟨4, ![4096, 8, 2, 64]⟩
abbrev S4096x8x1x64 : Shape := ⟨4, ![4096, 8, 1, 64]⟩
abbrev S4096x8x4x64 : Shape := ⟨4, ![4096, 8, 4, 64]⟩
abbrev S4096x1024 : Shape := ⟨2, ![4096, 1024]⟩
abbrev S16x4096x1 : Shape := ⟨3, ![16, 4096, 1]⟩
abbrev S512x256 : Shape := ⟨2, ![512, 256]⟩
abbrev S4096x256 : Shape := ⟨2, ![4096, 256]⟩
abbrev S512x128 : Shape := ⟨2, ![512, 128]⟩
abbrev S2x512x1 : Shape := ⟨3, ![2, 512, 1]⟩
abbrev S4096x128 : Shape := ⟨2, ![4096, 128]⟩
abbrev S512x4096 : Shape := ⟨2, ![512, 4096]⟩
abbrev S512 : Shape := ⟨1, ![512]⟩
abbrev S512x1 : Shape := ⟨2, ![512, 1]⟩
abbrev S1x512x1 : Shape := ⟨3, ![1, 512, 1]⟩

abbrev nBuf : Space → Nat
  | .hbm => 26
  | .vmem => 10
  | .smem => 0
  | _ => 0

abbrev bufTy : (tb : Table) → Fin (tcTables nBuf tb) → BufTy
  | .hbm, ⟨0, _⟩ => ⟨S4096x16x96, .f32⟩
  | .hbm, ⟨1, _⟩ => ⟨S4096x16x96, .f32⟩
  | .hbm, ⟨2, _⟩ => ⟨S4096x16x64, .f32⟩
  | .hbm, ⟨3, _⟩ => ⟨S_, .f32⟩
  | .hbm, ⟨4, _⟩ => ⟨S4096x16x96, .f32⟩
  | .hbm, ⟨5, _⟩ => ⟨S4096x16x96, .f32⟩
  | .hbm, ⟨6, _⟩ => ⟨S_, .i32⟩
  | .hbm, ⟨7, _⟩ => ⟨S_, .f32⟩
  | .hbm, ⟨8, _⟩ => ⟨S4096x16x128, .f32⟩
  | .hbm, ⟨9, _⟩ => ⟨S4096x2048, .f32⟩
  | .hbm, ⟨10, _⟩ => ⟨S4096x2048, .bf16⟩
  | .hbm, ⟨11, _⟩ => ⟨S_, .i32⟩
  | .hbm, ⟨12, _⟩ => ⟨S_, .f32⟩
  | .hbm, ⟨13, _⟩ => ⟨S4096x16x128, .f32⟩
  | .hbm, ⟨14, _⟩ => ⟨S4096x2048, .f32⟩
  | .hbm, ⟨15, _⟩ => ⟨S4096x2048, .bf16⟩
  | .hbm, ⟨16, _⟩ => ⟨S4096x8x2x64, .f32⟩
  | .hbm, ⟨17, _⟩ => ⟨S4096x8x1x64, .f32⟩
  | .hbm, ⟨18, _⟩ => ⟨S4096x8x1x64, .f32⟩
  | .hbm, ⟨19, _⟩ => ⟨S_, .f32⟩
  | .hbm, ⟨20, _⟩ => ⟨S4096x8x1x64, .f32⟩
  | .hbm, ⟨21, _⟩ => ⟨S4096x8x4x64, .f32⟩
  | .hbm, ⟨22, _⟩ => ⟨S4096x2048, .f32⟩
  | .hbm, ⟨23, _⟩ => ⟨S4096x2048, .bf16⟩
  | .hbm, ⟨24, _⟩ => ⟨S4096x1024, .f32⟩
  | .hbm, ⟨25, _⟩ => ⟨S16x4096x1, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S512x128, .f32⟩
  | .local _ .vmem, ⟨7, _⟩ => ⟨S512x128, .f32⟩
  | .local _ .vmem, ⟨8, _⟩ => ⟨S2x512x1, .f32⟩
  | .local _ .vmem, ⟨9, _⟩ => ⟨S2x512x1, .f32⟩
  | _, _ => ⟨S4096x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdReferenceIdeal.lean ====
abbrev S4096x16x96 : Shape := ⟨3, ![4096, 16, 96]⟩
abbrev S4096x16x64 : Shape := ⟨3, ![4096, 16, 64]⟩
abbrev S_ : Shape := ⟨0, ![]⟩
abbrev S16x4096x4096 : Shape := ⟨3, ![16, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S4096x1024 : Shape := ⟨2, ![4096, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x16x96, .f32⟩
  | .hbm, ⟨1, _⟩ => ⟨S4096x16x96, .f32⟩
  | .hbm, ⟨2, _⟩ => ⟨S4096x16x64, .f32⟩
  | .hbm, ⟨3, _⟩ => ⟨S_, .f32⟩
  | .hbm, ⟨4, _⟩ => ⟨S4096x16x96, .f32⟩
  | .hbm, ⟨5, _⟩ => ⟨S4096x16x96, .f32⟩
  | .hbm, ⟨6, _⟩ => ⟨S16x4096x4096, .f32⟩
  | .hbm, ⟨7, _⟩ => ⟨S_, .f32⟩
  | .hbm, ⟨8, _⟩ => ⟨S4096x16x96, .f32⟩
  | .hbm, ⟨9, _⟩ => ⟨S4096x16x96, .f32⟩
  | .hbm, ⟨10, _⟩ => ⟨S16x4096x4096, .f32⟩
  | .hbm, ⟨11, _⟩ => ⟨S_, .f32⟩
  | .hbm, ⟨12, _⟩ => ⟨S16x4096, .f32⟩
  | .hbm, ⟨13, _⟩ => ⟨S_, .f32⟩
  | .hbm, ⟨14, _⟩ => ⟨S16x4096, .f32⟩
  | .hbm, ⟨15, _⟩ => ⟨S16x4096, .f32⟩
  | .hbm, ⟨16, _⟩ => ⟨S16x4096x1, .f32⟩
  | .hbm, ⟨17, _⟩ => ⟨S16x4096x4096, .f32⟩
  | .hbm, ⟨18, _⟩ => ⟨S16x4096x4096, .f32⟩
  | .hbm, ⟨19, _⟩ => ⟨S16x4096x4096, .f32⟩
  | .hbm, ⟨20, _⟩ => ⟨S_, .f32⟩
  | .hbm, ⟨21, _⟩ => ⟨S16x4096, .f32⟩
  | .hbm, ⟨22, _⟩ => ⟨S16x4096x1, .f32⟩
  | .hbm, ⟨23, _⟩ => ⟨S16x4096x4096, .f32⟩
  | .hbm, ⟨24, _⟩ => ⟨S16x4096x4096, .f32⟩
  | .hbm, ⟨25, _⟩ => ⟨S16x64x4096, .f32⟩
  | .hbm, ⟨26, _⟩ => ⟨S4096x16x64, .f32⟩
  | .hbm, ⟨27, _⟩ => ⟨S4096x1024, .f32⟩
  | .hbm, ⟨28, _⟩ => ⟨S16x4096x4096, .f32⟩
  | .hbm, ⟨29, _⟩ => ⟨S_, .f32⟩
  | .hbm, ⟨30, _⟩ => ⟨S16x4096, .f32⟩
  | .hbm, ⟨31, _⟩ => ⟨S16x4096x1, .f32⟩
  | .hbm, ⟨32, _⟩ => ⟨S16x4096x1, .f32⟩
  | _, _ => ⟨S4096x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Inb.lean ====
abbrev S4096x1024 : Shape := ⟨2, ![4096, 1024]⟩
abbrev S1024x7168 : Shape := ⟨2, ![1024, 7168]⟩
abbrev S4096x7168 : Shape := ⟨2, ![4096, 7168]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x7168, .f32⟩
  | .hbm, ⟨2, _⟩ => ⟨S4096x1024, .bf16⟩
  | .hbm, ⟨3, _⟩ => ⟨S1024x7168, .bf16⟩
  | .hbm, ⟨4, _⟩ => ⟨S4096x7168, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InbReferenceIdeal.lean ====
abbrev S4096x1024 : Shape := ⟨2, ![4096, 1024]⟩
abbrev S1024x7168 : Shape := ⟨2, ![1024, 7168]⟩
abbrev S4096x7168 : Shape := ⟨2, ![4096, 7168]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x7168, .f32⟩
  | .hbm, ⟨2, _⟩ => ⟨S4096x7168, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Bra.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BraReferenceIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Brb.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x2048, .bf16⟩
  | .hbm, ⟨3, _⟩ => ⟨S2048x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrbReferenceIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Mix.lean ====
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Dmg.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmgReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dab.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DabReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dmb.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S4096x1024, .bf16⟩
  | .hbm, ⟨3, _⟩ => ⟨S2048x1024, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmbReferenceIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S_, .f32⟩
  | .hbm, ⟨3, _⟩ => ⟨S4096x2048, .f32⟩
  | .hbm, ⟨4, _⟩ => ⟨S4096x1024, .f32⟩
  | .hbm, ⟨5, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dhz.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x1024, .f32⟩
  | .hbm, ⟨3, _⟩ => ⟨S4096x2048, .bf16⟩
  | .hbm, ⟨4, _⟩ => ⟨S1024x2048, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhzReferenceIdeal.lean ====
abbrev S4096x2048 : Shape := ⟨2, ![4096, 2048]⟩
abbrev S1024x2048 : Shape := ⟨2, ![1024, 2048]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x2048, .f32⟩
  | .hbm, ⟨6, _⟩ => ⟨S4096x1024, .f32⟩
  | .hbm, ⟨7, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Dhx.lean ====
abbrev S4096x3072 : Shape := ⟨2, ![4096, 3072]⟩
abbrev S1024x3072 : Shape := ⟨2, ![1024, 3072]⟩
abbrev S4096x1024 : Shape := ⟨2, ![4096, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S4096x1024, .f32⟩
  | .hbm, ⟨3, _⟩ => ⟨S4096x3072, .bf16⟩
  | .hbm, ⟨4, _⟩ => ⟨S1024x3072, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhxReferenceIdeal.lean ====
abbrev S4096x3072 : Shape := ⟨2, ![4096, 3072]⟩
abbrev S1024x3072 : Shape := ⟨2, ![1024, 3072]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x3072, .f32⟩
  | .hbm, ⟨6, _⟩ => ⟨S4096x1024, .f32⟩
  | .hbm, ⟨7, _⟩ => ⟨S4096x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Dha.lean ====
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhaReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Dwo.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwoReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dwa.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwaReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dwb.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S4096x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwbReferenceIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S2048x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dwz.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwzReferenceIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dwx.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x1024, .bf16⟩
  | .hbm, ⟨3, _⟩ => ⟨S4096x3072, .bf16⟩
  | .hbm, ⟨4, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwxReferenceIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S_, .f32⟩
  | .hbm, ⟨3, _⟩ => ⟨S1024x3072, .f32⟩
  | .hbm, ⟨4, _⟩ => ⟨S4096x3072, .f32⟩
  | .hbm, ⟨5, _⟩ => ⟨S3072x1024, .f32⟩
  | .hbm, ⟨6, _⟩ => ⟨S1024x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dwi.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwiReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Pay.lean ====
module

public import proofs.«01_k».proof.Proof.Gen.KernelIdeal.Skeleton
public import Idealize.ShloMosaic.Lib.Pointwise

@[expose] public section

set_option maxRecDepth 16384

noncomputable section

/-! One pair of heads of the attention backward, element by element: what each value the body computes is, as sums over
the entries of the blocks it reads. A block of 256 columns holds two heads, 128 columns each. -/

namespace Cert.KernelIdeal.Heads

open Cert.KernelIdeal Cert.KernelIdeal.Gen Idealize.ShloMosaic

/-- Column `l` of head `e` of a pair. -/
def col (e : Fin 2) (l : Fin 128) : Fin 256 := ⟨128 * e.val + l.val, by omega⟩

/-- The head of the pair that a column belongs to. -/
def hd (c : Fin 256) : Fin 2 := ⟨c.val / 128, by omega⟩

/-- A column's place within its head. -/
def ln (c : Fin 256) : Fin 128 := ⟨c.val % 128, by omega⟩

/-- A value kept on the head's own half of the 128 lanes, and zero on the other half. -/
def own (e : Fin 2) (l : Fin 128) (a : EReal) : EReal := if l.val / 64 = e.val then a else 0

theorem slt_lane (l : Fin 128) : IntOp.cmpi .slt (BitVec.ofNat 32 l.val) 64#32 = if l.val / 64 = 0 then 1#1 else 0#1 := by
  revert l; decide

theorem sge_lane (l : Fin 128) : IntOp.cmpi .sge (BitVec.ofNat 32 l.val) 64#32 = if l.val / 64 = 1 then 1#1 else 0#1 := by
  revert l; decide

theorem select_slt (l : Fin 128) (a : EReal) : Scalar.select (IntOp.cmpi .slt (BitVec.ofNat 32 l.val) 64#32) a 0 = own 0 l a := by
  rw [slt_lane, own]
  by_cases h : l.val / 64 = 0
  · rw [if_pos h]; exact (if_pos h).symm
  · rw [if_neg h]; exact (if_neg h).symm

theorem select_sge (l : Fin 128) (a : EReal) : Scalar.select (IntOp.cmpi .sge (BitVec.ofNat 32 l.val) 64#32) a 0 = own 1 l a := by
  rw [sge_lane, own]
  by_cases h : l.val / 64 = 1
  · rw [if_pos h]; exact (if_pos h).symm
  · rw [if_neg h]; exact (if_neg h).symm

/-- A head's probabilities: the exponential of a score less the row's log-sum. -/
theorem pay11_at (q : Vec Ideal S4096x128 .bf16) (k : Vec Ideal S256x128 .bf16) (s : Vec Ideal S1x4096x1 .f32) (i : Fin 4096) (j : Fin 256) :
    k0_pay11 q k s (ix2 i j) = Ideal.exp (∑ d : Fin 128, q (ix2 i d) * k (ix2 j d) - s (ix3 0 i 0)) := by
  pointwise [k0_pay11, k0_pay9, k0_pay10]

theorem pay20_eq (q : Vec Ideal S4096x128 .bf16) (k : Vec Ideal S256x128 .bf16) (s : Vec Ideal S1x4096x1 .f32) :
    k0_pay20 q k s = k0_pay11 q k s := rfl

/-- The gradient of the scores: the probability times what the row's mean takes off its own gradient. -/
theorem pay12_at (x : Vec Ideal S4096x128 .f32) (q : Vec Ideal S4096x128 .bf16) (k v : Vec Ideal S256x128 .bf16) (s t : Vec Ideal S1x4096x1 .f32) (i : Fin 4096) (j : Fin 256) :
    k0_pay12 x q k v s t (ix2 i j) = k0_pay11 q k s (ix2 i j) * (∑ d : Fin 128, x (ix2 i d) * v (ix2 j d) - t (ix3 0 i 0)) := by
  pointwise [k0_pay12, k0_pay8]

theorem pay21_eq (x : Vec Ideal S4096x128 .f32) (q : Vec Ideal S4096x128 .bf16) (k v : Vec Ideal S256x128 .bf16) (s t : Vec Ideal S1x4096x1 .f32) :
    k0_pay21 (k0_pay8 x) q k v s t = k0_pay12 x q k v s t := rfl

/-- The row means of the first head: the products of the gradient and the output, summed over the head's lanes. -/
theorem pay6_at (x o : Vec Ideal S4096x128 .f32) (i : Fin 4096) :
    k0_pay6 x o (ix3 0 i 0) = ∑ d : Fin 128, own 0 d (x (ix2 i d) * o (ix2 i d)) := by
  pointwise [k0_pay6, k0_pay5, select_slt]

/-- The row means of the second head. -/
theorem pay7_at (x o : Vec Ideal S4096x128 .f32) (i : Fin 4096) :
    k0_pay7 x o (ix3 0 i 0) = ∑ d : Fin 128, own 1 d (x (ix2 i d) * o (ix2 i d)) := by
  pointwise [k0_pay7, k0_pay5, select_sge]

/-- The first head's gradient of the values, on its own lanes. -/
theorem pay13_at (x : Vec Ideal S4096x128 .f32) (q : Vec Ideal S4096x128 .bf16) (k : Vec Ideal S256x128 .bf16) (s : Vec Ideal S1x4096x1 .f32) (a : Fin 256) (b : Fin 128) :
    k0_pay13 x q k s (ix2 a b) = own 0 b (∑ i : Fin 4096, k0_pay11 q k s (ix2 i a) * x (ix2 i b)) := by
  pointwise [k0_pay13, k0_pay8, select_slt]

/-- The second head's gradient of the values, on its own lanes. -/
theorem pay1_at (x : Vec Ideal S4096x128 .f32) (q : Vec Ideal S4096x128 .bf16) (k : Vec Ideal S256x128 .bf16) (s : Vec Ideal S1x4096x1 .f32) (a : Fin 256) (b : Fin 128) :
    k0_pay1 (k0_pay17 (iota .tc S1x128 32 [1] iota_S1x128_d1_w32)) (k0_pay22 (k0_pay8 x) q k s) (ix2 a b)
      = own 1 b (∑ i : Fin 4096, k0_pay11 q k s (ix2 i a) * x (ix2 i b)) := by
  pointwise [k0_pay1, k0_pay17, k0_pay22, pay20_eq, k0_pay8, select_sge]

/-- A head's gradient of the keys: the gradients of the scores against the queries. -/
theorem pay14_at (q : Vec Ideal S4096x128 .bf16) (z : FVec Ideal S4096x256 .bf16) (a : Fin 256) (b : Fin 128) :
    k0_pay14 (k0_pay9 q) z (ix2 a b) = ∑ i : Fin 4096, z (ix2 i a) * q (ix2 i b) := by
  pointwise [k0_pay14, k0_pay9]

theorem pay2_eq (q : Vec Ideal S4096x128 .bf16) (z : FVec Ideal S4096x256 .bf16) : k0_pay2 (k0_pay18 q) z = k0_pay14 (k0_pay9 q) z := rfl

/-- A key block's part of a head's gradient of the queries: the gradients of the scores against the keys. -/
theorem pay15_at (k : Vec Ideal S256x128 .bf16) (z : FVec Ideal S4096x256 .bf16) (a : Fin 4096) (b : Fin 128) :
    k0_pay15 (k0_pay10 k) z (ix2 a b) = ∑ j : Fin 256, z (ix2 a j) * k (ix2 j b) := by
  pointwise [k0_pay15, k0_pay10]

theorem pay3_eq (k : Vec Ideal S256x128 .bf16) (z : FVec Ideal S4096x256 .bf16) : k0_pay3 (k0_pay19 k) z = k0_pay15 (k0_pay10 k) z := rfl

/-- The same added to what the key blocks before it left. -/
theorem pay16_at (k : Vec Ideal S256x128 .bf16) (z : FVec Ideal S4096x256 .bf16) (w : Vec Ideal S4096x128 .f32) (a : Fin 4096) (b : Fin 128) :
    k0_pay16 (k0_pay10 k) z w (ix2 a b) = w (ix2 a b) + ∑ j : Fin 256, z (ix2 a j) * k (ix2 j b) := by
  pointwise [k0_pay16, k0_pay15, k0_pay10]

theorem pay4_eq (k : Vec Ideal S256x128 .bf16) (z : FVec Ideal S4096x256 .bf16) (a : Vec Ideal S4096x128 .f32) :
    k0_pay4 (k0_pay19 k) z a = k0_pay16 (k0_pay10 k) z a := rfl

end Cert.KernelIdeal.Heads
-- ==== Proof.Blk.lean ====
module

public import proofs.«01_k».proof.Proof.Gen.KernelIdeal.Frame
public import proofs.«01_k».proof.Proof.Pay

@[expose] public section

set_option maxRecDepth 16384

noncomputable section

namespace Cert.KernelIdeal.Heads

open Cert.KernelIdeal Cert.KernelIdeal.Gen Idealize.ShloMosaic Idealize.ShloMosaic.Tactic

/-- The probabilities of head `e` of a pair, read off the blocks. -/
def prob (x0 : Vec Ideal S4096x256 .bf16) (x1 : Vec Ideal S256x256 .bf16) (x4 : Vec Ideal S2x4096x1 .f32) (e : Fin 2) (i : Fin 4096) (j : Fin 256) : EReal :=
  Ideal.exp (∑ d : Fin 128, x0 (ix2 i (col e d)) * x1 (ix2 j (col e d)) - x4 (ix3 e i 0))

/-- The gradient of head `e`'s scores, given the row means `D`. -/
def dsc (x0 : Vec Ideal S4096x256 .bf16) (x1 x2 : Vec Ideal S256x256 .bf16) (x4 : Vec Ideal S2x4096x1 .f32) (x5 : Vec Ideal S4096x128 .f32)
    (D : Vec Ideal S2x4096x1 .f32) (e : Fin 2) (i : Fin 4096) (j : Fin 256) : EReal :=
  prob x0 x1 x4 e i j * (∑ d : Fin 128, x5 (ix2 i d) * x2 (ix2 j (col e d)) - D (ix3 e i 0))

/-- The row means of the two heads. -/
def means (x3 x5 : Vec Ideal S4096x128 .f32) : Vec Ideal S2x4096x1 .f32 :=
  fun y => ∑ d : Fin 128, own (y 0) d (x5 (ix2 (y 1) d) * x3 (ix2 (y 1) d))

/-- One key block's part of the gradient of the queries. -/
def dqp (x0 : Vec Ideal S4096x256 .bf16) (x1 x2 : Vec Ideal S256x256 .bf16) (x4 : Vec Ideal S2x4096x1 .f32) (x5 : Vec Ideal S4096x128 .f32)
    (D : Vec Ideal S2x4096x1 .f32) : Vec Ideal S4096x256 .f32 :=
  fun y => ∑ j : Fin 256, dsc x0 x1 x2 x4 x5 D (hd (y 1)) (y 0) j * x1 (ix2 j (y 1))

/-- The gradient of a block of keys. -/
def dkb (x0 : Vec Ideal S4096x256 .bf16) (x1 x2 : Vec Ideal S256x256 .bf16) (x4 : Vec Ideal S2x4096x1 .f32) (x5 : Vec Ideal S4096x128 .f32)
    (D : Vec Ideal S2x4096x1 .f32) : Vec Ideal S256x256 .f32 :=
  fun y => ∑ i : Fin 4096, dsc x0 x1 x2 x4 x5 D (hd (y 1)) i (y 0) * x0 (ix2 i (y 1))

/-- The gradient of a block of values. -/
def dvb (x0 : Vec Ideal S4096x256 .bf16) (x1 : Vec Ideal S256x256 .bf16) (x4 : Vec Ideal S2x4096x1 .f32) (x5 : Vec Ideal S4096x128 .f32) : Vec Ideal S256x256 .f32 :=
  fun y => own (hd (y 1)) (ln (y 1)) (∑ i : Fin 4096, prob x0 x1 x4 (hd (y 1)) i (y 0) * x5 (ix2 i (ln (y 1))))

theorem hz2 : (![0, 0] : Fin 2 → Nat) = fun _ => 0 := funext fun a => by fin_cases a <;> rfl

/-- A head's columns of a block of queries, of keys or values, and a head's rows of a block of row numbers. -/
def ql (x : Vec Ideal S4096x256 .bf16) : Vec Ideal S4096x128 .bf16 := View.ld x (Rect.unit (s := S4096x256) ![0, 0] ![4096, 128] inb_S4096x256_S4096x128_0_0)
def qr (x : Vec Ideal S4096x256 .bf16) : Vec Ideal S4096x128 .bf16 := View.ld x (Rect.unit (s := S4096x256) ![0, 128] ![4096, 128] inb_S4096x256_S4096x128_0_128)
def kl (x : Vec Ideal S256x256 .bf16) : Vec Ideal S256x128 .bf16 := View.ld x (Rect.unit (s := S256x256) ![0, 0] ![256, 128] inb_S256x256_S256x128_0_0)
def kr (x : Vec Ideal S256x256 .bf16) : Vec Ideal S256x128 .bf16 := View.ld x (Rect.unit (s := S256x256) ![0, 128] ![256, 128] inb_S256x256_S256x128_0_128)
def sl (x : Vec Ideal S2x4096x1 .f32) : Vec Ideal S1x4096x1 .f32 := View.ld x (Rect.unit (s := S2x4096x1) ![0, 0, 0] ![1, 4096, 1] inb_S2x4096x1_S1x4096x1_0_0_0)
def sr (x : Vec Ideal S2x4096x1 .f32) : Vec Ideal S1x4096x1 .f32 := View.ld x (Rect.unit (s := S2x4096x1) ![1, 0, 0] ![1, 4096, 1] inb_S2x4096x1_S1x4096x1_1_0_0)

theorem col0 (d : Fin 128) : (⟨d.val, by omega⟩ : Fin 256) = col 0 d := Fin.ext (by simp [col])
theorem col1 (d : Fin 128) : (⟨128 + d.val, by omega⟩ : Fin 256) = col 1 d := Fin.ext (by simp [col])

theorem ql_at (x : Vec Ideal S4096x256 .bf16) (i : Fin 4096) (d : Fin 128) : ql x (ix2 i d) = x (ix2 i (col 0 d)) := by
  pointwise [ql]; rw [← col0]
theorem qr_at (x : Vec Ideal S4096x256 .bf16) (i : Fin 4096) (d : Fin 128) : qr x (ix2 i d) = x (ix2 i (col 1 d)) := by
  pointwise [qr]; rw [← col1]
theorem kl_at (x : Vec Ideal S256x256 .bf16) (i : Fin 256) (d : Fin 128) : kl x (ix2 i d) = x (ix2 i (col 0 d)) := by
  pointwise [kl]; rw [← col0]
theorem kr_at (x : Vec Ideal S256x256 .bf16) (i : Fin 256) (d : Fin 128) : kr x (ix2 i d) = x (ix2 i (col 1 d)) := by
  pointwise [kr]; rw [← col1]
theorem sl_at (x : Vec Ideal S2x4096x1 .f32) (i : Fin 4096) : sl x (ix3 0 i 0) = x (ix3 0 i 0) := by
  pointwise [sl]
theorem sr_at (x : Vec Ideal S2x4096x1 .f32) (i : Fin 4096) : sr x (ix3 0 i 0) = x (ix3 1 i 0) := by
  pointwise [sr]

theorem probl (x0 : Vec Ideal S4096x256 .bf16) (x1 : Vec Ideal S256x256 .bf16) (x4 : Vec Ideal S2x4096x1 .f32) (i : Fin 4096) (j : Fin 256) :
    k0_pay11 (ql x0) (kl x1) (sl x4) (ix2 i j) = prob x0 x1 x4 0 i j := by
  rw [pay11_at]; simp only [ql_at, kl_at, sl_at, prob]
theorem probr (x0 : Vec Ideal S4096x256 .bf16) (x1 : Vec Ideal S256x256 .bf16) (x4 : Vec Ideal S2x4096x1 .f32) (i : Fin 4096) (j : Fin 256) :
    k0_pay11 (qr x0) (kr x1) (sr x4) (ix2 i j) = prob x0 x1 x4 1 i j := by
  rw [pay11_at]; simp only [qr_at, kr_at, sr_at, prob]
theorem dscl (x0 : Vec Ideal S4096x256 .bf16) (x1 x2 : Vec Ideal S256x256 .bf16) (x4 D : Vec Ideal S2x4096x1 .f32) (x5 : Vec Ideal S4096x128 .f32) (i : Fin 4096) (j : Fin 256) :
    k0_pay12 x5 (ql x0) (kl x1) (kl x2) (sl x4) (sl D) (ix2 i j) = dsc x0 x1 x2 x4 x5 D 0 i j := by
  rw [pay12_at, probl]; simp only [kl_at, sl_at, dsc]
theorem dscr (x0 : Vec Ideal S4096x256 .bf16) (x1 x2 : Vec Ideal S256x256 .bf16) (x4 D : Vec Ideal S2x4096x1 .f32) (x5 : Vec Ideal S4096x128 .f32) (i : Fin 4096) (j : Fin 256) :
    k0_pay12 x5 (qr x0) (kr x1) (kr x2) (sr x4) (sr D) (ix2 i j) = dsc x0 x1 x2 x4 x5 D 1 i j := by
  rw [pay12_at, probr]; simp only [kr_at, sr_at, dsc]

theorem hd0 (d : Fin 128) : hd (col 0 d) = 0 := Fin.ext (by simp [hd, col] <;> omega)
theorem hd1 (d : Fin 128) : hd (col 1 d) = 1 := Fin.ext (by simp [hd, col] <;> omega)
theorem ln0 (d : Fin 128) : ln (col 0 d) = d := Fin.ext (by simp [ln, col] <;> omega)
theorem ln1 (d : Fin 128) : ln (col 1 d) = d := Fin.ext (by simp [ln, col])

theorem emb_ql (u : S4096x128.Idx) : (Rect.unit (s := S4096x256) ![0, 0] ![4096, 128] inb_S4096x256_S4096x128_0_0).emb u = ix2 (u 0) (col 0 (u 1)) :=
  funext fun a => match a with
    | ⟨0, _⟩ => Fin.ext (show 0 + 1 * (u 0).val = (u 0).val by omega)
    | ⟨1, _⟩ => Fin.ext (show 0 + 1 * (u 1).val = 128 * 0 + (u 1).val by omega)
theorem emb_qr (u : S4096x128.Idx) : (Rect.unit (s := S4096x256) ![0, 128] ![4096, 128] inb_S4096x256_S4096x128_0_128).emb u = ix2 (u 0) (col 1 (u 1)) :=
  funext fun a => match a with
    | ⟨0, _⟩ => Fin.ext (show 0 + 1 * (u 0).val = (u 0).val by omega)
    | ⟨1, _⟩ => Fin.ext (show 128 + 1 * (u 1).val = 128 * 1 + (u 1).val by omega)
theorem emb_kl (u : S256x128.Idx) : (Rect.unit (s := S256x256) ![0, 0] ![256, 128] inb_S256x256_S256x128_0_0).emb u = ix2 (u 0) (col 0 (u 1)) :=
  funext fun a => match a with
    | ⟨0, _⟩ => Fin.ext (show 0 + 1 * (u 0).val = (u 0).val by omega)
    | ⟨1, _⟩ => Fin.ext (show 0 + 1 * (u 1).val = 128 * 0 + (u 1).val by omega)
theorem emb_kr (u : S256x128.Idx) : (Rect.unit (s := S256x256) ![0, 128] ![256, 128] inb_S256x256_S256x128_0_128).emb u = ix2 (u 0) (col 1 (u 1)) :=
  funext fun a => match a with
    | ⟨0, _⟩ => Fin.ext (show 0 + 1 * (u 0).val = (u 0).val by omega)
    | ⟨1, _⟩ => Fin.ext (show 128 + 1 * (u 1).val = 128 * 1 + (u 1).val by omega)
theorem emb_sl (u : S1x4096x1.Idx) : (Rect.unit (s := S2x4096x1) ![0, 0, 0] ![1, 4096, 1] inb_S2x4096x1_S1x4096x1_0_0_0).emb u = ix3 0 (u 1) 0 :=
  funext fun a => match a with
    | ⟨0, _⟩ => Fin.ext (show 0 + 1 * (u 0).val = 0 by have := (u 0).isLt; change (u 0).val < 1 at this; omega)
    | ⟨1, _⟩ => Fin.ext (show 0 + 1 * (u 1).val = (u 1).val by omega)
    | ⟨2, _⟩ => Fin.ext (show 0 + 1 * (u 2).val = 0 by have := (u 2).isLt; change (u 2).val < 1 at this; omega)
theorem emb_sr (u : S1x4096x1.Idx) : (Rect.unit (s := S2x4096x1) ![1, 0, 0] ![1, 4096, 1] inb_S2x4096x1_S1x4096x1_1_0_0).emb u = ix3 1 (u 1) 0 :=
  funext fun a => match a with
    | ⟨0, _⟩ => Fin.ext (show 1 + 1 * (u 0).val = 1 by have := (u 0).isLt; change (u 0).val < 1 at this; omega)
    | ⟨1, _⟩ => Fin.ext (show 0 + 1 * (u 1).val = (u 1).val by omega)
    | ⟨2, _⟩ => Fin.ext (show 0 + 1 * (u 2).val = 0 by have := (u 2).isLt; change (u 2).val < 1 at this; omega)

end Cert.KernelIdeal.Heads
-- ==== Proof.Out.lean ====
module

public import proofs.«01_k».proof.Proof.Gen.KernelIdeal.Frame
public import proofs.«01_k».proof.Proof.Blk

@[expose] public section

set_option maxRecDepth 16384

noncomputable section

namespace Cert.KernelIdeal.Heads

open Cert.KernelIdeal Cert.KernelIdeal.Gen Idealize.ShloMosaic Idealize.ShloMosaic.Tactic

/-! Two stores side by side, or two slabs, that hold one array leave that array. -/

theorem canonQ (G : Vec Ideal S4096x256 .f32) (w1 w0 : Vec Ideal S4096x128 .f32)
    (g1 : ∀ a b, w1 (ix2 a b) = G (ix2 a (col 1 b))) (g0 : ∀ a b, w0 (ix2 a b) = G (ix2 a (col 0 b))) :
    View.canon (Val := Elt Ideal) [(⟨Rect.unit (s := S4096x256) ![0, 128] ![4096, 128] inb_S4096x256_S4096x128_0_128, w1⟩ : View.Piece (Elt Ideal) S4096x256 .f32), ⟨Rect.unit (s := S4096x256) ![0, 0] ![4096, 128] inb_S4096x256_S4096x128_0_0, w0⟩] = G := by
  funext y
  refine View.canon_apply_of_pieces G _ ?_ y (View.cover_of_tiledL [(⟨Rect.unit (s := S4096x256) ![0, 128] ![4096, 128] inb_S4096x256_S4096x128_0_128, w1⟩ : View.Piece (Elt Ideal) S4096x256 .f32), ⟨Rect.unit (s := S4096x256) ![0, 0] ![4096, 128] inb_S4096x256_S4096x128_0_0, w0⟩] S4096x128.size (by sl_kernel_rfl) y)
  intro p hp
  simp only [List.mem_cons, List.not_mem_nil, or_false] at hp
  rcases hp with rfl | rfl
  · intro u; rw [emb_qr]; exact (congrArg _ (eq_ix2 u)).trans (g1 _ _)
  · intro u; rw [emb_ql]; exact (congrArg _ (eq_ix2 u)).trans (g0 _ _)

theorem canonK (G : Vec Ideal S256x256 .f32) (w1 w0 : Vec Ideal S256x128 .f32)
    (g1 : ∀ a b, w1 (ix2 a b) = G (ix2 a (col 1 b))) (g0 : ∀ a b, w0 (ix2 a b) = G (ix2 a (col 0 b))) :
    View.canon (Val := Elt Ideal) [(⟨Rect.unit (s := S256x256) ![0, 128] ![256, 128] inb_S256x256_S256x128_0_128, w1⟩ : View.Piece (Elt Ideal) S256x256 .f32), ⟨Rect.unit (s := S256x256) ![0, 0] ![256, 128] inb_S256x256_S256x128_0_0, w0⟩] = G := by
  funext y
  refine View.canon_apply_of_pieces G _ ?_ y (View.cover_of_tiledL [(⟨Rect.unit (s := S256x256) ![0, 128] ![256, 128] inb_S256x256_S256x128_0_128, w1⟩ : View.Piece (Elt Ideal) S256x256 .f32), ⟨Rect.unit (s := S256x256) ![0, 0] ![256, 128] inb_S256x256_S256x128_0_0, w0⟩] S256x128.size (by sl_kernel_rfl) y)
  intro p hp
  simp only [List.mem_cons, List.not_mem_nil, or_false] at hp
  rcases hp with rfl | rfl
  · intro u; rw [emb_kr]; exact (congrArg _ (eq_ix2 u)).trans (g1 _ _)
  · intro u; rw [emb_kl]; exact (congrArg _ (eq_ix2 u)).trans (g0 _ _)

theorem eq_slab (u : S1x4096x1.Idx) : u = ix3 0 (u 1) 0 :=
  funext fun a => match a with
    | ⟨0, _⟩ => Fin.ext (show (u 0).val = 0 by have := (u 0).isLt; change (u 0).val < 1 at this; omega)
    | ⟨1, _⟩ => rfl
    | ⟨2, _⟩ => Fin.ext (show (u 2).val = 0 by have := (u 2).isLt; change (u 2).val < 1 at this; omega)

theorem coverS (w1 w0 : Vec Ideal S1x4096x1 .f32) (y : S2x4096x1.Idx) :
    ∃ p ∈ [(⟨Rect.unit (s := S2x4096x1) ![1, 0, 0] ![1, 4096, 1] inb_S2x4096x1_S1x4096x1_1_0_0, w1⟩ : View.Piece (Elt Ideal) S2x4096x1 .f32), ⟨Rect.unit (s := S2x4096x1) ![0, 0, 0] ![1, 4096, 1] inb_S2x4096x1_S1x4096x1_0_0_0, w0⟩], y ∈ p.1.set :=
  View.cover_of_tiledL [(⟨Rect.unit (s := S2x4096x1) ![1, 0, 0] ![1, 4096, 1] inb_S2x4096x1_S1x4096x1_1_0_0, w1⟩ : View.Piece (Elt Ideal) S2x4096x1 .f32), ⟨Rect.unit (s := S2x4096x1) ![0, 0, 0] ![1, 4096, 1] inb_S2x4096x1_S1x4096x1_0_0_0, w0⟩] S1x4096x1.size (by sl_kernel_rfl) y

theorem canonS (x3 x5 : Vec Ideal S4096x128 .f32) :
    View.canon (Val := Elt Ideal) [(⟨Rect.unit (s := S2x4096x1) ![1, 0, 0] ![1, 4096, 1] inb_S2x4096x1_S1x4096x1_1_0_0, k0_pay7 x5 x3⟩ : View.Piece (Elt Ideal) S2x4096x1 .f32), ⟨Rect.unit (s := S2x4096x1) ![0, 0, 0] ![1, 4096, 1] inb_S2x4096x1_S1x4096x1_0_0_0, k0_pay6 x5 x3⟩] = means x3 x5 := by
  funext y
  refine View.canon_apply_of_pieces (means x3 x5) _ ?_ y (coverS _ _ y)
  intro p hp
  simp only [List.mem_cons, List.not_mem_nil, or_false] at hp
  rcases hp with rfl | rfl
  · intro u; rw [emb_sr]; exact (congrArg _ (eq_slab u)).trans (pay7_at x5 x3 _)
  · intro u; rw [emb_sl]; exact (congrArg _ (eq_slab u)).trans (pay6_at x5 x3 _)

/-! The pieces each output ends with, whatever the row means `D` it reads are. -/

theorem dqp_at (x0 : Vec Ideal S4096x256 .bf16) (x1 x2 : Vec Ideal S256x256 .bf16) (x4 D : Vec Ideal S2x4096x1 .f32) (x5 : Vec Ideal S4096x128 .f32) (a : Fin 4096) (b : Fin 256) :
    dqp x0 x1 x2 x4 x5 D (ix2 a b) = ∑ j : Fin 256, dsc x0 x1 x2 x4 x5 D (hd b) a j * x1 (ix2 j b) := rfl
theorem dkb_at (x0 : Vec Ideal S4096x256 .bf16) (x1 x2 : Vec Ideal S256x256 .bf16) (x4 D : Vec Ideal S2x4096x1 .f32) (x5 : Vec Ideal S4096x128 .f32) (a : Fin 256) (b : Fin 256) :
    dkb x0 x1 x2 x4 x5 D (ix2 a b) = ∑ i : Fin 4096, dsc x0 x1 x2 x4 x5 D (hd b) i a * x0 (ix2 i b) := rfl
theorem dvb_at (x0 : Vec Ideal S4096x256 .bf16) (x1 : Vec Ideal S256x256 .bf16) (x4 : Vec Ideal S2x4096x1 .f32) (x5 : Vec Ideal S4096x128 .f32) (a : Fin 256) (b : Fin 256) :
    dvb x0 x1 x4 x5 (ix2 a b) = own (hd b) (ln b) (∑ i : Fin 4096, prob x0 x1 x4 (hd b) i a * x5 (ix2 i (ln b))) := rfl

theorem dq_store (x0 : Vec Ideal S4096x256 .bf16) (x1 x2 : Vec Ideal S256x256 .bf16) (x4 D : Vec Ideal S2x4096x1 .f32) (x5 : Vec Ideal S4096x128 .f32) :
    View.canon (Val := Elt Ideal) [(⟨Rect.unit (s := S4096x256) ![0, 128] ![4096, 128] inb_S4096x256_S4096x128_0_128, k0_pay3 (k0_pay19 (kr x1)) (k0_pay21 (k0_pay8 x5) (qr x0) (kr x1) (kr x2) (sr x4) (sr D))⟩ : View.Piece (Elt Ideal) S4096x256 .f32),
      ⟨Rect.unit (s := S4096x256) ![0, 0] ![4096, 128] inb_S4096x256_S4096x128_0_0, k0_pay15 (k0_pay10 (kl x1)) (k0_pay12 x5 (ql x0) (kl x1) (kl x2) (sl x4) (sl D))⟩] = dqp x0 x1 x2 x4 x5 D := by
  refine canonQ _ _ _ (fun a b => ?_) (fun a b => ?_)
  · rw [pay3_eq, pay15_at, pay21_eq]; simp only [dscr, kr_at, dqp_at, hd1]
  · rw [pay15_at]; simp only [dscl, kl_at, dqp_at, hd0]

theorem dq_add (x0 : Vec Ideal S4096x256 .bf16) (x1 x2 : Vec Ideal S256x256 .bf16) (x4 D : Vec Ideal S2x4096x1 .f32) (x5 : Vec Ideal S4096x128 .f32) (o : Vec Ideal S4096x256 .f32) :
    View.canon (Val := Elt Ideal) [(⟨Rect.unit (s := S4096x256) ![0, 128] ![4096, 128] inb_S4096x256_S4096x128_0_128, k0_pay4 (k0_pay19 (kr x1)) (k0_pay21 (k0_pay8 x5) (qr x0) (kr x1) (kr x2) (sr x4) (sr D)) (View.ld o (Rect.unit (s := S4096x256) ![0, 128] ![4096, 128] inb_S4096x256_S4096x128_0_128))⟩ : View.Piece (Elt Ideal) S4096x256 .f32),
      ⟨Rect.unit (s := S4096x256) ![0, 0] ![4096, 128] inb_S4096x256_S4096x128_0_0, k0_pay16 (k0_pay10 (kl x1)) (k0_pay12 x5 (ql x0) (kl x1) (kl x2) (sl x4) (sl D)) (View.ld o (Rect.unit (s := S4096x256) ![0, 0] ![4096, 128] inb_S4096x256_S4096x128_0_0))⟩] = fun y => o y + dqp x0 x1 x2 x4 x5 D y := by
  refine canonQ _ _ _ (fun a b => ?_) (fun a b => ?_)
  · rw [pay4_eq, pay16_at, pay21_eq]
    refine congrArg₂ (· + ·) (congrArg o (emb_qr (ix2 a b))) ?_
    simp only [dscr, kr_at, dqp_at, hd1]
  · rw [pay16_at]
    refine congrArg₂ (· + ·) (congrArg o (emb_ql (ix2 a b))) ?_
    simp only [dscl, kl_at, dqp_at, hd0]

theorem dk_store (x0 : Vec Ideal S4096x256 .bf16) (x1 x2 : Vec Ideal S256x256 .bf16) (x4 D : Vec Ideal S2x4096x1 .f32) (x5 : Vec Ideal S4096x128 .f32) :
    View.canon (Val := Elt Ideal) [(⟨Rect.unit (s := S256x256) ![0, 128] ![256, 128] inb_S256x256_S256x128_0_128, k0_pay2 (k0_pay18 (qr x0)) (k0_pay21 (k0_pay8 x5) (qr x0) (kr x1) (kr x2) (sr x4) (sr D))⟩ : View.Piece (Elt Ideal) S256x256 .f32),
      ⟨Rect.unit (s := S256x256) ![0, 0] ![256, 128] inb_S256x256_S256x128_0_0, k0_pay14 (k0_pay9 (ql x0)) (k0_pay12 x5 (ql x0) (kl x1) (kl x2) (sl x4) (sl D))⟩] = dkb x0 x1 x2 x4 x5 D := by
  refine canonK _ _ _ (fun a b => ?_) (fun a b => ?_)
  · rw [pay2_eq, pay14_at, pay21_eq]; simp only [dscr, qr_at, dkb_at, hd1]
  · rw [pay14_at]; simp only [dscl, ql_at, dkb_at, hd0]

theorem dv_store (x0 : Vec Ideal S4096x256 .bf16) (x1 : Vec Ideal S256x256 .bf16) (x4 : Vec Ideal S2x4096x1 .f32) (x5 : Vec Ideal S4096x128 .f32) :
    View.canon (Val := Elt Ideal) [(⟨Rect.unit (s := S256x256) ![0, 128] ![256, 128] inb_S256x256_S256x128_0_128, k0_pay1 (k0_pay17 (iota .tc S1x128 32 [1] iota_S1x128_d1_w32)) (k0_pay22 (k0_pay8 x5) (qr x0) (kr x1) (sr x4))⟩ : View.Piece (Elt Ideal) S256x256 .f32),
      ⟨Rect.unit (s := S256x256) ![0, 0] ![256, 128] inb_S256x256_S256x128_0_0, k0_pay13 x5 (ql x0) (kl x1) (sl x4)⟩] = dvb x0 x1 x4 x5 := by
  refine canonK _ _ _ (fun a b => ?_) (fun a b => ?_)
  · rw [pay1_at]; simp only [probr, dvb_at, hd1, ln1]
  · rw [pay13_at]; simp only [probl, dvb_at, hd0, ln0]

/-! What each case leaves in each output and in the scratch. -/

theorem out0_A_6_eq (c : Dev nD) (i : grid0.Coords) (a2 : Memref sig .tc .vmem S4096x256 .bf16) (h2 : a2.IsWhole) (a3 : Memref sig .tc .vmem S256x256 .bf16) (h3 : a3.IsWhole) (a4 : Memref sig .tc .vmem S256x256 .bf16) (h4 : a4.IsWhole) (a5 : Memref sig .tc .vmem S4096x128 .f32) (h5 : a5.IsWhole) (a6 : Memref sig .tc .vmem S2x4096x1 .f32) (h6 : a6.IsWhole) (a7 : Memref sig .tc .vmem S4096x128 .f32) (h7 : a7.IsWhole) (a8 : Memref sig .tc .vmem S4096x256 .f32) (h8 : a8.IsWhole) (a9 : Memref sig .tc .vmem S256x256 .f32) (h9 : a9.IsWhole) (a10 : Memref sig .tc .vmem S256x256 .f32) (h10 : a10.IsWhole) (a11 : Memref sig .tc .vmem S2x4096x1 .f32) (h11 : a11.IsWhole) (hc0 : cond0_0 i) (hc1 : cond0_1 i) (hc2 : ¬cond0_2 i) (hc3 : cond0_3 i) (hc4 : ¬cond0_4 i)
    (x0 : Vec Ideal S4096x256 .bf16) (x1 x2 : Vec Ideal S256x256 .bf16) (x3 : Vec Ideal S4096x128 .f32) (x4 : Vec Ideal S2x4096x1 .f32) (x5 : Vec Ideal S4096x128 .f32) :
    out0_A_6 c i a2 h2 a3 h3 a4 h4 a5 h5 a6 h6 a7 h7 a8 h8 a9 h9 a10 h10 a11 h11 hc0 hc1 hc2 hc3 hc4 x0 x1 x2 x3 x4 x5 = dqp x0 x1 x2 x4 x5 (means x3 x5) := by
  unfold out0_A_6
  rw [View.read_writes_eq_canon _ _ _ (cover0_A_6 c i a2 h2 a3 h3 a4 h4 a5 h5 a6 h6 a7 h7 a8 h8 a9 h9 a10 h10 a11 h11 hc0 hc1 hc2 hc3 hc4 x0 x1 x2 x3 x4 x5)]
  unfold kernelRun0_A
  dsimp only
  sl_unfold_words
  simp only [View.readAt_eq_ld, h2.read_unread, h3.read_unread, h4.read_unread, h5.read_unread, h6.read_unread, h7.read_unread, View.ld_unit_zero (S := S4096x128) hz2]
  simp only [View.readCov_eq_canon_ld _ _ _ (coverS _ _), canonS]
  exact dq_store x0 x1 x2 x4 (means x3 x5) x5

theorem out0_A_7_eq (c : Dev nD) (i : grid0.Coords) (a2 : Memref sig .tc .vmem S4096x256 .bf16) (h2 : a2.IsWhole) (a3 : Memref sig .tc .vmem S256x256 .bf16) (h3 : a3.IsWhole) (a4 : Memref sig .tc .vmem S256x256 .bf16) (h4 : a4.IsWhole) (a5 : Memref sig .tc .vmem S4096x128 .f32) (h5 : a5.IsWhole) (a6 : Memref sig .tc .vmem S2x4096x1 .f32) (h6 : a6.IsWhole) (a7 : Memref sig .tc .vmem S4096x128 .f32) (h7 : a7.IsWhole) (a8 : Memref sig .tc .vmem S4096x256 .f32) (h8 : a8.IsWhole) (a9 : Memref sig .tc .vmem S256x256 .f32) (h9 : a9.IsWhole) (a10 : Memref sig .tc .vmem S256x256 .f32) (h10 : a10.IsWhole) (a11 : Memref sig .tc .vmem S2x4096x1 .f32) (h11 : a11.IsWhole) (hc0 : cond0_0 i) (hc1 : cond0_1 i) (hc2 : ¬cond0_2 i) (hc3 : cond0_3 i) (hc4 : ¬cond0_4 i)
    (x0 : Vec Ideal S4096x256 .bf16) (x1 x2 : Vec Ideal S256x256 .bf16) (x3 : Vec Ideal S4096x128 .f32) (x4 : Vec Ideal S2x4096x1 .f32) (x5 : Vec Ideal S4096x128 .f32) :
    out0_A_7 c i a2 h2 a3 h3 a4 h4 a5 h5 a6 h6 a7 h7 a8 h8 a9 h9 a10 h10 a11 h11 hc0 hc1 hc2 hc3 hc4 x0 x1 x2 x3 x4 x5 = dkb x0 x1 x2 x4 x5 (means x3 x5) := by
  unfold out0_A_7
  rw [View.read_writes_eq_canon _ _ _ (cover0_A_7 c i a2 h2 a3 h3 a4 h4 a5 h5 a6 h6 a7 h7 a8 h8 a9 h9 a10 h10 a11 h11 hc0 hc1 hc2 hc3 hc4 x0 x1 x2 x3 x4 x5)]
  unfold kernelRun0_A
  dsimp only
  sl_unfold_words
  simp only [View.readAt_eq_ld, h2.read_unread, h3.read_unread, h4.read_unread, h5.read_unread, h6.read_unread, h7.read_unread, View.ld_unit_zero (S := S4096x128) hz2]
  simp only [View.readCov_eq_canon_ld _ _ _ (coverS _ _), canonS]
  exact dk_store x0 x1 x2 x4 (means x3 x5) x5

theorem out0_A_8_eq (c : Dev nD) (i : grid0.Coords) (a2 : Memref sig .tc .vmem S4096x256 .bf16) (h2 : a2.IsWhole) (a3 : Memref sig .tc .vmem S256x256 .bf16) (h3 : a3.IsWhole) (a4 : Memref sig .tc .vmem S256x256 .bf16) (h4 : a4.IsWhole) (a5 : Memref sig .tc .vmem S4096x128 .f32) (h5 : a5.IsWhole) (a6 : Memref sig .tc .vmem S2x4096x1 .f32) (h6 : a6.IsWhole) (a7 : Memref sig .tc .vmem S4096x128 .f32) (h7 : a7.IsWhole) (a8 : Memref sig .tc .vmem S4096x256 .f32) (h8 : a8.IsWhole) (a9 : Memref sig .tc .vmem S256x256 .f32) (h9 : a9.IsWhole) (a10 : Memref sig .tc .vmem S256x256 .f32) (h10 : a10.IsWhole) (a11 : Memref sig .tc .vmem S2x4096x1 .f32) (h11 : a11.IsWhole) (hc0 : cond0_0 i) (hc1 : cond0_1 i) (hc2 : ¬cond0_2 i) (hc3 : cond0_3 i) (hc4 : ¬cond0_4 i)
    (x0 : Vec Ideal S4096x256 .bf16) (x1 x2 : Vec Ideal S256x256 .bf16) (x3 : Vec Ideal S4096x128 .f32) (x4 : Vec Ideal S2x4096x1 .f32) (x5 : Vec Ideal S4096x128 .f32) :
    out0_A_8 c i a2 h2 a3 h3 a4 h4 a5 h5 a6 h6 a7 h7 a8 h8 a9 h9 a10 h10 a11 h11 hc0 hc1 hc2 hc3 hc4 x0 x1 x2 x3 x4 x5 = dvb x0 x1 x4 x5 := by
  unfold out0_A_8
  rw [View.read_writes_eq_canon _ _ _ (cover0_A_8 c i a2 h2 a3 h3 a4 h4 a5 h5 a6 h6 a7 h7 a8 h8 a9 h9 a10 h10 a11 h11 hc0 hc1 hc2 hc3 hc4 x0 x1 x2 x3 x4 x5)]
  unfold kernelRun0_A
  dsimp only
  sl_unfold_words
  simp only [View.readAt_eq_ld, h2.read_unread, h3.read_unread, h4.read_unread, h5.read_unread, h6.read_unread, h7.read_unread, View.ld_unit_zero (S := S4096x128) hz2]
  exact dv_store x0 x1 x4 x5

theorem sout0_A_0_eq (c : Dev nD) (i : grid0.Coords) (a2 : Memref sig .tc .vmem S4096x256 .bf16) (h2 : a2.IsWhole) (a3 : Memref sig .tc .vmem S256x256 .bf16) (h3 : a3.IsWhole) (a4 : Memref sig .tc .vmem S256x256 .bf16) (h4 : a4.IsWhole) (a5 : Memref sig .tc .vmem S4096x128 .f32) (h5 : a5.IsWhole) (a6 : Memref sig .tc .vmem S2x4096x1 .f32) (h6 : a6.IsWhole) (a7 : Memref sig .tc .vmem S4096x128 .f32) (h7 : a7.IsWhole) (a8 : Memref sig .tc .vmem S4096x256 .f32) (h8 : a8.IsWhole) (a9 : Memref sig .tc .vmem S256x256 .f32) (h9 : a9.IsWhole) (a10 : Memref sig .tc .vmem S256x256 .f32) (h10 : a10.IsWhole) (a11 : Memref sig .tc .vmem S2x4096x1 .f32) (h11 : a11.IsWhole) (hc0 : cond0_0 i) (hc1 : cond0_1 i) (hc2 : ¬cond0_2 i) (hc3 : cond0_3 i) (hc4 : ¬cond0_4 i)
    (x0 : Vec Ideal S4096x256 .bf16) (x1 x2 : Vec Ideal S256x256 .bf16) (x3 : Vec Ideal S4096x128 .f32) (x4 : Vec Ideal S2x4096x1 .f32) (x5 : Vec Ideal S4096x128 .f32) :
    sout0_A_0 c i a2 h2 a3 h3 a4 h4 a5 h5 a6 h6 a7 h7 a8 h8 a9 h9 a10 h10 a11 h11 hc0 hc1 hc2 hc3 hc4 x0 x1 x2 x3 x4 x5 = means x3 x5 := by
  unfold sout0_A_0
  rw [View.read_writes_eq_canon _ _ _ (scover0_A_0 c i a2 h2 a3 h3 a4 h4 a5 h5 a6 h6 a7 h7 a8 h8 a9 h9 a10 h10 a11 h11 hc0 hc1 hc2 hc3 hc4 x0 x1 x2 x3 x4 x5)]
  unfold kernelRun0_A
  dsimp only
  sl_unfold_words
  simp only [View.readAt_eq_ld, h2.read_unread, h3.read_unread, h4.read_unread, h5.read_unread, h6.read_unread, h7.read_unread, View.ld_unit_zero (S := S4096x128) hz2]
  exact canonS x3 x5

theorem out0_B_6_eq (c : Dev nD) (i : grid0.Coords) (a2 : Memref sig .tc .vmem S4096x256 .bf16) (h2 : a2.IsWhole) (a3 : Memref sig .tc .vmem S256x256 .bf16) (h3 : a3.IsWhole) (a4 : Memref sig .tc .vmem S256x256 .bf16) (h4 : a4.IsWhole) (a5 : Memref sig .tc .vmem S4096x128 .f32) (h5 : a5.IsWhole) (a6 : Memref sig .tc .vmem S2x4096x1 .f32) (h6 : a6.IsWhole) (a7 : Memref sig .tc .vmem S4096x128 .f32) (h7 : a7.IsWhole) (a8 : Memref sig .tc .vmem S4096x256 .f32) (h8 : a8.IsWhole) (a9 : Memref sig .tc .vmem S256x256 .f32) (h9 : a9.IsWhole) (a10 : Memref sig .tc .vmem S256x256 .f32) (h10 : a10.IsWhole) (a11 : Memref sig .tc .vmem S2x4096x1 .f32) (h11 : a11.IsWhole) (hc0 : ¬cond0_0 i) (hc1 : ¬cond0_1 i) (hc2 : cond0_2 i) (hc3 : ¬cond0_3 i) (hc4 : cond0_4 i)
    (x0 : Vec Ideal S4096x256 .bf16) (x1 x2 : Vec Ideal S256x256 .bf16) (x3 : Vec Ideal S4096x128 .f32) (x4 : Vec Ideal S2x4096x1 .f32) (x5 : Vec Ideal S4096x128 .f32) (o : Vec Ideal S4096x256 .f32) (s : Vec Ideal S2x4096x1 .f32) :
    out0_B_6 c i a2 h2 a3 h3 a4 h4 a5 h5 a6 h6 a7 h7 a8 h8 a9 h9 a10 h10 a11 h11 hc0 hc1 hc2 hc3 hc4 x0 x1 x2 x3 x4 x5 o s = fun y => o y + dqp x0 x1 x2 x4 x5 s y := by
  unfold out0_B_6
  rw [View.read_writes_eq_canon _ _ _ (cover0_B_6 c i a2 h2 a3 h3 a4 h4 a5 h5 a6 h6 a7 h7 a8 h8 a9 h9 a10 h10 a11 h11 hc0 hc1 hc2 hc3 hc4 x0 x1 x2 x3 x4 x5 o s)]
  unfold kernelRun0_B
  dsimp only
  sl_unfold_words
  simp only [View.readAt_eq_ld, h2.read_unread, h3.read_unread, h4.read_unread, h5.read_unread, h6.read_unread, h7.read_unread, h8.read_unread, h11.read_unread, View.ld_unit_zero (S := S4096x128) hz2]
  exact dq_add x0 x1 x2 x4 s x5 o

theorem out0_B_7_eq (c : Dev nD) (i : grid0.Coords) (a2 : Memref sig .tc .vmem S4096x256 .bf16) (h2 : a2.IsWhole) (a3 : Memref sig .tc .vmem S256x256 .bf16) (h3 : a3.IsWhole) (a4 : Memref sig .tc .vmem S256x256 .bf16) (h4 : a4.IsWhole) (a5 : Memref sig .tc .vmem S4096x128 .f32) (h5 : a5.IsWhole) (a6 : Memref sig .tc .vmem S2x4096x1 .f32) (h6 : a6.IsWhole) (a7 : Memref sig .tc .vmem S4096x128 .f32) (h7 : a7.IsWhole) (a8 : Memref sig .tc .vmem S4096x256 .f32) (h8 : a8.IsWhole) (a9 : Memref sig .tc .vmem S256x256 .f32) (h9 : a9.IsWhole) (a10 : Memref sig .tc .vmem S256x256 .f32) (h10 : a10.IsWhole) (a11 : Memref sig .tc .vmem S2x4096x1 .f32) (h11 : a11.IsWhole) (hc0 : ¬cond0_0 i) (hc1 : ¬cond0_1 i) (hc2 : cond0_2 i) (hc3 : ¬cond0_3 i) (hc4 : cond0_4 i)
    (x0 : Vec Ideal S4096x256 .bf16) (x1 x2 : Vec Ideal S256x256 .bf16) (x3 : Vec Ideal S4096x128 .f32) (x4 : Vec Ideal S2x4096x1 .f32) (x5 : Vec Ideal S4096x128 .f32) (o : Vec Ideal S4096x256 .f32) (s : Vec Ideal S2x4096x1 .f32) :
    out0_B_7 c i a2 h2 a3 h3 a4 h4 a5 h5 a6 h6 a7 h7 a8 h8 a9 h9 a10 h10 a11 h11 hc0 hc1 hc2 hc3 hc4 x0 x1 x2 x3 x4 x5 o s = dkb x0 x1 x2 x4 x5 s := by
  unfold out0_B_7
  rw [View.read_writes_eq_canon _ _ _ (cover0_B_7 c i a2 h2 a3 h3 a4 h4 a5 h5 a6 h6 a7 h7 a8 h8 a9 h9 a10 h10 a11 h11 hc0 hc1 hc2 hc3 hc4 x0 x1 x2 x3 x4 x5 o s)]
  unfold kernelRun0_B
  dsimp only
  sl_unfold_words
  simp only [View.readAt_eq_ld, h2.read_unread, h3.read_unread, h4.read_unread, h5.read_unread, h6.read_unread, h7.read_unread, h8.read_unread, h11.read_unread, View.ld_unit_zero (S := S4096x128) hz2]
  exact dk_store x0 x1 x2 x4 s x5

theorem out0_B_8_eq (c : Dev nD) (i : grid0.Coords) (a2 : Memref sig .tc .vmem S4096x256 .bf16) (h2 : a2.IsWhole) (a3 : Memref sig .tc .vmem S256x256 .bf16) (h3 : a3.IsWhole) (a4 : Memref sig .tc .vmem S256x256 .bf16) (h4 : a4.IsWhole) (a5 : Memref sig .tc .vmem S4096x128 .f32) (h5 : a5.IsWhole) (a6 : Memref sig .tc .vmem S2x4096x1 .f32) (h6 : a6.IsWhole) (a7 : Memref sig .tc .vmem S4096x128 .f32) (h7 : a7.IsWhole) (a8 : Memref sig .tc .vmem S4096x256 .f32) (h8 : a8.IsWhole) (a9 : Memref sig .tc .vmem S256x256 .f32) (h9 : a9.IsWhole) (a10 : Memref sig .tc .vmem S256x256 .f32) (h10 : a10.IsWhole) (a11 : Memref sig .tc .vmem S2x4096x1 .f32) (h11 : a11.IsWhole) (hc0 : ¬cond0_0 i) (hc1 : ¬cond0_1 i) (hc2 : cond0_2 i) (hc3 : ¬cond0_3 i) (hc4 : cond0_4 i)
    (x0 : Vec Ideal S4096x256 .bf16) (x1 x2 : Vec Ideal S256x256 .bf16) (x3 : Vec Ideal S4096x128 .f32) (x4 : Vec Ideal S2x4096x1 .f32) (x5 : Vec Ideal S4096x128 .f32) (o : Vec Ideal S4096x256 .f32) (s : Vec Ideal S2x4096x1 .f32) :
    out0_B_8 c i a2 h2 a3 h3 a4 h4 a5 h5 a6 h6 a7 h7 a8 h8 a9 h9 a10 h10 a11 h11 hc0 hc1 hc2 hc3 hc4 x0 x1 x2 x3 x4 x5 o s = dvb x0 x1 x4 x5 := by
  unfold out0_B_8
  rw [View.read_writes_eq_canon _ _ _ (cover0_B_8 c i a2 h2 a3 h3 a4 h4 a5 h5 a6 h6 a7 h7 a8 h8 a9 h9 a10 h10 a11 h11 hc0 hc1 hc2 hc3 hc4 x0 x1 x2 x3 x4 x5 o s)]
  unfold kernelRun0_B
  dsimp only
  sl_unfold_words
  simp only [View.readAt_eq_ld, h2.read_unread, h3.read_unread, h4.read_unread, h5.read_unread, h6.read_unread, h7.read_unread, h8.read_unread, h11.read_unread, View.ld_unit_zero (S := S4096x128) hz2]
  exact dv_store x0 x1 x4 x5

end Cert.KernelIdeal.Heads
-- ==== Proof.Base.lean ====
module

public import proofs.«01_k».proof.Proof.Gen.KernelIdeal.Value
public import proofs.«01_k».proof.Proof.Out

@[expose] public section

set_option maxRecDepth 16384

noncomputable section

/-! The kernel's three results as sums over its whole operand arrays: the blocks read at a grid point are pieces of those
arrays, the row means ride in the scratch through the sixteen key blocks of a pair of heads, and the gradient of the
queries grows by one key block at each point. -/

namespace Cert.KernelIdeal.Heads

open Cert.KernelIdeal Cert.KernelIdeal.Gen Idealize.ShloMosaic Idealize.ShloMosaic.TcCoe

/-- Column `d` of head `h`. -/
def cl (h : Fin 16) (d : Fin 128) : Fin 2048 := ⟨128 * h.val + d.val, by omega⟩

/-- Column `d` of head `h`'s pair, in the arrays that hold a pair of heads in 128 columns. -/
def ch (h : Fin 16) (d : Fin 128) : Fin 1024 := ⟨128 * (h.val / 2) + d.val, by omega⟩

/-- Which of its pair a head is. -/
def par (h : Fin 16) : Fin 2 := ⟨h.val % 2, by omega⟩

/-- The head and the lane of a column. -/
def hdw (y : Fin 2048) : Fin 16 := ⟨y.val / 128, by omega⟩
def lnw (y : Fin 2048) : Fin 128 := ⟨y.val % 128, by omega⟩

section

variable (Q K W : Vec Ideal S4096x2048 .bf16) (O C : Vec Ideal S4096x1024 .f32) (L : Vec Ideal S16x4096x1 .f32)

/-- A head's probabilities. -/
def probW (h : Fin 16) (i k : Fin 4096) : EReal :=
  Ideal.exp (∑ d : Fin 128, Q (ix2 i (cl h d)) * K (ix2 k (cl h d)) - L (ix3 h i 0))

/-- A row's mean. -/
def meanW (h : Fin 16) (i : Fin 4096) : EReal :=
  ∑ d : Fin 128, own (par h) d (C (ix2 i (ch h d)) * O (ix2 i (ch h d)))

/-- The gradient of a score. -/
def dscW (h : Fin 16) (i k : Fin 4096) : EReal :=
  probW Q K L h i k * (∑ d : Fin 128, C (ix2 i (ch h d)) * W (ix2 k (cl h d)) - meanW O C h i)

/-- The gradients of the queries, the keys and the values. -/
def dqW : Vec Ideal S4096x2048 .f32 :=
  fun y => ∑ b ∈ Finset.range 16, ∑ r : Fin 256, dscW Q K W O C L (hdw (y 1)) (y 0) ⟨(256 * b + r.val) % 4096, Nat.mod_lt _ (by decide)⟩
    * K (ix2 ⟨(256 * b + r.val) % 4096, Nat.mod_lt _ (by decide)⟩ (y 1))
def dkW : Vec Ideal S4096x2048 .f32 :=
  fun y => ∑ i : Fin 4096, dscW Q K W O C L (hdw (y 1)) i (y 0) * Q (ix2 i (y 1))
def dvW : Vec Ideal S4096x2048 .f32 :=
  fun y => own (par (hdw (y 1))) (lnw (y 1)) (∑ i : Fin 4096, probW Q K L (hdw (y 1)) i (y 0) * C (ix2 i (ch (hdw (y 1)) (lnw (y 1)))))

end

/-- Pair `j`'s columns, rows and heads; key block `b`'s rows. -/
def cJ (j : ℕ) (c : Fin 256) : Fin 2048 := ⟨(256 * j + c.val) % 2048, Nat.mod_lt _ (by decide)⟩
def lJ (j : ℕ) (l : Fin 128) : Fin 1024 := ⟨(128 * j + l.val) % 1024, Nat.mod_lt _ (by decide)⟩
def hJ (j : ℕ) (e : Fin 2) : Fin 16 := ⟨(2 * j + e.val) % 16, Nat.mod_lt _ (by decide)⟩
def rB (b : ℕ) (r : Fin 256) : Fin 4096 := ⟨(256 * b + r.val) % 4096, Nat.mod_lt _ (by decide)⟩

variable (m : (ℓ : Loc nD τ sig) → Buf (Elt Ideal) ℓ)

/-- The six operand arrays of the kernel, as its windows name them. -/
def aQ (c : Dev nD) : Vec Ideal S4096x2048 .bf16 := V m c (Pipeline.arrRef spec0 0)
def aK (c : Dev nD) : Vec Ideal S4096x2048 .bf16 := V m c (Pipeline.arrRef spec0 1)
def aW (c : Dev nD) : Vec Ideal S4096x2048 .bf16 := V m c (Pipeline.arrRef spec0 2)
def aO (c : Dev nD) : Vec Ideal S4096x1024 .f32 := V m c (Pipeline.arrRef spec0 3)
def aL (c : Dev nD) : Vec Ideal S16x4096x1 .f32 := V m c (Pipeline.arrRef spec0 4)
def aC (c : Dev nD) : Vec Ideal S4096x1024 .f32 := V m c (Pipeline.arrRef spec0 5)

/-! Which block a window reads at a grid point: pair of heads `t / 16`, key block `t % 16`. -/

theorem index0 : ∀ t : Fin cfg0.N, win0_0.index t (0 : Fin 2) = 0 ∧ win0_0.index t (1 : Fin 2) = t.val / 16 := by decide +kernel
theorem index1 : ∀ t : Fin cfg0.N, win0_1.index t (0 : Fin 2) = t.val % 16 ∧ win0_1.index t (1 : Fin 2) = t.val / 16 := by decide +kernel
theorem index2 : ∀ t : Fin cfg0.N, win0_2.index t (0 : Fin 2) = t.val % 16 ∧ win0_2.index t (1 : Fin 2) = t.val / 16 := by decide +kernel
theorem index3 : ∀ t : Fin cfg0.N, win0_3.index t (0 : Fin 2) = 0 ∧ win0_3.index t (1 : Fin 2) = t.val / 16 := by decide +kernel
theorem index4 : ∀ t : Fin cfg0.N, win0_4.index t (0 : Fin 3) = t.val / 16 ∧ win0_4.index t (1 : Fin 3) = 0 ∧ win0_4.index t (2 : Fin 3) = 0 := by decide +kernel
theorem index5 : ∀ t : Fin cfg0.N, win0_5.index t (0 : Fin 2) = 0 ∧ win0_5.index t (1 : Fin 2) = t.val / 16 := by decide +kernel

theorem tlt (t : Fin cfg0.N) : t.val < 128 := lt_of_lt_of_eq t.isLt (show cfg0.N = 128 from N_0)

end Cert.KernelIdeal.Heads
-- ==== Proof.Windows.lean ====
module

public import proofs.«01_k».proof.Proof.Base

@[expose] public section

set_option maxRecDepth 16384

noncomputable section

namespace Cert.KernelIdeal.Heads

open Cert.KernelIdeal Cert.KernelIdeal.Gen Idealize.ShloMosaic Idealize.ShloMosaic.TcCoe

variable (m : (ℓ : Loc nD τ sig) → Buf (Elt Ideal) ℓ)

/-! What a window's block holds at a grid point: a piece of the window's array. -/

theorem rd0 (A : S4096x2048.Idx → EReal) (t : Fin cfg0.N) (y : S4096x256.Idx) :
    (((cfg0.win 0).blk t).view.read (Elt Ideal) A) y = A (((cfg0.win 0).blk t).view.emb y) := rfl

theorem emb0 (t : Fin cfg0.N) (a : Fin 4096) (b : Fin 256) :
    ((cfg0.win 0).blk t).view.emb (ix2 a b : S4096x256.Idx) = (ix2 (a) (cJ (t.val / 16) b) : S4096x2048.Idx) := by
  have ht := tlt t
  have h0 : win0_0.index t 0 * 4096 + 1 * a.val = a.val := by rw [(index0 t).1]; omega
  have h1 : win0_0.index t 1 * 256 + 1 * b.val = (256 * (t.val / 16) + b.val) % 2048 := by rw [(index0 t).2]; omega
  funext x; apply Fin.ext
  match x with
  | ⟨0, _⟩ => exact h0
  | ⟨1, _⟩ => exact h1

theorem blk0 (c : Dev nD) (t : Fin cfg0.N) (a : Fin 4096) (b : Fin 256) :
    (iblk m c 0 t : Vec Ideal S4096x256 .bf16) (ix2 a b) = aQ m c (ix2 (a) (cJ (t.val / 16) b)) :=
  (rd0 (aQ m c) t (ix2 a b)).trans (congrArg (aQ m c) (emb0 t a b))

theorem rd1 (A : S4096x2048.Idx → EReal) (t : Fin cfg0.N) (y : S256x256.Idx) :
    (((cfg0.win 1).blk t).view.read (Elt Ideal) A) y = A (((cfg0.win 1).blk t).view.emb y) := rfl

theorem emb1 (t : Fin cfg0.N) (a : Fin 256) (b : Fin 256) :
    ((cfg0.win 1).blk t).view.emb (ix2 a b : S256x256.Idx) = (ix2 (rB (t.val % 16) a) (cJ (t.val / 16) b) : S4096x2048.Idx) := by
  have ht := tlt t
  have h0 : win0_1.index t 0 * 256 + 1 * a.val = (256 * (t.val % 16) + a.val) % 4096 := by rw [(index1 t).1]; omega
  have h1 : win0_1.index t 1 * 256 + 1 * b.val = (256 * (t.val / 16) + b.val) % 2048 := by rw [(index1 t).2]; omega
  funext x; apply Fin.ext
  match x with
  | ⟨0, _⟩ => exact h0
  | ⟨1, _⟩ => exact h1

theorem blk1 (c : Dev nD) (t : Fin cfg0.N) (a : Fin 256) (b : Fin 256) :
    (iblk m c 1 t : Vec Ideal S256x256 .bf16) (ix2 a b) = aK m c (ix2 (rB (t.val % 16) a) (cJ (t.val / 16) b)) :=
  (rd1 (aK m c) t (ix2 a b)).trans (congrArg (aK m c) (emb1 t a b))

theorem rd2 (A : S4096x2048.Idx → EReal) (t : Fin cfg0.N) (y : S256x256.Idx) :
    (((cfg0.win 2).blk t).view.read (Elt Ideal) A) y = A (((cfg0.win 2).blk t).view.emb y) := rfl

theorem emb2 (t : Fin cfg0.N) (a : Fin 256) (b : Fin 256) :
    ((cfg0.win 2).blk t).view.emb (ix2 a b : S256x256.Idx) = (ix2 (rB (t.val % 16) a) (cJ (t.val / 16) b) : S4096x2048.Idx) := by
  have ht := tlt t
  have h0 : win0_2.index t 0 * 256 + 1 * a.val = (256 * (t.val % 16) + a.val) % 4096 := by rw [(index2 t).1]; omega
  have h1 : win0_2.index t 1 * 256 + 1 * b.val = (256 * (t.val / 16) + b.val) % 2048 := by rw [(index2 t).2]; omega
  funext x; apply Fin.ext
  match x with
  | ⟨0, _⟩ => exact h0
  | ⟨1, _⟩ => exact h1

theorem blk2 (c : Dev nD) (t : Fin cfg0.N) (a : Fin 256) (b : Fin 256) :
    (iblk m c 2 t : Vec Ideal S256x256 .bf16) (ix2 a b) = aW m c (ix2 (rB (t.val % 16) a) (cJ (t.val / 16) b)) :=
  (rd2 (aW m c) t (ix2 a b)).trans (congrArg (aW m c) (emb2 t a b))

theorem rd3 (A : S4096x1024.Idx → EReal) (t : Fin cfg0.N) (y : S4096x128.Idx) :
    (((cfg0.win 3).blk t).view.read (Elt Ideal) A) y = A (((cfg0.win 3).blk t).view.emb y) := rfl

theorem emb3 (t : Fin cfg0.N) (a : Fin 4096) (b : Fin 128) :
    ((cfg0.win 3).blk t).view.emb (ix2 a b : S4096x128.Idx) = (ix2 (a) (lJ (t.val / 16) b) : S4096x1024.Idx) := by
  have ht := tlt t
  have h0 : win0_3.index t 0 * 4096 + 1 * a.val = a.val := by rw [(index3 t).1]; omega
  have h1 : win0_3.index t 1 * 128 + 1 * b.val = (128 * (t.val / 16) + b.val) % 1024 := by rw [(index3 t).2]; omega
  funext x; apply Fin.ext
  match x with
  | ⟨0, _⟩ => exact h0
  | ⟨1, _⟩ => exact h1

theorem blk3 (c : Dev nD) (t : Fin cfg0.N) (a : Fin 4096) (b : Fin 128) :
    (iblk m c 3 t : Vec Ideal S4096x128 .f32) (ix2 a b) = aO m c (ix2 (a) (lJ (t.val / 16) b)) :=
  (rd3 (aO m c) t (ix2 a b)).trans (congrArg (aO m c) (emb3 t a b))

theorem rd5 (A : S4096x1024.Idx → EReal) (t : Fin cfg0.N) (y : S4096x128.Idx) :
    (((cfg0.win 5).blk t).view.read (Elt Ideal) A) y = A (((cfg0.win 5).blk t).view.emb y) := rfl

theorem emb5 (t : Fin cfg0.N) (a : Fin 4096) (b : Fin 128) :
    ((cfg0.win 5).blk t).view.emb (ix2 a b : S4096x128.Idx) = (ix2 (a) (lJ (t.val / 16) b) : S4096x1024.Idx) := by
  have ht := tlt t
  have h0 : win0_5.index t 0 * 4096 + 1 * a.val = a.val := by rw [(index5 t).1]; omega
  have h1 : win0_5.index t 1 * 128 + 1 * b.val = (128 * (t.val / 16) + b.val) % 1024 := by rw [(index5 t).2]; omega
  funext x; apply Fin.ext
  match x with
  | ⟨0, _⟩ => exact h0
  | ⟨1, _⟩ => exact h1

theorem blk5 (c : Dev nD) (t : Fin cfg0.N) (a : Fin 4096) (b : Fin 128) :
    (iblk m c 5 t : Vec Ideal S4096x128 .f32) (ix2 a b) = aC m c (ix2 (a) (lJ (t.val / 16) b)) :=
  (rd5 (aC m c) t (ix2 a b)).trans (congrArg (aC m c) (emb5 t a b))

theorem rd4 (A : S16x4096x1.Idx → EReal) (t : Fin cfg0.N) (y : S2x4096x1.Idx) :
    (((cfg0.win 4).blk t).view.read (Elt Ideal) A) y = A (((cfg0.win 4).blk t).view.emb y) := rfl

theorem emb4 (t : Fin cfg0.N) (e : Fin 2) (a : Fin 4096) (z : Fin 1) :
    ((cfg0.win 4).blk t).view.emb (ix3 e a z : S2x4096x1.Idx) = (ix3 (hJ (t.val / 16) e) a z : S16x4096x1.Idx) := by
  have ht := tlt t
  have h0 : win0_4.index t 0 * 2 + 1 * e.val = (2 * (t.val / 16) + e.val) % 16 := by rw [(index4 t).1]; omega
  have h1 : win0_4.index t 1 * 4096 + 1 * a.val = a.val := by rw [(index4 t).2.1]; omega
  have h2 : win0_4.index t 2 * 1 + 1 * z.val = z.val := by rw [(index4 t).2.2]; omega
  funext x; apply Fin.ext
  match x with
  | ⟨0, _⟩ => exact h0
  | ⟨1, _⟩ => exact h1
  | ⟨2, _⟩ => exact h2

theorem blk4 (c : Dev nD) (t : Fin cfg0.N) (e : Fin 2) (a : Fin 4096) :
    (iblk m c 4 t : Vec Ideal S2x4096x1 .f32) (ix3 e a 0) = aL m c (ix3 (hJ (t.val / 16) e) a 0) :=
  (rd4 (aL m c) t (ix3 e a 0)).trans (congrArg (aL m c) (emb4 t e a 0))

end Cert.KernelIdeal.Heads
-- ==== Proof.Sweep.lean ====
module

public import proofs.«01_k».proof.Proof.Windows

@[expose] public section

set_option maxRecDepth 16384

noncomputable section

namespace Cert.KernelIdeal.Heads

open Cert.KernelIdeal Cert.KernelIdeal.Gen Idealize.ShloMosaic Idealize.ShloMosaic.TcCoe

variable (m : (ℓ : Loc nD τ sig) → Buf (Elt Ideal) ℓ)

/-! The sweep over the grid: sixteen key blocks for each of eight pairs of heads. -/

theorem cJ_col (j : ℕ) (hj : j < 8) (e : Fin 2) (d : Fin 128) : cJ j (col e d) = cl (hJ j e) d :=
  Fin.ext (show (256 * j + (128 * e.val + d.val)) % 2048 = 128 * ((2 * j + e.val) % 16) + d.val by omega)
theorem lJ_ch (j : ℕ) (hj : j < 8) (e : Fin 2) (d : Fin 128) : lJ j d = ch (hJ j e) d :=
  Fin.ext (show (128 * j + d.val) % 1024 = 128 * ((2 * j + e.val) % 16 / 2) + d.val by omega)
theorem par_hJ (j : ℕ) (e : Fin 2) : par (hJ j e) = e :=
  Fin.ext (show (2 * j + e.val) % 16 % 2 = e.val by omega)
theorem hdw_cJ (j : ℕ) (hj : j < 8) (b : Fin 256) : hdw (cJ j b) = hJ j (hd b) :=
  Fin.ext (show (256 * j + b.val) % 2048 / 128 = (2 * j + b.val / 128) % 16 by omega)
theorem lnw_cJ (j : ℕ) (hj : j < 8) (b : Fin 256) : lnw (cJ j b) = ln b :=
  Fin.ext (show (256 * j + b.val) % 2048 % 128 = b.val % 128 by omega)

/-- The row means of pair `j`, over the whole arrays. -/
def meansJ (c : Dev nD) (j : ℕ) : Vec Ideal S2x4096x1 .f32 := fun y => meanW (aO m c) (aC m c) (hJ j (y 0)) (y 1)

theorem meansJ_at (c : Dev nD) (j : ℕ) (e : Fin 2) (i : Fin 4096) (z : Fin 1) : meansJ m c j (ix3 e i z) = meanW (aO m c) (aC m c) (hJ j e) i := rfl

theorem means_at (x3 x5 : Vec Ideal S4096x128 .f32) (e : Fin 2) (i : Fin 4096) (z : Fin 1) :
    means x3 x5 (ix3 e i z) = ∑ d : Fin 128, own e d (x5 (ix2 i d) * x3 (ix2 i d)) := rfl

theorem means_blk (c : Dev nD) (t : Fin cfg0.N) : means (iblk m c 3 t) (iblk m c 5 t) = meansJ m c (t.val / 16) := by
  have hj : t.val / 16 < 8 := by have := tlt t; omega
  funext y
  obtain ⟨e, i, z, rfl⟩ : ∃ e i z, y = ix3 e i z := ⟨y 0, y 1, y 2, eq_ix3 y⟩
  rw [means_at, meansJ_at]
  unfold meanW
  simp only [blk3, blk5, par_hJ, lJ_ch _ hj e]

theorem prob_blk (c : Dev nD) (t : Fin cfg0.N) (e : Fin 2) (i : Fin 4096) (r : Fin 256) :
    prob (iblk m c 0 t) (iblk m c 1 t) (iblk m c 4 t) e i r
      = probW (aQ m c) (aK m c) (aL m c) (hJ (t.val / 16) e) i (rB (t.val % 16) r) := by
  have hj : t.val / 16 < 8 := by have := tlt t; omega
  unfold prob probW
  simp only [blk0, blk1, blk4, cJ_col _ hj]

theorem dsc_blk (c : Dev nD) (t : Fin cfg0.N) (j : ℕ) (e' : t.val / 16 = j) (e : Fin 2) (i : Fin 4096) (r : Fin 256) :
    dsc (iblk m c 0 t) (iblk m c 1 t) (iblk m c 2 t) (iblk m c 4 t) (iblk m c 5 t) (meansJ m c j) e i r
      = dscW (aQ m c) (aK m c) (aW m c) (aO m c) (aC m c) (aL m c) (hJ j e) i (rB (t.val % 16) r) := by
  subst e'
  have hj : t.val / 16 < 8 := by have := tlt t; omega
  unfold dsc dscW
  rw [prob_blk]
  simp only [blk2, blk5, cJ_col _ hj, lJ_ch _ hj e, meansJ_at]

/-- Key block `b`'s part of pair `j`'s gradient of the queries. -/
def partJ (c : Dev nD) (j b : ℕ) (a : Fin 4096) (x : Fin 256) : EReal :=
  ∑ r : Fin 256, dscW (aQ m c) (aK m c) (aW m c) (aO m c) (aC m c) (aL m c) (hJ j (hd x)) a (rB b r) * aK m c (ix2 (rB b r) (cJ j x))

theorem dqp_blk (c : Dev nD) (t : Fin cfg0.N) (j : ℕ) (e' : t.val / 16 = j) (a : Fin 4096) (x : Fin 256) :
    dqp (iblk m c 0 t) (iblk m c 1 t) (iblk m c 2 t) (iblk m c 4 t) (iblk m c 5 t) (meansJ m c j) (ix2 a x)
      = partJ m c j (t.val % 16) a x := by
  rw [dqp_at]
  unfold partJ
  simp only [dsc_blk m c t j e', blk1, e']

theorem dkb_blk (c : Dev nD) (t : Fin cfg0.N) (a : Fin 256) (x : Fin 256) :
    dkb (iblk m c 0 t) (iblk m c 1 t) (iblk m c 2 t) (iblk m c 4 t) (iblk m c 5 t) (meansJ m c (t.val / 16)) (ix2 a x)
      = dkW (aQ m c) (aK m c) (aW m c) (aO m c) (aC m c) (aL m c) (ix2 (rB (t.val % 16) a) (cJ (t.val / 16) x)) := by
  have hj : t.val / 16 < 8 := by have := tlt t; omega
  rw [dkb_at]
  show _ = ∑ i : Fin 4096, dscW (aQ m c) (aK m c) (aW m c) (aO m c) (aC m c) (aL m c) (hdw (cJ (t.val / 16) x)) i (rB (t.val % 16) a) * aQ m c (ix2 i (cJ (t.val / 16) x))
  simp only [dsc_blk m c t _ rfl, blk0, hdw_cJ _ hj]

theorem dvb_blk (c : Dev nD) (t : Fin cfg0.N) (a : Fin 256) (x : Fin 256) :
    dvb (iblk m c 0 t) (iblk m c 1 t) (iblk m c 4 t) (iblk m c 5 t) (ix2 a x)
      = dvW (aQ m c) (aK m c) (aC m c) (aL m c) (ix2 (rB (t.val % 16) a) (cJ (t.val / 16) x)) := by
  have hj : t.val / 16 < 8 := by have := tlt t; omega
  rw [dvb_at]
  show _ = own (par (hdw (cJ (t.val / 16) x))) (lnw (cJ (t.val / 16) x)) (∑ i : Fin 4096, probW (aQ m c) (aK m c) (aL m c) (hdw (cJ (t.val / 16) x)) i (rB (t.val % 16) a)
    * aC m c (ix2 i (ch (hdw (cJ (t.val / 16) x)) (lnw (cJ (t.val / 16) x)))))
  simp only [prob_blk, blk5, hdw_cJ _ hj, lnw_cJ _ hj, par_hJ, lJ_ch _ hj (hd x)]

/-! One grid point: the first of a pair of heads sets the row means and the gradient of the queries; a later one keeps the
means and adds its key block's part. -/

theorem parts {A B C D : Type} {p : A × B × C × D} {a a' : A} {b b' : B} {x x' : C} {d d' : D} (h : p = (a, b, x, d)) (hd : d = d') (ha : a = a') (hb : b = b')
    (hx : x = x') : p.2.2.2 = d' ∧ p.1 = a' ∧ p.2.1 = b' ∧ p.2.2.1 = x' := by
  subst h; exact ⟨hd, ha, hb, hx⟩

set_option maxHeartbeats 1000000 in
theorem first (c : Dev nD) (t : Fin cfg0.N) (h : t.val % 16 = 0) :
    (outsAt0 m c t.val t.isLt).2.2.2 = means (iblk m c 3 t) (iblk m c 5 t)
      ∧ (outsAt0 m c t.val t.isLt).1 = dqp (iblk m c 0 t) (iblk m c 1 t) (iblk m c 2 t) (iblk m c 4 t) (iblk m c 5 t) (means (iblk m c 3 t) (iblk m c 5 t))
      ∧ (outsAt0 m c t.val t.isLt).2.1 = dkb (iblk m c 0 t) (iblk m c 1 t) (iblk m c 2 t) (iblk m c 4 t) (iblk m c 5 t) (means (iblk m c 3 t) (iblk m c 5 t))
      ∧ (outsAt0 m c t.val t.isLt).2.2.1 = dvb (iblk m c 0 t) (iblk m c 1 t) (iblk m c 4 t) (iblk m c 5 t) := by
  have h' : ¬1 ≤ t.val % 16 := by omega
  refine parts (outsAt0_A m c t h h h' h h') ?_ ?_ ?_ ?_
  · exact sout0_A_0_eq ..
  · exact out0_A_6_eq ..
  · exact out0_A_7_eq ..
  · exact out0_A_8_eq ..

set_option maxHeartbeats 1000000 in
theorem later (c : Dev nD) (t : Fin cfg0.N) (h : ¬t.val % 16 = 0) (k : ℕ) (hk : k < cfg0.N) (ek : t.val - 1 = k) :
    (outsAt0 m c t.val t.isLt).2.2.2 = (outsAt0 m c k hk).2.2.2
      ∧ ((outsAt0 m c t.val t.isLt).1 = fun y => (outsAt0 m c k hk).1 y + dqp (iblk m c 0 t) (iblk m c 1 t) (iblk m c 2 t) (iblk m c 4 t) (iblk m c 5 t) (outsAt0 m c k hk).2.2.2 y)
      ∧ (outsAt0 m c t.val t.isLt).2.1 = dkb (iblk m c 0 t) (iblk m c 1 t) (iblk m c 2 t) (iblk m c 4 t) (iblk m c 5 t) (outsAt0 m c k hk).2.2.2
      ∧ (outsAt0 m c t.val t.isLt).2.2.1 = dvb (iblk m c 0 t) (iblk m c 1 t) (iblk m c 4 t) (iblk m c 5 t) := by
  subst ek
  have h' : 1 ≤ t.val % 16 := by omega
  refine parts (outsAt0_B m c t h h h' h h') ?_ ?_ ?_ ?_
  · exact rfl
  · exact out0_B_6_eq ..
  · exact out0_B_7_eq ..
  · exact out0_B_8_eq ..

/-- The row means ride in the scratch, and the gradient of the queries holds the key blocks so far. -/
theorem state (c : Dev nD) : ∀ (n : ℕ) (hn : n < cfg0.N),
    (outsAt0 m c n hn).2.2.2 = meansJ m c (n / 16)
      ∧ ∀ a x, (outsAt0 m c n hn).1 (ix2 a x) = ∑ b ∈ Finset.range (n % 16 + 1), partJ m c (n / 16) b a x := by
  intro n
  induction n with
  | zero =>
    intro hn
    obtain ⟨f1, f2, -, -⟩ := first m c ⟨0, hn⟩ (Nat.zero_mod _)
    rw [means_blk] at f1 f2
    refine ⟨f1, fun a x => (congrFun f2 _).trans ((dqp_blk m c ⟨0, hn⟩ _ rfl a x).trans ?_)⟩
    simp
  | succ n ih =>
    intro hn
    by_cases h : (n + 1) % 16 = 0
    · obtain ⟨f1, f2, -, -⟩ := first m c ⟨n + 1, hn⟩ h
      rw [means_blk] at f1 f2
      refine ⟨f1, fun a x => (congrFun f2 _).trans ((dqp_blk m c ⟨n + 1, hn⟩ _ rfl a x).trans ?_)⟩
      simp [h]
    · obtain ⟨i1, i2⟩ := ih (Nat.lt_of_succ_lt hn)
      obtain ⟨f1, f2, -, -⟩ := later m c ⟨n + 1, hn⟩ h n (Nat.lt_of_succ_lt hn) rfl
      have e : (n + 1) / 16 = n / 16 := by omega
      have e' : (n + 1) % 16 = n % 16 + 1 := by omega
      rw [i1] at f1 f2
      rw [e, e']
      refine ⟨f1, fun a x => (congrFun f2 _).trans ?_⟩
      rw [i2, dqp_blk m c ⟨n + 1, hn⟩ _ e, Finset.sum_range_succ _ (n % 16 + 1)]
      exact congrArg (fun b => _ + partJ m c (n / 16) b a x) e'

/-- What every point leaves in the gradients of its blocks of keys and of values. -/
theorem keys (c : Dev nD) (t : Fin cfg0.N) :
    (∀ a x, (outsAt0 m c t.val t.isLt).2.1 (ix2 a x) = dkW (aQ m c) (aK m c) (aW m c) (aO m c) (aC m c) (aL m c) (ix2 (rB (t.val % 16) a) (cJ (t.val / 16) x)))
      ∧ ∀ a x, (outsAt0 m c t.val t.isLt).2.2.1 (ix2 a x) = dvW (aQ m c) (aK m c) (aC m c) (aL m c) (ix2 (rB (t.val % 16) a) (cJ (t.val / 16) x)) := by
  by_cases h : t.val % 16 = 0
  · obtain ⟨-, -, f3, f4⟩ := first m c t h
    rw [means_blk] at f3
    exact ⟨fun a x => (congrFun f3 _).trans (dkb_blk m c t a x), fun a x => (congrFun f4 _).trans (dvb_blk m c t a x)⟩
  · have hk : t.val - 1 < cfg0.N := Nat.lt_of_le_of_lt (Nat.sub_le _ _) t.isLt
    obtain ⟨-, -, f3, f4⟩ := later m c t h (t.val - 1) hk rfl
    rw [(state m c (t.val - 1) hk).1, show (t.val - 1) / 16 = t.val / 16 by omega] at f3
    exact ⟨fun a x => (congrFun f3 _).trans (dkb_blk m c t a x), fun a x => (congrFun f4 _).trans (dvb_blk m c t a x)⟩

end Cert.KernelIdeal.Heads
-- ==== Proof.Arrays.lean ====
module

public import proofs.«01_k».proof.Proof.Sweep

@[expose] public section

set_option maxRecDepth 16384

noncomputable section

namespace Cert.KernelIdeal.Heads

open Cert.KernelIdeal Cert.KernelIdeal.Gen Idealize.ShloMosaic Idealize.ShloMosaic.TcCoe

variable (m : (ℓ : Loc nD τ sig) → Buf (Elt Ideal) ℓ)

open Cert.KernelIdeal.Value

/-! What the kernel's three result arrays end holding, at every index. -/

/-- A column within its pair. -/
def cm (x : Fin 2048) : Fin 256 := ⟨x.val % 256, Nat.mod_lt _ (by decide)⟩

theorem cJ_cm (x : Fin 2048) : cJ (x.val / 256) (cm x) = x := by
  apply Fin.ext; show (256 * (x.val / 256) + x.val % 256) % 2048 = x.val; omega

theorem hJ_cm (x : Fin 2048) : hJ (x.val / 256) (hd (cm x)) = hdw x := by
  apply Fin.ext; show (2 * (x.val / 256) + x.val % 256 / 128) % 16 = x.val / 128; omega

theorem rB_of (k : Fin 4096) : rB (k.val / 256) ⟨k.val % 256, Nat.mod_lt _ (by decide)⟩ = k := by
  apply Fin.ext; show (256 * (k.val / 256) + k.val % 256) % 4096 = k.val; omega

theorem out6 (c : Dev nD) (i : Fin 4096) (x : Fin 2048) :
    G6 m c (ix2 i x) = dqW (aQ m c) (aK m c) (aW m c) (aO m c) (aC m c) (aL m c) (ix2 i x) := by
  have hp : pt6Of (ix2 i x) = 16 * (x.val / 256) + 15 := by
    show 16 * (8 * (i.val / 4096 - 0) + 1 * (x.val / 256 - 0)) + 15 = _; omega
  have hn : pt6Of (ix2 i x) < cfg0.N := by rw [hp, show cfg0.N = 128 from N_0]; omega
  have hl : loc6Of (ix2 i x) = ix2 i (cm x) := by
    funext a; apply Fin.ext
    match a with
    | ⟨0, _⟩ => show i.val % 4096 = i.val; omega
    | ⟨1, _⟩ => rfl
  have hs := (state m c (pt6Of (ix2 i x)) hn).2 i (cm x)
  rw [outsAt0_sweep m c _ hn, ← hl] at hs
  unfold G6
  rw [dif_pos hn]
  refine hs.trans ?_
  rw [show pt6Of (ix2 i x) % 16 + 1 = 16 by omega, show pt6Of (ix2 i x) / 16 = x.val / 256 by omega]
  unfold partJ
  rw [cJ_cm, hJ_cm]
  rfl

theorem out7 (c : Dev nD) (k : Fin 4096) (x : Fin 2048) :
    G7 m c (ix2 k x) = dkW (aQ m c) (aK m c) (aW m c) (aO m c) (aC m c) (aL m c) (ix2 k x) := by
  have hp : pt7Of (ix2 k x) = k.val / 256 + 16 * (x.val / 256) := by
    show 1 * (k.val / 256 - 0) + 16 * (x.val / 256 - 0) = _; omega
  have hn : pt7Of (ix2 k x) < cfg0.N := by rw [hp, show cfg0.N = 128 from N_0]; omega
  have hl : loc7Of (ix2 k x) = ix2 (⟨k.val % 256, Nat.mod_lt _ (by decide)⟩ : Fin 256) (cm x) := by
    funext a; apply Fin.ext
    match a with
    | ⟨0, _⟩ => rfl
    | ⟨1, _⟩ => rfl
  have hs := (keys m c ⟨pt7Of (ix2 k x), hn⟩).1 ⟨k.val % 256, Nat.mod_lt _ (by decide)⟩ (cm x)
  rw [outsAt0_sweep m c _ hn, ← hl] at hs
  unfold G7
  rw [dif_pos hn]
  refine hs.trans ?_
  dsimp only
  rw [show pt7Of (ix2 k x) % 16 = k.val / 256 by omega, show pt7Of (ix2 k x) / 16 = x.val / 256 by omega, cJ_cm, rB_of]

theorem out8 (c : Dev nD) (k : Fin 4096) (x : Fin 2048) :
    G8 m c (ix2 k x) = dvW (aQ m c) (aK m c) (aC m c) (aL m c) (ix2 k x) := by
  have hp : pt8Of (ix2 k x) = k.val / 256 + 16 * (x.val / 256) := by
    show 1 * (k.val / 256 - 0) + 16 * (x.val / 256 - 0) = _; omega
  have hn : pt8Of (ix2 k x) < cfg0.N := by rw [hp, show cfg0.N = 128 from N_0]; omega
  have hl : loc8Of (ix2 k x) = ix2 (⟨k.val % 256, Nat.mod_lt _ (by decide)⟩ : Fin 256) (cm x) := by
    funext a; apply Fin.ext
    match a with
    | ⟨0, _⟩ => rfl
    | ⟨1, _⟩ => rfl
  have hs := (keys m c ⟨pt8Of (ix2 k x), hn⟩).2 ⟨k.val % 256, Nat.mod_lt _ (by decide)⟩ (cm x)
  rw [outsAt0_sweep m c _ hn, ← hl] at hs
  unfold G8
  rw [dif_pos hn]
  refine hs.trans ?_
  dsimp only
  rw [show pt8Of (ix2 k x) % 16 = k.val / 256 by omega, show pt8Of (ix2 k x) / 16 = x.val / 256 by omega, cJ_cm, rB_of]

end Cert.KernelIdeal.Heads
-- ==== Proof.Real.lean ====
module

public import proofs.«01_k».proof.Proof.Base

@[expose] public section

noncomputable section

/-! The attention and its gradients over the reals, and the two shapes of the gradient of a score: the kernel's, by the
saved log of the sum and the row mean, and the reference's, by the quotient's two derivatives. -/

namespace Cert.Attn

open Idealize.ShloMosaic

variable (q k : Fin 4096 → Fin 16 → Fin 96 → ℝ) (v g : Fin 4096 → Fin 16 → Fin 64 → ℝ)

def score (h : Fin 16) (i j : Fin 4096) : ℝ := ∑ d : Fin 96, q i h d * k j h d

/-- A row's greatest score. -/
def top (h : Fin 16) (i : Fin 4096) : ℝ := Finset.univ.sup' ⟨0, Finset.mem_univ _⟩ (score q k h i)

def ex (h : Fin 16) (i j : Fin 4096) : ℝ := Real.exp (score q k h i j - top q k h i)

def tot (h : Fin 16) (i : Fin 4096) : ℝ := ∑ j : Fin 4096, ex q k h i j

/-- The probability that query `i` gives key `j`. -/
def pr (h : Fin 16) (i j : Fin 4096) : ℝ := ex q k h i j / tot q k h i

/-- The attention's output. -/
def res (i : Fin 4096) (h : Fin 16) (l : Fin 64) : ℝ := ∑ j : Fin 4096, v j h l * pr q k h i j

/-- The gradient of a probability. -/
def gp (h : Fin 16) (i j : Fin 4096) : ℝ := ∑ l : Fin 64, g i h l * v j h l

def mean (h : Fin 16) (i : Fin 4096) : ℝ := ∑ l : Fin 64, g i h l * res q k v i h l

/-- The gradient of a score. -/
def gs (h : Fin 16) (i j : Fin 4096) : ℝ := pr q k h i j * (gp v g h i j - mean q k v g h i)

/-- The gradients of the query, the key and the value. -/
def gq (i : Fin 4096) (h : Fin 16) (d : Fin 96) : ℝ := ∑ j : Fin 4096, gs q k v g h i j * k j h d
def gk (j : Fin 4096) (h : Fin 16) (d : Fin 96) : ℝ := ∑ i : Fin 4096, gs q k v g h i j * q i h d
def gw (j : Fin 4096) (h : Fin 16) (l : Fin 64) : ℝ := ∑ i : Fin 4096, pr q k h i j * g i h l

theorem tot_pos (h : Fin 16) (i : Fin 4096) : 0 < tot q k h i :=
  Finset.sum_pos (fun _ _ => Real.exp_pos _) ⟨0, Finset.mem_univ _⟩

theorem pr_saved (h : Fin 16) (i j : Fin 4096) :
    Real.exp (score q k h i j - (top q k h i + Real.log (tot q k h i))) = pr q k h i j := by
  rw [← sub_sub, Real.exp_sub, Real.exp_log (tot_pos q k h i)]; rfl

theorem mean_eq (h : Fin 16) (i : Fin 4096) : mean q k v g h i = ∑ j : Fin 4096, gp v g h i j * pr q k h i j := by
  unfold mean res gp
  simp only [Finset.mul_sum, Finset.sum_mul]
  rw [Finset.sum_comm]
  exact Finset.sum_congr rfl fun _ _ => Finset.sum_congr rfl fun _ _ => by ring

theorem gs_quot (h : Fin 16) (i j : Fin 4096) :
    (gp v g h i j / tot q k h i + -∑ n : Fin 4096, gp v g h i n * (1 / (tot q k h i * tot q k h i)) * ex q k h i n) * ex q k h i j
      = gs q k v g h i j := by
  have hz := (tot_pos q k h i).ne'
  have hs : ∑ n : Fin 4096, gp v g h i n * (1 / (tot q k h i * tot q k h i)) * ex q k h i n = mean q k v g h i / tot q k h i := by
    rw [mean_eq, Finset.sum_div]
    refine Finset.sum_congr rfl fun n _ => ?_
    unfold pr
    field_simp
  rw [hs]
  unfold gs pr
  field_simp
  ring

/-! Real numbers inside the extended reals. -/

theorem sum_coe {ι : Type} (s : Finset ι) (f : ι → ℝ) : ∑ i ∈ s, (f i : EReal) = ((∑ i ∈ s, f i : ℝ) : EReal) :=
  (map_sum (⟨⟨Real.toEReal, rfl⟩, EReal.coe_add⟩ : ℝ →+ EReal) f s).symm

theorem fold_coe {ι : Type} [Fintype ι] (f : ι → ℝ) (h : (Finset.univ : Finset ι).Nonempty) :
    Finset.univ.fold max (⊥ : EReal) (fun i => (f i : EReal)) = ((Finset.univ.sup' h f : ℝ) : EReal) := by
  apply le_antisymm
  · rw [Finset.fold_max_le]
    exact ⟨bot_le, fun i hi => EReal.coe_le_coe_iff.mpr (Finset.le_sup' f hi)⟩
  · obtain ⟨i, hi, e⟩ := Finset.exists_mem_eq_sup' h f
    rw [e, Finset.le_fold_max]
    exact Or.inr ⟨i, hi, le_rfl⟩

theorem ofBits_real (b : BitVec 32) (h : ∃ r : ℝ, Ideal.ofBits .f32 b = r) : ((Ideal.ofBits .f32 b).toReal : EReal) = Ideal.ofBits .f32 b := by
  obtain ⟨r, e⟩ := h; rw [e]; rfl

theorem scale_real : ∃ r : ℝ, Ideal.ofBits .f32 1037108716#32 = r := by
  simp [Ideal.ofBits, Ideal.ieee]
  exact ⟨_, rfl⟩

theorem bot_bits : Ideal.ofBits .f32 4286578688#32 = ⊥ := by simp [Ideal.ofBits, Ideal.ieee]

theorem top_bits : Ideal.ofBits .f32 0x7F800000#32 = ⊤ := by simp [Ideal.ofBits, Ideal.ieee]

theorem div_real (a b : ℝ) (hb : b ≠ 0) : Ideal.div (a : EReal) (b : EReal) = ((a / b : ℝ) : EReal) := by
  rw [Ideal.div_coe hb, ← EReal.coe_mul]; congr 1; ring

theorem log_real (a : ℝ) (ha : 0 < a) : Ideal.log (a : EReal) = ((Real.log a : ℝ) : EReal) := by
  rw [Ideal.log_coe, if_neg (not_le.mpr ha)]

/-- An extended real whose absolute value is below the top is real. -/
theorem real_of_abs (a : EReal) (h : max a (-a) < ⊤) : ((a.toReal : ℝ) : EReal) = a := by
  apply EReal.coe_toReal
  · rintro rfl; simp at h
  · rintro rfl; simp at h

/-! Sums over padded lanes, over half the lanes, over the sixteen key blocks. -/

theorem sum_pad (f : Fin 128 → EReal) (h : ∀ d : Fin 128, 96 ≤ d.val → f d = 0) :
    ∑ d : Fin 128, f d = ∑ d : Fin 96, f ⟨d.val, by omega⟩ := by
  refine (Fin.sum_univ_add (a := 96) (b := 32) f).trans ?_
  rw [Finset.sum_eq_zero (s := Finset.univ) (f := fun i : Fin 32 => f (Fin.natAdd 96 i)) fun i _ => h _ (by simp), add_zero]
  rfl

/-- Lane `l` of a head's half. -/
def ow (h : Fin 16) (l : Fin 64) : Fin 128 := ⟨64 * (h.val % 2) + l.val, by omega⟩

theorem sum_half (h : Fin 16) (f : Fin 128 → EReal) (hf : ∀ d : Fin 128, ¬d.val / 64 = h.val % 2 → f d = 0) :
    ∑ d : Fin 128, f d = ∑ l : Fin 64, f (ow h l) := by
  refine (Fin.sum_univ_add (a := 64) (b := 64) f).trans ?_
  obtain e | e : h.val % 2 = 0 ∨ h.val % 2 = 1 := by omega
  · rw [Finset.sum_eq_zero (s := Finset.univ) (f := fun i : Fin 64 => f (Fin.natAdd 64 i)) fun i _ => hf _ (by simp; omega), add_zero]
    exact Finset.sum_congr rfl fun l _ => congrArg f (Fin.ext (by show l.val = 64 * (h.val % 2) + l.val; omega))
  · rw [Finset.sum_eq_zero (s := Finset.univ) (f := fun i : Fin 64 => f (Fin.castAdd 64 i)) fun i _ => hf _ (by simp; omega), zero_add]
    exact Finset.sum_congr rfl fun l _ => congrArg f (Fin.ext (by show 64 + l.val = 64 * (h.val % 2) + l.val; omega))

theorem sum_blocks (f : Fin 4096 → EReal) :
    ∑ b ∈ Finset.range 16, ∑ r : Fin 256, f ⟨(256 * b + r.val) % 4096, Nat.mod_lt _ (by decide)⟩ = ∑ j : Fin 4096, f j := by
  rw [Finset.sum_range fun b => ∑ r : Fin 256, f ⟨(256 * b + r.val) % 4096, Nat.mod_lt _ (by decide)⟩,
    ← Equiv.sum_comp (finProdFinEquiv (m := 16) (n := 256)) f, Fintype.sum_prod_type]
  refine Finset.sum_congr rfl fun b _ => Finset.sum_congr rfl fun r _ => congrArg f (Fin.ext ?_)
  show (256 * b.val + r.val) % 4096 = r.val + 256 * b.val
  omega

end Cert.Attn
-- ==== Proof.Kern.lean ====
module

public import proofs.«01_k».proof.Proof.Real

@[expose] public section

set_option maxRecDepth 16384

noncomputable section

namespace Cert.KernelIdeal.Heads

open Cert.KernelIdeal Cert.KernelIdeal.Gen Idealize.ShloMosaic Idealize.ShloMosaic.TcCoe

open Cert.Attn

/-! The kernel's sums over its operand arrays are the gradients over the reals, when the arrays hold real numbers. -/

section

variable (Q K W : Vec Ideal S4096x2048 .bf16) (O C : Vec Ideal S4096x1024 .f32) (L : Vec Ideal S16x4096x1 .f32)
  (q k : Fin 4096 → Fin 16 → Fin 96 → ℝ) (v g : Fin 4096 → Fin 16 → Fin 64 → ℝ)

/-- The operand arrays hold the real query, key, value, output, cotangent and log of the sum. -/
structure Holds : Prop where
  hQ : ∀ i h (d : Fin 128), Q (ix2 i (cl h d)) = if hd : d.val < 96 then ((q i h ⟨d.val, hd⟩ : ℝ) : EReal) else 0
  hK : ∀ i h (d : Fin 128), K (ix2 i (cl h d)) = if hd : d.val < 96 then ((k i h ⟨d.val, hd⟩ : ℝ) : EReal) else 0
  hW : ∀ i h l, W (ix2 i (cl h (ow h l))) = ((v i h l : ℝ) : EReal)
  hW0 : ∀ i h (d : Fin 128), ¬d.val / 64 = h.val % 2 → W (ix2 i (cl h d)) = 0
  hO : ∀ i h l, O (ix2 i (ch h (ow h l))) = ((res q k v i h l : ℝ) : EReal)
  hC : ∀ i h l, C (ix2 i (ch h (ow h l))) = ((g i h l : ℝ) : EReal)
  hL : ∀ h i, L (ix3 h i 0) = ((top q k h i + Real.log (tot q k h i) : ℝ) : EReal)

variable {Q K W O C L q k v g} (H : Holds Q K W O C L q k v g)

include H

theorem probW_real (h : Fin 16) (i j : Fin 4096) : probW Q K L h i j = ((pr q k h i j : ℝ) : EReal) := by
  unfold probW
  rw [sum_pad _ fun d hd => by rw [H.hQ, dif_neg (not_lt.mpr hd), zero_mul], H.hL]
  have e : ∀ d : Fin 96, Q (ix2 i (cl h ⟨d.val, by omega⟩)) * K (ix2 j (cl h ⟨d.val, by omega⟩)) = ((q i h d * k j h d : ℝ) : EReal) := fun d => by
    rw [H.hQ, H.hK, dif_pos d.isLt, dif_pos d.isLt, EReal.coe_mul]
  rw [Finset.sum_congr rfl fun d _ => e d, sum_coe, ← EReal.coe_sub, Ideal.exp_coe]
  exact congrArg _ (pr_saved q k h i j)

theorem own_at (h : Fin 16) (l : Fin 64) (a : EReal) : own (par h) (ow h l) a = a :=
  if_pos (by show (64 * (h.val % 2) + l.val) / 64 = h.val % 2; omega)

theorem meanW_real (h : Fin 16) (i : Fin 4096) : meanW O C h i = ((mean q k v g h i : ℝ) : EReal) := by
  unfold meanW
  rw [sum_half h (fun d => own (par h) d (C (ix2 i (ch h d)) * O (ix2 i (ch h d)))) fun d hd => if_neg hd]
  have e : ∀ l : Fin 64, own (par h) (ow h l) (C (ix2 i (ch h (ow h l))) * O (ix2 i (ch h (ow h l)))) = ((g i h l * res q k v i h l : ℝ) : EReal) := fun l => by
    rw [own_at H, H.hC, H.hO, EReal.coe_mul]
  rw [Finset.sum_congr rfl fun d _ => e d, sum_coe]
  rfl

theorem dscW_real (h : Fin 16) (i j : Fin 4096) : dscW Q K W O C L h i j = ((gs q k v g h i j : ℝ) : EReal) := by
  unfold dscW
  rw [probW_real H, meanW_real H, sum_half h _ fun d hd => by rw [H.hW0 j h d hd, mul_zero]]
  have e : ∀ l : Fin 64, C (ix2 i (ch h (ow h l))) * W (ix2 j (cl h (ow h l))) = ((g i h l * v j h l : ℝ) : EReal) := fun l => by
    rw [H.hC, H.hW, EReal.coe_mul]
  rw [Finset.sum_congr rfl fun d _ => e d, sum_coe, ← EReal.coe_sub, ← EReal.coe_mul]
  rfl

theorem cl_eq (x : Fin 2048) : cl (hdw x) (lnw x) = x := by
  apply Fin.ext; show 128 * (x.val / 128) + x.val % 128 = x.val; omega

theorem dqW_real (i : Fin 4096) (x : Fin 2048) :
    dqW Q K W O C L (ix2 i x) = if hd : x.val % 128 < 96 then ((gq q k v g i (hdw x) ⟨x.val % 128, hd⟩ : ℝ) : EReal) else 0 := by
  refine (sum_blocks fun j => dscW Q K W O C L (hdw x) i j * K (ix2 j x)).trans ?_
  have e : ∀ j, K (ix2 j x) = if hd : x.val % 128 < 96 then ((k j (hdw x) ⟨x.val % 128, hd⟩ : ℝ) : EReal) else 0 := fun j => by
    have := H.hK j (hdw x) (lnw x); rw [cl_eq H] at this; exact this
  by_cases hd : x.val % 128 < 96
  · simp only [dscW_real H, e, dif_pos hd, ← EReal.coe_mul, sum_coe]; rfl
  · simp only [e, dif_neg hd, mul_zero, Finset.sum_const_zero]

theorem dkW_real (j : Fin 4096) (x : Fin 2048) :
    dkW Q K W O C L (ix2 j x) = if hd : x.val % 128 < 96 then ((gk q k v g j (hdw x) ⟨x.val % 128, hd⟩ : ℝ) : EReal) else 0 := by
  show ∑ i : Fin 4096, dscW Q K W O C L (hdw x) i j * Q (ix2 i x) = _
  have e : ∀ i, Q (ix2 i x) = if hd : x.val % 128 < 96 then ((q i (hdw x) ⟨x.val % 128, hd⟩ : ℝ) : EReal) else 0 := fun i => by
    have := H.hQ i (hdw x) (lnw x); rw [cl_eq H] at this; exact this
  by_cases hd : x.val % 128 < 96
  · simp only [dscW_real H, e, dif_pos hd, ← EReal.coe_mul, sum_coe]; rfl
  · simp only [e, dif_neg hd, mul_zero, Finset.sum_const_zero]

theorem dvW_real (j : Fin 4096) (x : Fin 2048) :
    dvW Q K C L (ix2 j x) = if x.val % 128 / 64 = x.val / 128 % 2 then ((gw q k g j (hdw x) ⟨x.val % 64, Nat.mod_lt _ (by decide)⟩ : ℝ) : EReal) else 0 := by
  show own (par (hdw x)) (lnw x) (∑ i : Fin 4096, probW Q K L (hdw x) i j * C (ix2 i (ch (hdw x) (lnw x)))) = _
  by_cases hd : x.val % 128 / 64 = x.val / 128 % 2
  · have e : lnw x = ow (hdw x) ⟨x.val % 64, Nat.mod_lt _ (by decide)⟩ := by
      apply Fin.ext; show x.val % 128 = 64 * (x.val / 128 % 2) + x.val % 64; omega
    rw [e, own_at H, if_pos hd]
    simp only [probW_real H, H.hC, ← EReal.coe_mul, sum_coe]; rfl
  · rw [if_neg hd]; exact if_neg hd

end

end Cert.KernelIdeal.Heads
-- ==== Proof.Host.lean ====
module

public import proofs.«01_k».proof.Proof.Kern
public import Idealize.ShloMosaic.Lib.StableHlo.ReadAt
public import Idealize.ShloMosaic.Lib.Pointwise

@[expose] public section

set_option maxRecDepth 16384

noncomputable section

namespace Cert.KernelIdeal.Heads

open Cert.KernelIdeal Cert.KernelIdeal.Gen Idealize.ShloMosaic Idealize.ShloMosaic.TcCoe

variable (m : (ℓ : Loc nD τ sig) → Buf (Elt Ideal) ℓ)

open Cert.Attn

/-! What the host lines before the call leave in its six operand arrays. -/

theorem aQ_eq (c : Dev nD) : aQ m c = V m c main_v19 := rfl
theorem aK_eq (c : Dev nD) : aK m c = V m c main_v22 := rfl
theorem aW_eq (c : Dev nD) : aW m c = V m c main_v29 := rfl
theorem aO_eq (c : Dev nD) : aO m c = V m c main_v14 := rfl
theorem aL_eq (c : Dev nD) : aL m c = V m c main_v16 := rfl
theorem aC_eq (c : Dev nD) : aC m c = V m c main_arg3 := rfl

/-- The four arguments. -/
def g0 (c : Dev nD) : Vec Ideal S4096x16x96 .f32 := m (c, Proc.tc.devRef main_arg0)
def g1 (c : Dev nD) : Vec Ideal S4096x16x96 .f32 := m (c, Proc.tc.devRef main_arg1)
def g2 (c : Dev nD) : Vec Ideal S4096x16x64 .f32 := m (c, Proc.tc.devRef main_arg2)
def g3 (c : Dev nD) : Vec Ideal S4096x1024 .f32 := m (c, Proc.tc.devRef main_arg3)

/-- A score as the host writes it. -/
def sc (c : Dev nD) (h : Fin 16) (i j : Fin 4096) : EReal :=
  ∑ d : Fin 96, g0 m c (ix3 i h d) * Ideal.ofBits .f32 1037108716#32 * g1 m c (ix3 j h d)

/-- The exponential of a score less its row's greatest, as the host writes it. -/
def exh (c : Dev nD) (h : Fin 16) (i j : Fin 4096) : EReal :=
  Ideal.exp (sc m c h i j - Finset.univ.fold max (Ideal.ofBits .f32 4286578688#32) (fun n => sc m c h i n))

theorem q_at (c : Dev nD) (i : Fin 4096) (x : Fin 2048) :
    aQ m c (ix2 i x) = if h : x.val / 128 < 16 ∧ x.val % 128 < 96 then
      g0 m c (ix3 i ⟨x.val / 128, h.1⟩ ⟨x.val % 128, h.2⟩) * Ideal.ofBits .f32 1037108716#32
    else (FloatOps.sitofp (F := Ideal) .f32 0#32 : EReal) := by
  rw [aQ_eq]
  simp only [exh, sc, g0, g1, g2, g3]
  unfold_abbrev_sides
  after_reads_at

theorem k_at (c : Dev nD) (i : Fin 4096) (x : Fin 2048) :
    aK m c (ix2 i x) = if h : x.val / 128 < 16 ∧ x.val % 128 < 96 then
      g1 m c (ix3 i ⟨x.val / 128, h.1⟩ ⟨x.val % 128, h.2⟩)
    else (FloatOps.sitofp (F := Ideal) .f32 0#32 : EReal) := by
  rw [aK_eq]
  simp only [exh, sc, g0, g1, g2, g3]
  unfold_abbrev_sides
  after_reads_at

theorem v4_at (c : Dev nD) (h : Fin 16) (i : Fin 4096) :
    V m c main_v4 (ix3 h i (0 : Fin 1)) = (Finset.univ.fold max (Ideal.ofBits .f32 4286578688#32) (fun j => sc m c h i j) : EReal) := by
  simp only [sc, g0, g1]
  unfold_abbrev_sides
  after_reads_at

theorem v15_at (c : Dev nD) (h : Fin 16) (i : Fin 4096) :
    V m c main_v15 (ix3 h i (0 : Fin 1)) = (Ideal.log (∑ j : Fin 4096, exh m c h i j) : EReal) := by
  simp only [exh, sc, g0, g1]
  unfold_abbrev_sides
  after_reads_at

theorem v16_eq (c : Dev nD) :
    V m c main_v16 = (addf (F := Ideal) (s := S16x4096x1) (φ := .f32) (V m c main_v4) (V m c main_v15)) := by
  unfold_abbrev_sides
  after_reads_simp

theorem addf_at (A B : Vec Ideal S16x4096x1 .f32) (y : S16x4096x1.Idx) (a b : EReal) (ha : A y = a) (hb : B y = b) :
    addf (F := Ideal) (s := S16x4096x1) (φ := .f32) A B y = a + b := congrArg₂ (fun a b : EReal => a + b) ha hb

theorem l_at (c : Dev nD) (h : Fin 16) (i : Fin 4096) :
    aL m c (ix3 h i 0) = Finset.univ.fold max (Ideal.ofBits .f32 4286578688#32) (fun j => sc m c h i j) + Ideal.log (∑ j : Fin 4096, exh m c h i j) :=
  (congrFun (aL_eq m c) _).trans ((congrFun (v16_eq m c) _).trans (addf_at _ _ _ _ _ (v4_at m c h i) (v15_at m c h i)))

theorem o_at (c : Dev nD) (i : Fin 4096) (x : Fin 1024) :
    aO m c (ix2 i x) = ∑ j : Fin 4096, g2 m c (ix3 j (⟨x.val / 64, by omega⟩ : Fin 16) (⟨x.val % 64, by omega⟩ : Fin 64))
      * Ideal.div (exh m c ⟨x.val / 64, by omega⟩ i j) (∑ n : Fin 4096, exh m c ⟨x.val / 64, by omega⟩ i n) := by
  rw [aO_eq]
  simp only [exh, sc, g0, g1, g2, g3]
  unfold_abbrev_sides
  after_reads_at

theorem c_at (c : Dev nD) (i : Fin 4096) (x : Fin 1024) : aC m c (ix2 i x) = g3 m c (ix2 i x) := by
  rw [aC_eq]
  simp only [exh, sc, g0, g1, g2, g3]
  unfold_abbrev_sides
  after_reads_at

set_option maxHeartbeats 2000000 in
theorem w_at (c : Dev nD) (i : Fin 4096) (x : Fin 2048) :
    aW m c (ix2 i x) = if x.val % 128 / 64 = x.val / 128 % 2 then
      g2 m c (ix3 i (⟨x.val / 128, by omega⟩ : Fin 16) (⟨x.val % 64, by omega⟩ : Fin 64)) else (0 : EReal) := by
  rw [aW_eq]
  unfold_abbrev_sides
  after_reads_at
  simp only [g2]
  split_ifs <;> after_reads_at
  all_goals first
    | simp only [if_neg (show ¬x.val % 128 / 64 = x.val / 128 % 2 by omega)]; done
    | simp only [if_pos (show x.val % 128 / 64 = x.val / 128 % 2 by omega), show x.val / 256 * 2 + x.val / 64 % 4 = x.val / 128 by omega]; done
    | simp only [if_pos (show x.val % 128 / 64 = x.val / 128 % 2 by omega), show x.val / 256 * 2 + (1 + (x.val / 64 % 4 - 1 - 1 - 1)) = x.val / 128 by omega]; done

/-- The four arguments hold real numbers: the scaled query, the key, the value and the cotangent. -/
structure Args (c : Dev nD) (q k : Fin 4096 → Fin 16 → Fin 96 → ℝ) (v g : Fin 4096 → Fin 16 → Fin 64 → ℝ) : Prop where
  h0 : ∀ i h d, g0 m c (ix3 i h d) * Ideal.ofBits .f32 1037108716#32 = ((q i h d : ℝ) : EReal)
  h1 : ∀ i h d, g1 m c (ix3 i h d) = ((k i h d : ℝ) : EReal)
  h2 : ∀ i h l, g2 m c (ix3 i h l) = ((v i h l : ℝ) : EReal)
  h3 : ∀ i (h : Fin 16) (l : Fin 64), g3 m c (ix2 i (⟨64 * h.val + l.val, by omega⟩ : Fin 1024)) = ((g i h l : ℝ) : EReal)

section

variable {m} {c : Dev nD} {q k : Fin 4096 → Fin 16 → Fin 96 → ℝ} {v g : Fin 4096 → Fin 16 → Fin 64 → ℝ} (A : Args m c q k v g)

include A

theorem sc_real (h : Fin 16) (i j : Fin 4096) : sc m c h i j = ((score q k h i j : ℝ) : EReal) := by
  unfold sc score
  simp only [A.h0, A.h1, ← EReal.coe_mul, sum_coe]

theorem exh_real (h : Fin 16) (i j : Fin 4096) : exh m c h i j = ((ex q k h i j : ℝ) : EReal) := by
  unfold exh
  simp only [sc_real A]
  rw [bot_bits, fold_coe _ ⟨0, Finset.mem_univ _⟩, ← EReal.coe_sub, Ideal.exp_coe]
  rfl

theorem zero_word : (FloatOps.sitofp (F := Ideal) .f32 0#32 : EReal) = 0 := by
  show (((0#32 : BitVec 32).toInt : ℝ) : EReal) = 0
  simp

theorem ch_half (h : Fin 16) (l : Fin 64) : ch h (ow h l) = (⟨64 * h.val + l.val, by omega⟩ : Fin 1024) := by
  apply Fin.ext; show 128 * (h.val / 2) + (64 * (h.val % 2) + l.val) = 64 * h.val + l.val; omega

theorem holds : Holds (aQ m c) (aK m c) (aW m c) (aO m c) (aC m c) (aL m c) q k v g where
  hQ i h d := by
    have e1 : (128 * h.val + d.val) / 128 = h.val := by omega
    have e2 : (128 * h.val + d.val) % 128 = d.val := by omega
    rw [q_at]
    simp only [cl, e1, e2, zero_word A, A.h0, Fin.eta, h.isLt, true_and]
  hK i h d := by
    have e1 : (128 * h.val + d.val) / 128 = h.val := by omega
    have e2 : (128 * h.val + d.val) % 128 = d.val := by omega
    rw [k_at]
    simp only [cl, e1, e2, zero_word A, A.h1, Fin.eta, h.isLt, true_and]
  hW i h l := by
    have e1 : (128 * h.val + (64 * (h.val % 2) + l.val)) / 128 = h.val := by omega
    have e2 : (128 * h.val + (64 * (h.val % 2) + l.val)) % 64 = l.val := by omega
    rw [w_at, if_pos (by show (128 * h.val + (64 * (h.val % 2) + l.val)) % 128 / 64 = (128 * h.val + (64 * (h.val % 2) + l.val)) / 128 % 2; omega)]
    simp only [cl, ow, e1, e2, A.h2, Fin.eta]
  hW0 i h d hd := by
    rw [w_at, if_neg (by show ¬(128 * h.val + d.val) % 128 / 64 = (128 * h.val + d.val) / 128 % 2; omega)]
  hO i h l := by
    have e1 : (64 * h.val + l.val) / 64 = h.val := by omega
    have e2 : (64 * h.val + l.val) % 64 = l.val := by omega
    rw [ch_half A, o_at]
    simp only [e1, e2, Fin.eta, exh_real A, A.h2, sum_coe]
    have e : ∀ j, ((v j h l : ℝ) : EReal) * Ideal.div ((ex q k h i j : ℝ) : EReal) ((∑ n : Fin 4096, ex q k h i n : ℝ) : EReal)
        = ((v j h l * pr q k h i j : ℝ) : EReal) := fun j => by
      rw [EReal.coe_mul]
      exact congrArg _ (div_real _ _ (tot_pos q k h i).ne')
    rw [Finset.sum_congr rfl fun j _ => e j, sum_coe]
    rfl
  hC i h l := by rw [ch_half A, c_at, A.h3]
  hL h i := by
    rw [l_at]
    simp only [sc_real A, exh_real A, sum_coe]
    rw [bot_bits, fold_coe _ ⟨0, Finset.mem_univ _⟩, EReal.coe_add]
    exact congrArg₂ (fun a b : EReal => a + b) rfl (log_real _ (tot_pos q k h i))

end

end Cert.KernelIdeal.Heads
-- ==== Proof.Ref.lean ====
module

public import proofs.«01_k».proof.Proof.Real
public import proofs.«01_k».proof.Proof.Gen.ReferenceIdeal.Read
public import Idealize.ShloMosaic.Lib.Pointwise

@[expose] public section

set_option maxRecDepth 16384

noncomputable section

/-! The reference's results at an index: the gradients over the reals, in the operands' layout. -/

namespace Cert.ReferenceIdeal.Heads

open Cert.ReferenceIdeal Cert.ReferenceIdeal.Read Idealize.ShloMosaic Idealize.ShloMosaic.Pointwise Cert.Attn

variable (x0 x1 : Vec Ideal S4096x16x96 .f32) (x2 : Vec Ideal S4096x16x64 .f32) (x3 : Vec Ideal S4096x1024 .f32)
  (q k : Fin 4096 → Fin 16 → Fin 96 → ℝ) (v g : Fin 4096 → Fin 16 → Fin 64 → ℝ)

theorem zero_word : (FloatOps.sitofp (F := Ideal) .f32 0#32 : EReal) = 0 := by
  show (((0#32 : BitVec 32).toInt : ℝ) : EReal) = 0
  simp

theorem v1_at (i : Fin 4096) (h : Fin 16) (d : Fin 96) :
    val_main_v1 (F := Ideal) x0 (ix3 i h d) = (x0 (ix3 i h d) * Ideal.ofBits .f32 1037108716#32 : EReal) := by
  unfold val_main_v1 val_main_v0 val_main_cst
  pointwise

theorem v2_at (h : Fin 16) (i j : Fin 4096) :
    val_main_v2 (F := Ideal) x0 x1 (ix3 h i j) = (∑ d : Fin 96, val_main_v1 (F := Ideal) x0 (ix3 i h d) * x1 (ix3 j h d) : EReal) := by
  unfold val_main_v2
  pointwise

theorem v3_at (h : Fin 16) (i : Fin 4096) :
    val_main_v3 (F := Ideal) x0 x1 (ix2 h i) = (Finset.univ.fold max (Ideal.ofBits .f32 4286578688#32) (fun j => val_main_v2 (F := Ideal) x0 x1 (ix3 h i j)) : EReal) := by
  unfold val_main_v3 val_main_cst_0
  pointwise

theorem max_bot (a : EReal) : FloatOps.maximumf (F := Ideal) (φ := .f32) (FloatOps.ofBits (F := Ideal) .f32 0xFF800000#32) a = a := by
  rw [Ideal.ofBits_def, bot_bits]
  exact max_eq_right bot_le

theorem v10_at (h : Fin 16) (i : Fin 4096) : val_main_v10 (F := Ideal) x0 x1 (ix2 h i) = val_main_v3 (F := Ideal) x0 x1 (ix2 h i) := by
  rw [val_main_v10_apply, val_main_v9_apply, val_main_cst_2_apply]
  exact max_bot _

theorem v23_at (h : Fin 16) (i j : Fin 4096) :
    val_main_v23 (F := Ideal) x0 x1 (ix3 h i j)
      = (Ideal.exp (val_main_v2 (F := Ideal) x0 x1 (ix3 h i j) - val_main_v10 (F := Ideal) x0 x1 (ix2 h i)) : EReal) := by
  unfold val_main_v23 val_main_v22 val_main_v21 val_main_v20
  pointwise

theorem v25_at (h : Fin 16) (i : Fin 4096) :
    val_main_v25 (F := Ideal) x0 x1 (ix3 h i (0 : Fin 1)) = (∑ j : Fin 4096, val_main_v23 (F := Ideal) x0 x1 (ix3 h i j) : EReal) := by
  unfold val_main_v25 val_main_v24 val_main_cst_8
  pointwise

theorem v27_at (h : Fin 16) (i j : Fin 4096) :
    val_main_v27 (F := Ideal) x0 x1 (ix3 h i j)
      = (Ideal.div (val_main_v23 (F := Ideal) x0 x1 (ix3 h i j)) (val_main_v25 (F := Ideal) x0 x1 (ix3 h i (0 : Fin 1))) : EReal) := by
  unfold val_main_v27 val_main_v26
  pointwise

theorem v30_at (h : Fin 16) (i : Fin 4096) :
    val_main_v30 (F := Ideal) x0 x1 (ix3 h i (0 : Fin 1))
      = (Ideal.div 1 (val_main_v25 (F := Ideal) x0 x1 (ix3 h i (0 : Fin 1)) * val_main_v25 (F := Ideal) x0 x1 (ix3 h i (0 : Fin 1))) : EReal) := by
  unfold val_main_v30 val_main_v29 val_main_v28 val_main_cst_9
  pointwise

theorem v35_at (h : Fin 16) (l : Fin 64) (i : Fin 4096) :
    val_main_v35 (F := Ideal) x3 (ix3 h l i) = (x3 (ix2 i (⟨64 * h.val + l.val, by omega⟩ : Fin 1024)) : EReal) := by
  unfold val_main_v35 val_main_v34
  pointwise
  simp only [Nat.mul_comm h.val 64]

theorem v36_at (h : Fin 16) (i j : Fin 4096) :
    val_main_v36 (F := Ideal) x2 x3 (ix3 h i j) = (∑ l : Fin 64, val_main_v35 (F := Ideal) x3 (ix3 h l i) * x2 (ix3 j h l) : EReal) := by
  unfold val_main_v36
  pointwise

theorem v50_at (h : Fin 16) (i j : Fin 4096) :
    val_main_v50 (F := Ideal) x0 x1 x2 x3 (ix3 h i j)
      = ((Ideal.div (val_main_v36 (F := Ideal) x2 x3 (ix3 h i j)) (val_main_v25 (F := Ideal) x0 x1 (ix3 h i (0 : Fin 1)))
          + -(∑ n : Fin 4096, val_main_v36 (F := Ideal) x2 x3 (ix3 h i n) * val_main_v30 (F := Ideal) x0 x1 (ix3 h i (0 : Fin 1)) * val_main_v23 (F := Ideal) x0 x1 (ix3 h i n)))
          * val_main_v23 (F := Ideal) x0 x1 (ix3 h i j) : EReal) := by
  unfold val_main_v50 val_main_v49 val_main_v48 val_main_v47 val_main_v46 val_main_v45 val_main_v44 val_main_v43 val_main_v42 val_main_v41 val_main_v40 val_main_v39 val_main_cst_10 val_main_cst_11
  pointwise
  simp only [Finset.univ_unique, Finset.sum_singleton]

theorem v54_at (i : Fin 4096) (h : Fin 16) (d : Fin 96) :
    val_main_v54 (F := Ideal) x0 x1 x2 x3 (ix3 i h d) = (∑ j : Fin 4096, val_main_v50 (F := Ideal) x0 x1 x2 x3 (ix3 h i j) * x1 (ix3 j h d) : EReal) := by
  unfold val_main_v54 val_main_v53
  pointwise

theorem v52_at (j : Fin 4096) (h : Fin 16) (d : Fin 96) :
    val_main_v52 (F := Ideal) x0 x1 x2 x3 (ix3 j h d) = (∑ i : Fin 4096, val_main_v50 (F := Ideal) x0 x1 x2 x3 (ix3 h i j) * val_main_v1 (F := Ideal) x0 (ix3 i h d) : EReal) := by
  unfold val_main_v52 val_main_v51
  pointwise

theorem v38_at (j : Fin 4096) (h : Fin 16) (l : Fin 64) :
    val_main_v38 (F := Ideal) x0 x1 x3 (ix3 j h l) = (∑ i : Fin 4096, val_main_v35 (F := Ideal) x3 (ix3 h l i) * val_main_v27 (F := Ideal) x0 x1 (ix3 h i j) : EReal) := by
  unfold val_main_v38 val_main_v37
  pointwise

theorem v60_at (i : Fin 4096) (x : Fin 2048) :
    val_main_v60 (F := Ideal) x0 x1 x2 x3 (ix2 i x) = (if h : x.val / 128 < 16 ∧ x.val % 128 < 96 then
      val_main_v54 (F := Ideal) x0 x1 x2 x3 (ix3 i ⟨x.val / 128, h.1⟩ ⟨x.val % 128, h.2⟩) else FloatOps.sitofp (F := Ideal) .f32 0#32 : EReal) := by
  unfold val_main_v60 val_main_v59 val_main_call0_v0 val_main_c
  pointwise

theorem v62_at (i : Fin 4096) (x : Fin 2048) :
    val_main_v62 (F := Ideal) x0 x1 x2 x3 (ix2 i x) = (if h : x.val / 128 < 16 ∧ x.val % 128 < 96 then
      val_main_v52 (F := Ideal) x0 x1 x2 x3 (ix3 i ⟨x.val / 128, h.1⟩ ⟨x.val % 128, h.2⟩) else FloatOps.sitofp (F := Ideal) .f32 0#32 : EReal) := by
  unfold val_main_v62 val_main_v61 val_main_call1_v0 val_main_c_13
  pointwise

theorem v64_at (i : Fin 4096) (x : Fin 2048) :
    val_main_v64 (F := Ideal) x0 x1 x3 (ix2 i x) = (if x.val % 128 / 64 = x.val / 128 % 2 then
      val_main_v38 (F := Ideal) x0 x1 x3 (ix3 i (⟨x.val / 128, by omega⟩ : Fin 16) (⟨x.val % 64, by omega⟩ : Fin 64)) else 0 : EReal) := by
  unfold val_main_v64 val_main_v63 val_main_v58 val_main_v57 val_main_v56 val_main_v55 val_main_cst_12
  pointwise
  split_ifs
  all_goals try omega
  all_goals first
    | simp only [if_neg (show ¬x.val % 128 / 64 = x.val / 128 % 2 by omega)]; done
    | simp only [if_pos (show x.val % 128 / 64 = x.val / 128 % 2 by omega), show x.val / 256 * 2 + x.val / 64 % 4 = x.val / 128 by omega]; done
    | simp only [if_pos (show x.val % 128 / 64 = x.val / 128 % 2 by omega), show x.val / 256 * 2 + (1 + (x.val / 64 % 4 - 1 - 1 - 1)) = x.val / 128 by omega]; done

/-- The four arguments hold real numbers: the scaled query, the key, the value and the cotangent. -/
structure Args : Prop where
  h0 : ∀ i h d, x0 (ix3 i h d) * Ideal.ofBits .f32 1037108716#32 = ((q i h d : ℝ) : EReal)
  h1 : ∀ i h d, x1 (ix3 i h d) = ((k i h d : ℝ) : EReal)
  h2 : ∀ i h l, x2 (ix3 i h l) = ((v i h l : ℝ) : EReal)
  h3 : ∀ i (h : Fin 16) (l : Fin 64), x3 (ix2 i (⟨64 * h.val + l.val, by omega⟩ : Fin 1024)) = ((g i h l : ℝ) : EReal)

section

variable {x0 x1 x2 x3 q k v g} (A : Args x0 x1 x2 x3 q k v g)

include A

theorem v1_real (i : Fin 4096) (h : Fin 16) (d : Fin 96) : val_main_v1 (F := Ideal) x0 (ix3 i h d) = ((q i h d : ℝ) : EReal) :=
  (v1_at x0 i h d).trans (A.h0 i h d)

theorem v2_real (h : Fin 16) (i j : Fin 4096) : val_main_v2 (F := Ideal) x0 x1 (ix3 h i j) = ((score q k h i j : ℝ) : EReal) := by
  rw [v2_at]
  simp only [v1_real A, A.h1, ← EReal.coe_mul, sum_coe]
  rfl

theorem v3_real (h : Fin 16) (i : Fin 4096) : val_main_v3 (F := Ideal) x0 x1 (ix2 h i) = ((top q k h i : ℝ) : EReal) := by
  rw [v3_at]
  simp only [v2_real A]
  rw [bot_bits, fold_coe _ ⟨0, Finset.mem_univ _⟩]
  rfl

theorem v23_real (h : Fin 16) (i j : Fin 4096) : val_main_v23 (F := Ideal) x0 x1 (ix3 h i j) = ((ex q k h i j : ℝ) : EReal) := by
  rw [v23_at, v10_at, v2_real A, v3_real A, ← EReal.coe_sub, Ideal.exp_coe]
  rfl

theorem v25_real (h : Fin 16) (i : Fin 4096) : val_main_v25 (F := Ideal) x0 x1 (ix3 h i (0 : Fin 1)) = ((tot q k h i : ℝ) : EReal) := by
  rw [v25_at]
  simp only [v23_real A, sum_coe]
  rfl

theorem v27_real (h : Fin 16) (i j : Fin 4096) : val_main_v27 (F := Ideal) x0 x1 (ix3 h i j) = ((pr q k h i j : ℝ) : EReal) := by
  rw [v27_at, v23_real A, v25_real A, div_real _ _ (tot_pos q k h i).ne']
  rfl

theorem v30_real (h : Fin 16) (i : Fin 4096) :
    val_main_v30 (F := Ideal) x0 x1 (ix3 h i (0 : Fin 1)) = ((1 / (tot q k h i * tot q k h i) : ℝ) : EReal) := by
  have hz := (tot_pos q k h i).ne'
  rw [v30_at, v25_real A, ← EReal.coe_mul, ← EReal.coe_one, div_real _ _ (mul_ne_zero hz hz)]

theorem v35_real (h : Fin 16) (l : Fin 64) (i : Fin 4096) : val_main_v35 (F := Ideal) x3 (ix3 h l i) = ((g i h l : ℝ) : EReal) :=
  (v35_at x3 h l i).trans (A.h3 i h l)

theorem v36_real (h : Fin 16) (i j : Fin 4096) : val_main_v36 (F := Ideal) x2 x3 (ix3 h i j) = ((gp v g h i j : ℝ) : EReal) := by
  rw [v36_at]
  simp only [v35_real A, A.h2, ← EReal.coe_mul, sum_coe]
  rfl

theorem v50_real (h : Fin 16) (i j : Fin 4096) : val_main_v50 (F := Ideal) x0 x1 x2 x3 (ix3 h i j) = ((gs q k v g h i j : ℝ) : EReal) := by
  rw [v50_at]
  simp only [v36_real A, v30_real A, v23_real A, v25_real A, ← EReal.coe_mul, sum_coe]
  rw [div_real _ _ (tot_pos q k h i).ne', ← EReal.coe_neg, ← EReal.coe_add, ← EReal.coe_mul, gs_quot]

theorem v60_real (i : Fin 4096) (x : Fin 2048) :
    val_main_v60 (F := Ideal) x0 x1 x2 x3 (ix2 i x)
      = (if hd : x.val % 128 < 96 then ((gq q k v g i (⟨x.val / 128, by omega⟩ : Fin 16) ⟨x.val % 128, hd⟩ : ℝ) : EReal) else 0 : EReal) := by
  have hx : x.val / 128 < 16 := by omega
  rw [v60_at]
  simp only [v54_at, v50_real A, A.h1, ← EReal.coe_mul, sum_coe, hx, true_and, zero_word]
  rfl

theorem v62_real (j : Fin 4096) (x : Fin 2048) :
    val_main_v62 (F := Ideal) x0 x1 x2 x3 (ix2 j x)
      = (if hd : x.val % 128 < 96 then ((gk q k v g j (⟨x.val / 128, by omega⟩ : Fin 16) ⟨x.val % 128, hd⟩ : ℝ) : EReal) else 0 : EReal) := by
  have hx : x.val / 128 < 16 := by omega
  rw [v62_at]
  simp only [v52_at, v50_real A, v1_real A, ← EReal.coe_mul, sum_coe, hx, true_and, zero_word]
  rfl

theorem v64_real (j : Fin 4096) (x : Fin 2048) :
    val_main_v64 (F := Ideal) x0 x1 x3 (ix2 j x)
      = (if x.val % 128 / 64 = x.val / 128 % 2 then ((gw q k g j (⟨x.val / 128, by omega⟩ : Fin 16) ⟨x.val % 64, Nat.mod_lt _ (by decide)⟩ : ℝ) : EReal) else 0 : EReal) := by
  rw [v64_at, v38_at]
  simp only [v35_real A, v27_real A, ← EReal.coe_mul, sum_coe]
  unfold gw
  simp only [mul_comm (pr q k _ _ _)]

end

end Cert.ReferenceIdeal.Heads
-- ==== Proof.Finite.lean ====
module

public import proofs.«01_k».proof.Defs
public import proofs.«01_k».proof.Proof.Arrays
public import proofs.«01_k».proof.Proof.Host
public import proofs.«01_k».proof.Proof.Ref

@[expose] public section

noncomputable section

namespace Cert.Finite

open Idealize.ShloMosaic Idealize.ShloMosaic.TcCoe Cert.Attn

/-! The precondition read: every element of the four arguments is a real number. -/

instance facts : Cert.Pre_finite.Facts where
  bcast_S_S4096x16x96 := by decide
  bcast_S_S4096x16x64 := by decide
  bcast_S_S4096x1024 := by decide

/-- An element less than infinity in absolute value, as the comparison's bit says, is a real number. -/
theorem real_of_bit {s t : Shape} {d : Fin t.rank → Fin s.rank} {b : t.BroadcastsInDim s d} (x : Vec Ideal s .f32)
    (h : cmpf .olt (Host.absf x) (broadcastInDim s d b (constant (F := Ideal) t .f32 0x7F800000#32)) = fun _ => 1#1) (i : s.Idx) :
    (((x i).toReal : ℝ) : EReal) = x i := by
  have h1 := congrFun h i
  apply real_of_abs
  rw [← top_bits]
  by_contra hn
  have h2 : cmpf .olt (Host.absf x) (broadcastInDim s d b (constant (F := Ideal) t .f32 0x7F800000#32)) i = 0#1 := by
    show BitVec.ofBool (decide (max (x i) (-x i) < Ideal.ofBits .f32 0x7F800000#32)) = 0#1
    simp [hn]
  rw [h2] at h1
  exact absurd h1 (by decide)

variable (x0 x1 : Vec Ideal Cert.Pre_finite.S4096x16x96 .f32) (x2 : Vec Ideal Cert.Pre_finite.S4096x16x64 .f32)
  (x3 : Vec Ideal Cert.Pre_finite.S4096x1024 .f32)

theorem real0 (h : (Cert.Pre_finite.fn (F := Ideal) x0 x1 x2 x3).1 = fun _ => 1#1) (i) : (((x0 i).toReal : ℝ) : EReal) = x0 i :=
  real_of_bit x0 h i
theorem real1 (h : (Cert.Pre_finite.fn (F := Ideal) x0 x1 x2 x3).2.1 = fun _ => 1#1) (i) : (((x1 i).toReal : ℝ) : EReal) = x1 i :=
  real_of_bit x1 h i
theorem real2 (h : (Cert.Pre_finite.fn (F := Ideal) x0 x1 x2 x3).2.2.1 = fun _ => 1#1) (i) : (((x2 i).toReal : ℝ) : EReal) = x2 i :=
  real_of_bit x2 h i
theorem real3 (h : (Cert.Pre_finite.fn (F := Ideal) x0 x1 x2 x3).2.2.2 = fun _ => 1#1) (i) : (((x3 i).toReal : ℝ) : EReal) = x3 i :=
  real_of_bit x3 h i

end Cert.Finite
-- ==== Proof.Sums.lean ====
module

public import Idealize.ShloMosaic.Lib.Pointwise

@[expose] public section

noncomputable section

/-! Sums of products, whole and in blocks, over the extended reals. -/

namespace Cert.Sums

open Idealize.ShloMosaic

/-- A sum over a row taken in `n` blocks of `w` is the sum over the row. -/
theorem sum_blocks (n w M : ℕ) (hM : n * w = M) (hp : 0 < M) (f : Fin M → EReal) :
    ∑ b ∈ Finset.range n, ∑ r : Fin w, f ⟨(w * b + r.val) % M, Nat.mod_lt _ hp⟩ = ∑ j : Fin M, f j := by
  subst hM
  rw [Finset.sum_range fun b => ∑ r : Fin w, f ⟨(w * b + r.val) % (n * w), Nat.mod_lt _ hp⟩,
    ← Equiv.sum_comp (finProdFinEquiv (m := n) (n := w)) f, Fintype.sum_prod_type]
  refine Finset.sum_congr rfl fun b _ => Finset.sum_congr rfl fun r _ => congrArg f (Fin.ext ?_)
  show (w * b.val + r.val) % (n * w) = r.val + w * b.val
  have h1 : w * b.val + w ≤ n * w := by
    have h2 : w * (b.val + 1) ≤ w * n := Nat.mul_le_mul_left _ b.isLt
    rw [Nat.mul_comm n w]
    exact h2
  have h3 := r.isLt
  rw [Nat.mod_eq_of_lt (by omega), Nat.add_comm]

/-- The word of one half. -/
theorem half : Ideal.ofBits .f32 0x3F000000#32 = (((1 : ℝ) / 2 : ℝ) : EReal) := by
  simp [Ideal.ofBits, Ideal.ieee, -EReal.coe_mul]; norm_num

/-- Halving a sum halves its terms. -/
theorem sum_half {M : ℕ} (f : Fin M → EReal) :
    (∑ j : Fin M, f j) * Ideal.ofBits .f32 0x3F000000#32 = ∑ j : Fin M, Ideal.ofBits .f32 0x3F000000#32 * f j := by
  rw [half]
  have h : ∀ s : Finset (Fin M), (∑ j ∈ s, f j) * (((1 : ℝ) / 2 : ℝ) : EReal) = ∑ j ∈ s, (((1 : ℝ) / 2 : ℝ) : EReal) * f j := by
    intro s
    induction s using Finset.induction_on with
    | empty => simp
    | insert a s ha ih =>
      rw [Finset.sum_insert ha, Finset.sum_insert ha, ← ih, mul_comm, mul_comm _ (((1 : ℝ) / 2 : ℝ) : EReal)]
      exact EReal.left_distrib_of_nonneg_of_ne_top (by exact_mod_cast (by norm_num : (0 : ℝ) ≤ 1 / 2)) (EReal.coe_ne_top _) _ _
  exact h Finset.univ

/-! The two orders of a product and of a sum. -/

theorem mul2 (a b : EReal) : a * b = b * a := mul_comm a b
theorem add2 (a b : EReal) : a + b = b + a := add_comm a b

theorem half3 (a b : EReal) :
    Ideal.ofBits .f32 0x3F000000#32 * (a * b) = Ideal.ofBits .f32 0x3F000000#32 * b * a := by
  rw [mul_comm a b, mul_assoc]

theorem half_add (s r : EReal) :
    s * Ideal.ofBits .f32 0x3F000000#32 + r = r + Ideal.ofBits .f32 0x3F000000#32 * s := by
  rw [mul_comm s, add_comm]

/-- The zero offsets of a whole block. -/
theorem hz2 : (![0, 0] : Fin 2 → Nat) = fun _ => 0 := funext fun a => by fin_cases a <;> rfl

end Cert.Sums
-- ==== Proof.Dact.lean ====
module

public import proofs.«01_k».proof.Proof.Gen.DactIdeal.Value
public import proofs.«01_k».proof.Proof.Gen.DactReferenceIdeal.Run
public import proofs.«01_k».proof.Proof.Gen.DactReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the feed-forward layer: the gradient of the activation, half the product of the cotangent and the transposed down weight.
The kernel forms each block of the result at one grid point. -/

namespace Cert.DactIdeal.Prod

open Cert.DactIdeal Cert.DactIdeal.Gen Idealize.ShloMosaic Idealize.ShloMosaic.TcCoe Cert.Sums Idealize.SL.Sem

theorem pay1_at (u : Vec Ideal S1024x1024 .f32) (v : Vec Ideal S1408x1024 .bf16) (a : Fin 1024) (x : Fin 1408) :
    k0_pay1 u v (ix2 a x) = (∑ r : Fin 1024, (u (ix2 a r) : EReal) * (v (ix2 x r) : EReal)) * Ideal.ofBits .f32 0x3F000000#32 := by
  pointwise [k0_pay1]

theorem out_eq (u : Vec Ideal S1024x1024 .f32) (v : Vec Ideal S1408x1024 .bf16) : out0_2 u v = k0_pay1 u v := by
  unfold out0_2
  rw [View.canon_cons_unit_zero hz2, View.ld_unit_zero (S := S1024x1024) hz2, View.ld_unit_zero (S := S1408x1024) hz2]

/-! Which block each window reads at a grid point. -/

theorem tlt (t : Fin cfg0.N) : t.val < 8 := lt_of_lt_of_eq t.isLt (show cfg0.N = 8 from N_0)

/-- Block `b`'s rows of the result and its columns. -/
def rI (b : ℕ) (r : Fin 1024) : Fin 4096 := ⟨(1024 * b + r.val) % 4096, Nat.mod_lt _ (by decide)⟩
def cJ (b : ℕ) (r : Fin 1408) : Fin 2816 := ⟨(1408 * b + r.val) % 2816, Nat.mod_lt _ (by decide)⟩

variable (m : (ℓ : Loc nD τ sig) → Buf (Elt Ideal) ℓ)

/-- Operand 0, as the kernel's window names it. -/
def aA (c : Dev nD) : Vec Ideal S4096x1024 .f32 := V m c (Pipeline.arrRef spec0 0)

theorem index0 : ∀ t : Fin cfg0.N, win0_0.index t (0 : Fin 2) = t.val / 2 ∧ win0_0.index t (1 : Fin 2) = 0 := by decide +kernel

theorem rd0 (A : S4096x1024.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (rI (t.val / 2) a) b : S4096x1024.Idx) := by
  have ht := tlt t
  have h0 : win0_0.index t 0 * 1024 + 1 * a.val = (1024 * (t.val / 2) + a.val) % 4096 := by rw [(index0 t).1]; omega
  have h1 : win0_0.index t 1 * 1024 + 1 * b.val = b.val := by rw [(index0 t).2, Nat.zero_mul, Nat.zero_add, Nat.one_mul]
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .f32) (ix2 a b) = aA m c (ix2 (rI (t.val / 2) a) b) :=
  (rd0 (aA m c) t (ix2 a b)).trans (congrArg (aA m c) (emb0 t a b))

/-- Operand 1, as the kernel's window names it. -/
def aB (c : Dev nD) : Vec Ideal S2816x1024 .bf16 := V m c (Pipeline.arrRef spec0 1)

theorem index1 : ∀ t : Fin cfg0.N, win0_1.index t (0 : Fin 2) = t.val % 2 ∧ win0_1.index t (1 : Fin 2) = 0 := by decide +kernel

theorem rd1 (A : S2816x1024.Idx → EReal) (t : Fin cfg0.N) (y : S1408x1024.Idx) :
    (((cfg0.win 1).blk t).view.read (Elt Ideal) A) y = A (((cfg0.win 1).blk t).view.emb y) := rfl

theorem emb1 (t : Fin cfg0.N) (a : Fin 1408) (b : Fin 1024) :
    ((cfg0.win 1).blk t).view.emb (ix2 a b : S1408x1024.Idx) = (ix2 (cJ (t.val % 2) a) b : S2816x1024.Idx) := by
  have ht := tlt t
  have h0 : win0_1.index t 0 * 1408 + 1 * a.val = (1408 * (t.val % 2) + a.val) % 2816 := by rw [(index1 t).1]; omega
  have h1 : win0_1.index t 1 * 1024 + 1 * b.val = b.val := by rw [(index1 t).2, Nat.zero_mul, Nat.zero_add, Nat.one_mul]
  funext x; apply Fin.ext
  match x with
  | ⟨0, _⟩ => exact h0
  | ⟨1, _⟩ => exact h1

theorem blk1 (c : Dev nD) (t : Fin cfg0.N) (a : Fin 1408) (b : Fin 1024) :
    (iblk m c 1 t : Vec Ideal S1408x1024 .bf16) (ix2 a b) = aB m c (ix2 (cJ (t.val % 2) a) b) :=
  (rd1 (aB m c) t (ix2 a b)).trans (congrArg (aB m c) (emb1 t a b))

theorem index2 : ∀ t : Fin cfg0.N, win0_2.index t (0 : Fin 2) = t.val / 2 ∧ win0_2.index t (1 : Fin 2) = t.val % 2 := by decide +kernel

theorem rd2 (A : S4096x2816.Idx → EReal) (t : Fin cfg0.N) (y : S1024x1408.Idx) :
    (((cfg0.win 2).blk t).view.read (Elt Ideal) A) y = A (((cfg0.win 2).blk t).view.emb y) := rfl

theorem emb2 (t : Fin cfg0.N) (a : Fin 1024) (b : Fin 1408) :
    ((cfg0.win 2).blk t).view.emb (ix2 a b : S1024x1408.Idx) = (ix2 (rI (t.val / 2) a) (cJ (t.val % 2) b) : S4096x2816.Idx) := by
  have ht := tlt t
  have h0 : win0_2.index t 0 * 1024 + 1 * a.val = (1024 * (t.val / 2) + a.val) % 4096 := by rw [(index2 t).1]; omega
  have h1 : win0_2.index t 1 * 1408 + 1 * b.val = (1408 * (t.val % 2) + b.val) % 2816 := by rw [(index2 t).2]; omega
  funext x; apply Fin.ext
  match x with
  | ⟨0, _⟩ => exact h0
  | ⟨1, _⟩ => exact h1

/-- One term of the product of the whole operands. -/
def term (c : Dev nD) (i : Fin 4096) (x : Fin 2816) (k : Fin 1024) : EReal := aA m c (ix2 i k) * aB m c (ix2 x k)

/-- An entry of the result, and the result. -/
def entry (c : Dev nD) (i : Fin 4096) (x : Fin 2816) : EReal := (∑ k : Fin 1024, term m c i x k) * Ideal.ofBits .f32 0x3F000000#32
def G (c : Dev nD) : Buf (Elt Ideal) ((c : Thread nD τ).loc main_v1) := fun i : S4096x2816.Idx => entry m c (i 0) (i 1)

theorem G_at (c : Dev nD) (i : Fin 4096) (x : Fin 2816) : G m c (ix2 i x : S4096x2816.Idx) = entry m c i x := rfl

theorem out_blk (c : Dev nD) (t : Fin cfg0.N) (a : Fin 1024) (x : Fin 1408) :
    out0_2 (iblk m c 0 t) (iblk m c 1 t) (ix2 a x) = entry m c (rI (t.val / 2) a) (cJ (t.val % 2) x) := by
  rw [out_eq]
  refine (pay1_at _ _ a x).trans ?_
  unfold entry term
  simp only [blk0, blk1]

/-- What a grid point writes back is its block of the result. -/
theorem flushed (c : Dev nD) (t : Fin cfg0.N) :
    (dats m 0 c).flushed 2 t = ((cfg0.win 2).blk t).view.read (Elt Ideal) (G m c) := by
  rw [Value.flushed2]
  funext y
  have hx : (cfg0.win 2).xinj (grid0.coords t) y = (ix2 (⟨(y 0).val, (y 0).isLt⟩ : Fin 1024) (⟨(y 1).val, (y 1).isLt⟩ : Fin 1408) : S1024x1408.Idx) := by
    funext a; apply Fin.ext
    match a with
    | ⟨0, _⟩ => rfl
    | ⟨1, _⟩ => rfl
  have hy : ((cfg0.win 2).blk t).view.emb y = (ix2 (rI (t.val / 2) (⟨(y 0).val, (y 0).isLt⟩ : Fin 1024)) (cJ (t.val % 2) (⟨(y 1).val, (y 1).isLt⟩ : Fin 1408)) : S4096x2816.Idx) :=
    (congrArg _ hx).trans (emb2 t _ _)
  show out0_2 (iblk m c 0 t) (iblk m c 1 t) ((cfg0.win 2).xinj (grid0.coords t) y) = G m c (((cfg0.win 2).blk t).view.emb y)
  rw [hx]
  exact (out_blk m c t _ _).trans (congrArg (G m c) hy).symm

/-- Every index is in the block that some point writes back. -/
theorem covered (i : S4096x2816.Idx) : ∃ t : Fin cfg0.N, (cfg0.win 2).flush t = true ∧ i ∈ ((cfg0.win 2).blk t).view.set := by
  have hi0 : (i 0).val < 4096 := (i 0).isLt
  have hi1 : (i 1).val < 2816 := (i 1).isLt
  have hn : 2 * ((i 0).val / 1024) + (i 1).val / 1408 < cfg0.N := by rw [show cfg0.N = 8 from N_0]; omega
  refine ⟨⟨_, hn⟩, flush0_2 _, ?_⟩
  obtain ⟨q0, q1⟩ := index2 ⟨_, hn⟩
  dsimp only at q0 q1
  show i ∈ ((View.whole main_v1).slice (win0_2.rect ⟨_, hn⟩)).set
  rw [View.set_slice_whole, Rect.mem_set_unit]
  intro a
  match a with
  | ⟨0, _⟩ => show win0_2.index ⟨_, hn⟩ (0 : Fin 2) * 1024 ≤ (i 0).val ∧ (i 0).val < win0_2.index ⟨_, hn⟩ (0 : Fin 2) * 1024 + 1024; omega
  | ⟨1, _⟩ => show win0_2.index ⟨_, hn⟩ (1 : Fin 2) * 1408 ≤ (i 1).val ∧ (i 1).val < win0_2.index ⟨_, hn⟩ (1 : Fin 2) * 1408 + 1408; omega

/-- The result array after the run. -/
theorem final (c : Dev nD) : (dats m 0 c).arrAt 2 cfg0.N = G m c :=
  (dats m 0 c).arrAt_eq_of_cover 2 _ (fun t _ => flushed m c t) covered

/-! The operands are the arguments. -/

def g0 (c : Dev nD) : Vec Ideal S4096x1024 .f32 := m (c, Proc.tc.devRef main_arg0)
def g1 (c : Dev nD) : Vec Ideal S2816x1024 .f32 := m (c, Proc.tc.devRef main_arg1)

theorem aA_eq (c : Dev nD) : aA m c = V m c main_arg0 := rfl

theorem aA_at (c : Dev nD) (a : Fin 4096) (b : Fin 1024) : aA m c (ix2 a b) = g0 m c (ix2 a b) := by
  rw [aA_eq]
  simp only [g0]
  unfold_abbrev_sides
  after_reads_at

theorem aB_eq (c : Dev nD) : aB m c = V m c main_v0 := rfl

theorem aB_at (c : Dev nD) (a : Fin 2816) (b : Fin 1024) : aB m c (ix2 a b) = g1 m c (ix2 a b) := by
  rw [aB_eq]
  simp only [g1]
  unfold_abbrev_sides
  after_reads_at

/-- The reference's result at an index. -/
theorem ref_at (y0 : Vec Ideal S4096x1024 .f32) (y1 : Vec Ideal S2816x1024 .f32) (i : Fin 4096) (x : Fin 2816) :
    Cert.DactReferenceIdeal.Read.val_main_v6 (F := Ideal) y0 y1 (ix2 i x) = ∑ k : Fin 1024, (Ideal.ofBits .f32 0x3F000000#32 * (y0 (ix2 i k) : EReal)) * (y1 (ix2 x k) : EReal) := by
  unfold Cert.DactReferenceIdeal.Read.val_main_v6 Cert.DactReferenceIdeal.Read.val_main_v5 Cert.DactReferenceIdeal.Read.val_main_v4 Cert.DactReferenceIdeal.Read.val_main_cst_1
  pointwise

/-- The reference's array is the kernel's. -/
theorem same_at (c : Dev nD) (i : Fin 4096) (x : Fin 2816) :
    Cert.DactReferenceIdeal.Read.val_main_v6 (F := Ideal) (g0 m c) (g1 m c) (ix2 i x) = G m c (ix2 i x : S4096x2816.Idx) := by
  refine (ref_at (g0 m c) (g1 m c) i x).trans ?_
  rw [G_at]
  unfold entry
  rw [sum_half]
  unfold term
  simp only [aA_at, aB_at, mul_assoc]

theorem same (c : Dev nD) : Cert.DactReferenceIdeal.Read.val_main_v6 (F := Ideal) (g0 m c) (g1 m c) = G m c := by
  funext j
  rw [eq_ix2 j]
  exact same_at m c (j 0) (j 1)

end Cert.DactIdeal.Prod
-- ==== Proof.Dwd.lean ====
module

public import proofs.«01_k».proof.Proof.Gen.DwdIdeal.Value
public import proofs.«01_k».proof.Proof.Gen.DwdReferenceIdeal.Run
public import proofs.«01_k».proof.Proof.Gen.DwdReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the feed-forward layer: the gradient of the down weight, half the product of the transposed activation and the cotangent.
The kernel adds it up in a scratch, block by block of the summed axis. -/

namespace Cert.DwdIdeal.Prod

open Cert.DwdIdeal Cert.DwdIdeal.Gen Idealize.ShloMosaic Idealize.ShloMosaic.TcCoe Cert.Sums

/-- The product of two blocks. -/
def prod (u : Vec Ideal S1024x256 .bf16) (v : Vec Ideal S1024x1024 .f32) : Vec Ideal S256x1024 .f32 :=
  fun y => ∑ r : Fin 1024, (u (ix2 r (y 0)) : EReal) * (v (ix2 r (y 1)) : EReal)

theorem prod_at (u : Vec Ideal S1024x256 .bf16) (v : Vec Ideal S1024x1024 .f32) (a : Fin 256) (x : Fin 1024) :
    prod u v (ix2 a x) = ∑ r : Fin 1024, (u (ix2 r a) : EReal) * (v (ix2 r x) : EReal) := rfl

theorem pay1_at (u : Vec Ideal S1024x256 .bf16) (v : Vec Ideal S1024x1024 .f32) (a : Fin 256) (x : Fin 1024) :
    k0_pay1 u v (ix2 a x) = ∑ r : Fin 1024, (u (ix2 r a) : EReal) * (v (ix2 r x) : EReal) := by
  pointwise [k0_pay1]

theorem pay1_eq (u : Vec Ideal S1024x256 .bf16) (v : Vec Ideal S1024x1024 .f32) : k0_pay1 u v = prod u v := by
  funext y; rw [eq_ix2 y]; exact pay1_at u v (y 0) (y 1)

theorem pay2_eq (u : Vec Ideal S1024x256 .bf16) (v : Vec Ideal S1024x1024 .f32) : k0_pay2 u v = prod u v := by
  rw [← pay1_eq]; funext y; pointwise [k0_pay2]

theorem pay3_eq (u : Vec Ideal S1024x256 .bf16) (v : Vec Ideal S1024x1024 .f32) (s : Vec Ideal S256x1024 .f32) :
    k0_pay3 u v s = fun y => (s y + prod u v y : EReal) := by
  rw [← pay1_eq]; funext y; pointwise [k0_pay3]

theorem pay4_eq (s : Vec Ideal S256x1024 .f32) :
    k0_pay4 s = fun y => ((s y) * Ideal.ofBits .f32 0x3F000000#32 : EReal) := by
  funext y; pointwise [k0_pay4]

theorem sout0_A_0_eq (c : Dev nD) (i : grid0.Coords) (a3 : Memref sig .tc .vmem S1024x256 .bf16) (ha3 : a3.IsWhole) (a4 : Memref sig .tc .vmem S1024x1024 .f32) (ha4 : a4.IsWhole) (a5 : Memref sig .tc .vmem S256x1024 .f32) (ha5 : a5.IsWhole) (a6 : Memref sig .tc .vmem S256x1024 .f32) (ha6 : a6.IsWhole) (hc0 : cond0_0 i) (hc1 : ¬cond0_1 i) (hc2 : ¬cond0_2 i)
    (x0 : Vec Ideal S1024x256 .bf16) (x1 : Vec Ideal S1024x1024 .f32) :
    sout0_A_0 c i a3 ha3 a4 ha4 a5 ha5 a6 ha6 hc0 hc1 hc2 x0 x1 = prod x0 x1 := by
  unfold sout0_A_0
  rw [View.read_writes_eq_canon _ _ _ (scover0_A_0 c i a3 ha3 a4 ha4 a5 ha5 a6 ha6 hc0 hc1 hc2 x0 x1)]
  unfold kernelRun0_A
  dsimp only
  sl_unfold_words
  simp only [View.readAt_eq_ld, ha3.read_unread, ha4.read_unread, ha5.read_unread, ha6.read_unread, View.ld_unit_zero (S := S1024x1024) hz2, View.ld_unit_zero (S := S1024x256) hz2, View.ld_unit_zero (S := S256x1024) hz2]
  rw [View.canon_cons_unit_zero hz2]
  exact pay2_eq ..

theorem sout0_B_0_eq (c : Dev nD) (i : grid0.Coords) (a3 : Memref sig .tc .vmem S1024x256 .bf16) (ha3 : a3.IsWhole) (a4 : Memref sig .tc .vmem S1024x1024 .f32) (ha4 : a4.IsWhole) (a5 : Memref sig .tc .vmem S256x1024 .f32) (ha5 : a5.IsWhole) (a6 : Memref sig .tc .vmem S256x1024 .f32) (ha6 : a6.IsWhole) (hc0 : ¬cond0_0 i) (hc1 : cond0_1 i) (hc2 : ¬cond0_2 i)
    (x0 : Vec Ideal S1024x256 .bf16) (x1 : Vec Ideal S1024x1024 .f32) (xs0 : Vec Ideal S256x1024 .f32) :
    sout0_B_0 c i a3 ha3 a4 ha4 a5 ha5 a6 ha6 hc0 hc1 hc2 x0 x1 xs0 = fun y => (xs0 y + prod x0 x1 y : EReal) := by
  unfold sout0_B_0
  rw [View.read_writes_eq_canon _ _ _ (scover0_B_0 c i a3 ha3 a4 ha4 a5 ha5 a6 ha6 hc0 hc1 hc2 x0 x1 xs0)]
  unfold kernelRun0_B
  dsimp only
  sl_unfold_words
  simp only [View.readAt_eq_ld, ha3.read_unread, ha4.read_unread, ha5.read_unread, ha6.read_unread, View.ld_unit_zero (S := S1024x1024) hz2, View.ld_unit_zero (S := S1024x256) hz2, View.ld_unit_zero (S := S256x1024) hz2]
  rw [View.canon_cons_unit_zero hz2]
  exact pay3_eq ..

theorem sout0_C_0_eq (c : Dev nD) (i : grid0.Coords) (a3 : Memref sig .tc .vmem S1024x256 .bf16) (ha3 : a3.IsWhole) (a4 : Memref sig .tc .vmem S1024x1024 .f32) (ha4 : a4.IsWhole) (a5 : Memref sig .tc .vmem S256x1024 .f32) (ha5 : a5.IsWhole) (a6 : Memref sig .tc .vmem S256x1024 .f32) (ha6 : a6.IsWhole) (hc0 : ¬cond0_0 i) (hc1 : cond0_1 i) (hc2 : cond0_2 i)
    (x0 : Vec Ideal S1024x256 .bf16) (x1 : Vec Ideal S1024x1024 .f32) (xs0 : Vec Ideal S256x1024 .f32) :
    sout0_C_0 c i a3 ha3 a4 ha4 a5 ha5 a6 ha6 hc0 hc1 hc2 x0 x1 xs0 = fun y => (xs0 y + prod x0 x1 y : EReal) := by
  unfold sout0_C_0
  rw [View.read_writes_eq_canon _ _ _ (scover0_C_0 c i a3 ha3 a4 ha4 a5 ha5 a6 ha6 hc0 hc1 hc2 x0 x1 xs0)]
  unfold kernelRun0_C
  dsimp only
  sl_unfold_words
  simp only [View.readAt_eq_ld, ha3.read_unread, ha4.read_unread, ha5.read_unread, ha6.read_unread, View.ld_unit_zero (S := S1024x1024) hz2, View.ld_unit_zero (S := S1024x256) hz2, View.ld_unit_zero (S := S256x1024) hz2]
  rw [View.canon_cons_unit_zero hz2]
  exact pay3_eq ..

theorem out0_C_2_eq (c : Dev nD) (i : grid0.Coords) (a3 : Memref sig .tc .vmem S1024x256 .bf16) (ha3 : a3.IsWhole) (a4 : Memref sig .tc .vmem S1024x1024 .f32) (ha4 : a4.IsWhole) (a5 : Memref sig .tc .vmem S256x1024 .f32) (ha5 : a5.IsWhole) (a6 : Memref sig .tc .vmem S256x1024 .f32) (ha6 : a6.IsWhole) (hc0 : ¬cond0_0 i) (hc1 : cond0_1 i) (hc2 : cond0_2 i)
    (x0 : Vec Ideal S1024x256 .bf16) (x1 : Vec Ideal S1024x1024 .f32) (xs0 : Vec Ideal S256x1024 .f32) :
    out0_C_2 c i a3 ha3 a4 ha4 a5 ha5 a6 ha6 hc0 hc1 hc2 x0 x1 xs0 = fun y => ((xs0 y + prod x0 x1 y) * Ideal.ofBits .f32 0x3F000000#32 : EReal) := by
  unfold out0_C_2
  rw [View.read_writes_eq_canon _ _ _ (cover0_C_2 c i a3 ha3 a4 ha4 a5 ha5 a6 ha6 hc0 hc1 hc2 x0 x1 xs0)]
  unfold kernelRun0_C
  dsimp only
  sl_unfold_words
  simp only [View.readAt_eq_ld, ha3.read_unread, ha4.read_unread, ha5.read_unread, ha6.read_unread, View.ld_unit_zero (S := S1024x1024) hz2, View.ld_unit_zero (S := S1024x256) hz2, View.ld_unit_zero (S := S256x1024) hz2]
  rw [View.canon_cons_unit_zero hz2, View.readCov_unit_zero _ hz2]
  exact (pay4_eq ..).trans (by rw [pay3_eq])

/-! Which block each window reads at a grid point. -/

theorem tlt (t : Fin cfg0.N) : t.val < 44 := lt_of_lt_of_eq t.isLt (show cfg0.N = 44 from N_0)

/-- Block `b`'s rows of the result, its columns, and its part of the summed axis. -/
def rI (b : ℕ) (r : Fin 256) : Fin 2816 := ⟨(256 * b + r.val) % 2816, Nat.mod_lt _ (by decide)⟩
def cJ (b : ℕ) (r : Fin 1024) : Fin 1024 := ⟨(1024 * b + r.val) % 1024, Nat.mod_lt _ (by decide)⟩
def kB (b : ℕ) (r : Fin 1024) : Fin 4096 := ⟨(1024 * b + r.val) % 4096, Nat.mod_lt _ (by decide)⟩

variable (m : (ℓ : Loc nD τ sig) → Buf (Elt Ideal) ℓ)

/-- Operand 0, as the kernel's window names it. -/
def aA (c : Dev nD) : Vec Ideal S4096x2816 .bf16 := V m c (Pipeline.arrRef spec0 0)

theorem index0 : ∀ t : Fin cfg0.N, win0_0.index t (0 : Fin 2) = t.val % 4 ∧ win0_0.index t (1 : Fin 2) = t.val / 4 := by decide +kernel

theorem rd0 (A : S4096x2816.Idx → EReal) (t : Fin cfg0.N) (y : S1024x256.Idx) :
    (((cfg0.win 0).blk t).view.read (Elt Ideal) A) y = A (((cfg0.win 0).blk t).view.emb y) := rfl

theorem emb0 (t : Fin cfg0.N) (a : Fin 1024) (b : Fin 256) :
    ((cfg0.win 0).blk t).view.emb (ix2 a b : S1024x256.Idx) = (ix2 (kB (t.val % 4) a) (rI (t.val / 4) b) : S4096x2816.Idx) := by
  have ht := tlt t
  have h0 : win0_0.index t 0 * 1024 + 1 * a.val = (1024 * (t.val % 4) + a.val) % 4096 := by rw [(index0 t).1]; omega
  have h1 : win0_0.index t 1 * 256 + 1 * b.val = (256 * (t.val / 4) + b.val) % 2816 := by rw [(index0 t).2]; omega
  funext x; apply Fin.ext
  match x with
  | ⟨0, _⟩ => exact h0
  | ⟨1, _⟩ => exact h1

theorem blk0 (c : Dev nD) (t : Fin cfg0.N) (a : Fin 1024) (b : Fin 256) :
    (iblk m c 0 t : Vec Ideal S1024x256 .bf16) (ix2 a b) = aA m c (ix2 (kB (t.val % 4) a) (rI (t.val / 4) b)) :=
  (rd0 (aA m c) t (ix2 a b)).trans (congrArg (aA m c) (emb0 t a b))

/-- Operand 1, as the kernel's window names it. -/
def aB (c : Dev nD) : Vec Ideal S4096x1024 .f32 := V m c (Pipeline.arrRef spec0 1)

theorem index1 : ∀ t : Fin cfg0.N, win0_1.index t (0 : Fin 2) = t.val % 4 ∧ win0_1.index t (1 : Fin 2) = t.val / 4 % 1 := by decide +kernel

theorem rd1 (A : S4096x1024.Idx → EReal) (t : Fin cfg0.N) (y : S1024x1024.Idx) :
    (((cfg0.win 1).blk t).view.read (Elt Ideal) A) y = A (((cfg0.win 1).blk t).view.emb y) := rfl

theorem emb1 (t : Fin cfg0.N) (a : Fin 1024) (b : Fin 1024) :
    ((cfg0.win 1).blk t).view.emb (ix2 a b : S1024x1024.Idx) = (ix2 (kB (t.val % 4) a) (cJ (t.val / 4 % 1) b) : S4096x1024.Idx) := by
  have ht := tlt t
  have h0 : win0_1.index t 0 * 1024 + 1 * a.val = (1024 * (t.val % 4) + a.val) % 4096 := by rw [(index1 t).1]; omega
  have h1 : win0_1.index t 1 * 1024 + 1 * b.val = (1024 * (t.val / 4 % 1) + b.val) % 1024 := by rw [(index1 t).2]; omega
  funext x; apply Fin.ext
  match x with
  | ⟨0, _⟩ => exact h0
  | ⟨1, _⟩ => exact h1

theorem blk1 (c : Dev nD) (t : Fin cfg0.N) (a : Fin 1024) (b : Fin 1024) :
    (iblk m c 1 t : Vec Ideal S1024x1024 .f32) (ix2 a b) = aB m c (ix2 (kB (t.val % 4) a) (cJ (t.val / 4 % 1) b)) :=
  (rd1 (aB m c) t (ix2 a b)).trans (congrArg (aB m c) (emb1 t a b))

/-- One term of the product of the whole operands. -/
def term (c : Dev nD) (i : Fin 2816) (x : Fin 1024) (k : Fin 4096) : EReal := aA m c (ix2 k i) * aB m c (ix2 k x)

/-- Block `b`'s part of an entry. -/
def part (c : Dev nD) (i : Fin 2816) (x : Fin 1024) (b : ℕ) : EReal := ∑ r : Fin 1024, term m c i x (kB b r)

theorem prod_blk (c : Dev nD) (t : Fin cfg0.N) (a : Fin 256) (x : Fin 1024) :
    prod (iblk m c 0 t) (iblk m c 1 t) (ix2 a x) = part m c (rI (t.val / 4) a) (cJ (t.val / 4 % 1) x) (t.val % 4) := by
  rw [prod_at]
  unfold part term
  simp only [blk0, blk1]

theorem snd_eq {A B : Type} {p : A × B} {a : A} {b b' : B} (h : p = (a, b)) (hb : b = b') : p.2 = b' := by
  subst h; exact hb
theorem fst_eq {A B : Type} {p : A × B} {a a' : A} {b : B} (h : p = (a, b)) (ha : a = a') : p.1 = a' := by
  subst h; exact ha

theorem first (c : Dev nD) (t : Fin cfg0.N) (h : t.val % 4 = 0) :
    (outsAt0 m c t.val t.isLt).2 = prod (iblk m c 0 t) (iblk m c 1 t) :=
  snd_eq (outsAt0_A m c t h (by omega) (by omega)) (sout0_A_0_eq ..)

theorem later (c : Dev nD) (t : Fin cfg0.N) (h : ¬t.val % 4 = 0) (k : ℕ) (hk : k < cfg0.N) (ek : t.val - 1 = k) :
    (outsAt0 m c t.val t.isLt).2 = fun y => ((outsAt0 m c k hk).2 y + prod (iblk m c 0 t) (iblk m c 1 t) y : EReal) := by
  subst ek
  by_cases h2 : t.val % 4 = 3
  · exact snd_eq (outsAt0_C m c t h (by omega) h2) (sout0_C_0_eq ..)
  · exact snd_eq (outsAt0_B m c t h (by omega) h2) (sout0_B_0_eq ..)

/-- The scratch holds the blocks so far. -/
theorem state (c : Dev nD) : ∀ (n : ℕ) (hn : n < cfg0.N) (a : Fin 256) (x : Fin 1024),
    (outsAt0 m c n hn).2 (ix2 a x) = ∑ b ∈ Finset.range (n % 4 + 1), part m c (rI (n / 4) a) (cJ (n / 4 % 1) x) b := by
  intro n
  induction n with
  | zero =>
    intro hn a x
    refine (congrFun (first m c ⟨0, hn⟩ (Nat.zero_mod _)) _).trans ((prod_blk m c ⟨0, hn⟩ a x).trans ?_)
    simp
  | succ n ih =>
    intro hn a x
    by_cases h : (n + 1) % 4 = 0
    · refine (congrFun (first m c ⟨n + 1, hn⟩ h) _).trans ((prod_blk m c ⟨n + 1, hn⟩ a x).trans ?_)
      simp [h]
    · have e1 : (n + 1) / 4 = n / 4 := by omega
      have e2 : (n + 1) / 4 % 1 = n / 4 % 1 := by omega
      have e3 : (n + 1) % 4 = n % 4 + 1 := by omega
      refine (congrFun (later m c ⟨n + 1, hn⟩ h n (Nat.lt_of_succ_lt hn) rfl) _).trans ?_
      rw [e1, e3, Finset.sum_range_succ _ (n % 4 + 1)]
      refine congrArg₂ (fun a b : EReal => a + b) (ih (Nat.lt_of_succ_lt hn) a x) ((prod_blk m c ⟨n + 1, hn⟩ a x).trans ?_)
      show part m c (rI ((n + 1) / 4) a) (cJ ((n + 1) / 4 % 1) x) ((n + 1) % 4) = _
      rw [e1, e3]

/-- What the last block of an entry leaves in the result. -/
theorem last (c : Dev nD) (t : Fin cfg0.N) (h2 : t.val % 4 = 3) (a : Fin 256) (x : Fin 1024) :
    (outsAt0 m c t.val t.isLt).1 (ix2 a x)
      = (∑ b ∈ Finset.range 4, part m c (rI (t.val / 4) a) (cJ (t.val / 4 % 1) x) b) * Ideal.ofBits .f32 0x3F000000#32 := by
  have h : ¬t.val % 4 = 0 := by omega
  have hk : t.val - 1 < cfg0.N := Nat.lt_of_le_of_lt (Nat.sub_le _ _) t.isLt
  have s := state m c t.val t.isLt a x
  rw [h2] at s
  have s' := congrFun (snd_eq (outsAt0_C m c t h (by omega) h2) (sout0_C_0_eq ..)) (ix2 a x)
  refine (congrFun (fst_eq (outsAt0_C m c t h (by omega) h2) (out0_C_2_eq ..)) (ix2 a x)).trans ?_
  rw [← s, s']

open Cert.DwdIdeal.Value

/-- The result array at every index. -/
theorem out (c : Dev nD) (i : Fin 2816) (x : Fin 1024) :
    G2 m c (ix2 i x) = (∑ k : Fin 4096, term m c i x k) * Ideal.ofBits .f32 0x3F000000#32 := by
  have hp : pt2Of (ix2 i x) = 4 * (1 * (i.val / 256) + x.val / 1024) + 3 := by
    show 4 * (1 * (i.val / 256 - 0) + 1 * (x.val / 1024 - 0)) + 3 = _; omega
  have hn : pt2Of (ix2 i x) < cfg0.N := by rw [hp, show cfg0.N = 44 from N_0]; omega
  have hl : loc2Of (ix2 i x) = ix2 (⟨i.val % 256, Nat.mod_lt _ (by decide)⟩ : Fin 256) (⟨x.val % 1024, Nat.mod_lt _ (by decide)⟩ : Fin 1024) := by
    funext a; apply Fin.ext
    match a with
    | ⟨0, _⟩ => rfl
    | ⟨1, _⟩ => rfl
  have hs := last m c ⟨pt2Of (ix2 i x), hn⟩ (by show pt2Of (ix2 i x) % 4 = 3; omega) (⟨i.val % 256, Nat.mod_lt _ (by decide)⟩ : Fin 256) (⟨x.val % 1024, Nat.mod_lt _ (by decide)⟩ : Fin 1024)
  have ei : rI (pt2Of (ix2 i x) / 4) (⟨i.val % 256, Nat.mod_lt _ (by decide)⟩ : Fin 256) = i :=
    Fin.ext (show (256 * (pt2Of (ix2 i x) / 4) + i.val % 256) % 2816 = i.val by omega)
  have ex : cJ (pt2Of (ix2 i x) / 4 % 1) (⟨x.val % 1024, Nat.mod_lt _ (by decide)⟩ : Fin 1024) = x :=
    Fin.ext (show (1024 * (pt2Of (ix2 i x) / 4 % 1) + x.val % 1024) % 1024 = x.val by omega)
  dsimp only at hs
  rw [ei, ex, outsAt0_sweep m c _ hn, ← hl] at hs
  unfold G2
  rw [dif_pos hn]
  refine hs.trans ?_
  unfold part
  rw [show ∑ b ∈ Finset.range 4, ∑ r : Fin 1024, term m c i x (kB b r) = ∑ k : Fin 4096, term m c i x k from
    sum_blocks 4 1024 4096 (by decide) (by decide) (fun k => term m c i x k)]

/-! The operands are the arguments. -/

def g0 (c : Dev nD) : Vec Ideal S4096x2816 .f32 := m (c, Proc.tc.devRef main_arg0)
def g1 (c : Dev nD) : Vec Ideal S4096x1024 .f32 := m (c, Proc.tc.devRef main_arg1)

theorem aA_eq (c : Dev nD) : aA m c = V m c main_v0 := rfl

theorem aA_at (c : Dev nD) (a : Fin 4096) (b : Fin 2816) : aA m c (ix2 a b) = g0 m c (ix2 a b) := by
  rw [aA_eq]
  simp only [g0]
  unfold_abbrev_sides
  after_reads_at

theorem aB_eq (c : Dev nD) : aB m c = V m c main_arg1 := rfl

theorem aB_at (c : Dev nD) (a : Fin 4096) (b : Fin 1024) : aB m c (ix2 a b) = g1 m c (ix2 a b) := by
  rw [aB_eq]
  simp only [g1]
  unfold_abbrev_sides
  after_reads_at

/-- The reference's result at an index. -/
theorem ref_at (y0 : Vec Ideal S4096x2816 .f32) (y1 : Vec Ideal S4096x1024 .f32) (i : Fin 2816) (x : Fin 1024) :
    Cert.DwdReferenceIdeal.Read.val_main_v7 (F := Ideal) y0 y1 (ix2 i x) = ∑ k : Fin 4096, (Ideal.ofBits .f32 0x3F000000#32 * (y1 (ix2 k x) : EReal)) * (y0 (ix2 k i) : EReal) := by
  unfold Cert.DwdReferenceIdeal.Read.val_main_v7 Cert.DwdReferenceIdeal.Read.val_main_v6 Cert.DwdReferenceIdeal.Read.val_main_v5 Cert.DwdReferenceIdeal.Read.val_main_v4 Cert.DwdReferenceIdeal.Read.val_main_cst_1
  pointwise

/-- What the kernel leaves is what the reference gives. -/
theorem terms_eq (c : Dev nD) (i : Fin 2816) (x : Fin 1024) :
    (((∑ k : Fin 4096, term m c i x k) * Ideal.ofBits .f32 0x3F000000#32 : EReal)) = ∑ k : Fin 4096, (Ideal.ofBits .f32 0x3F000000#32 * (g1 m c (ix2 k x) : EReal)) * (g0 m c (ix2 k i) : EReal) := by
  unfold term
  simp only [aA_at, aB_at]
  rw [sum_half]
  exact Finset.sum_congr rfl fun k _ => half3 _ _

theorem same_at (c : Dev nD) (i : Fin 2816) (x : Fin 1024) :
    Cert.DwdReferenceIdeal.Read.val_main_v7 (F := Ideal) (g0 m c) (g1 m c) (ix2 i x) = G2 m c (ix2 i x : S2816x1024.Idx) :=
  (ref_at (g0 m c) (g1 m c) i x).trans ((out m c i x).trans (terms_eq m c i x)).symm

theorem same (c : Dev nD) : Cert.DwdReferenceIdeal.Read.val_main_v7 (F := Ideal) (g0 m c) (g1 m c) = G2 m c := by
  funext j
  rw [eq_ix2 j]
  exact same_at m c (j 0) (j 1)

end Cert.DwdIdeal.Prod
-- ==== Proof.Dwg.lean ====
module

public import proofs.«01_k».proof.Proof.Gen.DwgIdeal.Value
public import proofs.«01_k».proof.Proof.Gen.DwgReferenceIdeal.Run
public import proofs.«01_k».proof.Proof.Gen.DwgReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the feed-forward layer: the gradient of a weight, the product of the transposed input and the cotangent.
The kernel adds it up in a scratch, block by block of the summed axis. -/

namespace Cert.DwgIdeal.Prod

open Cert.DwgIdeal Cert.DwgIdeal.Gen Idealize.ShloMosaic Idealize.ShloMosaic.TcCoe Cert.Sums

/-- The product of two blocks. -/
def prod (u : Vec Ideal S1024x1024 .bf16) (v : Vec Ideal S1024x1408 .bf16) : Vec Ideal S1024x1408 .f32 :=
  fun y => ∑ r : Fin 1024, (u (ix2 r (y 0)) : EReal) * (v (ix2 r (y 1)) : EReal)

theorem prod_at (u : Vec Ideal S1024x1024 .bf16) (v : Vec Ideal S1024x1408 .bf16) (a : Fin 1024) (x : Fin 1408) :
    prod u v (ix2 a x) = ∑ r : Fin 1024, (u (ix2 r a) : EReal) * (v (ix2 r x) : EReal) := rfl

theorem pay1_at (u : Vec Ideal S1024x1024 .bf16) (v : Vec Ideal S1024x1408 .bf16) (a : Fin 1024) (x : Fin 1408) :
    k0_pay1 u v (ix2 a x) = ∑ r : Fin 1024, (u (ix2 r a) : EReal) * (v (ix2 r x) : EReal) := by
  pointwise [k0_pay1]

theorem pay1_eq (u : Vec Ideal S1024x1024 .bf16) (v : Vec Ideal S1024x1408 .bf16) : k0_pay1 u v = prod u v := by
  funext y; rw [eq_ix2 y]; exact pay1_at u v (y 0) (y 1)

theorem pay2_eq (u : Vec Ideal S1024x1024 .bf16) (v : Vec Ideal S1024x1408 .bf16) : k0_pay2 u v = prod u v := by
  rw [← pay1_eq]; funext y; pointwise [k0_pay2]

theorem pay3_eq (u : Vec Ideal S1024x1024 .bf16) (v : Vec Ideal S1024x1408 .bf16) (s : Vec Ideal S1024x1408 .f32) :
    k0_pay3 u v s = fun y => (s y + prod u v y : EReal) := by
  rw [← pay1_eq]; funext y; pointwise [k0_pay3]

theorem sout0_A_0_eq (c : Dev nD) (i : grid0.Coords) (a3 : Memref sig .tc .vmem S1024x1024 .bf16) (ha3 : a3.IsWhole) (a4 : Memref sig .tc .vmem S1024x1408 .bf16) (ha4 : a4.IsWhole) (a5 : Memref sig .tc .vmem S1024x1408 .f32) (ha5 : a5.IsWhole) (a6 : Memref sig .tc .vmem S1024x1408 .f32) (ha6 : a6.IsWhole) (hc0 : cond0_0 i) (hc1 : ¬cond0_1 i) (hc2 : ¬cond0_2 i)
    (x0 : Vec Ideal S1024x1024 .bf16) (x1 : Vec Ideal S1024x1408 .bf16) :
    sout0_A_0 c i a3 ha3 a4 ha4 a5 ha5 a6 ha6 hc0 hc1 hc2 x0 x1 = prod x0 x1 := by
  unfold sout0_A_0
  rw [View.read_writes_eq_canon _ _ _ (scover0_A_0 c i a3 ha3 a4 ha4 a5 ha5 a6 ha6 hc0 hc1 hc2 x0 x1)]
  unfold kernelRun0_A
  dsimp only
  sl_unfold_words
  simp only [View.readAt_eq_ld, ha3.read_unread, ha4.read_unread, ha5.read_unread, ha6.read_unread, View.ld_unit_zero (S := S1024x1024) hz2, View.ld_unit_zero (S := S1024x1408) hz2]
  rw [View.canon_cons_unit_zero hz2]
  exact pay2_eq ..

theorem sout0_B_0_eq (c : Dev nD) (i : grid0.Coords) (a3 : Memref sig .tc .vmem S1024x1024 .bf16) (ha3 : a3.IsWhole) (a4 : Memref sig .tc .vmem S1024x1408 .bf16) (ha4 : a4.IsWhole) (a5 : Memref sig .tc .vmem S1024x1408 .f32) (ha5 : a5.IsWhole) (a6 : Memref sig .tc .vmem S1024x1408 .f32) (ha6 : a6.IsWhole) (hc0 : ¬cond0_0 i) (hc1 : cond0_1 i) (hc2 : ¬cond0_2 i)
    (x0 : Vec Ideal S1024x1024 .bf16) (x1 : Vec Ideal S1024x1408 .bf16) (xs0 : Vec Ideal S1024x1408 .f32) :
    sout0_B_0 c i a3 ha3 a4 ha4 a5 ha5 a6 ha6 hc0 hc1 hc2 x0 x1 xs0 = fun y => (xs0 y + prod x0 x1 y : EReal) := by
  unfold sout0_B_0
  rw [View.read_writes_eq_canon _ _ _ (scover0_B_0 c i a3 ha3 a4 ha4 a5 ha5 a6 ha6 hc0 hc1 hc2 x0 x1 xs0)]
  unfold kernelRun0_B
  dsimp only
  sl_unfold_words
  simp only [View.readAt_eq_ld, ha3.read_unread, ha4.read_unread, ha5.read_unread, ha6.read_unread, View.ld_unit_zero (S := S1024x1024) hz2, View.ld_unit_zero (S := S1024x1408) hz2]
  rw [View.canon_cons_unit_zero hz2]
  exact pay3_eq ..

theorem sout0_C_0_eq (c : Dev nD) (i : grid0.Coords) (a3 : Memref sig .tc .vmem S1024x1024 .bf16) (ha3 : a3.IsWhole) (a4 : Memref sig .tc .vmem S1024x1408 .bf16) (ha4 : a4.IsWhole) (a5 : Memref sig .tc .vmem S1024x1408 .f32) (ha5 : a5.IsWhole) (a6 : Memref sig .tc .vmem S1024x1408 .f32) (ha6 : a6.IsWhole) (hc0 : ¬cond0_0 i) (hc1 : cond0_1 i) (hc2 : cond0_2 i)
    (x0 : Vec Ideal S1024x1024 .bf16) (x1 : Vec Ideal S1024x1408 .bf16) (xs0 : Vec Ideal S1024x1408 .f32) :
    sout0_C_0 c i a3 ha3 a4 ha4 a5 ha5 a6 ha6 hc0 hc1 hc2 x0 x1 xs0 = fun y => (xs0 y + prod x0 x1 y : EReal) := by
  unfold sout0_C_0
  rw [View.read_writes_eq_canon _ _ _ (scover0_C_0 c i a3 ha3 a4 ha4 a5 ha5 a6 ha6 hc0 hc1 hc2 x0 x1 xs0)]
  unfold kernelRun0_C
  dsimp only
  sl_unfold_words
  simp only [View.readAt_eq_ld, ha3.read_unread, ha4.read_unread, ha5.read_unread, ha6.read_unread, View.ld_unit_zero (S := S1024x1024) hz2, View.ld_unit_zero (S := S1024x1408) hz2]
  rw [View.canon_cons_unit_zero hz2]
  exact pay3_eq ..

theorem out0_C_2_eq (c : Dev nD) (i : grid0.Coords) (a3 : Memref sig .tc .vmem S1024x1024 .bf16) (ha3 : a3.IsWhole) (a4 : Memref sig .tc .vmem S1024x1408 .bf16) (ha4 : a4.IsWhole) (a5 : Memref sig .tc .vmem S1024x1408 .f32) (ha5 : a5.IsWhole) (a6 : Memref sig .tc .vmem S1024x1408 .f32) (ha6 : a6.IsWhole) (hc0 : ¬cond0_0 i) (hc1 : cond0_1 i) (hc2 : cond0_2 i)
    (x0 : Vec Ideal S1024x1024 .bf16) (x1 : Vec Ideal S1024x1408 .bf16) (xs0 : Vec Ideal S1024x1408 .f32) :
    out0_C_2 c i a3 ha3 a4 ha4 a5 ha5 a6 ha6 hc0 hc1 hc2 x0 x1 xs0 = fun y => (xs0 y + prod x0 x1 y : EReal) := by
  unfold out0_C_2
  rw [View.read_writes_eq_canon _ _ _ (cover0_C_2 c i a3 ha3 a4 ha4 a5 ha5 a6 ha6 hc0 hc1 hc2 x0 x1 xs0)]
  unfold kernelRun0_C
  dsimp only
  sl_unfold_words
  simp only [View.readAt_eq_ld, ha3.read_unread, ha4.read_unread, ha5.read_unread, ha6.read_unread, View.ld_unit_zero (S := S1024x1024) hz2, View.ld_unit_zero (S := S1024x1408) hz2]
  rw [View.canon_cons_unit_zero hz2, View.readCov_unit_zero _ hz2]
  exact pay3_eq ..

/-! Which block each window reads at a grid point. -/

theorem tlt (t : Fin cfg0.N) : t.val < 8 := lt_of_lt_of_eq t.isLt (show cfg0.N = 8 from N_0)

/-- Block `b`'s rows of the result, its columns, and its part of the summed axis. -/
def rI (b : ℕ) (r : Fin 1024) : Fin 1024 := ⟨(1024 * b + r.val) % 1024, Nat.mod_lt _ (by decide)⟩
def cJ (b : ℕ) (r : Fin 1408) : Fin 2816 := ⟨(1408 * b + r.val) % 2816, Nat.mod_lt _ (by decide)⟩
def kB (b : ℕ) (r : Fin 1024) : Fin 4096 := ⟨(1024 * b + r.val) % 4096, Nat.mod_lt _ (by decide)⟩

variable (m : (ℓ : Loc nD τ sig) → Buf (Elt Ideal) ℓ)

/-- Operand 0, as the kernel's window names it. -/
def aA (c : Dev nD) : Vec Ideal S4096x1024 .bf16 := V m c (Pipeline.arrRef spec0 0)

theorem index0 : ∀ t : Fin cfg0.N, win0_0.index t (0 : Fin 2) = t.val % 4 ∧ win0_0.index t (1 : Fin 2) = t.val / 8 := by decide +kernel

theorem rd0 (A : S4096x1024.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (kB (t.val % 4) a) (rI (t.val / 8) b) : S4096x1024.Idx) := by
  have ht := tlt t
  have h0 : win0_0.index t 0 * 1024 + 1 * a.val = (1024 * (t.val % 4) + a.val) % 4096 := by rw [(index0 t).1]; omega
  have h1 : win0_0.index t 1 * 1024 + 1 * b.val = (1024 * (t.val / 8) + b.val) % 1024 := by rw [(index0 t).2]; omega
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .bf16) (ix2 a b) = aA m c (ix2 (kB (t.val % 4) a) (rI (t.val / 8) b)) :=
  (rd0 (aA m c) t (ix2 a b)).trans (congrArg (aA m c) (emb0 t a b))

/-- Operand 1, as the kernel's window names it. -/
def aB (c : Dev nD) : Vec Ideal S4096x2816 .bf16 := V m c (Pipeline.arrRef spec0 1)

theorem index1 : ∀ t : Fin cfg0.N, win0_1.index t (0 : Fin 2) = t.val % 4 ∧ win0_1.index t (1 : Fin 2) = t.val / 4 % 2 := by decide +kernel

theorem rd1 (A : S4096x2816.Idx → EReal) (t : Fin cfg0.N) (y : S1024x1408.Idx) :
    (((cfg0.win 1).blk t).view.read (Elt Ideal) A) y = A (((cfg0.win 1).blk t).view.emb y) := rfl

theorem emb1 (t : Fin cfg0.N) (a : Fin 1024) (b : Fin 1408) :
    ((cfg0.win 1).blk t).view.emb (ix2 a b : S1024x1408.Idx) = (ix2 (kB (t.val % 4) a) (cJ (t.val / 4 % 2) b) : S4096x2816.Idx) := by
  have ht := tlt t
  have h0 : win0_1.index t 0 * 1024 + 1 * a.val = (1024 * (t.val % 4) + a.val) % 4096 := by rw [(index1 t).1]; omega
  have h1 : win0_1.index t 1 * 1408 + 1 * b.val = (1408 * (t.val / 4 % 2) + b.val) % 2816 := by rw [(index1 t).2]; omega
  funext x; apply Fin.ext
  match x with
  | ⟨0, _⟩ => exact h0
  | ⟨1, _⟩ => exact h1

theorem blk1 (c : Dev nD) (t : Fin cfg0.N) (a : Fin 1024) (b : Fin 1408) :
    (iblk m c 1 t : Vec Ideal S1024x1408 .bf16) (ix2 a b) = aB m c (ix2 (kB (t.val % 4) a) (cJ (t.val / 4 % 2) b)) :=
  (rd1 (aB m c) t (ix2 a b)).trans (congrArg (aB m c) (emb1 t a b))

/-- One term of the product of the whole operands. -/
def term (c : Dev nD) (i : Fin 1024) (x : Fin 2816) (k : Fin 4096) : EReal := aA m c (ix2 k i) * aB m c (ix2 k x)

/-- Block `b`'s part of an entry. -/
def part (c : Dev nD) (i : Fin 1024) (x : Fin 2816) (b : ℕ) : EReal := ∑ r : Fin 1024, term m c i x (kB b r)

theorem prod_blk (c : Dev nD) (t : Fin cfg0.N) (a : Fin 1024) (x : Fin 1408) :
    prod (iblk m c 0 t) (iblk m c 1 t) (ix2 a x) = part m c (rI (t.val / 8) a) (cJ (t.val / 4 % 2) x) (t.val % 4) := by
  rw [prod_at]
  unfold part term
  simp only [blk0, blk1]

theorem snd_eq {A B : Type} {p : A × B} {a : A} {b b' : B} (h : p = (a, b)) (hb : b = b') : p.2 = b' := by
  subst h; exact hb
theorem fst_eq {A B : Type} {p : A × B} {a a' : A} {b : B} (h : p = (a, b)) (ha : a = a') : p.1 = a' := by
  subst h; exact ha

theorem first (c : Dev nD) (t : Fin cfg0.N) (h : t.val % 4 = 0) :
    (outsAt0 m c t.val t.isLt).2 = prod (iblk m c 0 t) (iblk m c 1 t) :=
  snd_eq (outsAt0_A m c t h (by omega) (by omega)) (sout0_A_0_eq ..)

theorem later (c : Dev nD) (t : Fin cfg0.N) (h : ¬t.val % 4 = 0) (k : ℕ) (hk : k < cfg0.N) (ek : t.val - 1 = k) :
    (outsAt0 m c t.val t.isLt).2 = fun y => ((outsAt0 m c k hk).2 y + prod (iblk m c 0 t) (iblk m c 1 t) y : EReal) := by
  subst ek
  by_cases h2 : t.val % 4 = 3
  · exact snd_eq (outsAt0_C m c t h (by omega) h2) (sout0_C_0_eq ..)
  · exact snd_eq (outsAt0_B m c t h (by omega) h2) (sout0_B_0_eq ..)

/-- The scratch holds the blocks so far. -/
theorem state (c : Dev nD) : ∀ (n : ℕ) (hn : n < cfg0.N) (a : Fin 1024) (x : Fin 1408),
    (outsAt0 m c n hn).2 (ix2 a x) = ∑ b ∈ Finset.range (n % 4 + 1), part m c (rI (n / 8) a) (cJ (n / 4 % 2) x) b := by
  intro n
  induction n with
  | zero =>
    intro hn a x
    refine (congrFun (first m c ⟨0, hn⟩ (Nat.zero_mod _)) _).trans ((prod_blk m c ⟨0, hn⟩ a x).trans ?_)
    simp
  | succ n ih =>
    intro hn a x
    by_cases h : (n + 1) % 4 = 0
    · refine (congrFun (first m c ⟨n + 1, hn⟩ h) _).trans ((prod_blk m c ⟨n + 1, hn⟩ a x).trans ?_)
      simp [h]
    · have e1 : (n + 1) / 8 = n / 8 := by omega
      have e2 : (n + 1) / 4 % 2 = n / 4 % 2 := by omega
      have e3 : (n + 1) % 4 = n % 4 + 1 := by omega
      refine (congrFun (later m c ⟨n + 1, hn⟩ h n (Nat.lt_of_succ_lt hn) rfl) _).trans ?_
      rw [e1, e2, e3, Finset.sum_range_succ _ (n % 4 + 1)]
      refine congrArg₂ (fun a b : EReal => a + b) (ih (Nat.lt_of_succ_lt hn) a x) ((prod_blk m c ⟨n + 1, hn⟩ a x).trans ?_)
      show part m c (rI ((n + 1) / 8) a) (cJ ((n + 1) / 4 % 2) x) ((n + 1) % 4) = _
      rw [e1, e2, e3]

/-- What the last block of an entry leaves in the result. -/
theorem last (c : Dev nD) (t : Fin cfg0.N) (h2 : t.val % 4 = 3) (a : Fin 1024) (x : Fin 1408) :
    (outsAt0 m c t.val t.isLt).1 (ix2 a x)
      = (∑ b ∈ Finset.range 4, part m c (rI (t.val / 8) a) (cJ (t.val / 4 % 2) x) b) := by
  have h : ¬t.val % 4 = 0 := by omega
  have hk : t.val - 1 < cfg0.N := Nat.lt_of_le_of_lt (Nat.sub_le _ _) t.isLt
  have s := state m c t.val t.isLt a x
  rw [h2] at s
  have s' := congrFun (snd_eq (outsAt0_C m c t h (by omega) h2) (sout0_C_0_eq ..)) (ix2 a x)
  refine (congrFun (fst_eq (outsAt0_C m c t h (by omega) h2) (out0_C_2_eq ..)) (ix2 a x)).trans ?_
  rw [← s, s']

open Cert.DwgIdeal.Value

/-- The result array at every index. -/
theorem out (c : Dev nD) (i : Fin 1024) (x : Fin 2816) :
    G2 m c (ix2 i x) = (∑ k : Fin 4096, term m c i x k) := by
  have hp : pt2Of (ix2 i x) = 4 * (2 * (i.val / 1024) + x.val / 1408) + 3 := by
    show 4 * (2 * (i.val / 1024 - 0) + 1 * (x.val / 1408 - 0)) + 3 = _; omega
  have hn : pt2Of (ix2 i x) < cfg0.N := by rw [hp, show cfg0.N = 8 from N_0]; omega
  have hl : loc2Of (ix2 i x) = ix2 (⟨i.val % 1024, Nat.mod_lt _ (by decide)⟩ : Fin 1024) (⟨x.val % 1408, Nat.mod_lt _ (by decide)⟩ : Fin 1408) := by
    funext a; apply Fin.ext
    match a with
    | ⟨0, _⟩ => rfl
    | ⟨1, _⟩ => rfl
  have hs := last m c ⟨pt2Of (ix2 i x), hn⟩ (by show pt2Of (ix2 i x) % 4 = 3; omega) (⟨i.val % 1024, Nat.mod_lt _ (by decide)⟩ : Fin 1024) (⟨x.val % 1408, Nat.mod_lt _ (by decide)⟩ : Fin 1408)
  have ei : rI (pt2Of (ix2 i x) / 8) (⟨i.val % 1024, Nat.mod_lt _ (by decide)⟩ : Fin 1024) = i :=
    Fin.ext (show (1024 * (pt2Of (ix2 i x) / 8) + i.val % 1024) % 1024 = i.val by omega)
  have ex : cJ (pt2Of (ix2 i x) / 4 % 2) (⟨x.val % 1408, Nat.mod_lt _ (by decide)⟩ : Fin 1408) = x :=
    Fin.ext (show (1408 * (pt2Of (ix2 i x) / 4 % 2) + x.val % 1408) % 2816 = x.val by omega)
  dsimp only at hs
  rw [ei, ex, outsAt0_sweep m c _ hn, ← hl] at hs
  unfold G2
  rw [dif_pos hn]
  refine hs.trans ?_
  unfold part
  rw [show ∑ b ∈ Finset.range 4, ∑ r : Fin 1024, term m c i x (kB b r) = ∑ k : Fin 4096, term m c i x k from
    sum_blocks 4 1024 4096 (by decide) (by decide) (fun k => term m c i x k)]

/-! The operands are the arguments. -/

def g0 (c : Dev nD) : Vec Ideal S4096x1024 .f32 := m (c, Proc.tc.devRef main_arg0)
def g1 (c : Dev nD) : Vec Ideal S4096x2816 .f32 := m (c, Proc.tc.devRef main_arg1)

theorem aA_eq (c : Dev nD) : aA m c = V m c main_v0 := rfl

theorem aA_at (c : Dev nD) (a : Fin 4096) (b : Fin 1024) : aA m c (ix2 a b) = g0 m c (ix2 a b) := by
  rw [aA_eq]
  simp only [g0]
  unfold_abbrev_sides
  after_reads_at

theorem aB_eq (c : Dev nD) : aB m c = V m c main_v1 := rfl

theorem aB_at (c : Dev nD) (a : Fin 4096) (b : Fin 2816) : aB m c (ix2 a b) = g1 m c (ix2 a b) := by
  rw [aB_eq]
  simp only [g1]
  unfold_abbrev_sides
  after_reads_at

/-- The reference's result at an index. -/
theorem ref_at (y0 : Vec Ideal S4096x1024 .f32) (y1 : Vec Ideal S4096x2816 .f32) (i : Fin 1024) (x : Fin 2816) :
    Cert.DwgReferenceIdeal.Read.val_main_v3 (F := Ideal) y0 y1 (ix2 i x) = ∑ k : Fin 4096, (y1 (ix2 k x) : EReal) * (y0 (ix2 k i) : EReal) := by
  unfold Cert.DwgReferenceIdeal.Read.val_main_v3 Cert.DwgReferenceIdeal.Read.val_main_v2
  pointwise

/-- What the kernel leaves is what the reference gives. -/
theorem terms_eq (c : Dev nD) (i : Fin 1024) (x : Fin 2816) :
    (((∑ k : Fin 4096, term m c i x k) : EReal)) = ∑ k : Fin 4096, (g1 m c (ix2 k x) : EReal) * (g0 m c (ix2 k i) : EReal) := by
  unfold term
  simp only [aA_at, aB_at]
  exact Finset.sum_congr rfl fun k _ => mul2 _ _

theorem same_at (c : Dev nD) (i : Fin 1024) (x : Fin 2816) :
    Cert.DwgReferenceIdeal.Read.val_main_v3 (F := Ideal) (g0 m c) (g1 m c) (ix2 i x) = G2 m c (ix2 i x : S1024x2816.Idx) :=
  (ref_at (g0 m c) (g1 m c) i x).trans ((out m c i x).trans (terms_eq m c i x)).symm

theorem same (c : Dev nD) : Cert.DwgReferenceIdeal.Read.val_main_v3 (F := Ideal) (g0 m c) (g1 m c) = G2 m c := by
  funext j
  rw [eq_ix2 j]
  exact same_at m c (j 0) (j 1)

end Cert.DwgIdeal.Prod
-- ==== Proof.Dhg.lean ====
module

public import proofs.«01_k».proof.Proof.Gen.DhgIdeal.Value
public import proofs.«01_k».proof.Proof.Gen.DhgReferenceIdeal.Run
public import proofs.«01_k».proof.Proof.Gen.DhgReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the feed-forward layer: the gradient of the hidden state through the gate, the product of the cotangent and the transposed weight.
The kernel adds it up in a scratch, block by block of the summed axis. -/

namespace Cert.DhgIdeal.Prod

open Cert.DhgIdeal Cert.DhgIdeal.Gen Idealize.ShloMosaic Idealize.ShloMosaic.TcCoe Cert.Sums

/-- The product of two blocks. -/
def prod (u : Vec Ideal S1024x256 .bf16) (v : Vec Ideal S1024x256 .bf16) : Vec Ideal S1024x1024 .f32 :=
  fun y => ∑ r : Fin 256, (u (ix2 (y 0) r) : EReal) * (v (ix2 (y 1) r) : EReal)

theorem prod_at (u : Vec Ideal S1024x256 .bf16) (v : Vec Ideal S1024x256 .bf16) (a : Fin 1024) (x : Fin 1024) :
    prod u v (ix2 a x) = ∑ r : Fin 256, (u (ix2 a r) : EReal) * (v (ix2 x r) : EReal) := rfl

theorem pay1_at (u : Vec Ideal S1024x256 .bf16) (v : Vec Ideal S1024x256 .bf16) (a : Fin 1024) (x : Fin 1024) :
    k0_pay1 u v (ix2 a x) = ∑ r : Fin 256, (u (ix2 a r) : EReal) * (v (ix2 x r) : EReal) := by
  pointwise [k0_pay1]

theorem pay1_eq (u : Vec Ideal S1024x256 .bf16) (v : Vec Ideal S1024x256 .bf16) : k0_pay1 u v = prod u v := by
  funext y; rw [eq_ix2 y]; exact pay1_at u v (y 0) (y 1)

theorem pay2_eq (u : Vec Ideal S1024x256 .bf16) (v : Vec Ideal S1024x256 .bf16) : k0_pay2 u v = prod u v := by
  rw [← pay1_eq]; funext y; pointwise [k0_pay2]

theorem pay3_eq (u : Vec Ideal S1024x256 .bf16) (v : Vec Ideal S1024x256 .bf16) (s : Vec Ideal S1024x1024 .f32) :
    k0_pay3 u v s = fun y => (s y + prod u v y : EReal) := by
  rw [← pay1_eq]; funext y; pointwise [k0_pay3]

theorem sout0_A_0_eq (c : Dev nD) (i : grid0.Coords) (a3 : Memref sig .tc .vmem S1024x256 .bf16) (ha3 : a3.IsWhole) (a4 : Memref sig .tc .vmem S1024x256 .bf16) (ha4 : a4.IsWhole) (a5 : Memref sig .tc .vmem S1024x1024 .f32) (ha5 : a5.IsWhole) (a6 : Memref sig .tc .vmem S1024x1024 .f32) (ha6 : a6.IsWhole) (hc0 : cond0_0 i) (hc1 : ¬cond0_1 i) (hc2 : ¬cond0_2 i)
    (x0 : Vec Ideal S1024x256 .bf16) (x1 : Vec Ideal S1024x256 .bf16) :
    sout0_A_0 c i a3 ha3 a4 ha4 a5 ha5 a6 ha6 hc0 hc1 hc2 x0 x1 = prod x0 x1 := by
  unfold sout0_A_0
  rw [View.read_writes_eq_canon _ _ _ (scover0_A_0 c i a3 ha3 a4 ha4 a5 ha5 a6 ha6 hc0 hc1 hc2 x0 x1)]
  unfold kernelRun0_A
  dsimp only
  sl_unfold_words
  simp only [View.readAt_eq_ld, ha3.read_unread, ha4.read_unread, ha5.read_unread, ha6.read_unread, View.ld_unit_zero (S := S1024x1024) hz2, View.ld_unit_zero (S := S1024x256) hz2]
  rw [View.canon_cons_unit_zero hz2]
  exact pay2_eq ..

theorem sout0_B_0_eq (c : Dev nD) (i : grid0.Coords) (a3 : Memref sig .tc .vmem S1024x256 .bf16) (ha3 : a3.IsWhole) (a4 : Memref sig .tc .vmem S1024x256 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : ¬cond0_2 i)
    (x0 : Vec Ideal S1024x256 .bf16) (x1 : Vec Ideal S1024x256 .bf16) (xs0 : Vec Ideal S1024x1024 .f32) :
    sout0_B_0 c i a3 ha3 a4 ha4 a5 ha5 a6 ha6 hc0 hc1 hc2 x0 x1 xs0 = fun y => (xs0 y + prod x0 x1 y : EReal) := by
  unfold sout0_B_0
  rw [View.read_writes_eq_canon _ _ _ (scover0_B_0 c i a3 ha3 a4 ha4 a5 ha5 a6 ha6 hc0 hc1 hc2 x0 x1 xs0)]
  unfold kernelRun0_B
  dsimp only
  sl_unfold_words
  simp only [View.readAt_eq_ld, ha3.read_unread, ha4.read_unread, ha5.read_unread, ha6.read_unread, View.ld_unit_zero (S := S1024x1024) hz2, View.ld_unit_zero (S := S1024x256) hz2]
  rw [View.canon_cons_unit_zero hz2]
  exact pay3_eq ..

theorem sout0_C_0_eq (c : Dev nD) (i : grid0.Coords) (a3 : Memref sig .tc .vmem S1024x256 .bf16) (ha3 : a3.IsWhole) (a4 : Memref sig .tc .vmem S1024x256 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : cond0_2 i)
    (x0 : Vec Ideal S1024x256 .bf16) (x1 : Vec Ideal S1024x256 .bf16) (xs0 : Vec Ideal S1024x1024 .f32) :
    sout0_C_0 c i a3 ha3 a4 ha4 a5 ha5 a6 ha6 hc0 hc1 hc2 x0 x1 xs0 = fun y => (xs0 y + prod x0 x1 y : EReal) := by
  unfold sout0_C_0
  rw [View.read_writes_eq_canon _ _ _ (scover0_C_0 c i a3 ha3 a4 ha4 a5 ha5 a6 ha6 hc0 hc1 hc2 x0 x1 xs0)]
  unfold kernelRun0_C
  dsimp only
  sl_unfold_words
  simp only [View.readAt_eq_ld, ha3.read_unread, ha4.read_unread, ha5.read_unread, ha6.read_unread, View.ld_unit_zero (S := S1024x1024) hz2, View.ld_unit_zero (S := S1024x256) hz2]
  rw [View.canon_cons_unit_zero hz2]
  exact pay3_eq ..

theorem out0_C_2_eq (c : Dev nD) (i : grid0.Coords) (a3 : Memref sig .tc .vmem S1024x256 .bf16) (ha3 : a3.IsWhole) (a4 : Memref sig .tc .vmem S1024x256 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : cond0_2 i)
    (x0 : Vec Ideal S1024x256 .bf16) (x1 : Vec Ideal S1024x256 .bf16) (xs0 : Vec Ideal S1024x1024 .f32) :
    out0_C_2 c i a3 ha3 a4 ha4 a5 ha5 a6 ha6 hc0 hc1 hc2 x0 x1 xs0 = fun y => (xs0 y + prod x0 x1 y : EReal) := by
  unfold out0_C_2
  rw [View.read_writes_eq_canon _ _ _ (cover0_C_2 c i a3 ha3 a4 ha4 a5 ha5 a6 ha6 hc0 hc1 hc2 x0 x1 xs0)]
  unfold kernelRun0_C
  dsimp only
  sl_unfold_words
  simp only [View.readAt_eq_ld, ha3.read_unread, ha4.read_unread, ha5.read_unread, ha6.read_unread, View.ld_unit_zero (S := S1024x1024) hz2, View.ld_unit_zero (S := S1024x256) hz2]
  rw [View.canon_cons_unit_zero hz2, View.readCov_unit_zero _ hz2]
  exact pay3_eq ..

/-! Which block each window reads at a grid point. -/

theorem tlt (t : Fin cfg0.N) : t.val < 44 := lt_of_lt_of_eq t.isLt (show cfg0.N = 44 from N_0)

/-- Block `b`'s rows of the result, its columns, and its part of the summed axis. -/
def rI (b : ℕ) (r : Fin 1024) : Fin 4096 := ⟨(1024 * b + r.val) % 4096, Nat.mod_lt _ (by decide)⟩
def cJ (b : ℕ) (r : Fin 1024) : Fin 1024 := ⟨(1024 * b + r.val) % 1024, Nat.mod_lt _ (by decide)⟩
def kB (b : ℕ) (r : Fin 256) : Fin 2816 := ⟨(256 * b + r.val) % 2816, Nat.mod_lt _ (by decide)⟩

variable (m : (ℓ : Loc nD τ sig) → Buf (Elt Ideal) ℓ)

/-- Operand 0, as the kernel's window names it. -/
def aA (c : Dev nD) : Vec Ideal S4096x2816 .bf16 := V m c (Pipeline.arrRef spec0 0)

theorem index0 : ∀ t : Fin cfg0.N, win0_0.index t (0 : Fin 2) = t.val / 11 ∧ win0_0.index t (1 : Fin 2) = t.val % 11 := by decide +kernel

theorem rd0 (A : S4096x2816.Idx → EReal) (t : Fin cfg0.N) (y : S1024x256.Idx) :
    (((cfg0.win 0).blk t).view.read (Elt Ideal) A) y = A (((cfg0.win 0).blk t).view.emb y) := rfl

theorem emb0 (t : Fin cfg0.N) (a : Fin 1024) (b : Fin 256) :
    ((cfg0.win 0).blk t).view.emb (ix2 a b : S1024x256.Idx) = (ix2 (rI (t.val / 11) a) (kB (t.val % 11) b) : S4096x2816.Idx) := by
  have ht := tlt t
  have h0 : win0_0.index t 0 * 1024 + 1 * a.val = (1024 * (t.val / 11) + a.val) % 4096 := by rw [(index0 t).1]; omega
  have h1 : win0_0.index t 1 * 256 + 1 * b.val = (256 * (t.val % 11) + b.val) % 2816 := by rw [(index0 t).2]; omega
  funext x; apply Fin.ext
  match x with
  | ⟨0, _⟩ => exact h0
  | ⟨1, _⟩ => exact h1

theorem blk0 (c : Dev nD) (t : Fin cfg0.N) (a : Fin 1024) (b : Fin 256) :
    (iblk m c 0 t : Vec Ideal S1024x256 .bf16) (ix2 a b) = aA m c (ix2 (rI (t.val / 11) a) (kB (t.val % 11) b)) :=
  (rd0 (aA m c) t (ix2 a b)).trans (congrArg (aA m c) (emb0 t a b))

/-- Operand 1, as the kernel's window names it. -/
def aB (c : Dev nD) : Vec Ideal S1024x2816 .bf16 := V m c (Pipeline.arrRef spec0 1)

theorem index1 : ∀ t : Fin cfg0.N, win0_1.index t (0 : Fin 2) = t.val / 11 % 1 ∧ win0_1.index t (1 : Fin 2) = t.val % 11 := by decide +kernel

theorem rd1 (A : S1024x2816.Idx → EReal) (t : Fin cfg0.N) (y : S1024x256.Idx) :
    (((cfg0.win 1).blk t).view.read (Elt Ideal) A) y = A (((cfg0.win 1).blk t).view.emb y) := rfl

theorem emb1 (t : Fin cfg0.N) (a : Fin 1024) (b : Fin 256) :
    ((cfg0.win 1).blk t).view.emb (ix2 a b : S1024x256.Idx) = (ix2 (cJ (t.val / 11 % 1) a) (kB (t.val % 11) b) : S1024x2816.Idx) := by
  have ht := tlt t
  have h0 : win0_1.index t 0 * 1024 + 1 * a.val = (1024 * (t.val / 11 % 1) + a.val) % 1024 := by rw [(index1 t).1]; omega
  have h1 : win0_1.index t 1 * 256 + 1 * b.val = (256 * (t.val % 11) + b.val) % 2816 := by rw [(index1 t).2]; omega
  funext x; apply Fin.ext
  match x with
  | ⟨0, _⟩ => exact h0
  | ⟨1, _⟩ => exact h1

theorem blk1 (c : Dev nD) (t : Fin cfg0.N) (a : Fin 1024) (b : Fin 256) :
    (iblk m c 1 t : Vec Ideal S1024x256 .bf16) (ix2 a b) = aB m c (ix2 (cJ (t.val / 11 % 1) a) (kB (t.val % 11) b)) :=
  (rd1 (aB m c) t (ix2 a b)).trans (congrArg (aB m c) (emb1 t a b))

/-- One term of the product of the whole operands. -/
def term (c : Dev nD) (i : Fin 4096) (x : Fin 1024) (k : Fin 2816) : EReal := aA m c (ix2 i k) * aB m c (ix2 x k)

/-- Block `b`'s part of an entry. -/
def part (c : Dev nD) (i : Fin 4096) (x : Fin 1024) (b : ℕ) : EReal := ∑ r : Fin 256, term m c i x (kB b r)

theorem prod_blk (c : Dev nD) (t : Fin cfg0.N) (a : Fin 1024) (x : Fin 1024) :
    prod (iblk m c 0 t) (iblk m c 1 t) (ix2 a x) = part m c (rI (t.val / 11) a) (cJ (t.val / 11 % 1) x) (t.val % 11) := by
  rw [prod_at]
  unfold part term
  simp only [blk0, blk1]

theorem snd_eq {A B : Type} {p : A × B} {a : A} {b b' : B} (h : p = (a, b)) (hb : b = b') : p.2 = b' := by
  subst h; exact hb
theorem fst_eq {A B : Type} {p : A × B} {a a' : A} {b : B} (h : p = (a, b)) (ha : a = a') : p.1 = a' := by
  subst h; exact ha

theorem first (c : Dev nD) (t : Fin cfg0.N) (h : t.val % 11 = 0) :
    (outsAt0 m c t.val t.isLt).2 = prod (iblk m c 0 t) (iblk m c 1 t) :=
  snd_eq (outsAt0_A m c t h (by omega) (by omega)) (sout0_A_0_eq ..)

theorem later (c : Dev nD) (t : Fin cfg0.N) (h : ¬t.val % 11 = 0) (k : ℕ) (hk : k < cfg0.N) (ek : t.val - 1 = k) :
    (outsAt0 m c t.val t.isLt).2 = fun y => ((outsAt0 m c k hk).2 y + prod (iblk m c 0 t) (iblk m c 1 t) y : EReal) := by
  subst ek
  by_cases h2 : t.val % 11 = 10
  · exact snd_eq (outsAt0_C m c t h (by omega) h2) (sout0_C_0_eq ..)
  · exact snd_eq (outsAt0_B m c t h (by omega) h2) (sout0_B_0_eq ..)

/-- The scratch holds the blocks so far. -/
theorem state (c : Dev nD) : ∀ (n : ℕ) (hn : n < cfg0.N) (a : Fin 1024) (x : Fin 1024),
    (outsAt0 m c n hn).2 (ix2 a x) = ∑ b ∈ Finset.range (n % 11 + 1), part m c (rI (n / 11) a) (cJ (n / 11 % 1) x) b := by
  intro n
  induction n with
  | zero =>
    intro hn a x
    refine (congrFun (first m c ⟨0, hn⟩ (Nat.zero_mod _)) _).trans ((prod_blk m c ⟨0, hn⟩ a x).trans ?_)
    simp
  | succ n ih =>
    intro hn a x
    by_cases h : (n + 1) % 11 = 0
    · refine (congrFun (first m c ⟨n + 1, hn⟩ h) _).trans ((prod_blk m c ⟨n + 1, hn⟩ a x).trans ?_)
      simp [h]
    · have e1 : (n + 1) / 11 = n / 11 := by omega
      have e2 : (n + 1) / 11 % 1 = n / 11 % 1 := by omega
      have e3 : (n + 1) % 11 = n % 11 + 1 := by omega
      refine (congrFun (later m c ⟨n + 1, hn⟩ h n (Nat.lt_of_succ_lt hn) rfl) _).trans ?_
      rw [e1, e3, Finset.sum_range_succ _ (n % 11 + 1)]
      refine congrArg₂ (fun a b : EReal => a + b) (ih (Nat.lt_of_succ_lt hn) a x) ((prod_blk m c ⟨n + 1, hn⟩ a x).trans ?_)
      show part m c (rI ((n + 1) / 11) a) (cJ ((n + 1) / 11 % 1) x) ((n + 1) % 11) = _
      rw [e1, e3]

/-- What the last block of an entry leaves in the result. -/
theorem last (c : Dev nD) (t : Fin cfg0.N) (h2 : t.val % 11 = 10) (a : Fin 1024) (x : Fin 1024) :
    (outsAt0 m c t.val t.isLt).1 (ix2 a x)
      = (∑ b ∈ Finset.range 11, part m c (rI (t.val / 11) a) (cJ (t.val / 11 % 1) x) b) := by
  have h : ¬t.val % 11 = 0 := by omega
  have hk : t.val - 1 < cfg0.N := Nat.lt_of_le_of_lt (Nat.sub_le _ _) t.isLt
  have s := state m c t.val t.isLt a x
  rw [h2] at s
  have s' := congrFun (snd_eq (outsAt0_C m c t h (by omega) h2) (sout0_C_0_eq ..)) (ix2 a x)
  refine (congrFun (fst_eq (outsAt0_C m c t h (by omega) h2) (out0_C_2_eq ..)) (ix2 a x)).trans ?_
  rw [← s, s']

open Cert.DhgIdeal.Value

/-- The result array at every index. -/
theorem out (c : Dev nD) (i : Fin 4096) (x : Fin 1024) :
    G2 m c (ix2 i x) = (∑ k : Fin 2816, term m c i x k) := by
  have hp : pt2Of (ix2 i x) = 11 * (1 * (i.val / 1024) + x.val / 1024) + 10 := by
    show 11 * (1 * (i.val / 1024 - 0) + 1 * (x.val / 1024 - 0)) + 10 = _; omega
  have hn : pt2Of (ix2 i x) < cfg0.N := by rw [hp, show cfg0.N = 44 from N_0]; omega
  have hl : loc2Of (ix2 i x) = ix2 (⟨i.val % 1024, Nat.mod_lt _ (by decide)⟩ : Fin 1024) (⟨x.val % 1024, Nat.mod_lt _ (by decide)⟩ : Fin 1024) := by
    funext a; apply Fin.ext
    match a with
    | ⟨0, _⟩ => rfl
    | ⟨1, _⟩ => rfl
  have hs := last m c ⟨pt2Of (ix2 i x), hn⟩ (by show pt2Of (ix2 i x) % 11 = 10; omega) (⟨i.val % 1024, Nat.mod_lt _ (by decide)⟩ : Fin 1024) (⟨x.val % 1024, Nat.mod_lt _ (by decide)⟩ : Fin 1024)
  have ei : rI (pt2Of (ix2 i x) / 11) (⟨i.val % 1024, Nat.mod_lt _ (by decide)⟩ : Fin 1024) = i :=
    Fin.ext (show (1024 * (pt2Of (ix2 i x) / 11) + i.val % 1024) % 4096 = i.val by omega)
  have ex : cJ (pt2Of (ix2 i x) / 11 % 1) (⟨x.val % 1024, Nat.mod_lt _ (by decide)⟩ : Fin 1024) = x :=
    Fin.ext (show (1024 * (pt2Of (ix2 i x) / 11 % 1) + x.val % 1024) % 1024 = x.val by omega)
  dsimp only at hs
  rw [ei, ex, outsAt0_sweep m c _ hn, ← hl] at hs
  unfold G2
  rw [dif_pos hn]
  refine hs.trans ?_
  unfold part
  rw [show ∑ b ∈ Finset.range 11, ∑ r : Fin 256, term m c i x (kB b r) = ∑ k : Fin 2816, term m c i x k from
    sum_blocks 11 256 2816 (by decide) (by decide) (fun k => term m c i x k)]

/-! The operands are the arguments. -/

def g0 (c : Dev nD) : Vec Ideal S4096x2816 .f32 := m (c, Proc.tc.devRef main_arg0)
def g1 (c : Dev nD) : Vec Ideal S1024x2816 .f32 := m (c, Proc.tc.devRef main_arg1)

theorem aA_eq (c : Dev nD) : aA m c = V m c main_v0 := rfl

theorem aA_at (c : Dev nD) (a : Fin 4096) (b : Fin 2816) : aA m c (ix2 a b) = g0 m c (ix2 a b) := by
  rw [aA_eq]
  simp only [g0]
  unfold_abbrev_sides
  after_reads_at

theorem aB_eq (c : Dev nD) : aB m c = V m c main_v1 := rfl

theorem aB_at (c : Dev nD) (a : Fin 1024) (b : Fin 2816) : aB m c (ix2 a b) = g1 m c (ix2 a b) := by
  rw [aB_eq]
  simp only [g1]
  unfold_abbrev_sides
  after_reads_at

/-- The reference's result at an index. -/
theorem ref_at (y0 : Vec Ideal S4096x2816 .f32) (y1 : Vec Ideal S1024x2816 .f32) (i : Fin 4096) (x : Fin 1024) :
    Cert.DhgReferenceIdeal.Read.val_main_v2 (F := Ideal) y0 y1 (ix2 i x) = ∑ k : Fin 2816, (y0 (ix2 i k) : EReal) * (y1 (ix2 x k) : EReal) := by
  unfold Cert.DhgReferenceIdeal.Read.val_main_v2
  pointwise

/-- What the kernel leaves is what the reference gives. -/
theorem terms_eq (c : Dev nD) (i : Fin 4096) (x : Fin 1024) :
    (((∑ k : Fin 2816, term m c i x k) : EReal)) = ∑ k : Fin 2816, (g0 m c (ix2 i k) : EReal) * (g1 m c (ix2 x k) : EReal) := by
  unfold term
  simp only [aA_at, aB_at]

theorem same_at (c : Dev nD) (i : Fin 4096) (x : Fin 1024) :
    Cert.DhgReferenceIdeal.Read.val_main_v2 (F := Ideal) (g0 m c) (g1 m c) (ix2 i x) = G2 m c (ix2 i x : S4096x1024.Idx) :=
  (ref_at (g0 m c) (g1 m c) i x).trans ((out m c i x).trans (terms_eq m c i x)).symm

theorem same (c : Dev nD) : Cert.DhgReferenceIdeal.Read.val_main_v2 (F := Ideal) (g0 m c) (g1 m c) = G2 m c := by
  funext j
  rw [eq_ix2 j]
  exact same_at m c (j 0) (j 1)

end Cert.DhgIdeal.Prod
-- ==== Proof.Dhu.lean ====
module

public import proofs.«01_k».proof.Proof.Gen.DhuIdeal.Value
public import proofs.«01_k».proof.Proof.Gen.DhuReferenceIdeal.Run
public import proofs.«01_k».proof.Proof.Gen.DhuReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the feed-forward layer: the gradient of the hidden state, what came through the gate and the product of the cotangent and the transposed weight.
The kernel adds it up in a scratch, block by block of the summed axis. -/

namespace Cert.DhuIdeal.Prod

open Cert.DhuIdeal Cert.DhuIdeal.Gen Idealize.ShloMosaic Idealize.ShloMosaic.TcCoe Cert.Sums

/-- The product of two blocks. -/
def prod (u : Vec Ideal S1024x256 .bf16) (v : Vec Ideal S1024x256 .bf16) : Vec Ideal S1024x1024 .f32 :=
  fun y => ∑ r : Fin 256, (u (ix2 (y 0) r) : EReal) * (v (ix2 (y 1) r) : EReal)

theorem prod_at (u : Vec Ideal S1024x256 .bf16) (v : Vec Ideal S1024x256 .bf16) (a : Fin 1024) (x : Fin 1024) :
    prod u v (ix2 a x) = ∑ r : Fin 256, (u (ix2 a r) : EReal) * (v (ix2 x r) : EReal) := rfl

theorem pay1_at (u : Vec Ideal S1024x256 .bf16) (v : Vec Ideal S1024x256 .bf16) (a : Fin 1024) (x : Fin 1024) :
    k0_pay1 u v (ix2 a x) = ∑ r : Fin 256, (u (ix2 a r) : EReal) * (v (ix2 x r) : EReal) := by
  pointwise [k0_pay1]

theorem pay1_eq (u : Vec Ideal S1024x256 .bf16) (v : Vec Ideal S1024x256 .bf16) : k0_pay1 u v = prod u v := by
  funext y; rw [eq_ix2 y]; exact pay1_at u v (y 0) (y 1)

theorem pay2_eq (u : Vec Ideal S1024x256 .bf16) (v : Vec Ideal S1024x256 .bf16) : k0_pay2 u v = prod u v := by
  rw [← pay1_eq]; funext y; pointwise [k0_pay2]

theorem pay3_eq (u : Vec Ideal S1024x256 .bf16) (v : Vec Ideal S1024x256 .bf16) (s : Vec Ideal S1024x1024 .f32) :
    k0_pay3 u v s = fun y => (s y + prod u v y : EReal) := by
  rw [← pay1_eq]; funext y; pointwise [k0_pay3]

theorem pay4_eq (s : Vec Ideal S1024x1024 .f32) (x2 : Vec Ideal S1024x1024 .f32) :
    k0_pay4 s x2 = fun y => (s y + x2 y : EReal) := by
  funext y; pointwise [k0_pay4]

theorem sout0_A_0_eq (c : Dev nD) (i : grid0.Coords) (a3 : Memref sig .tc .vmem S1024x256 .bf16) (ha3 : a3.IsWhole) (a4 : Memref sig .tc .vmem S1024x256 .bf16) (ha4 : a4.IsWhole) (a5 : Memref sig .tc .vmem S1024x1024 .f32) (ha5 : a5.IsWhole) (a6 : Memref sig .tc .vmem S1024x1024 .f32) (ha6 : a6.IsWhole) (a7 : Memref sig .tc .vmem S1024x1024 .f32) (ha7 : a7.IsWhole) (hc0 : cond0_0 i) (hc1 : ¬cond0_1 i) (hc2 : ¬cond0_2 i)
    (x0 : Vec Ideal S1024x256 .bf16) (x1 : Vec Ideal S1024x256 .bf16) (x2 : Vec Ideal S1024x1024 .f32) :
    sout0_A_0 c i a3 ha3 a4 ha4 a5 ha5 a6 ha6 a7 ha7 hc0 hc1 hc2 x0 x1 x2 = prod x0 x1 := by
  unfold sout0_A_0
  rw [View.read_writes_eq_canon _ _ _ (scover0_A_0 c i a3 ha3 a4 ha4 a5 ha5 a6 ha6 a7 ha7 hc0 hc1 hc2 x0 x1 x2)]
  unfold kernelRun0_A
  dsimp only
  sl_unfold_words
  simp only [View.readAt_eq_ld, ha3.read_unread, ha4.read_unread, ha5.read_unread, ha6.read_unread, ha7.read_unread, View.ld_unit_zero (S := S1024x1024) hz2, View.ld_unit_zero (S := S1024x256) hz2]
  rw [View.canon_cons_unit_zero hz2]
  exact pay2_eq ..

theorem sout0_B_0_eq (c : Dev nD) (i : grid0.Coords) (a3 : Memref sig .tc .vmem S1024x256 .bf16) (ha3 : a3.IsWhole) (a4 : Memref sig .tc .vmem S1024x256 .bf16) (ha4 : a4.IsWhole) (a5 : Memref sig .tc .vmem S1024x1024 .f32) (ha5 : a5.IsWhole) (a6 : Memref sig .tc .vmem S1024x1024 .f32) (ha6 : a6.IsWhole) (a7 : Memref sig .tc .vmem S1024x1024 .f32) (ha7 : a7.IsWhole) (hc0 : ¬cond0_0 i) (hc1 : cond0_1 i) (hc2 : ¬cond0_2 i)
    (x0 : Vec Ideal S1024x256 .bf16) (x1 : Vec Ideal S1024x256 .bf16) (x2 : Vec Ideal S1024x1024 .f32) (xs0 : Vec Ideal S1024x1024 .f32) :
    sout0_B_0 c i a3 ha3 a4 ha4 a5 ha5 a6 ha6 a7 ha7 hc0 hc1 hc2 x0 x1 x2 xs0 = fun y => (xs0 y + prod x0 x1 y : EReal) := by
  unfold sout0_B_0
  rw [View.read_writes_eq_canon _ _ _ (scover0_B_0 c i a3 ha3 a4 ha4 a5 ha5 a6 ha6 a7 ha7 hc0 hc1 hc2 x0 x1 x2 xs0)]
  unfold kernelRun0_B
  dsimp only
  sl_unfold_words
  simp only [View.readAt_eq_ld, ha3.read_unread, ha4.read_unread, ha5.read_unread, ha6.read_unread, ha7.read_unread, View.ld_unit_zero (S := S1024x1024) hz2, View.ld_unit_zero (S := S1024x256) hz2]
  rw [View.canon_cons_unit_zero hz2]
  exact pay3_eq ..

theorem sout0_C_0_eq (c : Dev nD) (i : grid0.Coords) (a3 : Memref sig .tc .vmem S1024x256 .bf16) (ha3 : a3.IsWhole) (a4 : Memref sig .tc .vmem S1024x256 .bf16) (ha4 : a4.IsWhole) (a5 : Memref sig .tc .vmem S1024x1024 .f32) (ha5 : a5.IsWhole) (a6 : Memref sig .tc .vmem S1024x1024 .f32) (ha6 : a6.IsWhole) (a7 : Memref sig .tc .vmem S1024x1024 .f32) (ha7 : a7.IsWhole) (hc0 : ¬cond0_0 i) (hc1 : cond0_1 i) (hc2 : cond0_2 i)
    (x0 : Vec Ideal S1024x256 .bf16) (x1 : Vec Ideal S1024x256 .bf16) (x2 : Vec Ideal S1024x1024 .f32) (xs0 : Vec Ideal S1024x1024 .f32) :
    sout0_C_0 c i a3 ha3 a4 ha4 a5 ha5 a6 ha6 a7 ha7 hc0 hc1 hc2 x0 x1 x2 xs0 = fun y => (xs0 y + prod x0 x1 y : EReal) := by
  unfold sout0_C_0
  rw [View.read_writes_eq_canon _ _ _ (scover0_C_0 c i a3 ha3 a4 ha4 a5 ha5 a6 ha6 a7 ha7 hc0 hc1 hc2 x0 x1 x2 xs0)]
  unfold kernelRun0_C
  dsimp only
  sl_unfold_words
  simp only [View.readAt_eq_ld, ha3.read_unread, ha4.read_unread, ha5.read_unread, ha6.read_unread, ha7.read_unread, View.ld_unit_zero (S := S1024x1024) hz2, View.ld_unit_zero (S := S1024x256) hz2]
  rw [View.canon_cons_unit_zero hz2]
  exact pay3_eq ..

theorem out0_C_3_eq (c : Dev nD) (i : grid0.Coords) (a3 : Memref sig .tc .vmem S1024x256 .bf16) (ha3 : a3.IsWhole) (a4 : Memref sig .tc .vmem S1024x256 .bf16) (ha4 : a4.IsWhole) (a5 : Memref sig .tc .vmem S1024x1024 .f32) (ha5 : a5.IsWhole) (a6 : Memref sig .tc .vmem S1024x1024 .f32) (ha6 : a6.IsWhole) (a7 : Memref sig .tc .vmem S1024x1024 .f32) (ha7 : a7.IsWhole) (hc0 : ¬cond0_0 i) (hc1 : cond0_1 i) (hc2 : cond0_2 i)
    (x0 : Vec Ideal S1024x256 .bf16) (x1 : Vec Ideal S1024x256 .bf16) (x2 : Vec Ideal S1024x1024 .f32) (xs0 : Vec Ideal S1024x1024 .f32) :
    out0_C_3 c i a3 ha3 a4 ha4 a5 ha5 a6 ha6 a7 ha7 hc0 hc1 hc2 x0 x1 x2 xs0 = fun y => (xs0 y + prod x0 x1 y + x2 y : EReal) := by
  unfold out0_C_3
  rw [View.read_writes_eq_canon _ _ _ (cover0_C_3 c i a3 ha3 a4 ha4 a5 ha5 a6 ha6 a7 ha7 hc0 hc1 hc2 x0 x1 x2 xs0)]
  unfold kernelRun0_C
  dsimp only
  sl_unfold_words
  simp only [View.readAt_eq_ld, ha3.read_unread, ha4.read_unread, ha5.read_unread, ha6.read_unread, ha7.read_unread, View.ld_unit_zero (S := S1024x1024) hz2, View.ld_unit_zero (S := S1024x256) hz2]
  rw [View.canon_cons_unit_zero hz2, View.readCov_unit_zero _ hz2]
  exact (pay4_eq ..).trans (by rw [pay3_eq])

/-! Which block each window reads at a grid point. -/

theorem tlt (t : Fin cfg0.N) : t.val < 44 := lt_of_lt_of_eq t.isLt (show cfg0.N = 44 from N_0)

/-- Block `b`'s rows of the result, its columns, and its part of the summed axis. -/
def rI (b : ℕ) (r : Fin 1024) : Fin 4096 := ⟨(1024 * b + r.val) % 4096, Nat.mod_lt _ (by decide)⟩
def cJ (b : ℕ) (r : Fin 1024) : Fin 1024 := ⟨(1024 * b + r.val) % 1024, Nat.mod_lt _ (by decide)⟩
def kB (b : ℕ) (r : Fin 256) : Fin 2816 := ⟨(256 * b + r.val) % 2816, Nat.mod_lt _ (by decide)⟩

variable (m : (ℓ : Loc nD τ sig) → Buf (Elt Ideal) ℓ)

/-- Operand 0, as the kernel's window names it. -/
def aA (c : Dev nD) : Vec Ideal S4096x2816 .bf16 := V m c (Pipeline.arrRef spec0 0)

theorem index0 : ∀ t : Fin cfg0.N, win0_0.index t (0 : Fin 2) = t.val / 11 ∧ win0_0.index t (1 : Fin 2) = t.val % 11 := by decide +kernel

theorem rd0 (A : S4096x2816.Idx → EReal) (t : Fin cfg0.N) (y : S1024x256.Idx) :
    (((cfg0.win 0).blk t).view.read (Elt Ideal) A) y = A (((cfg0.win 0).blk t).view.emb y) := rfl

theorem emb0 (t : Fin cfg0.N) (a : Fin 1024) (b : Fin 256) :
    ((cfg0.win 0).blk t).view.emb (ix2 a b : S1024x256.Idx) = (ix2 (rI (t.val / 11) a) (kB (t.val % 11) b) : S4096x2816.Idx) := by
  have ht := tlt t
  have h0 : win0_0.index t 0 * 1024 + 1 * a.val = (1024 * (t.val / 11) + a.val) % 4096 := by rw [(index0 t).1]; omega
  have h1 : win0_0.index t 1 * 256 + 1 * b.val = (256 * (t.val % 11) + b.val) % 2816 := by rw [(index0 t).2]; omega
  funext x; apply Fin.ext
  match x with
  | ⟨0, _⟩ => exact h0
  | ⟨1, _⟩ => exact h1

theorem blk0 (c : Dev nD) (t : Fin cfg0.N) (a : Fin 1024) (b : Fin 256) :
    (iblk m c 0 t : Vec Ideal S1024x256 .bf16) (ix2 a b) = aA m c (ix2 (rI (t.val / 11) a) (kB (t.val % 11) b)) :=
  (rd0 (aA m c) t (ix2 a b)).trans (congrArg (aA m c) (emb0 t a b))

/-- Operand 1, as the kernel's window names it. -/
def aB (c : Dev nD) : Vec Ideal S1024x2816 .bf16 := V m c (Pipeline.arrRef spec0 1)

theorem index1 : ∀ t : Fin cfg0.N, win0_1.index t (0 : Fin 2) = t.val / 11 % 1 ∧ win0_1.index t (1 : Fin 2) = t.val % 11 := by decide +kernel

theorem rd1 (A : S1024x2816.Idx → EReal) (t : Fin cfg0.N) (y : S1024x256.Idx) :
    (((cfg0.win 1).blk t).view.read (Elt Ideal) A) y = A (((cfg0.win 1).blk t).view.emb y) := rfl

theorem emb1 (t : Fin cfg0.N) (a : Fin 1024) (b : Fin 256) :
    ((cfg0.win 1).blk t).view.emb (ix2 a b : S1024x256.Idx) = (ix2 (cJ (t.val / 11 % 1) a) (kB (t.val % 11) b) : S1024x2816.Idx) := by
  have ht := tlt t
  have h0 : win0_1.index t 0 * 1024 + 1 * a.val = (1024 * (t.val / 11 % 1) + a.val) % 1024 := by rw [(index1 t).1]; omega
  have h1 : win0_1.index t 1 * 256 + 1 * b.val = (256 * (t.val % 11) + b.val) % 2816 := by rw [(index1 t).2]; omega
  funext x; apply Fin.ext
  match x with
  | ⟨0, _⟩ => exact h0
  | ⟨1, _⟩ => exact h1

theorem blk1 (c : Dev nD) (t : Fin cfg0.N) (a : Fin 1024) (b : Fin 256) :
    (iblk m c 1 t : Vec Ideal S1024x256 .bf16) (ix2 a b) = aB m c (ix2 (cJ (t.val / 11 % 1) a) (kB (t.val % 11) b)) :=
  (rd1 (aB m c) t (ix2 a b)).trans (congrArg (aB m c) (emb1 t a b))

/-- Operand 2, as the kernel's window names it. -/
def aR (c : Dev nD) : Vec Ideal S4096x1024 .f32 := V m c (Pipeline.arrRef spec0 2)

theorem index2 : ∀ t : Fin cfg0.N, win0_2.index t (0 : Fin 2) = t.val / 11 ∧ win0_2.index t (1 : Fin 2) = t.val / 11 % 1 := by decide +kernel

theorem rd2 (A : S4096x1024.Idx → EReal) (t : Fin cfg0.N) (y : S1024x1024.Idx) :
    (((cfg0.win 2).blk t).view.read (Elt Ideal) A) y = A (((cfg0.win 2).blk t).view.emb y) := rfl

theorem emb2 (t : Fin cfg0.N) (a : Fin 1024) (b : Fin 1024) :
    ((cfg0.win 2).blk t).view.emb (ix2 a b : S1024x1024.Idx) = (ix2 (rI (t.val / 11) a) (cJ (t.val / 11 % 1) b) : S4096x1024.Idx) := by
  have ht := tlt t
  have h0 : win0_2.index t 0 * 1024 + 1 * a.val = (1024 * (t.val / 11) + a.val) % 4096 := by rw [(index2 t).1]; omega
  have h1 : win0_2.index t 1 * 1024 + 1 * b.val = (1024 * (t.val / 11 % 1) + b.val) % 1024 := by rw [(index2 t).2]; omega
  funext x; apply Fin.ext
  match x with
  | ⟨0, _⟩ => exact h0
  | ⟨1, _⟩ => exact h1

theorem blk2 (c : Dev nD) (t : Fin cfg0.N) (a : Fin 1024) (b : Fin 1024) :
    (iblk m c 2 t : Vec Ideal S1024x1024 .f32) (ix2 a b) = aR m c (ix2 (rI (t.val / 11) a) (cJ (t.val / 11 % 1) b)) :=
  (rd2 (aR m c) t (ix2 a b)).trans (congrArg (aR m c) (emb2 t a b))

/-- One term of the product of the whole operands. -/
def term (c : Dev nD) (i : Fin 4096) (x : Fin 1024) (k : Fin 2816) : EReal := aA m c (ix2 i k) * aB m c (ix2 x k)

/-- Block `b`'s part of an entry. -/
def part (c : Dev nD) (i : Fin 4096) (x : Fin 1024) (b : ℕ) : EReal := ∑ r : Fin 256, term m c i x (kB b r)

theorem prod_blk (c : Dev nD) (t : Fin cfg0.N) (a : Fin 1024) (x : Fin 1024) :
    prod (iblk m c 0 t) (iblk m c 1 t) (ix2 a x) = part m c (rI (t.val / 11) a) (cJ (t.val / 11 % 1) x) (t.val % 11) := by
  rw [prod_at]
  unfold part term
  simp only [blk0, blk1]

theorem snd_eq {A B : Type} {p : A × B} {a : A} {b b' : B} (h : p = (a, b)) (hb : b = b') : p.2 = b' := by
  subst h; exact hb
theorem fst_eq {A B : Type} {p : A × B} {a a' : A} {b : B} (h : p = (a, b)) (ha : a = a') : p.1 = a' := by
  subst h; exact ha

theorem first (c : Dev nD) (t : Fin cfg0.N) (h : t.val % 11 = 0) :
    (outsAt0 m c t.val t.isLt).2 = prod (iblk m c 0 t) (iblk m c 1 t) :=
  snd_eq (outsAt0_A m c t h (by omega) (by omega)) (sout0_A_0_eq ..)

theorem later (c : Dev nD) (t : Fin cfg0.N) (h : ¬t.val % 11 = 0) (k : ℕ) (hk : k < cfg0.N) (ek : t.val - 1 = k) :
    (outsAt0 m c t.val t.isLt).2 = fun y => ((outsAt0 m c k hk).2 y + prod (iblk m c 0 t) (iblk m c 1 t) y : EReal) := by
  subst ek
  by_cases h2 : t.val % 11 = 10
  · exact snd_eq (outsAt0_C m c t h (by omega) h2) (sout0_C_0_eq ..)
  · exact snd_eq (outsAt0_B m c t h (by omega) h2) (sout0_B_0_eq ..)

/-- The scratch holds the blocks so far. -/
theorem state (c : Dev nD) : ∀ (n : ℕ) (hn : n < cfg0.N) (a : Fin 1024) (x : Fin 1024),
    (outsAt0 m c n hn).2 (ix2 a x) = ∑ b ∈ Finset.range (n % 11 + 1), part m c (rI (n / 11) a) (cJ (n / 11 % 1) x) b := by
  intro n
  induction n with
  | zero =>
    intro hn a x
    refine (congrFun (first m c ⟨0, hn⟩ (Nat.zero_mod _)) _).trans ((prod_blk m c ⟨0, hn⟩ a x).trans ?_)
    simp
  | succ n ih =>
    intro hn a x
    by_cases h : (n + 1) % 11 = 0
    · refine (congrFun (first m c ⟨n + 1, hn⟩ h) _).trans ((prod_blk m c ⟨n + 1, hn⟩ a x).trans ?_)
      simp [h]
    · have e1 : (n + 1) / 11 = n / 11 := by omega
      have e2 : (n + 1) / 11 % 1 = n / 11 % 1 := by omega
      have e3 : (n + 1) % 11 = n % 11 + 1 := by omega
      refine (congrFun (later m c ⟨n + 1, hn⟩ h n (Nat.lt_of_succ_lt hn) rfl) _).trans ?_
      rw [e1, e3, Finset.sum_range_succ _ (n % 11 + 1)]
      refine congrArg₂ (fun a b : EReal => a + b) (ih (Nat.lt_of_succ_lt hn) a x) ((prod_blk m c ⟨n + 1, hn⟩ a x).trans ?_)
      show part m c (rI ((n + 1) / 11) a) (cJ ((n + 1) / 11 % 1) x) ((n + 1) % 11) = _
      rw [e1, e3]

/-- What the last block of an entry leaves in the result. -/
theorem last (c : Dev nD) (t : Fin cfg0.N) (h2 : t.val % 11 = 10) (a : Fin 1024) (x : Fin 1024) :
    (outsAt0 m c t.val t.isLt).1 (ix2 a x)
      = (∑ b ∈ Finset.range 11, part m c (rI (t.val / 11) a) (cJ (t.val / 11 % 1) x) b) + aR m c (ix2 (rI (t.val / 11) a) (cJ (t.val / 11 % 1) x)) := by
  have h : ¬t.val % 11 = 0 := by omega
  have hk : t.val - 1 < cfg0.N := Nat.lt_of_le_of_lt (Nat.sub_le _ _) t.isLt
  have s := state m c t.val t.isLt a x
  rw [h2] at s
  have s' := congrFun (snd_eq (outsAt0_C m c t h (by omega) h2) (sout0_C_0_eq ..)) (ix2 a x)
  refine (congrFun (fst_eq (outsAt0_C m c t h (by omega) h2) (out0_C_3_eq ..)) (ix2 a x)).trans ?_
  rw [← s, s']
  refine congrArg _ (blk2 m c t a x)

open Cert.DhuIdeal.Value

/-- The result array at every index. -/
theorem out (c : Dev nD) (i : Fin 4096) (x : Fin 1024) :
    G3 m c (ix2 i x) = (∑ k : Fin 2816, term m c i x k) + aR m c (ix2 i x) := by
  have hp : pt3Of (ix2 i x) = 11 * (1 * (i.val / 1024) + x.val / 1024) + 10 := by
    show 11 * (1 * (i.val / 1024 - 0) + 1 * (x.val / 1024 - 0)) + 10 = _; omega
  have hn : pt3Of (ix2 i x) < cfg0.N := by rw [hp, show cfg0.N = 44 from N_0]; omega
  have hl : loc3Of (ix2 i x) = ix2 (⟨i.val % 1024, Nat.mod_lt _ (by decide)⟩ : Fin 1024) (⟨x.val % 1024, Nat.mod_lt _ (by decide)⟩ : Fin 1024) := by
    funext a; apply Fin.ext
    match a with
    | ⟨0, _⟩ => rfl
    | ⟨1, _⟩ => rfl
  have hs := last m c ⟨pt3Of (ix2 i x), hn⟩ (by show pt3Of (ix2 i x) % 11 = 10; omega) (⟨i.val % 1024, Nat.mod_lt _ (by decide)⟩ : Fin 1024) (⟨x.val % 1024, Nat.mod_lt _ (by decide)⟩ : Fin 1024)
  have ei : rI (pt3Of (ix2 i x) / 11) (⟨i.val % 1024, Nat.mod_lt _ (by decide)⟩ : Fin 1024) = i :=
    Fin.ext (show (1024 * (pt3Of (ix2 i x) / 11) + i.val % 1024) % 4096 = i.val by omega)
  have ex : cJ (pt3Of (ix2 i x) / 11 % 1) (⟨x.val % 1024, Nat.mod_lt _ (by decide)⟩ : Fin 1024) = x :=
    Fin.ext (show (1024 * (pt3Of (ix2 i x) / 11 % 1) + x.val % 1024) % 1024 = x.val by omega)
  dsimp only at hs
  rw [ei, ex, outsAt0_sweep m c _ hn, ← hl] at hs
  unfold G3
  rw [dif_pos hn]
  refine hs.trans ?_
  unfold part
  rw [show ∑ b ∈ Finset.range 11, ∑ r : Fin 256, term m c i x (kB b r) = ∑ k : Fin 2816, term m c i x k from
    sum_blocks 11 256 2816 (by decide) (by decide) (fun k => term m c i x k)]

/-! The operands are the arguments. -/

def g0 (c : Dev nD) : Vec Ideal S4096x2816 .f32 := m (c, Proc.tc.devRef main_arg0)
def g1 (c : Dev nD) : Vec Ideal S1024x2816 .f32 := m (c, Proc.tc.devRef main_arg1)
def g2 (c : Dev nD) : Vec Ideal S4096x1024 .f32 := m (c, Proc.tc.devRef main_arg2)

theorem aA_eq (c : Dev nD) : aA m c = V m c main_v0 := rfl

theorem aA_at (c : Dev nD) (a : Fin 4096) (b : Fin 2816) : aA m c (ix2 a b) = g0 m c (ix2 a b) := by
  rw [aA_eq]
  simp only [g0]
  unfold_abbrev_sides
  after_reads_at

theorem aB_eq (c : Dev nD) : aB m c = V m c main_v1 := rfl

theorem aB_at (c : Dev nD) (a : Fin 1024) (b : Fin 2816) : aB m c (ix2 a b) = g1 m c (ix2 a b) := by
  rw [aB_eq]
  simp only [g1]
  unfold_abbrev_sides
  after_reads_at

theorem aR_eq (c : Dev nD) : aR m c = V m c main_arg2 := rfl

theorem aR_at (c : Dev nD) (a : Fin 4096) (b : Fin 1024) : aR m c (ix2 a b) = g2 m c (ix2 a b) := by
  rw [aR_eq]
  simp only [g2]
  unfold_abbrev_sides
  after_reads_at

/-- The reference's result at an index. -/
theorem ref_at (y0 : Vec Ideal S4096x2816 .f32) (y1 : Vec Ideal S1024x2816 .f32) (y2 : Vec Ideal S4096x1024 .f32) (i : Fin 4096) (x : Fin 1024) :
    Cert.DhuReferenceIdeal.Read.val_main_v3 (F := Ideal) y0 y1 y2 (ix2 i x) = (y2 (ix2 i x) : EReal) + ∑ k : Fin 2816, (y0 (ix2 i k) : EReal) * (y1 (ix2 x k) : EReal) := by
  unfold Cert.DhuReferenceIdeal.Read.val_main_v3 Cert.DhuReferenceIdeal.Read.val_main_v2
  pointwise

/-- What the kernel leaves is what the reference gives. -/
theorem terms_eq (c : Dev nD) (i : Fin 4096) (x : Fin 1024) :
    (((∑ k : Fin 2816, term m c i x k) + aR m c (ix2 i x) : EReal)) = (g2 m c (ix2 i x) : EReal) + ∑ k : Fin 2816, (g0 m c (ix2 i k) : EReal) * (g1 m c (ix2 x k) : EReal) := by
  unfold term
  simp only [aA_at, aB_at, aR_at]
  exact add2 _ _

theorem same_at (c : Dev nD) (i : Fin 4096) (x : Fin 1024) :
    Cert.DhuReferenceIdeal.Read.val_main_v3 (F := Ideal) (g0 m c) (g1 m c) (g2 m c) (ix2 i x) = G3 m c (ix2 i x : S4096x1024.Idx) :=
  (ref_at (g0 m c) (g1 m c) (g2 m c) i x).trans ((out m c i x).trans (terms_eq m c i x)).symm

theorem same (c : Dev nD) : Cert.DhuReferenceIdeal.Read.val_main_v3 (F := Ideal) (g0 m c) (g1 m c) (g2 m c) = G3 m c := by
  funext j
  rw [eq_ix2 j]
  exact same_at m c (j 0) (j 1)

end Cert.DhuIdeal.Prod
-- ==== Proof.Gu.lean ====
module

public import proofs.«01_k».proof.Proof.Gen.GuIdeal.Value
public import proofs.«01_k».proof.Proof.Gen.GuReferenceIdeal.Run
public import proofs.«01_k».proof.Proof.Gen.GuReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the feed-forward layer: the gate and the up projection side by side, the product of the hidden state and the two weights side by side.
The kernel forms each block of the result at one grid point. -/

namespace Cert.GuIdeal.Prod

open Cert.GuIdeal Cert.GuIdeal.Gen Idealize.ShloMosaic Idealize.ShloMosaic.TcCoe Cert.Sums Idealize.SL.Sem

theorem pay1_at (u : Vec Ideal S1024x1024 .bf16) (v : Vec Ideal S1024x1408 .bf16) (a : Fin 1024) (x : Fin 1408) :
    k0_pay1 u v (ix2 a x) = (∑ r : Fin 1024, (u (ix2 a r) : EReal) * (v (ix2 r x) : EReal)) := by
  pointwise [k0_pay1]

theorem out_eq (u : Vec Ideal S1024x1024 .bf16) (v : Vec Ideal S1024x1408 .bf16) : out0_2 u v = k0_pay1 u v := by
  unfold out0_2
  rw [View.canon_cons_unit_zero hz2, View.ld_unit_zero (S := S1024x1024) hz2, View.ld_unit_zero (S := S1024x1408) hz2]

/-! Which block each window reads at a grid point. -/

theorem tlt (t : Fin cfg0.N) : t.val < 16 := lt_of_lt_of_eq t.isLt (show cfg0.N = 16 from N_0)

/-- Block `b`'s rows of the result and its columns. -/
def rI (b : ℕ) (r : Fin 1024) : Fin 4096 := ⟨(1024 * b + r.val) % 4096, Nat.mod_lt _ (by decide)⟩
def cJ (b : ℕ) (r : Fin 1408) : Fin 5632 := ⟨(1408 * b + r.val) % 5632, Nat.mod_lt _ (by decide)⟩

variable (m : (ℓ : Loc nD τ sig) → Buf (Elt Ideal) ℓ)

/-- Operand 0, as the kernel's window names it. -/
def aA (c : Dev nD) : Vec Ideal S4096x1024 .bf16 := V m c (Pipeline.arrRef spec0 0)

theorem index0 : ∀ t : Fin cfg0.N, win0_0.index t (0 : Fin 2) = t.val / 4 ∧ win0_0.index t (1 : Fin 2) = 0 := by decide +kernel

theorem rd0 (A : S4096x1024.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (rI (t.val / 4) a) b : S4096x1024.Idx) := by
  have ht := tlt t
  have h0 : win0_0.index t 0 * 1024 + 1 * a.val = (1024 * (t.val / 4) + a.val) % 4096 := by rw [(index0 t).1]; omega
  have h1 : win0_0.index t 1 * 1024 + 1 * b.val = b.val := by rw [(index0 t).2, Nat.zero_mul, Nat.zero_add, Nat.one_mul]
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .bf16) (ix2 a b) = aA m c (ix2 (rI (t.val / 4) a) b) :=
  (rd0 (aA m c) t (ix2 a b)).trans (congrArg (aA m c) (emb0 t a b))

/-- Operand 1, as the kernel's window names it. -/
def aB (c : Dev nD) : Vec Ideal S1024x5632 .bf16 := V m c (Pipeline.arrRef spec0 1)

theorem index1 : ∀ t : Fin cfg0.N, win0_1.index t (0 : Fin 2) = 0 ∧ win0_1.index t (1 : Fin 2) = t.val % 4 := by decide +kernel

theorem rd1 (A : S1024x5632.Idx → EReal) (t : Fin cfg0.N) (y : S1024x1408.Idx) :
    (((cfg0.win 1).blk t).view.read (Elt Ideal) A) y = A (((cfg0.win 1).blk t).view.emb y) := rfl

theorem emb1 (t : Fin cfg0.N) (a : Fin 1024) (b : Fin 1408) :
    ((cfg0.win 1).blk t).view.emb (ix2 a b : S1024x1408.Idx) = (ix2 a (cJ (t.val % 4) b) : S1024x5632.Idx) := by
  have ht := tlt t
  have h0 : win0_1.index t 0 * 1024 + 1 * a.val = a.val := by rw [(index1 t).1, Nat.zero_mul, Nat.zero_add, Nat.one_mul]
  have h1 : win0_1.index t 1 * 1408 + 1 * b.val = (1408 * (t.val % 4) + b.val) % 5632 := by rw [(index1 t).2]; omega
  funext x; apply Fin.ext
  match x with
  | ⟨0, _⟩ => exact h0
  | ⟨1, _⟩ => exact h1

theorem blk1 (c : Dev nD) (t : Fin cfg0.N) (a : Fin 1024) (b : Fin 1408) :
    (iblk m c 1 t : Vec Ideal S1024x1408 .bf16) (ix2 a b) = aB m c (ix2 a (cJ (t.val % 4) b)) :=
  (rd1 (aB m c) t (ix2 a b)).trans (congrArg (aB m c) (emb1 t a b))

theorem index2 : ∀ t : Fin cfg0.N, win0_2.index t (0 : Fin 2) = t.val / 4 ∧ win0_2.index t (1 : Fin 2) = t.val % 4 := by decide +kernel

theorem rd2 (A : S4096x5632.Idx → EReal) (t : Fin cfg0.N) (y : S1024x1408.Idx) :
    (((cfg0.win 2).blk t).view.read (Elt Ideal) A) y = A (((cfg0.win 2).blk t).view.emb y) := rfl

theorem emb2 (t : Fin cfg0.N) (a : Fin 1024) (b : Fin 1408) :
    ((cfg0.win 2).blk t).view.emb (ix2 a b : S1024x1408.Idx) = (ix2 (rI (t.val / 4) a) (cJ (t.val % 4) b) : S4096x5632.Idx) := by
  have ht := tlt t
  have h0 : win0_2.index t 0 * 1024 + 1 * a.val = (1024 * (t.val / 4) + a.val) % 4096 := by rw [(index2 t).1]; omega
  have h1 : win0_2.index t 1 * 1408 + 1 * b.val = (1408 * (t.val % 4) + b.val) % 5632 := by rw [(index2 t).2]; omega
  funext x; apply Fin.ext
  match x with
  | ⟨0, _⟩ => exact h0
  | ⟨1, _⟩ => exact h1

/-- One term of the product of the whole operands. -/
def term (c : Dev nD) (i : Fin 4096) (x : Fin 5632) (k : Fin 1024) : EReal := aA m c (ix2 i k) * aB m c (ix2 k x)

/-- An entry of the result, and the result. -/
def entry (c : Dev nD) (i : Fin 4096) (x : Fin 5632) : EReal := (∑ k : Fin 1024, term m c i x k)
def G (c : Dev nD) : Buf (Elt Ideal) ((c : Thread nD τ).loc main_v3) := fun i : S4096x5632.Idx => entry m c (i 0) (i 1)

theorem G_at (c : Dev nD) (i : Fin 4096) (x : Fin 5632) : G m c (ix2 i x : S4096x5632.Idx) = entry m c i x := rfl

theorem out_blk (c : Dev nD) (t : Fin cfg0.N) (a : Fin 1024) (x : Fin 1408) :
    out0_2 (iblk m c 0 t) (iblk m c 1 t) (ix2 a x) = entry m c (rI (t.val / 4) a) (cJ (t.val % 4) x) := by
  rw [out_eq]
  refine (pay1_at _ _ a x).trans ?_
  unfold entry term
  simp only [blk0, blk1]

/-- What a grid point writes back is its block of the result. -/
theorem flushed (c : Dev nD) (t : Fin cfg0.N) :
    (dats m 0 c).flushed 2 t = ((cfg0.win 2).blk t).view.read (Elt Ideal) (G m c) := by
  rw [Value.flushed2]
  funext y
  have hx : (cfg0.win 2).xinj (grid0.coords t) y = (ix2 (⟨(y 0).val, (y 0).isLt⟩ : Fin 1024) (⟨(y 1).val, (y 1).isLt⟩ : Fin 1408) : S1024x1408.Idx) := by
    funext a; apply Fin.ext
    match a with
    | ⟨0, _⟩ => rfl
    | ⟨1, _⟩ => rfl
  have hy : ((cfg0.win 2).blk t).view.emb y = (ix2 (rI (t.val / 4) (⟨(y 0).val, (y 0).isLt⟩ : Fin 1024)) (cJ (t.val % 4) (⟨(y 1).val, (y 1).isLt⟩ : Fin 1408)) : S4096x5632.Idx) :=
    (congrArg _ hx).trans (emb2 t _ _)
  show out0_2 (iblk m c 0 t) (iblk m c 1 t) ((cfg0.win 2).xinj (grid0.coords t) y) = G m c (((cfg0.win 2).blk t).view.emb y)
  rw [hx]
  exact (out_blk m c t _ _).trans (congrArg (G m c) hy).symm

/-- Every index is in the block that some point writes back. -/
theorem covered (i : S4096x5632.Idx) : ∃ t : Fin cfg0.N, (cfg0.win 2).flush t = true ∧ i ∈ ((cfg0.win 2).blk t).view.set := by
  have hi0 : (i 0).val < 4096 := (i 0).isLt
  have hi1 : (i 1).val < 5632 := (i 1).isLt
  have hn : 4 * ((i 0).val / 1024) + (i 1).val / 1408 < cfg0.N := by rw [show cfg0.N = 16 from N_0]; omega
  refine ⟨⟨_, hn⟩, flush0_2 _, ?_⟩
  obtain ⟨q0, q1⟩ := index2 ⟨_, hn⟩
  dsimp only at q0 q1
  show i ∈ ((View.whole main_v3).slice (win0_2.rect ⟨_, hn⟩)).set
  rw [View.set_slice_whole, Rect.mem_set_unit]
  intro a
  match a with
  | ⟨0, _⟩ => show win0_2.index ⟨_, hn⟩ (0 : Fin 2) * 1024 ≤ (i 0).val ∧ (i 0).val < win0_2.index ⟨_, hn⟩ (0 : Fin 2) * 1024 + 1024; omega
  | ⟨1, _⟩ => show win0_2.index ⟨_, hn⟩ (1 : Fin 2) * 1408 ≤ (i 1).val ∧ (i 1).val < win0_2.index ⟨_, hn⟩ (1 : Fin 2) * 1408 + 1408; omega

/-- The result array after the run. -/
theorem final (c : Dev nD) : (dats m 0 c).arrAt 2 cfg0.N = G m c :=
  (dats m 0 c).arrAt_eq_of_cover 2 _ (fun t _ => flushed m c t) covered

/-! The operands are the arguments. -/

def g0 (c : Dev nD) : Vec Ideal S4096x1024 .f32 := m (c, Proc.tc.devRef main_arg0)
def g1 (c : Dev nD) : Vec Ideal S1024x2816 .f32 := m (c, Proc.tc.devRef main_arg1)
def g2 (c : Dev nD) : Vec Ideal S1024x2816 .f32 := m (c, Proc.tc.devRef main_arg2)

theorem aA_eq (c : Dev nD) : aA m c = V m c main_v2 := rfl

theorem aA_at (c : Dev nD) (a : Fin 4096) (b : Fin 1024) : aA m c (ix2 a b) = g0 m c (ix2 a b) := by
  rw [aA_eq]
  simp only [g0]
  unfold_abbrev_sides
  after_reads_at

theorem aB_eq (c : Dev nD) : aB m c = V m c main_v1 := rfl

theorem aB_at (c : Dev nD) (a : Fin 1024) (b : Fin 5632) : aB m c (ix2 a b) =
    (if h : b.val < 2816 then g1 m c (ix2 a (⟨b.val, h⟩ : Fin 2816)) else g2 m c (ix2 a (⟨b.val - 2816, by omega⟩ : Fin 2816)) : EReal) := by
  rw [aB_eq]
  simp only [g1, g2]
  unfold_abbrev_sides
  after_reads_at
  split_ifs <;> rfl

/-- The reference's result at an index. -/
theorem ref_at (y0 : Vec Ideal S4096x1024 .f32) (y1 : Vec Ideal S1024x2816 .f32) (y2 : Vec Ideal S1024x2816 .f32) (i : Fin 4096) (x : Fin 5632) :
    Cert.GuReferenceIdeal.Read.val_main_v2 (F := Ideal) y0 y1 y2 (ix2 i x) =
      if h : x.val < 2816 then ∑ k : Fin 1024, (y0 (ix2 i k) : EReal) * (y1 (ix2 k (⟨x.val, h⟩ : Fin 2816)) : EReal)
        else ∑ k : Fin 1024, (y0 (ix2 i k) : EReal) * (y2 (ix2 k (⟨x.val - 2816, by omega⟩ : Fin 2816)) : EReal) := by
  unfold Cert.GuReferenceIdeal.Read.val_main_v2 Cert.GuReferenceIdeal.Read.val_main_v1 Cert.GuReferenceIdeal.Read.val_main_v0
  pointwise

/-- The reference's array is the kernel's. -/
theorem same_at (c : Dev nD) (i : Fin 4096) (x : Fin 5632) :
    Cert.GuReferenceIdeal.Read.val_main_v2 (F := Ideal) (g0 m c) (g1 m c) (g2 m c) (ix2 i x) = G m c (ix2 i x : S4096x5632.Idx) := by
  refine (ref_at (g0 m c) (g1 m c) (g2 m c) i x).trans ?_
  rw [G_at]
  unfold entry term
  simp only [aA_at, aB_at]
  split_ifs <;> rfl

theorem same (c : Dev nD) : Cert.GuReferenceIdeal.Read.val_main_v2 (F := Ideal) (g0 m c) (g1 m c) (g2 m c) = G m c := by
  funext j
  rw [eq_ix2 j]
  exact same_at m c (j 0) (j 1)

end Cert.GuIdeal.Prod
-- ==== Proof.Down.lean ====
module

public import proofs.«01_k».proof.Proof.Gen.DownIdeal.Value
public import proofs.«01_k».proof.Proof.Gen.DownReferenceIdeal.Run
public import proofs.«01_k».proof.Proof.Gen.DownReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the feed-forward layer: the residual and half the product of the activation and the down weight.
The kernel adds it up in a scratch, block by block of the summed axis. -/

namespace Cert.DownIdeal.Prod

open Cert.DownIdeal Cert.DownIdeal.Gen Idealize.ShloMosaic Idealize.ShloMosaic.TcCoe Cert.Sums

/-- The product of two blocks. -/
def prod (u : Vec Ideal S1024x256 .bf16) (v : Vec Ideal S256x1024 .bf16) : Vec Ideal S1024x1024 .f32 :=
  fun y => ∑ r : Fin 256, (u (ix2 (y 0) r) : EReal) * (v (ix2 r (y 1)) : EReal)

theorem prod_at (u : Vec Ideal S1024x256 .bf16) (v : Vec Ideal S256x1024 .bf16) (a : Fin 1024) (x : Fin 1024) :
    prod u v (ix2 a x) = ∑ r : Fin 256, (u (ix2 a r) : EReal) * (v (ix2 r x) : EReal) := rfl

theorem pay1_at (u : Vec Ideal S1024x256 .bf16) (v : Vec Ideal S256x1024 .bf16) (a : Fin 1024) (x : Fin 1024) :
    k0_pay1 u v (ix2 a x) = ∑ r : Fin 256, (u (ix2 a r) : EReal) * (v (ix2 r x) : EReal) := by
  pointwise [k0_pay1]

theorem pay1_eq (u : Vec Ideal S1024x256 .bf16) (v : Vec Ideal S256x1024 .bf16) : k0_pay1 u v = prod u v := by
  funext y; rw [eq_ix2 y]; exact pay1_at u v (y 0) (y 1)

theorem pay2_eq (u : Vec Ideal S1024x256 .bf16) (v : Vec Ideal S256x1024 .bf16) : k0_pay2 u v = prod u v := by
  rw [← pay1_eq]; funext y; pointwise [k0_pay2]

theorem pay3_eq (u : Vec Ideal S1024x256 .bf16) (v : Vec Ideal S256x1024 .bf16) (s : Vec Ideal S1024x1024 .f32) :
    k0_pay3 u v s = fun y => (s y + prod u v y : EReal) := by
  rw [← pay1_eq]; funext y; pointwise [k0_pay3]

theorem pay4_eq (s : Vec Ideal S1024x1024 .f32) (x2 : Vec Ideal S1024x1024 .f32) :
    k0_pay4 s x2 = fun y => ((s y) * Ideal.ofBits .f32 0x3F000000#32 + x2 y : EReal) := by
  funext y; pointwise [k0_pay4]

theorem sout0_A_0_eq (c : Dev nD) (i : grid0.Coords) (a3 : Memref sig .tc .vmem S1024x256 .bf16) (ha3 : a3.IsWhole) (a4 : Memref sig .tc .vmem S256x1024 .bf16) (ha4 : a4.IsWhole) (a5 : Memref sig .tc .vmem S1024x1024 .f32) (ha5 : a5.IsWhole) (a6 : Memref sig .tc .vmem S1024x1024 .f32) (ha6 : a6.IsWhole) (a7 : Memref sig .tc .vmem S1024x1024 .f32) (ha7 : a7.IsWhole) (hc0 : cond0_0 i) (hc1 : ¬cond0_1 i) (hc2 : ¬cond0_2 i)
    (x0 : Vec Ideal S1024x256 .bf16) (x1 : Vec Ideal S256x1024 .bf16) (x2 : Vec Ideal S1024x1024 .f32) :
    sout0_A_0 c i a3 ha3 a4 ha4 a5 ha5 a6 ha6 a7 ha7 hc0 hc1 hc2 x0 x1 x2 = prod x0 x1 := by
  unfold sout0_A_0
  rw [View.read_writes_eq_canon _ _ _ (scover0_A_0 c i a3 ha3 a4 ha4 a5 ha5 a6 ha6 a7 ha7 hc0 hc1 hc2 x0 x1 x2)]
  unfold kernelRun0_A
  dsimp only
  sl_unfold_words
  simp only [View.readAt_eq_ld, ha3.read_unread, ha4.read_unread, ha5.read_unread, ha6.read_unread, ha7.read_unread, View.ld_unit_zero (S := S1024x1024) hz2, View.ld_unit_zero (S := S1024x256) hz2, View.ld_unit_zero (S := S256x1024) hz2]
  rw [View.canon_cons_unit_zero hz2]
  exact pay2_eq ..

theorem sout0_B_0_eq (c : Dev nD) (i : grid0.Coords) (a3 : Memref sig .tc .vmem S1024x256 .bf16) (ha3 : a3.IsWhole) (a4 : Memref sig .tc .vmem S256x1024 .bf16) (ha4 : a4.IsWhole) (a5 : Memref sig .tc .vmem S1024x1024 .f32) (ha5 : a5.IsWhole) (a6 : Memref sig .tc .vmem S1024x1024 .f32) (ha6 : a6.IsWhole) (a7 : Memref sig .tc .vmem S1024x1024 .f32) (ha7 : a7.IsWhole) (hc0 : ¬cond0_0 i) (hc1 : cond0_1 i) (hc2 : ¬cond0_2 i)
    (x0 : Vec Ideal S1024x256 .bf16) (x1 : Vec Ideal S256x1024 .bf16) (x2 : Vec Ideal S1024x1024 .f32) (xs0 : Vec Ideal S1024x1024 .f32) :
    sout0_B_0 c i a3 ha3 a4 ha4 a5 ha5 a6 ha6 a7 ha7 hc0 hc1 hc2 x0 x1 x2 xs0 = fun y => (xs0 y + prod x0 x1 y : EReal) := by
  unfold sout0_B_0
  rw [View.read_writes_eq_canon _ _ _ (scover0_B_0 c i a3 ha3 a4 ha4 a5 ha5 a6 ha6 a7 ha7 hc0 hc1 hc2 x0 x1 x2 xs0)]
  unfold kernelRun0_B
  dsimp only
  sl_unfold_words
  simp only [View.readAt_eq_ld, ha3.read_unread, ha4.read_unread, ha5.read_unread, ha6.read_unread, ha7.read_unread, View.ld_unit_zero (S := S1024x1024) hz2, View.ld_unit_zero (S := S1024x256) hz2, View.ld_unit_zero (S := S256x1024) hz2]
  rw [View.canon_cons_unit_zero hz2]
  exact pay3_eq ..

theorem sout0_C_0_eq (c : Dev nD) (i : grid0.Coords) (a3 : Memref sig .tc .vmem S1024x256 .bf16) (ha3 : a3.IsWhole) (a4 : Memref sig .tc .vmem S256x1024 .bf16) (ha4 : a4.IsWhole) (a5 : Memref sig .tc .vmem S1024x1024 .f32) (ha5 : a5.IsWhole) (a6 : Memref sig .tc .vmem S1024x1024 .f32) (ha6 : a6.IsWhole) (a7 : Memref sig .tc .vmem S1024x1024 .f32) (ha7 : a7.IsWhole) (hc0 : ¬cond0_0 i) (hc1 : cond0_1 i) (hc2 : cond0_2 i)
    (x0 : Vec Ideal S1024x256 .bf16) (x1 : Vec Ideal S256x1024 .bf16) (x2 : Vec Ideal S1024x1024 .f32) (xs0 : Vec Ideal S1024x1024 .f32) :
    sout0_C_0 c i a3 ha3 a4 ha4 a5 ha5 a6 ha6 a7 ha7 hc0 hc1 hc2 x0 x1 x2 xs0 = fun y => (xs0 y + prod x0 x1 y : EReal) := by
  unfold sout0_C_0
  rw [View.read_writes_eq_canon _ _ _ (scover0_C_0 c i a3 ha3 a4 ha4 a5 ha5 a6 ha6 a7 ha7 hc0 hc1 hc2 x0 x1 x2 xs0)]
  unfold kernelRun0_C
  dsimp only
  sl_unfold_words
  simp only [View.readAt_eq_ld, ha3.read_unread, ha4.read_unread, ha5.read_unread, ha6.read_unread, ha7.read_unread, View.ld_unit_zero (S := S1024x1024) hz2, View.ld_unit_zero (S := S1024x256) hz2, View.ld_unit_zero (S := S256x1024) hz2]
  rw [View.canon_cons_unit_zero hz2]
  exact pay3_eq ..

theorem out0_C_3_eq (c : Dev nD) (i : grid0.Coords) (a3 : Memref sig .tc .vmem S1024x256 .bf16) (ha3 : a3.IsWhole) (a4 : Memref sig .tc .vmem S256x1024 .bf16) (ha4 : a4.IsWhole) (a5 : Memref sig .tc .vmem S1024x1024 .f32) (ha5 : a5.IsWhole) (a6 : Memref sig .tc .vmem S1024x1024 .f32) (ha6 : a6.IsWhole) (a7 : Memref sig .tc .vmem S1024x1024 .f32) (ha7 : a7.IsWhole) (hc0 : ¬cond0_0 i) (hc1 : cond0_1 i) (hc2 : cond0_2 i)
    (x0 : Vec Ideal S1024x256 .bf16) (x1 : Vec Ideal S256x1024 .bf16) (x2 : Vec Ideal S1024x1024 .f32) (xs0 : Vec Ideal S1024x1024 .f32) :
    out0_C_3 c i a3 ha3 a4 ha4 a5 ha5 a6 ha6 a7 ha7 hc0 hc1 hc2 x0 x1 x2 xs0 = fun y => ((xs0 y + prod x0 x1 y) * Ideal.ofBits .f32 0x3F000000#32 + x2 y : EReal) := by
  unfold out0_C_3
  rw [View.read_writes_eq_canon _ _ _ (cover0_C_3 c i a3 ha3 a4 ha4 a5 ha5 a6 ha6 a7 ha7 hc0 hc1 hc2 x0 x1 x2 xs0)]
  unfold kernelRun0_C
  dsimp only
  sl_unfold_words
  simp only [View.readAt_eq_ld, ha3.read_unread, ha4.read_unread, ha5.read_unread, ha6.read_unread, ha7.read_unread, View.ld_unit_zero (S := S1024x1024) hz2, View.ld_unit_zero (S := S1024x256) hz2, View.ld_unit_zero (S := S256x1024) hz2]
  rw [View.canon_cons_unit_zero hz2, View.readCov_unit_zero _ hz2]
  exact (pay4_eq ..).trans (by rw [pay3_eq])

/-! Which block each window reads at a grid point. -/

theorem tlt (t : Fin cfg0.N) : t.val < 44 := lt_of_lt_of_eq t.isLt (show cfg0.N = 44 from N_0)

/-- Block `b`'s rows of the result, its columns, and its part of the summed axis. -/
def rI (b : ℕ) (r : Fin 1024) : Fin 4096 := ⟨(1024 * b + r.val) % 4096, Nat.mod_lt _ (by decide)⟩
def cJ (b : ℕ) (r : Fin 1024) : Fin 1024 := ⟨(1024 * b + r.val) % 1024, Nat.mod_lt _ (by decide)⟩
def kB (b : ℕ) (r : Fin 256) : Fin 2816 := ⟨(256 * b + r.val) % 2816, Nat.mod_lt _ (by decide)⟩

variable (m : (ℓ : Loc nD τ sig) → Buf (Elt Ideal) ℓ)

/-- Operand 0, as the kernel's window names it. -/
def aA (c : Dev nD) : Vec Ideal S4096x2816 .bf16 := V m c (Pipeline.arrRef spec0 0)

theorem index0 : ∀ t : Fin cfg0.N, win0_0.index t (0 : Fin 2) = t.val / 11 ∧ win0_0.index t (1 : Fin 2) = t.val % 11 := by decide +kernel

theorem rd0 (A : S4096x2816.Idx → EReal) (t : Fin cfg0.N) (y : S1024x256.Idx) :
    (((cfg0.win 0).blk t).view.read (Elt Ideal) A) y = A (((cfg0.win 0).blk t).view.emb y) := rfl

theorem emb0 (t : Fin cfg0.N) (a : Fin 1024) (b : Fin 256) :
    ((cfg0.win 0).blk t).view.emb (ix2 a b : S1024x256.Idx) = (ix2 (rI (t.val / 11) a) (kB (t.val % 11) b) : S4096x2816.Idx) := by
  have ht := tlt t
  have h0 : win0_0.index t 0 * 1024 + 1 * a.val = (1024 * (t.val / 11) + a.val) % 4096 := by rw [(index0 t).1]; omega
  have h1 : win0_0.index t 1 * 256 + 1 * b.val = (256 * (t.val % 11) + b.val) % 2816 := by rw [(index0 t).2]; omega
  funext x; apply Fin.ext
  match x with
  | ⟨0, _⟩ => exact h0
  | ⟨1, _⟩ => exact h1

theorem blk0 (c : Dev nD) (t : Fin cfg0.N) (a : Fin 1024) (b : Fin 256) :
    (iblk m c 0 t : Vec Ideal S1024x256 .bf16) (ix2 a b) = aA m c (ix2 (rI (t.val / 11) a) (kB (t.val % 11) b)) :=
  (rd0 (aA m c) t (ix2 a b)).trans (congrArg (aA m c) (emb0 t a b))

/-- Operand 1, as the kernel's window names it. -/
def aB (c : Dev nD) : Vec Ideal S2816x1024 .bf16 := V m c (Pipeline.arrRef spec0 1)

theorem index1 : ∀ t : Fin cfg0.N, win0_1.index t (0 : Fin 2) = t.val % 11 ∧ win0_1.index t (1 : Fin 2) = t.val / 11 % 1 := by decide +kernel

theorem rd1 (A : S2816x1024.Idx → EReal) (t : Fin cfg0.N) (y : S256x1024.Idx) :
    (((cfg0.win 1).blk t).view.read (Elt Ideal) A) y = A (((cfg0.win 1).blk t).view.emb y) := rfl

theorem emb1 (t : Fin cfg0.N) (a : Fin 256) (b : Fin 1024) :
    ((cfg0.win 1).blk t).view.emb (ix2 a b : S256x1024.Idx) = (ix2 (kB (t.val % 11) a) (cJ (t.val / 11 % 1) b) : S2816x1024.Idx) := by
  have ht := tlt t
  have h0 : win0_1.index t 0 * 256 + 1 * a.val = (256 * (t.val % 11) + a.val) % 2816 := by rw [(index1 t).1]; omega
  have h1 : win0_1.index t 1 * 1024 + 1 * b.val = (1024 * (t.val / 11 % 1) + b.val) % 1024 := by rw [(index1 t).2]; omega
  funext x; apply Fin.ext
  match x with
  | ⟨0, _⟩ => exact h0
  | ⟨1, _⟩ => exact h1

theorem blk1 (c : Dev nD) (t : Fin cfg0.N) (a : Fin 256) (b : Fin 1024) :
    (iblk m c 1 t : Vec Ideal S256x1024 .bf16) (ix2 a b) = aB m c (ix2 (kB (t.val % 11) a) (cJ (t.val / 11 % 1) b)) :=
  (rd1 (aB m c) t (ix2 a b)).trans (congrArg (aB m c) (emb1 t a b))

/-- Operand 2, as the kernel's window names it. -/
def aR (c : Dev nD) : Vec Ideal S4096x1024 .f32 := V m c (Pipeline.arrRef spec0 2)

theorem index2 : ∀ t : Fin cfg0.N, win0_2.index t (0 : Fin 2) = t.val / 11 ∧ win0_2.index t (1 : Fin 2) = t.val / 11 % 1 := by decide +kernel

theorem rd2 (A : S4096x1024.Idx → EReal) (t : Fin cfg0.N) (y : S1024x1024.Idx) :
    (((cfg0.win 2).blk t).view.read (Elt Ideal) A) y = A (((cfg0.win 2).blk t).view.emb y) := rfl

theorem emb2 (t : Fin cfg0.N) (a : Fin 1024) (b : Fin 1024) :
    ((cfg0.win 2).blk t).view.emb (ix2 a b : S1024x1024.Idx) = (ix2 (rI (t.val / 11) a) (cJ (t.val / 11 % 1) b) : S4096x1024.Idx) := by
  have ht := tlt t
  have h0 : win0_2.index t 0 * 1024 + 1 * a.val = (1024 * (t.val / 11) + a.val) % 4096 := by rw [(index2 t).1]; omega
  have h1 : win0_2.index t 1 * 1024 + 1 * b.val = (1024 * (t.val / 11 % 1) + b.val) % 1024 := by rw [(index2 t).2]; omega
  funext x; apply Fin.ext
  match x with
  | ⟨0, _⟩ => exact h0
  | ⟨1, _⟩ => exact h1

theorem blk2 (c : Dev nD) (t : Fin cfg0.N) (a : Fin 1024) (b : Fin 1024) :
    (iblk m c 2 t : Vec Ideal S1024x1024 .f32) (ix2 a b) = aR m c (ix2 (rI (t.val / 11) a) (cJ (t.val / 11 % 1) b)) :=
  (rd2 (aR m c) t (ix2 a b)).trans (congrArg (aR m c) (emb2 t a b))

/-- One term of the product of the whole operands. -/
def term (c : Dev nD) (i : Fin 4096) (x : Fin 1024) (k : Fin 2816) : EReal := aA m c (ix2 i k) * aB m c (ix2 k x)

/-- Block `b`'s part of an entry. -/
def part (c : Dev nD) (i : Fin 4096) (x : Fin 1024) (b : ℕ) : EReal := ∑ r : Fin 256, term m c i x (kB b r)

theorem prod_blk (c : Dev nD) (t : Fin cfg0.N) (a : Fin 1024) (x : Fin 1024) :
    prod (iblk m c 0 t) (iblk m c 1 t) (ix2 a x) = part m c (rI (t.val / 11) a) (cJ (t.val / 11 % 1) x) (t.val % 11) := by
  rw [prod_at]
  unfold part term
  simp only [blk0, blk1]

theorem snd_eq {A B : Type} {p : A × B} {a : A} {b b' : B} (h : p = (a, b)) (hb : b = b') : p.2 = b' := by
  subst h; exact hb
theorem fst_eq {A B : Type} {p : A × B} {a a' : A} {b : B} (h : p = (a, b)) (ha : a = a') : p.1 = a' := by
  subst h; exact ha

theorem first (c : Dev nD) (t : Fin cfg0.N) (h : t.val % 11 = 0) :
    (outsAt0 m c t.val t.isLt).2 = prod (iblk m c 0 t) (iblk m c 1 t) :=
  snd_eq (outsAt0_A m c t h (by omega) (by omega)) (sout0_A_0_eq ..)

theorem later (c : Dev nD) (t : Fin cfg0.N) (h : ¬t.val % 11 = 0) (k : ℕ) (hk : k < cfg0.N) (ek : t.val - 1 = k) :
    (outsAt0 m c t.val t.isLt).2 = fun y => ((outsAt0 m c k hk).2 y + prod (iblk m c 0 t) (iblk m c 1 t) y : EReal) := by
  subst ek
  by_cases h2 : t.val % 11 = 10
  · exact snd_eq (outsAt0_C m c t h (by omega) h2) (sout0_C_0_eq ..)
  · exact snd_eq (outsAt0_B m c t h (by omega) h2) (sout0_B_0_eq ..)

/-- The scratch holds the blocks so far. -/
theorem state (c : Dev nD) : ∀ (n : ℕ) (hn : n < cfg0.N) (a : Fin 1024) (x : Fin 1024),
    (outsAt0 m c n hn).2 (ix2 a x) = ∑ b ∈ Finset.range (n % 11 + 1), part m c (rI (n / 11) a) (cJ (n / 11 % 1) x) b := by
  intro n
  induction n with
  | zero =>
    intro hn a x
    refine (congrFun (first m c ⟨0, hn⟩ (Nat.zero_mod _)) _).trans ((prod_blk m c ⟨0, hn⟩ a x).trans ?_)
    simp
  | succ n ih =>
    intro hn a x
    by_cases h : (n + 1) % 11 = 0
    · refine (congrFun (first m c ⟨n + 1, hn⟩ h) _).trans ((prod_blk m c ⟨n + 1, hn⟩ a x).trans ?_)
      simp [h]
    · have e1 : (n + 1) / 11 = n / 11 := by omega
      have e2 : (n + 1) / 11 % 1 = n / 11 % 1 := by omega
      have e3 : (n + 1) % 11 = n % 11 + 1 := by omega
      refine (congrFun (later m c ⟨n + 1, hn⟩ h n (Nat.lt_of_succ_lt hn) rfl) _).trans ?_
      rw [e1, e3, Finset.sum_range_succ _ (n % 11 + 1)]
      refine congrArg₂ (fun a b : EReal => a + b) (ih (Nat.lt_of_succ_lt hn) a x) ((prod_blk m c ⟨n + 1, hn⟩ a x).trans ?_)
      show part m c (rI ((n + 1) / 11) a) (cJ ((n + 1) / 11 % 1) x) ((n + 1) % 11) = _
      rw [e1, e3]

/-- What the last block of an entry leaves in the result. -/
theorem last (c : Dev nD) (t : Fin cfg0.N) (h2 : t.val % 11 = 10) (a : Fin 1024) (x : Fin 1024) :
    (outsAt0 m c t.val t.isLt).1 (ix2 a x)
      = (∑ b ∈ Finset.range 11, part m c (rI (t.val / 11) a) (cJ (t.val / 11 % 1) x) b) * Ideal.ofBits .f32 0x3F000000#32 + aR m c (ix2 (rI (t.val / 11) a) (cJ (t.val / 11 % 1) x)) := by
  have h : ¬t.val % 11 = 0 := by omega
  have hk : t.val - 1 < cfg0.N := Nat.lt_of_le_of_lt (Nat.sub_le _ _) t.isLt
  have s := state m c t.val t.isLt a x
  rw [h2] at s
  have s' := congrFun (snd_eq (outsAt0_C m c t h (by omega) h2) (sout0_C_0_eq ..)) (ix2 a x)
  refine (congrFun (fst_eq (outsAt0_C m c t h (by omega) h2) (out0_C_3_eq ..)) (ix2 a x)).trans ?_
  rw [← s, s']
  refine congrArg _ (blk2 m c t a x)

open Cert.DownIdeal.Value

/-- The result array at every index. -/
theorem out (c : Dev nD) (i : Fin 4096) (x : Fin 1024) :
    G3 m c (ix2 i x) = (∑ k : Fin 2816, term m c i x k) * Ideal.ofBits .f32 0x3F000000#32 + aR m c (ix2 i x) := by
  have hp : pt3Of (ix2 i x) = 11 * (1 * (i.val / 1024) + x.val / 1024) + 10 := by
    show 11 * (1 * (i.val / 1024 - 0) + 1 * (x.val / 1024 - 0)) + 10 = _; omega
  have hn : pt3Of (ix2 i x) < cfg0.N := by rw [hp, show cfg0.N = 44 from N_0]; omega
  have hl : loc3Of (ix2 i x) = ix2 (⟨i.val % 1024, Nat.mod_lt _ (by decide)⟩ : Fin 1024) (⟨x.val % 1024, Nat.mod_lt _ (by decide)⟩ : Fin 1024) := by
    funext a; apply Fin.ext
    match a with
    | ⟨0, _⟩ => rfl
    | ⟨1, _⟩ => rfl
  have hs := last m c ⟨pt3Of (ix2 i x), hn⟩ (by show pt3Of (ix2 i x) % 11 = 10; omega) (⟨i.val % 1024, Nat.mod_lt _ (by decide)⟩ : Fin 1024) (⟨x.val % 1024, Nat.mod_lt _ (by decide)⟩ : Fin 1024)
  have ei : rI (pt3Of (ix2 i x) / 11) (⟨i.val % 1024, Nat.mod_lt _ (by decide)⟩ : Fin 1024) = i :=
    Fin.ext (show (1024 * (pt3Of (ix2 i x) / 11) + i.val % 1024) % 4096 = i.val by omega)
  have ex : cJ (pt3Of (ix2 i x) / 11 % 1) (⟨x.val % 1024, Nat.mod_lt _ (by decide)⟩ : Fin 1024) = x :=
    Fin.ext (show (1024 * (pt3Of (ix2 i x) / 11 % 1) + x.val % 1024) % 1024 = x.val by omega)
  dsimp only at hs
  rw [ei, ex, outsAt0_sweep m c _ hn, ← hl] at hs
  unfold G3
  rw [dif_pos hn]
  refine hs.trans ?_
  unfold part
  rw [show ∑ b ∈ Finset.range 11, ∑ r : Fin 256, term m c i x (kB b r) = ∑ k : Fin 2816, term m c i x k from
    sum_blocks 11 256 2816 (by decide) (by decide) (fun k => term m c i x k)]

/-! The operands are the arguments. -/

def g0 (c : Dev nD) : Vec Ideal S4096x2816 .f32 := m (c, Proc.tc.devRef main_arg0)
def g1 (c : Dev nD) : Vec Ideal S2816x1024 .f32 := m (c, Proc.tc.devRef main_arg1)
def g2 (c : Dev nD) : Vec Ideal S4096x1024 .f32 := m (c, Proc.tc.devRef main_arg2)

theorem aA_eq (c : Dev nD) : aA m c = V m c main_v0 := rfl

theorem aA_at (c : Dev nD) (a : Fin 4096) (b : Fin 2816) : aA m c (ix2 a b) = g0 m c (ix2 a b) := by
  rw [aA_eq]
  simp only [g0]
  unfold_abbrev_sides
  after_reads_at

theorem aB_eq (c : Dev nD) : aB m c = V m c main_v1 := rfl

theorem aB_at (c : Dev nD) (a : Fin 2816) (b : Fin 1024) : aB m c (ix2 a b) = g1 m c (ix2 a b) := by
  rw [aB_eq]
  simp only [g1]
  unfold_abbrev_sides
  after_reads_at

theorem aR_eq (c : Dev nD) : aR m c = V m c main_arg2 := rfl

theorem aR_at (c : Dev nD) (a : Fin 4096) (b : Fin 1024) : aR m c (ix2 a b) = g2 m c (ix2 a b) := by
  rw [aR_eq]
  simp only [g2]
  unfold_abbrev_sides
  after_reads_at

/-- The reference's result at an index. -/
theorem ref_at (y0 : Vec Ideal S4096x2816 .f32) (y1 : Vec Ideal S2816x1024 .f32) (y2 : Vec Ideal S4096x1024 .f32) (i : Fin 4096) (x : Fin 1024) :
    Cert.DownReferenceIdeal.Read.val_main_v3 (F := Ideal) y0 y1 y2 (ix2 i x) = (y2 (ix2 i x) : EReal) + Ideal.ofBits .f32 0x3F000000#32 * ∑ k : Fin 2816, (y0 (ix2 i k) : EReal) * (y1 (ix2 k x) : EReal) := by
  unfold Cert.DownReferenceIdeal.Read.val_main_v3 Cert.DownReferenceIdeal.Read.val_main_v2 Cert.DownReferenceIdeal.Read.val_main_v1 Cert.DownReferenceIdeal.Read.val_main_v0 Cert.DownReferenceIdeal.Read.val_main_cst
  pointwise

/-- What the kernel leaves is what the reference gives. -/
theorem terms_eq (c : Dev nD) (i : Fin 4096) (x : Fin 1024) :
    (((∑ k : Fin 2816, term m c i x k) * Ideal.ofBits .f32 0x3F000000#32 + aR m c (ix2 i x) : EReal)) = (g2 m c (ix2 i x) : EReal) + Ideal.ofBits .f32 0x3F000000#32 * ∑ k : Fin 2816, (g0 m c (ix2 i k) : EReal) * (g1 m c (ix2 k x) : EReal) := by
  unfold term
  simp only [aA_at, aB_at, aR_at]
  exact half_add _ _

theorem same_at (c : Dev nD) (i : Fin 4096) (x : Fin 1024) :
    Cert.DownReferenceIdeal.Read.val_main_v3 (F := Ideal) (g0 m c) (g1 m c) (g2 m c) (ix2 i x) = G3 m c (ix2 i x : S4096x1024.Idx) :=
  (ref_at (g0 m c) (g1 m c) (g2 m c) i x).trans ((out m c i x).trans (terms_eq m c i x)).symm

theorem same (c : Dev nD) : Cert.DownReferenceIdeal.Read.val_main_v3 (F := Ideal) (g0 m c) (g1 m c) (g2 m c) = G3 m c := by
  funext j
  rw [eq_ix2 j]
  exact same_at m c (j 0) (j 1)

end Cert.DownIdeal.Prod
-- ==== Proof.Gate.lean ====
module

public import Idealize.ShloMosaic.Lib.Pointwise

@[expose] public section

noncomputable section

/-! The logistic gate over the extended reals, and the two ways of writing the gradient through it. -/

namespace Cert.Gate

open Idealize.ShloMosaic

/-- The words of one and of zero. -/
theorem one_bits : Ideal.ofBits .f32 0x3F800000#32 = 1 := by
  simp [Ideal.ofBits, Ideal.ieee, -EReal.coe_mul]; norm_cast; norm_num
theorem zero_bits : Ideal.ofBits .f32 0x00000000#32 = 0 := by
  simp [Ideal.ofBits, Ideal.ieee]

/-- The words of minus one half, of a row's length and of the small number under a root. -/
theorem minus_half_bits : Ideal.ofBits .f32 0xBF000000#32 = ((-(1 / 2) : ℝ) : EReal) := by
  simp [Ideal.ofBits, Ideal.ieee, -EReal.coe_mul, -EReal.coe_neg]; norm_num
theorem length_bits : Ideal.ofBits .f32 0x44800000#32 = ((1024 : ℝ) : EReal) := by
  simp [Ideal.ofBits, Ideal.ieee, -EReal.coe_mul]; norm_num
theorem eps_bits : ∃ e : ℝ, 0 < e ∧ Ideal.ofBits .f32 0x358637BD#32 = (e : EReal) := by
  simp only [Ideal.ofBits, Ideal.ieee]
  refine ⟨_, ?_, rfl⟩
  norm_num
  rw [if_neg (by decide)]
  positivity

/-- The gate: one over one plus the exponential of minus its argument. -/
def sg (g : EReal) : EReal := Ideal.div 1 (1 + Ideal.exp (-g))

theorem sub_zero_left (g : EReal) : (0 : EReal) - g = -g := zero_sub g

/-- At a real number the gate is a real number. -/
theorem sg_real (r : ℝ) : ∃ s : ℝ, sg (r : EReal) = ((s : ℝ) : EReal) := by
  have h : sg (r : EReal) = Ideal.logistic (r : EReal) := rfl
  rw [h, Ideal.logistic_coe]
  exact ⟨_, rfl⟩

theorem one_coe : (1 : EReal) = ((1 : ℝ) : EReal) := rfl

/-- The gradient of a gated product through its gate: the kernel's form and the chain rule's. -/
theorem through (a g u : ℝ) :
    ((a : EReal) * (u : EReal)) * (sg (g : EReal) * (1 + (g : EReal) * (1 - sg (g : EReal))))
      = ((a : EReal) * (u : EReal)) * sg (g : EReal) + ((g : EReal) * ((a : EReal) * (u : EReal))) * (sg (g : EReal) * (1 - sg (g : EReal))) := by
  obtain ⟨s, hs⟩ := sg_real g
  rw [hs, one_coe]
  norm_cast
  ring

/-- The gradient of a gated product through its other factor. -/
theorem across (a g s : EReal) : a * (g * s) = (g * s) * a := mul_comm _ _

/-- The gradient of a gated branch through its gate. -/
theorem merged (d a s e : EReal) : ((d * a) * s) * e = (d * a) * (s * e) := mul_assoc _ _ _

theorem swap (a b : EReal) : a * b = b * a := mul_comm _ _

end Cert.Gate
-- ==== Proof.Swb.lean ====
module

public import proofs.«01_k».proof.Proof.Gen.SwbIdeal.Value
public import proofs.«01_k».proof.Proof.Gen.SwbReferenceIdeal.Run
public import proofs.«01_k».proof.Proof.Gen.SwbReferenceIdeal.Read
public import proofs.«01_k».proof.Proof.Gate
public import proofs.«01_k».proof.Proof.Finite

@[expose] public section

set_option maxRecDepth 16384

noncomputable section

/-! The gradients of the gate and of the up projection through the gated product of the feed-forward layer. -/

namespace Cert.SwbIdeal.Grad

open Cert.SwbIdeal Cert.SwbIdeal.Gen Idealize.ShloMosaic Idealize.ShloMosaic.TcCoe Cert.Gate

instance facts : Cert.Pre_finite_swb.Facts where
  bcast_S_S4096x2816 := by decide
  bcast_S_S4096x5632 := by decide

variable (x0 : Vec Ideal S4096x2816 .f32) (x1 : Vec Ideal S4096x5632 .f32)

/-- The column of the gate projection beside a column of the result, and of the up projection. -/
def cg (x : Fin 2816) : Fin 5632 := ⟨x.val, by omega⟩
def cu (x : Fin 2816) : Fin 5632 := ⟨2816 + x.val, by omega⟩

theorem idx31 (i : Fin 4096) (x : Fin 2816) : Value.inIdx3_1 (ix2 i x : S4096x2816.Idx) = (ix2 i (cg x) : S4096x5632.Idx) := by
  funext a; apply Fin.ext
  match a with
  | ⟨0, _⟩ => rfl
  | ⟨1, _⟩ => rfl
theorem idx32 (i : Fin 4096) (x : Fin 2816) : Value.inIdx3_2 (ix2 i x : S4096x2816.Idx) = (ix2 i (cu x) : S4096x5632.Idx) := by
  funext a; apply Fin.ext
  match a with
  | ⟨0, _⟩ => rfl
  | ⟨1, _⟩ => exact Nat.add_comm _ _
theorem idx41 (i : Fin 4096) (x : Fin 2816) : Value.inIdx4_1 (ix2 i x : S4096x2816.Idx) = (ix2 i (cg x) : S4096x5632.Idx) := by
  funext a; apply Fin.ext
  match a with
  | ⟨0, _⟩ => rfl
  | ⟨1, _⟩ => rfl

/-- The kernel's two results at an index. -/
theorem k3_at (i : Fin 4096) (x : Fin 2816) : (Value.G3 (F := Ideal) x0 x1 x1 (ix2 i x : S4096x2816.Idx) : EReal)
    = ((x0 (ix2 i x) : EReal) * (x1 (ix2 i (cu x)) : EReal)) * (sg (x1 (ix2 i (cg x))) * (1 + (x1 (ix2 i (cg x)) : EReal) * (1 - sg (x1 (ix2 i (cg x)))))) := by
  rw [← idx31, ← idx32]
  show ((x0 (ix2 i x) : EReal) * (x1 (Value.inIdx3_2 (ix2 i x)) : EReal)) * (Ideal.div (Ideal.ofBits .f32 0x3F800000#32) (Ideal.ofBits .f32 0x3F800000#32 + Ideal.exp (Ideal.ofBits .f32 0x00000000#32 - x1 (Value.inIdx3_1 (ix2 i x)))) * (Ideal.ofBits .f32 0x3F800000#32 + (x1 (Value.inIdx3_1 (ix2 i x)) : EReal) * (Ideal.ofBits .f32 0x3F800000#32 - Ideal.div (Ideal.ofBits .f32 0x3F800000#32) (Ideal.ofBits .f32 0x3F800000#32 + Ideal.exp (Ideal.ofBits .f32 0x00000000#32 - x1 (Value.inIdx3_1 (ix2 i x))))))) = _
  rw [one_bits, zero_bits, sub_zero_left]
  rfl

theorem k4_at (i : Fin 4096) (x : Fin 2816) : (Value.G4 (F := Ideal) x0 x1 (ix2 i x : S4096x2816.Idx) : EReal)
    = (x0 (ix2 i x) : EReal) * ((x1 (ix2 i (cg x)) : EReal) * sg (x1 (ix2 i (cg x)))) := by
  rw [← idx41]
  show (x0 (ix2 i x) : EReal) * ((x1 (Value.inIdx4_1 (ix2 i x)) : EReal) * Ideal.div (Ideal.ofBits .f32 0x3F800000#32) (Ideal.ofBits .f32 0x3F800000#32 + Ideal.exp (Ideal.ofBits .f32 0x00000000#32 - x1 (Value.inIdx4_1 (ix2 i x))))) = _
  rw [one_bits, zero_bits, sub_zero_left]
  rfl

open Cert.SwbReferenceIdeal.Read in
/-- The reference's two results at an index. -/
theorem r7_at (i : Fin 4096) (x : Fin 2816) : (val_main_v7 (F := Ideal) x0 x1 (ix2 i x : S4096x2816.Idx) : EReal)
    = ((x0 (ix2 i x) : EReal) * (x1 (ix2 i (cu x)) : EReal)) * sg (x1 (ix2 i (cg x)))
      + ((x1 (ix2 i (cg x)) : EReal) * ((x0 (ix2 i x) : EReal) * (x1 (ix2 i (cu x)) : EReal))) * (sg (x1 (ix2 i (cg x))) * (1 - sg (x1 (ix2 i (cg x))))) := by
  rw [← val_main_v7_eq]
  unfold sg
  rw [← one_bits]
  pointwise
  rfl

open Cert.SwbReferenceIdeal.Read in
theorem r8_at (i : Fin 4096) (x : Fin 2816) : (val_main_v8 (F := Ideal) x0 x1 (ix2 i x : S4096x2816.Idx) : EReal)
    = ((x1 (ix2 i (cg x)) : EReal) * sg (x1 (ix2 i (cg x)))) * (x0 (ix2 i x) : EReal) := by
  rw [← val_main_v8_eq]
  unfold sg
  rw [← one_bits]
  pointwise
  rfl

theorem same8_at (i : Fin 4096) (x : Fin 2816) :
    (Cert.SwbReferenceIdeal.Read.val_main_v8 (F := Ideal) x0 x1 (ix2 i x : S4096x2816.Idx) : EReal) = Value.G4 (F := Ideal) x0 x1 (ix2 i x : S4096x2816.Idx) :=
  (r8_at x0 x1 i x).trans ((across _ _ _).symm.trans (k4_at x0 x1 i x).symm)

/-- The gradient of the up projection. -/
theorem same8 : Cert.SwbReferenceIdeal.Read.val_main_v8 (F := Ideal) x0 x1 = Value.G4 (F := Ideal) x0 x1 := by
  funext j
  rw [eq_ix2 j]
  exact same8_at x0 x1 (j 0) (j 1)

/-- The gradient of the gate at real numbers. -/
theorem through_of (a g u : EReal) (ha : ((a.toReal : ℝ) : EReal) = a) (hg : ((g.toReal : ℝ) : EReal) = g) (hu : ((u.toReal : ℝ) : EReal) = u) :
    (a * u) * sg g + (g * (a * u)) * (sg g * (1 - sg g)) = (a * u) * (sg g * (1 + g * (1 - sg g))) := by
  rw [← ha, ← hg, ← hu]
  exact (through _ _ _).symm

theorem same7_at (h : Cert.Pre_finite_swb.fn (F := Ideal) x0 x1 = (fun _ => 1#1, fun _ => 1#1)) (i : Fin 4096) (x : Fin 2816) :
    (Cert.SwbReferenceIdeal.Read.val_main_v7 (F := Ideal) x0 x1 (ix2 i x : S4096x2816.Idx) : EReal) = Value.G3 (F := Ideal) x0 x1 x1 (ix2 i x : S4096x2816.Idx) :=
  (r7_at x0 x1 i x).trans ((through_of _ _ _ (Cert.Finite.real_of_bit x0 (congrArg Prod.fst h) _)
    (Cert.Finite.real_of_bit x1 (congrArg Prod.snd h) _) (Cert.Finite.real_of_bit x1 (congrArg Prod.snd h) _)).trans (k3_at x0 x1 i x).symm)

/-- The gradient of the gate. -/
theorem same7 (h : Cert.Pre_finite_swb.fn (F := Ideal) x0 x1 = (fun _ => 1#1, fun _ => 1#1)) :
    Cert.SwbReferenceIdeal.Read.val_main_v7 (F := Ideal) x0 x1 = Value.G3 (F := Ideal) x0 x1 x1 := by
  funext j
  rw [eq_ix2 j]
  exact same7_at x0 x1 h (j 0) (j 1)

end Cert.SwbIdeal.Grad
-- ==== Proof.Mgb.lean ====
module

public import proofs.«01_k».proof.Proof.Gen.MgbIdeal.Value
public import proofs.«01_k».proof.Proof.Gen.MgbReferenceIdeal.Run
public import proofs.«01_k».proof.Proof.Gen.MgbReferenceIdeal.Read
public import proofs.«01_k».proof.Proof.Gate
public import proofs.«01_k».proof.Proof.Sums

@[expose] public section

set_option maxRecDepth 16384

noncomputable section

/-! The gradients of the two branches and of their gates through the gated sum of the branches. -/

namespace Cert.MgbIdeal.Grad

open Cert.MgbIdeal Cert.MgbIdeal.Gen Idealize.ShloMosaic Idealize.ShloMosaic.TcCoe Cert.Gate Cert.Sums

/-! What the body computes at an index of a block. -/

theorem pay3_at (g : Vec Ideal S512x1024 .f32) (y : S512x1024.Idx) : (k0_pay3 g y : EReal) = sg (g y) := by
  show Ideal.div (Ideal.ofBits .f32 0x3F800000#32) (Ideal.ofBits .f32 0x3F800000#32 + Ideal.exp (Ideal.ofBits .f32 0x00000000#32 - g y)) = _
  rw [one_bits, zero_bits, sub_zero_left]
  rfl

theorem pay4_eq (g : Vec Ideal S512x1024 .f32) : k0_pay4 g = k0_pay3 g := rfl

/-- A branch's gradient, and its gate's. -/
theorem branch_at (d g : Vec Ideal S512x1024 .f32) (y : S512x1024.Idx) : (k0_pay7 d g y : EReal) = sg (g y) * d y := by
  show (d y : EReal) * (k0_pay3 g y : EReal) = _
  rw [pay3_at, swap]

theorem gate_at (d a g : Vec Ideal S512x1024 .f32) (y : S512x1024.Idx) :
    (k0_pay1 (k0_pay5 d a g) y : EReal) = ((d y : EReal) * (a y : EReal)) * (sg (g y) * (1 - sg (g y))) := by
  show (((d y : EReal) * (a y : EReal)) * (k0_pay3 g y : EReal)) * (Ideal.ofBits .f32 0x3F800000#32 - (k0_pay3 g y : EReal)) = _
  rw [pay3_at, one_bits, merged]

theorem pay8_eq (d g : Vec Ideal S512x1024 .f32) : k0_pay8 d g = k0_pay7 d g := rfl
theorem pay2_eq (d b g : Vec Ideal S512x1024 .f32) : k0_pay2 (k0_pay6 d b g) = k0_pay1 (k0_pay5 d b g) := rfl

theorem out5_eq (x0 x1 x2 x3 x4 : Vec Ideal S512x1024 .f32) : out0_5 x0 x1 x2 x3 x4 = k0_pay7 x0 x3 := by
  unfold out0_5
  rw [View.canon_cons_unit_zero hz2]
  simp only [View.ld_unit_zero (S := S512x1024) hz2]

theorem out6_eq (x0 x1 x2 x3 x4 : Vec Ideal S512x1024 .f32) : out0_6 x0 x1 x2 x3 x4 = k0_pay8 x0 x4 := by
  unfold out0_6
  rw [View.canon_cons_unit_zero hz2]
  simp only [View.ld_unit_zero (S := S512x1024) hz2]

theorem out7_eq (x0 x1 x2 x3 x4 : Vec Ideal S512x1024 .f32) : out0_7 x0 x1 x2 x3 x4 = k0_pay1 (k0_pay5 x0 x1 x3) := by
  unfold out0_7
  rw [View.canon_cons_unit_zero hz2]
  simp only [View.ld_unit_zero (S := S512x1024) hz2]

theorem out8_eq (x0 x1 x2 x3 x4 : Vec Ideal S512x1024 .f32) : out0_8 x0 x1 x2 x3 x4 = k0_pay2 (k0_pay6 x0 x2 x4) := by
  unfold out0_8
  rw [View.canon_cons_unit_zero hz2]
  simp only [View.ld_unit_zero (S := S512x1024) hz2]

/-! Which block each window reads or writes at a grid point: rows `512 t` on, all the columns, the gates' two parts of
the wide array. -/

theorem tlt (t : Fin cfg0.N) : t.val < 8 := lt_of_lt_of_eq t.isLt (show cfg0.N = 8 from N_0)

def row (t : ℕ) (a : Fin 512) : Fin 4096 := ⟨(512 * t + a.val) % 4096, Nat.mod_lt _ (by decide)⟩
def ca (b : Fin 1024) : Fin 7168 := ⟨5120 + b.val, by omega⟩
def cb (b : Fin 1024) : Fin 7168 := ⟨6144 + b.val, by omega⟩

theorem row_val (t : Fin cfg0.N) (a : Fin 512) : t.val * 512 + 1 * a.val = (row t.val a).val := by
  have ht := tlt t
  show t.val * 512 + 1 * a.val = (512 * t.val + a.val) % 4096
  omega

/-- An index is known by its two coordinates. -/
theorem idx_of {n0 n1 : ℕ} (f : (⟨2, ![n0, n1]⟩ : Shape).Idx) (i : Fin n0) (j : Fin n1) (h0 : (f 0).val = i.val) (h1 : (f 1).val = j.val) : f = ix2 i j := by
  funext a; apply Fin.ext
  match a with
  | ⟨0, _⟩ => exact h0
  | ⟨1, _⟩ => exact h1

theorem index0 : ∀ t : Fin cfg0.N, win0_0.index t (0 : Fin 2) = t.val ∧ win0_0.index t (1 : Fin 2) = 0 := by decide +kernel
theorem emb0 (t : Fin cfg0.N) (a : Fin 512) (b : Fin 1024) :
    ((cfg0.win 0).blk t).view.emb (ix2 a b : S512x1024.Idx) = (ix2 (row t.val a) b : S4096x1024.Idx) :=
  idx_of _ _ _ (show win0_0.index t 0 * 512 + 1 * a.val = _ by rw [(index0 t).1]; exact row_val t a)
    (show win0_0.index t 1 * 1024 + 1 * b.val = _ by rw [(index0 t).2]; rw [Nat.zero_mul, Nat.zero_add, Nat.one_mul])

theorem index1 : ∀ t : Fin cfg0.N, win0_1.index t (0 : Fin 2) = t.val ∧ win0_1.index t (1 : Fin 2) = 0 := by decide +kernel
theorem emb1 (t : Fin cfg0.N) (a : Fin 512) (b : Fin 1024) :
    ((cfg0.win 1).blk t).view.emb (ix2 a b : S512x1024.Idx) = (ix2 (row t.val a) b : S4096x1024.Idx) :=
  idx_of _ _ _ (show win0_1.index t 0 * 512 + 1 * a.val = _ by rw [(index1 t).1]; exact row_val t a)
    (show win0_1.index t 1 * 1024 + 1 * b.val = _ by rw [(index1 t).2]; rw [Nat.zero_mul, Nat.zero_add, Nat.one_mul])

theorem index2 : ∀ t : Fin cfg0.N, win0_2.index t (0 : Fin 2) = t.val ∧ win0_2.index t (1 : Fin 2) = 0 := by decide +kernel
theorem emb2 (t : Fin cfg0.N) (a : Fin 512) (b : Fin 1024) :
    ((cfg0.win 2).blk t).view.emb (ix2 a b : S512x1024.Idx) = (ix2 (row t.val a) b : S4096x1024.Idx) :=
  idx_of _ _ _ (show win0_2.index t 0 * 512 + 1 * a.val = _ by rw [(index2 t).1]; exact row_val t a)
    (show win0_2.index t 1 * 1024 + 1 * b.val = _ by rw [(index2 t).2]; rw [Nat.zero_mul, Nat.zero_add, Nat.one_mul])

theorem index3 : ∀ t : Fin cfg0.N, win0_3.index t (0 : Fin 2) = t.val ∧ win0_3.index t (1 : Fin 2) = 5 := by decide +kernel
theorem emb3 (t : Fin cfg0.N) (a : Fin 512) (b : Fin 1024) :
    ((cfg0.win 3).blk t).view.emb (ix2 a b : S512x1024.Idx) = (ix2 (row t.val a) (ca b) : S4096x7168.Idx) :=
  idx_of _ _ _ (show win0_3.index t 0 * 512 + 1 * a.val = _ by rw [(index3 t).1]; exact row_val t a)
    (show win0_3.index t 1 * 1024 + 1 * b.val = _ by rw [(index3 t).2]; show 5 * 1024 + 1 * b.val = 5120 + b.val; omega)

theorem index4 : ∀ t : Fin cfg0.N, win0_4.index t (0 : Fin 2) = t.val ∧ win0_4.index t (1 : Fin 2) = 6 := by decide +kernel
theorem emb4 (t : Fin cfg0.N) (a : Fin 512) (b : Fin 1024) :
    ((cfg0.win 4).blk t).view.emb (ix2 a b : S512x1024.Idx) = (ix2 (row t.val a) (cb b) : S4096x7168.Idx) :=
  idx_of _ _ _ (show win0_4.index t 0 * 512 + 1 * a.val = _ by rw [(index4 t).1]; exact row_val t a)
    (show win0_4.index t 1 * 1024 + 1 * b.val = _ by rw [(index4 t).2]; show 6 * 1024 + 1 * b.val = 6144 + b.val; omega)

theorem index5 : ∀ t : Fin cfg0.N, win0_5.index t (0 : Fin 2) = t.val ∧ win0_5.index t (1 : Fin 2) = 0 := by decide +kernel
theorem emb5 (t : Fin cfg0.N) (a : Fin 512) (b : Fin 1024) :
    ((cfg0.win 5).blk t).view.emb (ix2 a b : S512x1024.Idx) = (ix2 (row t.val a) b : S4096x1024.Idx) :=
  idx_of _ _ _ (show win0_5.index t 0 * 512 + 1 * a.val = _ by rw [(index5 t).1]; exact row_val t a)
    (show win0_5.index t 1 * 1024 + 1 * b.val = _ by rw [(index5 t).2]; rw [Nat.zero_mul, Nat.zero_add, Nat.one_mul])

theorem index6 : ∀ t : Fin cfg0.N, win0_6.index t (0 : Fin 2) = t.val ∧ win0_6.index t (1 : Fin 2) = 0 := by decide +kernel
theorem emb6 (t : Fin cfg0.N) (a : Fin 512) (b : Fin 1024) :
    ((cfg0.win 6).blk t).view.emb (ix2 a b : S512x1024.Idx) = (ix2 (row t.val a) b : S4096x1024.Idx) :=
  idx_of _ _ _ (show win0_6.index t 0 * 512 + 1 * a.val = _ by rw [(index6 t).1]; exact row_val t a)
    (show win0_6.index t 1 * 1024 + 1 * b.val = _ by rw [(index6 t).2]; rw [Nat.zero_mul, Nat.zero_add, Nat.one_mul])

theorem index7 : ∀ t : Fin cfg0.N, win0_7.index t (0 : Fin 2) = t.val ∧ win0_7.index t (1 : Fin 2) = 0 := by decide +kernel
theorem emb7 (t : Fin cfg0.N) (a : Fin 512) (b : Fin 1024) :
    ((cfg0.win 7).blk t).view.emb (ix2 a b : S512x1024.Idx) = (ix2 (row t.val a) b : S4096x1024.Idx) :=
  idx_of _ _ _ (show win0_7.index t 0 * 512 + 1 * a.val = _ by rw [(index7 t).1]; exact row_val t a)
    (show win0_7.index t 1 * 1024 + 1 * b.val = _ by rw [(index7 t).2]; rw [Nat.zero_mul, Nat.zero_add, Nat.one_mul])

theorem index8 : ∀ t : Fin cfg0.N, win0_8.index t (0 : Fin 2) = t.val ∧ win0_8.index t (1 : Fin 2) = 0 := by decide +kernel
theorem emb8 (t : Fin cfg0.N) (a : Fin 512) (b : Fin 1024) :
    ((cfg0.win 8).blk t).view.emb (ix2 a b : S512x1024.Idx) = (ix2 (row t.val a) b : S4096x1024.Idx) :=
  idx_of _ _ _ (show win0_8.index t 0 * 512 + 1 * a.val = _ by rw [(index8 t).1]; exact row_val t a)
    (show win0_8.index t 1 * 1024 + 1 * b.val = _ by rw [(index8 t).2]; rw [Nat.zero_mul, Nat.zero_add, Nat.one_mul])

variable (m : (ℓ : Loc nD τ sig) → Buf (Elt Ideal) ℓ)

/-- The four arguments: the cotangent, the two branches, the wide array that holds their gates. -/
def g0 (c : Dev nD) : Vec Ideal S4096x1024 .f32 := m (c, Proc.tc.devRef main_arg0)
def g1 (c : Dev nD) : Vec Ideal S4096x1024 .f32 := m (c, Proc.tc.devRef main_arg1)
def g2 (c : Dev nD) : Vec Ideal S4096x1024 .f32 := m (c, Proc.tc.devRef main_arg2)
def g3 (c : Dev nD) : Vec Ideal S4096x7168 .f32 := m (c, Proc.tc.devRef main_arg3)

theorem blk0 (c : Dev nD) (t : Fin cfg0.N) (a : Fin 512) (b : Fin 1024) :
    (iblk m c 0 t : Vec Ideal S512x1024 .f32) (ix2 a b) = g0 m c (ix2 (row t.val a) b) :=
  (show (iblk m c 0 t : Vec Ideal S512x1024 .f32) (ix2 a b) = g0 m c (((cfg0.win 0).blk t).view.emb (ix2 a b : S512x1024.Idx)) from rfl).trans (congrArg (g0 m c) (emb0 t a b))

theorem blk1 (c : Dev nD) (t : Fin cfg0.N) (a : Fin 512) (b : Fin 1024) :
    (iblk m c 1 t : Vec Ideal S512x1024 .f32) (ix2 a b) = g1 m c (ix2 (row t.val a) b) :=
  (show (iblk m c 1 t : Vec Ideal S512x1024 .f32) (ix2 a b) = g1 m c (((cfg0.win 1).blk t).view.emb (ix2 a b : S512x1024.Idx)) from rfl).trans (congrArg (g1 m c) (emb1 t a b))

theorem blk2 (c : Dev nD) (t : Fin cfg0.N) (a : Fin 512) (b : Fin 1024) :
    (iblk m c 2 t : Vec Ideal S512x1024 .f32) (ix2 a b) = g2 m c (ix2 (row t.val a) b) :=
  (show (iblk m c 2 t : Vec Ideal S512x1024 .f32) (ix2 a b) = g2 m c (((cfg0.win 2).blk t).view.emb (ix2 a b : S512x1024.Idx)) from rfl).trans (congrArg (g2 m c) (emb2 t a b))

theorem blk3 (c : Dev nD) (t : Fin cfg0.N) (a : Fin 512) (b : Fin 1024) :
    (iblk m c 3 t : Vec Ideal S512x1024 .f32) (ix2 a b) = g3 m c (ix2 (row t.val a) (ca b)) :=
  (show (iblk m c 3 t : Vec Ideal S512x1024 .f32) (ix2 a b) = g3 m c (((cfg0.win 3).blk t).view.emb (ix2 a b : S512x1024.Idx)) from rfl).trans (congrArg (g3 m c) (emb3 t a b))

theorem blk4 (c : Dev nD) (t : Fin cfg0.N) (a : Fin 512) (b : Fin 1024) :
    (iblk m c 4 t : Vec Ideal S512x1024 .f32) (ix2 a b) = g3 m c (ix2 (row t.val a) (cb b)) :=
  (show (iblk m c 4 t : Vec Ideal S512x1024 .f32) (ix2 a b) = g3 m c (((cfg0.win 4).blk t).view.emb (ix2 a b : S512x1024.Idx)) from rfl).trans (congrArg (g3 m c) (emb4 t a b))

/-- A branch's gradient over the whole array, given where its gate's columns are, and a gate's. -/
def br (d : Vec Ideal S4096x1024 .f32) (u : Vec Ideal S4096x7168 .f32) (co : Fin 1024 → Fin 7168) (i : Fin 4096) (j : Fin 1024) : EReal :=
  sg (u (ix2 i (co j))) * d (ix2 i j)
def gt (d a : Vec Ideal S4096x1024 .f32) (u : Vec Ideal S4096x7168 .f32) (co : Fin 1024 → Fin 7168) (i : Fin 4096) (j : Fin 1024) : EReal :=
  ((d (ix2 i j) : EReal) * (a (ix2 i j) : EReal)) * (sg (u (ix2 i (co j))) * (1 - sg (u (ix2 i (co j)))))

/-! The gradient of the first branch. -/

def G5 (c : Dev nD) : Buf (Elt Ideal) ((c : Thread nD τ).loc main_v0_0) := fun y : S4096x1024.Idx => br (g0 m c) (g3 m c) ca (y 0) (y 1)

theorem out_blk5 (c : Dev nD) (t : Fin cfg0.N) (a : Fin 512) (b : Fin 1024) :
    out0_5 (iblk m c 0 t) (iblk m c 1 t) (iblk m c 2 t) (iblk m c 3 t) (iblk m c 4 t) (ix2 a b) = br (g0 m c) (g3 m c) ca (row t.val a) b := by
  rw [out5_eq]
  refine (branch_at _ _ _).trans ?_
  unfold br
  simp only [blk0, blk3]

theorem flushed5 (c : Dev nD) (t : Fin cfg0.N) :
    (dats m 0 c).flushed 5 t = ((cfg0.win 5).blk t).view.read (Elt Ideal) (G5 m c) := by
  rw [Value.flushed5]
  funext y
  have hx : (cfg0.win 5).xinj (grid0.coords t) y = (ix2 (⟨(y 0).val, (y 0).isLt⟩ : Fin 512) (⟨(y 1).val, (y 1).isLt⟩ : Fin 1024) : S512x1024.Idx) := idx_of _ _ _ rfl rfl
  have hy : ((cfg0.win 5).blk t).view.emb y = (ix2 (row t.val (⟨(y 0).val, (y 0).isLt⟩ : Fin 512)) (⟨(y 1).val, (y 1).isLt⟩ : Fin 1024) : S4096x1024.Idx) :=
    (congrArg _ hx).trans (emb5 t _ _)
  show out0_5 (iblk m c 0 t) (iblk m c 1 t) (iblk m c 2 t) (iblk m c 3 t) (iblk m c 4 t) ((cfg0.win 5).xinj (grid0.coords t) y) = G5 m c (((cfg0.win 5).blk t).view.emb y)
  rw [hx]
  exact (out_blk5 m c t _ _).trans (congrArg (G5 m c) hy).symm

theorem covered5 (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  have hn : (i 0).val / 512 < cfg0.N := by rw [show cfg0.N = 8 from N_0]; omega
  refine ⟨⟨_, hn⟩, flush0_5 _, ?_⟩
  obtain ⟨q0, q1⟩ := index5 ⟨_, hn⟩
  dsimp only at q0 q1
  show i ∈ ((View.whole main_v0_0).slice (win0_5.rect ⟨_, hn⟩)).set
  rw [View.set_slice_whole, Rect.mem_set_unit]
  intro a
  match a with
  | ⟨0, _⟩ => show win0_5.index ⟨_, hn⟩ (0 : Fin 2) * 512 ≤ (i 0).val ∧ (i 0).val < win0_5.index ⟨_, hn⟩ (0 : Fin 2) * 512 + 512; omega
  | ⟨1, _⟩ => show win0_5.index ⟨_, hn⟩ (1 : Fin 2) * 1024 ≤ (i 1).val ∧ (i 1).val < win0_5.index ⟨_, hn⟩ (1 : Fin 2) * 1024 + 1024; omega

theorem final5 (c : Dev nD) : (dats m 0 c).arrAt 5 cfg0.N = G5 m c :=
  (dats m 0 c).arrAt_eq_of_cover 5 _ (fun t _ => flushed5 m c t) covered5

/-! The gradient of the second branch. -/

def G6 (c : Dev nD) : Buf (Elt Ideal) ((c : Thread nD τ).loc main_v0_1) := fun y : S4096x1024.Idx => br (g0 m c) (g3 m c) cb (y 0) (y 1)

theorem out_blk6 (c : Dev nD) (t : Fin cfg0.N) (a : Fin 512) (b : Fin 1024) :
    out0_6 (iblk m c 0 t) (iblk m c 1 t) (iblk m c 2 t) (iblk m c 3 t) (iblk m c 4 t) (ix2 a b) = br (g0 m c) (g3 m c) cb (row t.val a) b := by
  rw [out6_eq, pay8_eq]
  refine (branch_at _ _ _).trans ?_
  unfold br
  simp only [blk0, blk4]

theorem flushed6 (c : Dev nD) (t : Fin cfg0.N) :
    (dats m 0 c).flushed 6 t = ((cfg0.win 6).blk t).view.read (Elt Ideal) (G6 m c) := by
  rw [Value.flushed6]
  funext y
  have hx : (cfg0.win 6).xinj (grid0.coords t) y = (ix2 (⟨(y 0).val, (y 0).isLt⟩ : Fin 512) (⟨(y 1).val, (y 1).isLt⟩ : Fin 1024) : S512x1024.Idx) := idx_of _ _ _ rfl rfl
  have hy : ((cfg0.win 6).blk t).view.emb y = (ix2 (row t.val (⟨(y 0).val, (y 0).isLt⟩ : Fin 512)) (⟨(y 1).val, (y 1).isLt⟩ : Fin 1024) : S4096x1024.Idx) :=
    (congrArg _ hx).trans (emb6 t _ _)
  show out0_6 (iblk m c 0 t) (iblk m c 1 t) (iblk m c 2 t) (iblk m c 3 t) (iblk m c 4 t) ((cfg0.win 6).xinj (grid0.coords t) y) = G6 m c (((cfg0.win 6).blk t).view.emb y)
  rw [hx]
  exact (out_blk6 m c t _ _).trans (congrArg (G6 m c) hy).symm

theorem covered6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hn : (i 0).val / 512 < cfg0.N := by rw [show cfg0.N = 8 from N_0]; omega
  refine ⟨⟨_, hn⟩, flush0_6 _, ?_⟩
  obtain ⟨q0, q1⟩ := index6 ⟨_, hn⟩
  dsimp only at q0 q1
  show i ∈ ((View.whole main_v0_1).slice (win0_6.rect ⟨_, hn⟩)).set
  rw [View.set_slice_whole, Rect.mem_set_unit]
  intro a
  match a with
  | ⟨0, _⟩ => show win0_6.index ⟨_, hn⟩ (0 : Fin 2) * 512 ≤ (i 0).val ∧ (i 0).val < win0_6.index ⟨_, hn⟩ (0 : Fin 2) * 512 + 512; omega
  | ⟨1, _⟩ => show win0_6.index ⟨_, hn⟩ (1 : Fin 2) * 1024 ≤ (i 1).val ∧ (i 1).val < win0_6.index ⟨_, hn⟩ (1 : Fin 2) * 1024 + 1024; omega

theorem final6 (c : Dev nD) : (dats m 0 c).arrAt 6 cfg0.N = G6 m c :=
  (dats m 0 c).arrAt_eq_of_cover 6 _ (fun t _ => flushed6 m c t) covered6

/-! The gradient of the first branch's gate. -/

def G7 (c : Dev nD) : Buf (Elt Ideal) ((c : Thread nD τ).loc main_v0_2) := fun y : S4096x1024.Idx => gt (g0 m c) (g1 m c) (g3 m c) ca (y 0) (y 1)

theorem out_blk7 (c : Dev nD) (t : Fin cfg0.N) (a : Fin 512) (b : Fin 1024) :
    out0_7 (iblk m c 0 t) (iblk m c 1 t) (iblk m c 2 t) (iblk m c 3 t) (iblk m c 4 t) (ix2 a b) = gt (g0 m c) (g1 m c) (g3 m c) ca (row t.val a) b := by
  rw [out7_eq]
  refine (gate_at _ _ _ _).trans ?_
  unfold gt
  simp only [blk0, blk1, blk3]

theorem flushed7 (c : Dev nD) (t : Fin cfg0.N) :
    (dats m 0 c).flushed 7 t = ((cfg0.win 7).blk t).view.read (Elt Ideal) (G7 m c) := by
  rw [Value.flushed7]
  funext y
  have hx : (cfg0.win 7).xinj (grid0.coords t) y = (ix2 (⟨(y 0).val, (y 0).isLt⟩ : Fin 512) (⟨(y 1).val, (y 1).isLt⟩ : Fin 1024) : S512x1024.Idx) := idx_of _ _ _ rfl rfl
  have hy : ((cfg0.win 7).blk t).view.emb y = (ix2 (row t.val (⟨(y 0).val, (y 0).isLt⟩ : Fin 512)) (⟨(y 1).val, (y 1).isLt⟩ : Fin 1024) : S4096x1024.Idx) :=
    (congrArg _ hx).trans (emb7 t _ _)
  show out0_7 (iblk m c 0 t) (iblk m c 1 t) (iblk m c 2 t) (iblk m c 3 t) (iblk m c 4 t) ((cfg0.win 7).xinj (grid0.coords t) y) = G7 m c (((cfg0.win 7).blk t).view.emb y)
  rw [hx]
  exact (out_blk7 m c t _ _).trans (congrArg (G7 m c) hy).symm

theorem covered7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  have hn : (i 0).val / 512 < cfg0.N := by rw [show cfg0.N = 8 from N_0]; omega
  refine ⟨⟨_, hn⟩, flush0_7 _, ?_⟩
  obtain ⟨q0, q1⟩ := index7 ⟨_, hn⟩
  dsimp only at q0 q1
  show i ∈ ((View.whole main_v0_2).slice (win0_7.rect ⟨_, hn⟩)).set
  rw [View.set_slice_whole, Rect.mem_set_unit]
  intro a
  match a with
  | ⟨0, _⟩ => show win0_7.index ⟨_, hn⟩ (0 : Fin 2) * 512 ≤ (i 0).val ∧ (i 0).val < win0_7.index ⟨_, hn⟩ (0 : Fin 2) * 512 + 512; omega
  | ⟨1, _⟩ => show win0_7.index ⟨_, hn⟩ (1 : Fin 2) * 1024 ≤ (i 1).val ∧ (i 1).val < win0_7.index ⟨_, hn⟩ (1 : Fin 2) * 1024 + 1024; omega

theorem final7 (c : Dev nD) : (dats m 0 c).arrAt 7 cfg0.N = G7 m c :=
  (dats m 0 c).arrAt_eq_of_cover 7 _ (fun t _ => flushed7 m c t) covered7

/-! The gradient of the second branch's gate. -/

def G8 (c : Dev nD) : Buf (Elt Ideal) ((c : Thread nD τ).loc main_v0_3) := fun y : S4096x1024.Idx => gt (g0 m c) (g2 m c) (g3 m c) cb (y 0) (y 1)

theorem out_blk8 (c : Dev nD) (t : Fin cfg0.N) (a : Fin 512) (b : Fin 1024) :
    out0_8 (iblk m c 0 t) (iblk m c 1 t) (iblk m c 2 t) (iblk m c 3 t) (iblk m c 4 t) (ix2 a b) = gt (g0 m c) (g2 m c) (g3 m c) cb (row t.val a) b := by
  rw [out8_eq, pay2_eq]
  refine (gate_at _ _ _ _).trans ?_
  unfold gt
  simp only [blk0, blk2, blk4]

theorem flushed8 (c : Dev nD) (t : Fin cfg0.N) :
    (dats m 0 c).flushed 8 t = ((cfg0.win 8).blk t).view.read (Elt Ideal) (G8 m c) := by
  rw [Value.flushed8]
  funext y
  have hx : (cfg0.win 8).xinj (grid0.coords t) y = (ix2 (⟨(y 0).val, (y 0).isLt⟩ : Fin 512) (⟨(y 1).val, (y 1).isLt⟩ : Fin 1024) : S512x1024.Idx) := idx_of _ _ _ rfl rfl
  have hy : ((cfg0.win 8).blk t).view.emb y = (ix2 (row t.val (⟨(y 0).val, (y 0).isLt⟩ : Fin 512)) (⟨(y 1).val, (y 1).isLt⟩ : Fin 1024) : S4096x1024.Idx) :=
    (congrArg _ hx).trans (emb8 t _ _)
  show out0_8 (iblk m c 0 t) (iblk m c 1 t) (iblk m c 2 t) (iblk m c 3 t) (iblk m c 4 t) ((cfg0.win 8).xinj (grid0.coords t) y) = G8 m c (((cfg0.win 8).blk t).view.emb y)
  rw [hx]
  exact (out_blk8 m c t _ _).trans (congrArg (G8 m c) hy).symm

theorem covered8 (i : S4096x1024.Idx) : ∃ t : Fin cfg0.N, (cfg0.win 8).flush t = true ∧ i ∈ ((cfg0.win 8).blk t).view.set := by
  have hi0 : (i 0).val < 4096 := (i 0).isLt
  have hi1 : (i 1).val < 1024 := (i 1).isLt
  have hn : (i 0).val / 512 < cfg0.N := by rw [show cfg0.N = 8 from N_0]; omega
  refine ⟨⟨_, hn⟩, flush0_8 _, ?_⟩
  obtain ⟨q0, q1⟩ := index8 ⟨_, hn⟩
  dsimp only at q0 q1
  show i ∈ ((View.whole main_v0_3).slice (win0_8.rect ⟨_, hn⟩)).set
  rw [View.set_slice_whole, Rect.mem_set_unit]
  intro a
  match a with
  | ⟨0, _⟩ => show win0_8.index ⟨_, hn⟩ (0 : Fin 2) * 512 ≤ (i 0).val ∧ (i 0).val < win0_8.index ⟨_, hn⟩ (0 : Fin 2) * 512 + 512; omega
  | ⟨1, _⟩ => show win0_8.index ⟨_, hn⟩ (1 : Fin 2) * 1024 ≤ (i 1).val ∧ (i 1).val < win0_8.index ⟨_, hn⟩ (1 : Fin 2) * 1024 + 1024; omega

theorem final8 (c : Dev nD) : (dats m 0 c).arrAt 8 cfg0.N = G8 m c :=
  (dats m 0 c).arrAt_eq_of_cover 8 _ (fun t _ => flushed8 m c t) covered8

/-! The reference's results at an index. -/

open Cert.MgbReferenceIdeal.Read

theorem v31_at (d : Vec Ideal S4096x1024 .f32) (u : Vec Ideal S4096x7168 .f32) (i : Fin 4096) (j : Fin 1024) : (val_main_v31 (F := Ideal) d u (ix2 i j : S4096x1024.Idx) : EReal) = br d u ca i j := by
  rw [← val_main_v31_eq]
  unfold br sg
  rw [← one_bits]
  pointwise
  rfl

theorem same5 (c : Dev nD) : val_main_v31 (F := Ideal) (g0 m c) (g3 m c) = G5 m c := by
  funext y
  rw [eq_ix2 y]
  exact v31_at (g0 m c) (g3 m c) (y 0) (y 1)

theorem v32_at (d : Vec Ideal S4096x1024 .f32) (u : Vec Ideal S4096x7168 .f32) (i : Fin 4096) (j : Fin 1024) : (val_main_v32 (F := Ideal) d u (ix2 i j : S4096x1024.Idx) : EReal) = br d u cb i j := by
  rw [← val_main_v32_eq]
  unfold br sg
  rw [← one_bits]
  pointwise
  rfl

theorem same6 (c : Dev nD) : val_main_v32 (F := Ideal) (g0 m c) (g3 m c) = G6 m c := by
  funext y
  rw [eq_ix2 y]
  exact v32_at (g0 m c) (g3 m c) (y 0) (y 1)

theorem v33_at (d a : Vec Ideal S4096x1024 .f32) (u : Vec Ideal S4096x7168 .f32) (i : Fin 4096) (j : Fin 1024) : (val_main_v33 (F := Ideal) d a u (ix2 i j : S4096x1024.Idx) : EReal) = gt d a u ca i j := by
  rw [← val_main_v33_eq]
  unfold gt sg
  rw [← one_bits]
  pointwise
  rfl

theorem same7 (c : Dev nD) : val_main_v33 (F := Ideal) (g0 m c) (g1 m c) (g3 m c) = G7 m c := by
  funext y
  rw [eq_ix2 y]
  exact v33_at (g0 m c) (g1 m c) (g3 m c) (y 0) (y 1)

theorem v34_at (d a : Vec Ideal S4096x1024 .f32) (u : Vec Ideal S4096x7168 .f32) (i : Fin 4096) (j : Fin 1024) : (val_main_v34 (F := Ideal) d a u (ix2 i j : S4096x1024.Idx) : EReal) = gt d a u cb i j := by
  rw [← val_main_v34_eq]
  unfold gt sg
  rw [← one_bits]
  pointwise
  rfl

theorem same8 (c : Dev nD) : val_main_v34 (F := Ideal) (g0 m c) (g2 m c) (g3 m c) = G8 m c := by
  funext y
  rw [eq_ix2 y]
  exact v34_at (g0 m c) (g2 m c) (g3 m c) (y 0) (y 1)

end Cert.MgbIdeal.Grad
-- ==== Proof.Drms.lean ====
module

public import proofs.«01_k».proof.Proof.Gen.DrmsIdeal.Value
public import proofs.«01_k».proof.Proof.Gen.DrmsReferenceIdeal.Run
public import proofs.«01_k».proof.Proof.Gen.DrmsReferenceIdeal.Read
public import proofs.«01_k».proof.Proof.Gate
public import proofs.«01_k».proof.Proof.Sums
public import proofs.«01_k».proof.Proof.Real
public import Idealize.ShloMosaic.Lib.Pointwise

@[expose] public section

set_option maxRecDepth 16384

noncomputable section

/-! The gradient of the root mean square norm, added to a residual: each row's own, and the weights', which the kernel
adds up over the grid in its output's block. -/

namespace Cert.DrmsIdeal.Grad

open Cert.DrmsIdeal Cert.DrmsIdeal.Gen Idealize.ShloMosaic Idealize.ShloMosaic.TcCoe Cert.Gate Cert.Sums

/-- One over the root of a row's mean square. -/
def inv (x : Fin 1024 → EReal) : EReal :=
  Ideal.rsqrt (Ideal.div (∑ k : Fin 1024, x k * x k) (Ideal.ofBits .f32 0x44800000#32) + Ideal.ofBits .f32 0x358637BD#32)

/-- A row's gradient as the kernel writes it. -/
def row_k (d x g : Fin 1024 → EReal) (j : Fin 1024) : EReal :=
  inv x * (d j * g j - (x j * inv x) * Ideal.div (∑ k : Fin 1024, (d k * g k) * (x k * inv x)) (Ideal.ofBits .f32 0x44800000#32))

/-- A row's gradient as the reference's two derivatives give it. -/
def coef (d x g : Fin 1024 → EReal) : EReal :=
  Ideal.div ((∑ k : Fin 1024, x k * (d k * g k)) * (Ideal.ofBits .f32 0xBF000000#32 * Ideal.div (inv x)
    (Ideal.div (∑ k : Fin 1024, x k * x k) (Ideal.ofBits .f32 0x44800000#32) + Ideal.ofBits .f32 0x358637BD#32))) (Ideal.ofBits .f32 0x44800000#32)

def row_r (d x g : Fin 1024 → EReal) (j : Fin 1024) : EReal :=
  ((d j * g j) * inv x + x j * coef d x g) + coef d x g * x j

/-- A square is not negative. -/
theorem sq_nonneg (a : EReal) : 0 ≤ a * a := by
  rcases le_total 0 a with h | h
  · exact EReal.mul_nonneg h h
  · have e : a * a = (-a) * (-a) := by rw [neg_mul_neg]
    rw [e]
    exact EReal.mul_nonneg (EReal.neg_nonneg.mpr h) (EReal.neg_nonneg.mpr h)

/-- A sum times a real number that is not negative. -/
theorem sum_scale {M : ℕ} (f : Fin M → EReal) (r : ℝ) (hr : 0 ≤ r) : (∑ j : Fin M, f j) * (r : EReal) = ∑ j : Fin M, f j * (r : EReal) := by
  have h : ∀ s : Finset (Fin M), (∑ j ∈ s, f j) * (r : EReal) = ∑ j ∈ s, f j * (r : EReal) := by
    intro s
    induction s using Finset.induction_on with
    | empty => simp
    | insert a s ha ih =>
      rw [Finset.sum_insert ha, Finset.sum_insert ha, ← ih, mul_comm, mul_comm _ (r : EReal), mul_comm _ (r : EReal)]
      exact EReal.left_distrib_of_nonneg_of_ne_top (by exact_mod_cast hr) (EReal.coe_ne_top _) _ _
  exact h Finset.univ

/-- Twice a multiple by a negative real number. -/
theorem twice (u : EReal) (c : ℝ) (hc : c < 0) : u * (c : EReal) + u * (c : EReal) = u * ((c + c : ℝ) : EReal) := by
  induction u using EReal.rec with
  | bot => rw [EReal.bot_mul_coe_of_neg hc, EReal.bot_mul_coe_of_neg (by linarith)]; rfl
  | coe u => norm_cast; ring
  | top => rw [EReal.top_mul_coe_of_neg hc, EReal.top_mul_coe_of_neg (by linarith)]; rfl

/-- The mean square with the small number is infinite, or a positive real number. -/
theorem inv_cases (x : Fin 1024 → EReal) : ∃ s : EReal,
    Ideal.div (∑ k : Fin 1024, x k * x k) (Ideal.ofBits .f32 0x44800000#32) + Ideal.ofBits .f32 0x358637BD#32 = s ∧
    ((s = ⊤ ∧ inv x = 0) ∨ ∃ t r : ℝ, 0 < t ∧ 0 < r ∧ r * r * t = 1 ∧ s = (t : EReal) ∧ inv x = (r : EReal)) := by
  obtain ⟨e, he, eb⟩ := eps_bits
  have hn : 0 ≤ ∑ k : Fin 1024, x k * x k := Finset.sum_nonneg fun k _ => sq_nonneg _
  refine ⟨_, rfl, ?_⟩
  unfold Cert.DrmsIdeal.Grad.inv
  rw [length_bits, eb, Ideal.div_coe (by norm_num)]
  generalize ∑ k : Fin 1024, x k * x k = z at hn
  induction z using EReal.rec with
  | bot => exact absurd hn (by simp)
  | top =>
    left
    rw [EReal.top_mul_coe_of_pos (by norm_num), EReal.top_add_coe]
    exact ⟨rfl, rfl⟩
  | coe z =>
    right
    have hz : 0 ≤ z := by exact_mod_cast hn
    have ht : 0 < z * (1 / 1024) + e := by positivity
    refine ⟨z * (1 / 1024) + e, (Real.sqrt (z * (1 / 1024) + e))⁻¹, ht, inv_pos.mpr (Real.sqrt_pos.mpr ht), ?_, by push_cast; rfl, ?_⟩
    · rw [← mul_inv, Real.mul_self_sqrt ht.le, inv_mul_cancel₀ ht.ne']
    · rw [← EReal.coe_mul, ← EReal.coe_add, Ideal.rsqrt_coe, if_neg (not_lt.mpr ht.le), if_neg ht.ne']

/-- Both forms of a row's entry, the root real. -/
theorem alg (D x T : EReal) (t r : ℝ) (ht : 0 < t) (hr : 0 < r) (h : r * r * t = 1) :
    (r : EReal) * (D - (x * r) * (T * r * ((1 / 1024 : ℝ) : EReal)))
      = (D * r + x * (T * (((-(1 / 2) : ℝ) : EReal) * ((r / t : ℝ) : EReal)) * ((1 / 1024 : ℝ) : EReal)))
        + (T * (((-(1 / 2) : ℝ) : EReal) * ((r / t : ℝ) : EReal)) * ((1 / 1024 : ℝ) : EReal)) * x := by
  have e : r / t = r * (r * r) := by
    rw [div_eq_iff ht.ne']
    linear_combination (-r) * h
  have a1 : x * (T * (((-(1 / 2) : ℝ) : EReal) * ((r / t : ℝ) : EReal)) * ((1 / 1024 : ℝ) : EReal)) = (x * T) * ((-(1 / 2) * (r * (r * r)) * (1 / 1024) : ℝ) : EReal) := by
    rw [e, EReal.coe_mul (-(1 / 2) * (r * (r * r))), EReal.coe_mul (-(1 / 2))]
    ac_rfl
  have a2 : (r : EReal) * ((x * r) * (T * r * ((1 / 1024 : ℝ) : EReal))) = (x * T) * ((r * (r * r) * (1 / 1024) : ℝ) : EReal) := by
    rw [EReal.coe_mul (r * (r * r)), EReal.coe_mul r, EReal.coe_mul r]
    ac_rfl
  have a3 : -(r * (r * r) * (1 / 1024)) = -(1 / 2) * (r * (r * r)) * (1 / 1024) + -(1 / 2) * (r * (r * r)) * (1 / 1024) := by ring
  have p : 0 < r * (r * r) := by positivity
  rw [mul_comm _ x, a1, add_assoc, twice _ _ (by linarith), ← a3, sub_eq_add_neg,
    EReal.left_distrib_of_nonneg_of_ne_top (by exact_mod_cast hr.le) (EReal.coe_ne_top _), mul_neg, a2, EReal.coe_neg, mul_neg, mul_comm D]

/-- The two are one, whatever the elements. -/
theorem rows_eq (d x g : Fin 1024 → EReal) (j : Fin 1024) : row_k d x g j = row_r d x g j := by
  obtain ⟨s, e1, ⟨rfl, e2⟩ | ⟨t, r, ht, hr, h, rfl, e2⟩⟩ := inv_cases x
  · unfold row_k row_r coef
    rw [e1, e2, length_bits, Ideal.div_coe (by norm_num), Ideal.div_coe (by norm_num)]
    have q : Ideal.div 0 ⊤ = 0 := by
      unfold Ideal.div
      rw [if_neg (by simp), zero_mul]
    rw [q]
    simp only [mul_zero, zero_mul, add_zero]
  · unfold row_k row_r coef
    rw [e1, e2, length_bits, minus_half_bits, Ideal.div_coe (by norm_num), Ideal.div_coe (by norm_num), Cert.Attn.div_real _ _ ht.ne']
    have q : ∑ k : Fin 1024, (d k * g k) * (x k * (r : EReal)) = (∑ k : Fin 1024, x k * (d k * g k)) * (r : EReal) := by
      rw [sum_scale _ _ hr.le]
      exact Finset.sum_congr rfl fun k _ => by ac_rfl
    rw [q]
    exact alg _ _ _ t r ht hr h

/-! What the body computes at an index of a block. -/

theorem pay2_at (x : Vec Ideal S512x1024 .f32) (a : Fin 512) : (k0_pay2 x (ix2 a (0 : Fin 1)) : EReal) = inv fun k => x (ix2 a k) := by
  unfold inv
  pointwise [k0_pay2]

theorem pay3_at (x : Vec Ideal S512x1024 .f32) (a : Fin 512) (b : Fin 1024) :
    (k0_pay3 x (ix2 a b) : EReal) = x (ix2 a b) * inv fun k => x (ix2 a k) := by
  rw [← pay2_at]
  unfold k0_pay3
  generalize k0_pay2 x = z
  pointwise

theorem pay4_at (d x res : Vec Ideal S512x1024 .f32) (g : Vec Ideal S1x1024 .f32) (a : Fin 512) (b : Fin 1024) :
    (k0_pay4 d x res g (ix2 a b) : EReal) = res (ix2 a b) + row_k (fun k => d (ix2 a k)) (fun k => x (ix2 a k)) (fun k => g (ix2 (0 : Fin 1) k)) b := by
  have e2 := pay2_at x a
  have e3 := pay3_at x a
  unfold row_k
  simp only [← e2]
  simp only [← e2] at e3
  unfold k0_pay4
  generalize k0_pay3 x = z at e3 ⊢
  generalize k0_pay2 x = w at e3 ⊢
  pointwise
  simp only [e3]

theorem pay5_at (d x : Vec Ideal S512x1024 .f32) (b : Fin 1024) :
    (k0_pay5 d x (ix2 (0 : Fin 1) b) : EReal) = ∑ a : Fin 512, (d (ix2 a b) : EReal) * (x (ix2 a b) * inv fun k => x (ix2 a k)) := by
  have e3 : ∀ a : Fin 512, (k0_pay3 x (ix2 a b) : EReal) = _ := fun a => pay3_at x a b
  simp only [← e3]
  unfold k0_pay5
  generalize k0_pay3 x = z
  pointwise

theorem pay1_at (u v : Vec Ideal S1x1024 .f32) (b : Fin 1024) : (k0_pay1 u v (ix2 (0 : Fin 1) b) : EReal) = v (ix2 (0 : Fin 1) b) + u (ix2 (0 : Fin 1) b) := by
  unfold k0_pay1
  pointwise

/-! What each case leaves in the two outputs' blocks. -/

theorem out0_A_4_eq (c : Dev nD) (i : grid0.Coords) (a2 : Memref sig .tc .vmem S512x1024 .f32) (ha2 : a2.IsWhole) (a3 : Memref sig .tc .vmem S512x1024 .f32) (ha3 : a3.IsWhole) (a4 : Memref sig .tc .vmem S512x1024 .f32) (ha4 : a4.IsWhole) (a5 : Memref sig .tc .vmem S1x1024 .f32) (ha5 : a5.IsWhole) (a6 : Memref sig .tc .vmem S512x1024 .f32) (ha6 : a6.IsWhole) (a7 : Memref sig .tc .vmem S1x1024 .f32) (ha7 : a7.IsWhole) (hc0 : cond0_0 i) (hc1 : ¬cond0_1 i)
    (x0 x1 x2 : Vec Ideal S512x1024 .f32) (x3 : Vec Ideal S1x1024 .f32) :
    out0_A_4 c i a2 ha2 a3 ha3 a4 ha4 a5 ha5 a6 ha6 a7 ha7 hc0 hc1 x0 x1 x2 x3 = k0_pay4 x0 x1 x2 x3 := by
  unfold out0_A_4
  rw [View.read_writes_eq_canon _ _ _ (cover0_A_4 c i a2 ha2 a3 ha3 a4 ha4 a5 ha5 a6 ha6 a7 ha7 hc0 hc1 x0 x1 x2 x3)]
  unfold kernelRun0_A
  dsimp only
  sl_unfold_words
  simp only [View.readAt_eq_ld, ha2.read_unread, ha3.read_unread, ha4.read_unread, ha5.read_unread, ha6.read_unread, ha7.read_unread, View.ld_unit_zero (S := S512x1024) hz2, View.ld_unit_zero (S := S1x1024) hz2]
  rw [View.canon_cons_unit_zero hz2]

theorem out0_A_5_eq (c : Dev nD) (i : grid0.Coords) (a2 : Memref sig .tc .vmem S512x1024 .f32) (ha2 : a2.IsWhole) (a3 : Memref sig .tc .vmem S512x1024 .f32) (ha3 : a3.IsWhole) (a4 : Memref sig .tc .vmem S512x1024 .f32) (ha4 : a4.IsWhole) (a5 : Memref sig .tc .vmem S1x1024 .f32) (ha5 : a5.IsWhole) (a6 : Memref sig .tc .vmem S512x1024 .f32) (ha6 : a6.IsWhole) (a7 : Memref sig .tc .vmem S1x1024 .f32) (ha7 : a7.IsWhole) (hc0 : cond0_0 i) (hc1 : ¬cond0_1 i)
    (x0 x1 x2 : Vec Ideal S512x1024 .f32) (x3 : Vec Ideal S1x1024 .f32) :
    out0_A_5 c i a2 ha2 a3 ha3 a4 ha4 a5 ha5 a6 ha6 a7 ha7 hc0 hc1 x0 x1 x2 x3 = k0_pay5 x0 x1 := by
  unfold out0_A_5
  rw [View.read_writes_eq_canon _ _ _ (cover0_A_5 c i a2 ha2 a3 ha3 a4 ha4 a5 ha5 a6 ha6 a7 ha7 hc0 hc1 x0 x1 x2 x3)]
  unfold kernelRun0_A
  dsimp only
  sl_unfold_words
  simp only [View.readAt_eq_ld, ha2.read_unread, ha3.read_unread, ha4.read_unread, ha5.read_unread, ha6.read_unread, ha7.read_unread, View.ld_unit_zero (S := S512x1024) hz2, View.ld_unit_zero (S := S1x1024) hz2]
  rw [View.canon_cons_unit_zero hz2]

theorem out0_B_4_eq (c : Dev nD) (i : grid0.Coords) (a2 : Memref sig .tc .vmem S512x1024 .f32) (ha2 : a2.IsWhole) (a3 : Memref sig .tc .vmem S512x1024 .f32) (ha3 : a3.IsWhole) (a4 : Memref sig .tc .vmem S512x1024 .f32) (ha4 : a4.IsWhole) (a5 : Memref sig .tc .vmem S1x1024 .f32) (ha5 : a5.IsWhole) (a6 : Memref sig .tc .vmem S512x1024 .f32) (ha6 : a6.IsWhole) (a7 : Memref sig .tc .vmem S1x1024 .f32) (ha7 : a7.IsWhole) (hc0 : ¬cond0_0 i) (hc1 : cond0_1 i)
    (x0 x1 x2 : Vec Ideal S512x1024 .f32) (x3 : Vec Ideal S1x1024 .f32) (xo : Vec Ideal S1x1024 .f32) :
    out0_B_4 c i a2 ha2 a3 ha3 a4 ha4 a5 ha5 a6 ha6 a7 ha7 hc0 hc1 x0 x1 x2 x3 xo = k0_pay4 x0 x1 x2 x3 := by
  unfold out0_B_4
  rw [View.read_writes_eq_canon _ _ _ (cover0_B_4 c i a2 ha2 a3 ha3 a4 ha4 a5 ha5 a6 ha6 a7 ha7 hc0 hc1 x0 x1 x2 x3 xo)]
  unfold kernelRun0_B
  dsimp only
  sl_unfold_words
  simp only [View.readAt_eq_ld, ha2.read_unread, ha3.read_unread, ha4.read_unread, ha5.read_unread, ha6.read_unread, ha7.read_unread, View.ld_unit_zero (S := S512x1024) hz2, View.ld_unit_zero (S := S1x1024) hz2]
  rw [View.canon_cons_unit_zero hz2]

theorem out0_B_5_eq (c : Dev nD) (i : grid0.Coords) (a2 : Memref sig .tc .vmem S512x1024 .f32) (ha2 : a2.IsWhole) (a3 : Memref sig .tc .vmem S512x1024 .f32) (ha3 : a3.IsWhole) (a4 : Memref sig .tc .vmem S512x1024 .f32) (ha4 : a4.IsWhole) (a5 : Memref sig .tc .vmem S1x1024 .f32) (ha5 : a5.IsWhole) (a6 : Memref sig .tc .vmem S512x1024 .f32) (ha6 : a6.IsWhole) (a7 : Memref sig .tc .vmem S1x1024 .f32) (ha7 : a7.IsWhole) (hc0 : ¬cond0_0 i) (hc1 : cond0_1 i)
    (x0 x1 x2 : Vec Ideal S512x1024 .f32) (x3 : Vec Ideal S1x1024 .f32) (xo : Vec Ideal S1x1024 .f32) :
    out0_B_5 c i a2 ha2 a3 ha3 a4 ha4 a5 ha5 a6 ha6 a7 ha7 hc0 hc1 x0 x1 x2 x3 xo = k0_pay1 (k0_pay5 x0 x1) xo := by
  unfold out0_B_5
  rw [View.read_writes_eq_canon _ _ _ (cover0_B_5 c i a2 ha2 a3 ha3 a4 ha4 a5 ha5 a6 ha6 a7 ha7 hc0 hc1 x0 x1 x2 x3 xo)]
  unfold kernelRun0_B
  dsimp only
  sl_unfold_words
  simp only [View.readAt_eq_ld, ha2.read_unread, ha3.read_unread, ha4.read_unread, ha5.read_unread, ha6.read_unread, ha7.read_unread, View.ld_unit_zero (S := S512x1024) hz2, View.ld_unit_zero (S := S1x1024) hz2]
  rw [View.canon_cons_unit_zero hz2]

/-! Which block each window reads or writes at a grid point: rows `512 t` on, all the columns, and the weights whole. -/

theorem tlt (t : Fin cfg0.N) : t.val < 8 := lt_of_lt_of_eq t.isLt (show cfg0.N = 8 from N_0)

def row (t : ℕ) (a : Fin 512) : Fin 4096 := ⟨(512 * t + a.val) % 4096, Nat.mod_lt _ (by decide)⟩

theorem row_val (t : Fin cfg0.N) (a : Fin 512) : t.val * 512 + 1 * a.val = (row t.val a).val := by
  have ht := tlt t
  show t.val * 512 + 1 * a.val = (512 * t.val + a.val) % 4096
  omega

/-- An index is known by its two coordinates. -/
theorem idx_of {n0 n1 : ℕ} (f : (⟨2, ![n0, n1]⟩ : Shape).Idx) (i : Fin n0) (j : Fin n1) (h0 : (f 0).val = i.val) (h1 : (f 1).val = j.val) : f = ix2 i j := by
  funext a; apply Fin.ext
  match a with
  | ⟨0, _⟩ => exact h0
  | ⟨1, _⟩ => exact h1

theorem index0 : ∀ t : Fin cfg0.N, win0_0.index t (0 : Fin 2) = t.val ∧ win0_0.index t (1 : Fin 2) = 0 := by decide +kernel
theorem emb0 (t : Fin cfg0.N) (a : Fin 512) (b : Fin 1024) :
    ((cfg0.win 0).blk t).view.emb (ix2 a b : S512x1024.Idx) = (ix2 (row t.val a) b : S4096x1024.Idx) :=
  idx_of _ _ _ (show win0_0.index t 0 * 512 + 1 * a.val = _ by rw [(index0 t).1]; exact row_val t a)
    (show win0_0.index t 1 * 1024 + 1 * b.val = _ by rw [(index0 t).2]; rw [Nat.zero_mul, Nat.zero_add, Nat.one_mul])

theorem index1 : ∀ t : Fin cfg0.N, win0_1.index t (0 : Fin 2) = t.val ∧ win0_1.index t (1 : Fin 2) = 0 := by decide +kernel
theorem emb1 (t : Fin cfg0.N) (a : Fin 512) (b : Fin 1024) :
    ((cfg0.win 1).blk t).view.emb (ix2 a b : S512x1024.Idx) = (ix2 (row t.val a) b : S4096x1024.Idx) :=
  idx_of _ _ _ (show win0_1.index t 0 * 512 + 1 * a.val = _ by rw [(index1 t).1]; exact row_val t a)
    (show win0_1.index t 1 * 1024 + 1 * b.val = _ by rw [(index1 t).2]; rw [Nat.zero_mul, Nat.zero_add, Nat.one_mul])

theorem index2 : ∀ t : Fin cfg0.N, win0_2.index t (0 : Fin 2) = t.val ∧ win0_2.index t (1 : Fin 2) = 0 := by decide +kernel
theorem emb2 (t : Fin cfg0.N) (a : Fin 512) (b : Fin 1024) :
    ((cfg0.win 2).blk t).view.emb (ix2 a b : S512x1024.Idx) = (ix2 (row t.val a) b : S4096x1024.Idx) :=
  idx_of _ _ _ (show win0_2.index t 0 * 512 + 1 * a.val = _ by rw [(index2 t).1]; exact row_val t a)
    (show win0_2.index t 1 * 1024 + 1 * b.val = _ by rw [(index2 t).2]; rw [Nat.zero_mul, Nat.zero_add, Nat.one_mul])

theorem index3 : ∀ t : Fin cfg0.N, win0_3.index t (0 : Fin 2) = 0 ∧ win0_3.index t (1 : Fin 2) = 0 := by decide +kernel
theorem emb3 (t : Fin cfg0.N) (a : Fin 1) (b : Fin 1024) :
    ((cfg0.win 3).blk t).view.emb (ix2 a b : S1x1024.Idx) = (ix2 a b : S1x1024.Idx) :=
  idx_of _ _ _ (show win0_3.index t 0 * 1 + 1 * a.val = _ by rw [(index3 t).1]; rw [Nat.zero_mul, Nat.zero_add, Nat.one_mul])
    (show win0_3.index t 1 * 1024 + 1 * b.val = _ by rw [(index3 t).2]; rw [Nat.zero_mul, Nat.zero_add, Nat.one_mul])

theorem index4 : ∀ t : Fin cfg0.N, win0_4.index t (0 : Fin 2) = t.val ∧ win0_4.index t (1 : Fin 2) = 0 := by decide +kernel
theorem emb4 (t : Fin cfg0.N) (a : Fin 512) (b : Fin 1024) :
    ((cfg0.win 4).blk t).view.emb (ix2 a b : S512x1024.Idx) = (ix2 (row t.val a) b : S4096x1024.Idx) :=
  idx_of _ _ _ (show win0_4.index t 0 * 512 + 1 * a.val = _ by rw [(index4 t).1]; exact row_val t a)
    (show win0_4.index t 1 * 1024 + 1 * b.val = _ by rw [(index4 t).2]; rw [Nat.zero_mul, Nat.zero_add, Nat.one_mul])

theorem index5 : ∀ t : Fin cfg0.N, win0_5.index t (0 : Fin 2) = 0 ∧ win0_5.index t (1 : Fin 2) = 0 := by decide +kernel
theorem emb5 (t : Fin cfg0.N) (a : Fin 1) (b : Fin 1024) :
    ((cfg0.win 5).blk t).view.emb (ix2 a b : S1x1024.Idx) = (ix2 a b : S1x1024.Idx) :=
  idx_of _ _ _ (show win0_5.index t 0 * 1 + 1 * a.val = _ by rw [(index5 t).1]; rw [Nat.zero_mul, Nat.zero_add, Nat.one_mul])
    (show win0_5.index t 1 * 1024 + 1 * b.val = _ by rw [(index5 t).2]; rw [Nat.zero_mul, Nat.zero_add, Nat.one_mul])

variable (m : (ℓ : Loc nD τ sig) → Buf (Elt Ideal) ℓ)

/-- The four arguments: the cotangent, the norm's argument, its weights, the residual's cotangent. -/
def g0 (c : Dev nD) : Vec Ideal S4096x1024 .f32 := m (c, Proc.tc.devRef main_arg0)
def g1 (c : Dev nD) : Vec Ideal S4096x1024 .f32 := m (c, Proc.tc.devRef main_arg1)
def g2 (c : Dev nD) : Vec Ideal S1x1024 .f32 := m (c, Proc.tc.devRef main_arg2)
def g3 (c : Dev nD) : Vec Ideal S4096x1024 .f32 := m (c, Proc.tc.devRef main_arg3)

theorem blk0 (c : Dev nD) (t : Fin cfg0.N) (a : Fin 512) (b : Fin 1024) :
    (iblk m c 0 t : Vec Ideal S512x1024 .f32) (ix2 a b) = g0 m c (ix2 (row t.val a) b) :=
  (show (iblk m c 0 t : Vec Ideal S512x1024 .f32) (ix2 a b) = g0 m c (((cfg0.win 0).blk t).view.emb (ix2 a b : S512x1024.Idx)) from rfl).trans (congrArg (g0 m c) (emb0 t a b))

theorem blk1 (c : Dev nD) (t : Fin cfg0.N) (a : Fin 512) (b : Fin 1024) :
    (iblk m c 1 t : Vec Ideal S512x1024 .f32) (ix2 a b) = g1 m c (ix2 (row t.val a) b) :=
  (show (iblk m c 1 t : Vec Ideal S512x1024 .f32) (ix2 a b) = g1 m c (((cfg0.win 1).blk t).view.emb (ix2 a b : S512x1024.Idx)) from rfl).trans (congrArg (g1 m c) (emb1 t a b))

theorem blk2 (c : Dev nD) (t : Fin cfg0.N) (a : Fin 512) (b : Fin 1024) :
    (iblk m c 2 t : Vec Ideal S512x1024 .f32) (ix2 a b) = g3 m c (ix2 (row t.val a) b) :=
  (show (iblk m c 2 t : Vec Ideal S512x1024 .f32) (ix2 a b) = g3 m c (((cfg0.win 2).blk t).view.emb (ix2 a b : S512x1024.Idx)) from rfl).trans (congrArg (g3 m c) (emb2 t a b))

theorem blk3 (c : Dev nD) (t : Fin cfg0.N) (a : Fin 1) (b : Fin 1024) :
    (iblk m c 3 t : Vec Ideal S1x1024 .f32) (ix2 a b) = g2 m c (ix2 a b) :=
  (show (iblk m c 3 t : Vec Ideal S1x1024 .f32) (ix2 a b) = g2 m c (((cfg0.win 3).blk t).view.emb (ix2 a b : S1x1024.Idx)) from rfl).trans (congrArg (g2 m c) (emb3 t a b))

theorem snd_eq {A B : Type} {p : A × B} {a : A} {b b' : B} (h : p = (a, b)) (hb : b = b') : p.2 = b' := by
  subst h; exact hb
theorem fst_eq {A B : Type} {p : A × B} {a a' : A} {b : B} (h : p = (a, b)) (ha : a = a') : p.1 = a' := by
  subst h; exact ha

/-! The rows' gradient. -/

def rowG (d x res : Vec Ideal S4096x1024 .f32) (g : Vec Ideal S1x1024 .f32) (i : Fin 4096) (j : Fin 1024) : EReal :=
  res (ix2 i j) + row_k (fun k => d (ix2 i k)) (fun k => x (ix2 i k)) (fun k => g (ix2 (0 : Fin 1) k)) j

def G4 (c : Dev nD) : Buf (Elt Ideal) ((c : Thread nD τ).loc main_v0_0) := fun y : S4096x1024.Idx => rowG (g0 m c) (g1 m c) (g3 m c) (g2 m c) (y 0) (y 1)

theorem fst_at (c : Dev nD) (t : Fin cfg0.N) :
    (outsAt0 m c t.val t.isLt).1 = k0_pay4 (iblk m c 0 t) (iblk m c 1 t) (iblk m c 2 t) (iblk m c 3 t) := by
  have ht := tlt t
  by_cases h : t.val % 8 = 0
  · exact fst_eq (outsAt0_A m c t h (by omega)) (out0_A_4_eq ..)
  · exact fst_eq (outsAt0_B m c t h (by omega)) (out0_B_4_eq ..)

theorem fst_blk (c : Dev nD) (t : Fin cfg0.N) (a : Fin 512) (b : Fin 1024) :
    (outsAt0 m c t.val t.isLt).1 (ix2 a b) = rowG (g0 m c) (g1 m c) (g3 m c) (g2 m c) (row t.val a) b := by
  rw [fst_at]
  refine (pay4_at _ _ _ _ _ _).trans ?_
  unfold rowG
  simp only [blk0, blk1, blk2, blk3]

theorem flushed4 (c : Dev nD) (t : Fin cfg0.N) :
    (dats m 0 c).flushed 4 t = ((cfg0.win 4).blk t).view.read (Elt Ideal) (G4 m c) := by
  rw [Value.flushed4]
  funext y
  have hx : (cfg0.win 4).xinj (grid0.coords t) y = (ix2 (⟨(y 0).val, (y 0).isLt⟩ : Fin 512) (⟨(y 1).val, (y 1).isLt⟩ : Fin 1024) : S512x1024.Idx) := idx_of _ _ _ rfl rfl
  have hy : ((cfg0.win 4).blk t).view.emb y = (ix2 (row t.val (⟨(y 0).val, (y 0).isLt⟩ : Fin 512)) (⟨(y 1).val, (y 1).isLt⟩ : Fin 1024) : S4096x1024.Idx) :=
    (congrArg _ hx).trans (emb4 t _ _)
  show (outsAt0 m c t.val t.isLt).1 ((cfg0.win 4).xinj (grid0.coords t) y) = G4 m c (((cfg0.win 4).blk t).view.emb y)
  rw [hx]
  exact (fst_blk m c t _ _).trans (congrArg (G4 m c) hy).symm

theorem covered4 (i : S4096x1024.Idx) : ∃ t : Fin cfg0.N, (cfg0.win 4).flush t = true ∧ i ∈ ((cfg0.win 4).blk t).view.set := by
  have hi0 : (i 0).val < 4096 := (i 0).isLt
  have hi1 : (i 1).val < 1024 := (i 1).isLt
  have hn : (i 0).val / 512 < cfg0.N := by rw [show cfg0.N = 8 from N_0]; omega
  refine ⟨⟨_, hn⟩, flush0_4 _, ?_⟩
  obtain ⟨q0, q1⟩ := index4 ⟨_, hn⟩
  dsimp only at q0 q1
  show i ∈ ((View.whole main_v0_0).slice (win0_4.rect ⟨_, hn⟩)).set
  rw [View.set_slice_whole, Rect.mem_set_unit]
  intro a
  match a with
  | ⟨0, _⟩ => show win0_4.index ⟨_, hn⟩ (0 : Fin 2) * 512 ≤ (i 0).val ∧ (i 0).val < win0_4.index ⟨_, hn⟩ (0 : Fin 2) * 512 + 512; omega
  | ⟨1, _⟩ => show win0_4.index ⟨_, hn⟩ (1 : Fin 2) * 1024 ≤ (i 1).val ∧ (i 1).val < win0_4.index ⟨_, hn⟩ (1 : Fin 2) * 1024 + 1024; omega

theorem final4 (c : Dev nD) : (dats m 0 c).arrAt 4 cfg0.N = G4 m c :=
  (dats m 0 c).arrAt_eq_of_cover 4 _ (fun t _ => flushed4 m c t) covered4

/-! The weights' gradient, summed over the grid. -/

/-- A row's term of a weight's gradient, and a block's terms. -/
def term (c : Dev nD) (b : Fin 1024) (i : Fin 4096) : EReal := g0 m c (ix2 i b) * (g1 m c (ix2 i b) * inv fun k => g1 m c (ix2 i k))
def part (c : Dev nD) (b : Fin 1024) (t : ℕ) : EReal := ∑ a : Fin 512, term m c b (row t a)

def whole (c : Dev nD) (b : Fin 1024) : EReal := ∑ i : Fin 4096, term m c b i

def G5 (c : Dev nD) : Buf (Elt Ideal) ((c : Thread nD τ).loc main_v0_1) := fun y : S1x1024.Idx => whole m c (y 1)

theorem part_blk (c : Dev nD) (t : Fin cfg0.N) (b : Fin 1024) :
    (k0_pay5 (iblk m c 0 t) (iblk m c 1 t) (ix2 (0 : Fin 1) b) : EReal) = part m c b t.val := by
  refine (pay5_at _ _ _).trans ?_
  unfold part term
  simp only [blk0, blk1]

theorem first (c : Dev nD) (t : Fin cfg0.N) (h : t.val = 0) :
    (outsAt0 m c t.val t.isLt).2 = k0_pay5 (iblk m c 0 t) (iblk m c 1 t) :=
  snd_eq (outsAt0_A m c t (by omega) (by omega)) (out0_A_5_eq ..)

theorem later (c : Dev nD) (t : Fin cfg0.N) (k : ℕ) (hk : k < cfg0.N) (ek : t.val = k + 1) :
    (outsAt0 m c t.val t.isLt).2 = k0_pay1 (k0_pay5 (iblk m c 0 t) (iblk m c 1 t)) (outsAt0 m c k hk).2 := by
  have ht := tlt t
  have e : t.val - 1 = k := by omega
  subst e
  exact snd_eq (outsAt0_B m c t (by omega) (by omega)) (out0_B_5_eq ..)

/-- The output's block holds the sum over the blocks so far. -/
theorem state (c : Dev nD) (b : Fin 1024) : ∀ (n : ℕ) (hn : n < cfg0.N),
    (outsAt0 m c n hn).2 (ix2 (0 : Fin 1) b) = ∑ t ∈ Finset.range (n + 1), part m c b t := by
  intro n
  induction n with
  | zero =>
    intro hn
    refine (congrFun (first m c ⟨0, hn⟩ rfl) _).trans ((part_blk m c ⟨0, hn⟩ b).trans ?_)
    simp
  | succ n ih =>
    intro hn
    refine (congrFun (later m c ⟨n + 1, hn⟩ n (Nat.lt_of_succ_lt hn) rfl) _).trans ?_
    rw [Finset.sum_range_succ _ (n + 1)]
    exact (pay1_at _ _ _).trans (congrArg₂ (fun a b : EReal => a + b) (ih (Nat.lt_of_succ_lt hn)) (part_blk m c ⟨n + 1, hn⟩ b))

theorem snd_blk (c : Dev nD) (t : Fin cfg0.N) (h : t.val % 8 = 7) (b : Fin 1024) :
    (outsAt0 m c t.val t.isLt).2 (ix2 (0 : Fin 1) b) = whole m c b := by
  have ht := tlt t
  have e : t.val + 1 = 8 := by omega
  rw [state, e]
  exact sum_blocks 8 512 4096 (by decide) (by decide) (fun i => term m c b i)

theorem flushed5 (c : Dev nD) (t : Fin cfg0.N) (h : (cfg0.win 5).flush t = true) :
    (dats m 0 c).flushed 5 t = ((cfg0.win 5).blk t).view.read (Elt Ideal) (G5 m c) := by
  rw [Value.flushed5]
  funext y
  have y0 : (y 0).val = 0 := by have := (y 0).isLt; change (y 0).val < 1 at this; omega
  have hx : (cfg0.win 5).xinj (grid0.coords t) y = (ix2 (0 : Fin 1) (⟨(y 1).val, (y 1).isLt⟩ : Fin 1024) : S1x1024.Idx) := idx_of _ _ _ y0 rfl
  have hy : ((cfg0.win 5).blk t).view.emb y = (ix2 (0 : Fin 1) (⟨(y 1).val, (y 1).isLt⟩ : Fin 1024) : S1x1024.Idx) :=
    (congrArg _ hx).trans (emb5 t _ _)
  show (outsAt0 m c t.val t.isLt).2 ((cfg0.win 5).xinj (grid0.coords t) y) = G5 m c (((cfg0.win 5).blk t).view.emb y)
  rw [hx]
  exact (snd_blk m c t ((flush0_5 t).mp h) _).trans (congrArg (G5 m c) hy).symm

theorem covered5 (i : S1x1024.Idx) : ∃ t : Fin cfg0.N, (cfg0.win 5).flush t = true ∧ i ∈ ((cfg0.win 5).blk t).view.set := by
  have hi0 : (i 0).val < 1 := (i 0).isLt
  have hi1 : (i 1).val < 1024 := (i 1).isLt
  have hn : 7 < cfg0.N := by rw [show cfg0.N = 8 from N_0]; omega
  refine ⟨⟨7, hn⟩, (flush0_5 _).mpr rfl, ?_⟩
  obtain ⟨q0, q1⟩ := index5 ⟨7, hn⟩
  show i ∈ ((View.whole main_v0_1).slice (win0_5.rect ⟨7, hn⟩)).set
  rw [View.set_slice_whole, Rect.mem_set_unit]
  intro a
  match a with
  | ⟨0, _⟩ => show win0_5.index ⟨7, hn⟩ (0 : Fin 2) * 1 ≤ (i 0).val ∧ (i 0).val < win0_5.index ⟨7, hn⟩ (0 : Fin 2) * 1 + 1; omega
  | ⟨1, _⟩ => show win0_5.index ⟨7, hn⟩ (1 : Fin 2) * 1024 ≤ (i 1).val ∧ (i 1).val < win0_5.index ⟨7, hn⟩ (1 : Fin 2) * 1024 + 1024; omega

theorem final5 (c : Dev nD) : (dats m 0 c).arrAt 5 cfg0.N = G5 m c :=
  (dats m 0 c).arrAt_eq_of_cover 5 _ (fun t h => flushed5 m c t h) covered5

/-! The reference at an index. -/

open Cert.DrmsReferenceIdeal.Read

/-- The mean square of a row, with the small number under the root. -/
theorem v6_at (x : Vec Ideal S4096x1024 .f32) (i : Fin 4096) :
    (val_main_v6 (F := Ideal) x (ix2 i (0 : Fin 1)) : EReal)
      = Ideal.div (∑ k : Fin 1024, (x (ix2 i k) : EReal) * (x (ix2 i k) : EReal)) (Ideal.ofBits .f32 0x44800000#32) + Ideal.ofBits .f32 0x358637BD#32 := by
  unfold val_main_v6 val_main_v5 val_main_v4 val_main_v3 val_main_v2 val_main_v1 val_main_v0 val_main_cst val_main_cst_0 val_main_cst_1
  pointwise

theorem v7_at (x : Vec Ideal S4096x1024 .f32) (i : Fin 4096) :
    (val_main_v7 (F := Ideal) x (ix2 i (0 : Fin 1)) : EReal) = inv fun k => x (ix2 i k) := by
  have e := v6_at x i
  unfold val_main_v7 inv
  generalize val_main_v6 (F := Ideal) x = z at e ⊢
  pointwise
  rw [e]

theorem v10_at (x : Vec Ideal S4096x1024 .f32) (i : Fin 4096) :
    (val_main_v10 (F := Ideal) x (ix2 i (0 : Fin 1)) : EReal) = Ideal.ofBits .f32 0xBF000000#32 * Ideal.div (inv fun k => x (ix2 i k))
      (Ideal.div (∑ k : Fin 1024, (x (ix2 i k) : EReal) * (x (ix2 i k) : EReal)) (Ideal.ofBits .f32 0x44800000#32) + Ideal.ofBits .f32 0x358637BD#32) := by
  have e6 := v6_at x i
  have e7 := v7_at x i
  unfold val_main_v10 val_main_v9 val_main_v8 val_main_cst_2
  generalize val_main_v7 (F := Ideal) x = w at e7 ⊢
  generalize val_main_v6 (F := Ideal) x = z at e6 ⊢
  rw [← e6, ← e7]
  pointwise

/-- The two derivatives' common factor. -/
theorem v29_at (d x : Vec Ideal S4096x1024 .f32) (g : Vec Ideal S1x1024 .f32) (i : Fin 4096) (j : Fin 1024) :
    (val_main_v29 (F := Ideal) d x g (ix2 i j) : EReal) = coef (fun k => d (ix2 i k)) (fun k => x (ix2 i k)) (fun k => g (ix2 (0 : Fin 1) k)) := by
  have e10 := v10_at x i
  unfold coef
  rw [← e10]
  unfold val_main_v29 val_main_v28 val_main_v27 val_main_v26 val_main_v25 val_main_v22 val_main_v21 val_main_v20 val_main_v19 val_main_v18 val_main_cst_4 val_main_cst_5 val_main_cst_6
  generalize val_main_v10 (F := Ideal) x = z
  pointwise
  exact Fin.sum_univ_one _

theorem v34_at (d x : Vec Ideal S4096x1024 .f32) (g : Vec Ideal S1x1024 .f32) (res : Vec Ideal S4096x1024 .f32) (i : Fin 4096) (j : Fin 1024) :
    (val_main_v34 (F := Ideal) d x g res (ix2 i j) : EReal)
      = res (ix2 i j) + row_r (fun k => d (ix2 i k)) (fun k => x (ix2 i k)) (fun k => g (ix2 (0 : Fin 1) k)) j := by
  have e29 := v29_at d x g i j
  have e7 := v7_at x i
  unfold row_r
  rw [← e29, ← e7]
  unfold val_main_v34 val_main_v33 val_main_v32 val_main_v31 val_main_v30 val_main_v24 val_main_v23 val_main_v19 val_main_v18
  generalize val_main_v29 (F := Ideal) d x g = z
  generalize val_main_v7 (F := Ideal) x = w
  pointwise

theorem v17_at (d x : Vec Ideal S4096x1024 .f32) (j : Fin 1024) :
    (val_main_v17 (F := Ideal) d x (ix2 (0 : Fin 1) j) : EReal) = ∑ i : Fin 4096, ((x (ix2 i j) : EReal) * inv fun k => x (ix2 i k)) * (d (ix2 i j) : EReal) := by
  have e7 : ∀ i : Fin 4096, (val_main_v7 (F := Ideal) x (ix2 i (0 : Fin 1)) : EReal) = _ := fun i => v7_at x i
  simp only [← e7]
  unfold val_main_v17 val_main_v16 val_main_v15 val_main_v12 val_main_v11 val_main_cst_3
  generalize val_main_v7 (F := Ideal) x = w
  pointwise

/-- The rows' gradients are the reference's. -/
theorem same4 (c : Dev nD) : val_main_v34 (F := Ideal) (g0 m c) (g1 m c) (g2 m c) (g3 m c) = G4 m c := by
  funext y
  rw [eq_ix2 y]
  exact (v34_at _ _ _ _ (y 0) (y 1)).trans (congrArg (fun z : EReal => g3 m c (ix2 (y 0) (y 1)) + z) (rows_eq _ _ _ (y 1)).symm)

theorem same5 (c : Dev nD) : val_main_v17 (F := Ideal) (g0 m c) (g1 m c) = G5 m c := by
  funext y
  have e : y = (ix2 (0 : Fin 1) (y 1) : S1x1024.Idx) := idx_of _ _ _ (by have := (y 0).isLt; change (y 0).val < 1 at this; show (y 0).val = 0; omega) rfl
  rw [e]
  refine (v17_at _ _ (y 1)).trans ?_
  exact Finset.sum_congr rfl fun i _ => mul2 _ _

end Cert.DrmsIdeal.Grad
-- ==== Proof.FwdHost.lean ====
module

public import proofs.«01_k».proof.Proof.Gen.FwdIdeal.Frame
public import proofs.«01_k».proof.Proof.Kern
public import Idealize.ShloMosaic.Lib.StableHlo.ReadAt
public import Idealize.ShloMosaic.Lib.Pointwise

@[expose] public section

set_option maxRecDepth 16384

noncomputable section

/-! What the host lines before the attention's forward call leave in its three operand arrays: a head has 128 columns,
the query and the key padded to them, the value on the half that is the head's own. -/

namespace Cert.FwdIdeal.Heads

open Cert.FwdIdeal Cert.FwdIdeal.Gen Idealize.ShloMosaic Idealize.ShloMosaic.TcCoe Cert.Attn
open Cert.KernelIdeal.Heads (cl col)

variable (m : (ℓ : Loc nD τ sig) → Buf (Elt Ideal) ℓ)

def aQ (c : Dev nD) : Vec Ideal S4096x2048 .bf16 := V m c (Pipeline.arrRef spec0 0)
def aK (c : Dev nD) : Vec Ideal S4096x2048 .bf16 := V m c (Pipeline.arrRef spec0 1)
def aW (c : Dev nD) : Vec Ideal S4096x2048 .bf16 := V m c (Pipeline.arrRef spec0 2)

theorem aQ_eq (c : Dev nD) : aQ m c = V m c main_v4 := rfl
theorem aK_eq (c : Dev nD) : aK m c = V m c main_v7 := rfl
theorem aW_eq (c : Dev nD) : aW m c = V m c main_v14 := rfl

/-- The three arguments. -/
def g0 (c : Dev nD) : Vec Ideal S4096x16x96 .f32 := m (c, Proc.tc.devRef main_arg0)
def g1 (c : Dev nD) : Vec Ideal S4096x16x96 .f32 := m (c, Proc.tc.devRef main_arg1)
def g2 (c : Dev nD) : Vec Ideal S4096x16x64 .f32 := m (c, Proc.tc.devRef main_arg2)

theorem q_at (c : Dev nD) (i : Fin 4096) (x : Fin 2048) :
    aQ m c (ix2 i x) = if h : x.val / 128 < 16 ∧ x.val % 128 < 96 then
      g0 m c (ix3 i ⟨x.val / 128, h.1⟩ ⟨x.val % 128, h.2⟩) * Ideal.ofBits .f32 1037108716#32
    else (FloatOps.sitofp (F := Ideal) .f32 0#32 : EReal) := by
  rw [aQ_eq]
  simp only [g0]
  unfold_abbrev_sides
  after_reads_at

theorem k_at (c : Dev nD) (i : Fin 4096) (x : Fin 2048) :
    aK m c (ix2 i x) = if h : x.val / 128 < 16 ∧ x.val % 128 < 96 then
      g1 m c (ix3 i ⟨x.val / 128, h.1⟩ ⟨x.val % 128, h.2⟩)
    else (FloatOps.sitofp (F := Ideal) .f32 0#32 : EReal) := by
  rw [aK_eq]
  simp only [g1]
  unfold_abbrev_sides
  after_reads_at

set_option maxHeartbeats 2000000 in
theorem w_at (c : Dev nD) (i : Fin 4096) (x : Fin 2048) :
    aW m c (ix2 i x) = if x.val % 128 / 64 = x.val / 128 % 2 then
      g2 m c (ix3 i (⟨x.val / 128, by omega⟩ : Fin 16) (⟨x.val % 64, by omega⟩ : Fin 64)) else (0 : EReal) := by
  rw [aW_eq]
  unfold_abbrev_sides
  after_reads_at
  simp only [g2]
  split_ifs <;> after_reads_at
  all_goals first
    | simp only [if_neg (show ¬x.val % 128 / 64 = x.val / 128 % 2 by omega)]; done
    | simp only [if_pos (show x.val % 128 / 64 = x.val / 128 % 2 by omega), show x.val / 256 * 2 + x.val / 64 % 4 = x.val / 128 by omega]; done
    | simp only [if_pos (show x.val % 128 / 64 = x.val / 128 % 2 by omega), show x.val / 256 * 2 + (1 + (x.val / 64 % 4 - 1 - 1 - 1)) = x.val / 128 by omega]; done

theorem zero_word : (FloatOps.sitofp (F := Ideal) .f32 0#32 : EReal) = 0 := by
  show (((0#32 : BitVec 32).toInt : ℝ) : EReal) = 0
  simp

/-- The three arguments hold real numbers: the scaled query, the key and the value. -/
structure Args (c : Dev nD) (q k : Fin 4096 → Fin 16 → Fin 96 → ℝ) (v : Fin 4096 → Fin 16 → Fin 64 → ℝ) : Prop where
  h0 : ∀ i h d, g0 m c (ix3 i h d) * Ideal.ofBits .f32 1037108716#32 = ((q i h d : ℝ) : EReal)
  h1 : ∀ i h d, g1 m c (ix3 i h d) = ((k i h d : ℝ) : EReal)
  h2 : ∀ i h l, g2 m c (ix3 i h l) = ((v i h l : ℝ) : EReal)

section

variable {m} {c : Dev nD} {q k : Fin 4096 → Fin 16 → Fin 96 → ℝ} {v : Fin 4096 → Fin 16 → Fin 64 → ℝ} (A : Args m c q k v)

include A

theorem aQ_real (i : Fin 4096) (h : Fin 16) (d : Fin 128) :
    aQ m c (ix2 i (cl h d)) = if hd : d.val < 96 then ((q i h ⟨d.val, hd⟩ : ℝ) : EReal) else 0 := by
  have e1 : (128 * h.val + d.val) / 128 = h.val := by omega
  have e2 : (128 * h.val + d.val) % 128 = d.val := by omega
  rw [q_at]
  simp only [cl, e1, e2, zero_word, A.h0, Fin.eta, h.isLt, true_and]

theorem aK_real (i : Fin 4096) (h : Fin 16) (d : Fin 128) :
    aK m c (ix2 i (cl h d)) = if hd : d.val < 96 then ((k i h ⟨d.val, hd⟩ : ℝ) : EReal) else 0 := by
  have e1 : (128 * h.val + d.val) / 128 = h.val := by omega
  have e2 : (128 * h.val + d.val) % 128 = d.val := by omega
  rw [k_at]
  simp only [cl, e1, e2, zero_word, A.h1, Fin.eta, h.isLt, true_and]

theorem aW_real (i : Fin 4096) (h : Fin 16) (d : Fin 128) :
    aW m c (ix2 i (cl h d)) = if d.val / 64 = h.val % 2 then ((v i h ⟨d.val % 64, Nat.mod_lt _ (by decide)⟩ : ℝ) : EReal) else 0 := by
  have e1 : (128 * h.val + d.val) / 128 = h.val := by omega
  have e2 : (128 * h.val + d.val) % 128 = d.val := by omega
  have e3 : (128 * h.val + d.val) % 64 = d.val % 64 := by omega
  rw [w_at]
  simp only [cl, e1, e2, e3, A.h2, Fin.eta]

end

end Cert.FwdIdeal.Heads
-- ==== Proof.FwdPay.lean ====
module

public import proofs.«01_k».proof.Proof.Gen.FwdIdeal.Frame
public import proofs.«01_k».proof.Proof.Kern
public import Idealize.ShloMosaic.Lib.Pointwise

@[expose] public section

set_option maxRecDepth 16384

noncomputable section

/-! One pair of heads of the attention's forward call: what each value the body computes is, first as sums over the
entries of the blocks it reads, then over the reals. -/

namespace Cert.FwdIdeal.Heads

open Cert.FwdIdeal Cert.FwdIdeal.Gen Idealize.ShloMosaic Idealize.ShloMosaic.Tactic Cert.Attn
open Cert.KernelIdeal.Heads (col)

theorem pay3_at (q : Vec Ideal S512x128 .bf16) (k : Vec Ideal S4096x128 .bf16) (i : Fin 512) (j : Fin 4096) :
    k0_pay3 q k (ix2 i j) = (∑ d : Fin 128, q (ix2 i d) * k (ix2 j d) : EReal) := by
  pointwise [k0_pay3]

theorem pay4_at (q : Vec Ideal S512x128 .bf16) (k : Vec Ideal S4096x128 .bf16) (i : Fin 512) :
    k0_pay4 q k (ix2 i (0 : Fin 1)) = (Finset.univ.fold max (Ideal.ofBits .f32 4286578688#32) (fun j => k0_pay3 q k (ix2 i j)) : EReal) := by
  unfold k0_pay4
  generalize k0_pay3 q k = z
  pointwise

theorem pay5_at (q : Vec Ideal S512x128 .bf16) (k : Vec Ideal S4096x128 .bf16) (i : Fin 512) (j : Fin 4096) :
    k0_pay5 q k (ix2 i j) = (Ideal.exp (k0_pay3 q k (ix2 i j) - k0_pay4 q k (ix2 i (0 : Fin 1))) : EReal) := by
  unfold k0_pay5
  generalize k0_pay3 q k = z
  generalize k0_pay4 q k = t
  pointwise

theorem pay6_at (q : Vec Ideal S512x128 .bf16) (k : Vec Ideal S4096x128 .bf16) (i : Fin 512) :
    k0_pay6 q k (ix2 i (0 : Fin 1)) = (∑ j : Fin 4096, k0_pay5 q k (ix2 i j) : EReal) := by
  unfold k0_pay6
  generalize k0_pay5 q k = z
  pointwise

theorem pay7_at (q : Vec Ideal S512x128 .bf16) (k v : Vec Ideal S4096x128 .bf16) (i : Fin 512) (b : Fin 128) :
    k0_pay7 q k v (ix2 i b) = (Ideal.div (∑ j : Fin 4096, k0_pay5 q k (ix2 i j) * v (ix2 j b)) (k0_pay6 q k (ix2 i (0 : Fin 1))) : EReal) := by
  unfold k0_pay7
  generalize k0_pay5 q k = z
  generalize k0_pay6 q k = t
  pointwise

theorem pay8_at (q : Vec Ideal S512x128 .bf16) (k : Vec Ideal S4096x128 .bf16) (i : Fin 512) :
    k0_pay8 q k (ix3 (0 : Fin 1) i (0 : Fin 1)) = (k0_pay4 q k (ix2 i (0 : Fin 1)) + Ideal.log (k0_pay6 q k (ix2 i (0 : Fin 1))) : EReal) := by
  unfold k0_pay8
  generalize k0_pay4 q k = z
  generalize k0_pay6 q k = t
  pointwise

/-! The second head's values are the first head's functions of other blocks. -/

theorem pay10_eq (q : Vec Ideal S512x128 .bf16) (k : Vec Ideal S4096x128 .bf16) : k0_pay10 q k = k0_pay4 q k := rfl
theorem pay12_eq (q : Vec Ideal S512x128 .bf16) (k : Vec Ideal S4096x128 .bf16) : k0_pay12 q k = k0_pay6 q k := rfl
theorem pay2_eq (q : Vec Ideal S512x128 .bf16) (k : Vec Ideal S4096x128 .bf16) : k0_pay2 (k0_pay4 q k) (k0_pay6 q k) = k0_pay8 q k := rfl

/-- The two heads' outputs are added. -/
theorem pay1_at (z : Vec Ideal S512x128 .f32) (q : Vec Ideal S512x128 .bf16) (k v : Vec Ideal S4096x128 .bf16) (i : Fin 512) (b : Fin 128) :
    k0_pay1 z (k0_pay12 q k) (k0_pay13 q k) v (ix2 i b) = (z (ix2 i b) + k0_pay7 q k v (ix2 i b) : EReal) := rfl

/-! A head's columns of a block. -/

def ql (x : Vec Ideal S512x256 .bf16) : Vec Ideal S512x128 .bf16 := View.ld x r0_0
def qr (x : Vec Ideal S512x256 .bf16) : Vec Ideal S512x128 .bf16 := View.ld x r0_3
def kl (x : Vec Ideal S4096x256 .bf16) : Vec Ideal S4096x128 .bf16 := View.ld x r0_1
def kr (x : Vec Ideal S4096x256 .bf16) : Vec Ideal S4096x128 .bf16 := View.ld x r0_4

theorem col0 (d : Fin 128) : (⟨d.val, by omega⟩ : Fin 256) = col 0 d := Fin.ext (by simp [col])
theorem col1 (d : Fin 128) : (⟨128 + d.val, by omega⟩ : Fin 256) = col 1 d := Fin.ext (by simp [col])

theorem ql_at (x : Vec Ideal S512x256 .bf16) (i : Fin 512) (d : Fin 128) : ql x (ix2 i d) = x (ix2 i (col 0 d)) := by
  pointwise [ql]; rw [← col0]
theorem qr_at (x : Vec Ideal S512x256 .bf16) (i : Fin 512) (d : Fin 128) : qr x (ix2 i d) = x (ix2 i (col 1 d)) := by
  pointwise [qr]; rw [← col1]
theorem kl_at (x : Vec Ideal S4096x256 .bf16) (i : Fin 4096) (d : Fin 128) : kl x (ix2 i d) = x (ix2 i (col 0 d)) := by
  pointwise [kl]; rw [← col0]
theorem kr_at (x : Vec Ideal S4096x256 .bf16) (i : Fin 4096) (d : Fin 128) : kr x (ix2 i d) = x (ix2 i (col 1 d)) := by
  pointwise [kr]; rw [← col1]

theorem hz2 : (![0, 0] : Fin 2 → Nat) = fun _ => 0 := funext fun a => by fin_cases a <;> rfl

theorem out3_eq (x0 : Vec Ideal S512x256 .bf16) (x1 x2 : Vec Ideal S4096x256 .bf16) :
    out0_3 x0 x1 x2 = k0_pay1 (k0_pay7 (ql x0) (kl x1) (kl x2)) (k0_pay12 (qr x0) (kr x1)) (k0_pay13 (qr x0) (kr x1)) (kr x2) := by
  unfold out0_3
  rw [View.canon_cons_unit_zero hz2]
  rfl

theorem eq_slab (u : S1x512x1.Idx) : u = ix3 0 (u 1) 0 :=
  funext fun a => match a with
    | ⟨0, _⟩ => Fin.ext (show (u 0).val = 0 by have := (u 0).isLt; change (u 0).val < 1 at this; omega)
    | ⟨1, _⟩ => rfl
    | ⟨2, _⟩ => Fin.ext (show (u 2).val = 0 by have := (u 2).isLt; change (u 2).val < 1 at this; omega)

theorem emb_sl (u : S1x512x1.Idx) : r0_2.emb u = ix3 0 (u 1) 0 :=
  funext fun a => match a with
    | ⟨0, _⟩ => Fin.ext (show 0 + 1 * (u 0).val = 0 by have := (u 0).isLt; change (u 0).val < 1 at this; omega)
    | ⟨1, _⟩ => Fin.ext (show 0 + 1 * (u 1).val = (u 1).val by omega)
    | ⟨2, _⟩ => Fin.ext (show 0 + 1 * (u 2).val = 0 by have := (u 2).isLt; change (u 2).val < 1 at this; omega)
theorem emb_sr (u : S1x512x1.Idx) : r0_5.emb u = ix3 1 (u 1) 0 :=
  funext fun a => match a with
    | ⟨0, _⟩ => Fin.ext (show 1 + 1 * (u 0).val = 1 by have := (u 0).isLt; change (u 0).val < 1 at this; omega)
    | ⟨1, _⟩ => Fin.ext (show 0 + 1 * (u 1).val = (u 1).val by omega)
    | ⟨2, _⟩ => Fin.ext (show 0 + 1 * (u 2).val = 0 by have := (u 2).isLt; change (u 2).val < 1 at this; omega)

/-- The two slabs of row numbers, given one array that holds both. -/
theorem out4_eq (x0 : Vec Ideal S512x256 .bf16) (x1 x2 : Vec Ideal S4096x256 .bf16) (G : Vec Ideal S2x512x1 .f32)
    (h0 : ∀ a, k0_pay8 (ql x0) (kl x1) (ix3 (0 : Fin 1) a (0 : Fin 1)) = G (ix3 0 a 0))
    (h1 : ∀ a, k0_pay8 (qr x0) (kr x1) (ix3 (0 : Fin 1) a (0 : Fin 1)) = G (ix3 1 a 0)) : out0_4 x0 x1 x2 = G := by
  funext y
  unfold out0_4
  refine View.canon_apply_of_pieces G _ ?_ y (cover0_4 _ _ y)
  intro p hp
  simp only [List.mem_cons, List.not_mem_nil, or_false] at hp
  rcases hp with rfl | rfl
  · intro u; rw [emb_sr]; exact (congrArg _ (eq_slab u)).trans (h1 _)
  · intro u; rw [emb_sl]; exact (congrArg _ (eq_slab u)).trans (h0 _)

/-! Over the reals. -/

/-- One head's blocks hold the rows `row` of the query and all rows of the key and the value. -/
structure Holds (Q : Vec Ideal S512x128 .bf16) (K W : Vec Ideal S4096x128 .bf16) (q k : Fin 4096 → Fin 16 → Fin 96 → ℝ) (v : Fin 4096 → Fin 16 → Fin 64 → ℝ)
    (h : Fin 16) (row : Fin 512 → Fin 4096) : Prop where
  hQ : ∀ i (d : Fin 128), Q (ix2 i d) = if hd : d.val < 96 then ((q (row i) h ⟨d.val, hd⟩ : ℝ) : EReal) else 0
  hK : ∀ i (d : Fin 128), K (ix2 i d) = if hd : d.val < 96 then ((k i h ⟨d.val, hd⟩ : ℝ) : EReal) else 0
  hW : ∀ i (d : Fin 128), W (ix2 i d) = if d.val / 64 = h.val % 2 then ((v i h ⟨d.val % 64, Nat.mod_lt _ (by decide)⟩ : ℝ) : EReal) else 0

section

variable {Q : Vec Ideal S512x128 .bf16} {K W : Vec Ideal S4096x128 .bf16} {q k : Fin 4096 → Fin 16 → Fin 96 → ℝ} {v : Fin 4096 → Fin 16 → Fin 64 → ℝ}
  {h : Fin 16} {row : Fin 512 → Fin 4096} (H : Holds Q K W q k v h row)

include H

theorem pay3_real (i : Fin 512) (j : Fin 4096) : k0_pay3 Q K (ix2 i j) = ((score q k h (row i) j : ℝ) : EReal) := by
  rw [pay3_at, sum_pad _ fun d hd => by rw [H.hQ, dif_neg (not_lt.mpr hd), zero_mul]]
  have e : ∀ d : Fin 96, Q (ix2 i (⟨d.val, by omega⟩ : Fin 128)) * K (ix2 j (⟨d.val, by omega⟩ : Fin 128)) = ((q (row i) h d * k j h d : ℝ) : EReal) := fun d => by
    rw [H.hQ, H.hK, dif_pos d.isLt, dif_pos d.isLt, EReal.coe_mul]
  rw [Finset.sum_congr rfl fun d _ => e d, sum_coe]
  rfl

theorem pay4_real (i : Fin 512) : k0_pay4 Q K (ix2 i (0 : Fin 1)) = ((top q k h (row i) : ℝ) : EReal) := by
  rw [pay4_at]
  simp only [pay3_real H]
  rw [bot_bits, fold_coe _ ⟨0, Finset.mem_univ _⟩]
  rfl

theorem pay5_real (i : Fin 512) (j : Fin 4096) : k0_pay5 Q K (ix2 i j) = ((ex q k h (row i) j : ℝ) : EReal) := by
  rw [pay5_at, pay3_real H, pay4_real H, ← EReal.coe_sub, Ideal.exp_coe]
  rfl

theorem pay6_real (i : Fin 512) : k0_pay6 Q K (ix2 i (0 : Fin 1)) = ((tot q k h (row i) : ℝ) : EReal) := by
  rw [pay6_at]
  simp only [pay5_real H, sum_coe]
  rfl

theorem pay8_real (i : Fin 512) : k0_pay8 Q K (ix3 (0 : Fin 1) i (0 : Fin 1)) = ((top q k h (row i) + Real.log (tot q k h (row i)) : ℝ) : EReal) := by
  rw [pay8_at, pay4_real H, pay6_real H, EReal.coe_add]
  exact congrArg₂ (fun a b : EReal => a + b) rfl (log_real _ (tot_pos q k h (row i)))

omit H in
theorem res_eq (i : Fin 4096) (l : Fin 64) : (∑ j : Fin 4096, ex q k h i j * v j h l) / tot q k h i = res q k v i h l := by
  unfold res pr
  rw [Finset.sum_div]
  exact Finset.sum_congr rfl fun j _ => by ring

/-- A head's output is on its own half of the lanes. -/
theorem pay7_real (i : Fin 512) (b : Fin 128) : k0_pay7 Q K W (ix2 i b)
    = if b.val / 64 = h.val % 2 then ((res q k v (row i) h ⟨b.val % 64, Nat.mod_lt _ (by decide)⟩ : ℝ) : EReal) else 0 := by
  rw [pay7_at, pay6_real H]
  by_cases hb : b.val / 64 = h.val % 2
  · rw [if_pos hb]
    simp only [pay5_real H, H.hW, if_pos hb, ← EReal.coe_mul, sum_coe]
    rw [div_real _ _ (tot_pos q k h (row i)).ne', res_eq]
  · rw [if_neg hb]
    simp only [H.hW, if_neg hb, mul_zero, Finset.sum_const_zero]
    rw [← EReal.coe_zero, div_real _ _ (tot_pos q k h (row i)).ne', zero_div]

end

end Cert.FwdIdeal.Heads
-- ==== Proof.FwdRef.lean ====
module

public import proofs.«01_k».proof.Proof.Real
public import proofs.«01_k».proof.Proof.Gen.FwdReferenceIdeal.Read
public import Idealize.ShloMosaic.Lib.Pointwise

@[expose] public section

set_option maxRecDepth 16384

noncomputable section

/-! The reference of the attention's forward call at an index: its output and the log of the sum of the exponentials of
the scores, over the reals. -/

namespace Cert.FwdReferenceIdeal.Heads

open Cert.FwdReferenceIdeal Cert.FwdReferenceIdeal.Read Idealize.ShloMosaic Idealize.ShloMosaic.Pointwise Cert.Attn

variable (x0 x1 : Vec Ideal S4096x16x96 .f32) (x2 : Vec Ideal S4096x16x64 .f32)
  (q k : Fin 4096 → Fin 16 → Fin 96 → ℝ) (v : Fin 4096 → Fin 16 → Fin 64 → ℝ)

theorem v1_at (i : Fin 4096) (h : Fin 16) (d : Fin 96) :
    val_main_v1 (F := Ideal) x0 (ix3 i h d) = (x0 (ix3 i h d) * Ideal.ofBits .f32 1037108716#32 : EReal) := by
  unfold val_main_v1 val_main_v0 val_main_cst
  pointwise

theorem v4_eq : val_main_v4 (F := Ideal) x0 = val_main_v1 (F := Ideal) x0 := rfl

theorem v2_at (h : Fin 16) (i j : Fin 4096) :
    val_main_v2 (F := Ideal) x0 x1 (ix3 h i j) = (∑ d : Fin 96, val_main_v1 (F := Ideal) x0 (ix3 i h d) * x1 (ix3 j h d) : EReal) := by
  unfold val_main_v2
  pointwise

theorem v5_eq : val_main_v5 (F := Ideal) x0 x1 = val_main_v2 (F := Ideal) x0 x1 := rfl

theorem v6_at (h : Fin 16) (i : Fin 4096) :
    val_main_v6 (F := Ideal) x0 x1 (ix2 h i) = (Finset.univ.fold max (Ideal.ofBits .f32 4286578688#32) (fun j => val_main_v5 (F := Ideal) x0 x1 (ix3 h i j)) : EReal) := by
  unfold val_main_v6 val_main_cst_1
  pointwise

theorem max_bot (a : EReal) : FloatOps.maximumf (F := Ideal) (φ := .f32) (FloatOps.ofBits (F := Ideal) .f32 0xFF800000#32) a = a := by
  rw [Ideal.ofBits_def, bot_bits]
  exact max_eq_right bot_le

theorem v8_at (h : Fin 16) (i : Fin 4096) : val_main_v8 (F := Ideal) x0 x1 (ix2 h i) = val_main_v6 (F := Ideal) x0 x1 (ix2 h i) := by
  rw [val_main_v8_apply, val_main_v7_apply, val_main_cst_2_apply]
  exact max_bot _

theorem v12_at (h : Fin 16) (i j : Fin 4096) :
    val_main_v12 (F := Ideal) x0 x1 (ix3 h i j)
      = (Ideal.exp (val_main_v5 (F := Ideal) x0 x1 (ix3 h i j) - val_main_v8 (F := Ideal) x0 x1 (ix2 h i)) : EReal) := by
  unfold val_main_v12 val_main_v11 val_main_v10 val_main_v9
  pointwise

theorem v14_at (h : Fin 16) (i : Fin 4096) :
    val_main_v14 (F := Ideal) x0 x1 (ix3 h i (0 : Fin 1)) = (∑ j : Fin 4096, val_main_v12 (F := Ideal) x0 x1 (ix3 h i j) : EReal) := by
  unfold val_main_v14 val_main_v13 val_main_cst_3
  pointwise

theorem v16_at (h : Fin 16) (i j : Fin 4096) :
    val_main_v16 (F := Ideal) x0 x1 (ix3 h i j)
      = (Ideal.div (val_main_v12 (F := Ideal) x0 x1 (ix3 h i j)) (val_main_v14 (F := Ideal) x0 x1 (ix3 h i (0 : Fin 1))) : EReal) := by
  unfold val_main_v16 val_main_v15
  pointwise

theorem v19_at (i : Fin 4096) (x : Fin 1024) :
    val_main_v19 (F := Ideal) x0 x1 x2 (ix2 i x) = (∑ j : Fin 4096, x2 (ix3 j (⟨x.val / 64, by omega⟩ : Fin 16) (⟨x.val % 64, by omega⟩ : Fin 64))
      * val_main_v16 (F := Ideal) x0 x1 (ix3 (⟨x.val / 64, by omega⟩ : Fin 16) i j) : EReal) := by
  unfold val_main_v19 val_main_v18 val_main_v17
  pointwise

theorem v23_at (h : Fin 16) (i : Fin 4096) :
    val_main_v23 (F := Ideal) x0 x1 (ix3 h i (0 : Fin 1)) = (Ideal.log (∑ j : Fin 4096, Ideal.exp (val_main_v2 (F := Ideal) x0 x1 (ix3 h i j))) : EReal) := by
  unfold val_main_v23 val_main_v22 val_main_v21 val_main_v20 val_main_cst_4
  pointwise

/-- The three arguments hold real numbers: the scaled query, the key and the value. -/
structure Args : Prop where
  h0 : ∀ i h d, x0 (ix3 i h d) * Ideal.ofBits .f32 1037108716#32 = ((q i h d : ℝ) : EReal)
  h1 : ∀ i h d, x1 (ix3 i h d) = ((k i h d : ℝ) : EReal)
  h2 : ∀ i h l, x2 (ix3 i h l) = ((v i h l : ℝ) : EReal)

section

variable {x0 x1 x2 q k v} (A : Args x0 x1 x2 q k v)

include A

theorem v2_real (h : Fin 16) (i j : Fin 4096) : val_main_v2 (F := Ideal) x0 x1 (ix3 h i j) = ((score q k h i j : ℝ) : EReal) := by
  rw [v2_at]
  simp only [v1_at, A.h0, A.h1, ← EReal.coe_mul, sum_coe]
  rfl

theorem v6_real (h : Fin 16) (i : Fin 4096) : val_main_v6 (F := Ideal) x0 x1 (ix2 h i) = ((top q k h i : ℝ) : EReal) := by
  rw [v6_at]
  simp only [v5_eq, v2_real A]
  rw [bot_bits, fold_coe _ ⟨0, Finset.mem_univ _⟩]
  rfl

theorem v12_real (h : Fin 16) (i j : Fin 4096) : val_main_v12 (F := Ideal) x0 x1 (ix3 h i j) = ((ex q k h i j : ℝ) : EReal) := by
  rw [v12_at, v8_at, v5_eq, v2_real A, v6_real A, ← EReal.coe_sub, Ideal.exp_coe]
  rfl

theorem v14_real (h : Fin 16) (i : Fin 4096) : val_main_v14 (F := Ideal) x0 x1 (ix3 h i (0 : Fin 1)) = ((tot q k h i : ℝ) : EReal) := by
  rw [v14_at]
  simp only [v12_real A, sum_coe]
  rfl

theorem v16_real (h : Fin 16) (i j : Fin 4096) : val_main_v16 (F := Ideal) x0 x1 (ix3 h i j) = ((pr q k h i j : ℝ) : EReal) := by
  rw [v16_at, v12_real A, v14_real A, div_real _ _ (tot_pos q k h i).ne']
  rfl

/-- The output. -/
theorem v19_real (i : Fin 4096) (x : Fin 1024) :
    val_main_v19 (F := Ideal) x0 x1 x2 (ix2 i x) = ((res q k v i (⟨x.val / 64, by omega⟩ : Fin 16) (⟨x.val % 64, by omega⟩ : Fin 64) : ℝ) : EReal) := by
  rw [v19_at]
  simp only [v16_real A, A.h2, ← EReal.coe_mul, sum_coe]
  rfl

omit A in
/-- The log of the sum of the exponentials, by way of the row's greatest score. -/
theorem lse_eq (h : Fin 16) (i : Fin 4096) :
    Real.log (∑ j : Fin 4096, Real.exp (score q k h i j)) = top q k h i + Real.log (tot q k h i) := by
  have e : ∑ j : Fin 4096, Real.exp (score q k h i j) = Real.exp (top q k h i) * tot q k h i := by
    unfold tot ex
    rw [Finset.mul_sum]
    refine Finset.sum_congr rfl fun j _ => ?_
    rw [← Real.exp_add]
    exact congrArg Real.exp (add_sub_cancel _ _).symm
  rw [e, Real.log_mul (Real.exp_pos _).ne' (tot_pos q k h i).ne', Real.log_exp]

/-- The log of the sum. -/
theorem v23_real (h : Fin 16) (i : Fin 4096) :
    val_main_v23 (F := Ideal) x0 x1 (ix3 h i (0 : Fin 1)) = ((top q k h i + Real.log (tot q k h i) : ℝ) : EReal) := by
  rw [v23_at]
  simp only [v2_real A, Ideal.exp_coe, sum_coe]
  rw [log_real _ (Finset.sum_pos (fun _ _ => Real.exp_pos _) ⟨0, Finset.mem_univ _⟩), lse_eq]

end

end Cert.FwdReferenceIdeal.Heads
-- ==== Proof.Fwd.lean ====
module

public import proofs.«01_k».proof.Proof.Gen.FwdIdeal.Value
public import proofs.«01_k».proof.Proof.FwdHost
public import proofs.«01_k».proof.Proof.FwdPay
public import proofs.«01_k».proof.Proof.FwdRef

@[expose] public section

set_option maxRecDepth 16384

noncomputable section

/-! The two arrays of the attention's forward call: a grid point takes 512 rows of one pair of heads. -/

namespace Cert.FwdIdeal.Heads

open Cert.FwdIdeal Cert.FwdIdeal.Gen Idealize.ShloMosaic Idealize.ShloMosaic.TcCoe Cert.Attn
open Cert.KernelIdeal.Heads (cl col)

/-- Pair `j`'s columns, in the wide arrays and in the output, and its heads; row tile `i`'s rows. -/
def cJ (j : ℕ) (c : Fin 256) : Fin 2048 := ⟨(256 * j + c.val) % 2048, Nat.mod_lt _ (by decide)⟩
def lJ (j : ℕ) (l : Fin 128) : Fin 1024 := ⟨(128 * j + l.val) % 1024, Nat.mod_lt _ (by decide)⟩
def hJ (j : ℕ) (e : Fin 2) : Fin 16 := ⟨(2 * j + e.val) % 16, Nat.mod_lt _ (by decide)⟩
def rT (i : ℕ) (r : Fin 512) : Fin 4096 := ⟨(512 * i + r.val) % 4096, Nat.mod_lt _ (by decide)⟩

theorem tlt (t : Fin cfg0.N) : t.val < 64 := lt_of_lt_of_eq t.isLt (show cfg0.N = 64 from N_0)

theorem cJ_col (j : ℕ) (e : Fin 2) (d : Fin 128) : cJ j (col e d) = cl (hJ j e) d := by
  apply Fin.ext; show (256 * j + (128 * e.val + d.val)) % 2048 = 128 * ((2 * j + e.val) % 16) + d.val; omega

theorem index0 : ∀ t : Fin cfg0.N, win0_0.index t (0 : Fin 2) = t.val % 8 ∧ win0_0.index t (1 : Fin 2) = t.val / 8 := by decide +kernel
theorem index1 : ∀ t : Fin cfg0.N, win0_1.index t (0 : Fin 2) = 0 ∧ win0_1.index t (1 : Fin 2) = t.val / 8 := by decide +kernel
theorem index2 : ∀ t : Fin cfg0.N, win0_2.index t (0 : Fin 2) = 0 ∧ win0_2.index t (1 : Fin 2) = t.val / 8 := by decide +kernel
theorem index3 : ∀ t : Fin cfg0.N, win0_3.index t (0 : Fin 2) = t.val % 8 ∧ win0_3.index t (1 : Fin 2) = t.val / 8 := by decide +kernel
theorem index4 : ∀ t : Fin cfg0.N, win0_4.index t (0 : Fin 3) = t.val / 8 ∧ win0_4.index t (1 : Fin 3) = t.val % 8 ∧ win0_4.index t (2 : Fin 3) = 0 := by decide +kernel

/-- An index is known by its coordinates. -/
theorem idx_of {n0 n1 : ℕ} (f : (⟨2, ![n0, n1]⟩ : Shape).Idx) (i : Fin n0) (j : Fin n1) (h0 : (f 0).val = i.val) (h1 : (f 1).val = j.val) : f = ix2 i j := by
  funext a; apply Fin.ext
  match a with
  | ⟨0, _⟩ => exact h0
  | ⟨1, _⟩ => exact h1

theorem row_val (i : ℕ) (hi : i < 8) (a : Fin 512) : i * 512 + 1 * a.val = (rT i a).val := by
  show i * 512 + 1 * a.val = (512 * i + a.val) % 4096; omega
theorem col_val (j : ℕ) (hj : j < 8) (b : Fin 256) : j * 256 + 1 * b.val = (cJ j b).val := by
  show j * 256 + 1 * b.val = (256 * j + b.val) % 2048; omega
theorem lane_val (j : ℕ) (hj : j < 8) (b : Fin 128) : j * 128 + 1 * b.val = (lJ j b).val := by
  show j * 128 + 1 * b.val = (128 * j + b.val) % 1024; omega

theorem mod_lt (t : Fin cfg0.N) : t.val % 8 < 8 := Nat.mod_lt _ (by decide)
theorem div_lt (t : Fin cfg0.N) : t.val / 8 < 8 := by have := tlt t; omega

theorem emb0 (t : Fin cfg0.N) (a : Fin 512) (b : Fin 256) :
    ((cfg0.win 0).blk t).view.emb (ix2 a b : S512x256.Idx) = (ix2 (rT (t.val % 8) a) (cJ (t.val / 8) b) : S4096x2048.Idx) :=
  idx_of _ _ _ (show win0_0.index t 0 * 512 + 1 * a.val = _ by rw [(index0 t).1]; exact row_val _ (mod_lt t) a)
    (show win0_0.index t 1 * 256 + 1 * b.val = _ by rw [(index0 t).2]; exact col_val _ (div_lt t) b)
theorem emb1 (t : Fin cfg0.N) (a : Fin 4096) (b : Fin 256) :
    ((cfg0.win 1).blk t).view.emb (ix2 a b : S4096x256.Idx) = (ix2 a (cJ (t.val / 8) b) : S4096x2048.Idx) :=
  idx_of _ _ _ (show win0_1.index t 0 * 4096 + 1 * a.val = _ by rw [(index1 t).1, Nat.zero_mul, Nat.zero_add, Nat.one_mul])
    (show win0_1.index t 1 * 256 + 1 * b.val = _ by rw [(index1 t).2]; exact col_val _ (div_lt t) b)
theorem emb2 (t : Fin cfg0.N) (a : Fin 4096) (b : Fin 256) :
    ((cfg0.win 2).blk t).view.emb (ix2 a b : S4096x256.Idx) = (ix2 a (cJ (t.val / 8) b) : S4096x2048.Idx) :=
  idx_of _ _ _ (show win0_2.index t 0 * 4096 + 1 * a.val = _ by rw [(index2 t).1, Nat.zero_mul, Nat.zero_add, Nat.one_mul])
    (show win0_2.index t 1 * 256 + 1 * b.val = _ by rw [(index2 t).2]; exact col_val _ (div_lt t) b)
theorem emb3 (t : Fin cfg0.N) (a : Fin 512) (b : Fin 128) :
    ((cfg0.win 3).blk t).view.emb (ix2 a b : S512x128.Idx) = (ix2 (rT (t.val % 8) a) (lJ (t.val / 8) b) : S4096x1024.Idx) :=
  idx_of _ _ _ (show win0_3.index t 0 * 512 + 1 * a.val = _ by rw [(index3 t).1]; exact row_val _ (mod_lt t) a)
    (show win0_3.index t 1 * 128 + 1 * b.val = _ by rw [(index3 t).2]; exact lane_val _ (div_lt t) b)
theorem emb4 (t : Fin cfg0.N) (e : Fin 2) (a : Fin 512) (z : Fin 1) :
    ((cfg0.win 4).blk t).view.emb (ix3 e a z : S2x512x1.Idx) = (ix3 (hJ (t.val / 8) e) (rT (t.val % 8) a) z : S16x4096x1.Idx) := by
  have h0 : win0_4.index t 0 * 2 + 1 * e.val = (2 * (t.val / 8) + e.val) % 16 := by rw [(index4 t).1]; have := tlt t; omega
  have h1 : win0_4.index t 1 * 512 + 1 * a.val = (rT (t.val % 8) a).val := by rw [(index4 t).2.1]; exact row_val _ (mod_lt t) a
  have h2 : win0_4.index t 2 * 1 + 1 * z.val = z.val := by rw [(index4 t).2.2, Nat.zero_mul, Nat.zero_add, Nat.one_mul]
  funext x; apply Fin.ext
  match x with
  | ⟨0, _⟩ => exact h0
  | ⟨1, _⟩ => exact h1
  | ⟨2, _⟩ => exact h2

variable (m : (ℓ : Loc nD τ sig) → Buf (Elt Ideal) ℓ)

theorem blk0 (c : Dev nD) (t : Fin cfg0.N) (a : Fin 512) (b : Fin 256) :
    (iblk m c 0 t : Vec Ideal S512x256 .bf16) (ix2 a b) = aQ m c (ix2 (rT (t.val % 8) a) (cJ (t.val / 8) b)) :=
  (show (iblk m c 0 t : Vec Ideal S512x256 .bf16) (ix2 a b) = aQ m c (((cfg0.win 0).blk t).view.emb (ix2 a b : S512x256.Idx)) from rfl).trans (congrArg (aQ m c) (emb0 t a b))
theorem blk1 (c : Dev nD) (t : Fin cfg0.N) (a : Fin 4096) (b : Fin 256) :
    (iblk m c 1 t : Vec Ideal S4096x256 .bf16) (ix2 a b) = aK m c (ix2 a (cJ (t.val / 8) b)) :=
  (show (iblk m c 1 t : Vec Ideal S4096x256 .bf16) (ix2 a b) = aK m c (((cfg0.win 1).blk t).view.emb (ix2 a b : S4096x256.Idx)) from rfl).trans (congrArg (aK m c) (emb1 t a b))
theorem blk2 (c : Dev nD) (t : Fin cfg0.N) (a : Fin 4096) (b : Fin 256) :
    (iblk m c 2 t : Vec Ideal S4096x256 .bf16) (ix2 a b) = aW m c (ix2 a (cJ (t.val / 8) b)) :=
  (show (iblk m c 2 t : Vec Ideal S4096x256 .bf16) (ix2 a b) = aW m c (((cfg0.win 2).blk t).view.emb (ix2 a b : S4096x256.Idx)) from rfl).trans (congrArg (aW m c) (emb2 t a b))

/-- The output and the log of the sum, over the whole arrays. -/
def resE (q k : Fin 4096 → Fin 16 → Fin 96 → ℝ) (v : Fin 4096 → Fin 16 → Fin 64 → ℝ) (i : Fin 4096) (x : Fin 1024) : EReal :=
  ((res q k v i (⟨x.val / 64, by omega⟩ : Fin 16) (⟨x.val % 64, by omega⟩ : Fin 64) : ℝ) : EReal)
def lseE (q k : Fin 4096 → Fin 16 → Fin 96 → ℝ) (h : Fin 16) (i : Fin 4096) : EReal :=
  ((top q k h i + Real.log (tot q k h i) : ℝ) : EReal)

section

variable {m} {c : Dev nD} {q k : Fin 4096 → Fin 16 → Fin 96 → ℝ} {v : Fin 4096 → Fin 16 → Fin 64 → ℝ} (A : Args m c q k v)

include A

theorem holdsl (t : Fin cfg0.N) : Holds (ql (iblk m c 0 t)) (kl (iblk m c 1 t)) (kl (iblk m c 2 t)) q k v (hJ (t.val / 8) 0) (rT (t.val % 8)) where
  hQ i d := by rw [ql_at, blk0, cJ_col]; exact aQ_real A _ _ _
  hK i d := by rw [kl_at, blk1, cJ_col]; exact aK_real A _ _ _
  hW i d := by rw [kl_at, blk2, cJ_col]; exact aW_real A _ _ _

theorem holdsr (t : Fin cfg0.N) : Holds (qr (iblk m c 0 t)) (kr (iblk m c 1 t)) (kr (iblk m c 2 t)) q k v (hJ (t.val / 8) 1) (rT (t.val % 8)) where
  hQ i d := by rw [qr_at, blk0, cJ_col]; exact aQ_real A _ _ _
  hK i d := by rw [kr_at, blk1, cJ_col]; exact aK_real A _ _ _
  hW i d := by rw [kr_at, blk2, cJ_col]; exact aW_real A _ _ _

omit A in
/-- A lane of a pair belongs to one of the two heads. -/
theorem half_sum (j : ℕ) (hj : j < 8) (i : Fin 4096) (b : Fin 128) :
    (if b.val / 64 = (hJ j 0).val % 2 then ((res q k v i (hJ j 0) ⟨b.val % 64, Nat.mod_lt _ (by decide)⟩ : ℝ) : EReal) else 0)
      + (if b.val / 64 = (hJ j 1).val % 2 then ((res q k v i (hJ j 1) ⟨b.val % 64, Nat.mod_lt _ (by decide)⟩ : ℝ) : EReal) else 0) = resE q k v i (lJ j b) := by
  have p0 : (hJ j 0).val % 2 = 0 := by show (2 * j + 0) % 16 % 2 = 0; omega
  have p1 : (hJ j 1).val % 2 = 1 := by show (2 * j + 1) % 16 % 2 = 1; omega
  have l : (⟨(lJ j b).val % 64, Nat.mod_lt _ (by decide)⟩ : Fin 64) = ⟨b.val % 64, Nat.mod_lt _ (by decide)⟩ :=
    Fin.ext (show (128 * j + b.val) % 1024 % 64 = b.val % 64 by omega)
  unfold resE
  rw [p0, p1, l]
  obtain e | e : b.val / 64 = 0 ∨ b.val / 64 = 1 := by omega
  · rw [if_pos e, if_neg (by omega), add_zero,
      show (⟨(lJ j b).val / 64, by omega⟩ : Fin 16) = hJ j 0 from Fin.ext (show (128 * j + b.val) % 1024 / 64 = (2 * j + 0) % 16 by omega)]
  · rw [if_neg (by omega), if_pos e, zero_add,
      show (⟨(lJ j b).val / 64, by omega⟩ : Fin 16) = hJ j 1 from Fin.ext (show (128 * j + b.val) % 1024 / 64 = (2 * j + 1) % 16 by omega)]

theorem out3_at (t : Fin cfg0.N) (a : Fin 512) (b : Fin 128) :
    out0_3 (iblk m c 0 t) (iblk m c 1 t) (iblk m c 2 t) (ix2 a b) = resE q k v (rT (t.val % 8) a) (lJ (t.val / 8) b) := by
  rw [out3_eq, pay1_at, pay7_real (holdsl A t), pay7_real (holdsr A t)]
  exact half_sum _ (div_lt t) _ _

omit A in
/-- A block of row numbers. -/
def lseB (q k : Fin 4096 → Fin 16 → Fin 96 → ℝ) (t : Fin cfg0.N) : Vec Ideal S2x512x1 .f32 :=
  fun y => lseE q k (hJ (t.val / 8) (y 0)) (rT (t.val % 8) (y 1))

theorem out4_all (t : Fin cfg0.N) : out0_4 (iblk m c 0 t) (iblk m c 1 t) (iblk m c 2 t) = lseB q k t :=
  out4_eq _ _ _ _ (fun a => pay8_real (holdsl A t) a) (fun a => pay8_real (holdsr A t) a)

end

variable (c : Dev nD) (q k : Fin 4096 → Fin 16 → Fin 96 → ℝ) (v : Fin 4096 → Fin 16 → Fin 64 → ℝ)

def G3 : Buf (Elt Ideal) ((c : Thread nD τ).loc main_v15_0) := fun y : S4096x1024.Idx => resE q k v (y 0) (y 1)
def G4 : Buf (Elt Ideal) ((c : Thread nD τ).loc main_v15_1) := fun y : S16x4096x1.Idx => lseE q k (y 0) (y 1)

theorem flushed3 (A : Args m c q k v) (t : Fin cfg0.N) :
    (dats m 0 c).flushed 3 t = ((cfg0.win 3).blk t).view.read (Elt Ideal) (G3 c q k v) := by
  rw [Value.flushed3]
  funext y
  have hx : (cfg0.win 3).xinj (grid0.coords t) y = (ix2 (⟨(y 0).val, (y 0).isLt⟩ : Fin 512) (⟨(y 1).val, (y 1).isLt⟩ : Fin 128) : S512x128.Idx) := idx_of _ _ _ rfl rfl
  have hy : ((cfg0.win 3).blk t).view.emb y = (ix2 (rT (t.val % 8) (⟨(y 0).val, (y 0).isLt⟩ : Fin 512)) (lJ (t.val / 8) (⟨(y 1).val, (y 1).isLt⟩ : Fin 128)) : S4096x1024.Idx) :=
    (congrArg _ hx).trans (emb3 t _ _)
  show out0_3 (iblk m c 0 t) (iblk m c 1 t) (iblk m c 2 t) ((cfg0.win 3).xinj (grid0.coords t) y) = G3 c q k v (((cfg0.win 3).blk t).view.emb y)
  rw [hx]
  exact (out3_at A t _ _).trans (congrArg (G3 c q k v) hy).symm

theorem flushed4 (A : Args m c q k v) (t : Fin cfg0.N) :
    (dats m 0 c).flushed 4 t = ((cfg0.win 4).blk t).view.read (Elt Ideal) (G4 c q k) := by
  rw [Value.flushed4]
  funext y
  have hx : (cfg0.win 4).xinj (grid0.coords t) y = (ix3 (⟨(y 0).val, (y 0).isLt⟩ : Fin 2) (⟨(y 1).val, (y 1).isLt⟩ : Fin 512) (⟨(y 2).val, (y 2).isLt⟩ : Fin 1) : S2x512x1.Idx) := by
    funext a; apply Fin.ext
    match a with
    | ⟨0, _⟩ => rfl
    | ⟨1, _⟩ => rfl
    | ⟨2, _⟩ => rfl
  have hy : ((cfg0.win 4).blk t).view.emb y = (ix3 (hJ (t.val / 8) (⟨(y 0).val, (y 0).isLt⟩ : Fin 2)) (rT (t.val % 8) (⟨(y 1).val, (y 1).isLt⟩ : Fin 512)) (⟨(y 2).val, (y 2).isLt⟩ : Fin 1) : S16x4096x1.Idx) :=
    (congrArg _ hx).trans (emb4 t _ _ _)
  show out0_4 (iblk m c 0 t) (iblk m c 1 t) (iblk m c 2 t) ((cfg0.win 4).xinj (grid0.coords t) y) = G4 c q k (((cfg0.win 4).blk t).view.emb y)
  rw [hx, out4_all A t]
  exact (congrArg (G4 c q k) hy).symm

theorem covered3 (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  have hn : 8 * ((i 1).val / 128) + (i 0).val / 512 < cfg0.N := by rw [show cfg0.N = 64 from N_0]; omega
  refine ⟨⟨_, hn⟩, flush0_3 _, ?_⟩
  obtain ⟨q0, q1⟩ := index3 ⟨_, hn⟩
  dsimp only at q0 q1
  show i ∈ ((View.whole main_v15_0).slice (win0_3.rect ⟨_, hn⟩)).set
  rw [View.set_slice_whole, Rect.mem_set_unit]
  intro a
  match a with
  | ⟨0, _⟩ => show win0_3.index ⟨_, hn⟩ (0 : Fin 2) * 512 ≤ (i 0).val ∧ (i 0).val < win0_3.index ⟨_, hn⟩ (0 : Fin 2) * 512 + 512; omega
  | ⟨1, _⟩ => show win0_3.index ⟨_, hn⟩ (1 : Fin 2) * 128 ≤ (i 1).val ∧ (i 1).val < win0_3.index ⟨_, hn⟩ (1 : Fin 2) * 128 + 128; omega

theorem covered4 (i : S16x4096x1.Idx) : ∃ t : Fin cfg0.N, (cfg0.win 4).flush t = true ∧ i ∈ ((cfg0.win 4).blk t).view.set := by
  have hi0 : (i 0).val < 16 := (i 0).isLt
  have hi1 : (i 1).val < 4096 := (i 1).isLt
  have hi2 : (i 2).val < 1 := (i 2).isLt
  have hn : 8 * ((i 0).val / 2) + (i 1).val / 512 < cfg0.N := by rw [show cfg0.N = 64 from N_0]; omega
  refine ⟨⟨_, hn⟩, flush0_4 _, ?_⟩
  obtain ⟨q0, q1, q2⟩ := index4 ⟨_, hn⟩
  dsimp only at q0 q1 q2
  show i ∈ ((View.whole main_v15_1).slice (win0_4.rect ⟨_, hn⟩)).set
  rw [View.set_slice_whole, Rect.mem_set_unit]
  intro a
  match a with
  | ⟨0, _⟩ => show win0_4.index ⟨_, hn⟩ (0 : Fin 3) * 2 ≤ (i 0).val ∧ (i 0).val < win0_4.index ⟨_, hn⟩ (0 : Fin 3) * 2 + 2; omega
  | ⟨1, _⟩ => show win0_4.index ⟨_, hn⟩ (1 : Fin 3) * 512 ≤ (i 1).val ∧ (i 1).val < win0_4.index ⟨_, hn⟩ (1 : Fin 3) * 512 + 512; omega
  | ⟨2, _⟩ => show win0_4.index ⟨_, hn⟩ (2 : Fin 3) * 1 ≤ (i 2).val ∧ (i 2).val < win0_4.index ⟨_, hn⟩ (2 : Fin 3) * 1 + 1; omega

theorem final3 (A : Args m c q k v) : (dats m 0 c).arrAt 3 cfg0.N = G3 c q k v :=
  (dats m 0 c).arrAt_eq_of_cover 3 _ (fun t _ => flushed3 m c q k v A t) covered3

theorem final4 (A : Args m c q k v) : (dats m 0 c).arrAt 4 cfg0.N = G4 c q k :=
  (dats m 0 c).arrAt_eq_of_cover 4 _ (fun t _ => flushed4 m c q k v A t) covered4

open Cert.FwdReferenceIdeal.Read

/-- The kernel's arguments as the reference's. -/
theorem args_ref (A : Args m c q k v) : Cert.FwdReferenceIdeal.Heads.Args (g0 m c) (g1 m c) (g2 m c) q k v := ⟨A.h0, A.h1, A.h2⟩

theorem same3 (A : Args m c q k v) : val_main_v19 (F := Ideal) (g0 m c) (g1 m c) (g2 m c) = G3 c q k v := by
  funext y
  rw [eq_ix2 y]
  exact Cert.FwdReferenceIdeal.Heads.v19_real (args_ref m c q k v A) (y 0) (y 1)

theorem same4 (A : Args m c q k v) : val_main_v23 (F := Ideal) (g0 m c) (g1 m c) = G4 c q k := by
  funext y
  have e : y = (ix3 (y 0) (y 1) (0 : Fin 1) : S16x4096x1.Idx) := by
    funext a; apply Fin.ext
    match a with
    | ⟨0, _⟩ => rfl
    | ⟨1, _⟩ => rfl
    | ⟨2, _⟩ => show (y 2).val = 0; have := (y 2).isLt; change (y 2).val < 1 at this; omega
  rw [e]
  exact Cert.FwdReferenceIdeal.Heads.v23_real (args_ref m c q k v A) (y 0) (y 1)

end Cert.FwdIdeal.Heads
-- ==== Proof.Inb.lean ====
module

public import proofs.«01_k».proof.Proof.Gen.InbIdeal.Value
public import proofs.«01_k».proof.Proof.Gen.InbReferenceIdeal.Run
public import proofs.«01_k».proof.Proof.Gen.InbReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the mixer: that of its input with the weight's columns of z, xbc and the two gates.
The kernel forms each block of the result at one grid point. -/

namespace Cert.InbIdeal.Prod

open Cert.InbIdeal Cert.InbIdeal.Gen Idealize.ShloMosaic Idealize.ShloMosaic.TcCoe Cert.Sums Idealize.SL.Sem

theorem pay1_at (u : Vec Ideal S1024x1024 .bf16) (v : Vec Ideal S1024x1024 .bf16) (a : Fin 1024) (x : Fin 1024) :
    k0_pay1 u v (ix2 a x) = (∑ r : Fin 1024, (u (ix2 a r) : EReal) * (v (ix2 r x) : EReal)) := by
  pointwise [k0_pay1]

theorem out_eq (u : Vec Ideal S1024x1024 .bf16) (v : Vec Ideal S1024x1024 .bf16) : out0_2 u v = k0_pay1 u v := by
  unfold out0_2
  rw [View.canon_cons_unit_zero hz2, View.ld_unit_zero (S := S1024x1024) hz2, View.ld_unit_zero (S := S1024x1024) hz2]

/-! Which block each window reads at a grid point. -/

theorem tlt (t : Fin cfg0.N) : t.val < 28 := lt_of_lt_of_eq t.isLt (show cfg0.N = 28 from N_0)

/-- Block `b`'s rows of the result and its columns. -/
def rI (b : ℕ) (r : Fin 1024) : Fin 4096 := ⟨(1024 * b + r.val) % 4096, Nat.mod_lt _ (by decide)⟩
def cJ (b : ℕ) (r : Fin 1024) : Fin 7168 := ⟨(1024 * b + r.val) % 7168, Nat.mod_lt _ (by decide)⟩

variable (m : (ℓ : Loc nD τ sig) → Buf (Elt Ideal) ℓ)

/-- Operand 0, as the kernel's window names it. -/
def aA (c : Dev nD) : Vec Ideal S4096x1024 .bf16 := V m c (Pipeline.arrRef spec0 0)

theorem index0 : ∀ t : Fin cfg0.N, win0_0.index t (0 : Fin 2) = t.val / 7 ∧ win0_0.index t (1 : Fin 2) = 0 := by decide +kernel

theorem rd0 (A : S4096x1024.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (rI (t.val / 7) a) b : S4096x1024.Idx) := by
  have ht := tlt t
  have h0 : win0_0.index t 0 * 1024 + 1 * a.val = (1024 * (t.val / 7) + a.val) % 4096 := by rw [(index0 t).1]; omega
  have h1 : win0_0.index t 1 * 1024 + 1 * b.val = b.val := by rw [(index0 t).2, Nat.zero_mul, Nat.zero_add, Nat.one_mul]
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .bf16) (ix2 a b) = aA m c (ix2 (rI (t.val / 7) a) b) :=
  (rd0 (aA m c) t (ix2 a b)).trans (congrArg (aA m c) (emb0 t a b))

/-- Operand 1, as the kernel's window names it. -/
def aB (c : Dev nD) : Vec Ideal S1024x7168 .bf16 := V m c (Pipeline.arrRef spec0 1)

theorem index1 : ∀ t : Fin cfg0.N, win0_1.index t (0 : Fin 2) = 0 ∧ win0_1.index t (1 : Fin 2) = t.val % 7 := by decide +kernel

theorem rd1 (A : S1024x7168.Idx → EReal) (t : Fin cfg0.N) (y : S1024x1024.Idx) :
    (((cfg0.win 1).blk t).view.read (Elt Ideal) A) y = A (((cfg0.win 1).blk t).view.emb y) := rfl

theorem emb1 (t : Fin cfg0.N) (a : Fin 1024) (b : Fin 1024) :
    ((cfg0.win 1).blk t).view.emb (ix2 a b : S1024x1024.Idx) = (ix2 a (cJ (t.val % 7) b) : S1024x7168.Idx) := by
  have ht := tlt t
  have h0 : win0_1.index t 0 * 1024 + 1 * a.val = a.val := by rw [(index1 t).1, Nat.zero_mul, Nat.zero_add, Nat.one_mul]
  have h1 : win0_1.index t 1 * 1024 + 1 * b.val = (1024 * (t.val % 7) + b.val) % 7168 := by rw [(index1 t).2]; omega
  funext x; apply Fin.ext
  match x with
  | ⟨0, _⟩ => exact h0
  | ⟨1, _⟩ => exact h1

theorem blk1 (c : Dev nD) (t : Fin cfg0.N) (a : Fin 1024) (b : Fin 1024) :
    (iblk m c 1 t : Vec Ideal S1024x1024 .bf16) (ix2 a b) = aB m c (ix2 a (cJ (t.val % 7) b)) :=
  (rd1 (aB m c) t (ix2 a b)).trans (congrArg (aB m c) (emb1 t a b))

theorem index2 : ∀ t : Fin cfg0.N, win0_2.index t (0 : Fin 2) = t.val / 7 ∧ win0_2.index t (1 : Fin 2) = t.val % 7 := by decide +kernel

theorem rd2 (A : S4096x7168.Idx → EReal) (t : Fin cfg0.N) (y : S1024x1024.Idx) :
    (((cfg0.win 2).blk t).view.read (Elt Ideal) A) y = A (((cfg0.win 2).blk t).view.emb y) := rfl

theorem emb2 (t : Fin cfg0.N) (a : Fin 1024) (b : Fin 1024) :
    ((cfg0.win 2).blk t).view.emb (ix2 a b : S1024x1024.Idx) = (ix2 (rI (t.val / 7) a) (cJ (t.val % 7) b) : S4096x7168.Idx) := by
  have ht := tlt t
  have h0 : win0_2.index t 0 * 1024 + 1 * a.val = (1024 * (t.val / 7) + a.val) % 4096 := by rw [(index2 t).1]; omega
  have h1 : win0_2.index t 1 * 1024 + 1 * b.val = (1024 * (t.val % 7) + b.val) % 7168 := by rw [(index2 t).2]; omega
  funext x; apply Fin.ext
  match x with
  | ⟨0, _⟩ => exact h0
  | ⟨1, _⟩ => exact h1

/-- One term of the product of the whole operands. -/
def term (c : Dev nD) (i : Fin 4096) (x : Fin 7168) (k : Fin 1024) : EReal := aA m c (ix2 i k) * aB m c (ix2 k x)

/-- An entry of the result, and the result. -/
def entry (c : Dev nD) (i : Fin 4096) (x : Fin 7168) : EReal := (∑ k : Fin 1024, term m c i x k)
def G (c : Dev nD) : Buf (Elt Ideal) ((c : Thread nD τ).loc main_v2) := fun i : S4096x7168.Idx => entry m c (i 0) (i 1)

theorem G_at (c : Dev nD) (i : Fin 4096) (x : Fin 7168) : G m c (ix2 i x : S4096x7168.Idx) = entry m c i x := rfl

theorem out_blk (c : Dev nD) (t : Fin cfg0.N) (a : Fin 1024) (x : Fin 1024) :
    out0_2 (iblk m c 0 t) (iblk m c 1 t) (ix2 a x) = entry m c (rI (t.val / 7) a) (cJ (t.val % 7) x) := by
  rw [out_eq]
  refine (pay1_at _ _ a x).trans ?_
  unfold entry term
  simp only [blk0, blk1]

/-- What a grid point writes back is its block of the result. -/
theorem flushed (c : Dev nD) (t : Fin cfg0.N) :
    (dats m 0 c).flushed 2 t = ((cfg0.win 2).blk t).view.read (Elt Ideal) (G m c) := by
  rw [Value.flushed2]
  funext y
  have hx : (cfg0.win 2).xinj (grid0.coords t) y = (ix2 (⟨(y 0).val, (y 0).isLt⟩ : Fin 1024) (⟨(y 1).val, (y 1).isLt⟩ : Fin 1024) : S1024x1024.Idx) := by
    funext a; apply Fin.ext
    match a with
    | ⟨0, _⟩ => rfl
    | ⟨1, _⟩ => rfl
  have hy : ((cfg0.win 2).blk t).view.emb y = (ix2 (rI (t.val / 7) (⟨(y 0).val, (y 0).isLt⟩ : Fin 1024)) (cJ (t.val % 7) (⟨(y 1).val, (y 1).isLt⟩ : Fin 1024)) : S4096x7168.Idx) :=
    (congrArg _ hx).trans (emb2 t _ _)
  show out0_2 (iblk m c 0 t) (iblk m c 1 t) ((cfg0.win 2).xinj (grid0.coords t) y) = G m c (((cfg0.win 2).blk t).view.emb y)
  rw [hx]
  exact (out_blk m c t _ _).trans (congrArg (G m c) hy).symm

/-- Every index is in the block that some point writes back. -/
theorem covered (i : S4096x7168.Idx) : ∃ t : Fin cfg0.N, (cfg0.win 2).flush t = true ∧ i ∈ ((cfg0.win 2).blk t).view.set := by
  have hi0 : (i 0).val < 4096 := (i 0).isLt
  have hi1 : (i 1).val < 7168 := (i 1).isLt
  have hn : 7 * ((i 0).val / 1024) + (i 1).val / 1024 < cfg0.N := by rw [show cfg0.N = 28 from N_0]; omega
  refine ⟨⟨_, hn⟩, flush0_2 _, ?_⟩
  obtain ⟨q0, q1⟩ := index2 ⟨_, hn⟩
  dsimp only at q0 q1
  show i ∈ ((View.whole main_v2).slice (win0_2.rect ⟨_, hn⟩)).set
  rw [View.set_slice_whole, Rect.mem_set_unit]
  intro a
  match a with
  | ⟨0, _⟩ => show win0_2.index ⟨_, hn⟩ (0 : Fin 2) * 1024 ≤ (i 0).val ∧ (i 0).val < win0_2.index ⟨_, hn⟩ (0 : Fin 2) * 1024 + 1024; omega
  | ⟨1, _⟩ => show win0_2.index ⟨_, hn⟩ (1 : Fin 2) * 1024 ≤ (i 1).val ∧ (i 1).val < win0_2.index ⟨_, hn⟩ (1 : Fin 2) * 1024 + 1024; omega

/-- The result array after the run. -/
theorem final (c : Dev nD) : (dats m 0 c).arrAt 2 cfg0.N = G m c :=
  (dats m 0 c).arrAt_eq_of_cover 2 _ (fun t _ => flushed m c t) covered

/-! The operands are the arguments. -/

def g0 (c : Dev nD) : Vec Ideal S4096x1024 .f32 := m (c, Proc.tc.devRef main_arg0)
def g1 (c : Dev nD) : Vec Ideal S1024x7168 .f32 := m (c, Proc.tc.devRef main_arg1)

theorem aA_eq (c : Dev nD) : aA m c = V m c main_v0 := rfl

theorem aA_at (c : Dev nD) (a : Fin 4096) (b : Fin 1024) : aA m c (ix2 a b) = g0 m c (ix2 a b) := by
  rw [aA_eq]
  simp only [g0]
  unfold_abbrev_sides
  after_reads_at

theorem aB_eq (c : Dev nD) : aB m c = V m c main_v1 := rfl

theorem aB_at (c : Dev nD) (a : Fin 1024) (b : Fin 7168) : aB m c (ix2 a b) = g1 m c (ix2 a b) := by
  rw [aB_eq]
  simp only [g1]
  unfold_abbrev_sides
  after_reads_at

/-- The reference's result at an index. -/
theorem ref_at (y0 : Vec Ideal S4096x1024 .f32) (y1 : Vec Ideal S1024x7168 .f32) (i : Fin 4096) (x : Fin 7168) :
    Cert.InbReferenceIdeal.Read.val_main_v0 (F := Ideal) y0 y1 (ix2 i x) = ∑ k : Fin 1024, (y0 (ix2 i k) : EReal) * (y1 (ix2 k x) : EReal) := by
  unfold Cert.InbReferenceIdeal.Read.val_main_v0
  pointwise

/-- The reference's array is the kernel's. -/
theorem same_at (c : Dev nD) (i : Fin 4096) (x : Fin 7168) :
    Cert.InbReferenceIdeal.Read.val_main_v0 (F := Ideal) (g0 m c) (g1 m c) (ix2 i x) = G m c (ix2 i x : S4096x7168.Idx) := by
  refine (ref_at (g0 m c) (g1 m c) i x).trans ?_
  rw [G_at]
  unfold entry term
  simp only [aA_at, aB_at]

theorem same (c : Dev nD) : Cert.InbReferenceIdeal.Read.val_main_v0 (F := Ideal) (g0 m c) (g1 m c) = G m c := by
  funext j
  rw [eq_ix2 j]
  exact same_at m c (j 0) (j 1)

end Cert.InbIdeal.Prod
-- ==== Proof.Bra.lean ====
module

public import proofs.«01_k».proof.Proof.Gen.BraIdeal.Value
public import proofs.«01_k».proof.Proof.Gen.BraReferenceIdeal.Run
public import proofs.«01_k».proof.Proof.Gen.BraReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the mixer: the attention branch.
The kernel forms each block of the result at one grid point. -/

namespace Cert.BraIdeal.Prod

open Cert.BraIdeal Cert.BraIdeal.Gen Idealize.ShloMosaic Idealize.ShloMosaic.TcCoe Cert.Sums Idealize.SL.Sem

theorem pay1_at (u : Vec Ideal S1024x1024 .f32) (v : Vec Ideal S1024x1024 .bf16) (a : Fin 1024) (x : Fin 1024) :
    k0_pay1 u v (ix2 a x) = (∑ r : Fin 1024, (u (ix2 a r) : EReal) * (v (ix2 r x) : EReal)) := by
  pointwise [k0_pay1]

theorem out_eq (u : Vec Ideal S1024x1024 .f32) (v : Vec Ideal S1024x1024 .bf16) : out0_2 u v = k0_pay1 u v := by
  unfold out0_2
  rw [View.canon_cons_unit_zero hz2, View.ld_unit_zero (S := S1024x1024) hz2, View.ld_unit_zero (S := S1024x1024) hz2]

/-! Which block each window reads at a grid point. -/

theorem tlt (t : Fin cfg0.N) : t.val < 4 := lt_of_lt_of_eq t.isLt (show cfg0.N = 4 from N_0)

/-- Block `b`'s rows of the result and its columns. -/
def rI (b : ℕ) (r : Fin 1024) : Fin 4096 := ⟨(1024 * b + r.val) % 4096, Nat.mod_lt _ (by decide)⟩
def cJ (b : ℕ) (r : Fin 1024) : Fin 1024 := ⟨(1024 * b + r.val) % 1024, Nat.mod_lt _ (by decide)⟩

variable (m : (ℓ : Loc nD τ sig) → Buf (Elt Ideal) ℓ)

/-- Operand 0, as the kernel's window names it. -/
def aA (c : Dev nD) : Vec Ideal S4096x1024 .f32 := V m c (Pipeline.arrRef spec0 0)

theorem index0 : ∀ t : Fin cfg0.N, win0_0.index t (0 : Fin 2) = t.val / 1 ∧ win0_0.index t (1 : Fin 2) = 0 := by decide +kernel

theorem rd0 (A : S4096x1024.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (rI (t.val / 1) a) b : S4096x1024.Idx) := by
  have ht := tlt t
  have h0 : win0_0.index t 0 * 1024 + 1 * a.val = (1024 * (t.val / 1) + a.val) % 4096 := by rw [(index0 t).1]; omega
  have h1 : win0_0.index t 1 * 1024 + 1 * b.val = b.val := by rw [(index0 t).2, Nat.zero_mul, Nat.zero_add, Nat.one_mul]
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .f32) (ix2 a b) = aA m c (ix2 (rI (t.val / 1) a) b) :=
  (rd0 (aA m c) t (ix2 a b)).trans (congrArg (aA m c) (emb0 t a b))

/-- Operand 1, as the kernel's window names it. -/
def aB (c : Dev nD) : Vec Ideal S1024x1024 .bf16 := V m c (Pipeline.arrRef spec0 1)

theorem index1 : ∀ t : Fin cfg0.N, win0_1.index t (0 : Fin 2) = 0 ∧ win0_1.index t (1 : Fin 2) = t.val % 1 := by decide +kernel

theorem rd1 (A : S1024x1024.Idx → EReal) (t : Fin cfg0.N) (y : S1024x1024.Idx) :
    (((cfg0.win 1).blk t).view.read (Elt Ideal) A) y = A (((cfg0.win 1).blk t).view.emb y) := rfl

theorem emb1 (t : Fin cfg0.N) (a : Fin 1024) (b : Fin 1024) :
    ((cfg0.win 1).blk t).view.emb (ix2 a b : S1024x1024.Idx) = (ix2 a (cJ (t.val % 1) b) : S1024x1024.Idx) := by
  have ht := tlt t
  have h0 : win0_1.index t 0 * 1024 + 1 * a.val = a.val := by rw [(index1 t).1, Nat.zero_mul, Nat.zero_add, Nat.one_mul]
  have h1 : win0_1.index t 1 * 1024 + 1 * b.val = (1024 * (t.val % 1) + b.val) % 1024 := by rw [(index1 t).2]; omega
  funext x; apply Fin.ext
  match x with
  | ⟨0, _⟩ => exact h0
  | ⟨1, _⟩ => exact h1

theorem blk1 (c : Dev nD) (t : Fin cfg0.N) (a : Fin 1024) (b : Fin 1024) :
    (iblk m c 1 t : Vec Ideal S1024x1024 .bf16) (ix2 a b) = aB m c (ix2 a (cJ (t.val % 1) b)) :=
  (rd1 (aB m c) t (ix2 a b)).trans (congrArg (aB m c) (emb1 t a b))

theorem index2 : ∀ t : Fin cfg0.N, win0_2.index t (0 : Fin 2) = t.val / 1 ∧ win0_2.index t (1 : Fin 2) = t.val % 1 := by decide +kernel

theorem rd2 (A : S4096x1024.Idx → EReal) (t : Fin cfg0.N) (y : S1024x1024.Idx) :
    (((cfg0.win 2).blk t).view.read (Elt Ideal) A) y = A (((cfg0.win 2).blk t).view.emb y) := rfl

theorem emb2 (t : Fin cfg0.N) (a : Fin 1024) (b : Fin 1024) :
    ((cfg0.win 2).blk t).view.emb (ix2 a b : S1024x1024.Idx) = (ix2 (rI (t.val / 1) a) (cJ (t.val % 1) b) : S4096x1024.Idx) := by
  have ht := tlt t
  have h0 : win0_2.index t 0 * 1024 + 1 * a.val = (1024 * (t.val / 1) + a.val) % 4096 := by rw [(index2 t).1]; omega
  have h1 : win0_2.index t 1 * 1024 + 1 * b.val = (1024 * (t.val % 1) + b.val) % 1024 := by rw [(index2 t).2]; omega
  funext x; apply Fin.ext
  match x with
  | ⟨0, _⟩ => exact h0
  | ⟨1, _⟩ => exact h1

/-- One term of the product of the whole operands. -/
def term (c : Dev nD) (i : Fin 4096) (x : Fin 1024) (k : Fin 1024) : EReal := aA m c (ix2 i k) * aB m c (ix2 k x)

/-- An entry of the result, and the result. -/
def entry (c : Dev nD) (i : Fin 4096) (x : Fin 1024) : EReal := (∑ k : Fin 1024, term m c i x k)
def G (c : Dev nD) : Buf (Elt Ideal) ((c : Thread nD τ).loc main_v1) := fun i : S4096x1024.Idx => entry m c (i 0) (i 1)

theorem G_at (c : Dev nD) (i : Fin 4096) (x : Fin 1024) : G m c (ix2 i x : S4096x1024.Idx) = entry m c i x := rfl

theorem out_blk (c : Dev nD) (t : Fin cfg0.N) (a : Fin 1024) (x : Fin 1024) :
    out0_2 (iblk m c 0 t) (iblk m c 1 t) (ix2 a x) = entry m c (rI (t.val / 1) a) (cJ (t.val % 1) x) := by
  rw [out_eq]
  refine (pay1_at _ _ a x).trans ?_
  unfold entry term
  simp only [blk0, blk1]

/-- What a grid point writes back is its block of the result. -/
theorem flushed (c : Dev nD) (t : Fin cfg0.N) :
    (dats m 0 c).flushed 2 t = ((cfg0.win 2).blk t).view.read (Elt Ideal) (G m c) := by
  rw [Value.flushed2]
  funext y
  have hx : (cfg0.win 2).xinj (grid0.coords t) y = (ix2 (⟨(y 0).val, (y 0).isLt⟩ : Fin 1024) (⟨(y 1).val, (y 1).isLt⟩ : Fin 1024) : S1024x1024.Idx) := by
    funext a; apply Fin.ext
    match a with
    | ⟨0, _⟩ => rfl
    | ⟨1, _⟩ => rfl
  have hy : ((cfg0.win 2).blk t).view.emb y = (ix2 (rI (t.val / 1) (⟨(y 0).val, (y 0).isLt⟩ : Fin 1024)) (cJ (t.val % 1) (⟨(y 1).val, (y 1).isLt⟩ : Fin 1024)) : S4096x1024.Idx) :=
    (congrArg _ hx).trans (emb2 t _ _)
  show out0_2 (iblk m c 0 t) (iblk m c 1 t) ((cfg0.win 2).xinj (grid0.coords t) y) = G m c (((cfg0.win 2).blk t).view.emb y)
  rw [hx]
  exact (out_blk m c t _ _).trans (congrArg (G m c) hy).symm

/-- Every index is in the block that some point writes back. -/
theorem covered (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  have hn : 1 * ((i 0).val / 1024) + (i 1).val / 1024 < cfg0.N := by rw [show cfg0.N = 4 from N_0]; omega
  refine ⟨⟨_, hn⟩, flush0_2 _, ?_⟩
  obtain ⟨q0, q1⟩ := index2 ⟨_, hn⟩
  dsimp only at q0 q1
  show i ∈ ((View.whole main_v1).slice (win0_2.rect ⟨_, hn⟩)).set
  rw [View.set_slice_whole, Rect.mem_set_unit]
  intro a
  match a with
  | ⟨0, _⟩ => show win0_2.index ⟨_, hn⟩ (0 : Fin 2) * 1024 ≤ (i 0).val ∧ (i 0).val < win0_2.index ⟨_, hn⟩ (0 : Fin 2) * 1024 + 1024; omega
  | ⟨1, _⟩ => show win0_2.index ⟨_, hn⟩ (1 : Fin 2) * 1024 ≤ (i 1).val ∧ (i 1).val < win0_2.index ⟨_, hn⟩ (1 : Fin 2) * 1024 + 1024; omega

/-- The result array after the run. -/
theorem final (c : Dev nD) : (dats m 0 c).arrAt 2 cfg0.N = G m c :=
  (dats m 0 c).arrAt_eq_of_cover 2 _ (fun t _ => flushed m c t) covered

/-! The operands are the arguments. -/

def g0 (c : Dev nD) : Vec Ideal S4096x1024 .f32 := m (c, Proc.tc.devRef main_arg0)
def g1 (c : Dev nD) : Vec Ideal S1024x1024 .f32 := m (c, Proc.tc.devRef main_arg1)

theorem aA_eq (c : Dev nD) : aA m c = V m c main_arg0 := rfl

theorem aA_at (c : Dev nD) (a : Fin 4096) (b : Fin 1024) : aA m c (ix2 a b) = g0 m c (ix2 a b) := by
  rw [aA_eq]
  simp only [g0]
  unfold_abbrev_sides
  after_reads_at

theorem aB_eq (c : Dev nD) : aB m c = V m c main_v0 := rfl

theorem aB_at (c : Dev nD) (a : Fin 1024) (b : Fin 1024) : aB m c (ix2 a b) = g1 m c (ix2 a b) := by
  rw [aB_eq]
  simp only [g1]
  unfold_abbrev_sides
  after_reads_at

/-- The reference's result at an index. -/
theorem ref_at (y0 : Vec Ideal S4096x1024 .f32) (y1 : Vec Ideal S1024x1024 .f32) (i : Fin 4096) (x : Fin 1024) :
    Cert.BraReferenceIdeal.Read.val_main_v0 (F := Ideal) y0 y1 (ix2 i x) = ∑ k : Fin 1024, (y0 (ix2 i k) : EReal) * (y1 (ix2 k x) : EReal) := by
  unfold Cert.BraReferenceIdeal.Read.val_main_v0
  pointwise

/-- The reference's array is the kernel's. -/
theorem same_at (c : Dev nD) (i : Fin 4096) (x : Fin 1024) :
    Cert.BraReferenceIdeal.Read.val_main_v0 (F := Ideal) (g0 m c) (g1 m c) (ix2 i x) = G m c (ix2 i x : S4096x1024.Idx) := by
  refine (ref_at (g0 m c) (g1 m c) i x).trans ?_
  rw [G_at]
  unfold entry term
  simp only [aA_at, aB_at]

theorem same (c : Dev nD) : Cert.BraReferenceIdeal.Read.val_main_v0 (F := Ideal) (g0 m c) (g1 m c) = G m c := by
  funext j
  rw [eq_ix2 j]
  exact same_at m c (j 0) (j 1)

end Cert.BraIdeal.Prod
-- ==== Proof.Brb.lean ====
module

public import proofs.«01_k».proof.Proof.Gen.BrbIdeal.Value
public import proofs.«01_k».proof.Proof.Gen.BrbReferenceIdeal.Run
public import proofs.«01_k».proof.Proof.Gen.BrbReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the mixer: the scan branch, the product of its input and its weight.
The kernel adds it up in a scratch, block by block of the summed axis. -/

namespace Cert.BrbIdeal.Prod

open Cert.BrbIdeal Cert.BrbIdeal.Gen Idealize.ShloMosaic Idealize.ShloMosaic.TcCoe Cert.Sums

/-- The product of two blocks. -/
def prod (u : Vec Ideal S1024x1024 .bf16) (v : Vec Ideal S1024x1024 .bf16) : Vec Ideal S1024x1024 .f32 :=
  fun y => ∑ r : Fin 1024, (u (ix2 (y 0) r) : EReal) * (v (ix2 r (y 1)) : EReal)

theorem prod_at (u : Vec Ideal S1024x1024 .bf16) (v : Vec Ideal S1024x1024 .bf16) (a : Fin 1024) (x : Fin 1024) :
    prod u v (ix2 a x) = ∑ r : Fin 1024, (u (ix2 a r) : EReal) * (v (ix2 r x) : EReal) := rfl

theorem pay1_at (u : Vec Ideal S1024x1024 .bf16) (v : Vec Ideal S1024x1024 .bf16) (a : Fin 1024) (x : Fin 1024) :
    k0_pay1 u v (ix2 a x) = ∑ r : Fin 1024, (u (ix2 a r) : EReal) * (v (ix2 r x) : EReal) := by
  pointwise [k0_pay1]

theorem pay1_eq (u : Vec Ideal S1024x1024 .bf16) (v : Vec Ideal S1024x1024 .bf16) : k0_pay1 u v = prod u v := by
  funext y; rw [eq_ix2 y]; exact pay1_at u v (y 0) (y 1)

theorem pay2_eq (u : Vec Ideal S1024x1024 .bf16) (v : Vec Ideal S1024x1024 .bf16) : k0_pay2 u v = prod u v := by
  rw [← pay1_eq]; funext y; pointwise [k0_pay2]

theorem pay3_eq (u : Vec Ideal S1024x1024 .bf16) (v : Vec Ideal S1024x1024 .bf16) (s : Vec Ideal S1024x1024 .f32) :
    k0_pay3 u v s = fun y => (s y + prod u v y : EReal) := by
  rw [← pay1_eq]; funext y; pointwise [k0_pay3]

theorem sout0_A_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : cond0_0 i) (hc1 : ¬cond0_1 i) (hc2 : ¬cond0_2 i)
    (x0 : Vec Ideal S1024x1024 .bf16) (x1 : Vec Ideal S1024x1024 .bf16) :
    sout0_A_0 c i a3 ha3 a4 ha4 a5 ha5 a6 ha6 hc0 hc1 hc2 x0 x1 = prod x0 x1 := by
  unfold sout0_A_0
  rw [View.read_writes_eq_canon _ _ _ (scover0_A_0 c i a3 ha3 a4 ha4 a5 ha5 a6 ha6 hc0 hc1 hc2 x0 x1)]
  unfold kernelRun0_A
  dsimp only
  sl_unfold_words
  simp only [View.readAt_eq_ld, ha3.read_unread, ha4.read_unread, ha5.read_unread, ha6.read_unread, View.ld_unit_zero (S := S1024x1024) hz2]
  rw [View.canon_cons_unit_zero hz2]
  exact pay2_eq ..

theorem sout0_B_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : cond0_2 i)
    (x0 : Vec Ideal S1024x1024 .bf16) (x1 : Vec Ideal S1024x1024 .bf16) (xs0 : Vec Ideal S1024x1024 .f32) :
    sout0_B_0 c i a3 ha3 a4 ha4 a5 ha5 a6 ha6 hc0 hc1 hc2 x0 x1 xs0 = fun y => (xs0 y + prod x0 x1 y : EReal) := by
  unfold sout0_B_0
  rw [View.read_writes_eq_canon _ _ _ (scover0_B_0 c i a3 ha3 a4 ha4 a5 ha5 a6 ha6 hc0 hc1 hc2 x0 x1 xs0)]
  unfold kernelRun0_B
  dsimp only
  sl_unfold_words
  simp only [View.readAt_eq_ld, ha3.read_unread, ha4.read_unread, ha5.read_unread, ha6.read_unread, View.ld_unit_zero (S := S1024x1024) hz2]
  rw [View.canon_cons_unit_zero hz2]
  exact pay3_eq ..

theorem out0_B_2_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : cond0_2 i)
    (x0 : Vec Ideal S1024x1024 .bf16) (x1 : Vec Ideal S1024x1024 .bf16) (xs0 : Vec Ideal S1024x1024 .f32) :
    out0_B_2 c i a3 ha3 a4 ha4 a5 ha5 a6 ha6 hc0 hc1 hc2 x0 x1 xs0 = fun y => (xs0 y + prod x0 x1 y : EReal) := by
  unfold out0_B_2
  rw [View.read_writes_eq_canon _ _ _ (cover0_B_2 c i a3 ha3 a4 ha4 a5 ha5 a6 ha6 hc0 hc1 hc2 x0 x1 xs0)]
  unfold kernelRun0_B
  dsimp only
  sl_unfold_words
  simp only [View.readAt_eq_ld, ha3.read_unread, ha4.read_unread, ha5.read_unread, ha6.read_unread, View.ld_unit_zero (S := S1024x1024) hz2]
  rw [View.canon_cons_unit_zero hz2, View.readCov_unit_zero _ hz2]
  exact pay3_eq ..

/-! Which block each window reads at a grid point. -/

theorem tlt (t : Fin cfg0.N) : t.val < 8 := lt_of_lt_of_eq t.isLt (show cfg0.N = 8 from N_0)

/-- Block `b`'s rows of the result, its columns, and its part of the summed axis. -/
def rI (b : ℕ) (r : Fin 1024) : Fin 4096 := ⟨(1024 * b + r.val) % 4096, Nat.mod_lt _ (by decide)⟩
def cJ (b : ℕ) (r : Fin 1024) : Fin 1024 := ⟨(1024 * b + r.val) % 1024, Nat.mod_lt _ (by decide)⟩
def kB (b : ℕ) (r : Fin 1024) : Fin 2048 := ⟨(1024 * b + r.val) % 2048, Nat.mod_lt _ (by decide)⟩

variable (m : (ℓ : Loc nD τ sig) → Buf (Elt Ideal) ℓ)

/-- Operand 0, as the kernel's window names it. -/
def aA (c : Dev nD) : Vec Ideal S4096x2048 .bf16 := V m c (Pipeline.arrRef spec0 0)

theorem index0 : ∀ t : Fin cfg0.N, win0_0.index t (0 : Fin 2) = t.val / 2 ∧ win0_0.index t (1 : Fin 2) = t.val % 2 := by decide +kernel

theorem rd0 (A : S4096x2048.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (rI (t.val / 2) a) (kB (t.val % 2) b) : S4096x2048.Idx) := by
  have ht := tlt t
  have h0 : win0_0.index t 0 * 1024 + 1 * a.val = (1024 * (t.val / 2) + a.val) % 4096 := by rw [(index0 t).1]; omega
  have h1 : win0_0.index t 1 * 1024 + 1 * b.val = (1024 * (t.val % 2) + b.val) % 2048 := by rw [(index0 t).2]; omega
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .bf16) (ix2 a b) = aA m c (ix2 (rI (t.val / 2) a) (kB (t.val % 2) b)) :=
  (rd0 (aA m c) t (ix2 a b)).trans (congrArg (aA m c) (emb0 t a b))

/-- Operand 1, as the kernel's window names it. -/
def aB (c : Dev nD) : Vec Ideal S2048x1024 .bf16 := V m c (Pipeline.arrRef spec0 1)

theorem index1 : ∀ t : Fin cfg0.N, win0_1.index t (0 : Fin 2) = t.val % 2 ∧ win0_1.index t (1 : Fin 2) = t.val / 2 % 1 := by decide +kernel

theorem rd1 (A : S2048x1024.Idx → EReal) (t : Fin cfg0.N) (y : S1024x1024.Idx) :
    (((cfg0.win 1).blk t).view.read (Elt Ideal) A) y = A (((cfg0.win 1).blk t).view.emb y) := rfl

theorem emb1 (t : Fin cfg0.N) (a : Fin 1024) (b : Fin 1024) :
    ((cfg0.win 1).blk t).view.emb (ix2 a b : S1024x1024.Idx) = (ix2 (kB (t.val % 2) a) (cJ (t.val / 2 % 1) b) : S2048x1024.Idx) := by
  have ht := tlt t
  have h0 : win0_1.index t 0 * 1024 + 1 * a.val = (1024 * (t.val % 2) + a.val) % 2048 := by rw [(index1 t).1]; omega
  have h1 : win0_1.index t 1 * 1024 + 1 * b.val = (1024 * (t.val / 2 % 1) + b.val) % 1024 := by rw [(index1 t).2]; omega
  funext x; apply Fin.ext
  match x with
  | ⟨0, _⟩ => exact h0
  | ⟨1, _⟩ => exact h1

theorem blk1 (c : Dev nD) (t : Fin cfg0.N) (a : Fin 1024) (b : Fin 1024) :
    (iblk m c 1 t : Vec Ideal S1024x1024 .bf16) (ix2 a b) = aB m c (ix2 (kB (t.val % 2) a) (cJ (t.val / 2 % 1) b)) :=
  (rd1 (aB m c) t (ix2 a b)).trans (congrArg (aB m c) (emb1 t a b))

/-- One term of the product of the whole operands. -/
def term (c : Dev nD) (i : Fin 4096) (x : Fin 1024) (k : Fin 2048) : EReal := aA m c (ix2 i k) * aB m c (ix2 k x)

/-- Block `b`'s part of an entry. -/
def part (c : Dev nD) (i : Fin 4096) (x : Fin 1024) (b : ℕ) : EReal := ∑ r : Fin 1024, term m c i x (kB b r)

theorem prod_blk (c : Dev nD) (t : Fin cfg0.N) (a : Fin 1024) (x : Fin 1024) :
    prod (iblk m c 0 t) (iblk m c 1 t) (ix2 a x) = part m c (rI (t.val / 2) a) (cJ (t.val / 2 % 1) x) (t.val % 2) := by
  rw [prod_at]
  unfold part term
  simp only [blk0, blk1]

theorem snd_eq {A B : Type} {p : A × B} {a : A} {b b' : B} (h : p = (a, b)) (hb : b = b') : p.2 = b' := by
  subst h; exact hb
theorem fst_eq {A B : Type} {p : A × B} {a a' : A} {b : B} (h : p = (a, b)) (ha : a = a') : p.1 = a' := by
  subst h; exact ha

theorem first (c : Dev nD) (t : Fin cfg0.N) (h : t.val % 2 = 0) :
    (outsAt0 m c t.val t.isLt).2 = prod (iblk m c 0 t) (iblk m c 1 t) :=
  snd_eq (outsAt0_A m c t h (by omega) (by omega)) (sout0_A_0_eq ..)

theorem later (c : Dev nD) (t : Fin cfg0.N) (h : ¬t.val % 2 = 0) (k : ℕ) (hk : k < cfg0.N) (ek : t.val - 1 = k) :
    (outsAt0 m c t.val t.isLt).2 = fun y => ((outsAt0 m c k hk).2 y + prod (iblk m c 0 t) (iblk m c 1 t) y : EReal) := by
  subst ek
  exact snd_eq (outsAt0_B m c t h (by omega) (by omega)) (sout0_B_0_eq ..)

/-- The scratch holds the blocks so far. -/
theorem state (c : Dev nD) : ∀ (n : ℕ) (hn : n < cfg0.N) (a : Fin 1024) (x : Fin 1024),
    (outsAt0 m c n hn).2 (ix2 a x) = ∑ b ∈ Finset.range (n % 2 + 1), part m c (rI (n / 2) a) (cJ (n / 2 % 1) x) b := by
  intro n
  induction n with
  | zero =>
    intro hn a x
    refine (congrFun (first m c ⟨0, hn⟩ (Nat.zero_mod _)) _).trans ((prod_blk m c ⟨0, hn⟩ a x).trans ?_)
    simp
  | succ n ih =>
    intro hn a x
    by_cases h : (n + 1) % 2 = 0
    · refine (congrFun (first m c ⟨n + 1, hn⟩ h) _).trans ((prod_blk m c ⟨n + 1, hn⟩ a x).trans ?_)
      simp [h]
    · have e1 : (n + 1) / 2 = n / 2 := by omega
      have e2 : (n + 1) / 2 % 1 = n / 2 % 1 := by omega
      have e3 : (n + 1) % 2 = n % 2 + 1 := by omega
      refine (congrFun (later m c ⟨n + 1, hn⟩ h n (Nat.lt_of_succ_lt hn) rfl) _).trans ?_
      rw [e1, e3, Finset.sum_range_succ _ (n % 2 + 1)]
      refine congrArg₂ (fun a b : EReal => a + b) (ih (Nat.lt_of_succ_lt hn) a x) ((prod_blk m c ⟨n + 1, hn⟩ a x).trans ?_)
      show part m c (rI ((n + 1) / 2) a) (cJ ((n + 1) / 2 % 1) x) ((n + 1) % 2) = _
      rw [e1, e3]

/-- What the last block of an entry leaves in the result. -/
theorem last (c : Dev nD) (t : Fin cfg0.N) (h2 : t.val % 2 = 1) (a : Fin 1024) (x : Fin 1024) :
    (outsAt0 m c t.val t.isLt).1 (ix2 a x)
      = (∑ b ∈ Finset.range 2, part m c (rI (t.val / 2) a) (cJ (t.val / 2 % 1) x) b) := by
  have h : ¬t.val % 2 = 0 := by omega
  have hk : t.val - 1 < cfg0.N := Nat.lt_of_le_of_lt (Nat.sub_le _ _) t.isLt
  have s := state m c t.val t.isLt a x
  rw [h2] at s
  have s' := congrFun (snd_eq (outsAt0_B m c t h (by omega) h2) (sout0_B_0_eq ..)) (ix2 a x)
  refine (congrFun (fst_eq (outsAt0_B m c t h (by omega) h2) (out0_B_2_eq ..)) (ix2 a x)).trans ?_
  rw [← s, s']

open Cert.BrbIdeal.Value

/-- The result array at every index. -/
theorem out (c : Dev nD) (i : Fin 4096) (x : Fin 1024) :
    G2 m c (ix2 i x) = (∑ k : Fin 2048, term m c i x k) := by
  have hp : pt2Of (ix2 i x) = 2 * (1 * (i.val / 1024) + x.val / 1024) + 1 := by
    show 2 * (1 * (i.val / 1024 - 0) + 1 * (x.val / 1024 - 0)) + 1 = _; omega
  have hn : pt2Of (ix2 i x) < cfg0.N := by rw [hp, show cfg0.N = 8 from N_0]; omega
  have hl : loc2Of (ix2 i x) = ix2 (⟨i.val % 1024, Nat.mod_lt _ (by decide)⟩ : Fin 1024) (⟨x.val % 1024, Nat.mod_lt _ (by decide)⟩ : Fin 1024) := by
    funext a; apply Fin.ext
    match a with
    | ⟨0, _⟩ => rfl
    | ⟨1, _⟩ => rfl
  have hs := last m c ⟨pt2Of (ix2 i x), hn⟩ (by show pt2Of (ix2 i x) % 2 = 1; omega) (⟨i.val % 1024, Nat.mod_lt _ (by decide)⟩ : Fin 1024) (⟨x.val % 1024, Nat.mod_lt _ (by decide)⟩ : Fin 1024)
  have ei : rI (pt2Of (ix2 i x) / 2) (⟨i.val % 1024, Nat.mod_lt _ (by decide)⟩ : Fin 1024) = i :=
    Fin.ext (show (1024 * (pt2Of (ix2 i x) / 2) + i.val % 1024) % 4096 = i.val by omega)
  have ex : cJ (pt2Of (ix2 i x) / 2 % 1) (⟨x.val % 1024, Nat.mod_lt _ (by decide)⟩ : Fin 1024) = x :=
    Fin.ext (show (1024 * (pt2Of (ix2 i x) / 2 % 1) + x.val % 1024) % 1024 = x.val by omega)
  dsimp only at hs
  rw [ei, ex, outsAt0_sweep m c _ hn, ← hl] at hs
  unfold G2
  rw [dif_pos hn]
  refine hs.trans ?_
  unfold part
  rw [show ∑ b ∈ Finset.range 2, ∑ r : Fin 1024, term m c i x (kB b r) = ∑ k : Fin 2048, term m c i x k from
    sum_blocks 2 1024 2048 (by decide) (by decide) (fun k => term m c i x k)]

/-! The operands are the arguments. -/

def g0 (c : Dev nD) : Vec Ideal S4096x2048 .f32 := m (c, Proc.tc.devRef main_arg0)
def g1 (c : Dev nD) : Vec Ideal S2048x1024 .f32 := m (c, Proc.tc.devRef main_arg1)

theorem aA_eq (c : Dev nD) : aA m c = V m c main_v0 := rfl

theorem aA_at (c : Dev nD) (a : Fin 4096) (b : Fin 2048) : aA m c (ix2 a b) = g0 m c (ix2 a b) := by
  rw [aA_eq]
  simp only [g0]
  unfold_abbrev_sides
  after_reads_at

theorem aB_eq (c : Dev nD) : aB m c = V m c main_v1 := rfl

theorem aB_at (c : Dev nD) (a : Fin 2048) (b : Fin 1024) : aB m c (ix2 a b) = g1 m c (ix2 a b) := by
  rw [aB_eq]
  simp only [g1]
  unfold_abbrev_sides
  after_reads_at

/-- The reference's result at an index. -/
theorem ref_at (y0 : Vec Ideal S4096x2048 .f32) (y1 : Vec Ideal S2048x1024 .f32) (i : Fin 4096) (x : Fin 1024) :
    Cert.BrbReferenceIdeal.Read.val_main_v0 (F := Ideal) y0 y1 (ix2 i x) = ∑ k : Fin 2048, (y0 (ix2 i k) : EReal) * (y1 (ix2 k x) : EReal) := by
  unfold Cert.BrbReferenceIdeal.Read.val_main_v0
  pointwise

/-- What the kernel leaves is what the reference gives. -/
theorem terms_eq (c : Dev nD) (i : Fin 4096) (x : Fin 1024) :
    (((∑ k : Fin 2048, term m c i x k) : EReal)) = ∑ k : Fin 2048, (g0 m c (ix2 i k) : EReal) * (g1 m c (ix2 k x) : EReal) := by
  unfold term
  simp only [aA_at, aB_at]

theorem same_at (c : Dev nD) (i : Fin 4096) (x : Fin 1024) :
    Cert.BrbReferenceIdeal.Read.val_main_v0 (F := Ideal) (g0 m c) (g1 m c) (ix2 i x) = G2 m c (ix2 i x : S4096x1024.Idx) :=
  (ref_at (g0 m c) (g1 m c) i x).trans ((out m c i x).trans (terms_eq m c i x)).symm

theorem same (c : Dev nD) : Cert.BrbReferenceIdeal.Read.val_main_v0 (F := Ideal) (g0 m c) (g1 m c) = G2 m c := by
  funext j
  rw [eq_ix2 j]
  exact same_at m c (j 0) (j 1)

end Cert.BrbIdeal.Prod
-- ==== Proof.Mix.lean ====
module

public import proofs.«01_k».proof.Proof.Gen.MixIdeal.Value
public import proofs.«01_k».proof.Proof.Gen.MixReferenceIdeal.Run
public import proofs.«01_k».proof.Proof.Gen.MixReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the mixer: its output, added to the residual.
The kernel forms each block of the result at one grid point. -/

namespace Cert.MixIdeal.Prod

open Cert.MixIdeal Cert.MixIdeal.Gen Idealize.ShloMosaic Idealize.ShloMosaic.TcCoe Cert.Sums Idealize.SL.Sem

theorem pay1_at (u : Vec Ideal S1024x1024 .bf16) (v : Vec Ideal S1024x1024 .bf16) (z : Vec Ideal S1024x1024 .f32) (a : Fin 1024) (x : Fin 1024) :
    k0_pay1 u v z (ix2 a x) = (∑ r : Fin 1024, (u (ix2 a r) : EReal) * (v (ix2 r x) : EReal)) + z (ix2 a x) := by
  pointwise [k0_pay1]

theorem out_eq (u : Vec Ideal S1024x1024 .bf16) (v : Vec Ideal S1024x1024 .bf16) (z : Vec Ideal S1024x1024 .f32) : out0_3 u v z = k0_pay1 u v z := by
  unfold out0_3
  rw [View.canon_cons_unit_zero hz2, View.ld_unit_zero (S := S1024x1024) hz2, View.ld_unit_zero (S := S1024x1024) hz2, View.ld_unit_zero (S := S1024x1024) hz2]

/-! Which block each window reads at a grid point. -/

theorem tlt (t : Fin cfg0.N) : t.val < 4 := lt_of_lt_of_eq t.isLt (show cfg0.N = 4 from N_0)

/-- Block `b`'s rows of the result and its columns. -/
def rI (b : ℕ) (r : Fin 1024) : Fin 4096 := ⟨(1024 * b + r.val) % 4096, Nat.mod_lt _ (by decide)⟩
def cJ (b : ℕ) (r : Fin 1024) : Fin 1024 := ⟨(1024 * b + r.val) % 1024, Nat.mod_lt _ (by decide)⟩

variable (m : (ℓ : Loc nD τ sig) → Buf (Elt Ideal) ℓ)

/-- Operand 0, as the kernel's window names it. -/
def aA (c : Dev nD) : Vec Ideal S4096x1024 .bf16 := V m c (Pipeline.arrRef spec0 0)

theorem index0 : ∀ t : Fin cfg0.N, win0_0.index t (0 : Fin 2) = t.val / 1 ∧ win0_0.index t (1 : Fin 2) = 0 := by decide +kernel

theorem rd0 (A : S4096x1024.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (rI (t.val / 1) a) b : S4096x1024.Idx) := by
  have ht := tlt t
  have h0 : win0_0.index t 0 * 1024 + 1 * a.val = (1024 * (t.val / 1) + a.val) % 4096 := by rw [(index0 t).1]; omega
  have h1 : win0_0.index t 1 * 1024 + 1 * b.val = b.val := by rw [(index0 t).2, Nat.zero_mul, Nat.zero_add, Nat.one_mul]
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .bf16) (ix2 a b) = aA m c (ix2 (rI (t.val / 1) a) b) :=
  (rd0 (aA m c) t (ix2 a b)).trans (congrArg (aA m c) (emb0 t a b))

/-- Operand 1, as the kernel's window names it. -/
def aB (c : Dev nD) : Vec Ideal S1024x1024 .bf16 := V m c (Pipeline.arrRef spec0 1)

theorem index1 : ∀ t : Fin cfg0.N, win0_1.index t (0 : Fin 2) = 0 ∧ win0_1.index t (1 : Fin 2) = t.val % 1 := by decide +kernel

theorem rd1 (A : S1024x1024.Idx → EReal) (t : Fin cfg0.N) (y : S1024x1024.Idx) :
    (((cfg0.win 1).blk t).view.read (Elt Ideal) A) y = A (((cfg0.win 1).blk t).view.emb y) := rfl

theorem emb1 (t : Fin cfg0.N) (a : Fin 1024) (b : Fin 1024) :
    ((cfg0.win 1).blk t).view.emb (ix2 a b : S1024x1024.Idx) = (ix2 a (cJ (t.val % 1) b) : S1024x1024.Idx) := by
  have ht := tlt t
  have h0 : win0_1.index t 0 * 1024 + 1 * a.val = a.val := by rw [(index1 t).1, Nat.zero_mul, Nat.zero_add, Nat.one_mul]
  have h1 : win0_1.index t 1 * 1024 + 1 * b.val = (1024 * (t.val % 1) + b.val) % 1024 := by rw [(index1 t).2]; omega
  funext x; apply Fin.ext
  match x with
  | ⟨0, _⟩ => exact h0
  | ⟨1, _⟩ => exact h1

theorem blk1 (c : Dev nD) (t : Fin cfg0.N) (a : Fin 1024) (b : Fin 1024) :
    (iblk m c 1 t : Vec Ideal S1024x1024 .bf16) (ix2 a b) = aB m c (ix2 a (cJ (t.val % 1) b)) :=
  (rd1 (aB m c) t (ix2 a b)).trans (congrArg (aB m c) (emb1 t a b))

/-- Operand 2, as the kernel's window names it. -/
def aR (c : Dev nD) : Vec Ideal S4096x1024 .f32 := V m c (Pipeline.arrRef spec0 2)

theorem index2 : ∀ t : Fin cfg0.N, win0_2.index t (0 : Fin 2) = t.val / 1 ∧ win0_2.index t (1 : Fin 2) = t.val % 1 := by decide +kernel

theorem rd2 (A : S4096x1024.Idx → EReal) (t : Fin cfg0.N) (y : S1024x1024.Idx) :
    (((cfg0.win 2).blk t).view.read (Elt Ideal) A) y = A (((cfg0.win 2).blk t).view.emb y) := rfl

theorem emb2 (t : Fin cfg0.N) (a : Fin 1024) (b : Fin 1024) :
    ((cfg0.win 2).blk t).view.emb (ix2 a b : S1024x1024.Idx) = (ix2 (rI (t.val / 1) a) (cJ (t.val % 1) b) : S4096x1024.Idx) := by
  have ht := tlt t
  have h0 : win0_2.index t 0 * 1024 + 1 * a.val = (1024 * (t.val / 1) + a.val) % 4096 := by rw [(index2 t).1]; omega
  have h1 : win0_2.index t 1 * 1024 + 1 * b.val = (1024 * (t.val % 1) + b.val) % 1024 := by rw [(index2 t).2]; omega
  funext x; apply Fin.ext
  match x with
  | ⟨0, _⟩ => exact h0
  | ⟨1, _⟩ => exact h1

theorem blk2 (c : Dev nD) (t : Fin cfg0.N) (a : Fin 1024) (b : Fin 1024) :
    (iblk m c 2 t : Vec Ideal S1024x1024 .f32) (ix2 a b) = aR m c (ix2 (rI (t.val / 1) a) (cJ (t.val % 1) b)) :=
  (rd2 (aR m c) t (ix2 a b)).trans (congrArg (aR m c) (emb2 t a b))

theorem index3 : ∀ t : Fin cfg0.N, win0_3.index t (0 : Fin 2) = t.val / 1 ∧ win0_3.index t (1 : Fin 2) = t.val % 1 := by decide +kernel

theorem rd3 (A : S4096x1024.Idx → EReal) (t : Fin cfg0.N) (y : S1024x1024.Idx) :
    (((cfg0.win 3).blk t).view.read (Elt Ideal) A) y = A (((cfg0.win 3).blk t).view.emb y) := rfl

theorem emb3 (t : Fin cfg0.N) (a : Fin 1024) (b : Fin 1024) :
    ((cfg0.win 3).blk t).view.emb (ix2 a b : S1024x1024.Idx) = (ix2 (rI (t.val / 1) a) (cJ (t.val % 1) b) : S4096x1024.Idx) := by
  have ht := tlt t
  have h0 : win0_3.index t 0 * 1024 + 1 * a.val = (1024 * (t.val / 1) + a.val) % 4096 := by rw [(index3 t).1]; omega
  have h1 : win0_3.index t 1 * 1024 + 1 * b.val = (1024 * (t.val % 1) + b.val) % 1024 := by rw [(index3 t).2]; omega
  funext x; apply Fin.ext
  match x with
  | ⟨0, _⟩ => exact h0
  | ⟨1, _⟩ => exact h1

/-- One term of the product of the whole operands. -/
def term (c : Dev nD) (i : Fin 4096) (x : Fin 1024) (k : Fin 1024) : EReal := aA m c (ix2 i k) * aB m c (ix2 k x)

/-- An entry of the result, and the result. -/
def entry (c : Dev nD) (i : Fin 4096) (x : Fin 1024) : EReal := (∑ k : Fin 1024, term m c i x k) + aR m c (ix2 i x)
def G (c : Dev nD) : Buf (Elt Ideal) ((c : Thread nD τ).loc main_v2) := fun i : S4096x1024.Idx => entry m c (i 0) (i 1)

theorem G_at (c : Dev nD) (i : Fin 4096) (x : Fin 1024) : G m c (ix2 i x : S4096x1024.Idx) = entry m c i x := rfl

theorem out_blk (c : Dev nD) (t : Fin cfg0.N) (a : Fin 1024) (x : Fin 1024) :
    out0_3 (iblk m c 0 t) (iblk m c 1 t) (iblk m c 2 t) (ix2 a x) = entry m c (rI (t.val / 1) a) (cJ (t.val % 1) x) := by
  rw [out_eq]
  refine (pay1_at _ _ _ a x).trans ?_
  unfold entry term
  simp only [blk0, blk1, blk2]

/-- What a grid point writes back is its block of the result. -/
theorem flushed (c : Dev nD) (t : Fin cfg0.N) :
    (dats m 0 c).flushed 3 t = ((cfg0.win 3).blk t).view.read (Elt Ideal) (G m c) := by
  rw [Value.flushed3]
  funext y
  have hx : (cfg0.win 3).xinj (grid0.coords t) y = (ix2 (⟨(y 0).val, (y 0).isLt⟩ : Fin 1024) (⟨(y 1).val, (y 1).isLt⟩ : Fin 1024) : S1024x1024.Idx) := by
    funext a; apply Fin.ext
    match a with
    | ⟨0, _⟩ => rfl
    | ⟨1, _⟩ => rfl
  have hy : ((cfg0.win 3).blk t).view.emb y = (ix2 (rI (t.val / 1) (⟨(y 0).val, (y 0).isLt⟩ : Fin 1024)) (cJ (t.val % 1) (⟨(y 1).val, (y 1).isLt⟩ : Fin 1024)) : S4096x1024.Idx) :=
    (congrArg _ hx).trans (emb3 t _ _)
  show out0_3 (iblk m c 0 t) (iblk m c 1 t) (iblk m c 2 t) ((cfg0.win 3).xinj (grid0.coords t) y) = G m c (((cfg0.win 3).blk t).view.emb y)
  rw [hx]
  exact (out_blk m c t _ _).trans (congrArg (G m c) hy).symm

/-- Every index is in the block that some point writes back. -/
theorem covered (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  have hn : 1 * ((i 0).val / 1024) + (i 1).val / 1024 < cfg0.N := by rw [show cfg0.N = 4 from N_0]; omega
  refine ⟨⟨_, hn⟩, flush0_3 _, ?_⟩
  obtain ⟨q0, q1⟩ := index3 ⟨_, hn⟩
  dsimp only at q0 q1
  show i ∈ ((View.whole main_v2).slice (win0_3.rect ⟨_, hn⟩)).set
  rw [View.set_slice_whole, Rect.mem_set_unit]
  intro a
  match a with
  | ⟨0, _⟩ => show win0_3.index ⟨_, hn⟩ (0 : Fin 2) * 1024 ≤ (i 0).val ∧ (i 0).val < win0_3.index ⟨_, hn⟩ (0 : Fin 2) * 1024 + 1024; omega
  | ⟨1, _⟩ => show win0_3.index ⟨_, hn⟩ (1 : Fin 2) * 1024 ≤ (i 1).val ∧ (i 1).val < win0_3.index ⟨_, hn⟩ (1 : Fin 2) * 1024 + 1024; omega

/-- The result array after the run. -/
theorem final (c : Dev nD) : (dats m 0 c).arrAt 3 cfg0.N = G m c :=
  (dats m 0 c).arrAt_eq_of_cover 3 _ (fun t _ => flushed m c t) covered

/-! The operands are the arguments. -/

def g0 (c : Dev nD) : Vec Ideal S4096x1024 .f32 := m (c, Proc.tc.devRef main_arg0)
def g1 (c : Dev nD) : Vec Ideal S1024x1024 .f32 := m (c, Proc.tc.devRef main_arg1)
def g2 (c : Dev nD) : Vec Ideal S4096x1024 .f32 := m (c, Proc.tc.devRef main_arg2)

theorem aA_eq (c : Dev nD) : aA m c = V m c main_v0 := rfl

theorem aA_at (c : Dev nD) (a : Fin 4096) (b : Fin 1024) : aA m c (ix2 a b) = g0 m c (ix2 a b) := by
  rw [aA_eq]
  simp only [g0]
  unfold_abbrev_sides
  after_reads_at

theorem aB_eq (c : Dev nD) : aB m c = V m c main_v1 := rfl

theorem aB_at (c : Dev nD) (a : Fin 1024) (b : Fin 1024) : aB m c (ix2 a b) = g1 m c (ix2 a b) := by
  rw [aB_eq]
  simp only [g1]
  unfold_abbrev_sides
  after_reads_at

theorem aR_eq (c : Dev nD) : aR m c = V m c main_arg2 := rfl

theorem aR_at (c : Dev nD) (a : Fin 4096) (b : Fin 1024) : aR m c (ix2 a b) = g2 m c (ix2 a b) := by
  rw [aR_eq]
  simp only [g2]
  unfold_abbrev_sides
  after_reads_at

/-- The reference's result at an index. -/
theorem ref_at (y0 : Vec Ideal S4096x1024 .f32) (y1 : Vec Ideal S1024x1024 .f32) (y2 : Vec Ideal S4096x1024 .f32) (i : Fin 4096) (x : Fin 1024) :
    Cert.MixReferenceIdeal.Read.val_main_v1 (F := Ideal) y0 y1 y2 (ix2 i x) = (y2 (ix2 i x) : EReal) + ∑ k : Fin 1024, (y0 (ix2 i k) : EReal) * (y1 (ix2 k x) : EReal) := by
  unfold Cert.MixReferenceIdeal.Read.val_main_v1 Cert.MixReferenceIdeal.Read.val_main_v0
  pointwise

/-- The reference's array is the kernel's. -/
theorem same_at (c : Dev nD) (i : Fin 4096) (x : Fin 1024) :
    Cert.MixReferenceIdeal.Read.val_main_v1 (F := Ideal) (g0 m c) (g1 m c) (g2 m c) (ix2 i x) = G m c (ix2 i x : S4096x1024.Idx) := by
  refine (ref_at (g0 m c) (g1 m c) (g2 m c) i x).trans ?_
  rw [G_at]
  unfold entry term
  simp only [aA_at, aB_at, aR_at]
  exact add2 _ _
theorem same (c : Dev nD) : Cert.MixReferenceIdeal.Read.val_main_v1 (F := Ideal) (g0 m c) (g1 m c) (g2 m c) = G m c := by
  funext j
  rw [eq_ix2 j]
  exact same_at m c (j 0) (j 1)

end Cert.MixIdeal.Prod
-- ==== Proof.Dmg.lean ====
module

public import proofs.«01_k».proof.Proof.Gen.DmgIdeal.Value
public import proofs.«01_k».proof.Proof.Gen.DmgReferenceIdeal.Run
public import proofs.«01_k».proof.Proof.Gen.DmgReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the mixer: the gradient of its input, the product of the cotangent and the transposed weight.
The kernel forms each block of the result at one grid point. -/

namespace Cert.DmgIdeal.Prod

open Cert.DmgIdeal Cert.DmgIdeal.Gen Idealize.ShloMosaic Idealize.ShloMosaic.TcCoe Cert.Sums Idealize.SL.Sem

theorem pay1_at (u : Vec Ideal S1024x1024 .f32) (v : Vec Ideal S1024x1024 .bf16) (a : Fin 1024) (x : Fin 1024) :
    k0_pay1 u v (ix2 a x) = (∑ r : Fin 1024, (u (ix2 a r) : EReal) * (v (ix2 x r) : EReal)) := by
  pointwise [k0_pay1]

theorem out_eq (u : Vec Ideal S1024x1024 .f32) (v : Vec Ideal S1024x1024 .bf16) : out0_2 u v = k0_pay1 u v := by
  unfold out0_2
  rw [View.canon_cons_unit_zero hz2, View.ld_unit_zero (S := S1024x1024) hz2, View.ld_unit_zero (S := S1024x1024) hz2]

/-! Which block each window reads at a grid point. -/

theorem tlt (t : Fin cfg0.N) : t.val < 4 := lt_of_lt_of_eq t.isLt (show cfg0.N = 4 from N_0)

/-- Block `b`'s rows of the result and its columns. -/
def rI (b : ℕ) (r : Fin 1024) : Fin 4096 := ⟨(1024 * b + r.val) % 4096, Nat.mod_lt _ (by decide)⟩
def cJ (b : ℕ) (r : Fin 1024) : Fin 1024 := ⟨(1024 * b + r.val) % 1024, Nat.mod_lt _ (by decide)⟩

variable (m : (ℓ : Loc nD τ sig) → Buf (Elt Ideal) ℓ)

/-- Operand 0, as the kernel's window names it. -/
def aA (c : Dev nD) : Vec Ideal S4096x1024 .f32 := V m c (Pipeline.arrRef spec0 0)

theorem index0 : ∀ t : Fin cfg0.N, win0_0.index t (0 : Fin 2) = t.val / 1 ∧ win0_0.index t (1 : Fin 2) = 0 := by decide +kernel

theorem rd0 (A : S4096x1024.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (rI (t.val / 1) a) b : S4096x1024.Idx) := by
  have ht := tlt t
  have h0 : win0_0.index t 0 * 1024 + 1 * a.val = (1024 * (t.val / 1) + a.val) % 4096 := by rw [(index0 t).1]; omega
  have h1 : win0_0.index t 1 * 1024 + 1 * b.val = b.val := by rw [(index0 t).2, Nat.zero_mul, Nat.zero_add, Nat.one_mul]
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .f32) (ix2 a b) = aA m c (ix2 (rI (t.val / 1) a) b) :=
  (rd0 (aA m c) t (ix2 a b)).trans (congrArg (aA m c) (emb0 t a b))

/-- Operand 1, as the kernel's window names it. -/
def aB (c : Dev nD) : Vec Ideal S1024x1024 .bf16 := V m c (Pipeline.arrRef spec0 1)

theorem index1 : ∀ t : Fin cfg0.N, win0_1.index t (0 : Fin 2) = t.val % 1 ∧ win0_1.index t (1 : Fin 2) = 0 := by decide +kernel

theorem rd1 (A : S1024x1024.Idx → EReal) (t : Fin cfg0.N) (y : S1024x1024.Idx) :
    (((cfg0.win 1).blk t).view.read (Elt Ideal) A) y = A (((cfg0.win 1).blk t).view.emb y) := rfl

theorem emb1 (t : Fin cfg0.N) (a : Fin 1024) (b : Fin 1024) :
    ((cfg0.win 1).blk t).view.emb (ix2 a b : S1024x1024.Idx) = (ix2 (cJ (t.val % 1) a) b : S1024x1024.Idx) := by
  have ht := tlt t
  have h0 : win0_1.index t 0 * 1024 + 1 * a.val = (1024 * (t.val % 1) + a.val) % 1024 := by rw [(index1 t).1]; omega
  have h1 : win0_1.index t 1 * 1024 + 1 * b.val = b.val := by rw [(index1 t).2, Nat.zero_mul, Nat.zero_add, Nat.one_mul]
  funext x; apply Fin.ext
  match x with
  | ⟨0, _⟩ => exact h0
  | ⟨1, _⟩ => exact h1

theorem blk1 (c : Dev nD) (t : Fin cfg0.N) (a : Fin 1024) (b : Fin 1024) :
    (iblk m c 1 t : Vec Ideal S1024x1024 .bf16) (ix2 a b) = aB m c (ix2 (cJ (t.val % 1) a) b) :=
  (rd1 (aB m c) t (ix2 a b)).trans (congrArg (aB m c) (emb1 t a b))

theorem index2 : ∀ t : Fin cfg0.N, win0_2.index t (0 : Fin 2) = t.val / 1 ∧ win0_2.index t (1 : Fin 2) = t.val % 1 := by decide +kernel

theorem rd2 (A : S4096x1024.Idx → EReal) (t : Fin cfg0.N) (y : S1024x1024.Idx) :
    (((cfg0.win 2).blk t).view.read (Elt Ideal) A) y = A (((cfg0.win 2).blk t).view.emb y) := rfl

theorem emb2 (t : Fin cfg0.N) (a : Fin 1024) (b : Fin 1024) :
    ((cfg0.win 2).blk t).view.emb (ix2 a b : S1024x1024.Idx) = (ix2 (rI (t.val / 1) a) (cJ (t.val % 1) b) : S4096x1024.Idx) := by
  have ht := tlt t
  have h0 : win0_2.index t 0 * 1024 + 1 * a.val = (1024 * (t.val / 1) + a.val) % 4096 := by rw [(index2 t).1]; omega
  have h1 : win0_2.index t 1 * 1024 + 1 * b.val = (1024 * (t.val % 1) + b.val) % 1024 := by rw [(index2 t).2]; omega
  funext x; apply Fin.ext
  match x with
  | ⟨0, _⟩ => exact h0
  | ⟨1, _⟩ => exact h1

/-- One term of the product of the whole operands. -/
def term (c : Dev nD) (i : Fin 4096) (x : Fin 1024) (k : Fin 1024) : EReal := aA m c (ix2 i k) * aB m c (ix2 x k)

/-- An entry of the result, and the result. -/
def entry (c : Dev nD) (i : Fin 4096) (x : Fin 1024) : EReal := (∑ k : Fin 1024, term m c i x k)
def G (c : Dev nD) : Buf (Elt Ideal) ((c : Thread nD τ).loc main_v1) := fun i : S4096x1024.Idx => entry m c (i 0) (i 1)

theorem G_at (c : Dev nD) (i : Fin 4096) (x : Fin 1024) : G m c (ix2 i x : S4096x1024.Idx) = entry m c i x := rfl

theorem out_blk (c : Dev nD) (t : Fin cfg0.N) (a : Fin 1024) (x : Fin 1024) :
    out0_2 (iblk m c 0 t) (iblk m c 1 t) (ix2 a x) = entry m c (rI (t.val / 1) a) (cJ (t.val % 1) x) := by
  rw [out_eq]
  refine (pay1_at _ _ a x).trans ?_
  unfold entry term
  simp only [blk0, blk1]

/-- What a grid point writes back is its block of the result. -/
theorem flushed (c : Dev nD) (t : Fin cfg0.N) :
    (dats m 0 c).flushed 2 t = ((cfg0.win 2).blk t).view.read (Elt Ideal) (G m c) := by
  rw [Value.flushed2]
  funext y
  have hx : (cfg0.win 2).xinj (grid0.coords t) y = (ix2 (⟨(y 0).val, (y 0).isLt⟩ : Fin 1024) (⟨(y 1).val, (y 1).isLt⟩ : Fin 1024) : S1024x1024.Idx) := by
    funext a; apply Fin.ext
    match a with
    | ⟨0, _⟩ => rfl
    | ⟨1, _⟩ => rfl
  have hy : ((cfg0.win 2).blk t).view.emb y = (ix2 (rI (t.val / 1) (⟨(y 0).val, (y 0).isLt⟩ : Fin 1024)) (cJ (t.val % 1) (⟨(y 1).val, (y 1).isLt⟩ : Fin 1024)) : S4096x1024.Idx) :=
    (congrArg _ hx).trans (emb2 t _ _)
  show out0_2 (iblk m c 0 t) (iblk m c 1 t) ((cfg0.win 2).xinj (grid0.coords t) y) = G m c (((cfg0.win 2).blk t).view.emb y)
  rw [hx]
  exact (out_blk m c t _ _).trans (congrArg (G m c) hy).symm

/-- Every index is in the block that some point writes back. -/
theorem covered (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  have hn : 1 * ((i 0).val / 1024) + (i 1).val / 1024 < cfg0.N := by rw [show cfg0.N = 4 from N_0]; omega
  refine ⟨⟨_, hn⟩, flush0_2 _, ?_⟩
  obtain ⟨q0, q1⟩ := index2 ⟨_, hn⟩
  dsimp only at q0 q1
  show i ∈ ((View.whole main_v1).slice (win0_2.rect ⟨_, hn⟩)).set
  rw [View.set_slice_whole, Rect.mem_set_unit]
  intro a
  match a with
  | ⟨0, _⟩ => show win0_2.index ⟨_, hn⟩ (0 : Fin 2) * 1024 ≤ (i 0).val ∧ (i 0).val < win0_2.index ⟨_, hn⟩ (0 : Fin 2) * 1024 + 1024; omega
  | ⟨1, _⟩ => show win0_2.index ⟨_, hn⟩ (1 : Fin 2) * 1024 ≤ (i 1).val ∧ (i 1).val < win0_2.index ⟨_, hn⟩ (1 : Fin 2) * 1024 + 1024; omega

/-- The result array after the run. -/
theorem final (c : Dev nD) : (dats m 0 c).arrAt 2 cfg0.N = G m c :=
  (dats m 0 c).arrAt_eq_of_cover 2 _ (fun t _ => flushed m c t) covered

/-! The operands are the arguments. -/

def g0 (c : Dev nD) : Vec Ideal S4096x1024 .f32 := m (c, Proc.tc.devRef main_arg0)
def g1 (c : Dev nD) : Vec Ideal S1024x1024 .f32 := m (c, Proc.tc.devRef main_arg1)

theorem aA_eq (c : Dev nD) : aA m c = V m c main_arg0 := rfl

theorem aA_at (c : Dev nD) (a : Fin 4096) (b : Fin 1024) : aA m c (ix2 a b) = g0 m c (ix2 a b) := by
  rw [aA_eq]
  simp only [g0]
  unfold_abbrev_sides
  after_reads_at

theorem aB_eq (c : Dev nD) : aB m c = V m c main_v0 := rfl

theorem aB_at (c : Dev nD) (a : Fin 1024) (b : Fin 1024) : aB m c (ix2 a b) = g1 m c (ix2 a b) := by
  rw [aB_eq]
  simp only [g1]
  unfold_abbrev_sides
  after_reads_at

/-- The reference's result at an index. -/
theorem ref_at (y0 : Vec Ideal S4096x1024 .f32) (y1 : Vec Ideal S1024x1024 .f32) (i : Fin 4096) (x : Fin 1024) :
    Cert.DmgReferenceIdeal.Read.val_main_v2 (F := Ideal) y0 y1 (ix2 i x) = ∑ k : Fin 1024, (y0 (ix2 i k) : EReal) * (y1 (ix2 x k) : EReal) := by
  unfold Cert.DmgReferenceIdeal.Read.val_main_v2
  pointwise

/-- The reference's array is the kernel's. -/
theorem same_at (c : Dev nD) (i : Fin 4096) (x : Fin 1024) :
    Cert.DmgReferenceIdeal.Read.val_main_v2 (F := Ideal) (g0 m c) (g1 m c) (ix2 i x) = G m c (ix2 i x : S4096x1024.Idx) := by
  refine (ref_at (g0 m c) (g1 m c) i x).trans ?_
  rw [G_at]
  unfold entry term
  simp only [aA_at, aB_at]

theorem same (c : Dev nD) : Cert.DmgReferenceIdeal.Read.val_main_v2 (F := Ideal) (g0 m c) (g1 m c) = G m c := by
  funext j
  rw [eq_ix2 j]
  exact same_at m c (j 0) (j 1)

end Cert.DmgIdeal.Prod
-- ==== Proof.Dab.lean ====
module

public import proofs.«01_k».proof.Proof.Gen.DabIdeal.Value
public import proofs.«01_k».proof.Proof.Gen.DabReferenceIdeal.Run
public import proofs.«01_k».proof.Proof.Gen.DabReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the mixer: the gradient of its input, the product of the cotangent and the transposed weight.
The kernel forms each block of the result at one grid point. -/

namespace Cert.DabIdeal.Prod

open Cert.DabIdeal Cert.DabIdeal.Gen Idealize.ShloMosaic Idealize.ShloMosaic.TcCoe Cert.Sums Idealize.SL.Sem

theorem pay1_at (u : Vec Ideal S1024x1024 .bf16) (v : Vec Ideal S1024x1024 .bf16) (a : Fin 1024) (x : Fin 1024) :
    k0_pay1 u v (ix2 a x) = (∑ r : Fin 1024, (u (ix2 a r) : EReal) * (v (ix2 x r) : EReal)) := by
  pointwise [k0_pay1]

theorem out_eq (u : Vec Ideal S1024x1024 .bf16) (v : Vec Ideal S1024x1024 .bf16) : out0_2 u v = k0_pay1 u v := by
  unfold out0_2
  rw [View.canon_cons_unit_zero hz2, View.ld_unit_zero (S := S1024x1024) hz2, View.ld_unit_zero (S := S1024x1024) hz2]

/-! Which block each window reads at a grid point. -/

theorem tlt (t : Fin cfg0.N) : t.val < 4 := lt_of_lt_of_eq t.isLt (show cfg0.N = 4 from N_0)

/-- Block `b`'s rows of the result and its columns. -/
def rI (b : ℕ) (r : Fin 1024) : Fin 4096 := ⟨(1024 * b + r.val) % 4096, Nat.mod_lt _ (by decide)⟩
def cJ (b : ℕ) (r : Fin 1024) : Fin 1024 := ⟨(1024 * b + r.val) % 1024, Nat.mod_lt _ (by decide)⟩

variable (m : (ℓ : Loc nD τ sig) → Buf (Elt Ideal) ℓ)

/-- Operand 0, as the kernel's window names it. -/
def aA (c : Dev nD) : Vec Ideal S4096x1024 .bf16 := V m c (Pipeline.arrRef spec0 0)

theorem index0 : ∀ t : Fin cfg0.N, win0_0.index t (0 : Fin 2) = t.val / 1 ∧ win0_0.index t (1 : Fin 2) = 0 := by decide +kernel

theorem rd0 (A : S4096x1024.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (rI (t.val / 1) a) b : S4096x1024.Idx) := by
  have ht := tlt t
  have h0 : win0_0.index t 0 * 1024 + 1 * a.val = (1024 * (t.val / 1) + a.val) % 4096 := by rw [(index0 t).1]; omega
  have h1 : win0_0.index t 1 * 1024 + 1 * b.val = b.val := by rw [(index0 t).2, Nat.zero_mul, Nat.zero_add, Nat.one_mul]
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .bf16) (ix2 a b) = aA m c (ix2 (rI (t.val / 1) a) b) :=
  (rd0 (aA m c) t (ix2 a b)).trans (congrArg (aA m c) (emb0 t a b))

/-- Operand 1, as the kernel's window names it. -/
def aB (c : Dev nD) : Vec Ideal S1024x1024 .bf16 := V m c (Pipeline.arrRef spec0 1)

theorem index1 : ∀ t : Fin cfg0.N, win0_1.index t (0 : Fin 2) = t.val % 1 ∧ win0_1.index t (1 : Fin 2) = 0 := by decide +kernel

theorem rd1 (A : S1024x1024.Idx → EReal) (t : Fin cfg0.N) (y : S1024x1024.Idx) :
    (((cfg0.win 1).blk t).view.read (Elt Ideal) A) y = A (((cfg0.win 1).blk t).view.emb y) := rfl

theorem emb1 (t : Fin cfg0.N) (a : Fin 1024) (b : Fin 1024) :
    ((cfg0.win 1).blk t).view.emb (ix2 a b : S1024x1024.Idx) = (ix2 (cJ (t.val % 1) a) b : S1024x1024.Idx) := by
  have ht := tlt t
  have h0 : win0_1.index t 0 * 1024 + 1 * a.val = (1024 * (t.val % 1) + a.val) % 1024 := by rw [(index1 t).1]; omega
  have h1 : win0_1.index t 1 * 1024 + 1 * b.val = b.val := by rw [(index1 t).2, Nat.zero_mul, Nat.zero_add, Nat.one_mul]
  funext x; apply Fin.ext
  match x with
  | ⟨0, _⟩ => exact h0
  | ⟨1, _⟩ => exact h1

theorem blk1 (c : Dev nD) (t : Fin cfg0.N) (a : Fin 1024) (b : Fin 1024) :
    (iblk m c 1 t : Vec Ideal S1024x1024 .bf16) (ix2 a b) = aB m c (ix2 (cJ (t.val % 1) a) b) :=
  (rd1 (aB m c) t (ix2 a b)).trans (congrArg (aB m c) (emb1 t a b))

theorem index2 : ∀ t : Fin cfg0.N, win0_2.index t (0 : Fin 2) = t.val / 1 ∧ win0_2.index t (1 : Fin 2) = t.val % 1 := by decide +kernel

theorem rd2 (A : S4096x1024.Idx → EReal) (t : Fin cfg0.N) (y : S1024x1024.Idx) :
    (((cfg0.win 2).blk t).view.read (Elt Ideal) A) y = A (((cfg0.win 2).blk t).view.emb y) := rfl

theorem emb2 (t : Fin cfg0.N) (a : Fin 1024) (b : Fin 1024) :
    ((cfg0.win 2).blk t).view.emb (ix2 a b : S1024x1024.Idx) = (ix2 (rI (t.val / 1) a) (cJ (t.val % 1) b) : S4096x1024.Idx) := by
  have ht := tlt t
  have h0 : win0_2.index t 0 * 1024 + 1 * a.val = (1024 * (t.val / 1) + a.val) % 4096 := by rw [(index2 t).1]; omega
  have h1 : win0_2.index t 1 * 1024 + 1 * b.val = (1024 * (t.val % 1) + b.val) % 1024 := by rw [(index2 t).2]; omega
  funext x; apply Fin.ext
  match x with
  | ⟨0, _⟩ => exact h0
  | ⟨1, _⟩ => exact h1

/-- One term of the product of the whole operands. -/
def term (c : Dev nD) (i : Fin 4096) (x : Fin 1024) (k : Fin 1024) : EReal := aA m c (ix2 i k) * aB m c (ix2 x k)

/-- An entry of the result, and the result. -/
def entry (c : Dev nD) (i : Fin 4096) (x : Fin 1024) : EReal := (∑ k : Fin 1024, term m c i x k)
def G (c : Dev nD) : Buf (Elt Ideal) ((c : Thread nD τ).loc main_v2) := fun i : S4096x1024.Idx => entry m c (i 0) (i 1)

theorem G_at (c : Dev nD) (i : Fin 4096) (x : Fin 1024) : G m c (ix2 i x : S4096x1024.Idx) = entry m c i x := rfl

theorem out_blk (c : Dev nD) (t : Fin cfg0.N) (a : Fin 1024) (x : Fin 1024) :
    out0_2 (iblk m c 0 t) (iblk m c 1 t) (ix2 a x) = entry m c (rI (t.val / 1) a) (cJ (t.val % 1) x) := by
  rw [out_eq]
  refine (pay1_at _ _ a x).trans ?_
  unfold entry term
  simp only [blk0, blk1]

/-- What a grid point writes back is its block of the result. -/
theorem flushed (c : Dev nD) (t : Fin cfg0.N) :
    (dats m 0 c).flushed 2 t = ((cfg0.win 2).blk t).view.read (Elt Ideal) (G m c) := by
  rw [Value.flushed2]
  funext y
  have hx : (cfg0.win 2).xinj (grid0.coords t) y = (ix2 (⟨(y 0).val, (y 0).isLt⟩ : Fin 1024) (⟨(y 1).val, (y 1).isLt⟩ : Fin 1024) : S1024x1024.Idx) := by
    funext a; apply Fin.ext
    match a with
    | ⟨0, _⟩ => rfl
    | ⟨1, _⟩ => rfl
  have hy : ((cfg0.win 2).blk t).view.emb y = (ix2 (rI (t.val / 1) (⟨(y 0).val, (y 0).isLt⟩ : Fin 1024)) (cJ (t.val % 1) (⟨(y 1).val, (y 1).isLt⟩ : Fin 1024)) : S4096x1024.Idx) :=
    (congrArg _ hx).trans (emb2 t _ _)
  show out0_2 (iblk m c 0 t) (iblk m c 1 t) ((cfg0.win 2).xinj (grid0.coords t) y) = G m c (((cfg0.win 2).blk t).view.emb y)
  rw [hx]
  exact (out_blk m c t _ _).trans (congrArg (G m c) hy).symm

/-- Every index is in the block that some point writes back. -/
theorem covered (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  have hn : 1 * ((i 0).val / 1024) + (i 1).val / 1024 < cfg0.N := by rw [show cfg0.N = 4 from N_0]; omega
  refine ⟨⟨_, hn⟩, flush0_2 _, ?_⟩
  obtain ⟨q0, q1⟩ := index2 ⟨_, hn⟩
  dsimp only at q0 q1
  show i ∈ ((View.whole main_v2).slice (win0_2.rect ⟨_, hn⟩)).set
  rw [View.set_slice_whole, Rect.mem_set_unit]
  intro a
  match a with
  | ⟨0, _⟩ => show win0_2.index ⟨_, hn⟩ (0 : Fin 2) * 1024 ≤ (i 0).val ∧ (i 0).val < win0_2.index ⟨_, hn⟩ (0 : Fin 2) * 1024 + 1024; omega
  | ⟨1, _⟩ => show win0_2.index ⟨_, hn⟩ (1 : Fin 2) * 1024 ≤ (i 1).val ∧ (i 1).val < win0_2.index ⟨_, hn⟩ (1 : Fin 2) * 1024 + 1024; omega

/-- The result array after the run. -/
theorem final (c : Dev nD) : (dats m 0 c).arrAt 2 cfg0.N = G m c :=
  (dats m 0 c).arrAt_eq_of_cover 2 _ (fun t _ => flushed m c t) covered

/-! The operands are the arguments. -/

def g0 (c : Dev nD) : Vec Ideal S4096x1024 .f32 := m (c, Proc.tc.devRef main_arg0)
def g1 (c : Dev nD) : Vec Ideal S1024x1024 .f32 := m (c, Proc.tc.devRef main_arg1)

theorem aA_eq (c : Dev nD) : aA m c = V m c main_v0 := rfl

theorem aA_at (c : Dev nD) (a : Fin 4096) (b : Fin 1024) : aA m c (ix2 a b) = g0 m c (ix2 a b) := by
  rw [aA_eq]
  simp only [g0]
  unfold_abbrev_sides
  after_reads_at

theorem aB_eq (c : Dev nD) : aB m c = V m c main_v1 := rfl

theorem aB_at (c : Dev nD) (a : Fin 1024) (b : Fin 1024) : aB m c (ix2 a b) = g1 m c (ix2 a b) := by
  rw [aB_eq]
  simp only [g1]
  unfold_abbrev_sides
  after_reads_at

/-- The reference's result at an index. -/
theorem ref_at (y0 : Vec Ideal S4096x1024 .f32) (y1 : Vec Ideal S1024x1024 .f32) (i : Fin 4096) (x : Fin 1024) :
    Cert.DabReferenceIdeal.Read.val_main_v2 (F := Ideal) y0 y1 (ix2 i x) = ∑ k : Fin 1024, (y0 (ix2 i k) : EReal) * (y1 (ix2 x k) : EReal) := by
  unfold Cert.DabReferenceIdeal.Read.val_main_v2
  pointwise

/-- The reference's array is the kernel's. -/
theorem same_at (c : Dev nD) (i : Fin 4096) (x : Fin 1024) :
    Cert.DabReferenceIdeal.Read.val_main_v2 (F := Ideal) (g0 m c) (g1 m c) (ix2 i x) = G m c (ix2 i x : S4096x1024.Idx) := by
  refine (ref_at (g0 m c) (g1 m c) i x).trans ?_
  rw [G_at]
  unfold entry term
  simp only [aA_at, aB_at]

theorem same (c : Dev nD) : Cert.DabReferenceIdeal.Read.val_main_v2 (F := Ideal) (g0 m c) (g1 m c) = G m c := by
  funext j
  rw [eq_ix2 j]
  exact same_at m c (j 0) (j 1)

end Cert.DabIdeal.Prod
-- ==== Proof.Dmb.lean ====
module

public import proofs.«01_k».proof.Proof.Gen.DmbIdeal.Value
public import proofs.«01_k».proof.Proof.Gen.DmbReferenceIdeal.Run
public import proofs.«01_k».proof.Proof.Gen.DmbReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the mixer: the gradient of its input, the product of the cotangent and the transposed weight.
The kernel forms each block of the result at one grid point. -/

namespace Cert.DmbIdeal.Prod

open Cert.DmbIdeal Cert.DmbIdeal.Gen Idealize.ShloMosaic Idealize.ShloMosaic.TcCoe Cert.Sums Idealize.SL.Sem

theorem pay1_at (u : Vec Ideal S1024x1024 .bf16) (v : Vec Ideal S1024x1024 .bf16) (a : Fin 1024) (x : Fin 1024) :
    k0_pay1 u v (ix2 a x) = (∑ r : Fin 1024, (u (ix2 a r) : EReal) * (v (ix2 x r) : EReal)) := by
  pointwise [k0_pay1]

theorem out_eq (u : Vec Ideal S1024x1024 .bf16) (v : Vec Ideal S1024x1024 .bf16) : out0_2 u v = k0_pay1 u v := by
  unfold out0_2
  rw [View.canon_cons_unit_zero hz2, View.ld_unit_zero (S := S1024x1024) hz2, View.ld_unit_zero (S := S1024x1024) hz2]

/-! Which block each window reads at a grid point. -/

theorem tlt (t : Fin cfg0.N) : t.val < 8 := lt_of_lt_of_eq t.isLt (show cfg0.N = 8 from N_0)

/-- Block `b`'s rows of the result and its columns. -/
def rI (b : ℕ) (r : Fin 1024) : Fin 4096 := ⟨(1024 * b + r.val) % 4096, Nat.mod_lt _ (by decide)⟩
def cJ (b : ℕ) (r : Fin 1024) : Fin 2048 := ⟨(1024 * b + r.val) % 2048, Nat.mod_lt _ (by decide)⟩

variable (m : (ℓ : Loc nD τ sig) → Buf (Elt Ideal) ℓ)

/-- Operand 0, as the kernel's window names it. -/
def aA (c : Dev nD) : Vec Ideal S4096x1024 .bf16 := V m c (Pipeline.arrRef spec0 0)

theorem index0 : ∀ t : Fin cfg0.N, win0_0.index t (0 : Fin 2) = t.val / 2 ∧ win0_0.index t (1 : Fin 2) = 0 := by decide +kernel

theorem rd0 (A : S4096x1024.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (rI (t.val / 2) a) b : S4096x1024.Idx) := by
  have ht := tlt t
  have h0 : win0_0.index t 0 * 1024 + 1 * a.val = (1024 * (t.val / 2) + a.val) % 4096 := by rw [(index0 t).1]; omega
  have h1 : win0_0.index t 1 * 1024 + 1 * b.val = b.val := by rw [(index0 t).2, Nat.zero_mul, Nat.zero_add, Nat.one_mul]
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .bf16) (ix2 a b) = aA m c (ix2 (rI (t.val / 2) a) b) :=
  (rd0 (aA m c) t (ix2 a b)).trans (congrArg (aA m c) (emb0 t a b))

/-- Operand 1, as the kernel's window names it. -/
def aB (c : Dev nD) : Vec Ideal S2048x1024 .bf16 := V m c (Pipeline.arrRef spec0 1)

theorem index1 : ∀ t : Fin cfg0.N, win0_1.index t (0 : Fin 2) = t.val % 2 ∧ win0_1.index t (1 : Fin 2) = 0 := by decide +kernel

theorem rd1 (A : S2048x1024.Idx → EReal) (t : Fin cfg0.N) (y : S1024x1024.Idx) :
    (((cfg0.win 1).blk t).view.read (Elt Ideal) A) y = A (((cfg0.win 1).blk t).view.emb y) := rfl

theorem emb1 (t : Fin cfg0.N) (a : Fin 1024) (b : Fin 1024) :
    ((cfg0.win 1).blk t).view.emb (ix2 a b : S1024x1024.Idx) = (ix2 (cJ (t.val % 2) a) b : S2048x1024.Idx) := by
  have ht := tlt t
  have h0 : win0_1.index t 0 * 1024 + 1 * a.val = (1024 * (t.val % 2) + a.val) % 2048 := by rw [(index1 t).1]; omega
  have h1 : win0_1.index t 1 * 1024 + 1 * b.val = b.val := by rw [(index1 t).2, Nat.zero_mul, Nat.zero_add, Nat.one_mul]
  funext x; apply Fin.ext
  match x with
  | ⟨0, _⟩ => exact h0
  | ⟨1, _⟩ => exact h1

theorem blk1 (c : Dev nD) (t : Fin cfg0.N) (a : Fin 1024) (b : Fin 1024) :
    (iblk m c 1 t : Vec Ideal S1024x1024 .bf16) (ix2 a b) = aB m c (ix2 (cJ (t.val % 2) a) b) :=
  (rd1 (aB m c) t (ix2 a b)).trans (congrArg (aB m c) (emb1 t a b))

theorem index2 : ∀ t : Fin cfg0.N, win0_2.index t (0 : Fin 2) = t.val / 2 ∧ win0_2.index t (1 : Fin 2) = t.val % 2 := by decide +kernel

theorem rd2 (A : S4096x2048.Idx → EReal) (t : Fin cfg0.N) (y : S1024x1024.Idx) :
    (((cfg0.win 2).blk t).view.read (Elt Ideal) A) y = A (((cfg0.win 2).blk t).view.emb y) := rfl

theorem emb2 (t : Fin cfg0.N) (a : Fin 1024) (b : Fin 1024) :
    ((cfg0.win 2).blk t).view.emb (ix2 a b : S1024x1024.Idx) = (ix2 (rI (t.val / 2) a) (cJ (t.val % 2) b) : S4096x2048.Idx) := by
  have ht := tlt t
  have h0 : win0_2.index t 0 * 1024 + 1 * a.val = (1024 * (t.val / 2) + a.val) % 4096 := by rw [(index2 t).1]; omega
  have h1 : win0_2.index t 1 * 1024 + 1 * b.val = (1024 * (t.val % 2) + b.val) % 2048 := by rw [(index2 t).2]; omega
  funext x; apply Fin.ext
  match x with
  | ⟨0, _⟩ => exact h0
  | ⟨1, _⟩ => exact h1

/-- One term of the product of the whole operands. -/
def term (c : Dev nD) (i : Fin 4096) (x : Fin 2048) (k : Fin 1024) : EReal := aA m c (ix2 i k) * aB m c (ix2 x k)

/-- An entry of the result, and the result. -/
def entry (c : Dev nD) (i : Fin 4096) (x : Fin 2048) : EReal := (∑ k : Fin 1024, term m c i x k)
def G (c : Dev nD) : Buf (Elt Ideal) ((c : Thread nD τ).loc main_v2) := fun i : S4096x2048.Idx => entry m c (i 0) (i 1)

theorem G_at (c : Dev nD) (i : Fin 4096) (x : Fin 2048) : G m c (ix2 i x : S4096x2048.Idx) = entry m c i x := rfl

theorem out_blk (c : Dev nD) (t : Fin cfg0.N) (a : Fin 1024) (x : Fin 1024) :
    out0_2 (iblk m c 0 t) (iblk m c 1 t) (ix2 a x) = entry m c (rI (t.val / 2) a) (cJ (t.val % 2) x) := by
  rw [out_eq]
  refine (pay1_at _ _ a x).trans ?_
  unfold entry term
  simp only [blk0, blk1]

/-- What a grid point writes back is its block of the result. -/
theorem flushed (c : Dev nD) (t : Fin cfg0.N) :
    (dats m 0 c).flushed 2 t = ((cfg0.win 2).blk t).view.read (Elt Ideal) (G m c) := by
  rw [Value.flushed2]
  funext y
  have hx : (cfg0.win 2).xinj (grid0.coords t) y = (ix2 (⟨(y 0).val, (y 0).isLt⟩ : Fin 1024) (⟨(y 1).val, (y 1).isLt⟩ : Fin 1024) : S1024x1024.Idx) := by
    funext a; apply Fin.ext
    match a with
    | ⟨0, _⟩ => rfl
    | ⟨1, _⟩ => rfl
  have hy : ((cfg0.win 2).blk t).view.emb y = (ix2 (rI (t.val / 2) (⟨(y 0).val, (y 0).isLt⟩ : Fin 1024)) (cJ (t.val % 2) (⟨(y 1).val, (y 1).isLt⟩ : Fin 1024)) : S4096x2048.Idx) :=
    (congrArg _ hx).trans (emb2 t _ _)
  show out0_2 (iblk m c 0 t) (iblk m c 1 t) ((cfg0.win 2).xinj (grid0.coords t) y) = G m c (((cfg0.win 2).blk t).view.emb y)
  rw [hx]
  exact (out_blk m c t _ _).trans (congrArg (G m c) hy).symm

/-- Every index is in the block that some point writes back. -/
theorem covered (i : S4096x2048.Idx) : ∃ t : Fin cfg0.N, (cfg0.win 2).flush t = true ∧ i ∈ ((cfg0.win 2).blk t).view.set := by
  have hi0 : (i 0).val < 4096 := (i 0).isLt
  have hi1 : (i 1).val < 2048 := (i 1).isLt
  have hn : 2 * ((i 0).val / 1024) + (i 1).val / 1024 < cfg0.N := by rw [show cfg0.N = 8 from N_0]; omega
  refine ⟨⟨_, hn⟩, flush0_2 _, ?_⟩
  obtain ⟨q0, q1⟩ := index2 ⟨_, hn⟩
  dsimp only at q0 q1
  show i ∈ ((View.whole main_v2).slice (win0_2.rect ⟨_, hn⟩)).set
  rw [View.set_slice_whole, Rect.mem_set_unit]
  intro a
  match a with
  | ⟨0, _⟩ => show win0_2.index ⟨_, hn⟩ (0 : Fin 2) * 1024 ≤ (i 0).val ∧ (i 0).val < win0_2.index ⟨_, hn⟩ (0 : Fin 2) * 1024 + 1024; omega
  | ⟨1, _⟩ => show win0_2.index ⟨_, hn⟩ (1 : Fin 2) * 1024 ≤ (i 1).val ∧ (i 1).val < win0_2.index ⟨_, hn⟩ (1 : Fin 2) * 1024 + 1024; omega

/-- The result array after the run. -/
theorem final (c : Dev nD) : (dats m 0 c).arrAt 2 cfg0.N = G m c :=
  (dats m 0 c).arrAt_eq_of_cover 2 _ (fun t _ => flushed m c t) covered

/-! The operands are the arguments. -/

def g0 (c : Dev nD) : Vec Ideal S4096x1024 .f32 := m (c, Proc.tc.devRef main_arg0)
def g1 (c : Dev nD) : Vec Ideal S2048x1024 .f32 := m (c, Proc.tc.devRef main_arg1)

theorem aA_eq (c : Dev nD) : aA m c = V m c main_v0 := rfl

theorem aA_at (c : Dev nD) (a : Fin 4096) (b : Fin 1024) : aA m c (ix2 a b) = g0 m c (ix2 a b) := by
  rw [aA_eq]
  simp only [g0]
  unfold_abbrev_sides
  after_reads_at

theorem aB_eq (c : Dev nD) : aB m c = V m c main_v1 := rfl

theorem aB_at (c : Dev nD) (a : Fin 2048) (b : Fin 1024) : aB m c (ix2 a b) = g1 m c (ix2 a b) := by
  rw [aB_eq]
  simp only [g1]
  unfold_abbrev_sides
  after_reads_at

/-- The reference's result at an index. -/
theorem ref_at (y0 : Vec Ideal S4096x1024 .f32) (y1 : Vec Ideal S2048x1024 .f32) (i : Fin 4096) (x : Fin 2048) :
    Cert.DmbReferenceIdeal.Read.val_main_v2 (F := Ideal) y0 y1 (ix2 i x) = ∑ k : Fin 1024, (y0 (ix2 i k) : EReal) * (y1 (ix2 x k) : EReal) := by
  unfold Cert.DmbReferenceIdeal.Read.val_main_v2
  pointwise

/-- The reference's array is the kernel's. -/
theorem same_at (c : Dev nD) (i : Fin 4096) (x : Fin 2048) :
    Cert.DmbReferenceIdeal.Read.val_main_v2 (F := Ideal) (g0 m c) (g1 m c) (ix2 i x) = G m c (ix2 i x : S4096x2048.Idx) := by
  refine (ref_at (g0 m c) (g1 m c) i x).trans ?_
  rw [G_at]
  unfold entry term
  simp only [aA_at, aB_at]

theorem same (c : Dev nD) : Cert.DmbReferenceIdeal.Read.val_main_v2 (F := Ideal) (g0 m c) (g1 m c) = G m c := by
  funext j
  rw [eq_ix2 j]
  exact same_at m c (j 0) (j 1)

end Cert.DmbIdeal.Prod
-- ==== Proof.Dhz.lean ====
module

public import proofs.«01_k».proof.Proof.Gen.DhzIdeal.Value
public import proofs.«01_k».proof.Proof.Gen.DhzReferenceIdeal.Run
public import proofs.«01_k».proof.Proof.Gen.DhzReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the mixer: the gradient of the mixer's input through z, what came before it and the product of the cotangent and the transposed weight.
The kernel adds it up in a scratch, block by block of the summed axis. -/

namespace Cert.DhzIdeal.Prod

open Cert.DhzIdeal Cert.DhzIdeal.Gen Idealize.ShloMosaic Idealize.ShloMosaic.TcCoe Cert.Sums

/-- The product of two blocks. -/
def prod (u : Vec Ideal S1024x1024 .bf16) (v : Vec Ideal S1024x1024 .bf16) : Vec Ideal S1024x1024 .f32 :=
  fun y => ∑ r : Fin 1024, (u (ix2 (y 0) r) : EReal) * (v (ix2 (y 1) r) : EReal)

theorem prod_at (u : Vec Ideal S1024x1024 .bf16) (v : Vec Ideal S1024x1024 .bf16) (a : Fin 1024) (x : Fin 1024) :
    prod u v (ix2 a x) = ∑ r : Fin 1024, (u (ix2 a r) : EReal) * (v (ix2 x r) : EReal) := rfl

theorem pay1_at (u : Vec Ideal S1024x1024 .bf16) (v : Vec Ideal S1024x1024 .bf16) (a : Fin 1024) (x : Fin 1024) :
    k0_pay1 u v (ix2 a x) = ∑ r : Fin 1024, (u (ix2 a r) : EReal) * (v (ix2 x r) : EReal) := by
  pointwise [k0_pay1]

theorem pay1_eq (u : Vec Ideal S1024x1024 .bf16) (v : Vec Ideal S1024x1024 .bf16) : k0_pay1 u v = prod u v := by
  funext y; rw [eq_ix2 y]; exact pay1_at u v (y 0) (y 1)

theorem pay2_eq (u : Vec Ideal S1024x1024 .bf16) (v : Vec Ideal S1024x1024 .bf16) : k0_pay2 u v = prod u v := by
  rw [← pay1_eq]; funext y; pointwise [k0_pay2]

theorem pay3_eq (u : Vec Ideal S1024x1024 .bf16) (v : Vec Ideal S1024x1024 .bf16) (s : Vec Ideal S1024x1024 .f32) :
    k0_pay3 u v s = fun y => (s y + prod u v y : EReal) := by
  rw [← pay1_eq]; funext y; pointwise [k0_pay3]

theorem pay4_eq (s : Vec Ideal S1024x1024 .f32) (x2 : Vec Ideal S1024x1024 .f32) :
    k0_pay4 s x2 = fun y => (s y + x2 y : EReal) := by
  funext y; pointwise [k0_pay4]

theorem sout0_A_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (a7 : Memref sig .tc .vmem S1024x1024 .f32) (ha7 : a7.IsWhole) (hc0 : cond0_0 i) (hc1 : ¬cond0_1 i) (hc2 : ¬cond0_2 i)
    (x0 : Vec Ideal S1024x1024 .bf16) (x1 : Vec Ideal S1024x1024 .bf16) (x2 : Vec Ideal S1024x1024 .f32) :
    sout0_A_0 c i a3 ha3 a4 ha4 a5 ha5 a6 ha6 a7 ha7 hc0 hc1 hc2 x0 x1 x2 = prod x0 x1 := by
  unfold sout0_A_0
  rw [View.read_writes_eq_canon _ _ _ (scover0_A_0 c i a3 ha3 a4 ha4 a5 ha5 a6 ha6 a7 ha7 hc0 hc1 hc2 x0 x1 x2)]
  unfold kernelRun0_A
  dsimp only
  sl_unfold_words
  simp only [View.readAt_eq_ld, ha3.read_unread, ha4.read_unread, ha5.read_unread, ha6.read_unread, ha7.read_unread, View.ld_unit_zero (S := S1024x1024) hz2]
  rw [View.canon_cons_unit_zero hz2]
  exact pay2_eq ..

theorem sout0_B_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (a7 : Memref sig .tc .vmem S1024x1024 .f32) (ha7 : a7.IsWhole) (hc0 : ¬cond0_0 i) (hc1 : cond0_1 i) (hc2 : cond0_2 i)
    (x0 : Vec Ideal S1024x1024 .bf16) (x1 : Vec Ideal S1024x1024 .bf16) (x2 : Vec Ideal S1024x1024 .f32) (xs0 : Vec Ideal S1024x1024 .f32) :
    sout0_B_0 c i a3 ha3 a4 ha4 a5 ha5 a6 ha6 a7 ha7 hc0 hc1 hc2 x0 x1 x2 xs0 = fun y => (xs0 y + prod x0 x1 y : EReal) := by
  unfold sout0_B_0
  rw [View.read_writes_eq_canon _ _ _ (scover0_B_0 c i a3 ha3 a4 ha4 a5 ha5 a6 ha6 a7 ha7 hc0 hc1 hc2 x0 x1 x2 xs0)]
  unfold kernelRun0_B
  dsimp only
  sl_unfold_words
  simp only [View.readAt_eq_ld, ha3.read_unread, ha4.read_unread, ha5.read_unread, ha6.read_unread, ha7.read_unread, View.ld_unit_zero (S := S1024x1024) hz2]
  rw [View.canon_cons_unit_zero hz2]
  exact pay3_eq ..

theorem out0_B_3_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (a7 : Memref sig .tc .vmem S1024x1024 .f32) (ha7 : a7.IsWhole) (hc0 : ¬cond0_0 i) (hc1 : cond0_1 i) (hc2 : cond0_2 i)
    (x0 : Vec Ideal S1024x1024 .bf16) (x1 : Vec Ideal S1024x1024 .bf16) (x2 : Vec Ideal S1024x1024 .f32) (xs0 : Vec Ideal S1024x1024 .f32) :
    out0_B_3 c i a3 ha3 a4 ha4 a5 ha5 a6 ha6 a7 ha7 hc0 hc1 hc2 x0 x1 x2 xs0 = fun y => (xs0 y + prod x0 x1 y + x2 y : EReal) := by
  unfold out0_B_3
  rw [View.read_writes_eq_canon _ _ _ (cover0_B_3 c i a3 ha3 a4 ha4 a5 ha5 a6 ha6 a7 ha7 hc0 hc1 hc2 x0 x1 x2 xs0)]
  unfold kernelRun0_B
  dsimp only
  sl_unfold_words
  simp only [View.readAt_eq_ld, ha3.read_unread, ha4.read_unread, ha5.read_unread, ha6.read_unread, ha7.read_unread, View.ld_unit_zero (S := S1024x1024) hz2]
  rw [View.canon_cons_unit_zero hz2, View.readCov_unit_zero _ hz2]
  exact (pay4_eq ..).trans (by rw [pay3_eq])

/-! Which block each window reads at a grid point. -/

theorem tlt (t : Fin cfg0.N) : t.val < 8 := lt_of_lt_of_eq t.isLt (show cfg0.N = 8 from N_0)

/-- Block `b`'s rows of the result, its columns, and its part of the summed axis. -/
def rI (b : ℕ) (r : Fin 1024) : Fin 4096 := ⟨(1024 * b + r.val) % 4096, Nat.mod_lt _ (by decide)⟩
def cJ (b : ℕ) (r : Fin 1024) : Fin 1024 := ⟨(1024 * b + r.val) % 1024, Nat.mod_lt _ (by decide)⟩
def kB (b : ℕ) (r : Fin 1024) : Fin 2048 := ⟨(1024 * b + r.val) % 2048, Nat.mod_lt _ (by decide)⟩

variable (m : (ℓ : Loc nD τ sig) → Buf (Elt Ideal) ℓ)

/-- Operand 0, as the kernel's window names it. -/
def aA (c : Dev nD) : Vec Ideal S4096x2048 .bf16 := V m c (Pipeline.arrRef spec0 0)

theorem index0 : ∀ t : Fin cfg0.N, win0_0.index t (0 : Fin 2) = t.val / 2 ∧ win0_0.index t (1 : Fin 2) = t.val % 2 := by decide +kernel

theorem rd0 (A : S4096x2048.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (rI (t.val / 2) a) (kB (t.val % 2) b) : S4096x2048.Idx) := by
  have ht := tlt t
  have h0 : win0_0.index t 0 * 1024 + 1 * a.val = (1024 * (t.val / 2) + a.val) % 4096 := by rw [(index0 t).1]; omega
  have h1 : win0_0.index t 1 * 1024 + 1 * b.val = (1024 * (t.val % 2) + b.val) % 2048 := by rw [(index0 t).2]; omega
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .bf16) (ix2 a b) = aA m c (ix2 (rI (t.val / 2) a) (kB (t.val % 2) b)) :=
  (rd0 (aA m c) t (ix2 a b)).trans (congrArg (aA m c) (emb0 t a b))

/-- Operand 1, as the kernel's window names it. -/
def aB (c : Dev nD) : Vec Ideal S1024x2048 .bf16 := V m c (Pipeline.arrRef spec0 1)

theorem index1 : ∀ t : Fin cfg0.N, win0_1.index t (0 : Fin 2) = t.val / 2 % 1 ∧ win0_1.index t (1 : Fin 2) = t.val % 2 := by decide +kernel

theorem rd1 (A : S1024x2048.Idx → EReal) (t : Fin cfg0.N) (y : S1024x1024.Idx) :
    (((cfg0.win 1).blk t).view.read (Elt Ideal) A) y = A (((cfg0.win 1).blk t).view.emb y) := rfl

theorem emb1 (t : Fin cfg0.N) (a : Fin 1024) (b : Fin 1024) :
    ((cfg0.win 1).blk t).view.emb (ix2 a b : S1024x1024.Idx) = (ix2 (cJ (t.val / 2 % 1) a) (kB (t.val % 2) b) : S1024x2048.Idx) := by
  have ht := tlt t
  have h0 : win0_1.index t 0 * 1024 + 1 * a.val = (1024 * (t.val / 2 % 1) + a.val) % 1024 := by rw [(index1 t).1]; omega
  have h1 : win0_1.index t 1 * 1024 + 1 * b.val = (1024 * (t.val % 2) + b.val) % 2048 := by rw [(index1 t).2]; omega
  funext x; apply Fin.ext
  match x with
  | ⟨0, _⟩ => exact h0
  | ⟨1, _⟩ => exact h1

theorem blk1 (c : Dev nD) (t : Fin cfg0.N) (a : Fin 1024) (b : Fin 1024) :
    (iblk m c 1 t : Vec Ideal S1024x1024 .bf16) (ix2 a b) = aB m c (ix2 (cJ (t.val / 2 % 1) a) (kB (t.val % 2) b)) :=
  (rd1 (aB m c) t (ix2 a b)).trans (congrArg (aB m c) (emb1 t a b))

/-- Operand 2, as the kernel's window names it. -/
def aR (c : Dev nD) : Vec Ideal S4096x1024 .f32 := V m c (Pipeline.arrRef spec0 2)

theorem index2 : ∀ t : Fin cfg0.N, win0_2.index t (0 : Fin 2) = t.val / 2 ∧ win0_2.index t (1 : Fin 2) = t.val / 2 % 1 := by decide +kernel

theorem rd2 (A : S4096x1024.Idx → EReal) (t : Fin cfg0.N) (y : S1024x1024.Idx) :
    (((cfg0.win 2).blk t).view.read (Elt Ideal) A) y = A (((cfg0.win 2).blk t).view.emb y) := rfl

theorem emb2 (t : Fin cfg0.N) (a : Fin 1024) (b : Fin 1024) :
    ((cfg0.win 2).blk t).view.emb (ix2 a b : S1024x1024.Idx) = (ix2 (rI (t.val / 2) a) (cJ (t.val / 2 % 1) b) : S4096x1024.Idx) := by
  have ht := tlt t
  have h0 : win0_2.index t 0 * 1024 + 1 * a.val = (1024 * (t.val / 2) + a.val) % 4096 := by rw [(index2 t).1]; omega
  have h1 : win0_2.index t 1 * 1024 + 1 * b.val = (1024 * (t.val / 2 % 1) + b.val) % 1024 := by rw [(index2 t).2]; omega
  funext x; apply Fin.ext
  match x with
  | ⟨0, _⟩ => exact h0
  | ⟨1, _⟩ => exact h1

theorem blk2 (c : Dev nD) (t : Fin cfg0.N) (a : Fin 1024) (b : Fin 1024) :
    (iblk m c 2 t : Vec Ideal S1024x1024 .f32) (ix2 a b) = aR m c (ix2 (rI (t.val / 2) a) (cJ (t.val / 2 % 1) b)) :=
  (rd2 (aR m c) t (ix2 a b)).trans (congrArg (aR m c) (emb2 t a b))

/-- One term of the product of the whole operands. -/
def term (c : Dev nD) (i : Fin 4096) (x : Fin 1024) (k : Fin 2048) : EReal := aA m c (ix2 i k) * aB m c (ix2 x k)

/-- Block `b`'s part of an entry. -/
def part (c : Dev nD) (i : Fin 4096) (x : Fin 1024) (b : ℕ) : EReal := ∑ r : Fin 1024, term m c i x (kB b r)

theorem prod_blk (c : Dev nD) (t : Fin cfg0.N) (a : Fin 1024) (x : Fin 1024) :
    prod (iblk m c 0 t) (iblk m c 1 t) (ix2 a x) = part m c (rI (t.val / 2) a) (cJ (t.val / 2 % 1) x) (t.val % 2) := by
  rw [prod_at]
  unfold part term
  simp only [blk0, blk1]

theorem snd_eq {A B : Type} {p : A × B} {a : A} {b b' : B} (h : p = (a, b)) (hb : b = b') : p.2 = b' := by
  subst h; exact hb
theorem fst_eq {A B : Type} {p : A × B} {a a' : A} {b : B} (h : p = (a, b)) (ha : a = a') : p.1 = a' := by
  subst h; exact ha

theorem first (c : Dev nD) (t : Fin cfg0.N) (h : t.val % 2 = 0) :
    (outsAt0 m c t.val t.isLt).2 = prod (iblk m c 0 t) (iblk m c 1 t) :=
  snd_eq (outsAt0_A m c t h (by omega) (by omega)) (sout0_A_0_eq ..)

theorem later (c : Dev nD) (t : Fin cfg0.N) (h : ¬t.val % 2 = 0) (k : ℕ) (hk : k < cfg0.N) (ek : t.val - 1 = k) :
    (outsAt0 m c t.val t.isLt).2 = fun y => ((outsAt0 m c k hk).2 y + prod (iblk m c 0 t) (iblk m c 1 t) y : EReal) := by
  subst ek
  exact snd_eq (outsAt0_B m c t h (by omega) (by omega)) (sout0_B_0_eq ..)

/-- The scratch holds the blocks so far. -/
theorem state (c : Dev nD) : ∀ (n : ℕ) (hn : n < cfg0.N) (a : Fin 1024) (x : Fin 1024),
    (outsAt0 m c n hn).2 (ix2 a x) = ∑ b ∈ Finset.range (n % 2 + 1), part m c (rI (n / 2) a) (cJ (n / 2 % 1) x) b := by
  intro n
  induction n with
  | zero =>
    intro hn a x
    refine (congrFun (first m c ⟨0, hn⟩ (Nat.zero_mod _)) _).trans ((prod_blk m c ⟨0, hn⟩ a x).trans ?_)
    simp
  | succ n ih =>
    intro hn a x
    by_cases h : (n + 1) % 2 = 0
    · refine (congrFun (first m c ⟨n + 1, hn⟩ h) _).trans ((prod_blk m c ⟨n + 1, hn⟩ a x).trans ?_)
      simp [h]
    · have e1 : (n + 1) / 2 = n / 2 := by omega
      have e2 : (n + 1) / 2 % 1 = n / 2 % 1 := by omega
      have e3 : (n + 1) % 2 = n % 2 + 1 := by omega
      refine (congrFun (later m c ⟨n + 1, hn⟩ h n (Nat.lt_of_succ_lt hn) rfl) _).trans ?_
      rw [e1, e3, Finset.sum_range_succ _ (n % 2 + 1)]
      refine congrArg₂ (fun a b : EReal => a + b) (ih (Nat.lt_of_succ_lt hn) a x) ((prod_blk m c ⟨n + 1, hn⟩ a x).trans ?_)
      show part m c (rI ((n + 1) / 2) a) (cJ ((n + 1) / 2 % 1) x) ((n + 1) % 2) = _
      rw [e1, e3]

/-- What the last block of an entry leaves in the result. -/
theorem last (c : Dev nD) (t : Fin cfg0.N) (h2 : t.val % 2 = 1) (a : Fin 1024) (x : Fin 1024) :
    (outsAt0 m c t.val t.isLt).1 (ix2 a x)
      = (∑ b ∈ Finset.range 2, part m c (rI (t.val / 2) a) (cJ (t.val / 2 % 1) x) b) + aR m c (ix2 (rI (t.val / 2) a) (cJ (t.val / 2 % 1) x)) := by
  have h : ¬t.val % 2 = 0 := by omega
  have hk : t.val - 1 < cfg0.N := Nat.lt_of_le_of_lt (Nat.sub_le _ _) t.isLt
  have s := state m c t.val t.isLt a x
  rw [h2] at s
  have s' := congrFun (snd_eq (outsAt0_B m c t h (by omega) h2) (sout0_B_0_eq ..)) (ix2 a x)
  refine (congrFun (fst_eq (outsAt0_B m c t h (by omega) h2) (out0_B_3_eq ..)) (ix2 a x)).trans ?_
  rw [← s, s']
  refine congrArg _ (blk2 m c t a x)

open Cert.DhzIdeal.Value

/-- The result array at every index. -/
theorem out (c : Dev nD) (i : Fin 4096) (x : Fin 1024) :
    G3 m c (ix2 i x) = (∑ k : Fin 2048, term m c i x k) + aR m c (ix2 i x) := by
  have hp : pt3Of (ix2 i x) = 2 * (1 * (i.val / 1024) + x.val / 1024) + 1 := by
    show 2 * (1 * (i.val / 1024 - 0) + 1 * (x.val / 1024 - 0)) + 1 = _; omega
  have hn : pt3Of (ix2 i x) < cfg0.N := by rw [hp, show cfg0.N = 8 from N_0]; omega
  have hl : loc3Of (ix2 i x) = ix2 (⟨i.val % 1024, Nat.mod_lt _ (by decide)⟩ : Fin 1024) (⟨x.val % 1024, Nat.mod_lt _ (by decide)⟩ : Fin 1024) := by
    funext a; apply Fin.ext
    match a with
    | ⟨0, _⟩ => rfl
    | ⟨1, _⟩ => rfl
  have hs := last m c ⟨pt3Of (ix2 i x), hn⟩ (by show pt3Of (ix2 i x) % 2 = 1; omega) (⟨i.val % 1024, Nat.mod_lt _ (by decide)⟩ : Fin 1024) (⟨x.val % 1024, Nat.mod_lt _ (by decide)⟩ : Fin 1024)
  have ei : rI (pt3Of (ix2 i x) / 2) (⟨i.val % 1024, Nat.mod_lt _ (by decide)⟩ : Fin 1024) = i :=
    Fin.ext (show (1024 * (pt3Of (ix2 i x) / 2) + i.val % 1024) % 4096 = i.val by omega)
  have ex : cJ (pt3Of (ix2 i x) / 2 % 1) (⟨x.val % 1024, Nat.mod_lt _ (by decide)⟩ : Fin 1024) = x :=
    Fin.ext (show (1024 * (pt3Of (ix2 i x) / 2 % 1) + x.val % 1024) % 1024 = x.val by omega)
  dsimp only at hs
  rw [ei, ex, outsAt0_sweep m c _ hn, ← hl] at hs
  unfold G3
  rw [dif_pos hn]
  refine hs.trans ?_
  unfold part
  rw [show ∑ b ∈ Finset.range 2, ∑ r : Fin 1024, term m c i x (kB b r) = ∑ k : Fin 2048, term m c i x k from
    sum_blocks 2 1024 2048 (by decide) (by decide) (fun k => term m c i x k)]

/-! The operands are the arguments. -/

def g0 (c : Dev nD) : Vec Ideal S4096x2048 .f32 := m (c, Proc.tc.devRef main_arg0)
def g1 (c : Dev nD) : Vec Ideal S1024x2048 .f32 := m (c, Proc.tc.devRef main_arg1)
def g2 (c : Dev nD) : Vec Ideal S4096x1024 .f32 := m (c, Proc.tc.devRef main_arg2)

theorem aA_eq (c : Dev nD) : aA m c = V m c main_v0 := rfl

theorem aA_at (c : Dev nD) (a : Fin 4096) (b : Fin 2048) : aA m c (ix2 a b) = g0 m c (ix2 a b) := by
  rw [aA_eq]
  simp only [g0]
  unfold_abbrev_sides
  after_reads_at

theorem aB_eq (c : Dev nD) : aB m c = V m c main_v1 := rfl

theorem aB_at (c : Dev nD) (a : Fin 1024) (b : Fin 2048) : aB m c (ix2 a b) = g1 m c (ix2 a b) := by
  rw [aB_eq]
  simp only [g1]
  unfold_abbrev_sides
  after_reads_at

theorem aR_eq (c : Dev nD) : aR m c = V m c main_arg2 := rfl

theorem aR_at (c : Dev nD) (a : Fin 4096) (b : Fin 1024) : aR m c (ix2 a b) = g2 m c (ix2 a b) := by
  rw [aR_eq]
  simp only [g2]
  unfold_abbrev_sides
  after_reads_at

/-- The reference's result at an index. -/
theorem ref_at (y0 : Vec Ideal S4096x2048 .f32) (y1 : Vec Ideal S1024x2048 .f32) (y2 : Vec Ideal S4096x1024 .f32) (i : Fin 4096) (x : Fin 1024) :
    Cert.DhzReferenceIdeal.Read.val_main_v3 (F := Ideal) y0 y1 y2 (ix2 i x) = (y2 (ix2 i x) : EReal) + ∑ k : Fin 2048, (y0 (ix2 i k) : EReal) * (y1 (ix2 x k) : EReal) := by
  unfold Cert.DhzReferenceIdeal.Read.val_main_v3 Cert.DhzReferenceIdeal.Read.val_main_v2
  pointwise

/-- What the kernel leaves is what the reference gives. -/
theorem terms_eq (c : Dev nD) (i : Fin 4096) (x : Fin 1024) :
    (((∑ k : Fin 2048, term m c i x k) + aR m c (ix2 i x) : EReal)) = (g2 m c (ix2 i x) : EReal) + ∑ k : Fin 2048, (g0 m c (ix2 i k) : EReal) * (g1 m c (ix2 x k) : EReal) := by
  unfold term
  simp only [aA_at, aB_at, aR_at]
  exact add2 _ _

theorem same_at (c : Dev nD) (i : Fin 4096) (x : Fin 1024) :
    Cert.DhzReferenceIdeal.Read.val_main_v3 (F := Ideal) (g0 m c) (g1 m c) (g2 m c) (ix2 i x) = G3 m c (ix2 i x : S4096x1024.Idx) :=
  (ref_at (g0 m c) (g1 m c) (g2 m c) i x).trans ((out m c i x).trans (terms_eq m c i x)).symm

theorem same (c : Dev nD) : Cert.DhzReferenceIdeal.Read.val_main_v3 (F := Ideal) (g0 m c) (g1 m c) (g2 m c) = G3 m c := by
  funext j
  rw [eq_ix2 j]
  exact same_at m c (j 0) (j 1)

end Cert.DhzIdeal.Prod
-- ==== Proof.Dhx.lean ====
module

public import proofs.«01_k».proof.Proof.Gen.DhxIdeal.Value
public import proofs.«01_k».proof.Proof.Gen.DhxReferenceIdeal.Run
public import proofs.«01_k».proof.Proof.Gen.DhxReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the mixer: the gradient of the mixer's input through xbc, what came before it and the product of the cotangent and the transposed weight.
The kernel adds it up in a scratch, block by block of the summed axis. -/

namespace Cert.DhxIdeal.Prod

open Cert.DhxIdeal Cert.DhxIdeal.Gen Idealize.ShloMosaic Idealize.ShloMosaic.TcCoe Cert.Sums

/-- The product of two blocks. -/
def prod (u : Vec Ideal S1024x1024 .bf16) (v : Vec Ideal S1024x1024 .bf16) : Vec Ideal S1024x1024 .f32 :=
  fun y => ∑ r : Fin 1024, (u (ix2 (y 0) r) : EReal) * (v (ix2 (y 1) r) : EReal)

theorem prod_at (u : Vec Ideal S1024x1024 .bf16) (v : Vec Ideal S1024x1024 .bf16) (a : Fin 1024) (x : Fin 1024) :
    prod u v (ix2 a x) = ∑ r : Fin 1024, (u (ix2 a r) : EReal) * (v (ix2 x r) : EReal) := rfl

theorem pay1_at (u : Vec Ideal S1024x1024 .bf16) (v : Vec Ideal S1024x1024 .bf16) (a : Fin 1024) (x : Fin 1024) :
    k0_pay1 u v (ix2 a x) = ∑ r : Fin 1024, (u (ix2 a r) : EReal) * (v (ix2 x r) : EReal) := by
  pointwise [k0_pay1]

theorem pay1_eq (u : Vec Ideal S1024x1024 .bf16) (v : Vec Ideal S1024x1024 .bf16) : k0_pay1 u v = prod u v := by
  funext y; rw [eq_ix2 y]; exact pay1_at u v (y 0) (y 1)

theorem pay2_eq (u : Vec Ideal S1024x1024 .bf16) (v : Vec Ideal S1024x1024 .bf16) : k0_pay2 u v = prod u v := by
  rw [← pay1_eq]; funext y; pointwise [k0_pay2]

theorem pay3_eq (u : Vec Ideal S1024x1024 .bf16) (v : Vec Ideal S1024x1024 .bf16) (s : Vec Ideal S1024x1024 .f32) :
    k0_pay3 u v s = fun y => (s y + prod u v y : EReal) := by
  rw [← pay1_eq]; funext y; pointwise [k0_pay3]

theorem pay4_eq (s : Vec Ideal S1024x1024 .f32) (x2 : Vec Ideal S1024x1024 .f32) :
    k0_pay4 s x2 = fun y => (s y + x2 y : EReal) := by
  funext y; pointwise [k0_pay4]

theorem sout0_A_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (a7 : Memref sig .tc .vmem S1024x1024 .f32) (ha7 : a7.IsWhole) (hc0 : cond0_0 i) (hc1 : ¬cond0_1 i) (hc2 : ¬cond0_2 i)
    (x0 : Vec Ideal S1024x1024 .bf16) (x1 : Vec Ideal S1024x1024 .bf16) (x2 : Vec Ideal S1024x1024 .f32) :
    sout0_A_0 c i a3 ha3 a4 ha4 a5 ha5 a6 ha6 a7 ha7 hc0 hc1 hc2 x0 x1 x2 = prod x0 x1 := by
  unfold sout0_A_0
  rw [View.read_writes_eq_canon _ _ _ (scover0_A_0 c i a3 ha3 a4 ha4 a5 ha5 a6 ha6 a7 ha7 hc0 hc1 hc2 x0 x1 x2)]
  unfold kernelRun0_A
  dsimp only
  sl_unfold_words
  simp only [View.readAt_eq_ld, ha3.read_unread, ha4.read_unread, ha5.read_unread, ha6.read_unread, ha7.read_unread, View.ld_unit_zero (S := S1024x1024) hz2]
  rw [View.canon_cons_unit_zero hz2]
  exact pay2_eq ..

theorem sout0_B_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (a7 : Memref sig .tc .vmem S1024x1024 .f32) (ha7 : a7.IsWhole) (hc0 : ¬cond0_0 i) (hc1 : cond0_1 i) (hc2 : ¬cond0_2 i)
    (x0 : Vec Ideal S1024x1024 .bf16) (x1 : Vec Ideal S1024x1024 .bf16) (x2 : Vec Ideal S1024x1024 .f32) (xs0 : Vec Ideal S1024x1024 .f32) :
    sout0_B_0 c i a3 ha3 a4 ha4 a5 ha5 a6 ha6 a7 ha7 hc0 hc1 hc2 x0 x1 x2 xs0 = fun y => (xs0 y + prod x0 x1 y : EReal) := by
  unfold sout0_B_0
  rw [View.read_writes_eq_canon _ _ _ (scover0_B_0 c i a3 ha3 a4 ha4 a5 ha5 a6 ha6 a7 ha7 hc0 hc1 hc2 x0 x1 x2 xs0)]
  unfold kernelRun0_B
  dsimp only
  sl_unfold_words
  simp only [View.readAt_eq_ld, ha3.read_unread, ha4.read_unread, ha5.read_unread, ha6.read_unread, ha7.read_unread, View.ld_unit_zero (S := S1024x1024) hz2]
  rw [View.canon_cons_unit_zero hz2]
  exact pay3_eq ..

theorem sout0_C_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (a7 : Memref sig .tc .vmem S1024x1024 .f32) (ha7 : a7.IsWhole) (hc0 : ¬cond0_0 i) (hc1 : cond0_1 i) (hc2 : cond0_2 i)
    (x0 : Vec Ideal S1024x1024 .bf16) (x1 : Vec Ideal S1024x1024 .bf16) (x2 : Vec Ideal S1024x1024 .f32) (xs0 : Vec Ideal S1024x1024 .f32) :
    sout0_C_0 c i a3 ha3 a4 ha4 a5 ha5 a6 ha6 a7 ha7 hc0 hc1 hc2 x0 x1 x2 xs0 = fun y => (xs0 y + prod x0 x1 y : EReal) := by
  unfold sout0_C_0
  rw [View.read_writes_eq_canon _ _ _ (scover0_C_0 c i a3 ha3 a4 ha4 a5 ha5 a6 ha6 a7 ha7 hc0 hc1 hc2 x0 x1 x2 xs0)]
  unfold kernelRun0_C
  dsimp only
  sl_unfold_words
  simp only [View.readAt_eq_ld, ha3.read_unread, ha4.read_unread, ha5.read_unread, ha6.read_unread, ha7.read_unread, View.ld_unit_zero (S := S1024x1024) hz2]
  rw [View.canon_cons_unit_zero hz2]
  exact pay3_eq ..

theorem out0_C_3_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (a7 : Memref sig .tc .vmem S1024x1024 .f32) (ha7 : a7.IsWhole) (hc0 : ¬cond0_0 i) (hc1 : cond0_1 i) (hc2 : cond0_2 i)
    (x0 : Vec Ideal S1024x1024 .bf16) (x1 : Vec Ideal S1024x1024 .bf16) (x2 : Vec Ideal S1024x1024 .f32) (xs0 : Vec Ideal S1024x1024 .f32) :
    out0_C_3 c i a3 ha3 a4 ha4 a5 ha5 a6 ha6 a7 ha7 hc0 hc1 hc2 x0 x1 x2 xs0 = fun y => (xs0 y + prod x0 x1 y + x2 y : EReal) := by
  unfold out0_C_3
  rw [View.read_writes_eq_canon _ _ _ (cover0_C_3 c i a3 ha3 a4 ha4 a5 ha5 a6 ha6 a7 ha7 hc0 hc1 hc2 x0 x1 x2 xs0)]
  unfold kernelRun0_C
  dsimp only
  sl_unfold_words
  simp only [View.readAt_eq_ld, ha3.read_unread, ha4.read_unread, ha5.read_unread, ha6.read_unread, ha7.read_unread, View.ld_unit_zero (S := S1024x1024) hz2]
  rw [View.canon_cons_unit_zero hz2, View.readCov_unit_zero _ hz2]
  exact (pay4_eq ..).trans (by rw [pay3_eq])

/-! Which block each window reads at a grid point. -/

theorem tlt (t : Fin cfg0.N) : t.val < 12 := lt_of_lt_of_eq t.isLt (show cfg0.N = 12 from N_0)

/-- Block `b`'s rows of the result, its columns, and its part of the summed axis. -/
def rI (b : ℕ) (r : Fin 1024) : Fin 4096 := ⟨(1024 * b + r.val) % 4096, Nat.mod_lt _ (by decide)⟩
def cJ (b : ℕ) (r : Fin 1024) : Fin 1024 := ⟨(1024 * b + r.val) % 1024, Nat.mod_lt _ (by decide)⟩
def kB (b : ℕ) (r : Fin 1024) : Fin 3072 := ⟨(1024 * b + r.val) % 3072, Nat.mod_lt _ (by decide)⟩

variable (m : (ℓ : Loc nD τ sig) → Buf (Elt Ideal) ℓ)

/-- Operand 0, as the kernel's window names it. -/
def aA (c : Dev nD) : Vec Ideal S4096x3072 .bf16 := V m c (Pipeline.arrRef spec0 0)

theorem index0 : ∀ t : Fin cfg0.N, win0_0.index t (0 : Fin 2) = t.val / 3 ∧ win0_0.index t (1 : Fin 2) = t.val % 3 := by decide +kernel

theorem rd0 (A : S4096x3072.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (rI (t.val / 3) a) (kB (t.val % 3) b) : S4096x3072.Idx) := by
  have ht := tlt t
  have h0 : win0_0.index t 0 * 1024 + 1 * a.val = (1024 * (t.val / 3) + a.val) % 4096 := by rw [(index0 t).1]; omega
  have h1 : win0_0.index t 1 * 1024 + 1 * b.val = (1024 * (t.val % 3) + b.val) % 3072 := by rw [(index0 t).2]; omega
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .bf16) (ix2 a b) = aA m c (ix2 (rI (t.val / 3) a) (kB (t.val % 3) b)) :=
  (rd0 (aA m c) t (ix2 a b)).trans (congrArg (aA m c) (emb0 t a b))

/-- Operand 1, as the kernel's window names it. -/
def aB (c : Dev nD) : Vec Ideal S1024x3072 .bf16 := V m c (Pipeline.arrRef spec0 1)

theorem index1 : ∀ t : Fin cfg0.N, win0_1.index t (0 : Fin 2) = t.val / 3 % 1 ∧ win0_1.index t (1 : Fin 2) = t.val % 3 := by decide +kernel

theorem rd1 (A : S1024x3072.Idx → EReal) (t : Fin cfg0.N) (y : S1024x1024.Idx) :
    (((cfg0.win 1).blk t).view.read (Elt Ideal) A) y = A (((cfg0.win 1).blk t).view.emb y) := rfl

theorem emb1 (t : Fin cfg0.N) (a : Fin 1024) (b : Fin 1024) :
    ((cfg0.win 1).blk t).view.emb (ix2 a b : S1024x1024.Idx) = (ix2 (cJ (t.val / 3 % 1) a) (kB (t.val % 3) b) : S1024x3072.Idx) := by
  have ht := tlt t
  have h0 : win0_1.index t 0 * 1024 + 1 * a.val = (1024 * (t.val / 3 % 1) + a.val) % 1024 := by rw [(index1 t).1]; omega
  have h1 : win0_1.index t 1 * 1024 + 1 * b.val = (1024 * (t.val % 3) + b.val) % 3072 := by rw [(index1 t).2]; omega
  funext x; apply Fin.ext
  match x with
  | ⟨0, _⟩ => exact h0
  | ⟨1, _⟩ => exact h1

theorem blk1 (c : Dev nD) (t : Fin cfg0.N) (a : Fin 1024) (b : Fin 1024) :
    (iblk m c 1 t : Vec Ideal S1024x1024 .bf16) (ix2 a b) = aB m c (ix2 (cJ (t.val / 3 % 1) a) (kB (t.val % 3) b)) :=
  (rd1 (aB m c) t (ix2 a b)).trans (congrArg (aB m c) (emb1 t a b))

/-- Operand 2, as the kernel's window names it. -/
def aR (c : Dev nD) : Vec Ideal S4096x1024 .f32 := V m c (Pipeline.arrRef spec0 2)

theorem index2 : ∀ t : Fin cfg0.N, win0_2.index t (0 : Fin 2) = t.val / 3 ∧ win0_2.index t (1 : Fin 2) = t.val / 3 % 1 := by decide +kernel

theorem rd2 (A : S4096x1024.Idx → EReal) (t : Fin cfg0.N) (y : S1024x1024.Idx) :
    (((cfg0.win 2).blk t).view.read (Elt Ideal) A) y = A (((cfg0.win 2).blk t).view.emb y) := rfl

theorem emb2 (t : Fin cfg0.N) (a : Fin 1024) (b : Fin 1024) :
    ((cfg0.win 2).blk t).view.emb (ix2 a b : S1024x1024.Idx) = (ix2 (rI (t.val / 3) a) (cJ (t.val / 3 % 1) b) : S4096x1024.Idx) := by
  have ht := tlt t
  have h0 : win0_2.index t 0 * 1024 + 1 * a.val = (1024 * (t.val / 3) + a.val) % 4096 := by rw [(index2 t).1]; omega
  have h1 : win0_2.index t 1 * 1024 + 1 * b.val = (1024 * (t.val / 3 % 1) + b.val) % 1024 := by rw [(index2 t).2]; omega
  funext x; apply Fin.ext
  match x with
  | ⟨0, _⟩ => exact h0
  | ⟨1, _⟩ => exact h1

theorem blk2 (c : Dev nD) (t : Fin cfg0.N) (a : Fin 1024) (b : Fin 1024) :
    (iblk m c 2 t : Vec Ideal S1024x1024 .f32) (ix2 a b) = aR m c (ix2 (rI (t.val / 3) a) (cJ (t.val / 3 % 1) b)) :=
  (rd2 (aR m c) t (ix2 a b)).trans (congrArg (aR m c) (emb2 t a b))

/-- One term of the product of the whole operands. -/
def term (c : Dev nD) (i : Fin 4096) (x : Fin 1024) (k : Fin 3072) : EReal := aA m c (ix2 i k) * aB m c (ix2 x k)

/-- Block `b`'s part of an entry. -/
def part (c : Dev nD) (i : Fin 4096) (x : Fin 1024) (b : ℕ) : EReal := ∑ r : Fin 1024, term m c i x (kB b r)

theorem prod_blk (c : Dev nD) (t : Fin cfg0.N) (a : Fin 1024) (x : Fin 1024) :
    prod (iblk m c 0 t) (iblk m c 1 t) (ix2 a x) = part m c (rI (t.val / 3) a) (cJ (t.val / 3 % 1) x) (t.val % 3) := by
  rw [prod_at]
  unfold part term
  simp only [blk0, blk1]

theorem snd_eq {A B : Type} {p : A × B} {a : A} {b b' : B} (h : p = (a, b)) (hb : b = b') : p.2 = b' := by
  subst h; exact hb
theorem fst_eq {A B : Type} {p : A × B} {a a' : A} {b : B} (h : p = (a, b)) (ha : a = a') : p.1 = a' := by
  subst h; exact ha

theorem first (c : Dev nD) (t : Fin cfg0.N) (h : t.val % 3 = 0) :
    (outsAt0 m c t.val t.isLt).2 = prod (iblk m c 0 t) (iblk m c 1 t) :=
  snd_eq (outsAt0_A m c t h (by omega) (by omega)) (sout0_A_0_eq ..)

theorem later (c : Dev nD) (t : Fin cfg0.N) (h : ¬t.val % 3 = 0) (k : ℕ) (hk : k < cfg0.N) (ek : t.val - 1 = k) :
    (outsAt0 m c t.val t.isLt).2 = fun y => ((outsAt0 m c k hk).2 y + prod (iblk m c 0 t) (iblk m c 1 t) y : EReal) := by
  subst ek
  by_cases h2 : t.val % 3 = 2
  · exact snd_eq (outsAt0_C m c t h (by omega) h2) (sout0_C_0_eq ..)
  · exact snd_eq (outsAt0_B m c t h (by omega) h2) (sout0_B_0_eq ..)

/-- The scratch holds the blocks so far. -/
theorem state (c : Dev nD) : ∀ (n : ℕ) (hn : n < cfg0.N) (a : Fin 1024) (x : Fin 1024),
    (outsAt0 m c n hn).2 (ix2 a x) = ∑ b ∈ Finset.range (n % 3 + 1), part m c (rI (n / 3) a) (cJ (n / 3 % 1) x) b := by
  intro n
  induction n with
  | zero =>
    intro hn a x
    refine (congrFun (first m c ⟨0, hn⟩ (Nat.zero_mod _)) _).trans ((prod_blk m c ⟨0, hn⟩ a x).trans ?_)
    simp
  | succ n ih =>
    intro hn a x
    by_cases h : (n + 1) % 3 = 0
    · refine (congrFun (first m c ⟨n + 1, hn⟩ h) _).trans ((prod_blk m c ⟨n + 1, hn⟩ a x).trans ?_)
      simp [h]
    · have e1 : (n + 1) / 3 = n / 3 := by omega
      have e2 : (n + 1) / 3 % 1 = n / 3 % 1 := by omega
      have e3 : (n + 1) % 3 = n % 3 + 1 := by omega
      refine (congrFun (later m c ⟨n + 1, hn⟩ h n (Nat.lt_of_succ_lt hn) rfl) _).trans ?_
      rw [e1, e3, Finset.sum_range_succ _ (n % 3 + 1)]
      refine congrArg₂ (fun a b : EReal => a + b) (ih (Nat.lt_of_succ_lt hn) a x) ((prod_blk m c ⟨n + 1, hn⟩ a x).trans ?_)
      show part m c (rI ((n + 1) / 3) a) (cJ ((n + 1) / 3 % 1) x) ((n + 1) % 3) = _
      rw [e1, e3]

/-- What the last block of an entry leaves in the result. -/
theorem last (c : Dev nD) (t : Fin cfg0.N) (h2 : t.val % 3 = 2) (a : Fin 1024) (x : Fin 1024) :
    (outsAt0 m c t.val t.isLt).1 (ix2 a x)
      = (∑ b ∈ Finset.range 3, part m c (rI (t.val / 3) a) (cJ (t.val / 3 % 1) x) b) + aR m c (ix2 (rI (t.val / 3) a) (cJ (t.val / 3 % 1) x)) := by
  have h : ¬t.val % 3 = 0 := by omega
  have hk : t.val - 1 < cfg0.N := Nat.lt_of_le_of_lt (Nat.sub_le _ _) t.isLt
  have s := state m c t.val t.isLt a x
  rw [h2] at s
  have s' := congrFun (snd_eq (outsAt0_C m c t h (by omega) h2) (sout0_C_0_eq ..)) (ix2 a x)
  refine (congrFun (fst_eq (outsAt0_C m c t h (by omega) h2) (out0_C_3_eq ..)) (ix2 a x)).trans ?_
  rw [← s, s']
  refine congrArg _ (blk2 m c t a x)

open Cert.DhxIdeal.Value

/-- The result array at every index. -/
theorem out (c : Dev nD) (i : Fin 4096) (x : Fin 1024) :
    G3 m c (ix2 i x) = (∑ k : Fin 3072, term m c i x k) + aR m c (ix2 i x) := by
  have hp : pt3Of (ix2 i x) = 3 * (1 * (i.val / 1024) + x.val / 1024) + 2 := by
    show 3 * (1 * (i.val / 1024 - 0) + 1 * (x.val / 1024 - 0)) + 2 = _; omega
  have hn : pt3Of (ix2 i x) < cfg0.N := by rw [hp, show cfg0.N = 12 from N_0]; omega
  have hl : loc3Of (ix2 i x) = ix2 (⟨i.val % 1024, Nat.mod_lt _ (by decide)⟩ : Fin 1024) (⟨x.val % 1024, Nat.mod_lt _ (by decide)⟩ : Fin 1024) := by
    funext a; apply Fin.ext
    match a with
    | ⟨0, _⟩ => rfl
    | ⟨1, _⟩ => rfl
  have hs := last m c ⟨pt3Of (ix2 i x), hn⟩ (by show pt3Of (ix2 i x) % 3 = 2; omega) (⟨i.val % 1024, Nat.mod_lt _ (by decide)⟩ : Fin 1024) (⟨x.val % 1024, Nat.mod_lt _ (by decide)⟩ : Fin 1024)
  have ei : rI (pt3Of (ix2 i x) / 3) (⟨i.val % 1024, Nat.mod_lt _ (by decide)⟩ : Fin 1024) = i :=
    Fin.ext (show (1024 * (pt3Of (ix2 i x) / 3) + i.val % 1024) % 4096 = i.val by omega)
  have ex : cJ (pt3Of (ix2 i x) / 3 % 1) (⟨x.val % 1024, Nat.mod_lt _ (by decide)⟩ : Fin 1024) = x :=
    Fin.ext (show (1024 * (pt3Of (ix2 i x) / 3 % 1) + x.val % 1024) % 1024 = x.val by omega)
  dsimp only at hs
  rw [ei, ex, outsAt0_sweep m c _ hn, ← hl] at hs
  unfold G3
  rw [dif_pos hn]
  refine hs.trans ?_
  unfold part
  rw [show ∑ b ∈ Finset.range 3, ∑ r : Fin 1024, term m c i x (kB b r) = ∑ k : Fin 3072, term m c i x k from
    sum_blocks 3 1024 3072 (by decide) (by decide) (fun k => term m c i x k)]

/-! The operands are the arguments. -/

def g0 (c : Dev nD) : Vec Ideal S4096x3072 .f32 := m (c, Proc.tc.devRef main_arg0)
def g1 (c : Dev nD) : Vec Ideal S1024x3072 .f32 := m (c, Proc.tc.devRef main_arg1)
def g2 (c : Dev nD) : Vec Ideal S4096x1024 .f32 := m (c, Proc.tc.devRef main_arg2)

theorem aA_eq (c : Dev nD) : aA m c = V m c main_v0 := rfl

theorem aA_at (c : Dev nD) (a : Fin 4096) (b : Fin 3072) : aA m c (ix2 a b) = g0 m c (ix2 a b) := by
  rw [aA_eq]
  simp only [g0]
  unfold_abbrev_sides
  after_reads_at

theorem aB_eq (c : Dev nD) : aB m c = V m c main_v1 := rfl

theorem aB_at (c : Dev nD) (a : Fin 1024) (b : Fin 3072) : aB m c (ix2 a b) = g1 m c (ix2 a b) := by
  rw [aB_eq]
  simp only [g1]
  unfold_abbrev_sides
  after_reads_at

theorem aR_eq (c : Dev nD) : aR m c = V m c main_arg2 := rfl

theorem aR_at (c : Dev nD) (a : Fin 4096) (b : Fin 1024) : aR m c (ix2 a b) = g2 m c (ix2 a b) := by
  rw [aR_eq]
  simp only [g2]
  unfold_abbrev_sides
  after_reads_at

/-- The reference's result at an index. -/
theorem ref_at (y0 : Vec Ideal S4096x3072 .f32) (y1 : Vec Ideal S1024x3072 .f32) (y2 : Vec Ideal S4096x1024 .f32) (i : Fin 4096) (x : Fin 1024) :
    Cert.DhxReferenceIdeal.Read.val_main_v3 (F := Ideal) y0 y1 y2 (ix2 i x) = (y2 (ix2 i x) : EReal) + ∑ k : Fin 3072, (y0 (ix2 i k) : EReal) * (y1 (ix2 x k) : EReal) := by
  unfold Cert.DhxReferenceIdeal.Read.val_main_v3 Cert.DhxReferenceIdeal.Read.val_main_v2
  pointwise

/-- What the kernel leaves is what the reference gives. -/
theorem terms_eq (c : Dev nD) (i : Fin 4096) (x : Fin 1024) :
    (((∑ k : Fin 3072, term m c i x k) + aR m c (ix2 i x) : EReal)) = (g2 m c (ix2 i x) : EReal) + ∑ k : Fin 3072, (g0 m c (ix2 i k) : EReal) * (g1 m c (ix2 x k) : EReal) := by
  unfold term
  simp only [aA_at, aB_at, aR_at]
  exact add2 _ _

theorem same_at (c : Dev nD) (i : Fin 4096) (x : Fin 1024) :
    Cert.DhxReferenceIdeal.Read.val_main_v3 (F := Ideal) (g0 m c) (g1 m c) (g2 m c) (ix2 i x) = G3 m c (ix2 i x : S4096x1024.Idx) :=
  (ref_at (g0 m c) (g1 m c) (g2 m c) i x).trans ((out m c i x).trans (terms_eq m c i x)).symm

theorem same (c : Dev nD) : Cert.DhxReferenceIdeal.Read.val_main_v3 (F := Ideal) (g0 m c) (g1 m c) (g2 m c) = G3 m c := by
  funext j
  rw [eq_ix2 j]
  exact same_at m c (j 0) (j 1)

end Cert.DhxIdeal.Prod
-- ==== Proof.Dha.lean ====
module

public import proofs.«01_k».proof.Proof.Gen.DhaIdeal.Value
public import proofs.«01_k».proof.Proof.Gen.DhaReferenceIdeal.Run
public import proofs.«01_k».proof.Proof.Gen.DhaReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the mixer: the gradient of the mixer's input through a gate, added to what came before it.
The kernel forms each block of the result at one grid point. -/

namespace Cert.DhaIdeal.Prod

open Cert.DhaIdeal Cert.DhaIdeal.Gen Idealize.ShloMosaic Idealize.ShloMosaic.TcCoe Cert.Sums Idealize.SL.Sem

theorem pay1_at (u : Vec Ideal S1024x1024 .bf16) (v : Vec Ideal S1024x1024 .bf16) (z : Vec Ideal S1024x1024 .f32) (a : Fin 1024) (x : Fin 1024) :
    k0_pay1 u v z (ix2 a x) = (∑ r : Fin 1024, (u (ix2 a r) : EReal) * (v (ix2 x r) : EReal)) + z (ix2 a x) := by
  pointwise [k0_pay1]

theorem out_eq (u : Vec Ideal S1024x1024 .bf16) (v : Vec Ideal S1024x1024 .bf16) (z : Vec Ideal S1024x1024 .f32) : out0_3 u v z = k0_pay1 u v z := by
  unfold out0_3
  rw [View.canon_cons_unit_zero hz2, View.ld_unit_zero (S := S1024x1024) hz2, View.ld_unit_zero (S := S1024x1024) hz2, View.ld_unit_zero (S := S1024x1024) hz2]

/-! Which block each window reads at a grid point. -/

theorem tlt (t : Fin cfg0.N) : t.val < 4 := lt_of_lt_of_eq t.isLt (show cfg0.N = 4 from N_0)

/-- Block `b`'s rows of the result and its columns. -/
def rI (b : ℕ) (r : Fin 1024) : Fin 4096 := ⟨(1024 * b + r.val) % 4096, Nat.mod_lt _ (by decide)⟩
def cJ (b : ℕ) (r : Fin 1024) : Fin 1024 := ⟨(1024 * b + r.val) % 1024, Nat.mod_lt _ (by decide)⟩

variable (m : (ℓ : Loc nD τ sig) → Buf (Elt Ideal) ℓ)

/-- Operand 0, as the kernel's window names it. -/
def aA (c : Dev nD) : Vec Ideal S4096x1024 .bf16 := V m c (Pipeline.arrRef spec0 0)

theorem index0 : ∀ t : Fin cfg0.N, win0_0.index t (0 : Fin 2) = t.val / 1 ∧ win0_0.index t (1 : Fin 2) = 0 := by decide +kernel

theorem rd0 (A : S4096x1024.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (rI (t.val / 1) a) b : S4096x1024.Idx) := by
  have ht := tlt t
  have h0 : win0_0.index t 0 * 1024 + 1 * a.val = (1024 * (t.val / 1) + a.val) % 4096 := by rw [(index0 t).1]; omega
  have h1 : win0_0.index t 1 * 1024 + 1 * b.val = b.val := by rw [(index0 t).2, Nat.zero_mul, Nat.zero_add, Nat.one_mul]
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .bf16) (ix2 a b) = aA m c (ix2 (rI (t.val / 1) a) b) :=
  (rd0 (aA m c) t (ix2 a b)).trans (congrArg (aA m c) (emb0 t a b))

/-- Operand 1, as the kernel's window names it. -/
def aB (c : Dev nD) : Vec Ideal S1024x1024 .bf16 := V m c (Pipeline.arrRef spec0 1)

theorem index1 : ∀ t : Fin cfg0.N, win0_1.index t (0 : Fin 2) = t.val % 1 ∧ win0_1.index t (1 : Fin 2) = 0 := by decide +kernel

theorem rd1 (A : S1024x1024.Idx → EReal) (t : Fin cfg0.N) (y : S1024x1024.Idx) :
    (((cfg0.win 1).blk t).view.read (Elt Ideal) A) y = A (((cfg0.win 1).blk t).view.emb y) := rfl

theorem emb1 (t : Fin cfg0.N) (a : Fin 1024) (b : Fin 1024) :
    ((cfg0.win 1).blk t).view.emb (ix2 a b : S1024x1024.Idx) = (ix2 (cJ (t.val % 1) a) b : S1024x1024.Idx) := by
  have ht := tlt t
  have h0 : win0_1.index t 0 * 1024 + 1 * a.val = (1024 * (t.val % 1) + a.val) % 1024 := by rw [(index1 t).1]; omega
  have h1 : win0_1.index t 1 * 1024 + 1 * b.val = b.val := by rw [(index1 t).2, Nat.zero_mul, Nat.zero_add, Nat.one_mul]
  funext x; apply Fin.ext
  match x with
  | ⟨0, _⟩ => exact h0
  | ⟨1, _⟩ => exact h1

theorem blk1 (c : Dev nD) (t : Fin cfg0.N) (a : Fin 1024) (b : Fin 1024) :
    (iblk m c 1 t : Vec Ideal S1024x1024 .bf16) (ix2 a b) = aB m c (ix2 (cJ (t.val % 1) a) b) :=
  (rd1 (aB m c) t (ix2 a b)).trans (congrArg (aB m c) (emb1 t a b))

/-- Operand 2, as the kernel's window names it. -/
def aR (c : Dev nD) : Vec Ideal S4096x1024 .f32 := V m c (Pipeline.arrRef spec0 2)

theorem index2 : ∀ t : Fin cfg0.N, win0_2.index t (0 : Fin 2) = t.val / 1 ∧ win0_2.index t (1 : Fin 2) = t.val % 1 := by decide +kernel

theorem rd2 (A : S4096x1024.Idx → EReal) (t : Fin cfg0.N) (y : S1024x1024.Idx) :
    (((cfg0.win 2).blk t).view.read (Elt Ideal) A) y = A (((cfg0.win 2).blk t).view.emb y) := rfl

theorem emb2 (t : Fin cfg0.N) (a : Fin 1024) (b : Fin 1024) :
    ((cfg0.win 2).blk t).view.emb (ix2 a b : S1024x1024.Idx) = (ix2 (rI (t.val / 1) a) (cJ (t.val % 1) b) : S4096x1024.Idx) := by
  have ht := tlt t
  have h0 : win0_2.index t 0 * 1024 + 1 * a.val = (1024 * (t.val / 1) + a.val) % 4096 := by rw [(index2 t).1]; omega
  have h1 : win0_2.index t 1 * 1024 + 1 * b.val = (1024 * (t.val % 1) + b.val) % 1024 := by rw [(index2 t).2]; omega
  funext x; apply Fin.ext
  match x with
  | ⟨0, _⟩ => exact h0
  | ⟨1, _⟩ => exact h1

theorem blk2 (c : Dev nD) (t : Fin cfg0.N) (a : Fin 1024) (b : Fin 1024) :
    (iblk m c 2 t : Vec Ideal S1024x1024 .f32) (ix2 a b) = aR m c (ix2 (rI (t.val / 1) a) (cJ (t.val % 1) b)) :=
  (rd2 (aR m c) t (ix2 a b)).trans (congrArg (aR m c) (emb2 t a b))

theorem index3 : ∀ t : Fin cfg0.N, win0_3.index t (0 : Fin 2) = t.val / 1 ∧ win0_3.index t (1 : Fin 2) = t.val % 1 := by decide +kernel

theorem rd3 (A : S4096x1024.Idx → EReal) (t : Fin cfg0.N) (y : S1024x1024.Idx) :
    (((cfg0.win 3).blk t).view.read (Elt Ideal) A) y = A (((cfg0.win 3).blk t).view.emb y) := rfl

theorem emb3 (t : Fin cfg0.N) (a : Fin 1024) (b : Fin 1024) :
    ((cfg0.win 3).blk t).view.emb (ix2 a b : S1024x1024.Idx) = (ix2 (rI (t.val / 1) a) (cJ (t.val % 1) b) : S4096x1024.Idx) := by
  have ht := tlt t
  have h0 : win0_3.index t 0 * 1024 + 1 * a.val = (1024 * (t.val / 1) + a.val) % 4096 := by rw [(index3 t).1]; omega
  have h1 : win0_3.index t 1 * 1024 + 1 * b.val = (1024 * (t.val % 1) + b.val) % 1024 := by rw [(index3 t).2]; omega
  funext x; apply Fin.ext
  match x with
  | ⟨0, _⟩ => exact h0
  | ⟨1, _⟩ => exact h1

/-- One term of the product of the whole operands. -/
def term (c : Dev nD) (i : Fin 4096) (x : Fin 1024) (k : Fin 1024) : EReal := aA m c (ix2 i k) * aB m c (ix2 x k)

/-- An entry of the result, and the result. -/
def entry (c : Dev nD) (i : Fin 4096) (x : Fin 1024) : EReal := (∑ k : Fin 1024, term m c i x k) + aR m c (ix2 i x)
def G (c : Dev nD) : Buf (Elt Ideal) ((c : Thread nD τ).loc main_v2) := fun i : S4096x1024.Idx => entry m c (i 0) (i 1)

theorem G_at (c : Dev nD) (i : Fin 4096) (x : Fin 1024) : G m c (ix2 i x : S4096x1024.Idx) = entry m c i x := rfl

theorem out_blk (c : Dev nD) (t : Fin cfg0.N) (a : Fin 1024) (x : Fin 1024) :
    out0_3 (iblk m c 0 t) (iblk m c 1 t) (iblk m c 2 t) (ix2 a x) = entry m c (rI (t.val / 1) a) (cJ (t.val % 1) x) := by
  rw [out_eq]
  refine (pay1_at _ _ _ a x).trans ?_
  unfold entry term
  simp only [blk0, blk1, blk2]

/-- What a grid point writes back is its block of the result. -/
theorem flushed (c : Dev nD) (t : Fin cfg0.N) :
    (dats m 0 c).flushed 3 t = ((cfg0.win 3).blk t).view.read (Elt Ideal) (G m c) := by
  rw [Value.flushed3]
  funext y
  have hx : (cfg0.win 3).xinj (grid0.coords t) y = (ix2 (⟨(y 0).val, (y 0).isLt⟩ : Fin 1024) (⟨(y 1).val, (y 1).isLt⟩ : Fin 1024) : S1024x1024.Idx) := by
    funext a; apply Fin.ext
    match a with
    | ⟨0, _⟩ => rfl
    | ⟨1, _⟩ => rfl
  have hy : ((cfg0.win 3).blk t).view.emb y = (ix2 (rI (t.val / 1) (⟨(y 0).val, (y 0).isLt⟩ : Fin 1024)) (cJ (t.val % 1) (⟨(y 1).val, (y 1).isLt⟩ : Fin 1024)) : S4096x1024.Idx) :=
    (congrArg _ hx).trans (emb3 t _ _)
  show out0_3 (iblk m c 0 t) (iblk m c 1 t) (iblk m c 2 t) ((cfg0.win 3).xinj (grid0.coords t) y) = G m c (((cfg0.win 3).blk t).view.emb y)
  rw [hx]
  exact (out_blk m c t _ _).trans (congrArg (G m c) hy).symm

/-- Every index is in the block that some point writes back. -/
theorem covered (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  have hn : 1 * ((i 0).val / 1024) + (i 1).val / 1024 < cfg0.N := by rw [show cfg0.N = 4 from N_0]; omega
  refine ⟨⟨_, hn⟩, flush0_3 _, ?_⟩
  obtain ⟨q0, q1⟩ := index3 ⟨_, hn⟩
  dsimp only at q0 q1
  show i ∈ ((View.whole main_v2).slice (win0_3.rect ⟨_, hn⟩)).set
  rw [View.set_slice_whole, Rect.mem_set_unit]
  intro a
  match a with
  | ⟨0, _⟩ => show win0_3.index ⟨_, hn⟩ (0 : Fin 2) * 1024 ≤ (i 0).val ∧ (i 0).val < win0_3.index ⟨_, hn⟩ (0 : Fin 2) * 1024 + 1024; omega
  | ⟨1, _⟩ => show win0_3.index ⟨_, hn⟩ (1 : Fin 2) * 1024 ≤ (i 1).val ∧ (i 1).val < win0_3.index ⟨_, hn⟩ (1 : Fin 2) * 1024 + 1024; omega

/-- The result array after the run. -/
theorem final (c : Dev nD) : (dats m 0 c).arrAt 3 cfg0.N = G m c :=
  (dats m 0 c).arrAt_eq_of_cover 3 _ (fun t _ => flushed m c t) covered

/-! The operands are the arguments. -/

def g0 (c : Dev nD) : Vec Ideal S4096x1024 .f32 := m (c, Proc.tc.devRef main_arg0)
def g1 (c : Dev nD) : Vec Ideal S1024x1024 .f32 := m (c, Proc.tc.devRef main_arg1)
def g2 (c : Dev nD) : Vec Ideal S4096x1024 .f32 := m (c, Proc.tc.devRef main_arg2)

theorem aA_eq (c : Dev nD) : aA m c = V m c main_v0 := rfl

theorem aA_at (c : Dev nD) (a : Fin 4096) (b : Fin 1024) : aA m c (ix2 a b) = g0 m c (ix2 a b) := by
  rw [aA_eq]
  simp only [g0]
  unfold_abbrev_sides
  after_reads_at

theorem aB_eq (c : Dev nD) : aB m c = V m c main_v1 := rfl

theorem aB_at (c : Dev nD) (a : Fin 1024) (b : Fin 1024) : aB m c (ix2 a b) = g1 m c (ix2 a b) := by
  rw [aB_eq]
  simp only [g1]
  unfold_abbrev_sides
  after_reads_at

theorem aR_eq (c : Dev nD) : aR m c = V m c main_arg2 := rfl

theorem aR_at (c : Dev nD) (a : Fin 4096) (b : Fin 1024) : aR m c (ix2 a b) = g2 m c (ix2 a b) := by
  rw [aR_eq]
  simp only [g2]
  unfold_abbrev_sides
  after_reads_at

/-- The reference's result at an index. -/
theorem ref_at (y0 : Vec Ideal S4096x1024 .f32) (y1 : Vec Ideal S1024x1024 .f32) (y2 : Vec Ideal S4096x1024 .f32) (i : Fin 4096) (x : Fin 1024) :
    Cert.DhaReferenceIdeal.Read.val_main_v3 (F := Ideal) y0 y1 y2 (ix2 i x) = (y2 (ix2 i x) : EReal) + ∑ k : Fin 1024, (y0 (ix2 i k) : EReal) * (y1 (ix2 x k) : EReal) := by
  unfold Cert.DhaReferenceIdeal.Read.val_main_v3 Cert.DhaReferenceIdeal.Read.val_main_v2
  pointwise

/-- The reference's array is the kernel's. -/
theorem same_at (c : Dev nD) (i : Fin 4096) (x : Fin 1024) :
    Cert.DhaReferenceIdeal.Read.val_main_v3 (F := Ideal) (g0 m c) (g1 m c) (g2 m c) (ix2 i x) = G m c (ix2 i x : S4096x1024.Idx) := by
  refine (ref_at (g0 m c) (g1 m c) (g2 m c) i x).trans ?_
  rw [G_at]
  unfold entry term
  simp only [aA_at, aB_at, aR_at]
  exact add2 _ _
theorem same (c : Dev nD) : Cert.DhaReferenceIdeal.Read.val_main_v3 (F := Ideal) (g0 m c) (g1 m c) (g2 m c) = G m c := by
  funext j
  rw [eq_ix2 j]
  exact same_at m c (j 0) (j 1)

end Cert.DhaIdeal.Prod
-- ==== Proof.Dwo.lean ====
module

public import proofs.«01_k».proof.Proof.Gen.DwoIdeal.Value
public import proofs.«01_k».proof.Proof.Gen.DwoReferenceIdeal.Run
public import proofs.«01_k».proof.Proof.Gen.DwoReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the mixer: the gradient of a weight, the product of the transposed input and the cotangent.
The kernel adds it up in a scratch, block by block of the summed axis. -/

namespace Cert.DwoIdeal.Prod

open Cert.DwoIdeal Cert.DwoIdeal.Gen Idealize.ShloMosaic Idealize.ShloMosaic.TcCoe Cert.Sums

/-- The product of two blocks. -/
def prod (u : Vec Ideal S1024x1024 .bf16) (v : Vec Ideal S1024x1024 .f32) : Vec Ideal S1024x1024 .f32 :=
  fun y => ∑ r : Fin 1024, (u (ix2 r (y 0)) : EReal) * (v (ix2 r (y 1)) : EReal)

theorem prod_at (u : Vec Ideal S1024x1024 .bf16) (v : Vec Ideal S1024x1024 .f32) (a : Fin 1024) (x : Fin 1024) :
    prod u v (ix2 a x) = ∑ r : Fin 1024, (u (ix2 r a) : EReal) * (v (ix2 r x) : EReal) := rfl

theorem pay1_at (u : Vec Ideal S1024x1024 .bf16) (v : Vec Ideal S1024x1024 .f32) (a : Fin 1024) (x : Fin 1024) :
    k0_pay1 u v (ix2 a x) = ∑ r : Fin 1024, (u (ix2 r a) : EReal) * (v (ix2 r x) : EReal) := by
  pointwise [k0_pay1]

theorem pay1_eq (u : Vec Ideal S1024x1024 .bf16) (v : Vec Ideal S1024x1024 .f32) : k0_pay1 u v = prod u v := by
  funext y; rw [eq_ix2 y]; exact pay1_at u v (y 0) (y 1)

theorem pay2_eq (u : Vec Ideal S1024x1024 .bf16) (v : Vec Ideal S1024x1024 .f32) : k0_pay2 u v = prod u v := by
  rw [← pay1_eq]; funext y; pointwise [k0_pay2]

theorem pay3_eq (u : Vec Ideal S1024x1024 .bf16) (v : Vec Ideal S1024x1024 .f32) (s : Vec Ideal S1024x1024 .f32) :
    k0_pay3 u v s = fun y => (s y + prod u v y : EReal) := by
  rw [← pay1_eq]; funext y; pointwise [k0_pay3]

theorem sout0_A_0_eq (c : Dev nD) (i : grid0.Coords) (a3 : Memref sig .tc .vmem S1024x1024 .bf16) (ha3 : a3.IsWhole) (a4 : Memref sig .tc .vmem S1024x1024 .f32) (ha4 : a4.IsWhole) (a5 : Memref sig .tc .vmem S1024x1024 .f32) (ha5 : a5.IsWhole) (a6 : Memref sig .tc .vmem S1024x1024 .f32) (ha6 : a6.IsWhole) (hc0 : cond0_0 i) (hc1 : ¬cond0_1 i) (hc2 : ¬cond0_2 i)
    (x0 : Vec Ideal S1024x1024 .bf16) (x1 : Vec Ideal S1024x1024 .f32) :
    sout0_A_0 c i a3 ha3 a4 ha4 a5 ha5 a6 ha6 hc0 hc1 hc2 x0 x1 = prod x0 x1 := by
  unfold sout0_A_0
  rw [View.read_writes_eq_canon _ _ _ (scover0_A_0 c i a3 ha3 a4 ha4 a5 ha5 a6 ha6 hc0 hc1 hc2 x0 x1)]
  unfold kernelRun0_A
  dsimp only
  sl_unfold_words
  simp only [View.readAt_eq_ld, ha3.read_unread, ha4.read_unread, ha5.read_unread, ha6.read_unread, View.ld_unit_zero (S := S1024x1024) hz2]
  rw [View.canon_cons_unit_zero hz2]
  exact pay2_eq ..

theorem sout0_B_0_eq (c : Dev nD) (i : grid0.Coords) (a3 : Memref sig .tc .vmem S1024x1024 .bf16) (ha3 : a3.IsWhole) (a4 : Memref sig .tc .vmem S1024x1024 .f32) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : ¬cond0_2 i)
    (x0 : Vec Ideal S1024x1024 .bf16) (x1 : Vec Ideal S1024x1024 .f32) (xs0 : Vec Ideal S1024x1024 .f32) :
    sout0_B_0 c i a3 ha3 a4 ha4 a5 ha5 a6 ha6 hc0 hc1 hc2 x0 x1 xs0 = fun y => (xs0 y + prod x0 x1 y : EReal) := by
  unfold sout0_B_0
  rw [View.read_writes_eq_canon _ _ _ (scover0_B_0 c i a3 ha3 a4 ha4 a5 ha5 a6 ha6 hc0 hc1 hc2 x0 x1 xs0)]
  unfold kernelRun0_B
  dsimp only
  sl_unfold_words
  simp only [View.readAt_eq_ld, ha3.read_unread, ha4.read_unread, ha5.read_unread, ha6.read_unread, View.ld_unit_zero (S := S1024x1024) hz2]
  rw [View.canon_cons_unit_zero hz2]
  exact pay3_eq ..

theorem sout0_C_0_eq (c : Dev nD) (i : grid0.Coords) (a3 : Memref sig .tc .vmem S1024x1024 .bf16) (ha3 : a3.IsWhole) (a4 : Memref sig .tc .vmem S1024x1024 .f32) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : cond0_2 i)
    (x0 : Vec Ideal S1024x1024 .bf16) (x1 : Vec Ideal S1024x1024 .f32) (xs0 : Vec Ideal S1024x1024 .f32) :
    sout0_C_0 c i a3 ha3 a4 ha4 a5 ha5 a6 ha6 hc0 hc1 hc2 x0 x1 xs0 = fun y => (xs0 y + prod x0 x1 y : EReal) := by
  unfold sout0_C_0
  rw [View.read_writes_eq_canon _ _ _ (scover0_C_0 c i a3 ha3 a4 ha4 a5 ha5 a6 ha6 hc0 hc1 hc2 x0 x1 xs0)]
  unfold kernelRun0_C
  dsimp only
  sl_unfold_words
  simp only [View.readAt_eq_ld, ha3.read_unread, ha4.read_unread, ha5.read_unread, ha6.read_unread, View.ld_unit_zero (S := S1024x1024) hz2]
  rw [View.canon_cons_unit_zero hz2]
  exact pay3_eq ..

theorem out0_C_2_eq (c : Dev nD) (i : grid0.Coords) (a3 : Memref sig .tc .vmem S1024x1024 .bf16) (ha3 : a3.IsWhole) (a4 : Memref sig .tc .vmem S1024x1024 .f32) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : cond0_2 i)
    (x0 : Vec Ideal S1024x1024 .bf16) (x1 : Vec Ideal S1024x1024 .f32) (xs0 : Vec Ideal S1024x1024 .f32) :
    out0_C_2 c i a3 ha3 a4 ha4 a5 ha5 a6 ha6 hc0 hc1 hc2 x0 x1 xs0 = fun y => (xs0 y + prod x0 x1 y : EReal) := by
  unfold out0_C_2
  rw [View.read_writes_eq_canon _ _ _ (cover0_C_2 c i a3 ha3 a4 ha4 a5 ha5 a6 ha6 hc0 hc1 hc2 x0 x1 xs0)]
  unfold kernelRun0_C
  dsimp only
  sl_unfold_words
  simp only [View.readAt_eq_ld, ha3.read_unread, ha4.read_unread, ha5.read_unread, ha6.read_unread, View.ld_unit_zero (S := S1024x1024) hz2]
  rw [View.canon_cons_unit_zero hz2, View.readCov_unit_zero _ hz2]
  exact pay3_eq ..

/-! Which block each window reads at a grid point. -/

theorem tlt (t : Fin cfg0.N) : t.val < 4 := lt_of_lt_of_eq t.isLt (show cfg0.N = 4 from N_0)

/-- Block `b`'s rows of the result, its columns, and its part of the summed axis. -/
def rI (b : ℕ) (r : Fin 1024) : Fin 1024 := ⟨(1024 * b + r.val) % 1024, Nat.mod_lt _ (by decide)⟩
def cJ (b : ℕ) (r : Fin 1024) : Fin 1024 := ⟨(1024 * b + r.val) % 1024, Nat.mod_lt _ (by decide)⟩
def kB (b : ℕ) (r : Fin 1024) : Fin 4096 := ⟨(1024 * b + r.val) % 4096, Nat.mod_lt _ (by decide)⟩

variable (m : (ℓ : Loc nD τ sig) → Buf (Elt Ideal) ℓ)

/-- Operand 0, as the kernel's window names it. -/
def aA (c : Dev nD) : Vec Ideal S4096x1024 .bf16 := V m c (Pipeline.arrRef spec0 0)

theorem index0 : ∀ t : Fin cfg0.N, win0_0.index t (0 : Fin 2) = t.val % 4 ∧ win0_0.index t (1 : Fin 2) = t.val / 4 := by decide +kernel

theorem rd0 (A : S4096x1024.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (kB (t.val % 4) a) (rI (t.val / 4) b) : S4096x1024.Idx) := by
  have ht := tlt t
  have h0 : win0_0.index t 0 * 1024 + 1 * a.val = (1024 * (t.val % 4) + a.val) % 4096 := by rw [(index0 t).1]; omega
  have h1 : win0_0.index t 1 * 1024 + 1 * b.val = (1024 * (t.val / 4) + b.val) % 1024 := by rw [(index0 t).2]; omega
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .bf16) (ix2 a b) = aA m c (ix2 (kB (t.val % 4) a) (rI (t.val / 4) b)) :=
  (rd0 (aA m c) t (ix2 a b)).trans (congrArg (aA m c) (emb0 t a b))

/-- Operand 1, as the kernel's window names it. -/
def aB (c : Dev nD) : Vec Ideal S4096x1024 .f32 := V m c (Pipeline.arrRef spec0 1)

theorem index1 : ∀ t : Fin cfg0.N, win0_1.index t (0 : Fin 2) = t.val % 4 ∧ win0_1.index t (1 : Fin 2) = t.val / 4 % 1 := by decide +kernel

theorem rd1 (A : S4096x1024.Idx → EReal) (t : Fin cfg0.N) (y : S1024x1024.Idx) :
    (((cfg0.win 1).blk t).view.read (Elt Ideal) A) y = A (((cfg0.win 1).blk t).view.emb y) := rfl

theorem emb1 (t : Fin cfg0.N) (a : Fin 1024) (b : Fin 1024) :
    ((cfg0.win 1).blk t).view.emb (ix2 a b : S1024x1024.Idx) = (ix2 (kB (t.val % 4) a) (cJ (t.val / 4 % 1) b) : S4096x1024.Idx) := by
  have ht := tlt t
  have h0 : win0_1.index t 0 * 1024 + 1 * a.val = (1024 * (t.val % 4) + a.val) % 4096 := by rw [(index1 t).1]; omega
  have h1 : win0_1.index t 1 * 1024 + 1 * b.val = (1024 * (t.val / 4 % 1) + b.val) % 1024 := by rw [(index1 t).2]; omega
  funext x; apply Fin.ext
  match x with
  | ⟨0, _⟩ => exact h0
  | ⟨1, _⟩ => exact h1

theorem blk1 (c : Dev nD) (t : Fin cfg0.N) (a : Fin 1024) (b : Fin 1024) :
    (iblk m c 1 t : Vec Ideal S1024x1024 .f32) (ix2 a b) = aB m c (ix2 (kB (t.val % 4) a) (cJ (t.val / 4 % 1) b)) :=
  (rd1 (aB m c) t (ix2 a b)).trans (congrArg (aB m c) (emb1 t a b))

/-- One term of the product of the whole operands. -/
def term (c : Dev nD) (i : Fin 1024) (x : Fin 1024) (k : Fin 4096) : EReal := aA m c (ix2 k i) * aB m c (ix2 k x)

/-- Block `b`'s part of an entry. -/
def part (c : Dev nD) (i : Fin 1024) (x : Fin 1024) (b : ℕ) : EReal := ∑ r : Fin 1024, term m c i x (kB b r)

theorem prod_blk (c : Dev nD) (t : Fin cfg0.N) (a : Fin 1024) (x : Fin 1024) :
    prod (iblk m c 0 t) (iblk m c 1 t) (ix2 a x) = part m c (rI (t.val / 4) a) (cJ (t.val / 4 % 1) x) (t.val % 4) := by
  rw [prod_at]
  unfold part term
  simp only [blk0, blk1]

theorem snd_eq {A B : Type} {p : A × B} {a : A} {b b' : B} (h : p = (a, b)) (hb : b = b') : p.2 = b' := by
  subst h; exact hb
theorem fst_eq {A B : Type} {p : A × B} {a a' : A} {b : B} (h : p = (a, b)) (ha : a = a') : p.1 = a' := by
  subst h; exact ha

theorem first (c : Dev nD) (t : Fin cfg0.N) (h : t.val % 4 = 0) :
    (outsAt0 m c t.val t.isLt).2 = prod (iblk m c 0 t) (iblk m c 1 t) :=
  snd_eq (outsAt0_A m c t (by have := tlt t; omega) (by have := tlt t; omega) (by have := tlt t; omega)) (sout0_A_0_eq ..)

theorem later (c : Dev nD) (t : Fin cfg0.N) (h : ¬t.val % 4 = 0) (k : ℕ) (hk : k < cfg0.N) (ek : t.val - 1 = k) :
    (outsAt0 m c t.val t.isLt).2 = fun y => ((outsAt0 m c k hk).2 y + prod (iblk m c 0 t) (iblk m c 1 t) y : EReal) := by
  subst ek
  by_cases h2 : t.val % 4 = 3
  · exact snd_eq (outsAt0_C m c t (by have := tlt t; omega) (by have := tlt t; omega) (by have := tlt t; omega)) (sout0_C_0_eq ..)
  · exact snd_eq (outsAt0_B m c t (by have := tlt t; omega) (by have := tlt t; omega) (by have := tlt t; omega)) (sout0_B_0_eq ..)

/-- The scratch holds the blocks so far. -/
theorem state (c : Dev nD) : ∀ (n : ℕ) (hn : n < cfg0.N) (a : Fin 1024) (x : Fin 1024),
    (outsAt0 m c n hn).2 (ix2 a x) = ∑ b ∈ Finset.range (n % 4 + 1), part m c (rI (n / 4) a) (cJ (n / 4 % 1) x) b := by
  intro n
  induction n with
  | zero =>
    intro hn a x
    refine (congrFun (first m c ⟨0, hn⟩ (Nat.zero_mod _)) _).trans ((prod_blk m c ⟨0, hn⟩ a x).trans ?_)
    simp
  | succ n ih =>
    intro hn a x
    by_cases h : (n + 1) % 4 = 0
    · refine (congrFun (first m c ⟨n + 1, hn⟩ h) _).trans ((prod_blk m c ⟨n + 1, hn⟩ a x).trans ?_)
      simp [h]
    · have e1 : (n + 1) / 4 = n / 4 := by omega
      have e2 : (n + 1) / 4 % 1 = n / 4 % 1 := by omega
      have e3 : (n + 1) % 4 = n % 4 + 1 := by omega
      refine (congrFun (later m c ⟨n + 1, hn⟩ h n (Nat.lt_of_succ_lt hn) rfl) _).trans ?_
      rw [e1, e3, Finset.sum_range_succ _ (n % 4 + 1)]
      refine congrArg₂ (fun a b : EReal => a + b) (ih (Nat.lt_of_succ_lt hn) a x) ((prod_blk m c ⟨n + 1, hn⟩ a x).trans ?_)
      show part m c (rI ((n + 1) / 4) a) (cJ ((n + 1) / 4 % 1) x) ((n + 1) % 4) = _
      rw [e1, e3]

/-- What the last block of an entry leaves in the result. -/
theorem last (c : Dev nD) (t : Fin cfg0.N) (h2 : t.val % 4 = 3) (a : Fin 1024) (x : Fin 1024) :
    (outsAt0 m c t.val t.isLt).1 (ix2 a x)
      = (∑ b ∈ Finset.range 4, part m c (rI (t.val / 4) a) (cJ (t.val / 4 % 1) x) b) := by
  have h : ¬t.val % 4 = 0 := by omega
  have hk : t.val - 1 < cfg0.N := Nat.lt_of_le_of_lt (Nat.sub_le _ _) t.isLt
  have s := state m c t.val t.isLt a x
  rw [h2] at s
  have s' := congrFun (snd_eq (outsAt0_C m c t (by have := tlt t; omega) (by have := tlt t; omega) (by have := tlt t; omega)) (sout0_C_0_eq ..)) (ix2 a x)
  refine (congrFun (fst_eq (outsAt0_C m c t (by have := tlt t; omega) (by have := tlt t; omega) (by have := tlt t; omega)) (out0_C_2_eq ..)) (ix2 a x)).trans ?_
  rw [← s, s']

open Cert.DwoIdeal.Value

/-- The result array at every index. -/
theorem out (c : Dev nD) (i : Fin 1024) (x : Fin 1024) :
    G2 m c (ix2 i x) = (∑ k : Fin 4096, term m c i x k) := by
  have hp : pt2Of (ix2 i x) = 4 * (1 * (i.val / 1024) + x.val / 1024) + 3 := by
    show 4 * (1 * (i.val / 1024 - 0) + 1 * (x.val / 1024 - 0)) + 3 = _; omega
  have hn : pt2Of (ix2 i x) < cfg0.N := by rw [hp, show cfg0.N = 4 from N_0]; omega
  have hl : loc2Of (ix2 i x) = ix2 (⟨i.val % 1024, Nat.mod_lt _ (by decide)⟩ : Fin 1024) (⟨x.val % 1024, Nat.mod_lt _ (by decide)⟩ : Fin 1024) := by
    funext a; apply Fin.ext
    match a with
    | ⟨0, _⟩ => rfl
    | ⟨1, _⟩ => rfl
  have hs := last m c ⟨pt2Of (ix2 i x), hn⟩ (by show pt2Of (ix2 i x) % 4 = 3; omega) (⟨i.val % 1024, Nat.mod_lt _ (by decide)⟩ : Fin 1024) (⟨x.val % 1024, Nat.mod_lt _ (by decide)⟩ : Fin 1024)
  have ei : rI (pt2Of (ix2 i x) / 4) (⟨i.val % 1024, Nat.mod_lt _ (by decide)⟩ : Fin 1024) = i :=
    Fin.ext (show (1024 * (pt2Of (ix2 i x) / 4) + i.val % 1024) % 1024 = i.val by omega)
  have ex : cJ (pt2Of (ix2 i x) / 4 % 1) (⟨x.val % 1024, Nat.mod_lt _ (by decide)⟩ : Fin 1024) = x :=
    Fin.ext (show (1024 * (pt2Of (ix2 i x) / 4 % 1) + x.val % 1024) % 1024 = x.val by omega)
  dsimp only at hs
  rw [ei, ex, outsAt0_sweep m c _ hn, ← hl] at hs
  unfold G2
  rw [dif_pos hn]
  refine hs.trans ?_
  unfold part
  rw [show ∑ b ∈ Finset.range 4, ∑ r : Fin 1024, term m c i x (kB b r) = ∑ k : Fin 4096, term m c i x k from
    sum_blocks 4 1024 4096 (by decide) (by decide) (fun k => term m c i x k)]

/-! The operands are the arguments. -/

def g0 (c : Dev nD) : Vec Ideal S4096x1024 .f32 := m (c, Proc.tc.devRef main_arg0)
def g1 (c : Dev nD) : Vec Ideal S4096x1024 .f32 := m (c, Proc.tc.devRef main_arg1)

theorem aA_eq (c : Dev nD) : aA m c = V m c main_v0 := rfl

theorem aA_at (c : Dev nD) (a : Fin 4096) (b : Fin 1024) : aA m c (ix2 a b) = g0 m c (ix2 a b) := by
  rw [aA_eq]
  simp only [g0]
  unfold_abbrev_sides
  after_reads_at

theorem aB_eq (c : Dev nD) : aB m c = V m c main_arg1 := rfl

theorem aB_at (c : Dev nD) (a : Fin 4096) (b : Fin 1024) : aB m c (ix2 a b) = g1 m c (ix2 a b) := by
  rw [aB_eq]
  simp only [g1]
  unfold_abbrev_sides
  after_reads_at

/-- The reference's result at an index. -/
theorem ref_at (y0 : Vec Ideal S4096x1024 .f32) (y1 : Vec Ideal S4096x1024 .f32) (i : Fin 1024) (x : Fin 1024) :
    Cert.DwoReferenceIdeal.Read.val_main_v3 (F := Ideal) y0 y1 (ix2 i x) = ∑ k : Fin 4096, (y1 (ix2 k x) : EReal) * (y0 (ix2 k i) : EReal) := by
  unfold Cert.DwoReferenceIdeal.Read.val_main_v3 Cert.DwoReferenceIdeal.Read.val_main_v2
  pointwise

/-- What the kernel leaves is what the reference gives. -/
theorem terms_eq (c : Dev nD) (i : Fin 1024) (x : Fin 1024) :
    (((∑ k : Fin 4096, term m c i x k) : EReal)) = ∑ k : Fin 4096, (g1 m c (ix2 k x) : EReal) * (g0 m c (ix2 k i) : EReal) := by
  unfold term
  simp only [aA_at, aB_at]
  exact Finset.sum_congr rfl fun k _ => mul2 _ _

theorem same_at (c : Dev nD) (i : Fin 1024) (x : Fin 1024) :
    Cert.DwoReferenceIdeal.Read.val_main_v3 (F := Ideal) (g0 m c) (g1 m c) (ix2 i x) = G2 m c (ix2 i x : S1024x1024.Idx) :=
  (ref_at (g0 m c) (g1 m c) i x).trans ((out m c i x).trans (terms_eq m c i x)).symm

theorem same (c : Dev nD) : Cert.DwoReferenceIdeal.Read.val_main_v3 (F := Ideal) (g0 m c) (g1 m c) = G2 m c := by
  funext j
  rw [eq_ix2 j]
  exact same_at m c (j 0) (j 1)

end Cert.DwoIdeal.Prod
-- ==== Proof.Dwa.lean ====
module

public import proofs.«01_k».proof.Proof.Gen.DwaIdeal.Value
public import proofs.«01_k».proof.Proof.Gen.DwaReferenceIdeal.Run
public import proofs.«01_k».proof.Proof.Gen.DwaReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the mixer: the gradient of a weight, the product of the transposed input and the cotangent.
The kernel adds it up in a scratch, block by block of the summed axis. -/

namespace Cert.DwaIdeal.Prod

open Cert.DwaIdeal Cert.DwaIdeal.Gen Idealize.ShloMosaic Idealize.ShloMosaic.TcCoe Cert.Sums

/-- The product of two blocks. -/
def prod (u : Vec Ideal S1024x1024 .f32) (v : Vec Ideal S1024x1024 .bf16) : Vec Ideal S1024x1024 .f32 :=
  fun y => ∑ r : Fin 1024, (u (ix2 r (y 0)) : EReal) * (v (ix2 r (y 1)) : EReal)

theorem prod_at (u : Vec Ideal S1024x1024 .f32) (v : Vec Ideal S1024x1024 .bf16) (a : Fin 1024) (x : Fin 1024) :
    prod u v (ix2 a x) = ∑ r : Fin 1024, (u (ix2 r a) : EReal) * (v (ix2 r x) : EReal) := rfl

theorem pay1_at (u : Vec Ideal S1024x1024 .f32) (v : Vec Ideal S1024x1024 .bf16) (a : Fin 1024) (x : Fin 1024) :
    k0_pay1 u v (ix2 a x) = ∑ r : Fin 1024, (u (ix2 r a) : EReal) * (v (ix2 r x) : EReal) := by
  pointwise [k0_pay1]

theorem pay1_eq (u : Vec Ideal S1024x1024 .f32) (v : Vec Ideal S1024x1024 .bf16) : k0_pay1 u v = prod u v := by
  funext y; rw [eq_ix2 y]; exact pay1_at u v (y 0) (y 1)

theorem pay2_eq (u : Vec Ideal S1024x1024 .f32) (v : Vec Ideal S1024x1024 .bf16) : k0_pay2 u v = prod u v := by
  rw [← pay1_eq]; funext y; pointwise [k0_pay2]

theorem pay3_eq (u : Vec Ideal S1024x1024 .f32) (v : Vec Ideal S1024x1024 .bf16) (s : Vec Ideal S1024x1024 .f32) :
    k0_pay3 u v s = fun y => (s y + prod u v y : EReal) := by
  rw [← pay1_eq]; funext y; pointwise [k0_pay3]

theorem sout0_A_0_eq (c : Dev nD) (i : grid0.Coords) (a3 : Memref sig .tc .vmem S1024x1024 .f32) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : cond0_0 i) (hc1 : ¬cond0_1 i) (hc2 : ¬cond0_2 i)
    (x0 : Vec Ideal S1024x1024 .f32) (x1 : Vec Ideal S1024x1024 .bf16) :
    sout0_A_0 c i a3 ha3 a4 ha4 a5 ha5 a6 ha6 hc0 hc1 hc2 x0 x1 = prod x0 x1 := by
  unfold sout0_A_0
  rw [View.read_writes_eq_canon _ _ _ (scover0_A_0 c i a3 ha3 a4 ha4 a5 ha5 a6 ha6 hc0 hc1 hc2 x0 x1)]
  unfold kernelRun0_A
  dsimp only
  sl_unfold_words
  simp only [View.readAt_eq_ld, ha3.read_unread, ha4.read_unread, ha5.read_unread, ha6.read_unread, View.ld_unit_zero (S := S1024x1024) hz2]
  rw [View.canon_cons_unit_zero hz2]
  exact pay2_eq ..

theorem sout0_B_0_eq (c : Dev nD) (i : grid0.Coords) (a3 : Memref sig .tc .vmem S1024x1024 .f32) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : ¬cond0_2 i)
    (x0 : Vec Ideal S1024x1024 .f32) (x1 : Vec Ideal S1024x1024 .bf16) (xs0 : Vec Ideal S1024x1024 .f32) :
    sout0_B_0 c i a3 ha3 a4 ha4 a5 ha5 a6 ha6 hc0 hc1 hc2 x0 x1 xs0 = fun y => (xs0 y + prod x0 x1 y : EReal) := by
  unfold sout0_B_0
  rw [View.read_writes_eq_canon _ _ _ (scover0_B_0 c i a3 ha3 a4 ha4 a5 ha5 a6 ha6 hc0 hc1 hc2 x0 x1 xs0)]
  unfold kernelRun0_B
  dsimp only
  sl_unfold_words
  simp only [View.readAt_eq_ld, ha3.read_unread, ha4.read_unread, ha5.read_unread, ha6.read_unread, View.ld_unit_zero (S := S1024x1024) hz2]
  rw [View.canon_cons_unit_zero hz2]
  exact pay3_eq ..

theorem sout0_C_0_eq (c : Dev nD) (i : grid0.Coords) (a3 : Memref sig .tc .vmem S1024x1024 .f32) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : cond0_2 i)
    (x0 : Vec Ideal S1024x1024 .f32) (x1 : Vec Ideal S1024x1024 .bf16) (xs0 : Vec Ideal S1024x1024 .f32) :
    sout0_C_0 c i a3 ha3 a4 ha4 a5 ha5 a6 ha6 hc0 hc1 hc2 x0 x1 xs0 = fun y => (xs0 y + prod x0 x1 y : EReal) := by
  unfold sout0_C_0
  rw [View.read_writes_eq_canon _ _ _ (scover0_C_0 c i a3 ha3 a4 ha4 a5 ha5 a6 ha6 hc0 hc1 hc2 x0 x1 xs0)]
  unfold kernelRun0_C
  dsimp only
  sl_unfold_words
  simp only [View.readAt_eq_ld, ha3.read_unread, ha4.read_unread, ha5.read_unread, ha6.read_unread, View.ld_unit_zero (S := S1024x1024) hz2]
  rw [View.canon_cons_unit_zero hz2]
  exact pay3_eq ..

theorem out0_C_2_eq (c : Dev nD) (i : grid0.Coords) (a3 : Memref sig .tc .vmem S1024x1024 .f32) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : cond0_2 i)
    (x0 : Vec Ideal S1024x1024 .f32) (x1 : Vec Ideal S1024x1024 .bf16) (xs0 : Vec Ideal S1024x1024 .f32) :
    out0_C_2 c i a3 ha3 a4 ha4 a5 ha5 a6 ha6 hc0 hc1 hc2 x0 x1 xs0 = fun y => (xs0 y + prod x0 x1 y : EReal) := by
  unfold out0_C_2
  rw [View.read_writes_eq_canon _ _ _ (cover0_C_2 c i a3 ha3 a4 ha4 a5 ha5 a6 ha6 hc0 hc1 hc2 x0 x1 xs0)]
  unfold kernelRun0_C
  dsimp only
  sl_unfold_words
  simp only [View.readAt_eq_ld, ha3.read_unread, ha4.read_unread, ha5.read_unread, ha6.read_unread, View.ld_unit_zero (S := S1024x1024) hz2]
  rw [View.canon_cons_unit_zero hz2, View.readCov_unit_zero _ hz2]
  exact pay3_eq ..

/-! Which block each window reads at a grid point. -/

theorem tlt (t : Fin cfg0.N) : t.val < 4 := lt_of_lt_of_eq t.isLt (show cfg0.N = 4 from N_0)

/-- Block `b`'s rows of the result, its columns, and its part of the summed axis. -/
def rI (b : ℕ) (r : Fin 1024) : Fin 1024 := ⟨(1024 * b + r.val) % 1024, Nat.mod_lt _ (by decide)⟩
def cJ (b : ℕ) (r : Fin 1024) : Fin 1024 := ⟨(1024 * b + r.val) % 1024, Nat.mod_lt _ (by decide)⟩
def kB (b : ℕ) (r : Fin 1024) : Fin 4096 := ⟨(1024 * b + r.val) % 4096, Nat.mod_lt _ (by decide)⟩

variable (m : (ℓ : Loc nD τ sig) → Buf (Elt Ideal) ℓ)

/-- Operand 0, as the kernel's window names it. -/
def aA (c : Dev nD) : Vec Ideal S4096x1024 .f32 := V m c (Pipeline.arrRef spec0 0)

theorem index0 : ∀ t : Fin cfg0.N, win0_0.index t (0 : Fin 2) = t.val % 4 ∧ win0_0.index t (1 : Fin 2) = t.val / 4 := by decide +kernel

theorem rd0 (A : S4096x1024.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (kB (t.val % 4) a) (rI (t.val / 4) b) : S4096x1024.Idx) := by
  have ht := tlt t
  have h0 : win0_0.index t 0 * 1024 + 1 * a.val = (1024 * (t.val % 4) + a.val) % 4096 := by rw [(index0 t).1]; omega
  have h1 : win0_0.index t 1 * 1024 + 1 * b.val = (1024 * (t.val / 4) + b.val) % 1024 := by rw [(index0 t).2]; omega
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .f32) (ix2 a b) = aA m c (ix2 (kB (t.val % 4) a) (rI (t.val / 4) b)) :=
  (rd0 (aA m c) t (ix2 a b)).trans (congrArg (aA m c) (emb0 t a b))

/-- Operand 1, as the kernel's window names it. -/
def aB (c : Dev nD) : Vec Ideal S4096x1024 .bf16 := V m c (Pipeline.arrRef spec0 1)

theorem index1 : ∀ t : Fin cfg0.N, win0_1.index t (0 : Fin 2) = t.val % 4 ∧ win0_1.index t (1 : Fin 2) = t.val / 4 % 1 := by decide +kernel

theorem rd1 (A : S4096x1024.Idx → EReal) (t : Fin cfg0.N) (y : S1024x1024.Idx) :
    (((cfg0.win 1).blk t).view.read (Elt Ideal) A) y = A (((cfg0.win 1).blk t).view.emb y) := rfl

theorem emb1 (t : Fin cfg0.N) (a : Fin 1024) (b : Fin 1024) :
    ((cfg0.win 1).blk t).view.emb (ix2 a b : S1024x1024.Idx) = (ix2 (kB (t.val % 4) a) (cJ (t.val / 4 % 1) b) : S4096x1024.Idx) := by
  have ht := tlt t
  have h0 : win0_1.index t 0 * 1024 + 1 * a.val = (1024 * (t.val % 4) + a.val) % 4096 := by rw [(index1 t).1]; omega
  have h1 : win0_1.index t 1 * 1024 + 1 * b.val = (1024 * (t.val / 4 % 1) + b.val) % 1024 := by rw [(index1 t).2]; omega
  funext x; apply Fin.ext
  match x with
  | ⟨0, _⟩ => exact h0
  | ⟨1, _⟩ => exact h1

theorem blk1 (c : Dev nD) (t : Fin cfg0.N) (a : Fin 1024) (b : Fin 1024) :
    (iblk m c 1 t : Vec Ideal S1024x1024 .bf16) (ix2 a b) = aB m c (ix2 (kB (t.val % 4) a) (cJ (t.val / 4 % 1) b)) :=
  (rd1 (aB m c) t (ix2 a b)).trans (congrArg (aB m c) (emb1 t a b))

/-- One term of the product of the whole operands. -/
def term (c : Dev nD) (i : Fin 1024) (x : Fin 1024) (k : Fin 4096) : EReal := aA m c (ix2 k i) * aB m c (ix2 k x)

/-- Block `b`'s part of an entry. -/
def part (c : Dev nD) (i : Fin 1024) (x : Fin 1024) (b : ℕ) : EReal := ∑ r : Fin 1024, term m c i x (kB b r)

theorem prod_blk (c : Dev nD) (t : Fin cfg0.N) (a : Fin 1024) (x : Fin 1024) :
    prod (iblk m c 0 t) (iblk m c 1 t) (ix2 a x) = part m c (rI (t.val / 4) a) (cJ (t.val / 4 % 1) x) (t.val % 4) := by
  rw [prod_at]
  unfold part term
  simp only [blk0, blk1]

theorem snd_eq {A B : Type} {p : A × B} {a : A} {b b' : B} (h : p = (a, b)) (hb : b = b') : p.2 = b' := by
  subst h; exact hb
theorem fst_eq {A B : Type} {p : A × B} {a a' : A} {b : B} (h : p = (a, b)) (ha : a = a') : p.1 = a' := by
  subst h; exact ha

theorem first (c : Dev nD) (t : Fin cfg0.N) (h : t.val % 4 = 0) :
    (outsAt0 m c t.val t.isLt).2 = prod (iblk m c 0 t) (iblk m c 1 t) :=
  snd_eq (outsAt0_A m c t (by have := tlt t; omega) (by have := tlt t; omega) (by have := tlt t; omega)) (sout0_A_0_eq ..)

theorem later (c : Dev nD) (t : Fin cfg0.N) (h : ¬t.val % 4 = 0) (k : ℕ) (hk : k < cfg0.N) (ek : t.val - 1 = k) :
    (outsAt0 m c t.val t.isLt).2 = fun y => ((outsAt0 m c k hk).2 y + prod (iblk m c 0 t) (iblk m c 1 t) y : EReal) := by
  subst ek
  by_cases h2 : t.val % 4 = 3
  · exact snd_eq (outsAt0_C m c t (by have := tlt t; omega) (by have := tlt t; omega) (by have := tlt t; omega)) (sout0_C_0_eq ..)
  · exact snd_eq (outsAt0_B m c t (by have := tlt t; omega) (by have := tlt t; omega) (by have := tlt t; omega)) (sout0_B_0_eq ..)

/-- The scratch holds the blocks so far. -/
theorem state (c : Dev nD) : ∀ (n : ℕ) (hn : n < cfg0.N) (a : Fin 1024) (x : Fin 1024),
    (outsAt0 m c n hn).2 (ix2 a x) = ∑ b ∈ Finset.range (n % 4 + 1), part m c (rI (n / 4) a) (cJ (n / 4 % 1) x) b := by
  intro n
  induction n with
  | zero =>
    intro hn a x
    refine (congrFun (first m c ⟨0, hn⟩ (Nat.zero_mod _)) _).trans ((prod_blk m c ⟨0, hn⟩ a x).trans ?_)
    simp
  | succ n ih =>
    intro hn a x
    by_cases h : (n + 1) % 4 = 0
    · refine (congrFun (first m c ⟨n + 1, hn⟩ h) _).trans ((prod_blk m c ⟨n + 1, hn⟩ a x).trans ?_)
      simp [h]
    · have e1 : (n + 1) / 4 = n / 4 := by omega
      have e2 : (n + 1) / 4 % 1 = n / 4 % 1 := by omega
      have e3 : (n + 1) % 4 = n % 4 + 1 := by omega
      refine (congrFun (later m c ⟨n + 1, hn⟩ h n (Nat.lt_of_succ_lt hn) rfl) _).trans ?_
      rw [e1, e3, Finset.sum_range_succ _ (n % 4 + 1)]
      refine congrArg₂ (fun a b : EReal => a + b) (ih (Nat.lt_of_succ_lt hn) a x) ((prod_blk m c ⟨n + 1, hn⟩ a x).trans ?_)
      show part m c (rI ((n + 1) / 4) a) (cJ ((n + 1) / 4 % 1) x) ((n + 1) % 4) = _
      rw [e1, e3]

/-- What the last block of an entry leaves in the result. -/
theorem last (c : Dev nD) (t : Fin cfg0.N) (h2 : t.val % 4 = 3) (a : Fin 1024) (x : Fin 1024) :
    (outsAt0 m c t.val t.isLt).1 (ix2 a x)
      = (∑ b ∈ Finset.range 4, part m c (rI (t.val / 4) a) (cJ (t.val / 4 % 1) x) b) := by
  have h : ¬t.val % 4 = 0 := by omega
  have hk : t.val - 1 < cfg0.N := Nat.lt_of_le_of_lt (Nat.sub_le _ _) t.isLt
  have s := state m c t.val t.isLt a x
  rw [h2] at s
  have s' := congrFun (snd_eq (outsAt0_C m c t (by have := tlt t; omega) (by have := tlt t; omega) (by have := tlt t; omega)) (sout0_C_0_eq ..)) (ix2 a x)
  refine (congrFun (fst_eq (outsAt0_C m c t (by have := tlt t; omega) (by have := tlt t; omega) (by have := tlt t; omega)) (out0_C_2_eq ..)) (ix2 a x)).trans ?_
  rw [← s, s']

open Cert.DwaIdeal.Value

/-- The result array at every index. -/
theorem out (c : Dev nD) (i : Fin 1024) (x : Fin 1024) :
    G2 m c (ix2 i x) = (∑ k : Fin 4096, term m c i x k) := by
  have hp : pt2Of (ix2 i x) = 4 * (1 * (i.val / 1024) + x.val / 1024) + 3 := by
    show 4 * (1 * (i.val / 1024 - 0) + 1 * (x.val / 1024 - 0)) + 3 = _; omega
  have hn : pt2Of (ix2 i x) < cfg0.N := by rw [hp, show cfg0.N = 4 from N_0]; omega
  have hl : loc2Of (ix2 i x) = ix2 (⟨i.val % 1024, Nat.mod_lt _ (by decide)⟩ : Fin 1024) (⟨x.val % 1024, Nat.mod_lt _ (by decide)⟩ : Fin 1024) := by
    funext a; apply Fin.ext
    match a with
    | ⟨0, _⟩ => rfl
    | ⟨1, _⟩ => rfl
  have hs := last m c ⟨pt2Of (ix2 i x), hn⟩ (by show pt2Of (ix2 i x) % 4 = 3; omega) (⟨i.val % 1024, Nat.mod_lt _ (by decide)⟩ : Fin 1024) (⟨x.val % 1024, Nat.mod_lt _ (by decide)⟩ : Fin 1024)
  have ei : rI (pt2Of (ix2 i x) / 4) (⟨i.val % 1024, Nat.mod_lt _ (by decide)⟩ : Fin 1024) = i :=
    Fin.ext (show (1024 * (pt2Of (ix2 i x) / 4) + i.val % 1024) % 1024 = i.val by omega)
  have ex : cJ (pt2Of (ix2 i x) / 4 % 1) (⟨x.val % 1024, Nat.mod_lt _ (by decide)⟩ : Fin 1024) = x :=
    Fin.ext (show (1024 * (pt2Of (ix2 i x) / 4 % 1) + x.val % 1024) % 1024 = x.val by omega)
  dsimp only at hs
  rw [ei, ex, outsAt0_sweep m c _ hn, ← hl] at hs
  unfold G2
  rw [dif_pos hn]
  refine hs.trans ?_
  unfold part
  rw [show ∑ b ∈ Finset.range 4, ∑ r : Fin 1024, term m c i x (kB b r) = ∑ k : Fin 4096, term m c i x k from
    sum_blocks 4 1024 4096 (by decide) (by decide) (fun k => term m c i x k)]

/-! The operands are the arguments. -/

def g0 (c : Dev nD) : Vec Ideal S4096x1024 .f32 := m (c, Proc.tc.devRef main_arg0)
def g1 (c : Dev nD) : Vec Ideal S4096x1024 .f32 := m (c, Proc.tc.devRef main_arg1)

theorem aA_eq (c : Dev nD) : aA m c = V m c main_arg0 := rfl

theorem aA_at (c : Dev nD) (a : Fin 4096) (b : Fin 1024) : aA m c (ix2 a b) = g0 m c (ix2 a b) := by
  rw [aA_eq]
  simp only [g0]
  unfold_abbrev_sides
  after_reads_at

theorem aB_eq (c : Dev nD) : aB m c = V m c main_v0 := rfl

theorem aB_at (c : Dev nD) (a : Fin 4096) (b : Fin 1024) : aB m c (ix2 a b) = g1 m c (ix2 a b) := by
  rw [aB_eq]
  simp only [g1]
  unfold_abbrev_sides
  after_reads_at

/-- The reference's result at an index. -/
theorem ref_at (y0 : Vec Ideal S4096x1024 .f32) (y1 : Vec Ideal S4096x1024 .f32) (i : Fin 1024) (x : Fin 1024) :
    Cert.DwaReferenceIdeal.Read.val_main_v3 (F := Ideal) y0 y1 (ix2 i x) = ∑ k : Fin 4096, (y1 (ix2 k x) : EReal) * (y0 (ix2 k i) : EReal) := by
  unfold Cert.DwaReferenceIdeal.Read.val_main_v3 Cert.DwaReferenceIdeal.Read.val_main_v2
  pointwise

/-- What the kernel leaves is what the reference gives. -/
theorem terms_eq (c : Dev nD) (i : Fin 1024) (x : Fin 1024) :
    (((∑ k : Fin 4096, term m c i x k) : EReal)) = ∑ k : Fin 4096, (g1 m c (ix2 k x) : EReal) * (g0 m c (ix2 k i) : EReal) := by
  unfold term
  simp only [aA_at, aB_at]
  exact Finset.sum_congr rfl fun k _ => mul2 _ _

theorem same_at (c : Dev nD) (i : Fin 1024) (x : Fin 1024) :
    Cert.DwaReferenceIdeal.Read.val_main_v3 (F := Ideal) (g0 m c) (g1 m c) (ix2 i x) = G2 m c (ix2 i x : S1024x1024.Idx) :=
  (ref_at (g0 m c) (g1 m c) i x).trans ((out m c i x).trans (terms_eq m c i x)).symm

theorem same (c : Dev nD) : Cert.DwaReferenceIdeal.Read.val_main_v3 (F := Ideal) (g0 m c) (g1 m c) = G2 m c := by
  funext j
  rw [eq_ix2 j]
  exact same_at m c (j 0) (j 1)

end Cert.DwaIdeal.Prod
-- ==== Proof.Dwb.lean ====
module

public import proofs.«01_k».proof.Proof.Gen.DwbIdeal.Value
public import proofs.«01_k».proof.Proof.Gen.DwbReferenceIdeal.Run
public import proofs.«01_k».proof.Proof.Gen.DwbReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the mixer: the gradient of a weight, the product of the transposed input and the cotangent.
The kernel adds it up in a scratch, block by block of the summed axis. -/

namespace Cert.DwbIdeal.Prod

open Cert.DwbIdeal Cert.DwbIdeal.Gen Idealize.ShloMosaic Idealize.ShloMosaic.TcCoe Cert.Sums

/-- The product of two blocks. -/
def prod (u : Vec Ideal S1024x1024 .bf16) (v : Vec Ideal S1024x1024 .bf16) : Vec Ideal S1024x1024 .f32 :=
  fun y => ∑ r : Fin 1024, (u (ix2 r (y 0)) : EReal) * (v (ix2 r (y 1)) : EReal)

theorem prod_at (u : Vec Ideal S1024x1024 .bf16) (v : Vec Ideal S1024x1024 .bf16) (a : Fin 1024) (x : Fin 1024) :
    prod u v (ix2 a x) = ∑ r : Fin 1024, (u (ix2 r a) : EReal) * (v (ix2 r x) : EReal) := rfl

theorem pay1_at (u : Vec Ideal S1024x1024 .bf16) (v : Vec Ideal S1024x1024 .bf16) (a : Fin 1024) (x : Fin 1024) :
    k0_pay1 u v (ix2 a x) = ∑ r : Fin 1024, (u (ix2 r a) : EReal) * (v (ix2 r x) : EReal) := by
  pointwise [k0_pay1]

theorem pay1_eq (u : Vec Ideal S1024x1024 .bf16) (v : Vec Ideal S1024x1024 .bf16) : k0_pay1 u v = prod u v := by
  funext y; rw [eq_ix2 y]; exact pay1_at u v (y 0) (y 1)

theorem pay2_eq (u : Vec Ideal S1024x1024 .bf16) (v : Vec Ideal S1024x1024 .bf16) : k0_pay2 u v = prod u v := by
  rw [← pay1_eq]; funext y; pointwise [k0_pay2]

theorem pay3_eq (u : Vec Ideal S1024x1024 .bf16) (v : Vec Ideal S1024x1024 .bf16) (s : Vec Ideal S1024x1024 .f32) :
    k0_pay3 u v s = fun y => (s y + prod u v y : EReal) := by
  rw [← pay1_eq]; funext y; pointwise [k0_pay3]

theorem sout0_A_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : cond0_0 i) (hc1 : ¬cond0_1 i) (hc2 : ¬cond0_2 i)
    (x0 : Vec Ideal S1024x1024 .bf16) (x1 : Vec Ideal S1024x1024 .bf16) :
    sout0_A_0 c i a3 ha3 a4 ha4 a5 ha5 a6 ha6 hc0 hc1 hc2 x0 x1 = prod x0 x1 := by
  unfold sout0_A_0
  rw [View.read_writes_eq_canon _ _ _ (scover0_A_0 c i a3 ha3 a4 ha4 a5 ha5 a6 ha6 hc0 hc1 hc2 x0 x1)]
  unfold kernelRun0_A
  dsimp only
  sl_unfold_words
  simp only [View.readAt_eq_ld, ha3.read_unread, ha4.read_unread, ha5.read_unread, ha6.read_unread, View.ld_unit_zero (S := S1024x1024) hz2]
  rw [View.canon_cons_unit_zero hz2]
  exact pay2_eq ..

theorem sout0_B_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : ¬cond0_2 i)
    (x0 : Vec Ideal S1024x1024 .bf16) (x1 : Vec Ideal S1024x1024 .bf16) (xs0 : Vec Ideal S1024x1024 .f32) :
    sout0_B_0 c i a3 ha3 a4 ha4 a5 ha5 a6 ha6 hc0 hc1 hc2 x0 x1 xs0 = fun y => (xs0 y + prod x0 x1 y : EReal) := by
  unfold sout0_B_0
  rw [View.read_writes_eq_canon _ _ _ (scover0_B_0 c i a3 ha3 a4 ha4 a5 ha5 a6 ha6 hc0 hc1 hc2 x0 x1 xs0)]
  unfold kernelRun0_B
  dsimp only
  sl_unfold_words
  simp only [View.readAt_eq_ld, ha3.read_unread, ha4.read_unread, ha5.read_unread, ha6.read_unread, View.ld_unit_zero (S := S1024x1024) hz2]
  rw [View.canon_cons_unit_zero hz2]
  exact pay3_eq ..

theorem sout0_C_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : cond0_2 i)
    (x0 : Vec Ideal S1024x1024 .bf16) (x1 : Vec Ideal S1024x1024 .bf16) (xs0 : Vec Ideal S1024x1024 .f32) :
    sout0_C_0 c i a3 ha3 a4 ha4 a5 ha5 a6 ha6 hc0 hc1 hc2 x0 x1 xs0 = fun y => (xs0 y + prod x0 x1 y : EReal) := by
  unfold sout0_C_0
  rw [View.read_writes_eq_canon _ _ _ (scover0_C_0 c i a3 ha3 a4 ha4 a5 ha5 a6 ha6 hc0 hc1 hc2 x0 x1 xs0)]
  unfold kernelRun0_C
  dsimp only
  sl_unfold_words
  simp only [View.readAt_eq_ld, ha3.read_unread, ha4.read_unread, ha5.read_unread, ha6.read_unread, View.ld_unit_zero (S := S1024x1024) hz2]
  rw [View.canon_cons_unit_zero hz2]
  exact pay3_eq ..

theorem out0_C_2_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : cond0_2 i)
    (x0 : Vec Ideal S1024x1024 .bf16) (x1 : Vec Ideal S1024x1024 .bf16) (xs0 : Vec Ideal S1024x1024 .f32) :
    out0_C_2 c i a3 ha3 a4 ha4 a5 ha5 a6 ha6 hc0 hc1 hc2 x0 x1 xs0 = fun y => (xs0 y + prod x0 x1 y : EReal) := by
  unfold out0_C_2
  rw [View.read_writes_eq_canon _ _ _ (cover0_C_2 c i a3 ha3 a4 ha4 a5 ha5 a6 ha6 hc0 hc1 hc2 x0 x1 xs0)]
  unfold kernelRun0_C
  dsimp only
  sl_unfold_words
  simp only [View.readAt_eq_ld, ha3.read_unread, ha4.read_unread, ha5.read_unread, ha6.read_unread, View.ld_unit_zero (S := S1024x1024) hz2]
  rw [View.canon_cons_unit_zero hz2, View.readCov_unit_zero _ hz2]
  exact pay3_eq ..

/-! Which block each window reads at a grid point. -/

theorem tlt (t : Fin cfg0.N) : t.val < 8 := lt_of_lt_of_eq t.isLt (show cfg0.N = 8 from N_0)

/-- Block `b`'s rows of the result, its columns, and its part of the summed axis. -/
def rI (b : ℕ) (r : Fin 1024) : Fin 2048 := ⟨(1024 * b + r.val) % 2048, Nat.mod_lt _ (by decide)⟩
def cJ (b : ℕ) (r : Fin 1024) : Fin 1024 := ⟨(1024 * b + r.val) % 1024, Nat.mod_lt _ (by decide)⟩
def kB (b : ℕ) (r : Fin 1024) : Fin 4096 := ⟨(1024 * b + r.val) % 4096, Nat.mod_lt _ (by decide)⟩

variable (m : (ℓ : Loc nD τ sig) → Buf (Elt Ideal) ℓ)

/-- Operand 0, as the kernel's window names it. -/
def aA (c : Dev nD) : Vec Ideal S4096x2048 .bf16 := V m c (Pipeline.arrRef spec0 0)

theorem index0 : ∀ t : Fin cfg0.N, win0_0.index t (0 : Fin 2) = t.val % 4 ∧ win0_0.index t (1 : Fin 2) = t.val / 4 := by decide +kernel

theorem rd0 (A : S4096x2048.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (kB (t.val % 4) a) (rI (t.val / 4) b) : S4096x2048.Idx) := by
  have ht := tlt t
  have h0 : win0_0.index t 0 * 1024 + 1 * a.val = (1024 * (t.val % 4) + a.val) % 4096 := by rw [(index0 t).1]; omega
  have h1 : win0_0.index t 1 * 1024 + 1 * b.val = (1024 * (t.val / 4) + b.val) % 2048 := by rw [(index0 t).2]; omega
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .bf16) (ix2 a b) = aA m c (ix2 (kB (t.val % 4) a) (rI (t.val / 4) b)) :=
  (rd0 (aA m c) t (ix2 a b)).trans (congrArg (aA m c) (emb0 t a b))

/-- Operand 1, as the kernel's window names it. -/
def aB (c : Dev nD) : Vec Ideal S4096x1024 .bf16 := V m c (Pipeline.arrRef spec0 1)

theorem index1 : ∀ t : Fin cfg0.N, win0_1.index t (0 : Fin 2) = t.val % 4 ∧ win0_1.index t (1 : Fin 2) = t.val / 4 % 1 := by decide +kernel

theorem rd1 (A : S4096x1024.Idx → EReal) (t : Fin cfg0.N) (y : S1024x1024.Idx) :
    (((cfg0.win 1).blk t).view.read (Elt Ideal) A) y = A (((cfg0.win 1).blk t).view.emb y) := rfl

theorem emb1 (t : Fin cfg0.N) (a : Fin 1024) (b : Fin 1024) :
    ((cfg0.win 1).blk t).view.emb (ix2 a b : S1024x1024.Idx) = (ix2 (kB (t.val % 4) a) (cJ (t.val / 4 % 1) b) : S4096x1024.Idx) := by
  have ht := tlt t
  have h0 : win0_1.index t 0 * 1024 + 1 * a.val = (1024 * (t.val % 4) + a.val) % 4096 := by rw [(index1 t).1]; omega
  have h1 : win0_1.index t 1 * 1024 + 1 * b.val = (1024 * (t.val / 4 % 1) + b.val) % 1024 := by rw [(index1 t).2]; omega
  funext x; apply Fin.ext
  match x with
  | ⟨0, _⟩ => exact h0
  | ⟨1, _⟩ => exact h1

theorem blk1 (c : Dev nD) (t : Fin cfg0.N) (a : Fin 1024) (b : Fin 1024) :
    (iblk m c 1 t : Vec Ideal S1024x1024 .bf16) (ix2 a b) = aB m c (ix2 (kB (t.val % 4) a) (cJ (t.val / 4 % 1) b)) :=
  (rd1 (aB m c) t (ix2 a b)).trans (congrArg (aB m c) (emb1 t a b))

/-- One term of the product of the whole operands. -/
def term (c : Dev nD) (i : Fin 2048) (x : Fin 1024) (k : Fin 4096) : EReal := aA m c (ix2 k i) * aB m c (ix2 k x)

/-- Block `b`'s part of an entry. -/
def part (c : Dev nD) (i : Fin 2048) (x : Fin 1024) (b : ℕ) : EReal := ∑ r : Fin 1024, term m c i x (kB b r)

theorem prod_blk (c : Dev nD) (t : Fin cfg0.N) (a : Fin 1024) (x : Fin 1024) :
    prod (iblk m c 0 t) (iblk m c 1 t) (ix2 a x) = part m c (rI (t.val / 4) a) (cJ (t.val / 4 % 1) x) (t.val % 4) := by
  rw [prod_at]
  unfold part term
  simp only [blk0, blk1]

theorem snd_eq {A B : Type} {p : A × B} {a : A} {b b' : B} (h : p = (a, b)) (hb : b = b') : p.2 = b' := by
  subst h; exact hb
theorem fst_eq {A B : Type} {p : A × B} {a a' : A} {b : B} (h : p = (a, b)) (ha : a = a') : p.1 = a' := by
  subst h; exact ha

theorem first (c : Dev nD) (t : Fin cfg0.N) (h : t.val % 4 = 0) :
    (outsAt0 m c t.val t.isLt).2 = prod (iblk m c 0 t) (iblk m c 1 t) :=
  snd_eq (outsAt0_A m c t h (by omega) (by omega)) (sout0_A_0_eq ..)

theorem later (c : Dev nD) (t : Fin cfg0.N) (h : ¬t.val % 4 = 0) (k : ℕ) (hk : k < cfg0.N) (ek : t.val - 1 = k) :
    (outsAt0 m c t.val t.isLt).2 = fun y => ((outsAt0 m c k hk).2 y + prod (iblk m c 0 t) (iblk m c 1 t) y : EReal) := by
  subst ek
  by_cases h2 : t.val % 4 = 3
  · exact snd_eq (outsAt0_C m c t h (by omega) h2) (sout0_C_0_eq ..)
  · exact snd_eq (outsAt0_B m c t h (by omega) h2) (sout0_B_0_eq ..)

/-- The scratch holds the blocks so far. -/
theorem state (c : Dev nD) : ∀ (n : ℕ) (hn : n < cfg0.N) (a : Fin 1024) (x : Fin 1024),
    (outsAt0 m c n hn).2 (ix2 a x) = ∑ b ∈ Finset.range (n % 4 + 1), part m c (rI (n / 4) a) (cJ (n / 4 % 1) x) b := by
  intro n
  induction n with
  | zero =>
    intro hn a x
    refine (congrFun (first m c ⟨0, hn⟩ (Nat.zero_mod _)) _).trans ((prod_blk m c ⟨0, hn⟩ a x).trans ?_)
    simp
  | succ n ih =>
    intro hn a x
    by_cases h : (n + 1) % 4 = 0
    · refine (congrFun (first m c ⟨n + 1, hn⟩ h) _).trans ((prod_blk m c ⟨n + 1, hn⟩ a x).trans ?_)
      simp [h]
    · have e1 : (n + 1) / 4 = n / 4 := by omega
      have e2 : (n + 1) / 4 % 1 = n / 4 % 1 := by omega
      have e3 : (n + 1) % 4 = n % 4 + 1 := by omega
      refine (congrFun (later m c ⟨n + 1, hn⟩ h n (Nat.lt_of_succ_lt hn) rfl) _).trans ?_
      rw [e1, e3, Finset.sum_range_succ _ (n % 4 + 1)]
      refine congrArg₂ (fun a b : EReal => a + b) (ih (Nat.lt_of_succ_lt hn) a x) ((prod_blk m c ⟨n + 1, hn⟩ a x).trans ?_)
      show part m c (rI ((n + 1) / 4) a) (cJ ((n + 1) / 4 % 1) x) ((n + 1) % 4) = _
      rw [e1, e3]

/-- What the last block of an entry leaves in the result. -/
theorem last (c : Dev nD) (t : Fin cfg0.N) (h2 : t.val % 4 = 3) (a : Fin 1024) (x : Fin 1024) :
    (outsAt0 m c t.val t.isLt).1 (ix2 a x)
      = (∑ b ∈ Finset.range 4, part m c (rI (t.val / 4) a) (cJ (t.val / 4 % 1) x) b) := by
  have h : ¬t.val % 4 = 0 := by omega
  have hk : t.val - 1 < cfg0.N := Nat.lt_of_le_of_lt (Nat.sub_le _ _) t.isLt
  have s := state m c t.val t.isLt a x
  rw [h2] at s
  have s' := congrFun (snd_eq (outsAt0_C m c t h (by omega) h2) (sout0_C_0_eq ..)) (ix2 a x)
  refine (congrFun (fst_eq (outsAt0_C m c t h (by omega) h2) (out0_C_2_eq ..)) (ix2 a x)).trans ?_
  rw [← s, s']

open Cert.DwbIdeal.Value

/-- The result array at every index. -/
theorem out (c : Dev nD) (i : Fin 2048) (x : Fin 1024) :
    G2 m c (ix2 i x) = (∑ k : Fin 4096, term m c i x k) := by
  have hp : pt2Of (ix2 i x) = 4 * (1 * (i.val / 1024) + x.val / 1024) + 3 := by
    show 4 * (1 * (i.val / 1024 - 0) + 1 * (x.val / 1024 - 0)) + 3 = _; omega
  have hn : pt2Of (ix2 i x) < cfg0.N := by rw [hp, show cfg0.N = 8 from N_0]; omega
  have hl : loc2Of (ix2 i x) = ix2 (⟨i.val % 1024, Nat.mod_lt _ (by decide)⟩ : Fin 1024) (⟨x.val % 1024, Nat.mod_lt _ (by decide)⟩ : Fin 1024) := by
    funext a; apply Fin.ext
    match a with
    | ⟨0, _⟩ => rfl
    | ⟨1, _⟩ => rfl
  have hs := last m c ⟨pt2Of (ix2 i x), hn⟩ (by show pt2Of (ix2 i x) % 4 = 3; omega) (⟨i.val % 1024, Nat.mod_lt _ (by decide)⟩ : Fin 1024) (⟨x.val % 1024, Nat.mod_lt _ (by decide)⟩ : Fin 1024)
  have ei : rI (pt2Of (ix2 i x) / 4) (⟨i.val % 1024, Nat.mod_lt _ (by decide)⟩ : Fin 1024) = i :=
    Fin.ext (show (1024 * (pt2Of (ix2 i x) / 4) + i.val % 1024) % 2048 = i.val by omega)
  have ex : cJ (pt2Of (ix2 i x) / 4 % 1) (⟨x.val % 1024, Nat.mod_lt _ (by decide)⟩ : Fin 1024) = x :=
    Fin.ext (show (1024 * (pt2Of (ix2 i x) / 4 % 1) + x.val % 1024) % 1024 = x.val by omega)
  dsimp only at hs
  rw [ei, ex, outsAt0_sweep m c _ hn, ← hl] at hs
  unfold G2
  rw [dif_pos hn]
  refine hs.trans ?_
  unfold part
  rw [show ∑ b ∈ Finset.range 4, ∑ r : Fin 1024, term m c i x (kB b r) = ∑ k : Fin 4096, term m c i x k from
    sum_blocks 4 1024 4096 (by decide) (by decide) (fun k => term m c i x k)]

/-! The operands are the arguments. -/

def g0 (c : Dev nD) : Vec Ideal S4096x2048 .f32 := m (c, Proc.tc.devRef main_arg0)
def g1 (c : Dev nD) : Vec Ideal S4096x1024 .f32 := m (c, Proc.tc.devRef main_arg1)

theorem aA_eq (c : Dev nD) : aA m c = V m c main_v0 := rfl

theorem aA_at (c : Dev nD) (a : Fin 4096) (b : Fin 2048) : aA m c (ix2 a b) = g0 m c (ix2 a b) := by
  rw [aA_eq]
  simp only [g0]
  unfold_abbrev_sides
  after_reads_at

theorem aB_eq (c : Dev nD) : aB m c = V m c main_v1 := rfl

theorem aB_at (c : Dev nD) (a : Fin 4096) (b : Fin 1024) : aB m c (ix2 a b) = g1 m c (ix2 a b) := by
  rw [aB_eq]
  simp only [g1]
  unfold_abbrev_sides
  after_reads_at

/-- The reference's result at an index. -/
theorem ref_at (y0 : Vec Ideal S4096x2048 .f32) (y1 : Vec Ideal S4096x1024 .f32) (i : Fin 2048) (x : Fin 1024) :
    Cert.DwbReferenceIdeal.Read.val_main_v3 (F := Ideal) y0 y1 (ix2 i x) = ∑ k : Fin 4096, (y1 (ix2 k x) : EReal) * (y0 (ix2 k i) : EReal) := by
  unfold Cert.DwbReferenceIdeal.Read.val_main_v3 Cert.DwbReferenceIdeal.Read.val_main_v2
  pointwise

/-- What the kernel leaves is what the reference gives. -/
theorem terms_eq (c : Dev nD) (i : Fin 2048) (x : Fin 1024) :
    (((∑ k : Fin 4096, term m c i x k) : EReal)) = ∑ k : Fin 4096, (g1 m c (ix2 k x) : EReal) * (g0 m c (ix2 k i) : EReal) := by
  unfold term
  simp only [aA_at, aB_at]
  exact Finset.sum_congr rfl fun k _ => mul2 _ _

theorem same_at (c : Dev nD) (i : Fin 2048) (x : Fin 1024) :
    Cert.DwbReferenceIdeal.Read.val_main_v3 (F := Ideal) (g0 m c) (g1 m c) (ix2 i x) = G2 m c (ix2 i x : S2048x1024.Idx) :=
  (ref_at (g0 m c) (g1 m c) i x).trans ((out m c i x).trans (terms_eq m c i x)).symm

theorem same (c : Dev nD) : Cert.DwbReferenceIdeal.Read.val_main_v3 (F := Ideal) (g0 m c) (g1 m c) = G2 m c := by
  funext j
  rw [eq_ix2 j]
  exact same_at m c (j 0) (j 1)

end Cert.DwbIdeal.Prod
-- ==== Proof.Dwz.lean ====
module

public import proofs.«01_k».proof.Proof.Gen.DwzIdeal.Value
public import proofs.«01_k».proof.Proof.Gen.DwzReferenceIdeal.Run
public import proofs.«01_k».proof.Proof.Gen.DwzReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the mixer: the gradient of a weight, the product of the transposed input and the cotangent.
The kernel adds it up in a scratch, block by block of the summed axis. -/

namespace Cert.DwzIdeal.Prod

open Cert.DwzIdeal Cert.DwzIdeal.Gen Idealize.ShloMosaic Idealize.ShloMosaic.TcCoe Cert.Sums

/-- The product of two blocks. -/
def prod (u : Vec Ideal S1024x1024 .bf16) (v : Vec Ideal S1024x1024 .bf16) : Vec Ideal S1024x1024 .f32 :=
  fun y => ∑ r : Fin 1024, (u (ix2 r (y 0)) : EReal) * (v (ix2 r (y 1)) : EReal)

theorem prod_at (u : Vec Ideal S1024x1024 .bf16) (v : Vec Ideal S1024x1024 .bf16) (a : Fin 1024) (x : Fin 1024) :
    prod u v (ix2 a x) = ∑ r : Fin 1024, (u (ix2 r a) : EReal) * (v (ix2 r x) : EReal) := rfl

theorem pay1_at (u : Vec Ideal S1024x1024 .bf16) (v : Vec Ideal S1024x1024 .bf16) (a : Fin 1024) (x : Fin 1024) :
    k0_pay1 u v (ix2 a x) = ∑ r : Fin 1024, (u (ix2 r a) : EReal) * (v (ix2 r x) : EReal) := by
  pointwise [k0_pay1]

theorem pay1_eq (u : Vec Ideal S1024x1024 .bf16) (v : Vec Ideal S1024x1024 .bf16) : k0_pay1 u v = prod u v := by
  funext y; rw [eq_ix2 y]; exact pay1_at u v (y 0) (y 1)

theorem pay2_eq (u : Vec Ideal S1024x1024 .bf16) (v : Vec Ideal S1024x1024 .bf16) : k0_pay2 u v = prod u v := by
  rw [← pay1_eq]; funext y; pointwise [k0_pay2]

theorem pay3_eq (u : Vec Ideal S1024x1024 .bf16) (v : Vec Ideal S1024x1024 .bf16) (s : Vec Ideal S1024x1024 .f32) :
    k0_pay3 u v s = fun y => (s y + prod u v y : EReal) := by
  rw [← pay1_eq]; funext y; pointwise [k0_pay3]

theorem sout0_A_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : cond0_0 i) (hc1 : ¬cond0_1 i) (hc2 : ¬cond0_2 i)
    (x0 : Vec Ideal S1024x1024 .bf16) (x1 : Vec Ideal S1024x1024 .bf16) :
    sout0_A_0 c i a3 ha3 a4 ha4 a5 ha5 a6 ha6 hc0 hc1 hc2 x0 x1 = prod x0 x1 := by
  unfold sout0_A_0
  rw [View.read_writes_eq_canon _ _ _ (scover0_A_0 c i a3 ha3 a4 ha4 a5 ha5 a6 ha6 hc0 hc1 hc2 x0 x1)]
  unfold kernelRun0_A
  dsimp only
  sl_unfold_words
  simp only [View.readAt_eq_ld, ha3.read_unread, ha4.read_unread, ha5.read_unread, ha6.read_unread, View.ld_unit_zero (S := S1024x1024) hz2]
  rw [View.canon_cons_unit_zero hz2]
  exact pay2_eq ..

theorem sout0_B_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : ¬cond0_2 i)
    (x0 : Vec Ideal S1024x1024 .bf16) (x1 : Vec Ideal S1024x1024 .bf16) (xs0 : Vec Ideal S1024x1024 .f32) :
    sout0_B_0 c i a3 ha3 a4 ha4 a5 ha5 a6 ha6 hc0 hc1 hc2 x0 x1 xs0 = fun y => (xs0 y + prod x0 x1 y : EReal) := by
  unfold sout0_B_0
  rw [View.read_writes_eq_canon _ _ _ (scover0_B_0 c i a3 ha3 a4 ha4 a5 ha5 a6 ha6 hc0 hc1 hc2 x0 x1 xs0)]
  unfold kernelRun0_B
  dsimp only
  sl_unfold_words
  simp only [View.readAt_eq_ld, ha3.read_unread, ha4.read_unread, ha5.read_unread, ha6.read_unread, View.ld_unit_zero (S := S1024x1024) hz2]
  rw [View.canon_cons_unit_zero hz2]
  exact pay3_eq ..

theorem sout0_C_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : cond0_2 i)
    (x0 : Vec Ideal S1024x1024 .bf16) (x1 : Vec Ideal S1024x1024 .bf16) (xs0 : Vec Ideal S1024x1024 .f32) :
    sout0_C_0 c i a3 ha3 a4 ha4 a5 ha5 a6 ha6 hc0 hc1 hc2 x0 x1 xs0 = fun y => (xs0 y + prod x0 x1 y : EReal) := by
  unfold sout0_C_0
  rw [View.read_writes_eq_canon _ _ _ (scover0_C_0 c i a3 ha3 a4 ha4 a5 ha5 a6 ha6 hc0 hc1 hc2 x0 x1 xs0)]
  unfold kernelRun0_C
  dsimp only
  sl_unfold_words
  simp only [View.readAt_eq_ld, ha3.read_unread, ha4.read_unread, ha5.read_unread, ha6.read_unread, View.ld_unit_zero (S := S1024x1024) hz2]
  rw [View.canon_cons_unit_zero hz2]
  exact pay3_eq ..

theorem out0_C_2_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : cond0_2 i)
    (x0 : Vec Ideal S1024x1024 .bf16) (x1 : Vec Ideal S1024x1024 .bf16) (xs0 : Vec Ideal S1024x1024 .f32) :
    out0_C_2 c i a3 ha3 a4 ha4 a5 ha5 a6 ha6 hc0 hc1 hc2 x0 x1 xs0 = fun y => (xs0 y + prod x0 x1 y : EReal) := by
  unfold out0_C_2
  rw [View.read_writes_eq_canon _ _ _ (cover0_C_2 c i a3 ha3 a4 ha4 a5 ha5 a6 ha6 hc0 hc1 hc2 x0 x1 xs0)]
  unfold kernelRun0_C
  dsimp only
  sl_unfold_words
  simp only [View.readAt_eq_ld, ha3.read_unread, ha4.read_unread, ha5.read_unread, ha6.read_unread, View.ld_unit_zero (S := S1024x1024) hz2]
  rw [View.canon_cons_unit_zero hz2, View.readCov_unit_zero _ hz2]
  exact pay3_eq ..

/-! Which block each window reads at a grid point. -/

theorem tlt (t : Fin cfg0.N) : t.val < 8 := lt_of_lt_of_eq t.isLt (show cfg0.N = 8 from N_0)

/-- Block `b`'s rows of the result, its columns, and its part of the summed axis. -/
def rI (b : ℕ) (r : Fin 1024) : Fin 1024 := ⟨(1024 * b + r.val) % 1024, Nat.mod_lt _ (by decide)⟩
def cJ (b : ℕ) (r : Fin 1024) : Fin 2048 := ⟨(1024 * b + r.val) % 2048, Nat.mod_lt _ (by decide)⟩
def kB (b : ℕ) (r : Fin 1024) : Fin 4096 := ⟨(1024 * b + r.val) % 4096, Nat.mod_lt _ (by decide)⟩

variable (m : (ℓ : Loc nD τ sig) → Buf (Elt Ideal) ℓ)

/-- Operand 0, as the kernel's window names it. -/
def aA (c : Dev nD) : Vec Ideal S4096x1024 .bf16 := V m c (Pipeline.arrRef spec0 0)

theorem index0 : ∀ t : Fin cfg0.N, win0_0.index t (0 : Fin 2) = t.val % 4 ∧ win0_0.index t (1 : Fin 2) = t.val / 8 := by decide +kernel

theorem rd0 (A : S4096x1024.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (kB (t.val % 4) a) (rI (t.val / 8) b) : S4096x1024.Idx) := by
  have ht := tlt t
  have h0 : win0_0.index t 0 * 1024 + 1 * a.val = (1024 * (t.val % 4) + a.val) % 4096 := by rw [(index0 t).1]; omega
  have h1 : win0_0.index t 1 * 1024 + 1 * b.val = (1024 * (t.val / 8) + b.val) % 1024 := by rw [(index0 t).2]; omega
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .bf16) (ix2 a b) = aA m c (ix2 (kB (t.val % 4) a) (rI (t.val / 8) b)) :=
  (rd0 (aA m c) t (ix2 a b)).trans (congrArg (aA m c) (emb0 t a b))

/-- Operand 1, as the kernel's window names it. -/
def aB (c : Dev nD) : Vec Ideal S4096x2048 .bf16 := V m c (Pipeline.arrRef spec0 1)

theorem index1 : ∀ t : Fin cfg0.N, win0_1.index t (0 : Fin 2) = t.val % 4 ∧ win0_1.index t (1 : Fin 2) = t.val / 4 % 2 := by decide +kernel

theorem rd1 (A : S4096x2048.Idx → EReal) (t : Fin cfg0.N) (y : S1024x1024.Idx) :
    (((cfg0.win 1).blk t).view.read (Elt Ideal) A) y = A (((cfg0.win 1).blk t).view.emb y) := rfl

theorem emb1 (t : Fin cfg0.N) (a : Fin 1024) (b : Fin 1024) :
    ((cfg0.win 1).blk t).view.emb (ix2 a b : S1024x1024.Idx) = (ix2 (kB (t.val % 4) a) (cJ (t.val / 4 % 2) b) : S4096x2048.Idx) := by
  have ht := tlt t
  have h0 : win0_1.index t 0 * 1024 + 1 * a.val = (1024 * (t.val % 4) + a.val) % 4096 := by rw [(index1 t).1]; omega
  have h1 : win0_1.index t 1 * 1024 + 1 * b.val = (1024 * (t.val / 4 % 2) + b.val) % 2048 := by rw [(index1 t).2]; omega
  funext x; apply Fin.ext
  match x with
  | ⟨0, _⟩ => exact h0
  | ⟨1, _⟩ => exact h1

theorem blk1 (c : Dev nD) (t : Fin cfg0.N) (a : Fin 1024) (b : Fin 1024) :
    (iblk m c 1 t : Vec Ideal S1024x1024 .bf16) (ix2 a b) = aB m c (ix2 (kB (t.val % 4) a) (cJ (t.val / 4 % 2) b)) :=
  (rd1 (aB m c) t (ix2 a b)).trans (congrArg (aB m c) (emb1 t a b))

/-- One term of the product of the whole operands. -/
def term (c : Dev nD) (i : Fin 1024) (x : Fin 2048) (k : Fin 4096) : EReal := aA m c (ix2 k i) * aB m c (ix2 k x)

/-- Block `b`'s part of an entry. -/
def part (c : Dev nD) (i : Fin 1024) (x : Fin 2048) (b : ℕ) : EReal := ∑ r : Fin 1024, term m c i x (kB b r)

theorem prod_blk (c : Dev nD) (t : Fin cfg0.N) (a : Fin 1024) (x : Fin 1024) :
    prod (iblk m c 0 t) (iblk m c 1 t) (ix2 a x) = part m c (rI (t.val / 8) a) (cJ (t.val / 4 % 2) x) (t.val % 4) := by
  rw [prod_at]
  unfold part term
  simp only [blk0, blk1]

theorem snd_eq {A B : Type} {p : A × B} {a : A} {b b' : B} (h : p = (a, b)) (hb : b = b') : p.2 = b' := by
  subst h; exact hb
theorem fst_eq {A B : Type} {p : A × B} {a a' : A} {b : B} (h : p = (a, b)) (ha : a = a') : p.1 = a' := by
  subst h; exact ha

theorem first (c : Dev nD) (t : Fin cfg0.N) (h : t.val % 4 = 0) :
    (outsAt0 m c t.val t.isLt).2 = prod (iblk m c 0 t) (iblk m c 1 t) :=
  snd_eq (outsAt0_A m c t h (by omega) (by omega)) (sout0_A_0_eq ..)

theorem later (c : Dev nD) (t : Fin cfg0.N) (h : ¬t.val % 4 = 0) (k : ℕ) (hk : k < cfg0.N) (ek : t.val - 1 = k) :
    (outsAt0 m c t.val t.isLt).2 = fun y => ((outsAt0 m c k hk).2 y + prod (iblk m c 0 t) (iblk m c 1 t) y : EReal) := by
  subst ek
  by_cases h2 : t.val % 4 = 3
  · exact snd_eq (outsAt0_C m c t h (by omega) h2) (sout0_C_0_eq ..)
  · exact snd_eq (outsAt0_B m c t h (by omega) h2) (sout0_B_0_eq ..)

/-- The scratch holds the blocks so far. -/
theorem state (c : Dev nD) : ∀ (n : ℕ) (hn : n < cfg0.N) (a : Fin 1024) (x : Fin 1024),
    (outsAt0 m c n hn).2 (ix2 a x) = ∑ b ∈ Finset.range (n % 4 + 1), part m c (rI (n / 8) a) (cJ (n / 4 % 2) x) b := by
  intro n
  induction n with
  | zero =>
    intro hn a x
    refine (congrFun (first m c ⟨0, hn⟩ (Nat.zero_mod _)) _).trans ((prod_blk m c ⟨0, hn⟩ a x).trans ?_)
    simp
  | succ n ih =>
    intro hn a x
    by_cases h : (n + 1) % 4 = 0
    · refine (congrFun (first m c ⟨n + 1, hn⟩ h) _).trans ((prod_blk m c ⟨n + 1, hn⟩ a x).trans ?_)
      simp [h]
    · have e1 : (n + 1) / 8 = n / 8 := by omega
      have e2 : (n + 1) / 4 % 2 = n / 4 % 2 := by omega
      have e3 : (n + 1) % 4 = n % 4 + 1 := by omega
      refine (congrFun (later m c ⟨n + 1, hn⟩ h n (Nat.lt_of_succ_lt hn) rfl) _).trans ?_
      rw [e1, e2, e3, Finset.sum_range_succ _ (n % 4 + 1)]
      refine congrArg₂ (fun a b : EReal => a + b) (ih (Nat.lt_of_succ_lt hn) a x) ((prod_blk m c ⟨n + 1, hn⟩ a x).trans ?_)
      show part m c (rI ((n + 1) / 8) a) (cJ ((n + 1) / 4 % 2) x) ((n + 1) % 4) = _
      rw [e1, e2, e3]

/-- What the last block of an entry leaves in the result. -/
theorem last (c : Dev nD) (t : Fin cfg0.N) (h2 : t.val % 4 = 3) (a : Fin 1024) (x : Fin 1024) :
    (outsAt0 m c t.val t.isLt).1 (ix2 a x)
      = (∑ b ∈ Finset.range 4, part m c (rI (t.val / 8) a) (cJ (t.val / 4 % 2) x) b) := by
  have h : ¬t.val % 4 = 0 := by omega
  have hk : t.val - 1 < cfg0.N := Nat.lt_of_le_of_lt (Nat.sub_le _ _) t.isLt
  have s := state m c t.val t.isLt a x
  rw [h2] at s
  have s' := congrFun (snd_eq (outsAt0_C m c t h (by omega) h2) (sout0_C_0_eq ..)) (ix2 a x)
  refine (congrFun (fst_eq (outsAt0_C m c t h (by omega) h2) (out0_C_2_eq ..)) (ix2 a x)).trans ?_
  rw [← s, s']

open Cert.DwzIdeal.Value

/-- The result array at every index. -/
theorem out (c : Dev nD) (i : Fin 1024) (x : Fin 2048) :
    G2 m c (ix2 i x) = (∑ k : Fin 4096, term m c i x k) := by
  have hp : pt2Of (ix2 i x) = 4 * (2 * (i.val / 1024) + x.val / 1024) + 3 := by
    show 4 * (2 * (i.val / 1024 - 0) + 1 * (x.val / 1024 - 0)) + 3 = _; omega
  have hn : pt2Of (ix2 i x) < cfg0.N := by rw [hp, show cfg0.N = 8 from N_0]; omega
  have hl : loc2Of (ix2 i x) = ix2 (⟨i.val % 1024, Nat.mod_lt _ (by decide)⟩ : Fin 1024) (⟨x.val % 1024, Nat.mod_lt _ (by decide)⟩ : Fin 1024) := by
    funext a; apply Fin.ext
    match a with
    | ⟨0, _⟩ => rfl
    | ⟨1, _⟩ => rfl
  have hs := last m c ⟨pt2Of (ix2 i x), hn⟩ (by show pt2Of (ix2 i x) % 4 = 3; omega) (⟨i.val % 1024, Nat.mod_lt _ (by decide)⟩ : Fin 1024) (⟨x.val % 1024, Nat.mod_lt _ (by decide)⟩ : Fin 1024)
  have ei : rI (pt2Of (ix2 i x) / 8) (⟨i.val % 1024, Nat.mod_lt _ (by decide)⟩ : Fin 1024) = i :=
    Fin.ext (show (1024 * (pt2Of (ix2 i x) / 8) + i.val % 1024) % 1024 = i.val by omega)
  have ex : cJ (pt2Of (ix2 i x) / 4 % 2) (⟨x.val % 1024, Nat.mod_lt _ (by decide)⟩ : Fin 1024) = x :=
    Fin.ext (show (1024 * (pt2Of (ix2 i x) / 4 % 2) + x.val % 1024) % 2048 = x.val by omega)
  dsimp only at hs
  rw [ei, ex, outsAt0_sweep m c _ hn, ← hl] at hs
  unfold G2
  rw [dif_pos hn]
  refine hs.trans ?_
  unfold part
  rw [show ∑ b ∈ Finset.range 4, ∑ r : Fin 1024, term m c i x (kB b r) = ∑ k : Fin 4096, term m c i x k from
    sum_blocks 4 1024 4096 (by decide) (by decide) (fun k => term m c i x k)]

/-! The operands are the arguments. -/

def g0 (c : Dev nD) : Vec Ideal S4096x1024 .f32 := m (c, Proc.tc.devRef main_arg0)
def g1 (c : Dev nD) : Vec Ideal S4096x2048 .f32 := m (c, Proc.tc.devRef main_arg1)

theorem aA_eq (c : Dev nD) : aA m c = V m c main_v0 := rfl

theorem aA_at (c : Dev nD) (a : Fin 4096) (b : Fin 1024) : aA m c (ix2 a b) = g0 m c (ix2 a b) := by
  rw [aA_eq]
  simp only [g0]
  unfold_abbrev_sides
  after_reads_at

theorem aB_eq (c : Dev nD) : aB m c = V m c main_v1 := rfl

theorem aB_at (c : Dev nD) (a : Fin 4096) (b : Fin 2048) : aB m c (ix2 a b) = g1 m c (ix2 a b) := by
  rw [aB_eq]
  simp only [g1]
  unfold_abbrev_sides
  after_reads_at

/-- The reference's result at an index. -/
theorem ref_at (y0 : Vec Ideal S4096x1024 .f32) (y1 : Vec Ideal S4096x2048 .f32) (i : Fin 1024) (x : Fin 2048) :
    Cert.DwzReferenceIdeal.Read.val_main_v3 (F := Ideal) y0 y1 (ix2 i x) = ∑ k : Fin 4096, (y1 (ix2 k x) : EReal) * (y0 (ix2 k i) : EReal) := by
  unfold Cert.DwzReferenceIdeal.Read.val_main_v3 Cert.DwzReferenceIdeal.Read.val_main_v2
  pointwise

/-- What the kernel leaves is what the reference gives. -/
theorem terms_eq (c : Dev nD) (i : Fin 1024) (x : Fin 2048) :
    (((∑ k : Fin 4096, term m c i x k) : EReal)) = ∑ k : Fin 4096, (g1 m c (ix2 k x) : EReal) * (g0 m c (ix2 k i) : EReal) := by
  unfold term
  simp only [aA_at, aB_at]
  exact Finset.sum_congr rfl fun k _ => mul2 _ _

theorem same_at (c : Dev nD) (i : Fin 1024) (x : Fin 2048) :
    Cert.DwzReferenceIdeal.Read.val_main_v3 (F := Ideal) (g0 m c) (g1 m c) (ix2 i x) = G2 m c (ix2 i x : S1024x2048.Idx) :=
  (ref_at (g0 m c) (g1 m c) i x).trans ((out m c i x).trans (terms_eq m c i x)).symm

theorem same (c : Dev nD) : Cert.DwzReferenceIdeal.Read.val_main_v3 (F := Ideal) (g0 m c) (g1 m c) = G2 m c := by
  funext j
  rw [eq_ix2 j]
  exact same_at m c (j 0) (j 1)

end Cert.DwzIdeal.Prod
-- ==== Proof.Dwx.lean ====
module

public import proofs.«01_k».proof.Proof.Gen.DwxIdeal.Value
public import proofs.«01_k».proof.Proof.Gen.DwxReferenceIdeal.Run
public import proofs.«01_k».proof.Proof.Gen.DwxReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the mixer: the gradient of a weight, the product of the transposed input and the cotangent.
The kernel adds it up in a scratch, block by block of the summed axis. -/

namespace Cert.DwxIdeal.Prod

open Cert.DwxIdeal Cert.DwxIdeal.Gen Idealize.ShloMosaic Idealize.ShloMosaic.TcCoe Cert.Sums

/-- The product of two blocks. -/
def prod (u : Vec Ideal S1024x1024 .bf16) (v : Vec Ideal S1024x1024 .bf16) : Vec Ideal S1024x1024 .f32 :=
  fun y => ∑ r : Fin 1024, (u (ix2 r (y 0)) : EReal) * (v (ix2 r (y 1)) : EReal)

theorem prod_at (u : Vec Ideal S1024x1024 .bf16) (v : Vec Ideal S1024x1024 .bf16) (a : Fin 1024) (x : Fin 1024) :
    prod u v (ix2 a x) = ∑ r : Fin 1024, (u (ix2 r a) : EReal) * (v (ix2 r x) : EReal) := rfl

theorem pay1_at (u : Vec Ideal S1024x1024 .bf16) (v : Vec Ideal S1024x1024 .bf16) (a : Fin 1024) (x : Fin 1024) :
    k0_pay1 u v (ix2 a x) = ∑ r : Fin 1024, (u (ix2 r a) : EReal) * (v (ix2 r x) : EReal) := by
  pointwise [k0_pay1]

theorem pay1_eq (u : Vec Ideal S1024x1024 .bf16) (v : Vec Ideal S1024x1024 .bf16) : k0_pay1 u v = prod u v := by
  funext y; rw [eq_ix2 y]; exact pay1_at u v (y 0) (y 1)

theorem pay2_eq (u : Vec Ideal S1024x1024 .bf16) (v : Vec Ideal S1024x1024 .bf16) : k0_pay2 u v = prod u v := by
  rw [← pay1_eq]; funext y; pointwise [k0_pay2]

theorem pay3_eq (u : Vec Ideal S1024x1024 .bf16) (v : Vec Ideal S1024x1024 .bf16) (s : Vec Ideal S1024x1024 .f32) :
    k0_pay3 u v s = fun y => (s y + prod u v y : EReal) := by
  rw [← pay1_eq]; funext y; pointwise [k0_pay3]

theorem sout0_A_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : cond0_0 i) (hc1 : ¬cond0_1 i) (hc2 : ¬cond0_2 i)
    (x0 : Vec Ideal S1024x1024 .bf16) (x1 : Vec Ideal S1024x1024 .bf16) :
    sout0_A_0 c i a3 ha3 a4 ha4 a5 ha5 a6 ha6 hc0 hc1 hc2 x0 x1 = prod x0 x1 := by
  unfold sout0_A_0
  rw [View.read_writes_eq_canon _ _ _ (scover0_A_0 c i a3 ha3 a4 ha4 a5 ha5 a6 ha6 hc0 hc1 hc2 x0 x1)]
  unfold kernelRun0_A
  dsimp only
  sl_unfold_words
  simp only [View.readAt_eq_ld, ha3.read_unread, ha4.read_unread, ha5.read_unread, ha6.read_unread, View.ld_unit_zero (S := S1024x1024) hz2]
  rw [View.canon_cons_unit_zero hz2]
  exact pay2_eq ..

theorem sout0_B_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : ¬cond0_2 i)
    (x0 : Vec Ideal S1024x1024 .bf16) (x1 : Vec Ideal S1024x1024 .bf16) (xs0 : Vec Ideal S1024x1024 .f32) :
    sout0_B_0 c i a3 ha3 a4 ha4 a5 ha5 a6 ha6 hc0 hc1 hc2 x0 x1 xs0 = fun y => (xs0 y + prod x0 x1 y : EReal) := by
  unfold sout0_B_0
  rw [View.read_writes_eq_canon _ _ _ (scover0_B_0 c i a3 ha3 a4 ha4 a5 ha5 a6 ha6 hc0 hc1 hc2 x0 x1 xs0)]
  unfold kernelRun0_B
  dsimp only
  sl_unfold_words
  simp only [View.readAt_eq_ld, ha3.read_unread, ha4.read_unread, ha5.read_unread, ha6.read_unread, View.ld_unit_zero (S := S1024x1024) hz2]
  rw [View.canon_cons_unit_zero hz2]
  exact pay3_eq ..

theorem sout0_C_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : cond0_2 i)
    (x0 : Vec Ideal S1024x1024 .bf16) (x1 : Vec Ideal S1024x1024 .bf16) (xs0 : Vec Ideal S1024x1024 .f32) :
    sout0_C_0 c i a3 ha3 a4 ha4 a5 ha5 a6 ha6 hc0 hc1 hc2 x0 x1 xs0 = fun y => (xs0 y + prod x0 x1 y : EReal) := by
  unfold sout0_C_0
  rw [View.read_writes_eq_canon _ _ _ (scover0_C_0 c i a3 ha3 a4 ha4 a5 ha5 a6 ha6 hc0 hc1 hc2 x0 x1 xs0)]
  unfold kernelRun0_C
  dsimp only
  sl_unfold_words
  simp only [View.readAt_eq_ld, ha3.read_unread, ha4.read_unread, ha5.read_unread, ha6.read_unread, View.ld_unit_zero (S := S1024x1024) hz2]
  rw [View.canon_cons_unit_zero hz2]
  exact pay3_eq ..

theorem out0_C_2_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : cond0_2 i)
    (x0 : Vec Ideal S1024x1024 .bf16) (x1 : Vec Ideal S1024x1024 .bf16) (xs0 : Vec Ideal S1024x1024 .f32) :
    out0_C_2 c i a3 ha3 a4 ha4 a5 ha5 a6 ha6 hc0 hc1 hc2 x0 x1 xs0 = fun y => (xs0 y + prod x0 x1 y : EReal) := by
  unfold out0_C_2
  rw [View.read_writes_eq_canon _ _ _ (cover0_C_2 c i a3 ha3 a4 ha4 a5 ha5 a6 ha6 hc0 hc1 hc2 x0 x1 xs0)]
  unfold kernelRun0_C
  dsimp only
  sl_unfold_words
  simp only [View.readAt_eq_ld, ha3.read_unread, ha4.read_unread, ha5.read_unread, ha6.read_unread, View.ld_unit_zero (S := S1024x1024) hz2]
  rw [View.canon_cons_unit_zero hz2, View.readCov_unit_zero _ hz2]
  exact pay3_eq ..

/-! Which block each window reads at a grid point. -/

theorem tlt (t : Fin cfg0.N) : t.val < 12 := lt_of_lt_of_eq t.isLt (show cfg0.N = 12 from N_0)

/-- Block `b`'s rows of the result, its columns, and its part of the summed axis. -/
def rI (b : ℕ) (r : Fin 1024) : Fin 1024 := ⟨(1024 * b + r.val) % 1024, Nat.mod_lt _ (by decide)⟩
def cJ (b : ℕ) (r : Fin 1024) : Fin 3072 := ⟨(1024 * b + r.val) % 3072, Nat.mod_lt _ (by decide)⟩
def kB (b : ℕ) (r : Fin 1024) : Fin 4096 := ⟨(1024 * b + r.val) % 4096, Nat.mod_lt _ (by decide)⟩

variable (m : (ℓ : Loc nD τ sig) → Buf (Elt Ideal) ℓ)

/-- Operand 0, as the kernel's window names it. -/
def aA (c : Dev nD) : Vec Ideal S4096x1024 .bf16 := V m c (Pipeline.arrRef spec0 0)

theorem index0 : ∀ t : Fin cfg0.N, win0_0.index t (0 : Fin 2) = t.val % 4 ∧ win0_0.index t (1 : Fin 2) = t.val / 12 := by decide +kernel

theorem rd0 (A : S4096x1024.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (kB (t.val % 4) a) (rI (t.val / 12) b) : S4096x1024.Idx) := by
  have ht := tlt t
  have h0 : win0_0.index t 0 * 1024 + 1 * a.val = (1024 * (t.val % 4) + a.val) % 4096 := by rw [(index0 t).1]; omega
  have h1 : win0_0.index t 1 * 1024 + 1 * b.val = (1024 * (t.val / 12) + b.val) % 1024 := by rw [(index0 t).2]; omega
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .bf16) (ix2 a b) = aA m c (ix2 (kB (t.val % 4) a) (rI (t.val / 12) b)) :=
  (rd0 (aA m c) t (ix2 a b)).trans (congrArg (aA m c) (emb0 t a b))

/-- Operand 1, as the kernel's window names it. -/
def aB (c : Dev nD) : Vec Ideal S4096x3072 .bf16 := V m c (Pipeline.arrRef spec0 1)

theorem index1 : ∀ t : Fin cfg0.N, win0_1.index t (0 : Fin 2) = t.val % 4 ∧ win0_1.index t (1 : Fin 2) = t.val / 4 % 3 := by decide +kernel

theorem rd1 (A : S4096x3072.Idx → EReal) (t : Fin cfg0.N) (y : S1024x1024.Idx) :
    (((cfg0.win 1).blk t).view.read (Elt Ideal) A) y = A (((cfg0.win 1).blk t).view.emb y) := rfl

theorem emb1 (t : Fin cfg0.N) (a : Fin 1024) (b : Fin 1024) :
    ((cfg0.win 1).blk t).view.emb (ix2 a b : S1024x1024.Idx) = (ix2 (kB (t.val % 4) a) (cJ (t.val / 4 % 3) b) : S4096x3072.Idx) := by
  have ht := tlt t
  have h0 : win0_1.index t 0 * 1024 + 1 * a.val = (1024 * (t.val % 4) + a.val) % 4096 := by rw [(index1 t).1]; omega
  have h1 : win0_1.index t 1 * 1024 + 1 * b.val = (1024 * (t.val / 4 % 3) + b.val) % 3072 := by rw [(index1 t).2]; omega
  funext x; apply Fin.ext
  match x with
  | ⟨0, _⟩ => exact h0
  | ⟨1, _⟩ => exact h1

theorem blk1 (c : Dev nD) (t : Fin cfg0.N) (a : Fin 1024) (b : Fin 1024) :
    (iblk m c 1 t : Vec Ideal S1024x1024 .bf16) (ix2 a b) = aB m c (ix2 (kB (t.val % 4) a) (cJ (t.val / 4 % 3) b)) :=
  (rd1 (aB m c) t (ix2 a b)).trans (congrArg (aB m c) (emb1 t a b))

/-- One term of the product of the whole operands. -/
def term (c : Dev nD) (i : Fin 1024) (x : Fin 3072) (k : Fin 4096) : EReal := aA m c (ix2 k i) * aB m c (ix2 k x)

/-- Block `b`'s part of an entry. -/
def part (c : Dev nD) (i : Fin 1024) (x : Fin 3072) (b : ℕ) : EReal := ∑ r : Fin 1024, term m c i x (kB b r)

theorem prod_blk (c : Dev nD) (t : Fin cfg0.N) (a : Fin 1024) (x : Fin 1024) :
    prod (iblk m c 0 t) (iblk m c 1 t) (ix2 a x) = part m c (rI (t.val / 12) a) (cJ (t.val / 4 % 3) x) (t.val % 4) := by
  rw [prod_at]
  unfold part term
  simp only [blk0, blk1]

theorem snd_eq {A B : Type} {p : A × B} {a : A} {b b' : B} (h : p = (a, b)) (hb : b = b') : p.2 = b' := by
  subst h; exact hb
theorem fst_eq {A B : Type} {p : A × B} {a a' : A} {b : B} (h : p = (a, b)) (ha : a = a') : p.1 = a' := by
  subst h; exact ha

theorem first (c : Dev nD) (t : Fin cfg0.N) (h : t.val % 4 = 0) :
    (outsAt0 m c t.val t.isLt).2 = prod (iblk m c 0 t) (iblk m c 1 t) :=
  snd_eq (outsAt0_A m c t h (by omega) (by omega)) (sout0_A_0_eq ..)

theorem later (c : Dev nD) (t : Fin cfg0.N) (h : ¬t.val % 4 = 0) (k : ℕ) (hk : k < cfg0.N) (ek : t.val - 1 = k) :
    (outsAt0 m c t.val t.isLt).2 = fun y => ((outsAt0 m c k hk).2 y + prod (iblk m c 0 t) (iblk m c 1 t) y : EReal) := by
  subst ek
  by_cases h2 : t.val % 4 = 3
  · exact snd_eq (outsAt0_C m c t h (by omega) h2) (sout0_C_0_eq ..)
  · exact snd_eq (outsAt0_B m c t h (by omega) h2) (sout0_B_0_eq ..)

/-- The scratch holds the blocks so far. -/
theorem state (c : Dev nD) : ∀ (n : ℕ) (hn : n < cfg0.N) (a : Fin 1024) (x : Fin 1024),
    (outsAt0 m c n hn).2 (ix2 a x) = ∑ b ∈ Finset.range (n % 4 + 1), part m c (rI (n / 12) a) (cJ (n / 4 % 3) x) b := by
  intro n
  induction n with
  | zero =>
    intro hn a x
    refine (congrFun (first m c ⟨0, hn⟩ (Nat.zero_mod _)) _).trans ((prod_blk m c ⟨0, hn⟩ a x).trans ?_)
    simp
  | succ n ih =>
    intro hn a x
    by_cases h : (n + 1) % 4 = 0
    · refine (congrFun (first m c ⟨n + 1, hn⟩ h) _).trans ((prod_blk m c ⟨n + 1, hn⟩ a x).trans ?_)
      simp [h]
    · have e1 : (n + 1) / 12 = n / 12 := by omega
      have e2 : (n + 1) / 4 % 3 = n / 4 % 3 := by omega
      have e3 : (n + 1) % 4 = n % 4 + 1 := by omega
      refine (congrFun (later m c ⟨n + 1, hn⟩ h n (Nat.lt_of_succ_lt hn) rfl) _).trans ?_
      rw [e1, e2, e3, Finset.sum_range_succ _ (n % 4 + 1)]
      refine congrArg₂ (fun a b : EReal => a + b) (ih (Nat.lt_of_succ_lt hn) a x) ((prod_blk m c ⟨n + 1, hn⟩ a x).trans ?_)
      show part m c (rI ((n + 1) / 12) a) (cJ ((n + 1) / 4 % 3) x) ((n + 1) % 4) = _
      rw [e1, e2, e3]

/-- What the last block of an entry leaves in the result. -/
theorem last (c : Dev nD) (t : Fin cfg0.N) (h2 : t.val % 4 = 3) (a : Fin 1024) (x : Fin 1024) :
    (outsAt0 m c t.val t.isLt).1 (ix2 a x)
      = (∑ b ∈ Finset.range 4, part m c (rI (t.val / 12) a) (cJ (t.val / 4 % 3) x) b) := by
  have h : ¬t.val % 4 = 0 := by omega
  have hk : t.val - 1 < cfg0.N := Nat.lt_of_le_of_lt (Nat.sub_le _ _) t.isLt
  have s := state m c t.val t.isLt a x
  rw [h2] at s
  have s' := congrFun (snd_eq (outsAt0_C m c t h (by omega) h2) (sout0_C_0_eq ..)) (ix2 a x)
  refine (congrFun (fst_eq (outsAt0_C m c t h (by omega) h2) (out0_C_2_eq ..)) (ix2 a x)).trans ?_
  rw [← s, s']

open Cert.DwxIdeal.Value

/-- The result array at every index. -/
theorem out (c : Dev nD) (i : Fin 1024) (x : Fin 3072) :
    G2 m c (ix2 i x) = (∑ k : Fin 4096, term m c i x k) := by
  have hp : pt2Of (ix2 i x) = 4 * (3 * (i.val / 1024) + x.val / 1024) + 3 := by
    show 4 * (3 * (i.val / 1024 - 0) + 1 * (x.val / 1024 - 0)) + 3 = _; omega
  have hn : pt2Of (ix2 i x) < cfg0.N := by rw [hp, show cfg0.N = 12 from N_0]; omega
  have hl : loc2Of (ix2 i x) = ix2 (⟨i.val % 1024, Nat.mod_lt _ (by decide)⟩ : Fin 1024) (⟨x.val % 1024, Nat.mod_lt _ (by decide)⟩ : Fin 1024) := by
    funext a; apply Fin.ext
    match a with
    | ⟨0, _⟩ => rfl
    | ⟨1, _⟩ => rfl
  have hs := last m c ⟨pt2Of (ix2 i x), hn⟩ (by show pt2Of (ix2 i x) % 4 = 3; omega) (⟨i.val % 1024, Nat.mod_lt _ (by decide)⟩ : Fin 1024) (⟨x.val % 1024, Nat.mod_lt _ (by decide)⟩ : Fin 1024)
  have ei : rI (pt2Of (ix2 i x) / 12) (⟨i.val % 1024, Nat.mod_lt _ (by decide)⟩ : Fin 1024) = i :=
    Fin.ext (show (1024 * (pt2Of (ix2 i x) / 12) + i.val % 1024) % 1024 = i.val by omega)
  have ex : cJ (pt2Of (ix2 i x) / 4 % 3) (⟨x.val % 1024, Nat.mod_lt _ (by decide)⟩ : Fin 1024) = x :=
    Fin.ext (show (1024 * (pt2Of (ix2 i x) / 4 % 3) + x.val % 1024) % 3072 = x.val by omega)
  dsimp only at hs
  rw [ei, ex, outsAt0_sweep m c _ hn, ← hl] at hs
  unfold G2
  rw [dif_pos hn]
  refine hs.trans ?_
  unfold part
  rw [show ∑ b ∈ Finset.range 4, ∑ r : Fin 1024, term m c i x (kB b r) = ∑ k : Fin 4096, term m c i x k from
    sum_blocks 4 1024 4096 (by decide) (by decide) (fun k => term m c i x k)]

/-! The operands are the arguments. -/

def g0 (c : Dev nD) : Vec Ideal S4096x1024 .f32 := m (c, Proc.tc.devRef main_arg0)
def g1 (c : Dev nD) : Vec Ideal S4096x3072 .f32 := m (c, Proc.tc.devRef main_arg1)

theorem aA_eq (c : Dev nD) : aA m c = V m c main_v0 := rfl

theorem aA_at (c : Dev nD) (a : Fin 4096) (b : Fin 1024) : aA m c (ix2 a b) = g0 m c (ix2 a b) := by
  rw [aA_eq]
  simp only [g0]
  unfold_abbrev_sides
  after_reads_at

theorem aB_eq (c : Dev nD) : aB m c = V m c main_v1 := rfl

theorem aB_at (c : Dev nD) (a : Fin 4096) (b : Fin 3072) : aB m c (ix2 a b) = g1 m c (ix2 a b) := by
  rw [aB_eq]
  simp only [g1]
  unfold_abbrev_sides
  after_reads_at

/-- The reference's result at an index. -/
theorem ref_at (y0 : Vec Ideal S4096x1024 .f32) (y1 : Vec Ideal S4096x3072 .f32) (i : Fin 1024) (x : Fin 3072) :
    Cert.DwxReferenceIdeal.Read.val_main_v3 (F := Ideal) y0 y1 (ix2 i x) = ∑ k : Fin 4096, (y1 (ix2 k x) : EReal) * (y0 (ix2 k i) : EReal) := by
  unfold Cert.DwxReferenceIdeal.Read.val_main_v3 Cert.DwxReferenceIdeal.Read.val_main_v2
  pointwise

/-- What the kernel leaves is what the reference gives. -/
theorem terms_eq (c : Dev nD) (i : Fin 1024) (x : Fin 3072) :
    (((∑ k : Fin 4096, term m c i x k) : EReal)) = ∑ k : Fin 4096, (g1 m c (ix2 k x) : EReal) * (g0 m c (ix2 k i) : EReal) := by
  unfold term
  simp only [aA_at, aB_at]
  exact Finset.sum_congr rfl fun k _ => mul2 _ _

theorem same_at (c : Dev nD) (i : Fin 1024) (x : Fin 3072) :
    Cert.DwxReferenceIdeal.Read.val_main_v3 (F := Ideal) (g0 m c) (g1 m c) (ix2 i x) = G2 m c (ix2 i x : S1024x3072.Idx) :=
  (ref_at (g0 m c) (g1 m c) i x).trans ((out m c i x).trans (terms_eq m c i x)).symm

theorem same (c : Dev nD) : Cert.DwxReferenceIdeal.Read.val_main_v3 (F := Ideal) (g0 m c) (g1 m c) = G2 m c := by
  funext j
  rw [eq_ix2 j]
  exact same_at m c (j 0) (j 1)

end Cert.DwxIdeal.Prod
-- ==== Proof.Dwi.lean ====
module

public import proofs.«01_k».proof.Proof.Gen.DwiIdeal.Value
public import proofs.«01_k».proof.Proof.Gen.DwiReferenceIdeal.Run
public import proofs.«01_k».proof.Proof.Gen.DwiReferenceIdeal.Read
public import proofs.«01_k».proof.Proof.Sums
public import Idealize.ShloMosaic.Lib.StableHlo.ReadAt
public import Idealize.ShloMosaic.Lib.Pointwise

@[expose] public section

set_option maxRecDepth 16384

noncomputable section

/-! One product of the mixer: the gradient of a weight, the product of the transposed input and the cotangent.
The kernel adds it up in a scratch, block by block of the summed axis. -/

namespace Cert.DwiIdeal.Prod

open Cert.DwiIdeal Cert.DwiIdeal.Gen Idealize.ShloMosaic Idealize.ShloMosaic.TcCoe Cert.Sums

/-- The product of two blocks. -/
def prod (u : Vec Ideal S1024x1024 .bf16) (v : Vec Ideal S1024x1024 .bf16) : Vec Ideal S1024x1024 .f32 :=
  fun y => ∑ r : Fin 1024, (u (ix2 r (y 0)) : EReal) * (v (ix2 r (y 1)) : EReal)

theorem prod_at (u : Vec Ideal S1024x1024 .bf16) (v : Vec Ideal S1024x1024 .bf16) (a : Fin 1024) (x : Fin 1024) :
    prod u v (ix2 a x) = ∑ r : Fin 1024, (u (ix2 r a) : EReal) * (v (ix2 r x) : EReal) := rfl

theorem pay1_at (u : Vec Ideal S1024x1024 .bf16) (v : Vec Ideal S1024x1024 .bf16) (a : Fin 1024) (x : Fin 1024) :
    k0_pay1 u v (ix2 a x) = ∑ r : Fin 1024, (u (ix2 r a) : EReal) * (v (ix2 r x) : EReal) := by
  pointwise [k0_pay1]

theorem pay1_eq (u : Vec Ideal S1024x1024 .bf16) (v : Vec Ideal S1024x1024 .bf16) : k0_pay1 u v = prod u v := by
  funext y; rw [eq_ix2 y]; exact pay1_at u v (y 0) (y 1)

theorem pay2_eq (u : Vec Ideal S1024x1024 .bf16) (v : Vec Ideal S1024x1024 .bf16) : k0_pay2 u v = prod u v := by
  rw [← pay1_eq]; funext y; pointwise [k0_pay2]

theorem pay3_eq (u : Vec Ideal S1024x1024 .bf16) (v : Vec Ideal S1024x1024 .bf16) (s : Vec Ideal S1024x1024 .f32) :
    k0_pay3 u v s = fun y => (s y + prod u v y : EReal) := by
  rw [← pay1_eq]; funext y; pointwise [k0_pay3]

theorem sout0_A_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : cond0_0 i) (hc1 : ¬cond0_1 i) (hc2 : ¬cond0_2 i)
    (x0 : Vec Ideal S1024x1024 .bf16) (x1 : Vec Ideal S1024x1024 .bf16) :
    sout0_A_0 c i a3 ha3 a4 ha4 a5 ha5 a6 ha6 hc0 hc1 hc2 x0 x1 = prod x0 x1 := by
  unfold sout0_A_0
  rw [View.read_writes_eq_canon _ _ _ (scover0_A_0 c i a3 ha3 a4 ha4 a5 ha5 a6 ha6 hc0 hc1 hc2 x0 x1)]
  unfold kernelRun0_A
  dsimp only
  sl_unfold_words
  simp only [View.readAt_eq_ld, ha3.read_unread, ha4.read_unread, ha5.read_unread, ha6.read_unread, View.ld_unit_zero (S := S1024x1024) hz2]
  rw [View.canon_cons_unit_zero hz2]
  exact pay2_eq ..

theorem sout0_B_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : ¬cond0_2 i)
    (x0 : Vec Ideal S1024x1024 .bf16) (x1 : Vec Ideal S1024x1024 .bf16) (xs0 : Vec Ideal S1024x1024 .f32) :
    sout0_B_0 c i a3 ha3 a4 ha4 a5 ha5 a6 ha6 hc0 hc1 hc2 x0 x1 xs0 = fun y => (xs0 y + prod x0 x1 y : EReal) := by
  unfold sout0_B_0
  rw [View.read_writes_eq_canon _ _ _ (scover0_B_0 c i a3 ha3 a4 ha4 a5 ha5 a6 ha6 hc0 hc1 hc2 x0 x1 xs0)]
  unfold kernelRun0_B
  dsimp only
  sl_unfold_words
  simp only [View.readAt_eq_ld, ha3.read_unread, ha4.read_unread, ha5.read_unread, ha6.read_unread, View.ld_unit_zero (S := S1024x1024) hz2]
  rw [View.canon_cons_unit_zero hz2]
  exact pay3_eq ..

theorem sout0_C_0_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : cond0_2 i)
    (x0 : Vec Ideal S1024x1024 .bf16) (x1 : Vec Ideal S1024x1024 .bf16) (xs0 : Vec Ideal S1024x1024 .f32) :
    sout0_C_0 c i a3 ha3 a4 ha4 a5 ha5 a6 ha6 hc0 hc1 hc2 x0 x1 xs0 = fun y => (xs0 y + prod x0 x1 y : EReal) := by
  unfold sout0_C_0
  rw [View.read_writes_eq_canon _ _ _ (scover0_C_0 c i a3 ha3 a4 ha4 a5 ha5 a6 ha6 hc0 hc1 hc2 x0 x1 xs0)]
  unfold kernelRun0_C
  dsimp only
  sl_unfold_words
  simp only [View.readAt_eq_ld, ha3.read_unread, ha4.read_unread, ha5.read_unread, ha6.read_unread, View.ld_unit_zero (S := S1024x1024) hz2]
  rw [View.canon_cons_unit_zero hz2]
  exact pay3_eq ..

theorem out0_C_2_eq (c : Dev nD) (i : grid0.Coords) (a3 : Memref sig .tc .vmem S1024x1024 .bf16) (ha3 : a3.IsWhole) (a4 : Memref sig .tc .vmem S1024x1024 .bf16) (ha4 : a4.IsWhole) (a5 : Memref sig .tc .vmem S1024x1024 .f32) (ha5 : a5.IsWhole) (a6 : Memref sig .tc .vmem S1024x1024 .f32) (ha6 : a6.IsWhole) (hc0 : ¬cond0_0 i) (hc1 : cond0_1 i) (hc2 : cond0_2 i)
    (x0 : Vec Ideal S1024x1024 .bf16) (x1 : Vec Ideal S1024x1024 .bf16) (xs0 : Vec Ideal S1024x1024 .f32) :
    out0_C_2 c i a3 ha3 a4 ha4 a5 ha5 a6 ha6 hc0 hc1 hc2 x0 x1 xs0 = fun y => (xs0 y + prod x0 x1 y : EReal) := by
  unfold out0_C_2
  rw [View.read_writes_eq_canon _ _ _ (cover0_C_2 c i a3 ha3 a4 ha4 a5 ha5 a6 ha6 hc0 hc1 hc2 x0 x1 xs0)]
  unfold kernelRun0_C
  dsimp only
  sl_unfold_words
  simp only [View.readAt_eq_ld, ha3.read_unread, ha4.read_unread, ha5.read_unread, ha6.read_unread, View.ld_unit_zero (S := S1024x1024) hz2]
  rw [View.canon_cons_unit_zero hz2, View.readCov_unit_zero _ hz2]
  exact pay3_eq ..

/-! Which block each window reads at a grid point. -/

theorem tlt (t : Fin cfg0.N) : t.val < 4 := lt_of_lt_of_eq t.isLt (show cfg0.N = 4 from N_0)

/-- Block `b`'s rows of the result, its columns, and its part of the summed axis. -/
def rI (b : ℕ) (r : Fin 1024) : Fin 1024 := ⟨(1024 * b + r.val) % 1024, Nat.mod_lt _ (by decide)⟩
def cJ (b : ℕ) (r : Fin 1024) : Fin 1024 := ⟨(1024 * b + r.val) % 1024, Nat.mod_lt _ (by decide)⟩
def kB (b : ℕ) (r : Fin 1024) : Fin 4096 := ⟨(1024 * b + r.val) % 4096, Nat.mod_lt _ (by decide)⟩

variable (m : (ℓ : Loc nD τ sig) → Buf (Elt Ideal) ℓ)

/-- Operand 0, as the kernel's window names it. -/
def aA (c : Dev nD) : Vec Ideal S4096x1024 .bf16 := V m c (Pipeline.arrRef spec0 0)

theorem index0 : ∀ t : Fin cfg0.N, win0_0.index t (0 : Fin 2) = t.val % 4 ∧ win0_0.index t (1 : Fin 2) = t.val / 4 := by decide +kernel

theorem rd0 (A : S4096x1024.Idx → EReal) (t : Fin cfg0.N) (y : S1024x1024.Idx) :
    (((cfg0.win 0).blk t).view.read (Elt Ideal) A) y = A (((cfg0.win 0).blk t).view.emb y) := rfl

theorem emb0 (t : Fin cfg0.N) (a : Fin 1024) (b : Fin 1024) :
    ((cfg0.win 0).blk t).view.emb (ix2 a b : S1024x1024.Idx) = (ix2 (kB (t.val % 4) a) (rI (t.val / 4) b) : S4096x1024.Idx) := by
  have ht := tlt t
  have h0 : win0_0.index t 0 * 1024 + 1 * a.val = (1024 * (t.val % 4) + a.val) % 4096 := by rw [(index0 t).1]; omega
  have h1 : win0_0.index t 1 * 1024 + 1 * b.val = (1024 * (t.val / 4) + b.val) % 1024 := by rw [(index0 t).2]; omega
  funext x; apply Fin.ext
  match x with
  | ⟨0, _⟩ => exact h0
  | ⟨1, _⟩ => exact h1

theorem blk0 (c : Dev nD) (t : Fin cfg0.N) (a : Fin 1024) (b : Fin 1024) :
    (iblk m c 0 t : Vec Ideal S1024x1024 .bf16) (ix2 a b) = aA m c (ix2 (kB (t.val % 4) a) (rI (t.val / 4) b)) :=
  (rd0 (aA m c) t (ix2 a b)).trans (congrArg (aA m c) (emb0 t a b))

/-- Operand 1, as the kernel's window names it. -/
def aB (c : Dev nD) : Vec Ideal S4096x1024 .bf16 := V m c (Pipeline.arrRef spec0 1)

theorem index1 : ∀ t : Fin cfg0.N, win0_1.index t (0 : Fin 2) = t.val % 4 ∧ win0_1.index t (1 : Fin 2) = t.val / 4 % 1 := by decide +kernel

theorem rd1 (A : S4096x1024.Idx → EReal) (t : Fin cfg0.N) (y : S1024x1024.Idx) :
    (((cfg0.win 1).blk t).view.read (Elt Ideal) A) y = A (((cfg0.win 1).blk t).view.emb y) := rfl

theorem emb1 (t : Fin cfg0.N) (a : Fin 1024) (b : Fin 1024) :
    ((cfg0.win 1).blk t).view.emb (ix2 a b : S1024x1024.Idx) = (ix2 (kB (t.val % 4) a) (cJ (t.val / 4 % 1) b) : S4096x1024.Idx) := by
  have ht := tlt t
  have h0 : win0_1.index t 0 * 1024 + 1 * a.val = (1024 * (t.val % 4) + a.val) % 4096 := by rw [(index1 t).1]; omega
  have h1 : win0_1.index t 1 * 1024 + 1 * b.val = (1024 * (t.val / 4 % 1) + b.val) % 1024 := by rw [(index1 t).2]; omega
  funext x; apply Fin.ext
  match x with
  | ⟨0, _⟩ => exact h0
  | ⟨1, _⟩ => exact h1

theorem blk1 (c : Dev nD) (t : Fin cfg0.N) (a : Fin 1024) (b : Fin 1024) :
    (iblk m c 1 t : Vec Ideal S1024x1024 .bf16) (ix2 a b) = aB m c (ix2 (kB (t.val % 4) a) (cJ (t.val / 4 % 1) b)) :=
  (rd1 (aB m c) t (ix2 a b)).trans (congrArg (aB m c) (emb1 t a b))

/-- One term of the product of the whole operands. -/
def term (c : Dev nD) (i : Fin 1024) (x : Fin 1024) (k : Fin 4096) : EReal := aA m c (ix2 k i) * aB m c (ix2 k x)

/-- Block `b`'s part of an entry. -/
def part (c : Dev nD) (i : Fin 1024) (x : Fin 1024) (b : ℕ) : EReal := ∑ r : Fin 1024, term m c i x (kB b r)

theorem prod_blk (c : Dev nD) (t : Fin cfg0.N) (a : Fin 1024) (x : Fin 1024) :
    prod (iblk m c 0 t) (iblk m c 1 t) (ix2 a x) = part m c (rI (t.val / 4) a) (cJ (t.val / 4 % 1) x) (t.val % 4) := by
  rw [prod_at]
  unfold part term
  simp only [blk0, blk1]

theorem snd_eq {A B : Type} {p : A × B} {a : A} {b b' : B} (h : p = (a, b)) (hb : b = b') : p.2 = b' := by
  subst h; exact hb
theorem fst_eq {A B : Type} {p : A × B} {a a' : A} {b : B} (h : p = (a, b)) (ha : a = a') : p.1 = a' := by
  subst h; exact ha

theorem first (c : Dev nD) (t : Fin cfg0.N) (h : t.val % 4 = 0) :
    (outsAt0 m c t.val t.isLt).2 = prod (iblk m c 0 t) (iblk m c 1 t) :=
  snd_eq (outsAt0_A m c t (by have := tlt t; omega) (by have := tlt t; omega) (by have := tlt t; omega)) (sout0_A_0_eq ..)

theorem later (c : Dev nD) (t : Fin cfg0.N) (h : ¬t.val % 4 = 0) (k : ℕ) (hk : k < cfg0.N) (ek : t.val - 1 = k) :
    (outsAt0 m c t.val t.isLt).2 = fun y => ((outsAt0 m c k hk).2 y + prod (iblk m c 0 t) (iblk m c 1 t) y : EReal) := by
  subst ek
  by_cases h2 : t.val % 4 = 3
  · exact snd_eq (outsAt0_C m c t (by have := tlt t; omega) (by have := tlt t; omega) (by have := tlt t; omega)) (sout0_C_0_eq ..)
  · exact snd_eq (outsAt0_B m c t (by have := tlt t; omega) (by have := tlt t; omega) (by have := tlt t; omega)) (sout0_B_0_eq ..)

/-- The scratch holds the blocks so far. -/
theorem state (c : Dev nD) : ∀ (n : ℕ) (hn : n < cfg0.N) (a : Fin 1024) (x : Fin 1024),
    (outsAt0 m c n hn).2 (ix2 a x) = ∑ b ∈ Finset.range (n % 4 + 1), part m c (rI (n / 4) a) (cJ (n / 4 % 1) x) b := by
  intro n
  induction n with
  | zero =>
    intro hn a x
    refine (congrFun (first m c ⟨0, hn⟩ (Nat.zero_mod _)) _).trans ((prod_blk m c ⟨0, hn⟩ a x).trans ?_)
    simp
  | succ n ih =>
    intro hn a x
    by_cases h : (n + 1) % 4 = 0
    · refine (congrFun (first m c ⟨n + 1, hn⟩ h) _).trans ((prod_blk m c ⟨n + 1, hn⟩ a x).trans ?_)
      simp [h]
    · have e1 : (n + 1) / 4 = n / 4 := by omega
      have e2 : (n + 1) / 4 % 1 = n / 4 % 1 := by omega
      have e3 : (n + 1) % 4 = n % 4 + 1 := by omega
      refine (congrFun (later m c ⟨n + 1, hn⟩ h n (Nat.lt_of_succ_lt hn) rfl) _).trans ?_
      rw [e1, e3, Finset.sum_range_succ _ (n % 4 + 1)]
      refine congrArg₂ (fun a b : EReal => a + b) (ih (Nat.lt_of_succ_lt hn) a x) ((prod_blk m c ⟨n + 1, hn⟩ a x).trans ?_)
      show part m c (rI ((n + 1) / 4) a) (cJ ((n + 1) / 4 % 1) x) ((n + 1) % 4) = _
      rw [e1, e3]

/-- What the last block of an entry leaves in the result. -/
theorem last (c : Dev nD) (t : Fin cfg0.N) (h2 : t.val % 4 = 3) (a : Fin 1024) (x : Fin 1024) :
    (outsAt0 m c t.val t.isLt).1 (ix2 a x)
      = (∑ b ∈ Finset.range 4, part m c (rI (t.val / 4) a) (cJ (t.val / 4 % 1) x) b) := by
  have h : ¬t.val % 4 = 0 := by omega
  have hk : t.val - 1 < cfg0.N := Nat.lt_of_le_of_lt (Nat.sub_le _ _) t.isLt
  have s := state m c t.val t.isLt a x
  rw [h2] at s
  have s' := congrFun (snd_eq (outsAt0_C m c t (by have := tlt t; omega) (by have := tlt t; omega) (by have := tlt t; omega)) (sout0_C_0_eq ..)) (ix2 a x)
  refine (congrFun (fst_eq (outsAt0_C m c t (by have := tlt t; omega) (by have := tlt t; omega) (by have := tlt t; omega)) (out0_C_2_eq ..)) (ix2 a x)).trans ?_
  rw [← s, s']

open Cert.DwiIdeal.Value

/-- The result array at every index. -/
theorem out (c : Dev nD) (i : Fin 1024) (x : Fin 1024) :
    G2 m c (ix2 i x) = (∑ k : Fin 4096, term m c i x k) := by
  have hp : pt2Of (ix2 i x) = 4 * (1 * (i.val / 1024) + x.val / 1024) + 3 := by
    show 4 * (1 * (i.val / 1024 - 0) + 1 * (x.val / 1024 - 0)) + 3 = _; omega
  have hn : pt2Of (ix2 i x) < cfg0.N := by rw [hp, show cfg0.N = 4 from N_0]; omega
  have hl : loc2Of (ix2 i x) = ix2 (⟨i.val % 1024, Nat.mod_lt _ (by decide)⟩ : Fin 1024) (⟨x.val % 1024, Nat.mod_lt _ (by decide)⟩ : Fin 1024) := by
    funext a; apply Fin.ext
    match a with
    | ⟨0, _⟩ => rfl
    | ⟨1, _⟩ => rfl
  have hs := last m c ⟨pt2Of (ix2 i x), hn⟩ (by show pt2Of (ix2 i x) % 4 = 3; omega) (⟨i.val % 1024, Nat.mod_lt _ (by decide)⟩ : Fin 1024) (⟨x.val % 1024, Nat.mod_lt _ (by decide)⟩ : Fin 1024)
  have ei : rI (pt2Of (ix2 i x) / 4) (⟨i.val % 1024, Nat.mod_lt _ (by decide)⟩ : Fin 1024) = i :=
    Fin.ext (show (1024 * (pt2Of (ix2 i x) / 4) + i.val % 1024) % 1024 = i.val by omega)
  have ex : cJ (pt2Of (ix2 i x) / 4 % 1) (⟨x.val % 1024, Nat.mod_lt _ (by decide)⟩ : Fin 1024) = x :=
    Fin.ext (show (1024 * (pt2Of (ix2 i x) / 4 % 1) + x.val % 1024) % 1024 = x.val by omega)
  dsimp only at hs
  rw [ei, ex, outsAt0_sweep m c _ hn, ← hl] at hs
  unfold G2
  rw [dif_pos hn]
  refine hs.trans ?_
  unfold part
  rw [show ∑ b ∈ Finset.range 4, ∑ r : Fin 1024, term m c i x (kB b r) = ∑ k : Fin 4096, term m c i x k from
    sum_blocks 4 1024 4096 (by decide) (by decide) (fun k => term m c i x k)]

/-! The operands are the arguments. -/

def g0 (c : Dev nD) : Vec Ideal S4096x1024 .f32 := m (c, Proc.tc.devRef main_arg0)
def g1 (c : Dev nD) : Vec Ideal S4096x1024 .f32 := m (c, Proc.tc.devRef main_arg1)

theorem aA_eq (c : Dev nD) : aA m c = V m c main_v0 := rfl

theorem aA_at (c : Dev nD) (a : Fin 4096) (b : Fin 1024) : aA m c (ix2 a b) = g0 m c (ix2 a b) := by
  rw [aA_eq]
  simp only [g0]
  unfold_abbrev_sides
  after_reads_at

theorem aB_eq (c : Dev nD) : aB m c = V m c main_v1 := rfl

theorem aB_at (c : Dev nD) (a : Fin 4096) (b : Fin 1024) : aB m c (ix2 a b) = g1 m c (ix2 a b) := by
  rw [aB_eq]
  simp only [g1]
  unfold_abbrev_sides
  after_reads_at

/-- The reference's result at an index. -/
theorem ref_at (y0 : Vec Ideal S4096x1024 .f32) (y1 : Vec Ideal S4096x1024 .f32) (i : Fin 1024) (x : Fin 1024) :
    Cert.DwiReferenceIdeal.Read.val_main_v3 (F := Ideal) y0 y1 (ix2 i x) = ∑ k : Fin 4096, (y1 (ix2 k x) : EReal) * (y0 (ix2 k i) : EReal) := by
  unfold Cert.DwiReferenceIdeal.Read.val_main_v3 Cert.DwiReferenceIdeal.Read.val_main_v2
  pointwise

/-- What the kernel leaves is what the reference gives. -/
theorem terms_eq (c : Dev nD) (i : Fin 1024) (x : Fin 1024) :
    (((∑ k : Fin 4096, term m c i x k) : EReal)) = ∑ k : Fin 4096, (g1 m c (ix2 k x) : EReal) * (g0 m c (ix2 k i) : EReal) := by
  unfold term
  simp only [aA_at, aB_at]
  exact Finset.sum_congr rfl fun k _ => mul2 _ _

theorem same_at (c : Dev nD) (i : Fin 1024) (x : Fin 1024) :
    Cert.DwiReferenceIdeal.Read.val_main_v3 (F := Ideal) (g0 m c) (g1 m c) (ix2 i x) = G2 m c (ix2 i x : S1024x1024.Idx) :=
  (ref_at (g0 m c) (g1 m c) i x).trans ((out m c i x).trans (terms_eq m c i x)).symm

theorem same (c : Dev nD) : Cert.DwiReferenceIdeal.Read.val_main_v3 (F := Ideal) (g0 m c) (g1 m c) = G2 m c := by
  funext j
  rw [eq_ix2 j]
  exact same_at m c (j 0) (j 1)

end Cert.DwiIdeal.Prod
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Finite
public import proofs.«01_k».proof.Proof.Gen.Dact
public import proofs.«01_k».proof.Proof.Gen.Dact.Frame
public import proofs.«01_k».proof.Proof.Gen.DactIdeal
public import proofs.«01_k».proof.Proof.Gen.DactIdeal.Frame
public import proofs.«01_k».proof.Proof.Gen.DactReferenceIdeal
public import proofs.«01_k».proof.Proof.Dact
public import proofs.«01_k».proof.Proof.Gen.Dwd
public import proofs.«01_k».proof.Proof.Gen.Dwd.Frame
public import proofs.«01_k».proof.Proof.Gen.DwdIdeal
public import proofs.«01_k».proof.Proof.Gen.DwdIdeal.Frame
public import proofs.«01_k».proof.Proof.Gen.DwdReferenceIdeal
public import proofs.«01_k».proof.Proof.Dwd
public import proofs.«01_k».proof.Proof.Gen.Dwg
public import proofs.«01_k».proof.Proof.Gen.Dwg.Frame
public import proofs.«01_k».proof.Proof.Gen.DwgIdeal
public import proofs.«01_k».proof.Proof.Gen.DwgIdeal.Frame
public import proofs.«01_k».proof.Proof.Gen.DwgReferenceIdeal
public import proofs.«01_k».proof.Proof.Dwg
public import proofs.«01_k».proof.Proof.Gen.Dhg
public import proofs.«01_k».proof.Proof.Gen.Dhg.Frame
public import proofs.«01_k».proof.Proof.Gen.DhgIdeal
public import proofs.«01_k».proof.Proof.Gen.DhgIdeal.Frame
public import proofs.«01_k».proof.Proof.Gen.DhgReferenceIdeal
public import proofs.«01_k».proof.Proof.Dhg
public import proofs.«01_k».proof.Proof.Gen.Dhu
public import proofs.«01_k».proof.Proof.Gen.Dhu.Frame
public import proofs.«01_k».proof.Proof.Gen.DhuIdeal
public import proofs.«01_k».proof.Proof.Gen.DhuIdeal.Frame
public import proofs.«01_k».proof.Proof.Gen.DhuReferenceIdeal
public import proofs.«01_k».proof.Proof.Dhu
public import proofs.«01_k».proof.Proof.Gen.Gu
public import proofs.«01_k».proof.Proof.Gen.Gu.Frame
public import proofs.«01_k».proof.Proof.Gen.GuIdeal
public import proofs.«01_k».proof.Proof.Gen.GuIdeal.Frame
public import proofs.«01_k».proof.Proof.Gen.GuReferenceIdeal
public import proofs.«01_k».proof.Proof.Gu
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownReferenceIdeal
public import proofs.«01_k».proof.Proof.Down
public import proofs.«01_k».proof.Proof.Gen.Swb
public import proofs.«01_k».proof.Proof.Gen.Swb.Frame
public import proofs.«01_k».proof.Proof.Gen.SwbIdeal
public import proofs.«01_k».proof.Proof.Gen.SwbIdeal.Frame
public import proofs.«01_k».proof.Proof.Gen.SwbReferenceIdeal
public import proofs.«01_k».proof.Proof.Swb
public import proofs.«01_k».proof.Proof.Gen.Mgb
public import proofs.«01_k».proof.Proof.Gen.Mgb.Frame
public import proofs.«01_k».proof.Proof.Gen.MgbIdeal
public import proofs.«01_k».proof.Proof.Gen.MgbIdeal.Frame
public import proofs.«01_k».proof.Proof.Gen.MgbReferenceIdeal
public import proofs.«01_k».proof.Proof.Mgb
public import proofs.«01_k».proof.Proof.Gen.Drms
public import proofs.«01_k».proof.Proof.Gen.Drms.Frame
public import proofs.«01_k».proof.Proof.Gen.DrmsIdeal
public import proofs.«01_k».proof.Proof.Gen.DrmsIdeal.Frame
public import proofs.«01_k».proof.Proof.Gen.DrmsReferenceIdeal
public import proofs.«01_k».proof.Proof.Drms
public import proofs.«01_k».proof.Proof.Gen.Fwd
public import proofs.«01_k».proof.Proof.Gen.Fwd.Frame
public import proofs.«01_k».proof.Proof.Gen.FwdIdeal
public import proofs.«01_k».proof.Proof.Gen.FwdIdeal.Frame
public import proofs.«01_k».proof.Proof.Gen.FwdReferenceIdeal
public import proofs.«01_k».proof.Proof.Fwd
public import proofs.«01_k».proof.Proof.Gen.Inb
public import proofs.«01_k».proof.Proof.Gen.Inb.Frame
public import proofs.«01_k».proof.Proof.Gen.InbIdeal
public import proofs.«01_k».proof.Proof.Gen.InbIdeal.Frame
public import proofs.«01_k».proof.Proof.Gen.InbReferenceIdeal
public import proofs.«01_k».proof.Proof.Inb
public import proofs.«01_k».proof.Proof.Gen.Bra
public import proofs.«01_k».proof.Proof.Gen.Bra.Frame
public import proofs.«01_k».proof.Proof.Gen.BraIdeal
public import proofs.«01_k».proof.Proof.Gen.BraIdeal.Frame
public import proofs.«01_k».proof.Proof.Gen.BraReferenceIdeal
public import proofs.«01_k».proof.Proof.Bra
public import proofs.«01_k».proof.Proof.Gen.Brb
public import proofs.«01_k».proof.Proof.Gen.Brb.Frame
public import proofs.«01_k».proof.Proof.Gen.BrbIdeal
public import proofs.«01_k».proof.Proof.Gen.BrbIdeal.Frame
public import proofs.«01_k».proof.Proof.Gen.BrbReferenceIdeal
public import proofs.«01_k».proof.Proof.Brb
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixReferenceIdeal
public import proofs.«01_k».proof.Proof.Mix
public import proofs.«01_k».proof.Proof.Gen.Dmg
public import proofs.«01_k».proof.Proof.Gen.Dmg.Frame
public import proofs.«01_k».proof.Proof.Gen.DmgIdeal
public import proofs.«01_k».proof.Proof.Gen.DmgIdeal.Frame
public import proofs.«01_k».proof.Proof.Gen.DmgReferenceIdeal
public import proofs.«01_k».proof.Proof.Dmg
public import proofs.«01_k».proof.Proof.Gen.Dab
public import proofs.«01_k».proof.Proof.Gen.Dab.Frame
public import proofs.«01_k».proof.Proof.Gen.DabIdeal
public import proofs.«01_k».proof.Proof.Gen.DabIdeal.Frame
public import proofs.«01_k».proof.Proof.Gen.DabReferenceIdeal
public import proofs.«01_k».proof.Proof.Dab
public import proofs.«01_k».proof.Proof.Gen.Dmb
public import proofs.«01_k».proof.Proof.Gen.Dmb.Frame
public import proofs.«01_k».proof.Proof.Gen.DmbIdeal
public import proofs.«01_k».proof.Proof.Gen.DmbIdeal.Frame
public import proofs.«01_k».proof.Proof.Gen.DmbReferenceIdeal
public import proofs.«01_k».proof.Proof.Dmb
public import proofs.«01_k».proof.Proof.Gen.Dhz
public import proofs.«01_k».proof.Proof.Gen.Dhz.Frame
public import proofs.«01_k».proof.Proof.Gen.DhzIdeal
public import proofs.«01_k».proof.Proof.Gen.DhzIdeal.Frame
public import proofs.«01_k».proof.Proof.Gen.DhzReferenceIdeal
public import proofs.«01_k».proof.Proof.Dhz
public import proofs.«01_k».proof.Proof.Gen.Dhx
public import proofs.«01_k».proof.Proof.Gen.Dhx.Frame
public import proofs.«01_k».proof.Proof.Gen.DhxIdeal
public import proofs.«01_k».proof.Proof.Gen.DhxIdeal.Frame
public import proofs.«01_k».proof.Proof.Gen.DhxReferenceIdeal
public import proofs.«01_k».proof.Proof.Dhx
public import proofs.«01_k».proof.Proof.Gen.Dha
public import proofs.«01_k».proof.Proof.Gen.Dha.Frame
public import proofs.«01_k».proof.Proof.Gen.DhaIdeal
public import proofs.«01_k».proof.Proof.Gen.DhaIdeal.Frame
public import proofs.«01_k».proof.Proof.Gen.DhaReferenceIdeal
public import proofs.«01_k».proof.Proof.Dha
public import proofs.«01_k».proof.Proof.Gen.Dwo
public import proofs.«01_k».proof.Proof.Gen.Dwo.Frame
public import proofs.«01_k».proof.Proof.Gen.DwoIdeal
public import proofs.«01_k».proof.Proof.Gen.DwoIdeal.Frame
public import proofs.«01_k».proof.Proof.Gen.DwoReferenceIdeal
public import proofs.«01_k».proof.Proof.Dwo
public import proofs.«01_k».proof.Proof.Gen.Dwa
public import proofs.«01_k».proof.Proof.Gen.Dwa.Frame
public import proofs.«01_k».proof.Proof.Gen.DwaIdeal
public import proofs.«01_k».proof.Proof.Gen.DwaIdeal.Frame
public import proofs.«01_k».proof.Proof.Gen.DwaReferenceIdeal
public import proofs.«01_k».proof.Proof.Dwa
public import proofs.«01_k».proof.Proof.Gen.Dwb
public import proofs.«01_k».proof.Proof.Gen.Dwb.Frame
public import proofs.«01_k».proof.Proof.Gen.DwbIdeal
public import proofs.«01_k».proof.Proof.Gen.DwbIdeal.Frame
public import proofs.«01_k».proof.Proof.Gen.DwbReferenceIdeal
public import proofs.«01_k».proof.Proof.Dwb
public import proofs.«01_k».proof.Proof.Gen.Dwz
public import proofs.«01_k».proof.Proof.Gen.Dwz.Frame
public import proofs.«01_k».proof.Proof.Gen.DwzIdeal
public import proofs.«01_k».proof.Proof.Gen.DwzIdeal.Frame
public import proofs.«01_k».proof.Proof.Gen.DwzReferenceIdeal
public import proofs.«01_k».proof.Proof.Dwz
public import proofs.«01_k».proof.Proof.Gen.Dwx
public import proofs.«01_k».proof.Proof.Gen.Dwx.Frame
public import proofs.«01_k».proof.Proof.Gen.DwxIdeal
public import proofs.«01_k».proof.Proof.Gen.DwxIdeal.Frame
public import proofs.«01_k».proof.Proof.Gen.DwxReferenceIdeal
public import proofs.«01_k».proof.Proof.Dwx
public import proofs.«01_k».proof.Proof.Gen.Dwi
public import proofs.«01_k».proof.Proof.Gen.Dwi.Frame
public import proofs.«01_k».proof.Proof.Gen.DwiIdeal
public import proofs.«01_k».proof.Proof.Gen.DwiIdeal.Frame
public import proofs.«01_k».proof.Proof.Gen.DwiReferenceIdeal
public import proofs.«01_k».proof.Proof.Dwi
public import Idealize.ShloMosaic.Adequacy
public import Idealize.ShloMosaic.Init

@[expose] public section

noncomputable section

namespace Cert.Proof

open Idealize.ShloMosaic Idealize.SL.Sem Cert.Attn

section

variable (m : (ℓ : Loc Cert.KernelIdeal.nD Cert.KernelIdeal.τ Cert.KernelIdeal.sig) → Buf (Elt Ideal) ℓ) (c : Dev Cert.KernelIdeal.nD)

/-- The query a finite argument holds, as the call takes it: scaled. -/
def qr (i : Fin 4096) (h : Fin 16) (d : Fin 96) : ℝ :=
  (KernelIdeal.Heads.g0 m c (ix3 i h d)).toReal * (Ideal.ofBits .f32 1037108716#32 : EReal).toReal
/-- The key. -/
def kr (i : Fin 4096) (h : Fin 16) (d : Fin 96) : ℝ := (KernelIdeal.Heads.g1 m c (ix3 i h d)).toReal
/-- The value. -/
def vr (i : Fin 4096) (h : Fin 16) (l : Fin 64) : ℝ := (KernelIdeal.Heads.g2 m c (ix3 i h l)).toReal
/-- The cotangent, a head at a time. -/
def gr (i : Fin 4096) (h : Fin 16) (l : Fin 64) : ℝ :=
  (KernelIdeal.Heads.g3 m c (ix2 i (⟨64 * h.val + l.val, by omega⟩ : Fin 1024))).toReal

/-- Under the precondition the kernel's arguments are these reals. -/
theorem args (hp : Cert.Pre_KernelIdeal_finite m) : KernelIdeal.Heads.Args m c (qr m c) (kr m c) (vr m c) (gr m c) where
  h0 i h d := by
    have e : (((KernelIdeal.Heads.g0 m c (ix3 i h d)).toReal : ℝ) : EReal) = KernelIdeal.Heads.g0 m c (ix3 i h d) :=
      Finite.real0 _ _ _ _ (hp c).1 (ix3 i h d)
    obtain ⟨r, hr⟩ := scale_real
    unfold qr
    rw [EReal.coe_mul, e, hr, EReal.toReal_coe]
  h1 i h d := (Finite.real1 _ _ _ _ (hp c).2.1 (ix3 i h d)).symm
  h2 i h l := (Finite.real2 _ _ _ _ (hp c).2.2.1 (ix3 i h l)).symm
  h3 i h l := (Finite.real3 _ _ _ _ (hp c).2.2.2 (ix2 i (⟨64 * h.val + l.val, by omega⟩ : Fin 1024))).symm

/-- The reference's arguments, being the same, are the same reals. -/
theorem args' (hp : Cert.Pre_KernelIdeal_finite m) :
    ReferenceIdeal.Heads.Args (KernelIdeal.Heads.g0 m c) (KernelIdeal.Heads.g1 m c) (KernelIdeal.Heads.g2 m c) (KernelIdeal.Heads.g3 m c)
      (qr m c) (kr m c) (vr m c) (gr m c) where
  h0 := (args m c hp).h0
  h1 := (args m c hp).h1
  h2 := (args m c hp).h2
  h3 := (args m c hp).h3

variable (hp : Cert.Pre_KernelIdeal_finite m)

include hp

/-- The query's gradient: the reference's array is the kernel's. -/
theorem grad_q : Cert.ReferenceIdeal.Read.val_main_v60 (F := Ideal) (KernelIdeal.Heads.g0 m c) (KernelIdeal.Heads.g1 m c)
    (KernelIdeal.Heads.g2 m c) (KernelIdeal.Heads.g3 m c) = Cert.KernelIdeal.Value.G6 m c := by
  funext j
  rw [eq_ix2 j]
  exact (ReferenceIdeal.Heads.v60_real (args' m c hp) (j 0) (j 1)).trans
    ((KernelIdeal.Heads.out6 m c (j 0) (j 1)).trans (KernelIdeal.Heads.dqW_real (KernelIdeal.Heads.holds (args m c hp)) (j 0) (j 1))).symm

/-- The key's. -/
theorem grad_k : Cert.ReferenceIdeal.Read.val_main_v62 (F := Ideal) (KernelIdeal.Heads.g0 m c) (KernelIdeal.Heads.g1 m c)
    (KernelIdeal.Heads.g2 m c) (KernelIdeal.Heads.g3 m c) = Cert.KernelIdeal.Value.G7 m c := by
  funext j
  rw [eq_ix2 j]
  exact (ReferenceIdeal.Heads.v62_real (args' m c hp) (j 0) (j 1)).trans
    ((KernelIdeal.Heads.out7 m c (j 0) (j 1)).trans (KernelIdeal.Heads.dkW_real (KernelIdeal.Heads.holds (args m c hp)) (j 0) (j 1))).symm

/-- The value's. -/
theorem grad_v : Cert.ReferenceIdeal.Read.val_main_v64 (F := Ideal) (KernelIdeal.Heads.g0 m c) (KernelIdeal.Heads.g1 m c)
    (KernelIdeal.Heads.g3 m c) = Cert.KernelIdeal.Value.G8 m c := by
  funext j
  rw [eq_ix2 j]
  exact (ReferenceIdeal.Heads.v64_real (args' m c hp) (j 0) (j 1)).trans
    ((KernelIdeal.Heads.out8 m c (j 0) (j 1)).trans (KernelIdeal.Heads.dvW_real (KernelIdeal.Heads.holds (args m c hp)) (j 0) (j 1))).symm

end

/-- The reference runs, its arguments end unchanged, and it has no counter. -/
theorem frame_r : Cert.quiescent_ReferenceIdeal := fun m ρ _ =>
  (θ_run (Cert.ReferenceIdeal.defs (F := Ideal)) _ _).mono
    (fun r h => And.intro (fun c => (h c).2.2.2) (sem_eq_zero_of_no_sems (by decide) r.2))
    (Cert.ReferenceIdeal.Value.run (F := Ideal) m ρ)

/-- The same under the precondition. -/
theorem frame_r_finite : Cert.quiescent_ReferenceIdeal_pre_finite := fun m ρ _ =>
  (θ_run (Cert.ReferenceIdeal.defs (F := Ideal)) _ _).mono
    (fun r h => And.intro (fun c => (h c).2.2.2) (sem_eq_zero_of_no_sems (by decide) r.2))
    (Cert.ReferenceIdeal.Value.run (F := Ideal) m ρ)

/-- The kernel's three results are the reference's, the arguments finite. -/
theorem values : Cert.algebraic_KernelIdeal_ReferenceIdeal_pre_finite := by
  intro m ρ m' ρ' hp ha
  refine ⟨fun c => Cert.KernelIdeal.Value.G6 m c, fun c => Cert.KernelIdeal.Value.G7 m c, fun c => Cert.KernelIdeal.Value.G8 m c,
    Cert.KernelIdeal.Value.run m ρ, ?_⟩
  refine (θ_run _ _ _).mono (fun r h c => ?_) (Cert.ReferenceIdeal.Value.run (F := Ideal) m' ρ')
  obtain ⟨h0, h1, h2, hk⟩ := h c
  obtain ⟨a0, a1, a2, a3⟩ := ha c
  refine ⟨?_, ?_, ?_, hk⟩
  · rw [h0, Cert.ReferenceIdeal.Read.val_main_v60_eq, a0, a1, a2, a3]
    exact grad_q m c hp
  · rw [h1, Cert.ReferenceIdeal.Read.val_main_v62_eq, a0, a1, a2, a3]
    exact grad_k m c hp
  · rw [h2, Cert.ReferenceIdeal.Read.val_main_v64_eq, a0, a1, a3]
    exact grad_v m c hp

/-- The reference of the gradient of the activation runs, its arguments end unchanged, and it has no counter. -/
theorem frame_Dact : Cert.quiescent_DactReferenceIdeal := fun m ρ _ =>
  (θ_run (Cert.DactReferenceIdeal.defs (F := Ideal)) _ _).mono
    (fun r h => And.intro (fun c => (h c).2) (sem_eq_zero_of_no_sems (by decide) r.2))
    (Cert.DactReferenceIdeal.Value.run (F := Ideal) m ρ)

/-- The kernel's result is the reference's. -/
theorem values_Dact : Cert.algebraic_DactIdeal_DactReferenceIdeal := by
  intro m ρ m' ρ' _ ha
  refine ⟨fun c => Cert.DactIdeal.Prod.G m c, (θ_run _ _ _).mono (fun r h c => ⟨(h c).1.trans (Cert.DactIdeal.Prod.final m c), (h c).2⟩) (Cert.DactIdeal.Value.run_blocks (F := Ideal) m ρ), ?_⟩
  refine (θ_run _ _ _).mono (fun r h c => ?_) (Cert.DactReferenceIdeal.Value.run (F := Ideal) m' ρ')
  obtain ⟨h0, hk⟩ := h c
  obtain ⟨e0, e1⟩ := ha c
  refine ⟨?_, hk⟩
  rw [h0, Cert.DactReferenceIdeal.Read.val_main_v6_eq, e0, e1]
  exact Cert.DactIdeal.Prod.same m c

/-- The reference of the gradient of the down weight runs, its arguments end unchanged, and it has no counter. -/
theorem frame_Dwd : Cert.quiescent_DwdReferenceIdeal := fun m ρ _ =>
  (θ_run (Cert.DwdReferenceIdeal.defs (F := Ideal)) _ _).mono
    (fun r h => And.intro (fun c => (h c).2) (sem_eq_zero_of_no_sems (by decide) r.2))
    (Cert.DwdReferenceIdeal.Value.run (F := Ideal) m ρ)

/-- The kernel's result is the reference's. -/
theorem values_Dwd : Cert.algebraic_DwdIdeal_DwdReferenceIdeal := by
  intro m ρ m' ρ' _ ha
  refine ⟨fun c => Cert.DwdIdeal.Value.G2 m c, Cert.DwdIdeal.Value.run m ρ, ?_⟩
  refine (θ_run _ _ _).mono (fun r h c => ?_) (Cert.DwdReferenceIdeal.Value.run (F := Ideal) m' ρ')
  obtain ⟨h0, hk⟩ := h c
  obtain ⟨e0, e1⟩ := ha c
  refine ⟨?_, hk⟩
  rw [h0, Cert.DwdReferenceIdeal.Read.val_main_v7_eq, e0, e1]
  exact Cert.DwdIdeal.Prod.same m c

/-- The reference of the gradient of the gate or up weight runs, its arguments end unchanged, and it has no counter. -/
theorem frame_Dwg : Cert.quiescent_DwgReferenceIdeal := fun m ρ _ =>
  (θ_run (Cert.DwgReferenceIdeal.defs (F := Ideal)) _ _).mono
    (fun r h => And.intro (fun c => (h c).2) (sem_eq_zero_of_no_sems (by decide) r.2))
    (Cert.DwgReferenceIdeal.Value.run (F := Ideal) m ρ)

/-- The kernel's result is the reference's. -/
theorem values_Dwg : Cert.algebraic_DwgIdeal_DwgReferenceIdeal := by
  intro m ρ m' ρ' _ ha
  refine ⟨fun c => Cert.DwgIdeal.Value.G2 m c, Cert.DwgIdeal.Value.run m ρ, ?_⟩
  refine (θ_run _ _ _).mono (fun r h c => ?_) (Cert.DwgReferenceIdeal.Value.run (F := Ideal) m' ρ')
  obtain ⟨h0, hk⟩ := h c
  obtain ⟨e0, e1⟩ := ha c
  refine ⟨?_, hk⟩
  rw [h0, Cert.DwgReferenceIdeal.Read.val_main_v3_eq, e0, e1]
  exact Cert.DwgIdeal.Prod.same m c

/-- The reference of the gradient of the hidden state through the gate runs, its arguments end unchanged, and it has no counter. -/
theorem frame_Dhg : Cert.quiescent_DhgReferenceIdeal := fun m ρ _ =>
  (θ_run (Cert.DhgReferenceIdeal.defs (F := Ideal)) _ _).mono
    (fun r h => And.intro (fun c => (h c).2) (sem_eq_zero_of_no_sems (by decide) r.2))
    (Cert.DhgReferenceIdeal.Value.run (F := Ideal) m ρ)

/-- The kernel's result is the reference's. -/
theorem values_Dhg : Cert.algebraic_DhgIdeal_DhgReferenceIdeal := by
  intro m ρ m' ρ' _ ha
  refine ⟨fun c => Cert.DhgIdeal.Value.G2 m c, Cert.DhgIdeal.Value.run m ρ, ?_⟩
  refine (θ_run _ _ _).mono (fun r h c => ?_) (Cert.DhgReferenceIdeal.Value.run (F := Ideal) m' ρ')
  obtain ⟨h0, hk⟩ := h c
  obtain ⟨e0, e1⟩ := ha c
  refine ⟨?_, hk⟩
  rw [h0, Cert.DhgReferenceIdeal.Read.val_main_v2_eq, e0, e1]
  exact Cert.DhgIdeal.Prod.same m c

/-- The reference of the gradient of the hidden state through gate and up runs, its arguments end unchanged, and it has no counter. -/
theorem frame_Dhu : Cert.quiescent_DhuReferenceIdeal := fun m ρ _ =>
  (θ_run (Cert.DhuReferenceIdeal.defs (F := Ideal)) _ _).mono
    (fun r h => And.intro (fun c => (h c).2) (sem_eq_zero_of_no_sems (by decide) r.2))
    (Cert.DhuReferenceIdeal.Value.run (F := Ideal) m ρ)

/-- The kernel's result is the reference's. -/
theorem values_Dhu : Cert.algebraic_DhuIdeal_DhuReferenceIdeal := by
  intro m ρ m' ρ' _ ha
  refine ⟨fun c => Cert.DhuIdeal.Value.G3 m c, Cert.DhuIdeal.Value.run m ρ, ?_⟩
  refine (θ_run _ _ _).mono (fun r h c => ?_) (Cert.DhuReferenceIdeal.Value.run (F := Ideal) m' ρ')
  obtain ⟨h0, hk⟩ := h c
  obtain ⟨e0, e1, e2⟩ := ha c
  refine ⟨?_, hk⟩
  rw [h0, Cert.DhuReferenceIdeal.Read.val_main_v3_eq, e0, e1, e2]
  exact Cert.DhuIdeal.Prod.same m c

/-- The reference of the gate and up projections runs, its arguments end unchanged, and it has no counter. -/
theorem frame_Gu : Cert.quiescent_GuReferenceIdeal := fun m ρ _ =>
  (θ_run (Cert.GuReferenceIdeal.defs (F := Ideal)) _ _).mono
    (fun r h => And.intro (fun c => (h c).2) (sem_eq_zero_of_no_sems (by decide) r.2))
    (Cert.GuReferenceIdeal.Value.run (F := Ideal) m ρ)

/-- The kernel's result is the reference's. -/
theorem values_Gu : Cert.algebraic_GuIdeal_GuReferenceIdeal := by
  intro m ρ m' ρ' _ ha
  refine ⟨fun c => Cert.GuIdeal.Prod.G m c, (θ_run _ _ _).mono (fun r h c => ⟨(h c).1.trans (Cert.GuIdeal.Prod.final m c), (h c).2⟩) (Cert.GuIdeal.Value.run_blocks (F := Ideal) m ρ), ?_⟩
  refine (θ_run _ _ _).mono (fun r h c => ?_) (Cert.GuReferenceIdeal.Value.run (F := Ideal) m' ρ')
  obtain ⟨h0, hk⟩ := h c
  obtain ⟨e0, e1, e2⟩ := ha c
  refine ⟨?_, hk⟩
  rw [h0, Cert.GuReferenceIdeal.Read.val_main_v2_eq, e0, e1, e2]
  exact Cert.GuIdeal.Prod.same m c

/-- The reference of the down projection added to the residual runs, its arguments end unchanged, and it has no counter. -/
theorem frame_Down : Cert.quiescent_DownReferenceIdeal := fun m ρ _ =>
  (θ_run (Cert.DownReferenceIdeal.defs (F := Ideal)) _ _).mono
    (fun r h => And.intro (fun c => (h c).2) (sem_eq_zero_of_no_sems (by decide) r.2))
    (Cert.DownReferenceIdeal.Value.run (F := Ideal) m ρ)

/-- The kernel's result is the reference's. -/
theorem values_Down : Cert.algebraic_DownIdeal_DownReferenceIdeal := by
  intro m ρ m' ρ' _ ha
  refine ⟨fun c => Cert.DownIdeal.Value.G3 m c, Cert.DownIdeal.Value.run m ρ, ?_⟩
  refine (θ_run _ _ _).mono (fun r h c => ?_) (Cert.DownReferenceIdeal.Value.run (F := Ideal) m' ρ')
  obtain ⟨h0, hk⟩ := h c
  obtain ⟨e0, e1, e2⟩ := ha c
  refine ⟨?_, hk⟩
  rw [h0, Cert.DownReferenceIdeal.Read.val_main_v3_eq, e0, e1, e2]
  exact Cert.DownIdeal.Prod.same m c

instance facts_fwd : Cert.Pre_finite_fwd.Facts where
  bcast_S_S4096x16x96 := by decide
  bcast_S_S4096x16x64 := by decide

open Cert.Finite (real_of_bit)

section

variable (m : (ℓ : Loc Cert.FwdIdeal.nD Cert.FwdIdeal.τ Cert.FwdIdeal.sig) → Buf (Elt Ideal) ℓ) (c : Dev Cert.FwdIdeal.nD)

/-- The finite arguments of the attention's forward call: the query as the call takes it, the key, the value. -/
def q_fwd (i : Fin 4096) (h : Fin 16) (d : Fin 96) : ℝ :=
  (FwdIdeal.Heads.g0 m c (ix3 i h d)).toReal * (Ideal.ofBits .f32 1037108716#32 : EReal).toReal
def k_fwd (i : Fin 4096) (h : Fin 16) (d : Fin 96) : ℝ := (FwdIdeal.Heads.g1 m c (ix3 i h d)).toReal
def v_fwd (i : Fin 4096) (h : Fin 16) (l : Fin 64) : ℝ := (FwdIdeal.Heads.g2 m c (ix3 i h l)).toReal

theorem args_fwd (hp : Cert.Pre_FwdIdeal_finite_fwd m) : FwdIdeal.Heads.Args m c (q_fwd m c) (k_fwd m c) (v_fwd m c) where
  h0 i h d := by
    have e : (((FwdIdeal.Heads.g0 m c (ix3 i h d)).toReal : ℝ) : EReal) = FwdIdeal.Heads.g0 m c (ix3 i h d) :=
      real_of_bit _ (hp c).1 (ix3 i h d)
    obtain ⟨r, hr⟩ := scale_real
    unfold q_fwd
    rw [EReal.coe_mul, e, hr, EReal.toReal_coe]
  h1 i h d := (real_of_bit _ (hp c).2.1 (ix3 i h d)).symm
  h2 i h l := (real_of_bit _ (hp c).2.2 (ix3 i h l)).symm

end

/-- The reference of the gate's gradient runs, its arguments end unchanged, and it has no counter. -/
theorem frame_Swb : Cert.quiescent_SwbReferenceIdeal := fun m ρ _ =>
  (θ_run (Cert.SwbReferenceIdeal.defs (F := Ideal)) _ _).mono
    (fun r h => And.intro (fun c => (h c).2.2) (sem_eq_zero_of_no_sems (by decide) r.2))
    (Cert.SwbReferenceIdeal.Value.run (F := Ideal) m ρ)

/-- The same under the precondition. -/
theorem frame_Swb_finite : Cert.quiescent_SwbReferenceIdeal_pre_finite_swb := fun m ρ _ =>
  (θ_run (Cert.SwbReferenceIdeal.defs (F := Ideal)) _ _).mono
    (fun r h => And.intro (fun c => (h c).2.2) (sem_eq_zero_of_no_sems (by decide) r.2))
    (Cert.SwbReferenceIdeal.Value.run (F := Ideal) m ρ)

/-- The kernel's results are the reference's. -/
theorem values_Swb : Cert.algebraic_SwbIdeal_SwbReferenceIdeal_pre_finite_swb := by
  intro m ρ m' ρ' hp ha
  refine ⟨fun c => Cert.SwbIdeal.Value.G3 (m ((c.tc : Thread Cert.SwbIdeal.nD Cert.SwbIdeal.τ).loc Cert.SwbIdeal.main_arg0)) (m ((c.tc : Thread Cert.SwbIdeal.nD Cert.SwbIdeal.τ).loc Cert.SwbIdeal.main_arg1)) (m ((c.tc : Thread Cert.SwbIdeal.nD Cert.SwbIdeal.τ).loc Cert.SwbIdeal.main_arg1)), fun c => Cert.SwbIdeal.Value.G4 (m ((c.tc : Thread Cert.SwbIdeal.nD Cert.SwbIdeal.τ).loc Cert.SwbIdeal.main_arg0)) (m ((c.tc : Thread Cert.SwbIdeal.nD Cert.SwbIdeal.τ).loc Cert.SwbIdeal.main_arg1)),
    Cert.SwbIdeal.Value.run m ρ, ?_⟩
  refine (θ_run _ _ _).mono (fun r h c => ?_) (Cert.SwbReferenceIdeal.Value.run (F := Ideal) m' ρ')
  obtain ⟨h0, h1, hk⟩ := h c
  obtain ⟨a0, a1⟩ := ha c
  refine ⟨?_, ?_, hk⟩
  · rw [h0, Cert.SwbReferenceIdeal.Read.val_main_v7_eq, a0, a1]
    exact Cert.SwbIdeal.Grad.same7 _ _ (Prod.ext (hp c).1 (hp c).2)
  · rw [h1, Cert.SwbReferenceIdeal.Read.val_main_v8_eq, a0, a1]
    exact Cert.SwbIdeal.Grad.same8 _ _

/-- The reference of the gradient through the gated sum of the branches runs, its arguments end unchanged, and it has no counter. -/
theorem frame_Mgb : Cert.quiescent_MgbReferenceIdeal := fun m ρ _ =>
  (θ_run (Cert.MgbReferenceIdeal.defs (F := Ideal)) _ _).mono
    (fun r h => And.intro (fun c => (h c).2.2.2.2) (sem_eq_zero_of_no_sems (by decide) r.2))
    (Cert.MgbReferenceIdeal.Value.run (F := Ideal) m ρ)

/-- The kernel's results are the reference's. -/
theorem values_Mgb : Cert.algebraic_MgbIdeal_MgbReferenceIdeal := by
  intro m ρ m' ρ' _ ha
  refine ⟨fun c => Cert.MgbIdeal.Grad.G5 m c, fun c => Cert.MgbIdeal.Grad.G6 m c, fun c => Cert.MgbIdeal.Grad.G7 m c, fun c => Cert.MgbIdeal.Grad.G8 m c,
    (θ_run _ _ _).mono (fun r h c => ⟨(h c).1.trans (Cert.MgbIdeal.Grad.final5 m c), (h c).2.1.trans (Cert.MgbIdeal.Grad.final6 m c), (h c).2.2.1.trans (Cert.MgbIdeal.Grad.final7 m c), (h c).2.2.2.1.trans (Cert.MgbIdeal.Grad.final8 m c), (h c).2.2.2.2⟩) (Cert.MgbIdeal.Value.run_blocks (F := Ideal) m ρ), ?_⟩
  refine (θ_run _ _ _).mono (fun r h c => ?_) (Cert.MgbReferenceIdeal.Value.run (F := Ideal) m' ρ')
  obtain ⟨h0, h1, h2, h3, hk⟩ := h c
  obtain ⟨a0, a1, a2, a3⟩ := ha c
  refine ⟨?_, ?_, ?_, ?_, hk⟩
  · rw [h0, Cert.MgbReferenceIdeal.Read.val_main_v31_eq, a0, a3]
    exact Cert.MgbIdeal.Grad.same5 m c
  · rw [h1, Cert.MgbReferenceIdeal.Read.val_main_v32_eq, a0, a3]
    exact Cert.MgbIdeal.Grad.same6 m c
  · rw [h2, Cert.MgbReferenceIdeal.Read.val_main_v33_eq, a0, a1, a3]
    exact Cert.MgbIdeal.Grad.same7 m c
  · rw [h3, Cert.MgbReferenceIdeal.Read.val_main_v34_eq, a0, a2, a3]
    exact Cert.MgbIdeal.Grad.same8 m c

/-- The reference of the norm's gradient runs, its arguments end unchanged, and it has no counter. -/
theorem frame_Drms : Cert.quiescent_DrmsReferenceIdeal := fun m ρ _ =>
  (θ_run (Cert.DrmsReferenceIdeal.defs (F := Ideal)) _ _).mono
    (fun r h => And.intro (fun c => (h c).2.2) (sem_eq_zero_of_no_sems (by decide) r.2))
    (Cert.DrmsReferenceIdeal.Value.run (F := Ideal) m ρ)

/-- The kernel's results are the reference's. -/
theorem values_Drms : Cert.algebraic_DrmsIdeal_DrmsReferenceIdeal := by
  intro m ρ m' ρ' _ ha
  refine ⟨fun c => Cert.DrmsIdeal.Grad.G4 m c, fun c => Cert.DrmsIdeal.Grad.G5 m c,
    (θ_run _ _ _).mono (fun r h c => ⟨(h c).1.trans (Cert.DrmsIdeal.Grad.final4 m c), (h c).2.1.trans (Cert.DrmsIdeal.Grad.final5 m c), (h c).2.2⟩) (Cert.DrmsIdeal.Value.run_blocks (F := Ideal) m ρ), ?_⟩
  refine (θ_run _ _ _).mono (fun r h c => ?_) (Cert.DrmsReferenceIdeal.Value.run (F := Ideal) m' ρ')
  obtain ⟨h0, h1, hk⟩ := h c
  obtain ⟨a0, a1, a2, a3⟩ := ha c
  refine ⟨?_, ?_, hk⟩
  · rw [h0, Cert.DrmsReferenceIdeal.Read.val_main_v34_eq, a0, a1, a2, a3]
    exact Cert.DrmsIdeal.Grad.same4 m c
  · rw [h1, Cert.DrmsReferenceIdeal.Read.val_main_v17_eq, a0, a1]
    exact Cert.DrmsIdeal.Grad.same5 m c

/-- The reference of the attention's forward call runs, its arguments end unchanged, and it has no counter. -/
theorem frame_Fwd : Cert.quiescent_FwdReferenceIdeal := fun m ρ _ =>
  (θ_run (Cert.FwdReferenceIdeal.defs (F := Ideal)) _ _).mono
    (fun r h => And.intro (fun c => (h c).2.2) (sem_eq_zero_of_no_sems (by decide) r.2))
    (Cert.FwdReferenceIdeal.Value.run (F := Ideal) m ρ)

/-- The same under the precondition. -/
theorem frame_Fwd_finite : Cert.quiescent_FwdReferenceIdeal_pre_finite_fwd := fun m ρ _ =>
  (θ_run (Cert.FwdReferenceIdeal.defs (F := Ideal)) _ _).mono
    (fun r h => And.intro (fun c => (h c).2.2) (sem_eq_zero_of_no_sems (by decide) r.2))
    (Cert.FwdReferenceIdeal.Value.run (F := Ideal) m ρ)

/-- The kernel's results are the reference's. -/
theorem values_Fwd : Cert.algebraic_FwdIdeal_FwdReferenceIdeal_pre_finite_fwd := by
  intro m ρ m' ρ' hp ha
  refine ⟨fun c => Cert.FwdIdeal.Heads.G3 c (q_fwd m c) (k_fwd m c) (v_fwd m c), fun c => Cert.FwdIdeal.Heads.G4 c (q_fwd m c) (k_fwd m c),
    (θ_run _ _ _).mono (fun r h c => ⟨(h c).1.trans (Cert.FwdIdeal.Heads.final3 m c _ _ _ (args_fwd m c hp)), (h c).2.1.trans (Cert.FwdIdeal.Heads.final4 m c _ _ _ (args_fwd m c hp)), (h c).2.2⟩) (Cert.FwdIdeal.Value.run_blocks (F := Ideal) m ρ), ?_⟩
  refine (θ_run _ _ _).mono (fun r h c => ?_) (Cert.FwdReferenceIdeal.Value.run (F := Ideal) m' ρ')
  obtain ⟨h0, h1, hk⟩ := h c
  obtain ⟨a0, a1, a2⟩ := ha c
  refine ⟨?_, ?_, hk⟩
  · rw [h0, Cert.FwdReferenceIdeal.Read.val_main_v19_eq, a0, a1, a2]
    exact Cert.FwdIdeal.Heads.same3 m c _ _ _ (args_fwd m c hp)
  · rw [h1, Cert.FwdReferenceIdeal.Read.val_main_v23_eq, a0, a1]
    exact Cert.FwdIdeal.Heads.same4 m c _ _ _ (args_fwd m c hp)

/-- The reference of the mixer's input's product runs, its arguments end unchanged, and it has no counter. -/
theorem frame_Inb : Cert.quiescent_InbReferenceIdeal := fun m ρ _ =>
  (θ_run (Cert.InbReferenceIdeal.defs (F := Ideal)) _ _).mono
    (fun r h => And.intro (fun c => (h c).2) (sem_eq_zero_of_no_sems (by decide) r.2))
    (Cert.InbReferenceIdeal.Value.run (F := Ideal) m ρ)

/-- The kernel's result is the reference's. -/
theorem values_Inb : Cert.algebraic_InbIdeal_InbReferenceIdeal := by
  intro m ρ m' ρ' _ ha
  refine ⟨fun c => Cert.InbIdeal.Prod.G m c, (θ_run _ _ _).mono (fun r h c => ⟨(h c).1.trans (Cert.InbIdeal.Prod.final m c), (h c).2⟩) (Cert.InbIdeal.Value.run_blocks (F := Ideal) m ρ), ?_⟩
  refine (θ_run _ _ _).mono (fun r h c => ?_) (Cert.InbReferenceIdeal.Value.run (F := Ideal) m' ρ')
  obtain ⟨h0, hk⟩ := h c
  obtain ⟨e0, e1⟩ := ha c
  refine ⟨?_, hk⟩
  rw [h0, Cert.InbReferenceIdeal.Read.val_main_v0_eq, e0, e1]
  exact Cert.InbIdeal.Prod.same m c

/-- The reference of the attention branch's product runs, its arguments end unchanged, and it has no counter. -/
theorem frame_Bra : Cert.quiescent_BraReferenceIdeal := fun m ρ _ =>
  (θ_run (Cert.BraReferenceIdeal.defs (F := Ideal)) _ _).mono
    (fun r h => And.intro (fun c => (h c).2) (sem_eq_zero_of_no_sems (by decide) r.2))
    (Cert.BraReferenceIdeal.Value.run (F := Ideal) m ρ)

/-- The kernel's result is the reference's. -/
theorem values_Bra : Cert.algebraic_BraIdeal_BraReferenceIdeal := by
  intro m ρ m' ρ' _ ha
  refine ⟨fun c => Cert.BraIdeal.Prod.G m c, (θ_run _ _ _).mono (fun r h c => ⟨(h c).1.trans (Cert.BraIdeal.Prod.final m c), (h c).2⟩) (Cert.BraIdeal.Value.run_blocks (F := Ideal) m ρ), ?_⟩
  refine (θ_run _ _ _).mono (fun r h c => ?_) (Cert.BraReferenceIdeal.Value.run (F := Ideal) m' ρ')
  obtain ⟨h0, hk⟩ := h c
  obtain ⟨e0, e1⟩ := ha c
  refine ⟨?_, hk⟩
  rw [h0, Cert.BraReferenceIdeal.Read.val_main_v0_eq, e0, e1]
  exact Cert.BraIdeal.Prod.same m c

/-- The reference of the scan branch's product runs, its arguments end unchanged, and it has no counter. -/
theorem frame_Brb : Cert.quiescent_BrbReferenceIdeal := fun m ρ _ =>
  (θ_run (Cert.BrbReferenceIdeal.defs (F := Ideal)) _ _).mono
    (fun r h => And.intro (fun c => (h c).2) (sem_eq_zero_of_no_sems (by decide) r.2))
    (Cert.BrbReferenceIdeal.Value.run (F := Ideal) m ρ)

/-- The kernel's result is the reference's. -/
theorem values_Brb : Cert.algebraic_BrbIdeal_BrbReferenceIdeal := by
  intro m ρ m' ρ' _ ha
  refine ⟨fun c => Cert.BrbIdeal.Value.G2 m c, Cert.BrbIdeal.Value.run m ρ, ?_⟩
  refine (θ_run _ _ _).mono (fun r h c => ?_) (Cert.BrbReferenceIdeal.Value.run (F := Ideal) m' ρ')
  obtain ⟨h0, hk⟩ := h c
  obtain ⟨e0, e1⟩ := ha c
  refine ⟨?_, hk⟩
  rw [h0, Cert.BrbReferenceIdeal.Read.val_main_v0_eq, e0, e1]
  exact Cert.BrbIdeal.Prod.same m c

/-- The reference of the mixer's output runs, its arguments end unchanged, and it has no counter. -/
theorem frame_Mix : Cert.quiescent_MixReferenceIdeal := fun m ρ _ =>
  (θ_run (Cert.MixReferenceIdeal.defs (F := Ideal)) _ _).mono
    (fun r h => And.intro (fun c => (h c).2) (sem_eq_zero_of_no_sems (by decide) r.2))
    (Cert.MixReferenceIdeal.Value.run (F := Ideal) m ρ)

/-- The kernel's result is the reference's. -/
theorem values_Mix : Cert.algebraic_MixIdeal_MixReferenceIdeal := by
  intro m ρ m' ρ' _ ha
  refine ⟨fun c => Cert.MixIdeal.Prod.G m c, (θ_run _ _ _).mono (fun r h c => ⟨(h c).1.trans (Cert.MixIdeal.Prod.final m c), (h c).2⟩) (Cert.MixIdeal.Value.run_blocks (F := Ideal) m ρ), ?_⟩
  refine (θ_run _ _ _).mono (fun r h c => ?_) (Cert.MixReferenceIdeal.Value.run (F := Ideal) m' ρ')
  obtain ⟨h0, hk⟩ := h c
  obtain ⟨e0, e1, e2⟩ := ha c
  refine ⟨?_, hk⟩
  rw [h0, Cert.MixReferenceIdeal.Read.val_main_v1_eq, e0, e1, e2]
  exact Cert.MixIdeal.Prod.same m c

/-- The reference of the gradient of the branches' sum runs, its arguments end unchanged, and it has no counter. -/
theorem frame_Dmg : Cert.quiescent_DmgReferenceIdeal := fun m ρ _ =>
  (θ_run (Cert.DmgReferenceIdeal.defs (F := Ideal)) _ _).mono
    (fun r h => And.intro (fun c => (h c).2) (sem_eq_zero_of_no_sems (by decide) r.2))
    (Cert.DmgReferenceIdeal.Value.run (F := Ideal) m ρ)

/-- The kernel's result is the reference's. -/
theorem values_Dmg : Cert.algebraic_DmgIdeal_DmgReferenceIdeal := by
  intro m ρ m' ρ' _ ha
  refine ⟨fun c => Cert.DmgIdeal.Prod.G m c, (θ_run _ _ _).mono (fun r h c => ⟨(h c).1.trans (Cert.DmgIdeal.Prod.final m c), (h c).2⟩) (Cert.DmgIdeal.Value.run_blocks (F := Ideal) m ρ), ?_⟩
  refine (θ_run _ _ _).mono (fun r h c => ?_) (Cert.DmgReferenceIdeal.Value.run (F := Ideal) m' ρ')
  obtain ⟨h0, hk⟩ := h c
  obtain ⟨e0, e1⟩ := ha c
  refine ⟨?_, hk⟩
  rw [h0, Cert.DmgReferenceIdeal.Read.val_main_v2_eq, e0, e1]
  exact Cert.DmgIdeal.Prod.same m c

/-- The reference of the gradient of the attention's output runs, its arguments end unchanged, and it has no counter. -/
theorem frame_Dab : Cert.quiescent_DabReferenceIdeal := fun m ρ _ =>
  (θ_run (Cert.DabReferenceIdeal.defs (F := Ideal)) _ _).mono
    (fun r h => And.intro (fun c => (h c).2) (sem_eq_zero_of_no_sems (by decide) r.2))
    (Cert.DabReferenceIdeal.Value.run (F := Ideal) m ρ)

/-- The kernel's result is the reference's. -/
theorem values_Dab : Cert.algebraic_DabIdeal_DabReferenceIdeal := by
  intro m ρ m' ρ' _ ha
  refine ⟨fun c => Cert.DabIdeal.Prod.G m c, (θ_run _ _ _).mono (fun r h c => ⟨(h c).1.trans (Cert.DabIdeal.Prod.final m c), (h c).2⟩) (Cert.DabIdeal.Value.run_blocks (F := Ideal) m ρ), ?_⟩
  refine (θ_run _ _ _).mono (fun r h c => ?_) (Cert.DabReferenceIdeal.Value.run (F := Ideal) m' ρ')
  obtain ⟨h0, hk⟩ := h c
  obtain ⟨e0, e1⟩ := ha c
  refine ⟨?_, hk⟩
  rw [h0, Cert.DabReferenceIdeal.Read.val_main_v2_eq, e0, e1]
  exact Cert.DabIdeal.Prod.same m c

/-- The reference of the gradient of the scan's output runs, its arguments end unchanged, and it has no counter. -/
theorem frame_Dmb : Cert.quiescent_DmbReferenceIdeal := fun m ρ _ =>
  (θ_run (Cert.DmbReferenceIdeal.defs (F := Ideal)) _ _).mono
    (fun r h => And.intro (fun c => (h c).2) (sem_eq_zero_of_no_sems (by decide) r.2))
    (Cert.DmbReferenceIdeal.Value.run (F := Ideal) m ρ)

/-- The kernel's result is the reference's. -/
theorem values_Dmb : Cert.algebraic_DmbIdeal_DmbReferenceIdeal := by
  intro m ρ m' ρ' _ ha
  refine ⟨fun c => Cert.DmbIdeal.Prod.G m c, (θ_run _ _ _).mono (fun r h c => ⟨(h c).1.trans (Cert.DmbIdeal.Prod.final m c), (h c).2⟩) (Cert.DmbIdeal.Value.run_blocks (F := Ideal) m ρ), ?_⟩
  refine (θ_run _ _ _).mono (fun r h c => ?_) (Cert.DmbReferenceIdeal.Value.run (F := Ideal) m' ρ')
  obtain ⟨h0, hk⟩ := h c
  obtain ⟨e0, e1⟩ := ha c
  refine ⟨?_, hk⟩
  rw [h0, Cert.DmbReferenceIdeal.Read.val_main_v2_eq, e0, e1]
  exact Cert.DmbIdeal.Prod.same m c

/-- The reference of the gradient of the mixer's input through z runs, its arguments end unchanged, and it has no counter. -/
theorem frame_Dhz : Cert.quiescent_DhzReferenceIdeal := fun m ρ _ =>
  (θ_run (Cert.DhzReferenceIdeal.defs (F := Ideal)) _ _).mono
    (fun r h => And.intro (fun c => (h c).2) (sem_eq_zero_of_no_sems (by decide) r.2))
    (Cert.DhzReferenceIdeal.Value.run (F := Ideal) m ρ)

/-- The kernel's result is the reference's. -/
theorem values_Dhz : Cert.algebraic_DhzIdeal_DhzReferenceIdeal := by
  intro m ρ m' ρ' _ ha
  refine ⟨fun c => Cert.DhzIdeal.Value.G3 m c, Cert.DhzIdeal.Value.run m ρ, ?_⟩
  refine (θ_run _ _ _).mono (fun r h c => ?_) (Cert.DhzReferenceIdeal.Value.run (F := Ideal) m' ρ')
  obtain ⟨h0, hk⟩ := h c
  obtain ⟨e0, e1, e2⟩ := ha c
  refine ⟨?_, hk⟩
  rw [h0, Cert.DhzReferenceIdeal.Read.val_main_v3_eq, e0, e1, e2]
  exact Cert.DhzIdeal.Prod.same m c

/-- The reference of the gradient of the mixer's input through xbc runs, its arguments end unchanged, and it has no counter. -/
theorem frame_Dhx : Cert.quiescent_DhxReferenceIdeal := fun m ρ _ =>
  (θ_run (Cert.DhxReferenceIdeal.defs (F := Ideal)) _ _).mono
    (fun r h => And.intro (fun c => (h c).2) (sem_eq_zero_of_no_sems (by decide) r.2))
    (Cert.DhxReferenceIdeal.Value.run (F := Ideal) m ρ)

/-- The kernel's result is the reference's. -/
theorem values_Dhx : Cert.algebraic_DhxIdeal_DhxReferenceIdeal := by
  intro m ρ m' ρ' _ ha
  refine ⟨fun c => Cert.DhxIdeal.Value.G3 m c, Cert.DhxIdeal.Value.run m ρ, ?_⟩
  refine (θ_run _ _ _).mono (fun r h c => ?_) (Cert.DhxReferenceIdeal.Value.run (F := Ideal) m' ρ')
  obtain ⟨h0, hk⟩ := h c
  obtain ⟨e0, e1, e2⟩ := ha c
  refine ⟨?_, hk⟩
  rw [h0, Cert.DhxReferenceIdeal.Read.val_main_v3_eq, e0, e1, e2]
  exact Cert.DhxIdeal.Prod.same m c

/-- The reference of the gradient of the mixer's input through a gate runs, its arguments end unchanged, and it has no counter. -/
theorem frame_Dha : Cert.quiescent_DhaReferenceIdeal := fun m ρ _ =>
  (θ_run (Cert.DhaReferenceIdeal.defs (F := Ideal)) _ _).mono
    (fun r h => And.intro (fun c => (h c).2) (sem_eq_zero_of_no_sems (by decide) r.2))
    (Cert.DhaReferenceIdeal.Value.run (F := Ideal) m ρ)

/-- The kernel's result is the reference's. -/
theorem values_Dha : Cert.algebraic_DhaIdeal_DhaReferenceIdeal := by
  intro m ρ m' ρ' _ ha
  refine ⟨fun c => Cert.DhaIdeal.Prod.G m c, (θ_run _ _ _).mono (fun r h c => ⟨(h c).1.trans (Cert.DhaIdeal.Prod.final m c), (h c).2⟩) (Cert.DhaIdeal.Value.run_blocks (F := Ideal) m ρ), ?_⟩
  refine (θ_run _ _ _).mono (fun r h c => ?_) (Cert.DhaReferenceIdeal.Value.run (F := Ideal) m' ρ')
  obtain ⟨h0, hk⟩ := h c
  obtain ⟨e0, e1, e2⟩ := ha c
  refine ⟨?_, hk⟩
  rw [h0, Cert.DhaReferenceIdeal.Read.val_main_v3_eq, e0, e1, e2]
  exact Cert.DhaIdeal.Prod.same m c

/-- The reference of the gradient of the output's weight runs, its arguments end unchanged, and it has no counter. -/
theorem frame_Dwo : Cert.quiescent_DwoReferenceIdeal := fun m ρ _ =>
  (θ_run (Cert.DwoReferenceIdeal.defs (F := Ideal)) _ _).mono
    (fun r h => And.intro (fun c => (h c).2) (sem_eq_zero_of_no_sems (by decide) r.2))
    (Cert.DwoReferenceIdeal.Value.run (F := Ideal) m ρ)

/-- The kernel's result is the reference's. -/
theorem values_Dwo : Cert.algebraic_DwoIdeal_DwoReferenceIdeal := by
  intro m ρ m' ρ' _ ha
  refine ⟨fun c => Cert.DwoIdeal.Value.G2 m c, Cert.DwoIdeal.Value.run m ρ, ?_⟩
  refine (θ_run _ _ _).mono (fun r h c => ?_) (Cert.DwoReferenceIdeal.Value.run (F := Ideal) m' ρ')
  obtain ⟨h0, hk⟩ := h c
  obtain ⟨e0, e1⟩ := ha c
  refine ⟨?_, hk⟩
  rw [h0, Cert.DwoReferenceIdeal.Read.val_main_v3_eq, e0, e1]
  exact Cert.DwoIdeal.Prod.same m c

/-- The reference of the gradient of the attention branch's weight runs, its arguments end unchanged, and it has no counter. -/
theorem frame_Dwa : Cert.quiescent_DwaReferenceIdeal := fun m ρ _ =>
  (θ_run (Cert.DwaReferenceIdeal.defs (F := Ideal)) _ _).mono
    (fun r h => And.intro (fun c => (h c).2) (sem_eq_zero_of_no_sems (by decide) r.2))
    (Cert.DwaReferenceIdeal.Value.run (F := Ideal) m ρ)

/-- The kernel's result is the reference's. -/
theorem values_Dwa : Cert.algebraic_DwaIdeal_DwaReferenceIdeal := by
  intro m ρ m' ρ' _ ha
  refine ⟨fun c => Cert.DwaIdeal.Value.G2 m c, Cert.DwaIdeal.Value.run m ρ, ?_⟩
  refine (θ_run _ _ _).mono (fun r h c => ?_) (Cert.DwaReferenceIdeal.Value.run (F := Ideal) m' ρ')
  obtain ⟨h0, hk⟩ := h c
  obtain ⟨e0, e1⟩ := ha c
  refine ⟨?_, hk⟩
  rw [h0, Cert.DwaReferenceIdeal.Read.val_main_v3_eq, e0, e1]
  exact Cert.DwaIdeal.Prod.same m c

/-- The reference of the gradient of the scan branch's weight runs, its arguments end unchanged, and it has no counter. -/
theorem frame_Dwb : Cert.quiescent_DwbReferenceIdeal := fun m ρ _ =>
  (θ_run (Cert.DwbReferenceIdeal.defs (F := Ideal)) _ _).mono
    (fun r h => And.intro (fun c => (h c).2) (sem_eq_zero_of_no_sems (by decide) r.2))
    (Cert.DwbReferenceIdeal.Value.run (F := Ideal) m ρ)

/-- The kernel's result is the reference's. -/
theorem values_Dwb : Cert.algebraic_DwbIdeal_DwbReferenceIdeal := by
  intro m ρ m' ρ' _ ha
  refine ⟨fun c => Cert.DwbIdeal.Value.G2 m c, Cert.DwbIdeal.Value.run m ρ, ?_⟩
  refine (θ_run _ _ _).mono (fun r h c => ?_) (Cert.DwbReferenceIdeal.Value.run (F := Ideal) m' ρ')
  obtain ⟨h0, hk⟩ := h c
  obtain ⟨e0, e1⟩ := ha c
  refine ⟨?_, hk⟩
  rw [h0, Cert.DwbReferenceIdeal.Read.val_main_v3_eq, e0, e1]
  exact Cert.DwbIdeal.Prod.same m c

/-- The reference of the gradient of the weight's columns of z runs, its arguments end unchanged, and it has no counter. -/
theorem frame_Dwz : Cert.quiescent_DwzReferenceIdeal := fun m ρ _ =>
  (θ_run (Cert.DwzReferenceIdeal.defs (F := Ideal)) _ _).mono
    (fun r h => And.intro (fun c => (h c).2) (sem_eq_zero_of_no_sems (by decide) r.2))
    (Cert.DwzReferenceIdeal.Value.run (F := Ideal) m ρ)

/-- The kernel's result is the reference's. -/
theorem values_Dwz : Cert.algebraic_DwzIdeal_DwzReferenceIdeal := by
  intro m ρ m' ρ' _ ha
  refine ⟨fun c => Cert.DwzIdeal.Value.G2 m c, Cert.DwzIdeal.Value.run m ρ, ?_⟩
  refine (θ_run _ _ _).mono (fun r h c => ?_) (Cert.DwzReferenceIdeal.Value.run (F := Ideal) m' ρ')
  obtain ⟨h0, hk⟩ := h c
  obtain ⟨e0, e1⟩ := ha c
  refine ⟨?_, hk⟩
  rw [h0, Cert.DwzReferenceIdeal.Read.val_main_v3_eq, e0, e1]
  exact Cert.DwzIdeal.Prod.same m c

/-- The reference of the gradient of the weight's columns of xbc runs, its arguments end unchanged, and it has no counter. -/
theorem frame_Dwx : Cert.quiescent_DwxReferenceIdeal := fun m ρ _ =>
  (θ_run (Cert.DwxReferenceIdeal.defs (F := Ideal)) _ _).mono
    (fun r h => And.intro (fun c => (h c).2) (sem_eq_zero_of_no_sems (by decide) r.2))
    (Cert.DwxReferenceIdeal.Value.run (F := Ideal) m ρ)

/-- The kernel's result is the reference's. -/
theorem values_Dwx : Cert.algebraic_DwxIdeal_DwxReferenceIdeal := by
  intro m ρ m' ρ' _ ha
  refine ⟨fun c => Cert.DwxIdeal.Value.G2 m c, Cert.DwxIdeal.Value.run m ρ, ?_⟩
  refine (θ_run _ _ _).mono (fun r h c => ?_) (Cert.DwxReferenceIdeal.Value.run (F := Ideal) m' ρ')
  obtain ⟨h0, hk⟩ := h c
  obtain ⟨e0, e1⟩ := ha c
  refine ⟨?_, hk⟩
  rw [h0, Cert.DwxReferenceIdeal.Read.val_main_v3_eq, e0, e1]
  exact Cert.DwxIdeal.Prod.same m c

/-- The reference of the gradient of the weight's columns of a gate runs, its arguments end unchanged, and it has no counter. -/
theorem frame_Dwi : Cert.quiescent_DwiReferenceIdeal := fun m ρ _ =>
  (θ_run (Cert.DwiReferenceIdeal.defs (F := Ideal)) _ _).mono
    (fun r h => And.intro (fun c => (h c).2) (sem_eq_zero_of_no_sems (by decide) r.2))
    (Cert.DwiReferenceIdeal.Value.run (F := Ideal) m ρ)

/-- The kernel's result is the reference's. -/
theorem values_Dwi : Cert.algebraic_DwiIdeal_DwiReferenceIdeal := by
  intro m ρ m' ρ' _ ha
  refine ⟨fun c => Cert.DwiIdeal.Value.G2 m c, Cert.DwiIdeal.Value.run m ρ, ?_⟩
  refine (θ_run _ _ _).mono (fun r h c => ?_) (Cert.DwiReferenceIdeal.Value.run (F := Ideal) m' ρ')
  obtain ⟨h0, hk⟩ := h c
  obtain ⟨e0, e1⟩ := ha c
  refine ⟨?_, hk⟩
  rw [h0, Cert.DwiReferenceIdeal.Read.val_main_v3_eq, e0, e1]
  exact Cert.DwiIdeal.Prod.same m c

theorem claim : Cert.Claim := ⟨Cert.Kernel.Gen.facts, Cert.KernelIdeal.Gen.facts, Cert.ReferenceIdeal.Gen.facts,
  Cert.Dact.Gen.facts, Cert.DactIdeal.Gen.facts, Cert.DactReferenceIdeal.Gen.facts,
  Cert.Dwd.Gen.facts, Cert.DwdIdeal.Gen.facts, Cert.DwdReferenceIdeal.Gen.facts,
  Cert.Dwg.Gen.facts, Cert.DwgIdeal.Gen.facts, Cert.DwgReferenceIdeal.Gen.facts,
  Cert.Dhg.Gen.facts, Cert.DhgIdeal.Gen.facts, Cert.DhgReferenceIdeal.Gen.facts,
  Cert.Dhu.Gen.facts, Cert.DhuIdeal.Gen.facts, Cert.DhuReferenceIdeal.Gen.facts,
  Cert.Gu.Gen.facts, Cert.GuIdeal.Gen.facts, Cert.GuReferenceIdeal.Gen.facts,
  Cert.Down.Gen.facts, Cert.DownIdeal.Gen.facts, Cert.DownReferenceIdeal.Gen.facts,
  Cert.Swb.Gen.facts, Cert.SwbIdeal.Gen.facts, Cert.SwbReferenceIdeal.Gen.facts,
  Cert.Mgb.Gen.facts, Cert.MgbIdeal.Gen.facts, Cert.MgbReferenceIdeal.Gen.facts,
  Cert.Drms.Gen.facts, Cert.DrmsIdeal.Gen.facts, Cert.DrmsReferenceIdeal.Gen.facts,
  Cert.Fwd.Gen.facts, Cert.FwdIdeal.Gen.facts, Cert.FwdReferenceIdeal.Gen.facts,
  Cert.Inb.Gen.facts, Cert.InbIdeal.Gen.facts, Cert.InbReferenceIdeal.Gen.facts,
  Cert.Bra.Gen.facts, Cert.BraIdeal.Gen.facts, Cert.BraReferenceIdeal.Gen.facts,
  Cert.Brb.Gen.facts, Cert.BrbIdeal.Gen.facts, Cert.BrbReferenceIdeal.Gen.facts,
  Cert.Mix.Gen.facts, Cert.MixIdeal.Gen.facts, Cert.MixReferenceIdeal.Gen.facts,
  Cert.Dmg.Gen.facts, Cert.DmgIdeal.Gen.facts, Cert.DmgReferenceIdeal.Gen.facts,
  Cert.Dab.Gen.facts, Cert.DabIdeal.Gen.facts, Cert.DabReferenceIdeal.Gen.facts,
  Cert.Dmb.Gen.facts, Cert.DmbIdeal.Gen.facts, Cert.DmbReferenceIdeal.Gen.facts,
  Cert.Dhz.Gen.facts, Cert.DhzIdeal.Gen.facts, Cert.DhzReferenceIdeal.Gen.facts,
  Cert.Dhx.Gen.facts, Cert.DhxIdeal.Gen.facts, Cert.DhxReferenceIdeal.Gen.facts,
  Cert.Dha.Gen.facts, Cert.DhaIdeal.Gen.facts, Cert.DhaReferenceIdeal.Gen.facts,
  Cert.Dwo.Gen.facts, Cert.DwoIdeal.Gen.facts, Cert.DwoReferenceIdeal.Gen.facts,
  Cert.Dwa.Gen.facts, Cert.DwaIdeal.Gen.facts, Cert.DwaReferenceIdeal.Gen.facts,
  Cert.Dwb.Gen.facts, Cert.DwbIdeal.Gen.facts, Cert.DwbReferenceIdeal.Gen.facts,
  Cert.Dwz.Gen.facts, Cert.DwzIdeal.Gen.facts, Cert.DwzReferenceIdeal.Gen.facts,
  Cert.Dwx.Gen.facts, Cert.DwxIdeal.Gen.facts, Cert.DwxReferenceIdeal.Gen.facts,
  Cert.Dwi.Gen.facts, Cert.DwiIdeal.Gen.facts, Cert.DwiReferenceIdeal.Gen.facts, Cert.Finite.facts, Cert.SwbIdeal.Grad.facts, facts_fwd,
  fun m ρ _ => Cert.Kernel.Gen.frame m ρ, fun m ρ _ => Cert.KernelIdeal.Gen.frame m ρ, fun m ρ _ => Cert.KernelIdeal.Gen.frame m ρ,
  frame_r, frame_r_finite,
  fun m ρ _ => Cert.Dact.Gen.frame m ρ, fun m ρ _ => Cert.DactIdeal.Gen.frame m ρ, frame_Dact,
  fun m ρ _ => Cert.Dwd.Gen.frame m ρ, fun m ρ _ => Cert.DwdIdeal.Gen.frame m ρ, frame_Dwd,
  fun m ρ _ => Cert.Dwg.Gen.frame m ρ, fun m ρ _ => Cert.DwgIdeal.Gen.frame m ρ, frame_Dwg,
  fun m ρ _ => Cert.Dhg.Gen.frame m ρ, fun m ρ _ => Cert.DhgIdeal.Gen.frame m ρ, frame_Dhg,
  fun m ρ _ => Cert.Dhu.Gen.frame m ρ, fun m ρ _ => Cert.DhuIdeal.Gen.frame m ρ, frame_Dhu,
  fun m ρ _ => Cert.Gu.Gen.frame m ρ, fun m ρ _ => Cert.GuIdeal.Gen.frame m ρ, frame_Gu,
  fun m ρ _ => Cert.Down.Gen.frame m ρ, fun m ρ _ => Cert.DownIdeal.Gen.frame m ρ, frame_Down,
  fun m ρ _ => Cert.Swb.Gen.frame m ρ, fun m ρ _ => Cert.SwbIdeal.Gen.frame m ρ, fun m ρ _ => Cert.SwbIdeal.Gen.frame m ρ, frame_Swb, frame_Swb_finite,
  fun m ρ _ => Cert.Mgb.Gen.frame m ρ, fun m ρ _ => Cert.MgbIdeal.Gen.frame m ρ, frame_Mgb,
  fun m ρ _ => Cert.Drms.Gen.frame m ρ, fun m ρ _ => Cert.DrmsIdeal.Gen.frame m ρ, frame_Drms,
  fun m ρ _ => Cert.Fwd.Gen.frame m ρ, fun m ρ _ => Cert.FwdIdeal.Gen.frame m ρ, fun m ρ _ => Cert.FwdIdeal.Gen.frame m ρ, frame_Fwd, frame_Fwd_finite,
  fun m ρ _ => Cert.Inb.Gen.frame m ρ, fun m ρ _ => Cert.InbIdeal.Gen.frame m ρ, frame_Inb,
  fun m ρ _ => Cert.Bra.Gen.frame m ρ, fun m ρ _ => Cert.BraIdeal.Gen.frame m ρ, frame_Bra,
  fun m ρ _ => Cert.Brb.Gen.frame m ρ, fun m ρ _ => Cert.BrbIdeal.Gen.frame m ρ, frame_Brb,
  fun m ρ _ => Cert.Mix.Gen.frame m ρ, fun m ρ _ => Cert.MixIdeal.Gen.frame m ρ, frame_Mix,
  fun m ρ _ => Cert.Dmg.Gen.frame m ρ, fun m ρ _ => Cert.DmgIdeal.Gen.frame m ρ, frame_Dmg,
  fun m ρ _ => Cert.Dab.Gen.frame m ρ, fun m ρ _ => Cert.DabIdeal.Gen.frame m ρ, frame_Dab,
  fun m ρ _ => Cert.Dmb.Gen.frame m ρ, fun m ρ _ => Cert.DmbIdeal.Gen.frame m ρ, frame_Dmb,
  fun m ρ _ => Cert.Dhz.Gen.frame m ρ, fun m ρ _ => Cert.DhzIdeal.Gen.frame m ρ, frame_Dhz,
  fun m ρ _ => Cert.Dhx.Gen.frame m ρ, fun m ρ _ => Cert.DhxIdeal.Gen.frame m ρ, frame_Dhx,
  fun m ρ _ => Cert.Dha.Gen.frame m ρ, fun m ρ _ => Cert.DhaIdeal.Gen.frame m ρ, frame_Dha,
  fun m ρ _ => Cert.Dwo.Gen.frame m ρ, fun m ρ _ => Cert.DwoIdeal.Gen.frame m ρ, frame_Dwo,
  fun m ρ _ => Cert.Dwa.Gen.frame m ρ, fun m ρ _ => Cert.DwaIdeal.Gen.frame m ρ, frame_Dwa,
  fun m ρ _ => Cert.Dwb.Gen.frame m ρ, fun m ρ _ => Cert.DwbIdeal.Gen.frame m ρ, frame_Dwb,
  fun m ρ _ => Cert.Dwz.Gen.frame m ρ, fun m ρ _ => Cert.DwzIdeal.Gen.frame m ρ, frame_Dwz,
  fun m ρ _ => Cert.Dwx.Gen.frame m ρ, fun m ρ _ => Cert.DwxIdeal.Gen.frame m ρ, frame_Dwx,
  fun m ρ _ => Cert.Dwi.Gen.frame m ρ, fun m ρ _ => Cert.DwiIdeal.Gen.frame m ρ, frame_Dwi,
  trivial, values, trivial, values_Dact, trivial, values_Dwd, trivial, values_Dwg, trivial, values_Dhg, trivial, values_Dhu, trivial, values_Gu, trivial, values_Down, trivial, values_Swb, trivial, values_Mgb, trivial, values_Drms, trivial, values_Fwd, trivial, values_Inb, trivial, values_Bra, trivial, values_Brb, trivial, values_Mix, trivial, values_Dmg, trivial, values_Dab, trivial, values_Dmb, trivial, values_Dhz, trivial, values_Dhx, trivial, values_Dha, trivial, values_Dwo, trivial, values_Dwa, trivial, values_Dwb, trivial, values_Dwz, trivial, values_Dwx, trivial, values_Dwi⟩

end Cert.Proof

end
